-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_diff_finite [hPre_diff_finite : Cert.Pre_diff_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_diff_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_diff_finite [hPre_diff_finite : Cert.Pre_diff_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_diff_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_sample_finite [hPre_sample_finite : Cert.Pre_sample_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_sample_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_sample_finite [hPre_sample_finite : Cert.Pre_sample_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_sample_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_hgrn_finite [hPre_hgrn_finite : Cert.Pre_hgrn_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_hgrn_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_hgrn_finite [hPre_hgrn_finite : Cert.Pre_hgrn_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_hgrn_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_diff_finite [hKernel4Ideal : Cert.Kernel4Ideal.Facts] [hPre_diff_finite : Cert.Pre_diff_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_diff_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_diff_finite [hReference4Ideal : Cert.Reference4Ideal.Facts] [hPre_diff_finite : Cert.Pre_diff_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_diff_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_sample_finite [hKernel5Ideal : Cert.Kernel5Ideal.Facts] [hPre_sample_finite : Cert.Pre_sample_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_sample_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_sample_finite [hReference5Ideal : Cert.Reference5Ideal.Facts] [hPre_sample_finite : Cert.Pre_sample_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_sample_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_hgrn_finite [hKernel7Ideal : Cert.Kernel7Ideal.Facts] [hPre_hgrn_finite : Cert.Pre_hgrn_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_hgrn_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_hgrn_finite [hReference7Ideal : Cert.Reference7Ideal.Facts] [hPre_hgrn_finite : Cert.Pre_hgrn_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_hgrn_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)) (v3 : (c : Dev Cert.Kernel2Ideal.nD) → Buf (Elt Ideal) ((c.tc : Thread Cert.Kernel2Ideal.nD Cert.Kernel2Ideal.τ).loc Cert.Kernel2Ideal.main_v4_3)) (v4 : (c : Dev Cert.Kernel2Ideal.nD) → Buf (Elt Ideal) ((c.tc : Thread Cert.Kernel2Ideal.nD Cert.Kernel2Ideal.τ).loc Cert.Kernel2Ideal.main_v4_4)) (v5 : (c : Dev Cert.Kernel2Ideal.nD) → Buf (Elt Ideal) ((c.tc : Thread Cert.Kernel2Ideal.nD Cert.Kernel2Ideal.τ).loc Cert.Kernel2Ideal.main_v4_5)) (v6 : (c : Dev Cert.Kernel2Ideal.nD) → Buf (Elt Ideal) ((c.tc : Thread Cert.Kernel2Ideal.nD Cert.Kernel2Ideal.τ).loc Cert.Kernel2Ideal.main_v4_6)) (v7 : (c : Dev Cert.Kernel2Ideal.nD) → Buf (Elt Ideal) ((c.tc : Thread Cert.Kernel2Ideal.nD Cert.Kernel2Ideal.τ).loc Cert.Kernel2Ideal.main_v4_7)) (v8 : (c : Dev Cert.Kernel2Ideal.nD) → Buf (Elt Ideal) ((c.tc : Thread Cert.Kernel2Ideal.nD Cert.Kernel2Ideal.τ).loc Cert.Kernel2Ideal.main_v4_8)) (v9 : (c : Dev Cert.Kernel2Ideal.nD) → Buf (Elt Ideal) ((c.tc : Thread Cert.Kernel2Ideal.nD Cert.Kernel2Ideal.τ).loc Cert.Kernel2Ideal.main_v4_9)) (v10 : (c : Dev Cert.Kernel2Ideal.nD) → Buf (Elt Ideal) ((c.tc : Thread Cert.Kernel2Ideal.nD Cert.Kernel2Ideal.τ).loc Cert.Kernel2Ideal.main_v4_10)) (v11 : (c : Dev Cert.Kernel2Ideal.nD) → Buf (Elt Ideal) ((c.tc : Thread Cert.Kernel2Ideal.nD Cert.Kernel2Ideal.τ).loc Cert.Kernel2Ideal.main_v4_11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_v4_3) = v3 c
          ∧ r.2.mem ((c.tc : Thread Cert.Kernel2Ideal.nD Cert.Kernel2Ideal.τ).loc Cert.Kernel2Ideal.main_v4_4) = v4 c
          ∧ r.2.mem ((c.tc : Thread Cert.Kernel2Ideal.nD Cert.Kernel2Ideal.τ).loc Cert.Kernel2Ideal.main_v4_5) = v5 c
          ∧ r.2.mem ((c.tc : Thread Cert.Kernel2Ideal.nD Cert.Kernel2Ideal.τ).loc Cert.Kernel2Ideal.main_v4_6) = v6 c
          ∧ r.2.mem ((c.tc : Thread Cert.Kernel2Ideal.nD Cert.Kernel2Ideal.τ).loc Cert.Kernel2Ideal.main_v4_7) = v7 c
          ∧ r.2.mem ((c.tc : Thread Cert.Kernel2Ideal.nD Cert.Kernel2Ideal.τ).loc Cert.Kernel2Ideal.main_v4_8) = v8 c
          ∧ r.2.mem ((c.tc : Thread Cert.Kernel2Ideal.nD Cert.Kernel2Ideal.τ).loc Cert.Kernel2Ideal.main_v4_9) = v9 c
          ∧ r.2.mem ((c.tc : Thread Cert.Kernel2Ideal.nD Cert.Kernel2Ideal.τ).loc Cert.Kernel2Ideal.main_v4_10) = v10 c
          ∧ r.2.mem ((c.tc : Thread Cert.Kernel2Ideal.nD Cert.Kernel2Ideal.τ).loc Cert.Kernel2Ideal.main_v4_11) = v11 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_v37) = v1 c
          ∧ r.2.mem ((c.tc : Thread Cert.Reference2Ideal.nD Cert.Reference2Ideal.τ).loc Cert.Reference2Ideal.main_v38) = v2 c
          ∧ r.2.mem ((c.tc : Thread Cert.Reference2Ideal.nD Cert.Reference2Ideal.τ).loc Cert.Reference2Ideal.main_v39) = v3 c
          ∧ r.2.mem ((c.tc : Thread Cert.Reference2Ideal.nD Cert.Reference2Ideal.τ).loc Cert.Reference2Ideal.main_v41) = v4 c
          ∧ r.2.mem ((c.tc : Thread Cert.Reference2Ideal.nD Cert.Reference2Ideal.τ).loc Cert.Reference2Ideal.main_v42) = v5 c
          ∧ r.2.mem ((c.tc : Thread Cert.Reference2Ideal.nD Cert.Reference2Ideal.τ).loc Cert.Reference2Ideal.main_v43) = v6 c
          ∧ r.2.mem ((c.tc : Thread Cert.Reference2Ideal.nD Cert.Reference2Ideal.τ).loc Cert.Reference2Ideal.main_v27) = v7 c
          ∧ r.2.mem ((c.tc : Thread Cert.Reference2Ideal.nD Cert.Reference2Ideal.τ).loc Cert.Reference2Ideal.main_v28) = v8 c
          ∧ r.2.mem ((c.tc : Thread Cert.Reference2Ideal.nD Cert.Reference2Ideal.τ).loc Cert.Reference2Ideal.main_v44) = v9 c
          ∧ r.2.mem ((c.tc : Thread Cert.Reference2Ideal.nD Cert.Reference2Ideal.τ).loc Cert.Reference2Ideal.main_v45) = v10 c
          ∧ r.2.mem ((c.tc : Thread Cert.Reference2Ideal.nD Cert.Reference2Ideal.τ).loc Cert.Reference2Ideal.main_v46) = v11 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_diff_finite [hKernel4Ideal : Cert.Kernel4Ideal.Facts] [hReference4Ideal : Cert.Reference4Ideal.Facts] [hPre_diff_finite : Cert.Pre_diff_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_diff_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v51)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v51) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v94) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_sample_finite [hKernel5Ideal : Cert.Kernel5Ideal.Facts] [hReference5Ideal : Cert.Reference5Ideal.Facts] [hPre_sample_finite : Cert.Pre_sample_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_sample_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v22_0)) (v1 : (c : Dev Cert.Kernel5Ideal.nD) → Buf (Elt Ideal) ((c.tc : Thread Cert.Kernel5Ideal.nD Cert.Kernel5Ideal.τ).loc Cert.Kernel5Ideal.main_v22_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22_0) = v0 c
          ∧ r.2.mem ((c.tc : Thread Cert.Kernel5Ideal.nD Cert.Kernel5Ideal.τ).loc Cert.Kernel5Ideal.main_v22_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v67) = v0 c
          ∧ r.2.mem ((c.tc : Thread Cert.Reference5Ideal.nD Cert.Reference5Ideal.τ).loc Cert.Reference5Ideal.main_v80) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)) (v3 : (c : Dev Cert.Kernel6Ideal.nD) → Buf (Elt Ideal) ((c.tc : Thread Cert.Kernel6Ideal.nD Cert.Kernel6Ideal.τ).loc Cert.Kernel6Ideal.main_v4_3)) (v4 : (c : Dev Cert.Kernel6Ideal.nD) → Buf (Elt Ideal) ((c.tc : Thread Cert.Kernel6Ideal.nD Cert.Kernel6Ideal.τ).loc Cert.Kernel6Ideal.main_v4_4)) (v5 : (c : Dev Cert.Kernel6Ideal.nD) → Buf (Elt Ideal) ((c.tc : Thread Cert.Kernel6Ideal.nD Cert.Kernel6Ideal.τ).loc Cert.Kernel6Ideal.main_v4_5)) (v6 : (c : Dev Cert.Kernel6Ideal.nD) → Buf (Elt Ideal) ((c.tc : Thread Cert.Kernel6Ideal.nD Cert.Kernel6Ideal.τ).loc Cert.Kernel6Ideal.main_v4_6)) (v7 : (c : Dev Cert.Kernel6Ideal.nD) → Buf (Elt Ideal) ((c.tc : Thread Cert.Kernel6Ideal.nD Cert.Kernel6Ideal.τ).loc Cert.Kernel6Ideal.main_v4_7)) (v8 : (c : Dev Cert.Kernel6Ideal.nD) → Buf (Elt Ideal) ((c.tc : Thread Cert.Kernel6Ideal.nD Cert.Kernel6Ideal.τ).loc Cert.Kernel6Ideal.main_v4_8)) (v9 : (c : Dev Cert.Kernel6Ideal.nD) → Buf (Elt Ideal) ((c.tc : Thread Cert.Kernel6Ideal.nD Cert.Kernel6Ideal.τ).loc Cert.Kernel6Ideal.main_v4_9)) (v10 : (c : Dev Cert.Kernel6Ideal.nD) → Buf (Elt Ideal) ((c.tc : Thread Cert.Kernel6Ideal.nD Cert.Kernel6Ideal.τ).loc Cert.Kernel6Ideal.main_v4_10)) (v11 : (c : Dev Cert.Kernel6Ideal.nD) → Buf (Elt Ideal) ((c.tc : Thread Cert.Kernel6Ideal.nD Cert.Kernel6Ideal.τ).loc Cert.Kernel6Ideal.main_v4_11)) (v12 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_v4_3) = v3 c
          ∧ r.2.mem ((c.tc : Thread Cert.Kernel6Ideal.nD Cert.Kernel6Ideal.τ).loc Cert.Kernel6Ideal.main_v4_4) = v4 c
          ∧ r.2.mem ((c.tc : Thread Cert.Kernel6Ideal.nD Cert.Kernel6Ideal.τ).loc Cert.Kernel6Ideal.main_v4_5) = v5 c
          ∧ r.2.mem ((c.tc : Thread Cert.Kernel6Ideal.nD Cert.Kernel6Ideal.τ).loc Cert.Kernel6Ideal.main_v4_6) = v6 c
          ∧ r.2.mem ((c.tc : Thread Cert.Kernel6Ideal.nD Cert.Kernel6Ideal.τ).loc Cert.Kernel6Ideal.main_v4_7) = v7 c
          ∧ r.2.mem ((c.tc : Thread Cert.Kernel6Ideal.nD Cert.Kernel6Ideal.τ).loc Cert.Kernel6Ideal.main_v4_8) = v8 c
          ∧ r.2.mem ((c.tc : Thread Cert.Kernel6Ideal.nD Cert.Kernel6Ideal.τ).loc Cert.Kernel6Ideal.main_v4_9) = v9 c
          ∧ r.2.mem ((c.tc : Thread Cert.Kernel6Ideal.nD Cert.Kernel6Ideal.τ).loc Cert.Kernel6Ideal.main_v4_10) = v10 c
          ∧ r.2.mem ((c.tc : Thread Cert.Kernel6Ideal.nD Cert.Kernel6Ideal.τ).loc Cert.Kernel6Ideal.main_v4_11) = v11 c
          ∧ r.2.mem ((c.tc : Thread Cert.Kernel6Ideal.nD Cert.Kernel6Ideal.τ).loc Cert.Kernel6Ideal.main_v7) = v12 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_v37) = v1 c
          ∧ r.2.mem ((c.tc : Thread Cert.Reference6Ideal.nD Cert.Reference6Ideal.τ).loc Cert.Reference6Ideal.main_v38) = v2 c
          ∧ r.2.mem ((c.tc : Thread Cert.Reference6Ideal.nD Cert.Reference6Ideal.τ).loc Cert.Reference6Ideal.main_v39) = v3 c
          ∧ r.2.mem ((c.tc : Thread Cert.Reference6Ideal.nD Cert.Reference6Ideal.τ).loc Cert.Reference6Ideal.main_v41) = v4 c
          ∧ r.2.mem ((c.tc : Thread Cert.Reference6Ideal.nD Cert.Reference6Ideal.τ).loc Cert.Reference6Ideal.main_v42) = v5 c
          ∧ r.2.mem ((c.tc : Thread Cert.Reference6Ideal.nD Cert.Reference6Ideal.τ).loc Cert.Reference6Ideal.main_v43) = v6 c
          ∧ r.2.mem ((c.tc : Thread Cert.Reference6Ideal.nD Cert.Reference6Ideal.τ).loc Cert.Reference6Ideal.main_v27) = v7 c
          ∧ r.2.mem ((c.tc : Thread Cert.Reference6Ideal.nD Cert.Reference6Ideal.τ).loc Cert.Reference6Ideal.main_v28) = v8 c
          ∧ r.2.mem ((c.tc : Thread Cert.Reference6Ideal.nD Cert.Reference6Ideal.τ).loc Cert.Reference6Ideal.main_v44) = v9 c
          ∧ r.2.mem ((c.tc : Thread Cert.Reference6Ideal.nD Cert.Reference6Ideal.τ).loc Cert.Reference6Ideal.main_v45) = v10 c
          ∧ r.2.mem ((c.tc : Thread Cert.Reference6Ideal.nD Cert.Reference6Ideal.τ).loc Cert.Reference6Ideal.main_v46) = v11 c
          ∧ r.2.mem ((c.tc : Thread Cert.Reference6Ideal.nD Cert.Reference6Ideal.τ).loc Cert.Reference6Ideal.main_v55) = v12 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_hgrn_finite [hKernel7Ideal : Cert.Kernel7Ideal.Facts] [hReference7Ideal : Cert.Reference7Ideal.Facts] [hPre_hgrn_finite : Cert.Pre_hgrn_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_hgrn_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v11_0)) (v1 : (c : Dev Cert.Kernel7Ideal.nD) → Buf (Elt Ideal) ((c.tc : Thread Cert.Kernel7Ideal.nD Cert.Kernel7Ideal.τ).loc Cert.Kernel7Ideal.main_v11_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11_0) = v0 c
          ∧ r.2.mem ((c.tc : Thread Cert.Kernel7Ideal.nD Cert.Kernel7Ideal.τ).loc Cert.Kernel7Ideal.main_v11_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v84) = v0 c
          ∧ r.2.mem ((c.tc : Thread Cert.Reference7Ideal.nD Cert.Reference7Ideal.τ).loc Cert.Reference7Ideal.main_v65) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_router_finite : Cert.Pre_router_finite.Facts) (hPre_diff_finite : Cert.Pre_diff_finite.Facts) (hPre_sample_finite : Cert.Pre_sample_finite.Facts) (hPre_hgrn_finite : Cert.Pre_hgrn_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_diff_finite (hKernel4Ideal := hKernel4Ideal) (hPre_diff_finite := hPre_diff_finite)
    ∧ quiescent_Reference4Ideal (hReference4Ideal := hReference4Ideal)
    ∧ quiescent_Reference4Ideal_pre_diff_finite (hReference4Ideal := hReference4Ideal) (hPre_diff_finite := hPre_diff_finite)
    ∧ quiescent_Kernel5 (hKernel5 := hKernel5)
    ∧ quiescent_Kernel5Ideal (hKernel5Ideal := hKernel5Ideal)
    ∧ quiescent_Kernel5Ideal_pre_sample_finite (hKernel5Ideal := hKernel5Ideal) (hPre_sample_finite := hPre_sample_finite)
    ∧ quiescent_Reference5Ideal (hReference5Ideal := hReference5Ideal)
    ∧ quiescent_Reference5Ideal_pre_sample_finite (hReference5Ideal := hReference5Ideal) (hPre_sample_finite := hPre_sample_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_hgrn_finite (hKernel7Ideal := hKernel7Ideal) (hPre_hgrn_finite := hPre_hgrn_finite)
    ∧ quiescent_Reference7Ideal (hReference7Ideal := hReference7Ideal)
    ∧ quiescent_Reference7Ideal_pre_hgrn_finite (hReference7Ideal := hReference7Ideal) (hPre_hgrn_finite := hPre_hgrn_finite)
    ∧ preserves_Kernel_KernelIdeal
    ∧ algebraic_KernelIdeal_ReferenceIdeal_pre_router_finite (hKernelIdeal := hKernelIdeal) (hReferenceIdeal := hReferenceIdeal) (hPre_router_finite := hPre_router_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_diff_finite (hKernel4Ideal := hKernel4Ideal) (hReference4Ideal := hReference4Ideal) (hPre_diff_finite := hPre_diff_finite)
    ∧ preserves_Kernel5_Kernel5Ideal
    ∧ algebraic_Kernel5Ideal_Reference5Ideal_pre_sample_finite (hKernel5Ideal := hKernel5Ideal) (hReference5Ideal := hReference5Ideal) (hPre_sample_finite := hPre_sample_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_hgrn_finite (hKernel7Ideal := hKernel7Ideal) (hReference7Ideal := hReference7Ideal) (hPre_hgrn_finite := hPre_hgrn_finite)
-- ==== Pre_diff_finite.lean ====
abbrev S1 : Shape := ⟨1, ![1]⟩
abbrev S16384x512 : Shape := ⟨2, ![16384, 512]⟩
abbrev S32x12 : Shape := ⟨2, ![32, 12]⟩
abbrev S128 : Shape := ⟨1, ![128]⟩
abbrev S_ : Shape := ⟨0, ![]⟩
abbrev S32x4 : Shape := ⟨2, ![32, 4]⟩

class Facts : Prop where
  bcast_S_S1 : S_.BroadcastsInDim S1 (![] : Fin 0 → Fin S1.rank)
  reducesTo_S1_S_d0 : S1.ReducesTo [0] S_
  h_S_ : 0 < S_.numel
  bcast_S_S16384x512 : S_.BroadcastsInDim S16384x512 (![] : Fin 0 → Fin S16384x512.rank)
  reducesTo_S16384x512_S_d0_1 : S16384x512.ReducesTo [0, 1] S_
  slices_S32x12_S32x4_0_8 : S32x12.Slices ![0, 8] S32x4
  bcast_S_S32x4 : S_.BroadcastsInDim S32x4 (![] : Fin 0 → Fin S32x4.rank)
  reducesTo_S32x4_S_d0_1 : S32x4.ReducesTo [0, 1] S_

variable [Facts]

def fn_part1 {F : FTy → Type} [FloatOps F] (main_arg4 : FVec F S32x12 .f32) (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  let main_v19 : FVec F S32x4 .f32 := (extractStridedSlice S32x4 ![0, 8] · slices_S32x12_S32x4_0_8) main_arg4
  let main_v20 : FVec F S32x4 .f32 := Host.absf main_v19
  let main_cst_6 : FVec F S_ .f32 := constant S_ .f32 0x7F800000#32
  let main_v21 : FVec F S32x4 .f32 := broadcastInDim S32x4 ![] bcast_S_S32x4 main_cst_6
  let main_v22 : IVec S32x4 1 := cmpf .olt main_v20 main_v21
  let main_c_7 : IVec S_ 1 := constantI S_ 1 1#1
  let main_v23 : IVec S_ 1 := (fun x v => Host.reduce IntOp.andi x v reducesTo_S32x4_S_d0_1 h_S_) main_v22 main_c_7
  let main_v24 : IVec S_ 1 := andi main_v18 main_v23
  main_v24

def fn {F : FTy → Type} [FloatOps F] (main_arg0 : FVec F S1 .f32) (main_arg1 : FVec F S16384x512 .bf16) (main_arg2 : FVec F S16384x512 .bf16) (main_arg3 : FVec F S16384x512 .bf16) (main_arg4 : FVec F S32x12 .f32) (main_arg5 : FVec F S128 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S16384x512 .bf16 := Host.absf main_arg1
  let main_cst_0 : FVec F S_ .bf16 := constant S_ .bf16 0x7F80#16
  let main_v5 : FVec F S16384x512 .bf16 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .bf16 := Host.absf main_arg2
  let main_cst_2 : FVec F S_ .bf16 := constant S_ .bf16 0x7F80#16
  let main_v10 : FVec F S16384x512 .bf16 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x512 .bf16 := Host.absf main_arg3
  let main_cst_4 : FVec F S_ .bf16 := constant S_ .bf16 0x7F80#16
  let main_v15 : FVec F S16384x512 .bf16 := broadcastInDim S16384x512 ![] bcast_S_S16384x512 main_cst_4
  let main_v16 : IVec S16384x512 1 := cmpf .olt main_v14 main_v15
  fn_part1 (F := F) main_arg4 main_v13 main_v16
-- ==== Pre_hgrn_finite.lean ====
abbrev S32x2048 : Shape := ⟨2, ![32, 2048]⟩
abbrev S32x4x128x128 : Shape := ⟨4, ![32, 4, 128, 128]⟩
abbrev S512 : Shape := ⟨1, ![512]⟩
abbrev S128 : Shape := ⟨1, ![128]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel
  bcast_S_S32x4x128x128 : S_.BroadcastsInDim S32x4x128x128 (![] : Fin 0 → Fin S32x4x128x128.rank)
  reducesTo_S32x4x128x128_S_d0_1_2_3 : S32x4x128x128.ReducesTo [0, 1, 2, 3] S_
  bcast_S_S512 : S_.BroadcastsInDim S512 (![] : Fin 0 → Fin S512.rank)
  reducesTo_S512_S_d0 : S512.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S32x2048 .f32) (main_arg1 : FVec F S32x4x128x128 .f32) (main_arg2 : FVec F S512 .f32) (main_arg3 : FVec F S128 .f32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S32x4x128x128 .f32 := Host.absf main_arg1
  let main_cst_0 : FVec F S_ .f32 := constant S_ .f32 0x7F800000#32
  let main_v5 : FVec F S32x4x128x128 .f32 := broadcastInDim S32x4x128x128 ![] bcast_S_S32x4x128x128 main_cst_0
  let main_v6 : IVec S32x4x128x128 1 := cmpf .olt main_v4 main_v5
  let main_c_1 : IVec S_ 1 := constantI S_ 1 1#1
  let main_v7 : IVec S_ 1 := (fun x v => Host.reduce IntOp.andi x v reducesTo_S32x4x128x128_S_d0_1_2_3 h_S_) main_v6 main_c_1
  let main_v8 : IVec S_ 1 := andi main_v3 main_v7
  let main_cst_2 : FVec F S_ .f32 := constant S_ .f32 0x00000000#32
  let main_v9 : FVec F S512 .f32 := broadcastInDim S512 ![] bcast_S_S512 main_cst_2
  let main_v10 : IVec S512 1 := cmpf .oge main_arg2 main_v9
  let main_c_3 : IVec S_ 1 := constantI S_ 1 1#1
  let main_v11 : IVec S_ 1 := (fun x v => Host.reduce IntOp.andi x v reducesTo_S512_S_d0 h_S_) main_v10 main_c_3
  let main_v12 : IVec S_ 1 := andi main_v8 main_v11
  let main_cst_4 : FVec F S_ .f32 := constant S_ .f32 0x3F800000#32
  let main_v13 : FVec F S512 .f32 := broadcastInDim S512 ![] bcast_S_S512 main_cst_4
  let main_v14 : IVec S512 1 := cmpf .olt main_arg2 main_v13
  let main_c_5 : IVec S_ 1 := constantI S_ 1 1#1
  let main_v15 : IVec S_ 1 := (fun x v => Host.reduce IntOp.andi x v reducesTo_S512_S_d0 h_S_) main_v14 main_c_5
  fn_part1 (F := F) main_v12 main_v15
-- ==== Pre_router_finite.lean ====
abbrev S16384x1024 : Shape := ⟨2, ![16384, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S1024x16 .f32) (main_arg5 : FVec F S16 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S1024x16 .f32 := Host.absf main_arg4
  let main_cst_6 : FVec F S_ .f32 := constant S_ .f32 0x7F800000#32
  let main_v20 : FVec F S1024x16 .f32 := broadcastInDim S1024x16 ![] bcast_S_S1024x16 main_cst_6
  let main_v21 : IVec S1024x16 1 := cmpf .olt main_v19 main_v20
  let main_c_7 : IVec S_ 1 := constantI S_ 1 1#1
  let main_v22 : IVec S_ 1 := (fun x v => Host.reduce IntOp.andi x v reducesTo_S1024x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S16384x1024 .f32) (main_arg1 : FVec F S1024 .f32) (main_arg2 : FVec F S1024x4 .f32) (main_arg3 : FVec F S4 .f32) (main_arg4 : FVec F S1024x16 .f32) (main_arg5 : FVec F S16 .f32) (main_arg6 : FVec F S16x1024x256 .f32) (main_arg7 : FVec F S16x1024x256 .f32) (main_arg8 : FVec F S16x256x1024 .f32) (main_arg9 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4 .f32 := Host.absf main_arg2
  let main_cst_2 : FVec F S_ .f32 := constant S_ .f32 0x7F800000#32
  let main_v10 : FVec F S1024x4 .f32 := broadcastInDim S1024x4 ![] bcast_S_S1024x4 main_cst_2
  let main_v11 : IVec S1024x4 1 := cmpf .olt main_v9 main_v10
  let main_c_3 : IVec S_ 1 := constantI S_ 1 1#1
  let main_v12 : IVec S_ 1 := (fun x v => Host.reduce IntOp.andi x v reducesTo_S1024x4_S_d0_1 h_S_) main_v11 main_c_3
  let main_v13 : IVec S_ 1 := andi main_v8 main_v12
  let main_v14 : FVec F S4 .f32 := Host.absf main_arg3
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg4 main_arg5 main_v13 main_v16
-- ==== Pre_sample_finite.lean ====
abbrev S32x1024 : Shape := ⟨2, ![32, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S1024x16 .f32) (main_arg5 : FVec F S16 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S1024x16 .f32 := Host.absf main_arg4
  let main_cst_6 : FVec F S_ .f32 := constant S_ .f32 0x7F800000#32
  let main_v20 : FVec F S1024x16 .f32 := broadcastInDim S1024x16 ![] bcast_S_S1024x16 main_cst_6
  let main_v21 : IVec S1024x16 1 := cmpf .olt main_v19 main_v20
  let main_c_7 : IVec S_ 1 := constantI S_ 1 1#1
  let main_v22 : IVec S_ 1 := (fun x v => Host.reduce IntOp.andi x v reducesTo_S1024x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S32x1024 .f32) (main_arg1 : FVec F S1024 .f32) (main_arg2 : FVec F S1024x4 .f32) (main_arg3 : FVec F S4 .f32) (main_arg4 : FVec F S1024x16 .f32) (main_arg5 : FVec F S16 .f32) (main_arg6 : FVec F S16x1024x256 .f32) (main_arg7 : FVec F S16x1024x256 .f32) (main_arg8 : FVec F S16x256x1024 .f32) (main_arg9 : FVec F S1024 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4 .f32 := Host.absf main_arg2
  let main_cst_2 : FVec F S_ .f32 := constant S_ .f32 0x7F800000#32
  let main_v10 : FVec F S1024x4 .f32 := broadcastInDim S1024x4 ![] bcast_S_S1024x4 main_cst_2
  let main_v11 : IVec S1024x4 1 := cmpf .olt main_v9 main_v10
  let main_c_3 : IVec S_ 1 := constantI S_ 1 1#1
  let main_v12 : IVec S_ 1 := (fun x v => Host.reduce IntOp.andi x v reducesTo_S1024x4_S_d0_1 h_S_) main_v11 main_c_3
  let main_v13 : IVec S_ 1 := andi main_v8 main_v12
  let main_v14 : FVec F S4 .f32 := Host.absf main_arg3
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg4 main_arg5 main_v13 main_v16
-- ==== Kernel.lean ====
abbrev S16384x1024 : Shape := ⟨2, ![16384, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S_ : Shape := ⟨0, ![]⟩
abbrev S1024x108 : Shape := ⟨2, ![1024, 108]⟩
abbrev S1024x128 : Shape := ⟨2, ![1024, 128]⟩
abbrev S1x1024x128 : Shape := ⟨3, ![1, 1024, 128]⟩
abbrev S2x1024x128 : Shape := ⟨3, ![2, 1024, 128]⟩
abbrev S108 : Shape := ⟨1, ![108]⟩
abbrev S128 : Shape := ⟨1, ![128]⟩
abbrev S1x128 : Shape := ⟨2, ![1, 128]⟩
abbrev S1024x16x256 : Shape := ⟨3, ![1024, 16, 256]⟩
abbrev S1024x4096 : Shape := ⟨2, ![1024, 4096]⟩
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S1024x1024 : Shape := ⟨2, ![1024, 1024]⟩
abbrev S256x256 : Shape := ⟨2, ![256, 256]⟩

abbrev nBuf : Space → Nat
  | .hbm => 36
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4, .f32⟩
  | .hbm, ⟨3, _⟩ => ⟨S4, .f32⟩
  | .hbm, ⟨4, _⟩ => ⟨S1024x16, .f32⟩
  | .hbm, ⟨5, _⟩ => ⟨S16, .f32⟩
  | .hbm, ⟨6, _⟩ => ⟨S16x1024x256, .f32⟩
  | .hbm, ⟨7, _⟩ => ⟨S16x1024x256, .f32⟩
  | .hbm, ⟨8, _⟩ => ⟨S16x256x1024, .f32⟩
  | .hbm, ⟨9, _⟩ => ⟨S1024, .f32⟩
  | .hbm, ⟨10, _⟩ => ⟨S_, .f32⟩
  | .hbm, ⟨11, _⟩ => ⟨S1024x108, .f32⟩
  | .hbm, ⟨12, _⟩ => ⟨S1024x128, .f32⟩
  | .hbm, ⟨13, _⟩ => ⟨S1024x128, .bf16⟩
  | .hbm, ⟨14, _⟩ => ⟨S1024x128, .f32⟩
  | .hbm, ⟨15, _⟩ => ⟨S1024x128, .f32⟩
  | .hbm, ⟨16, _⟩ => ⟨S1024x128, .bf16⟩
  | .hbm, ⟨17, _⟩ => ⟨S1x1024x128, .bf16⟩
  | .hbm, ⟨18, _⟩ => ⟨S1x1024x128, .bf16⟩
  | .hbm, ⟨19, _⟩ => ⟨S2x1024x128, .bf16⟩
  | .hbm, ⟨20, _⟩ => ⟨S_, .f32⟩
  | .hbm, ⟨21, _⟩ => ⟨S108, .f32⟩
  | .hbm, ⟨22, _⟩ => ⟨S128, .f32⟩
  | .hbm, ⟨23, _⟩ => ⟨S1x128, .f32⟩
  | .hbm, ⟨24, _⟩ => ⟨S1024x16x256, .f32⟩
  | .hbm, ⟨25, _⟩ => ⟨S1024x4096, .f32⟩
  | .hbm, ⟨26, _⟩ => ⟨S1024x4096, .bf16⟩
  | .hbm, ⟨27, _⟩ => ⟨S1024x16x256, .f32⟩
  | .hbm, ⟨28, _⟩ => ⟨S1024x4096, .f32⟩
  | .hbm, ⟨29, _⟩ => ⟨S1024x4096, .bf16⟩
  | .hbm, ⟨30, _⟩ => ⟨S4096x1024, .f32⟩
  | .hbm, ⟨31, _⟩ => ⟨S4096x1024, .bf16⟩
  | .hbm, ⟨32, _⟩ => ⟨S1x1024, .f32⟩
  | .hbm, ⟨33, _⟩ => ⟨S1x1024, .f32⟩
  | .hbm, ⟨34, _⟩ => ⟨S16384x1024, .f32⟩
  | .hbm, ⟨35, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2x1024x128, .bf16⟩
  | .local _ .vmem, ⟨4, _⟩ => ⟨S1x128, .f32⟩
  | .local _ .vmem, ⟨5, _⟩ => ⟨S1024x4096, .bf16⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16384x1024 : Shape := ⟨2, ![16384, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4 : Shape := ⟨2, ![16384, 4]⟩
abbrev S1x4 : Shape := ⟨2, ![1, 4]⟩
abbrev S16384x1x1 : Shape := ⟨3, ![16384, 1, 1]⟩
abbrev S1 : Shape := ⟨1, ![1]⟩
abbrev S1x1x1 : Shape := ⟨3, ![1, 1, 1]⟩
abbrev S16384x16 : Shape := ⟨2, ![16384, 16]⟩
abbrev S1x16 : Shape := ⟨2, ![1, 16]⟩
abbrev S16384x4x4 : Shape := ⟨3, ![16384, 4, 4]⟩
abbrev S16384x1x4 : Shape := ⟨3, ![16384, 1, 4]⟩
abbrev S16384x2 : Shape := ⟨2, ![16384, 2]⟩
abbrev S16384x2x1 : Shape := ⟨3, ![16384, 2, 1]⟩
abbrev S1x1x16 : Shape := ⟨3, ![1, 1, 16]⟩
abbrev S16384x2x16 : Shape := ⟨3, ![16384, 2, 16]⟩
abbrev S16384x16x256 : Shape := ⟨3, ![16384, 16, 256]⟩
abbrev S16384x16x1 : Shape := ⟨3, ![16384, 16, 1]⟩

abbrev nBuf : Space → Nat
  | .hbm => 164
  | .vmem => 0
  | .smem => 0
  | _ => 0

abbrev hbmTy0_0 (i : Nat) : BufTy := match i % 128 with
  | 0 => ⟨S16384x1024, .f32⟩
  | 1 => ⟨S1024, .f32⟩
  | 2 => ⟨S1024x4, .f32⟩
  | 3 => ⟨S4, .f32⟩
  | 4 => ⟨S1024x16, .f32⟩
  | 5 => ⟨S16, .f32⟩
  | 6 => ⟨S16x1024x256, .f32⟩
  | 7 => ⟨S16x1024x256, .f32⟩
  | 8 => ⟨S16x256x1024, .f32⟩
  | 9 => ⟨S1024, .f32⟩
  | 10 => ⟨S16384x1024, .f32⟩
  | 11 => ⟨S_, .f32⟩
  | 12 => ⟨S16384, .f32⟩
  | 13 => ⟨S16384x1, .f32⟩
  | 14 => ⟨S_, .f32⟩
  | 15 => ⟨S16384x1, .f32⟩
  | 16 => ⟨S16384x1, .f32⟩
  | 17 => ⟨S_, .f32⟩
  | 18 => ⟨S16384x1, .f32⟩
  | 19 => ⟨S16384x1, .f32⟩
  | 20 => ⟨S16384x1, .f32⟩
  | 21 => ⟨S16384x1024, .f32⟩
  | 22 => ⟨S16384x1024, .f32⟩
  | 23 => ⟨S1x1024, .f32⟩
  | 24 => ⟨S16384x1024, .f32⟩
  | 25 => ⟨S16384x1024, .f32⟩
  | 26 => ⟨S16384x4, .f32⟩
  | 27 => ⟨S1x4, .f32⟩
  | 28 => ⟨S16384x4, .f32⟩
  | 29 => ⟨S16384x4, .f32⟩
  | 30 => ⟨S_, .f32⟩
  | 31 => ⟨S16384, .f32⟩
  | 32 => ⟨S_, .f32⟩
  | 33 => ⟨S16384, .f32⟩
  | 34 => ⟨S16384, .f32⟩
  | 35 => ⟨S16384x1, .f32⟩
  | 36 => ⟨S16384x4, .f32⟩
  | 37 => ⟨S16384x4, .f32⟩
  | 38 => ⟨S16384x4, .f32⟩
  | 39 => ⟨S_, .f32⟩
  | 40 => ⟨S16384, .f32⟩
  | 41 => ⟨S16384x1, .f32⟩
  | 42 => ⟨S16384x4, .f32⟩
  | 43 => ⟨S16384x4, .f32⟩
  | 44 => ⟨S16384x1, .f32⟩
  | 45 => ⟨S16384x1, .i32⟩
  | 46 => ⟨S_, .i32⟩
  | 47 => ⟨S16384x1, .i32⟩
  | 48 => ⟨S16384x1, .i1⟩
  | 49 => ⟨S_, .i32⟩
  | 50 => ⟨S16384x1, .i32⟩
  | 51 => ⟨S16384x1, .i32⟩
  | 52 => ⟨S16384x1, .i32⟩
  | 53 => ⟨S16384x1x1, .i32⟩
  | 54 => ⟨S1, .i32⟩
  | 55 => ⟨S_, .i32⟩
  | 56 => ⟨S16384x1x1, .i32⟩
  | 57 => ⟨S16384x1x1, .i1⟩
  | 58 => ⟨S1x1x1, .i32⟩
  | 59 => ⟨S16384x1x1, .i32⟩
  | 60 => ⟨S16384x1x1, .i1⟩
  | 61 => ⟨S16384x1x1, .i1⟩
  | 62 => ⟨S_, .i1⟩
  | 63 => ⟨S16384x1, .i1⟩
  | 64 => ⟨S16384x1, .f32⟩
  | 65 => ⟨S_, .f32⟩
  | 66 => ⟨S16384x1, .f32⟩
  | 67 => ⟨S16384x1, .f32⟩
  | 68 => ⟨S16384x16, .f32⟩
  | 69 => ⟨S1x16, .f32⟩
  | 70 => ⟨S16384x16, .f32⟩
  | 71 => ⟨S16384x16, .f32⟩
  | 72 => ⟨S16384x4x4, .f32⟩
  | 73 => ⟨S16384x1x1, .i32⟩
  | 74 => ⟨S_, .i32⟩
  | 75 => ⟨S16384x1x1, .i32⟩
  | 76 => ⟨S16384x1x1, .i1⟩
  | 77 => ⟨S_, .i32⟩
  | 78 => ⟨S16384x1x1, .i32⟩
  | 79 => ⟨S16384x1x1, .i32⟩
  | 80 => ⟨S16384x1x1, .i32⟩
  | 81 => ⟨S1, .i32⟩
  | 82 => ⟨S_, .i32⟩
  | 83 => ⟨S16384x1x1, .i32⟩
  | 84 => ⟨S16384x1x1, .i1⟩
  | 85 => ⟨S1x1x1, .i32⟩
  | 86 => ⟨S16384x1x1, .i32⟩
  | 87 => ⟨S16384x1x1, .i1⟩
  | 88 => ⟨S16384x1x1, .i1⟩
  | 89 => ⟨S_, .i1⟩
  | 90 => ⟨S16384x1, .i1⟩
  | 91 => ⟨S16384x1x4, .f32⟩
  | 92 => ⟨S16384x1x4, .i1⟩
  | 93 => ⟨S_, .f32⟩
  | 94 => ⟨S16384x1x4, .f32⟩
  | 95 => ⟨S16384x1x4, .f32⟩
  | 96 => ⟨S16384x4, .f32⟩
  | 97 => ⟨S16384x2, .f32⟩
  | 98 => ⟨S16384x2, .i32⟩
  | 99 => ⟨S_, .f32⟩
  | 100 => ⟨S16384, .f32⟩
  | 101 => ⟨S_, .f32⟩
  | 102 => ⟨S16384, .f32⟩
  | 103 => ⟨S16384, .f32⟩
  | 104 => ⟨S16384x1, .f32⟩
  | 105 => ⟨S16384x2, .f32⟩
  | 106 => ⟨S16384x2, .f32⟩
  | 107 => ⟨S16384x2, .f32⟩
  | 108 => ⟨S_, .f32⟩
  | 109 => ⟨S16384, .f32⟩
  | 110 => ⟨S16384x1, .f32⟩
  | 111 => ⟨S16384x2, .f32⟩
  | 112 => ⟨S16384x2, .f32⟩
  | 113 => ⟨S16384x2, .f32⟩
  | 114 => ⟨S16384x2, .f32⟩
  | 115 => ⟨S_, .i32⟩
  | 116 => ⟨S16384x1, .i32⟩
  | 117 => ⟨S16384x1, .i32⟩
  | 118 => ⟨S16384x2, .i32⟩
  | 119 => ⟨S16384x2, .i32⟩
  | 120 => ⟨S16384x2x1, .i32⟩
  | 121 => ⟨S1x1x16, .i32⟩
  | 122 => ⟨S16384x2x16, .i32⟩
  | 123 => ⟨S16384x2x16, .i32⟩
  | 124 => ⟨S16384x2x16, .i1⟩
  | 125 => ⟨S16384x2x16, .f32⟩
  | 126 => ⟨S16384x2x1, .f32⟩
  | 127 => ⟨S16384x2x16, .f32⟩
  | _ => ⟨S16384x1024, .f32⟩

abbrev hbmTy0_1 (i : Nat) : BufTy := match i % 128 with
  | 0 => ⟨S16384x2x16, .f32⟩
  | 1 => ⟨S_, .f32⟩
  | 2 => ⟨S16384x16, .f32⟩
  | 3 => ⟨S16384x16x256, .f32⟩
  | 4 => ⟨S16384x16x256, .f32⟩
  | 5 => ⟨S16384x16x256, .f32⟩
  | 6 => ⟨S16384x16x256, .f32⟩
  | 7 => ⟨S_, .f32⟩
  | 8 => ⟨S16384x16x256, .f32⟩
  | 9 => ⟨S16384x16x256, .f32⟩
  | 10 => ⟨S_, .f32⟩
  | 11 => ⟨S16384x16x256, .f32⟩
  | 12 => ⟨S16384x16x256, .f32⟩
  | 13 => ⟨S16384x16x256, .f32⟩
  | 14 => ⟨S16384x16x256, .f32⟩
  | 15 => ⟨S16384x16x1, .f32⟩
  | 16 => ⟨S16384x16x256, .f32⟩
  | 17 => ⟨S16384x16x256, .f32⟩
  | 18 => ⟨S16384x1024, .f32⟩
  | 19 => ⟨S16384x1024, .f32⟩
  | 20 => ⟨S16384x1024, .f32⟩
  | 21 => ⟨S_, .f32⟩
  | 22 => ⟨S16384, .f32⟩
  | 23 => ⟨S16384x1, .f32⟩
  | 24 => ⟨S_, .f32⟩
  | 25 => ⟨S16384x1, .f32⟩
  | 26 => ⟨S16384x1, .f32⟩
  | 27 => ⟨S_, .f32⟩
  | 28 => ⟨S16384x1, .f32⟩
  | 29 => ⟨S16384x1, .f32⟩
  | 30 => ⟨S16384x1, .f32⟩
  | 31 => ⟨S16384x1024, .f32⟩
  | 32 => ⟨S16384x1024, .f32⟩
  | 33 => ⟨S1x1024, .f32⟩
  | 34 => ⟨S16384x1024, .f32⟩
  | 35 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_values : Ref sig .tc := ⟨.hbm, 44, rfl⟩
abbrev main_indices : Ref sig .tc := ⟨.hbm, 45, rfl⟩
abbrev main_call0_c : Ref sig .tc := ⟨.hbm, 46, rfl⟩
abbrev main_call0_v0 : Ref sig .tc := ⟨.hbm, 47, rfl⟩
abbrev main_call0_v1 : Ref sig .tc := ⟨.hbm, 48, rfl⟩
abbrev main_call0_c_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_c_1 : Ref sig .tc := ⟨.hbm, 54, rfl⟩
abbrev main_call0_c_2 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_3 : Ref sig .tc := ⟨.hbm, 62, rfl⟩
abbrev main_call0_v12 : Ref sig .tc := ⟨.hbm, 63, rfl⟩
abbrev main_call0_v13 : Ref sig .tc := ⟨.hbm, 64, rfl⟩
abbrev main_call0_cst : Ref sig .tc := ⟨.hbm, 65, rfl⟩
abbrev main_call0_v14 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_call1_c : Ref sig .tc := ⟨.hbm, 74, rfl⟩
abbrev main_call1_v0 : Ref sig .tc := ⟨.hbm, 75, rfl⟩
abbrev main_call1_v1 : Ref sig .tc := ⟨.hbm, 76, rfl⟩
abbrev main_call1_c_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_c_1 : Ref sig .tc := ⟨.hbm, 81, rfl⟩
abbrev main_call1_c_2 : Ref sig .tc := ⟨.hbm, 82, rfl⟩
abbrev main_call1_v5 : Ref sig .tc := ⟨.hbm, 83, rfl⟩
abbrev main_call1_v6 : Ref sig .tc := ⟨.hbm, 84, rfl⟩
abbrev main_call1_v7 : Ref sig .tc := ⟨.hbm, 85, rfl⟩
abbrev main_call1_v8 : Ref sig .tc := ⟨.hbm, 86, rfl⟩
abbrev main_call1_v9 : Ref sig .tc := ⟨.hbm, 87, rfl⟩
abbrev main_call1_v10 : Ref sig .tc := ⟨.hbm, 88, rfl⟩
abbrev main_call1_c_3 : Ref sig .tc := ⟨.hbm, 89, rfl⟩
abbrev main_call1_v11 : Ref sig .tc := ⟨.hbm, 90, rfl⟩
abbrev main_call1_v12 : Ref sig .tc := ⟨.hbm, 91, rfl⟩
abbrev main_call1_v13 : Ref sig .tc := ⟨.hbm, 92, rfl⟩
abbrev main_call1_cst : Ref sig .tc := ⟨.hbm, 93, rfl⟩
abbrev main_call1_v14 : Ref sig .tc := ⟨.hbm, 94, rfl⟩
abbrev main_v35 : Ref sig .tc := ⟨.hbm, 95, rfl⟩
abbrev main_v36 : Ref sig .tc := ⟨.hbm, 96, rfl⟩
abbrev main_values_5 : Ref sig .tc := ⟨.hbm, 97, rfl⟩
abbrev main_indices_6 : Ref sig .tc := ⟨.hbm, 98, rfl⟩
abbrev main_cst_7 : Ref sig .tc := ⟨.hbm, 99, rfl⟩
abbrev main_v37 : Ref sig .tc := ⟨.hbm, 100, rfl⟩
abbrev main_cst_8 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_cst_9 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_c : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_call2_v0 : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_cst_10 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_call3_v0 : Ref sig .tc := ⟨.hbm, 133, rfl⟩
abbrev main_call3_v1 : Ref sig .tc := ⟨.hbm, 134, rfl⟩
abbrev main_call3_cst : Ref sig .tc := ⟨.hbm, 135, rfl⟩
abbrev main_call3_v2 : Ref sig .tc := ⟨.hbm, 136, rfl⟩
abbrev main_call3_v3 : Ref sig .tc := ⟨.hbm, 137, rfl⟩
abbrev main_call3_cst_0 : Ref sig .tc := ⟨.hbm, 138, rfl⟩
abbrev main_call3_v4 : Ref sig .tc := ⟨.hbm, 139, rfl⟩
abbrev main_call3_v5 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_cst_11 : Ref sig .tc := ⟨.hbm, 149, rfl⟩
abbrev main_v69 : Ref sig .tc := ⟨.hbm, 150, rfl⟩
abbrev main_v70 : Ref sig .tc := ⟨.hbm, 151, rfl⟩
abbrev main_cst_12 : Ref sig .tc := ⟨.hbm, 152, rfl⟩
abbrev main_v71 : Ref sig .tc := ⟨.hbm, 153, rfl⟩
abbrev main_v72 : Ref sig .tc := ⟨.hbm, 154, rfl⟩
abbrev main_cst_13 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x7960 : Shape := ⟨2, ![1024, 7960]⟩
abbrev S8064 : Shape := ⟨1, ![8064]⟩
abbrev S_ : Shape := ⟨0, ![]⟩
abbrev S8064x1 : Shape := ⟨2, ![8064, 1]⟩
abbrev S1 : Shape := ⟨1, ![1]⟩
abbrev S1x1 : Shape := ⟨2, ![1, 1]⟩
abbrev S1024x8064 : Shape := ⟨2, ![1024, 8064]⟩
abbrev S1x1024 : Shape := ⟨2, ![1, 1024]⟩
abbrev S16384x2048 : Shape := ⟨2, ![16384, 2048]⟩
abbrev S16384x512 : Shape := ⟨2, ![16384, 512]⟩
abbrev S16384x256 : Shape := ⟨2, ![16384, 256]⟩
abbrev S16384x128 : Shape := ⟨2, ![16384, 128]⟩
abbrev S16384x3072 : Shape := ⟨2, ![16384, 3072]⟩
abbrev S256x1024 : Shape := ⟨2, ![256, 1024]⟩
abbrev S256x2048 : Shape := ⟨2, ![256, 2048]⟩
abbrev S256x512 : Shape := ⟨2, ![256, 512]⟩
abbrev S256x256 : Shape := ⟨2, ![256, 256]⟩
abbrev S256x128 : Shape := ⟨2, ![256, 128]⟩
abbrev S256x3072 : Shape := ⟨2, ![256, 3072]⟩
abbrev S256 : Shape := ⟨1, ![256]⟩
abbrev S256x1 : Shape := ⟨2, ![256, 1]⟩
abbrev S1024x2048 : Shape := ⟨2, ![1024, 2048]⟩
abbrev S1024x512 : Shape := ⟨2, ![1024, 512]⟩
abbrev S1024x256 : Shape := ⟨2, ![1024, 256]⟩
abbrev S1024x128 : Shape := ⟨2, ![1024, 128]⟩
abbrev S1024x3072 : Shape := ⟨2, ![1024, 3072]⟩

abbrev nBuf : Space → Nat
  | .hbm => 47
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7960, .f32⟩
  | .hbm, ⟨3, _⟩ => ⟨S8064, .i32⟩
  | .hbm, ⟨4, _⟩ => ⟨S8064, .i1⟩
  | .hbm, ⟨5, _⟩ => ⟨S_, .i32⟩
  | .hbm, ⟨6, _⟩ => ⟨S8064, .i32⟩
  | .hbm, ⟨7, _⟩ => ⟨S8064, .i1⟩
  | .hbm, ⟨8, _⟩ => ⟨S_, .i32⟩
  | .hbm, ⟨9, _⟩ => ⟨S8064, .i32⟩
  | .hbm, ⟨10, _⟩ => ⟨S8064, .i32⟩
  | .hbm, ⟨11, _⟩ => ⟨S8064, .i32⟩
  | .hbm, ⟨12, _⟩ => ⟨S8064x1, .i32⟩
  | .hbm, ⟨13, _⟩ => ⟨S1, .i32⟩
  | .hbm, ⟨14, _⟩ => ⟨S_, .i32⟩
  | .hbm, ⟨15, _⟩ => ⟨S8064x1, .i32⟩
  | .hbm, ⟨16, _⟩ => ⟨S8064x1, .i1⟩
  | .hbm, ⟨17, _⟩ => ⟨S1x1, .i32⟩
  | .hbm, ⟨18, _⟩ => ⟨S8064x1, .i32⟩
  | .hbm, ⟨19, _⟩ => ⟨S8064x1, .i1⟩
  | .hbm, ⟨20, _⟩ => ⟨S8064x1, .i1⟩
  | .hbm, ⟨21, _⟩ => ⟨S_, .i1⟩
  | .hbm, ⟨22, _⟩ => ⟨S8064, .i1⟩
  | .hbm, ⟨23, _⟩ => ⟨S1024x8064, .f32⟩
  | .hbm, ⟨24, _⟩ => ⟨S1024x8064, .i1⟩
  | .hbm, ⟨25, _⟩ => ⟨S_, .f32⟩
  | .hbm, ⟨26, _⟩ => ⟨S1024x8064, .f32⟩
  | .hbm, ⟨27, _⟩ => ⟨S1024x8064, .f32⟩
  | .hbm, ⟨28, _⟩ => ⟨S_, .f32⟩
  | .hbm, ⟨29, _⟩ => ⟨S_, .f32⟩
  | .hbm, ⟨30, _⟩ => ⟨S1024x8064, .i1⟩
  | .hbm, ⟨31, _⟩ => ⟨S1024x8064, .f32⟩
  | .hbm, ⟨32, _⟩ => ⟨S1024x8064, .f32⟩
  | .hbm, ⟨33, _⟩ => ⟨S1024x8064, .bf16⟩
  | .hbm, ⟨34, _⟩ => ⟨S1x1024, .f32⟩
  | .hbm, ⟨35, _⟩ => ⟨S16384x2048, .f32⟩
  | .hbm, ⟨36, _⟩ => ⟨S16384x512, .bf16⟩
  | .hbm, ⟨37, _⟩ => ⟨S16384x512, .f32⟩
  | .hbm, ⟨38, _⟩ => ⟨S16384x256, .f32⟩
  | .hbm, ⟨39, _⟩ => ⟨S16384x512, .bf16⟩
  | .hbm, ⟨40, _⟩ => ⟨S16384x128, .f32⟩
  | .hbm, ⟨41, _⟩ => ⟨S16384x512, .bf16⟩
  | .hbm, ⟨42, _⟩ => ⟨S16384x512, .f32⟩
  | .hbm, ⟨43, _⟩ => ⟨S16384x512, .f32⟩
  | .hbm, ⟨44, _⟩ => ⟨S16384x512, .bf16⟩
  | .hbm, ⟨45, _⟩ => ⟨S16384x512, .bf16⟩
  | .hbm, ⟨46, _⟩ => ⟨S16384x3072, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x8064, .bf16⟩
  | .local _ .vmem, ⟨4, _⟩ => ⟨S256x2048, .f32⟩
  | .local _ .vmem, ⟨5, _⟩ => ⟨S256x2048, .f32⟩
  | .local _ .vmem, ⟨6, _⟩ => ⟨S256x512, .bf16⟩
  | .local _ .vmem, ⟨7, _⟩ => ⟨S256x512, .bf16⟩
  | .local _ .vmem, ⟨8, _⟩ => ⟨S256x512, .f32⟩
  | .local _ .vmem, ⟨9, _⟩ => ⟨S256x512, .f32⟩
  | .local _ .vmem, ⟨10, _⟩ => ⟨S256x256, .f32⟩
  | .local _ .vmem, ⟨11, _⟩ => ⟨S256x256, .f32⟩
  | .local _ .vmem, ⟨12, _⟩ => ⟨S256x512, .bf16⟩
  | .local _ .vmem, ⟨13, _⟩ => ⟨S256x512, .bf16⟩
  | .local _ .vmem, ⟨14, _⟩ => ⟨S256x128, .f32⟩
  | .local _ .vmem, ⟨15, _⟩ => ⟨S256x128, .f32⟩
  | .local _ .vmem, ⟨16, _⟩ => ⟨S256x512, .bf16⟩
  | .local _ .vmem, ⟨17, _⟩ => ⟨S256x512, .bf16⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x3072, .bf16⟩
  | .local _ .vmem, ⟨27, _⟩ => ⟨S256x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_cst : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4_0 : Ref sig .tc := ⟨.hbm, 35, rfl⟩
abbrev main_v4_1 : Ref sig .tc := ⟨.hbm, 36, rfl⟩
abbrev main_v4_2 : Ref sig .tc := ⟨.hbm, 37, rfl⟩
abbrev main_v4_3 : Ref sig .tc := ⟨.hbm, 38, rfl⟩
abbrev main_v4_4 : Ref sig .tc := ⟨.hbm, 39, rfl⟩
abbrev main_v4_5 : Ref sig .tc := ⟨.hbm, 40, rfl⟩
abbrev main_v4_6 : Ref sig .tc := ⟨.hbm, 41, rfl⟩
abbrev main_v4_7 : Ref sig .tc := ⟨.hbm, 42, rfl⟩
abbrev main_v4_8 : Ref sig .tc := ⟨.hbm, 43, rfl⟩
abbrev main_v4_9 : Ref sig .tc := ⟨.hbm, 44, rfl⟩
abbrev main_v4_10 : Ref sig .tc := ⟨.hbm, 45, rfl⟩
abbrev main_v4_11 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8064 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x3072 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S16384x1024 : Shape := ⟨2, ![16384, 1024]⟩
abbrev S1024 : Shape := ⟨1, ![1024]⟩
abbrev S1024x7960 : Shape := ⟨2, ![1024, 7960]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x7960 : Shape := ⟨2, ![16384, 7960]⟩
abbrev S16384x512 : Shape := ⟨2, ![16384, 512]⟩
abbrev S16384x128 : Shape := ⟨2, ![16384, 128]⟩
abbrev S16384x24 : Shape := ⟨2, ![16384, 24]⟩
abbrev S16384x3072 : Shape := ⟨2, ![16384, 3072]⟩
abbrev S16384x2x4x64 : Shape := ⟨4, ![16384, 2, 4, 64]⟩
abbrev S16384x4x2x64 : Shape := ⟨4, ![16384, 4, 2, 64]⟩
abbrev S16384x8x3 : Shape := ⟨3, ![16384, 8, 3]⟩
abbrev S16384x3x8 : Shape := ⟨3, ![16384, 3, 8]⟩
abbrev S16384x2048 : Shape := ⟨2, ![16384, 2048]⟩
abbrev S16384x256 : Shape := ⟨2, ![16384, 256]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7960, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x7960, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x128, .f32⟩
  | .hbm, ⟨26, _⟩ => ⟨S16384x128, .f32⟩
  | .hbm, ⟨27, _⟩ => ⟨S16384x128, .f32⟩
  | .hbm, ⟨28, _⟩ => ⟨S16384x128, .f32⟩
  | .hbm, ⟨29, _⟩ => ⟨S16384x128, .f32⟩
  | .hbm, ⟨30, _⟩ => ⟨S16384x128, .f32⟩
  | .hbm, ⟨31, _⟩ => ⟨S16384x24, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x3072, .f32⟩
  | .hbm, ⟨36, _⟩ => ⟨S16384x2x4x64, .f32⟩
  | .hbm, ⟨37, _⟩ => ⟨S16384x4x2x64, .f32⟩
  | .hbm, ⟨38, _⟩ => ⟨S16384x512, .f32⟩
  | .hbm, ⟨39, _⟩ => ⟨S16384x8x3, .f32⟩
  | .hbm, ⟨40, _⟩ => ⟨S16384x3x8, .f32⟩
  | .hbm, ⟨41, _⟩ => ⟨S16384x24, .f32⟩
  | .hbm, ⟨42, _⟩ => ⟨S16384x2048, .f32⟩
  | .hbm, ⟨43, _⟩ => ⟨S16384x512, .bf16⟩
  | .hbm, ⟨44, _⟩ => ⟨S16384x512, .f32⟩
  | .hbm, ⟨45, _⟩ => ⟨S16384x256, .f32⟩
  | .hbm, ⟨46, _⟩ => ⟨S16384x512, .f32⟩
  | .hbm, ⟨47, _⟩ => ⟨S16384x512, .bf16⟩
  | .hbm, ⟨48, _⟩ => ⟨S_, .i32⟩
  | .hbm, ⟨49, _⟩ => ⟨S_, .f32⟩
  | .hbm, ⟨50, _⟩ => ⟨S16384x128, .f32⟩
  | .hbm, ⟨51, _⟩ => ⟨S16384x512, .bf16⟩
  | .hbm, ⟨52, _⟩ => ⟨S16384x512, .bf16⟩
  | .hbm, ⟨53, _⟩ => ⟨S16384x512, .bf16⟩
  | .hbm, ⟨54, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_c : Ref sig .tc := ⟨.hbm, 48, rfl⟩
abbrev main_call0_v0 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S16384x3072 : Shape := ⟨2, ![16384, 3072]⟩
abbrev S3x512x1024 : Shape := ⟨3, ![3, 512, 1024]⟩
abbrev S1024x1024 : Shape := ⟨2, ![1024, 1024]⟩
abbrev S512 : Shape := ⟨1, ![512]⟩
abbrev S1x512x1024 : Shape := ⟨3, ![1, 512, 1024]⟩
abbrev S512x1024 : Shape := ⟨2, ![512, 1024]⟩
abbrev S_ : Shape := ⟨0, ![]⟩
abbrev S512x1 : Shape := ⟨2, ![512, 1]⟩
abbrev S1 : Shape := ⟨1, ![1]⟩
abbrev S1x1 : Shape := ⟨2, ![1, 1]⟩
abbrev S256x1024 : Shape := ⟨2, ![256, 1024]⟩
abbrev S256x512 : Shape := ⟨2, ![256, 512]⟩
abbrev S256x3072 : Shape := ⟨2, ![256, 3072]⟩

abbrev nBuf : Space → Nat
  | .hbm => 39
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x3072, .bf16⟩
  | .hbm, ⟨5, _⟩ => ⟨S3x512x1024, .f32⟩
  | .hbm, ⟨6, _⟩ => ⟨S1024x1024, .f32⟩
  | .hbm, ⟨7, _⟩ => ⟨S512, .i32⟩
  | .hbm, ⟨8, _⟩ => ⟨S1x512x1024, .f32⟩
  | .hbm, ⟨9, _⟩ => ⟨S512x1024, .f32⟩
  | .hbm, ⟨10, _⟩ => ⟨S_, .i32⟩
  | .hbm, ⟨11, _⟩ => ⟨S512, .i32⟩
  | .hbm, ⟨12, _⟩ => ⟨S512, .i1⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S512, .i32⟩
  | .hbm, ⟨17, _⟩ => ⟨S512x1, .i32⟩
  | .hbm, ⟨18, _⟩ => ⟨S1, .i32⟩
  | .hbm, ⟨19, _⟩ => ⟨S_, .i32⟩
  | .hbm, ⟨20, _⟩ => ⟨S512x1, .i32⟩
  | .hbm, ⟨21, _⟩ => ⟨S512x1, .i1⟩
  | .hbm, ⟨22, _⟩ => ⟨S1x1, .i32⟩
  | .hbm, ⟨23, _⟩ => ⟨S512x1, .i32⟩
  | .hbm, ⟨24, _⟩ => ⟨S512x1, .i1⟩
  | .hbm, ⟨25, _⟩ => ⟨S512x1, .i1⟩
  | .hbm, ⟨26, _⟩ => ⟨S_, .i1⟩
  | .hbm, ⟨27, _⟩ => ⟨S512, .i1⟩
  | .hbm, ⟨28, _⟩ => ⟨S512x1024, .f32⟩
  | .hbm, ⟨29, _⟩ => ⟨S512x1024, .i1⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S_, .i32⟩
  | .hbm, ⟨34, _⟩ => ⟨S1, .i32⟩
  | .hbm, ⟨35, _⟩ => ⟨S3x512x1024, .f32⟩
  | .hbm, ⟨36, _⟩ => ⟨S3x512x1024, .bf16⟩
  | .hbm, ⟨37, _⟩ => ⟨S1024x1024, .bf16⟩
  | .hbm, ⟨38, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x3072, .bf16⟩
  | .local _ .vmem, ⟨9, _⟩ => ⟨S256x3072, .bf16⟩
  | .local _ .vmem, ⟨10, _⟩ => ⟨S3x512x1024, .bf16⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v2 : Ref sig .tc := ⟨.hbm, 32, rfl⟩
abbrev main_c_0 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16384x1024 : Shape := ⟨2, ![16384, 1024]⟩
abbrev S16384x512 : Shape := ⟨2, ![16384, 512]⟩
abbrev S16384x3072 : Shape := ⟨2, ![16384, 3072]⟩
abbrev S3x512x1024 : Shape := ⟨3, ![3, 512, 1024]⟩
abbrev S1024x1024 : Shape := ⟨2, ![1024, 1024]⟩
abbrev S16384x4x2x64 : Shape := ⟨4, ![16384, 4, 2, 64]⟩
abbrev S16384x2x4x64 : Shape := ⟨4, ![16384, 2, 4, 64]⟩
abbrev S16384x1x512 : Shape := ⟨3, ![16384, 1, 512]⟩
abbrev S16384x3x512 : Shape := ⟨3, ![16384, 3, 512]⟩
abbrev S3x1024x16384 : Shape := ⟨3, ![3, 1024, 16384]⟩
abbrev S16384x3x1024 : Shape := ⟨3, ![16384, 3, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x3072, .bf16⟩
  | .hbm, ⟨5, _⟩ => ⟨S3x512x1024, .f32⟩
  | .hbm, ⟨6, _⟩ => ⟨S1024x1024, .f32⟩
  | .hbm, ⟨7, _⟩ => ⟨S16384x512, .f32⟩
  | .hbm, ⟨8, _⟩ => ⟨S16384x4x2x64, .f32⟩
  | .hbm, ⟨9, _⟩ => ⟨S16384x2x4x64, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x1x512, .f32⟩
  | .hbm, ⟨14, _⟩ => ⟨S16384x1x512, .f32⟩
  | .hbm, ⟨15, _⟩ => ⟨S16384x1x512, .f32⟩
  | .hbm, ⟨16, _⟩ => ⟨S16384x3x512, .f32⟩
  | .hbm, ⟨17, _⟩ => ⟨S3x1024x16384, .f32⟩
  | .hbm, ⟨18, _⟩ => ⟨S16384x3x1024, .f32⟩
  | .hbm, ⟨19, _⟩ => ⟨S16384x3072, .f32⟩
  | .hbm, ⟨20, _⟩ => ⟨S16384x3072, .f32⟩
  | .hbm, ⟨21, _⟩ => ⟨S16384x3072, .f32⟩
  | .hbm, ⟨22, _⟩ => ⟨S_, .f32⟩
  | .hbm, ⟨23, _⟩ => ⟨S16384x3072, .f32⟩
  | .hbm, ⟨24, _⟩ => ⟨S16384x3072, .f32⟩
  | .hbm, ⟨25, _⟩ => ⟨S_, .f32⟩
  | .hbm, ⟨26, _⟩ => ⟨S16384x3072, .f32⟩
  | .hbm, ⟨27, _⟩ => ⟨S16384x3072, .f32⟩
  | .hbm, ⟨28, _⟩ => ⟨S16384x3x1024, .f32⟩
  | .hbm, ⟨29, _⟩ => ⟨S16384x3x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel4.lean ====
abbrev S1 : Shape := ⟨1, ![1]⟩
abbrev S16384x512 : Shape := ⟨2, ![16384, 512]⟩
abbrev S32x12 : Shape := ⟨2, ![32, 12]⟩
abbrev S128 : Shape := ⟨1, ![128]⟩
abbrev S4 : Shape := ⟨1, ![4]⟩
abbrev S4x1x1 : Shape := ⟨3, ![4, 1, 1]⟩
abbrev S_ : Shape := ⟨0, ![]⟩
abbrev S1x128x1 : Shape := ⟨3, ![1, 128, 1]⟩
abbrev S4x128x1 : Shape := ⟨3, ![4, 128, 1]⟩
abbrev S256 : Shape := ⟨1, ![256]⟩
abbrev S1x1x256 : Shape := ⟨3, ![1, 1, 256]⟩
abbrev S4x128x256 : Shape := ⟨3, ![4, 128, 256]⟩
abbrev S4x128x256x1 : Shape := ⟨4, ![4, 128, 256, 1]⟩
abbrev S4x128x256x12 : Shape := ⟨4, ![4, 128, 256, 12]⟩
abbrev S4x12x128x256 : Shape := ⟨4, ![4, 12, 128, 256]⟩
abbrev S4x4x128x256 : Shape := ⟨4, ![4, 4, 128, 256]⟩
abbrev S1x128 : Shape := ⟨2, ![1, 128]⟩
abbrev S2x8192x512 : Shape := ⟨3, ![2, 8192, 512]⟩
abbrev S1x128x512 : Shape := ⟨3, ![1, 128, 512]⟩
abbrev S1x8192x512 : Shape := ⟨3, ![1, 8192, 512]⟩
abbrev S4x256x128 : Shape := ⟨3, ![4, 256, 128]⟩
abbrev S1x128x128 : Shape := ⟨3, ![1, 128, 128]⟩
abbrev S128x128 : Shape := ⟨2, ![128, 128]⟩
abbrev S256x128 : Shape := ⟨2, ![256, 128]⟩
abbrev S1x256x128 : Shape := ⟨3, ![1, 256, 128]⟩
abbrev S1x1x128x256 : Shape := ⟨4, ![1, 1, 128, 256]⟩
abbrev S128x256 : Shape := ⟨2, ![128, 256]⟩
abbrev S256x256 : Shape := ⟨2, ![256, 256]⟩
abbrev S256x1 : Shape := ⟨2, ![256, 1]⟩
abbrev S128x1 : Shape := ⟨2, ![128, 1]⟩
abbrev S128x512 : Shape := ⟨2, ![128, 512]⟩

abbrev nBuf : Space → Nat
  | .hbm => 74
  | .vmem => 11
  | .smem => 1
  | _ => 0

abbrev bufTy : (tb : Table) → Fin (tcTables nBuf tb) → BufTy
  | .hbm, ⟨0, _⟩ => ⟨S1, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S32x12, .f32⟩
  | .hbm, ⟨5, _⟩ => ⟨S128, .f32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i32⟩
  | .hbm, ⟨11, _⟩ => ⟨S128, .i32⟩
  | .hbm, ⟨12, _⟩ => ⟨S1x128x1, .i32⟩
  | .hbm, ⟨13, _⟩ => ⟨S4x128x1, .i32⟩
  | .hbm, ⟨14, _⟩ => ⟨S4x128x1, .i32⟩
  | .hbm, ⟨15, _⟩ => ⟨S4x128x1, .i32⟩
  | .hbm, ⟨16, _⟩ => ⟨S256, .i32⟩
  | .hbm, ⟨17, _⟩ => ⟨S1x1x256, .i32⟩
  | .hbm, ⟨18, _⟩ => ⟨S4x128x256, .i32⟩
  | .hbm, ⟨19, _⟩ => ⟨S4x128x256, .i32⟩
  | .hbm, ⟨20, _⟩ => ⟨S4x128x256, .i32⟩
  | .hbm, ⟨21, _⟩ => ⟨S_, .i32⟩
  | .hbm, ⟨22, _⟩ => ⟨S4x128x256, .i32⟩
  | .hbm, ⟨23, _⟩ => ⟨S4x128x256, .i32⟩
  | .hbm, ⟨24, _⟩ => ⟨S_, .i32⟩
  | .hbm, ⟨25, _⟩ => ⟨S4x128x256, .i32⟩
  | .hbm, ⟨26, _⟩ => ⟨S4x128x256, .i32⟩
  | .hbm, ⟨27, _⟩ => ⟨S4x128x256, .f32⟩
  | .hbm, ⟨28, _⟩ => ⟨S_, .f32⟩
  | .hbm, ⟨29, _⟩ => ⟨S4x128x256, .f32⟩
  | .hbm, ⟨30, _⟩ => ⟨S4x128x256, .f32⟩
  | .hbm, ⟨31, _⟩ => ⟨S4x128x256, .f32⟩
  | .hbm, ⟨32, _⟩ => ⟨S_, .f32⟩
  | .hbm, ⟨33, _⟩ => ⟨S4x128x256, .f32⟩
  | .hbm, ⟨34, _⟩ => ⟨S4x128x256, .f32⟩
  | .hbm, ⟨35, _⟩ => ⟨S_, .f32⟩
  | .hbm, ⟨36, _⟩ => ⟨S4x128x256, .f32⟩
  | .hbm, ⟨37, _⟩ => ⟨S4x128x256, .f32⟩
  | .hbm, ⟨38, _⟩ => ⟨S4x128x256, .i32⟩
  | .hbm, ⟨39, _⟩ => ⟨S_, .i32⟩
  | .hbm, ⟨40, _⟩ => ⟨S4x128x256, .i32⟩
  | .hbm, ⟨41, _⟩ => ⟨S4x128x256, .i32⟩
  | .hbm, ⟨42, _⟩ => ⟨S_, .i32⟩
  | .hbm, ⟨43, _⟩ => ⟨S4x128x256, .i32⟩
  | .hbm, ⟨44, _⟩ => ⟨S4x128x256, .i1⟩
  | .hbm, ⟨45, _⟩ => ⟨S_, .i32⟩
  | .hbm, ⟨46, _⟩ => ⟨S4x128x256, .i32⟩
  | .hbm, ⟨47, _⟩ => ⟨S4x128x256, .i32⟩
  | .hbm, ⟨48, _⟩ => ⟨S4x128x256, .i32⟩
  | .hbm, ⟨49, _⟩ => ⟨S_, .i32⟩
  | .hbm, ⟨50, _⟩ => ⟨S4x128x256, .i32⟩
  | .hbm, ⟨51, _⟩ => ⟨S4x128x256, .i1⟩
  | .hbm, ⟨52, _⟩ => ⟨S_, .i32⟩
  | .hbm, ⟨53, _⟩ => ⟨S4x128x256, .i32⟩
  | .hbm, ⟨54, _⟩ => ⟨S4x128x256, .i32⟩
  | .hbm, ⟨55, _⟩ => ⟨S4x128x256, .i32⟩
  | .hbm, ⟨56, _⟩ => ⟨S4x128x256x1, .i32⟩
  | .hbm, ⟨57, _⟩ => ⟨S4x128x256x12, .f32⟩
  | .hbm, ⟨58, _⟩ => ⟨S_, .i32⟩
  | .hbm, ⟨59, _⟩ => ⟨S4x128x256, .i32⟩
  | .hbm, ⟨60, _⟩ => ⟨S4x128x256, .i1⟩
  | .hbm, ⟨61, _⟩ => ⟨S4x128x256x1, .i1⟩
  | .hbm, ⟨62, _⟩ => ⟨S_, .f32⟩
  | .hbm, ⟨63, _⟩ => ⟨S_, .f32⟩
  | .hbm, ⟨64, _⟩ => ⟨S4x128x256x12, .i1⟩
  | .hbm, ⟨65, _⟩ => ⟨S4x128x256x12, .f32⟩
  | .hbm, ⟨66, _⟩ => ⟨S4x128x256x12, .f32⟩
  | .hbm, ⟨67, _⟩ => ⟨S4x12x128x256, .f32⟩
  | .hbm, ⟨68, _⟩ => ⟨S4x4x128x256, .f32⟩
  | .hbm, ⟨69, _⟩ => ⟨S1x128, .f32⟩
  | .hbm, ⟨70, _⟩ => ⟨S2x8192x512, .bf16⟩
  | .hbm, ⟨71, _⟩ => ⟨S2x8192x512, .bf16⟩
  | .hbm, ⟨72, _⟩ => ⟨S2x8192x512, .bf16⟩
  | .hbm, ⟨73, _⟩ => ⟨S2x8192x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S4x4x128x256, .f32⟩
  | .local _ .vmem, ⟨5, _⟩ => ⟨S1x128, .f32⟩
  | .local _ .vmem, ⟨6, _⟩ => ⟨S1x128x512, .bf16⟩
  | .local _ .vmem, ⟨7, _⟩ => ⟨S1x128x512, .bf16⟩
  | .local _ .vmem, ⟨8, _⟩ => ⟨S4x256x128, .f32⟩
  | .local _ .vmem, ⟨9, _⟩ => ⟨S4x256x128, .f32⟩
  | .local _ .vmem, ⟨10, _⟩ => ⟨S4x256x128, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 64], ![false, false]⟩

@[reducible] def k0_t1_loop (i : grid0.Coords) : Scf.Loop 32 :=
  let c0_i32_42 : BitVec 32 := 0#32
  let arg1 : BitVec 32 := BitVec.ofNat 32 (i 1).val
  let c128_i32 : BitVec 32 := 128#32
  let v0 : BitVec 32 := Scalar.muli arg1 c128_i32
  let c128_i32_34 : BitVec 32 := 128#32
  let v65 : BitVec 32 := Scalar.addi v0 c128_i32_34
  let c256_i32 : BitVec 32 := 256#32
  let v66 : BitVec 32 := Scalar.addi v65 c256_i32
  let c1_i32 : BitVec 32 := 1#32
  let v67 : BitVec 32 := Scalar.subi v66 c1_i32
  let c0_i32 : BitVec 32 := 0#32
  let v69 : BitVec 1 := Scalar.cmpi .sgt v67 c0_i32
  let v70 : BitVec 32 := Scalar.extui v69
  let c0_i32_36 : BitVec 32 := 0#32
  let v71 : BitVec 1 := Scalar.cmpi .slt v67 c0_i32_36
  let v72 : BitVec 32 := Scalar.extui v71
  let v73 : BitVec 32 := Scalar.subi v70 v72
  let c256_i32_35 : BitVec 32 := 256#32
  let c0_i32_37 : BitVec 32 := 0#32
  let v74 : BitVec 1 := Scalar.cmpi .sgt c256_i32_35 c0_i32_37
  let v75 : BitVec 32 := Scalar.extui v74
  let c0_i32_38 : BitVec 32 := 0#32
  let v76 : BitVec 1 := Scalar.cmpi .slt c256_i32_35 c0_i32_38
  let v77 : BitVec 32 := Scalar.extui v76
  let v78 : BitVec 32 := Scalar.subi v75 v77
  let v79 : BitVec 1 := Scalar.cmpi .ne v73 v78
  let v80 : BitVec 32 := Scalar.remsi v67 c256_i32_35
  let c0_i32_39 : BitVec 32 := 0#32
  let v81 : BitVec 1 := Scalar.cmpi .ne v80 c0_i32_39
  let v82 : BitVec 1 := Scalar.andi v79 v81
  let v68 : BitVec 32 := Scalar.divsi v67 c256_i32_35
  let c1_i32_40 : BitVec 32 := 1#32
  let v83 : BitVec 32 := Scalar.subi v68 c1_i32_40
  let v84 : BitVec 32 := Scalar.select v82 v83 v68
  let v85 : BitVec 32 := Scalar.subi v84 c0_i32_42
  let c1_i32_43 : BitVec 32 := 1#32
  let v87 : BitVec 32 := Scalar.divsi v85 c1_i32_43
  let v88 : BitVec 32 := Scalar.muli v87 c1_i32_43
  let v89 : BitVec 32 := Scalar.addi c0_i32_42 v88
  let c1_i32_44 : BitVec 32 := 1#32
  ⟨c0_i32_42, v89, c1_i32_44⟩
def k0_mult1 (i : grid0.Coords) (k0_t1 : Fin (k0_t1_loop i).trips) : BitVec 32 :=
  let c0_i32_42 : BitVec 32 := 0#32
  let c1_i32_44 : BitVec 32 := 1#32
  let arg12 : BitVec 32 := Scf.iv c0_i32_42 c1_i32_44 k0_t1
  let c256_i32_95 : BitVec 32 := 256#32
  let v200 : BitVec 32 := Scalar.muli arg12 c256_i32_95
  v200
def k0_off1 (i : grid0.Coords) (k0_t1 : Fin (k0_t1_loop i).trips) : Fin 3 → Nat :=
  let c0_103 : Index := 0#32
  let c0_i32_42 : BitVec 32 := 0#32
  let c1_i32_44 : BitVec 32 := 1#32
  let arg12 : BitVec 32 := Scf.iv c0_i32_42 c1_i32_44 k0_t1
  let c256_i32_95 : BitVec 32 := 256#32
  let v200 : BitVec 32 := Scalar.muli arg12 c256_i32_95
  let v201 : BitVec 32 := v200
  let v221 : Index := Scalar.indexCast v201
  let c0_104 : Index := 0#32
  ![0, v221.toNat, 0]
def k0_off2 (i : grid0.Coords) (k0_t1 : Fin (k0_t1_loop i).trips) : Fin 4 → Nat :=
  let arg1 : BitVec 32 := BitVec.ofNat 32 (i 1).val
  let c128_i32 : BitVec 32 := 128#32
  let v0 : BitVec 32 := Scalar.muli arg1 c128_i32
  let c0_i32_42 : BitVec 32 := 0#32
  let c1_i32_44 : BitVec 32 := 1#32
  let arg12 : BitVec 32 := Scf.iv c0_i32_42 c1_i32_44 k0_t1
  let c256_i32_95 : BitVec 32 := 256#32
  let v200 : BitVec 32 := Scalar.muli arg12 c256_i32_95
  let v201 : BitVec 32 := v200
  let v202 : BitVec 32 := Scalar.subi v0 v201
  let c0_i32_97 : BitVec 32 := 0#32
  let v204 : BitVec 1 := Scalar.cmpi .sgt v202 c0_i32_97
  let v205 : BitVec 32 := Scalar.extui v204
  let c0_i32_98 : BitVec 32 := 0#32
  let v206 : BitVec 1 := Scalar.cmpi .slt v202 c0_i32_98
  let v207 : BitVec 32 := Scalar.extui v206
  let v208 : BitVec 32 := Scalar.subi v205 v207
  let c128_i32_96 : BitVec 32 := 128#32
  let c0_i32_99 : BitVec 32 := 0#32
  let v209 : BitVec 1 := Scalar.cmpi .sgt c128_i32_96 c0_i32_99
  let v210 : BitVec 32 := Scalar.extui v209
  let c0_i32_100 : BitVec 32 := 0#32
  let v211 : BitVec 1 := Scalar.cmpi .slt c128_i32_96 c0_i32_100
  let v212 : BitVec 32 := Scalar.extui v211
  let v213 : BitVec 32 := Scalar.subi v210 v212
  let v214 : BitVec 1 := Scalar.cmpi .ne v208 v213
  let v215 : BitVec 32 := Scalar.remsi v202 c128_i32_96
  let c0_i32_101 : BitVec 32 := 0#32
  let v216 : BitVec 1 := Scalar.cmpi .ne v215 c0_i32_101
  let v217 : BitVec 1 := Scalar.andi v214 v216
  let v203 : BitVec 32 := Scalar.divsi v202 c128_i32_96
  let c1_i32_102 : BitVec 32 := 1#32
  let v218 : BitVec 32 := Scalar.subi v203 c1_i32_102
  let v219 : BitVec 32 := Scalar.select v217 v218 v203
  let c3_i32 : BitVec 32 := 3#32
  let v220 : BitVec 32 := Scalar.minsi v219 c3_i32
  let v227 : Index := Scalar.indexCast v220
  let c0_107 : Index := 0#32
  let c0_108 : Index := 0#32
  let c0_109 : Index := 0#32
  ![v227.toNat, 0, 0, 0]
def k0_off3 (i : grid0.Coords) (k0_t1 : Fin (k0_t1_loop i).trips) : Fin 3 → Nat :=
  let c0_132 : Index := 0#32
  let c0_i32_42 : BitVec 32 := 0#32
  let c1_i32_44 : BitVec 32 := 1#32
  let arg12 : BitVec 32 := Scf.iv c0_i32_42 c1_i32_44 k0_t1
  let c256_i32_95 : BitVec 32 := 256#32
  let v200 : BitVec 32 := Scalar.muli arg12 c256_i32_95
  let v201 : BitVec 32 := v200
  let v266 : Index := Scalar.indexCast v201
  let c128_133 : Index := 128#32
  ![0, v266.toNat, 128]
def k0_off4 (i : grid0.Coords) (k0_t1 : Fin (k0_t1_loop i).trips) : Fin 4 → Nat :=
  let arg1 : BitVec 32 := BitVec.ofNat 32 (i 1).val
  let c128_i32 : BitVec 32 := 128#32
  let v0 : BitVec 32 := Scalar.muli arg1 c128_i32
  let c0_i32_42 : BitVec 32 := 0#32
  let c1_i32_44 : BitVec 32 := 1#32
  let arg12 : BitVec 32 := Scf.iv c0_i32_42 c1_i32_44 k0_t1
  let c256_i32_95 : BitVec 32 := 256#32
  let v200 : BitVec 32 := Scalar.muli arg12 c256_i32_95
  let v201 : BitVec 32 := v200
  let v202 : BitVec 32 := Scalar.subi v0 v201
  let c0_i32_97 : BitVec 32 := 0#32
  let v204 : BitVec 1 := Scalar.cmpi .sgt v202 c0_i32_97
  let v205 : BitVec 32 := Scalar.extui v204
  let c0_i32_98 : BitVec 32 := 0#32
  let v206 : BitVec 1 := Scalar.cmpi .slt v202 c0_i32_98
  let v207 : BitVec 32 := Scalar.extui v206
  let v208 : BitVec 32 := Scalar.subi v205 v207
  let c128_i32_96 : BitVec 32 := 128#32
  let c0_i32_99 : BitVec 32 := 0#32
  let v209 : BitVec 1 := Scalar.cmpi .sgt c128_i32_96 c0_i32_99
  let v210 : BitVec 32 := Scalar.extui v209
  let c0_i32_100 : BitVec 32 := 0#32
  let v211 : BitVec 1 := Scalar.cmpi .slt c128_i32_96 c0_i32_100
  let v212 : BitVec 32 := Scalar.extui v211
  let v213 : BitVec 32 := Scalar.subi v210 v212
  let v214 : BitVec 1 := Scalar.cmpi .ne v208 v213
  let v215 : BitVec 32 := Scalar.remsi v202 c128_i32_96
  let c0_i32_101 : BitVec 32 := 0#32
  let v216 : BitVec 1 := Scalar.cmpi .ne v215 c0_i32_101
  let v217 : BitVec 1 := Scalar.andi v214 v216
  let v203 : BitVec 32 := Scalar.divsi v202 c128_i32_96
  let c1_i32_102 : BitVec 32 := 1#32
  let v218 : BitVec 32 := Scalar.subi v203 c1_i32_102
  let v219 : BitVec 32 := Scalar.select v217 v218 v203
  let c3_i32 : BitVec 32 := 3#32
  let v220 : BitVec 32 := Scalar.minsi v219 c3_i32
  let v272 : Index := Scalar.indexCast v220
  let c1_136 : Index := 1#32
  let c0_137 : Index := 0#32
  let c0_138 : Index := 0#32
  ![v272.toNat, 1, 0, 0]
def k0_off5 (i : grid0.Coords) (k0_t1 : Fin (k0_t1_loop i).trips) : Fin 3 → Nat :=
  let c0_161 : Index := 0#32
  let c0_i32_42 : BitVec 32 := 0#32
  let c1_i32_44 : BitVec 32 := 1#32
  let arg12 : BitVec 32 := Scf.iv c0_i32_42 c1_i32_44 k0_t1
  let c256_i32_95 : BitVec 32 := 256#32
  let v200 : BitVec 32 := Scalar.muli arg12 c256_i32_95
  let v201 : BitVec 32 := v200
  let v311 : Index := Scalar.indexCast v201
  let c256_162 : Index := 256#32
  ![0, v311.toNat, 256]
def k0_off6 (i : grid0.Coords) (k0_t1 : Fin (k0_t1_loop i).trips) : Fin 4 → Nat :=
  let arg1 : BitVec 32 := BitVec.ofNat 32 (i 1).val
  let c128_i32 : BitVec 32 := 128#32
  let v0 : BitVec 32 := Scalar.muli arg1 c128_i32
  let c0_i32_42 : BitVec 32 := 0#32
  let c1_i32_44 : BitVec 32 := 1#32
  let arg12 : BitVec 32 := Scf.iv c0_i32_42 c1_i32_44 k0_t1
  let c256_i32_95 : BitVec 32 := 256#32
  let v200 : BitVec 32 := Scalar.muli arg12 c256_i32_95
  let v201 : BitVec 32 := v200
  let v202 : BitVec 32 := Scalar.subi v0 v201
  let c0_i32_97 : BitVec 32 := 0#32
  let v204 : BitVec 1 := Scalar.cmpi .sgt v202 c0_i32_97
  let v205 : BitVec 32 := Scalar.extui v204
  let c0_i32_98 : BitVec 32 := 0#32
  let v206 : BitVec 1 := Scalar.cmpi .slt v202 c0_i32_98
  let v207 : BitVec 32 := Scalar.extui v206
  let v208 : BitVec 32 := Scalar.subi v205 v207
  let c128_i32_96 : BitVec 32 := 128#32
  let c0_i32_99 : BitVec 32 := 0#32
  let v209 : BitVec 1 := Scalar.cmpi .sgt c128_i32_96 c0_i32_99
  let v210 : BitVec 32 := Scalar.extui v209
  let c0_i32_100 : BitVec 32 := 0#32
  let v211 : BitVec 1 := Scalar.cmpi .slt c128_i32_96 c0_i32_100
  let v212 : BitVec 32 := Scalar.extui v211
  let v213 : BitVec 32 := Scalar.subi v210 v212
  let v214 : BitVec 1 := Scalar.cmpi .ne v208 v213
  let v215 : BitVec 32 := Scalar.remsi v202 c128_i32_96
  let c0_i32_101 : BitVec 32 := 0#32
  let v216 : BitVec 1 := Scalar.cmpi .ne v215 c0_i32_101
  let v217 : BitVec 1 := Scalar.andi v214 v216
  let v203 : BitVec 32 := Scalar.divsi v202 c128_i32_96
  let c1_i32_102 : BitVec 32 := 1#32
  let v218 : BitVec 32 := Scalar.subi v203 c1_i32_102
  let v219 : BitVec 32 := Scalar.select v217 v218 v203
  let c3_i32 : BitVec 32 := 3#32
  let v220 : BitVec 32 := Scalar.minsi v219 c3_i32
  let v317 : Index := Scalar.indexCast v220
  let c2_165 : Index := 2#32
  let c0_166 : Index := 0#32
  let c0_167 : Index := 0#32
  ![v317.toNat, 2, 0, 0]
def k0_off7 (i : grid0.Coords) (k0_t1 : Fin (k0_t1_loop i).trips) : Fin 3 → Nat :=
  let c0_190 : Index := 0#32
  let c0_i32_42 : BitVec 32 := 0#32
  let c1_i32_44 : BitVec 32 := 1#32
  let arg12 : BitVec 32 := Scf.iv c0_i32_42 c1_i32_44 k0_t1
  let c256_i32_95 : BitVec 32 := 256#32
  let v200 : BitVec 32 := Scalar.muli arg12 c256_i32_95
  let v201 : BitVec 32 := v200
  let v356 : Index := Scalar.indexCast v201
  let c384_191 : Index := 384#32
  ![0, v356.toNat, 384]
def k0_off8 (i : grid0.Coords) (k0_t1 : Fin (k0_t1_loop i).trips) : Fin 4 → Nat :=
  let arg1 : BitVec 32 := BitVec.ofNat 32 (i 1).val
  let c128_i32 : BitVec 32 := 128#32
  let v0 : BitVec 32 := Scalar.muli arg1 c128_i32
  let c0_i32_42 : BitVec 32 := 0#32
  let c1_i32_44 : BitVec 32 := 1#32
  let arg12 : BitVec 32 := Scf.iv c0_i32_42 c1_i32_44 k0_t1
  let c256_i32_95 : BitVec 32 := 256#32
  let v200 : BitVec 32 := Scalar.muli arg12 c256_i32_95
  let v201 : BitVec 32 := v200
  let v202 : BitVec 32 := Scalar.subi v0 v201
  let c0_i32_97 : BitVec 32 := 0#32
  let v204 : BitVec 1 := Scalar.cmpi .sgt v202 c0_i32_97
  let v205 : BitVec 32 := Scalar.extui v204
  let c0_i32_98 : BitVec 32 := 0#32
  let v206 : BitVec 1 := Scalar.cmpi .slt v202 c0_i32_98
  let v207 : BitVec 32 := Scalar.extui v206
  let v208 : BitVec 32 := Scalar.subi v205 v207
  let c128_i32_96 : BitVec 32 := 128#32
  let c0_i32_99 : BitVec 32 := 0#32
  let v209 : BitVec 1 := Scalar.cmpi .sgt c128_i32_96 c0_i32_99
  let v210 : BitVec 32 := Scalar.extui v209
  let c0_i32_100 : BitVec 32 := 0#32
  let v211 : BitVec 1 := Scalar.cmpi .slt c128_i32_96 c0_i32_100
  let v212 : BitVec 32 := Scalar.extui v211
  let v213 : BitVec 32 := Scalar.subi v210 v212
  let v214 : BitVec 1 := Scalar.cmpi .ne v208 v213
  let v215 : BitVec 32 := Scalar.remsi v202 c128_i32_96
  let c0_i32_101 : BitVec 32 := 0#32
  let v216 : BitVec 1 := Scalar.cmpi .ne v215 c0_i32_101
  let v217 : BitVec 1 := Scalar.andi v214 v216
  let v203 : BitVec 32 := Scalar.divsi v202 c128_i32_96
  let c1_i32_102 : BitVec 32 := 1#32
  let v218 : BitVec 32 := Scalar.subi v203 c1_i32_102
  let v219 : BitVec 32 := Scalar.select v217 v218 v203
  let c3_i32 : BitVec 32 := 3#32
  let v220 : BitVec 32 := Scalar.minsi v219 c3_i32
  let v362 : Index := Scalar.indexCast v220
  let c3_194 : Index := 3#32
  let c0_195 : Index := 0#32
  let c0_196 : Index := 0#32
  ![v362.toNat, 3, 0, 0]
@[reducible] def k0_t2_loop (i : grid0.Coords) : Scf.Loop 32 :=
  let c0_i32_42 : BitVec 32 := 0#32
  let arg1 : BitVec 32 := BitVec.ofNat 32 (i 1).val
  let c128_i32 : BitVec 32 := 128#32
  let v0 : BitVec 32 := Scalar.muli arg1 c128_i32
  let c128_i32_34 : BitVec 32 := 128#32
  let v65 : BitVec 32 := Scalar.addi v0 c128_i32_34
  let c256_i32 : BitVec 32 := 256#32
  let v66 : BitVec 32 := Scalar.addi v65 c256_i32
  let c1_i32 : BitVec 32 := 1#32
  let v67 : BitVec 32 := Scalar.subi v66 c1_i32
  let c0_i32 : BitVec 32 := 0#32
  let v69 : BitVec 1 := Scalar.cmpi .sgt v67 c0_i32
  let v70 : BitVec 32 := Scalar.extui v69
  let c0_i32_36 : BitVec 32 := 0#32
  let v71 : BitVec 1 := Scalar.cmpi .slt v67 c0_i32_36
  let v72 : BitVec 32 := Scalar.extui v71
  let v73 : BitVec 32 := Scalar.subi v70 v72
  let c256_i32_35 : BitVec 32 := 256#32
  let c0_i32_37 : BitVec 32 := 0#32
  let v74 : BitVec 1 := Scalar.cmpi .sgt c256_i32_35 c0_i32_37
  let v75 : BitVec 32 := Scalar.extui v74
  let c0_i32_38 : BitVec 32 := 0#32
  let v76 : BitVec 1 := Scalar.cmpi .slt c256_i32_35 c0_i32_38
  let v77 : BitVec 32 := Scalar.extui v76
  let v78 : BitVec 32 := Scalar.subi v75 v77
  let v79 : BitVec 1 := Scalar.cmpi .ne v73 v78
  let v80 : BitVec 32 := Scalar.remsi v67 c256_i32_35
  let c0_i32_39 : BitVec 32 := 0#32
  let v81 : BitVec 1 := Scalar.cmpi .ne v80 c0_i32_39
  let v82 : BitVec 1 := Scalar.andi v79 v81
  let v68 : BitVec 32 := Scalar.divsi v67 c256_i32_35
  let c1_i32_40 : BitVec 32 := 1#32
  let v83 : BitVec 32 := Scalar.subi v68 c1_i32_40
  let v84 : BitVec 32 := Scalar.select v82 v83 v68
  let v85 : BitVec 32 := Scalar.subi v84 c0_i32_42
  let c1_i32_43 : BitVec 32 := 1#32
  let v87 : BitVec 32 := Scalar.divsi v85 c1_i32_43
  let v88 : BitVec 32 := Scalar.muli v87 c1_i32_43
  let v89 : BitVec 32 := Scalar.addi c0_i32_42 v88
  let v86 : BitVec 32 := Scalar.addi c0_i32_42 v85
  let c1_i32_45 : BitVec 32 := 1#32
  ⟨v89, v86, c1_i32_45⟩
def k0_mult2 (i : grid0.Coords) (k0_t2 : Fin (k0_t2_loop i).trips) : BitVec 32 :=
  let c0_i32_42 : BitVec 32 := 0#32
  let arg1 : BitVec 32 := BitVec.ofNat 32 (i 1).val
  let c128_i32 : BitVec 32 := 128#32
  let v0 : BitVec 32 := Scalar.muli arg1 c128_i32
  let c128_i32_34 : BitVec 32 := 128#32
  let v65 : BitVec 32 := Scalar.addi v0 c128_i32_34
  let c256_i32 : BitVec 32 := 256#32
  let v66 : BitVec 32 := Scalar.addi v65 c256_i32
  let c1_i32 : BitVec 32 := 1#32
  let v67 : BitVec 32 := Scalar.subi v66 c1_i32
  let c0_i32 : BitVec 32 := 0#32
  let v69 : BitVec 1 := Scalar.cmpi .sgt v67 c0_i32
  let v70 : BitVec 32 := Scalar.extui v69
  let c0_i32_36 : BitVec 32 := 0#32
  let v71 : BitVec 1 := Scalar.cmpi .slt v67 c0_i32_36
  let v72 : BitVec 32 := Scalar.extui v71
  let v73 : BitVec 32 := Scalar.subi v70 v72
  let c256_i32_35 : BitVec 32 := 256#32
  let c0_i32_37 : BitVec 32 := 0#32
  let v74 : BitVec 1 := Scalar.cmpi .sgt c256_i32_35 c0_i32_37
  let v75 : BitVec 32 := Scalar.extui v74
  let c0_i32_38 : BitVec 32 := 0#32
  let v76 : BitVec 1 := Scalar.cmpi .slt c256_i32_35 c0_i32_38
  let v77 : BitVec 32 := Scalar.extui v76
  let v78 : BitVec 32 := Scalar.subi v75 v77
  let v79 : BitVec 1 := Scalar.cmpi .ne v73 v78
  let v80 : BitVec 32 := Scalar.remsi v67 c256_i32_35
  let c0_i32_39 : BitVec 32 := 0#32
  let v81 : BitVec 1 := Scalar.cmpi .ne v80 c0_i32_39
  let v82 : BitVec 1 := Scalar.andi v79 v81
  let v68 : BitVec 32 := Scalar.divsi v67 c256_i32_35
  let c1_i32_40 : BitVec 32 := 1#32
  let v83 : BitVec 32 := Scalar.subi v68 c1_i32_40
  let v84 : BitVec 32 := Scalar.select v82 v83 v68
  let v85 : BitVec 32 := Scalar.subi v84 c0_i32_42
  let c1_i32_43 : BitVec 32 := 1#32
  let v87 : BitVec 32 := Scalar.divsi v85 c1_i32_43
  let v88 : BitVec 32 := Scalar.muli v87 c1_i32_43
  let v89 : BitVec 32 := Scalar.addi c0_i32_42 v88
  let c1_i32_45 : BitVec 32 := 1#32
  let arg12 : BitVec 32 := Scf.iv v89 c1_i32_45 k0_t2
  let c256_i32_95 : BitVec 32 := 256#32
  let v200 : BitVec 32 := Scalar.muli arg12 c256_i32_95
  v200
def k0_off9 (i : grid0.Coords) (k0_t2 : Fin (k0_t2_loop i).trips) : Fin 3 → Nat :=
  let c0_103 : Index := 0#32
  let c0_i32_42 : BitVec 32 := 0#32
  let arg1 : BitVec 32 := BitVec.ofNat 32 (i 1).val
  let c128_i32 : BitVec 32 := 128#32
  let v0 : BitVec 32 := Scalar.muli arg1 c128_i32
  let c128_i32_34 : BitVec 32 := 128#32
  let v65 : BitVec 32 := Scalar.addi v0 c128_i32_34
  let c256_i32 : BitVec 32 := 256#32
  let v66 : BitVec 32 := Scalar.addi v65 c256_i32
  let c1_i32 : BitVec 32 := 1#32
  let v67 : BitVec 32 := Scalar.subi v66 c1_i32
  let c0_i32 : BitVec 32 := 0#32
  let v69 : BitVec 1 := Scalar.cmpi .sgt v67 c0_i32
  let v70 : BitVec 32 := Scalar.extui v69
  let c0_i32_36 : BitVec 32 := 0#32
  let v71 : BitVec 1 := Scalar.cmpi .slt v67 c0_i32_36
  let v72 : BitVec 32 := Scalar.extui v71
  let v73 : BitVec 32 := Scalar.subi v70 v72
  let c256_i32_35 : BitVec 32 := 256#32
  let c0_i32_37 : BitVec 32 := 0#32
  let v74 : BitVec 1 := Scalar.cmpi .sgt c256_i32_35 c0_i32_37
  let v75 : BitVec 32 := Scalar.extui v74
  let c0_i32_38 : BitVec 32 := 0#32
  let v76 : BitVec 1 := Scalar.cmpi .slt c256_i32_35 c0_i32_38
  let v77 : BitVec 32 := Scalar.extui v76
  let v78 : BitVec 32 := Scalar.subi v75 v77
  let v79 : BitVec 1 := Scalar.cmpi .ne v73 v78
  let v80 : BitVec 32 := Scalar.remsi v67 c256_i32_35
  let c0_i32_39 : BitVec 32 := 0#32
  let v81 : BitVec 1 := Scalar.cmpi .ne v80 c0_i32_39
  let v82 : BitVec 1 := Scalar.andi v79 v81
  let v68 : BitVec 32 := Scalar.divsi v67 c256_i32_35
  let c1_i32_40 : BitVec 32 := 1#32
  let v83 : BitVec 32 := Scalar.subi v68 c1_i32_40
  let v84 : BitVec 32 := Scalar.select v82 v83 v68
  let v85 : BitVec 32 := Scalar.subi v84 c0_i32_42
  let c1_i32_43 : BitVec 32 := 1#32
  let v87 : BitVec 32 := Scalar.divsi v85 c1_i32_43
  let v88 : BitVec 32 := Scalar.muli v87 c1_i32_43
  let v89 : BitVec 32 := Scalar.addi c0_i32_42 v88
  let c1_i32_45 : BitVec 32 := 1#32
  let arg12 : BitVec 32 := Scf.iv v89 c1_i32_45 k0_t2
  let c256_i32_95 : BitVec 32 := 256#32
  let v200 : BitVec 32 := Scalar.muli arg12 c256_i32_95
  let v201 : BitVec 32 := v200
  let v221 : Index := Scalar.indexCast v201
  let c0_104 : Index := 0#32
  ![0, v221.toNat, 0]
def k0_off10 (i : grid0.Coords) (k0_t2 : Fin (k0_t2_loop i).trips) : Fin 4 → Nat :=
  let arg1 : BitVec 32 := BitVec.ofNat 32 (i 1).val
  let c128_i32 : BitVec 32 := 128#32
  let v0 : BitVec 32 := Scalar.muli arg1 c128_i32
  let c0_i32_42 : BitVec 32 := 0#32
  let c128_i32_34 : BitVec 32 := 128#32
  let v65 : BitVec 32 := Scalar.addi v0 c128_i32_34
  let c256_i32 : BitVec 32 := 256#32
  let v66 : BitVec 32 := Scalar.addi v65 c256_i32
  let c1_i32 : BitVec 32 := 1#32
  let v67 : BitVec 32 := Scalar.subi v66 c1_i32
  let c0_i32 : BitVec 32 := 0#32
  let v69 : BitVec 1 := Scalar.cmpi .sgt v67 c0_i32
  let v70 : BitVec 32 := Scalar.extui v69
  let c0_i32_36 : BitVec 32 := 0#32
  let v71 : BitVec 1 := Scalar.cmpi .slt v67 c0_i32_36
  let v72 : BitVec 32 := Scalar.extui v71
  let v73 : BitVec 32 := Scalar.subi v70 v72
  let c256_i32_35 : BitVec 32 := 256#32
  let c0_i32_37 : BitVec 32 := 0#32
  let v74 : BitVec 1 := Scalar.cmpi .sgt c256_i32_35 c0_i32_37
  let v75 : BitVec 32 := Scalar.extui v74
  let c0_i32_38 : BitVec 32 := 0#32
  let v76 : BitVec 1 := Scalar.cmpi .slt c256_i32_35 c0_i32_38
  let v77 : BitVec 32 := Scalar.extui v76
  let v78 : BitVec 32 := Scalar.subi v75 v77
  let v79 : BitVec 1 := Scalar.cmpi .ne v73 v78
  let v80 : BitVec 32 := Scalar.remsi v67 c256_i32_35
  let c0_i32_39 : BitVec 32 := 0#32
  let v81 : BitVec 1 := Scalar.cmpi .ne v80 c0_i32_39
  let v82 : BitVec 1 := Scalar.andi v79 v81
  let v68 : BitVec 32 := Scalar.divsi v67 c256_i32_35
  let c1_i32_40 : BitVec 32 := 1#32
  let v83 : BitVec 32 := Scalar.subi v68 c1_i32_40
  let v84 : BitVec 32 := Scalar.select v82 v83 v68
  let v85 : BitVec 32 := Scalar.subi v84 c0_i32_42
  let c1_i32_43 : BitVec 32 := 1#32
  let v87 : BitVec 32 := Scalar.divsi v85 c1_i32_43
  let v88 : BitVec 32 := Scalar.muli v87 c1_i32_43
  let v89 : BitVec 32 := Scalar.addi c0_i32_42 v88
  let c1_i32_45 : BitVec 32 := 1#32
  let arg12 : BitVec 32 := Scf.iv v89 c1_i32_45 k0_t2
  let c256_i32_95 : BitVec 32 := 256#32
  let v200 : BitVec 32 := Scalar.muli arg12 c256_i32_95
  let v201 : BitVec 32 := v200
  let v202 : BitVec 32 := Scalar.subi v0 v201
  let c0_i32_97 : BitVec 32 := 0#32
  let v204 : BitVec 1 := Scalar.cmpi .sgt v202 c0_i32_97
  let v205 : BitVec 32 := Scalar.extui v204
  let c0_i32_98 : BitVec 32 := 0#32
  let v206 : BitVec 1 := Scalar.cmpi .slt v202 c0_i32_98
  let v207 : BitVec 32 := Scalar.extui v206
  let v208 : BitVec 32 := Scalar.subi v205 v207
  let c128_i32_96 : BitVec 32 := 128#32
  let c0_i32_99 : BitVec 32 := 0#32
  let v209 : BitVec 1 := Scalar.cmpi .sgt c128_i32_96 c0_i32_99
  let v210 : BitVec 32 := Scalar.extui v209
  let c0_i32_100 : BitVec 32 := 0#32
  let v211 : BitVec 1 := Scalar.cmpi .slt c128_i32_96 c0_i32_100
  let v212 : BitVec 32 := Scalar.extui v211
  let v213 : BitVec 32 := Scalar.subi v210 v212
  let v214 : BitVec 1 := Scalar.cmpi .ne v208 v213
  let v215 : BitVec 32 := Scalar.remsi v202 c128_i32_96
  let c0_i32_101 : BitVec 32 := 0#32
  let v216 : BitVec 1 := Scalar.cmpi .ne v215 c0_i32_101
  let v217 : BitVec 1 := Scalar.andi v214 v216
  let v203 : BitVec 32 := Scalar.divsi v202 c128_i32_96
  let c1_i32_102 : BitVec 32 := 1#32
  let v218 : BitVec 32 := Scalar.subi v203 c1_i32_102
  let v219 : BitVec 32 := Scalar.select v217 v218 v203
  let c3_i32 : BitVec 32 := 3#32
  let v220 : BitVec 32 := Scalar.minsi v219 c3_i32
  let v227 : Index := Scalar.indexCast v220
  let c0_107 : Index := 0#32
  let c0_108 : Index := 0#32
  let c0_109 : Index := 0#32
  ![v227.toNat, 0, 0, 0]
def k0_off11 (i : grid0.Coords) (k0_t2 : Fin (k0_t2_loop i).trips) : Fin 3 → Nat :=
  let c0_132 : Index := 0#32
  let c0_i32_42 : BitVec 32 := 0#32
  let arg1 : BitVec 32 := BitVec.ofNat 32 (i 1).val
  let c128_i32 : BitVec 32 := 128#32
  let v0 : BitVec 32 := Scalar.muli arg1 c128_i32
  let c128_i32_34 : BitVec 32 := 128#32
  let v65 : BitVec 32 := Scalar.addi v0 c128_i32_34
  let c256_i32 : BitVec 32 := 256#32
  let v66 : BitVec 32 := Scalar.addi v65 c256_i32
  let c1_i32 : BitVec 32 := 1#32
  let v67 : BitVec 32 := Scalar.subi v66 c1_i32
  let c0_i32 : BitVec 32 := 0#32
  let v69 : BitVec 1 := Scalar.cmpi .sgt v67 c0_i32
  let v70 : BitVec 32 := Scalar.extui v69
  let c0_i32_36 : BitVec 32 := 0#32
  let v71 : BitVec 1 := Scalar.cmpi .slt v67 c0_i32_36
  let v72 : BitVec 32 := Scalar.extui v71
  let v73 : BitVec 32 := Scalar.subi v70 v72
  let c256_i32_35 : BitVec 32 := 256#32
  let c0_i32_37 : BitVec 32 := 0#32
  let v74 : BitVec 1 := Scalar.cmpi .sgt c256_i32_35 c0_i32_37
  let v75 : BitVec 32 := Scalar.extui v74
  let c0_i32_38 : BitVec 32 := 0#32
  let v76 : BitVec 1 := Scalar.cmpi .slt c256_i32_35 c0_i32_38
  let v77 : BitVec 32 := Scalar.extui v76
  let v78 : BitVec 32 := Scalar.subi v75 v77
  let v79 : BitVec 1 := Scalar.cmpi .ne v73 v78
  let v80 : BitVec 32 := Scalar.remsi v67 c256_i32_35
  let c0_i32_39 : BitVec 32 := 0#32
  let v81 : BitVec 1 := Scalar.cmpi .ne v80 c0_i32_39
  let v82 : BitVec 1 := Scalar.andi v79 v81
  let v68 : BitVec 32 := Scalar.divsi v67 c256_i32_35
  let c1_i32_40 : BitVec 32 := 1#32
  let v83 : BitVec 32 := Scalar.subi v68 c1_i32_40
  let v84 : BitVec 32 := Scalar.select v82 v83 v68
  let v85 : BitVec 32 := Scalar.subi v84 c0_i32_42
  let c1_i32_43 : BitVec 32 := 1#32
  let v87 : BitVec 32 := Scalar.divsi v85 c1_i32_43
  let v88 : BitVec 32 := Scalar.muli v87 c1_i32_43
  let v89 : BitVec 32 := Scalar.addi c0_i32_42 v88
  let c1_i32_45 : BitVec 32 := 1#32
  let arg12 : BitVec 32 := Scf.iv v89 c1_i32_45 k0_t2
  let c256_i32_95 : BitVec 32 := 256#32
  let v200 : BitVec 32 := Scalar.muli arg12 c256_i32_95
  let v201 : BitVec 32 := v200
  let v266 : Index := Scalar.indexCast v201
  let c128_133 : Index := 128#32
  ![0, v266.toNat, 128]
def k0_off12 (i : grid0.Coords) (k0_t2 : Fin (k0_t2_loop i).trips) : Fin 4 → Nat :=
  let arg1 : BitVec 32 := BitVec.ofNat 32 (i 1).val
  let c128_i32 : BitVec 32 := 128#32
  let v0 : BitVec 32 := Scalar.muli arg1 c128_i32
  let c0_i32_42 : BitVec 32 := 0#32
  let c128_i32_34 : BitVec 32 := 128#32
  let v65 : BitVec 32 := Scalar.addi v0 c128_i32_34
  let c256_i32 : BitVec 32 := 256#32
  let v66 : BitVec 32 := Scalar.addi v65 c256_i32
  let c1_i32 : BitVec 32 := 1#32
  let v67 : BitVec 32 := Scalar.subi v66 c1_i32
  let c0_i32 : BitVec 32 := 0#32
  let v69 : BitVec 1 := Scalar.cmpi .sgt v67 c0_i32
  let v70 : BitVec 32 := Scalar.extui v69
  let c0_i32_36 : BitVec 32 := 0#32
  let v71 : BitVec 1 := Scalar.cmpi .slt v67 c0_i32_36
  let v72 : BitVec 32 := Scalar.extui v71
  let v73 : BitVec 32 := Scalar.subi v70 v72
  let c256_i32_35 : BitVec 32 := 256#32
  let c0_i32_37 : BitVec 32 := 0#32
  let v74 : BitVec 1 := Scalar.cmpi .sgt c256_i32_35 c0_i32_37
  let v75 : BitVec 32 := Scalar.extui v74
  let c0_i32_38 : BitVec 32 := 0#32
  let v76 : BitVec 1 := Scalar.cmpi .slt c256_i32_35 c0_i32_38
  let v77 : BitVec 32 := Scalar.extui v76
  let v78 : BitVec 32 := Scalar.subi v75 v77
  let v79 : BitVec 1 := Scalar.cmpi .ne v73 v78
  let v80 : BitVec 32 := Scalar.remsi v67 c256_i32_35
  let c0_i32_39 : BitVec 32 := 0#32
  let v81 : BitVec 1 := Scalar.cmpi .ne v80 c0_i32_39
  let v82 : BitVec 1 := Scalar.andi v79 v81
  let v68 : BitVec 32 := Scalar.divsi v67 c256_i32_35
  let c1_i32_40 : BitVec 32 := 1#32
  let v83 : BitVec 32 := Scalar.subi v68 c1_i32_40
  let v84 : BitVec 32 := Scalar.select v82 v83 v68
  let v85 : BitVec 32 := Scalar.subi v84 c0_i32_42
  let c1_i32_43 : BitVec 32 := 1#32
  let v87 : BitVec 32 := Scalar.divsi v85 c1_i32_43
  let v88 : BitVec 32 := Scalar.muli v87 c1_i32_43
  let v89 : BitVec 32 := Scalar.addi c0_i32_42 v88
  let c1_i32_45 : BitVec 32 := 1#32
  let arg12 : BitVec 32 := Scf.iv v89 c1_i32_45 k0_t2
  let c256_i32_95 : BitVec 32 := 256#32
  let v200 : BitVec 32 := Scalar.muli arg12 c256_i32_95
  let v201 : BitVec 32 := v200
  let v202 : BitVec 32 := Scalar.subi v0 v201
  let c0_i32_97 : BitVec 32 := 0#32
  let v204 : BitVec 1 := Scalar.cmpi .sgt v202 c0_i32_97
  let v205 : BitVec 32 := Scalar.extui v204
  let c0_i32_98 : BitVec 32 := 0#32
  let v206 : BitVec 1 := Scalar.cmpi .slt v202 c0_i32_98
  let v207 : BitVec 32 := Scalar.extui v206
  let v208 : BitVec 32 := Scalar.subi v205 v207
  let c128_i32_96 : BitVec 32 := 128#32
  let c0_i32_99 : BitVec 32 := 0#32
  let v209 : BitVec 1 := Scalar.cmpi .sgt c128_i32_96 c0_i32_99
  let v210 : BitVec 32 := Scalar.extui v209
  let c0_i32_100 : BitVec 32 := 0#32
  let v211 : BitVec 1 := Scalar.cmpi .slt c128_i32_96 c0_i32_100
  let v212 : BitVec 32 := Scalar.extui v211
  let v213 : BitVec 32 := Scalar.subi v210 v212
  let v214 : BitVec 1 := Scalar.cmpi .ne v208 v213
  let v215 : BitVec 32 := Scalar.remsi v202 c128_i32_96
  let c0_i32_101 : BitVec 32 := 0#32
  let v216 : BitVec 1 := Scalar.cmpi .ne v215 c0_i32_101
  let v217 : BitVec 1 := Scalar.andi v214 v216
  let v203 : BitVec 32 := Scalar.divsi v202 c128_i32_96
  let c1_i32_102 : BitVec 32 := 1#32
  let v218 : BitVec 32 := Scalar.subi v203 c1_i32_102
  let v219 : BitVec 32 := Scalar.select v217 v218 v203
  let c3_i32 : BitVec 32 := 3#32
  let v220 : BitVec 32 := Scalar.minsi v219 c3_i32
  let v272 : Index := Scalar.indexCast v220
  let c1_136 : Index := 1#32
  let c0_137 : Index := 0#32
  let c0_138 : Index := 0#32
  ![v272.toNat, 1, 0, 0]
def k0_off13 (i : grid0.Coords) (k0_t2 : Fin (k0_t2_loop i).trips) : Fin 3 → Nat :=
  let c0_161 : Index := 0#32
  let c0_i32_42 : BitVec 32 := 0#32
  let arg1 : BitVec 32 := BitVec.ofNat 32 (i 1).val
  let c128_i32 : BitVec 32 := 128#32
  let v0 : BitVec 32 := Scalar.muli arg1 c128_i32
  let c128_i32_34 : BitVec 32 := 128#32
  let v65 : BitVec 32 := Scalar.addi v0 c128_i32_34
  let c256_i32 : BitVec 32 := 256#32
  let v66 : BitVec 32 := Scalar.addi v65 c256_i32
  let c1_i32 : BitVec 32 := 1#32
  let v67 : BitVec 32 := Scalar.subi v66 c1_i32
  let c0_i32 : BitVec 32 := 0#32
  let v69 : BitVec 1 := Scalar.cmpi .sgt v67 c0_i32
  let v70 : BitVec 32 := Scalar.extui v69
  let c0_i32_36 : BitVec 32 := 0#32
  let v71 : BitVec 1 := Scalar.cmpi .slt v67 c0_i32_36
  let v72 : BitVec 32 := Scalar.extui v71
  let v73 : BitVec 32 := Scalar.subi v70 v72
  let c256_i32_35 : BitVec 32 := 256#32
  let c0_i32_37 : BitVec 32 := 0#32
  let v74 : BitVec 1 := Scalar.cmpi .sgt c256_i32_35 c0_i32_37
  let v75 : BitVec 32 := Scalar.extui v74
  let c0_i32_38 : BitVec 32 := 0#32
  let v76 : BitVec 1 := Scalar.cmpi .slt c256_i32_35 c0_i32_38
  let v77 : BitVec 32 := Scalar.extui v76
  let v78 : BitVec 32 := Scalar.subi v75 v77
  let v79 : BitVec 1 := Scalar.cmpi .ne v73 v78
  let v80 : BitVec 32 := Scalar.remsi v67 c256_i32_35
  let c0_i32_39 : BitVec 32 := 0#32
  let v81 : BitVec 1 := Scalar.cmpi .ne v80 c0_i32_39
  let v82 : BitVec 1 := Scalar.andi v79 v81
  let v68 : BitVec 32 := Scalar.divsi v67 c256_i32_35
  let c1_i32_40 : BitVec 32 := 1#32
  let v83 : BitVec 32 := Scalar.subi v68 c1_i32_40
  let v84 : BitVec 32 := Scalar.select v82 v83 v68
  let v85 : BitVec 32 := Scalar.subi v84 c0_i32_42
  let c1_i32_43 : BitVec 32 := 1#32
  let v87 : BitVec 32 := Scalar.divsi v85 c1_i32_43
  let v88 : BitVec 32 := Scalar.muli v87 c1_i32_43
  let v89 : BitVec 32 := Scalar.addi c0_i32_42 v88
  let c1_i32_45 : BitVec 32 := 1#32
  let arg12 : BitVec 32 := Scf.iv v89 c1_i32_45 k0_t2
  let c256_i32_95 : BitVec 32 := 256#32
  let v200 : BitVec 32 := Scalar.muli arg12 c256_i32_95
  let v201 : BitVec 32 := v200
  let v311 : Index := Scalar.indexCast v201
  let c256_162 : Index := 256#32
  ![0, v311.toNat, 256]
def k0_off14 (i : grid0.Coords) (k0_t2 : Fin (k0_t2_loop i).trips) : Fin 4 → Nat :=
  let arg1 : BitVec 32 := BitVec.ofNat 32 (i 1).val
  let c128_i32 : BitVec 32 := 128#32
  let v0 : BitVec 32 := Scalar.muli arg1 c128_i32
  let c0_i32_42 : BitVec 32 := 0#32
  let c128_i32_34 : BitVec 32 := 128#32
  let v65 : BitVec 32 := Scalar.addi v0 c128_i32_34
  let c256_i32 : BitVec 32 := 256#32
  let v66 : BitVec 32 := Scalar.addi v65 c256_i32
  let c1_i32 : BitVec 32 := 1#32
  let v67 : BitVec 32 := Scalar.subi v66 c1_i32
  let c0_i32 : BitVec 32 := 0#32
  let v69 : BitVec 1 := Scalar.cmpi .sgt v67 c0_i32
  let v70 : BitVec 32 := Scalar.extui v69
  let c0_i32_36 : BitVec 32 := 0#32
  let v71 : BitVec 1 := Scalar.cmpi .slt v67 c0_i32_36
  let v72 : BitVec 32 := Scalar.extui v71
  let v73 : BitVec 32 := Scalar.subi v70 v72
  let c256_i32_35 : BitVec 32 := 256#32
  let c0_i32_37 : BitVec 32 := 0#32
  let v74 : BitVec 1 := Scalar.cmpi .sgt c256_i32_35 c0_i32_37
  let v75 : BitVec 32 := Scalar.extui v74
  let c0_i32_38 : BitVec 32 := 0#32
  let v76 : BitVec 1 := Scalar.cmpi .slt c256_i32_35 c0_i32_38
  let v77 : BitVec 32 := Scalar.extui v76
  let v78 : BitVec 32 := Scalar.subi v75 v77
  let v79 : BitVec 1 := Scalar.cmpi .ne v73 v78
  let v80 : BitVec 32 := Scalar.remsi v67 c256_i32_35
  let c0_i32_39 : BitVec 32 := 0#32
  let v81 : BitVec 1 := Scalar.cmpi .ne v80 c0_i32_39
  let v82 : BitVec 1 := Scalar.andi v79 v81
  let v68 : BitVec 32 := Scalar.divsi v67 c256_i32_35
  let c1_i32_40 : BitVec 32 := 1#32
  let v83 : BitVec 32 := Scalar.subi v68 c1_i32_40
  let v84 : BitVec 32 := Scalar.select v82 v83 v68
  let v85 : BitVec 32 := Scalar.subi v84 c0_i32_42
  let c1_i32_43 : BitVec 32 := 1#32
  let v87 : BitVec 32 := Scalar.divsi v85 c1_i32_43
  let v88 : BitVec 32 := Scalar.muli v87 c1_i32_43
  let v89 : BitVec 32 := Scalar.addi c0_i32_42 v88
  let c1_i32_45 : BitVec 32 := 1#32
  let arg12 : BitVec 32 := Scf.iv v89 c1_i32_45 k0_t2
  let c256_i32_95 : BitVec 32 := 256#32
  let v200 : BitVec 32 := Scalar.muli arg12 c256_i32_95
  let v201 : BitVec 32 := v200
  let v202 : BitVec 32 := Scalar.subi v0 v201
  let c0_i32_97 : BitVec 32 := 0#32
  let v204 : BitVec 1 := Scalar.cmpi .sgt v202 c0_i32_97
  let v205 : BitVec 32 := Scalar.extui v204
  let c0_i32_98 : BitVec 32 := 0#32
  let v206 : BitVec 1 := Scalar.cmpi .slt v202 c0_i32_98
  let v207 : BitVec 32 := Scalar.extui v206
  let v208 : BitVec 32 := Scalar.subi v205 v207
  let c128_i32_96 : BitVec 32 := 128#32
  let c0_i32_99 : BitVec 32 := 0#32
  let v209 : BitVec 1 := Scalar.cmpi .sgt c128_i32_96 c0_i32_99
  let v210 : BitVec 32 := Scalar.extui v209
  let c0_i32_100 : BitVec 32 := 0#32
  let v211 : BitVec 1 := Scalar.cmpi .slt c128_i32_96 c0_i32_100
  let v212 : BitVec 32 := Scalar.extui v211
  let v213 : BitVec 32 := Scalar.subi v210 v212
  let v214 : BitVec 1 := Scalar.cmpi .ne v208 v213
  let v215 : BitVec 32 := Scalar.remsi v202 c128_i32_96
  let c0_i32_101 : BitVec 32 := 0#32
  let v216 : BitVec 1 := Scalar.cmpi .ne v215 c0_i32_101
  let v217 : BitVec 1 := Scalar.andi v214 v216
  let v203 : BitVec 32 := Scalar.divsi v202 c128_i32_96
  let c1_i32_102 : BitVec 32 := 1#32
  let v218 : BitVec 32 := Scalar.subi v203 c1_i32_102
  let v219 : BitVec 32 := Scalar.select v217 v218 v203
  let c3_i32 : BitVec 32 := 3#32
  let v220 : BitVec 32 := Scalar.minsi v219 c3_i32
  let v317 : Index := Scalar.indexCast v220
  let c2_165 : Index := 2#32
  let c0_166 : Index := 0#32
  let c0_167 : Index := 0#32
  ![v317.toNat, 2, 0, 0]
def k0_off15 (i : grid0.Coords) (k0_t2 : Fin (k0_t2_loop i).trips) : Fin 3 → Nat :=
  let c0_190 : Index := 0#32
  let c0_i32_42 : BitVec 32 := 0#32
  let arg1 : BitVec 32 := BitVec.ofNat 32 (i 1).val
  let c128_i32 : BitVec 32 := 128#32
  let v0 : BitVec 32 := Scalar.muli arg1 c128_i32
  let c128_i32_34 : BitVec 32 := 128#32
  let v65 : BitVec 32 := Scalar.addi v0 c128_i32_34
  let c256_i32 : BitVec 32 := 256#32
  let v66 : BitVec 32 := Scalar.addi v65 c256_i32
  let c1_i32 : BitVec 32 := 1#32
  let v67 : BitVec 32 := Scalar.subi v66 c1_i32
  let c0_i32 : BitVec 32 := 0#32
  let v69 : BitVec 1 := Scalar.cmpi .sgt v67 c0_i32
  let v70 : BitVec 32 := Scalar.extui v69
  let c0_i32_36 : BitVec 32 := 0#32
  let v71 : BitVec 1 := Scalar.cmpi .slt v67 c0_i32_36
  let v72 : BitVec 32 := Scalar.extui v71
  let v73 : BitVec 32 := Scalar.subi v70 v72
  let c256_i32_35 : BitVec 32 := 256#32
  let c0_i32_37 : BitVec 32 := 0#32
  let v74 : BitVec 1 := Scalar.cmpi .sgt c256_i32_35 c0_i32_37
  let v75 : BitVec 32 := Scalar.extui v74
  let c0_i32_38 : BitVec 32 := 0#32
  let v76 : BitVec 1 := Scalar.cmpi .slt c256_i32_35 c0_i32_38
  let v77 : BitVec 32 := Scalar.extui v76
  let v78 : BitVec 32 := Scalar.subi v75 v77
  let v79 : BitVec 1 := Scalar.cmpi .ne v73 v78
  let v80 : BitVec 32 := Scalar.remsi v67 c256_i32_35
  let c0_i32_39 : BitVec 32 := 0#32
  let v81 : BitVec 1 := Scalar.cmpi .ne v80 c0_i32_39
  let v82 : BitVec 1 := Scalar.andi v79 v81
  let v68 : BitVec 32 := Scalar.divsi v67 c256_i32_35
  let c1_i32_40 : BitVec 32 := 1#32
  let v83 : BitVec 32 := Scalar.subi v68 c1_i32_40
  let v84 : BitVec 32 := Scalar.select v82 v83 v68
  let v85 : BitVec 32 := Scalar.subi v84 c0_i32_42
  let c1_i32_43 : BitVec 32 := 1#32
  let v87 : BitVec 32 := Scalar.divsi v85 c1_i32_43
  let v88 : BitVec 32 := Scalar.muli v87 c1_i32_43
  let v89 : BitVec 32 := Scalar.addi c0_i32_42 v88
  let c1_i32_45 : BitVec 32 := 1#32
  let arg12 : BitVec 32 := Scf.iv v89 c1_i32_45 k0_t2
  let c256_i32_95 : BitVec 32 := 256#32
  let v200 : BitVec 32 := Scalar.muli arg12 c256_i32_95
  let v201 : BitVec 32 := v200
  let v356 : Index := Scalar.indexCast v201
  let c384_191 : Index := 384#32
  ![0, v356.toNat, 384]
def k0_off16 (i : grid0.Coords) (k0_t2 : Fin (k0_t2_loop i).trips) : Fin 4 → Nat :=
  let arg1 : BitVec 32 := BitVec.ofNat 32 (i 1).val
  let c128_i32 : BitVec 32 := 128#32
  let v0 : BitVec 32 := Scalar.muli arg1 c128_i32
  let c0_i32_42 : BitVec 32 := 0#32
  let c128_i32_34 : BitVec 32 := 128#32
  let v65 : BitVec 32 := Scalar.addi v0 c128_i32_34
  let c256_i32 : BitVec 32 := 256#32
  let v66 : BitVec 32 := Scalar.addi v65 c256_i32
  let c1_i32 : BitVec 32 := 1#32
  let v67 : BitVec 32 := Scalar.subi v66 c1_i32
  let c0_i32 : BitVec 32 := 0#32
  let v69 : BitVec 1 := Scalar.cmpi .sgt v67 c0_i32
  let v70 : BitVec 32 := Scalar.extui v69
  let c0_i32_36 : BitVec 32 := 0#32
  let v71 : BitVec 1 := Scalar.cmpi .slt v67 c0_i32_36
  let v72 : BitVec 32 := Scalar.extui v71
  let v73 : BitVec 32 := Scalar.subi v70 v72
  let c256_i32_35 : BitVec 32 := 256#32
  let c0_i32_37 : BitVec 32 := 0#32
  let v74 : BitVec 1 := Scalar.cmpi .sgt c256_i32_35 c0_i32_37
  let v75 : BitVec 32 := Scalar.extui v74
  let c0_i32_38 : BitVec 32 := 0#32
  let v76 : BitVec 1 := Scalar.cmpi .slt c256_i32_35 c0_i32_38
  let v77 : BitVec 32 := Scalar.extui v76
  let v78 : BitVec 32 := Scalar.subi v75 v77
  let v79 : BitVec 1 := Scalar.cmpi .ne v73 v78
  let v80 : BitVec 32 := Scalar.remsi v67 c256_i32_35
  let c0_i32_39 : BitVec 32 := 0#32
  let v81 : BitVec 1 := Scalar.cmpi .ne v80 c0_i32_39
  let v82 : BitVec 1 := Scalar.andi v79 v81
  let v68 : BitVec 32 := Scalar.divsi v67 c256_i32_35
  let c1_i32_40 : BitVec 32 := 1#32
  let v83 : BitVec 32 := Scalar.subi v68 c1_i32_40
  let v84 : BitVec 32 := Scalar.select v82 v83 v68
  let v85 : BitVec 32 := Scalar.subi v84 c0_i32_42
  let c1_i32_43 : BitVec 32 := 1#32
  let v87 : BitVec 32 := Scalar.divsi v85 c1_i32_43
  let v88 : BitVec 32 := Scalar.muli v87 c1_i32_43
  let v89 : BitVec 32 := Scalar.addi c0_i32_42 v88
  let c1_i32_45 : BitVec 32 := 1#32
  let arg12 : BitVec 32 := Scf.iv v89 c1_i32_45 k0_t2
  let c256_i32_95 : BitVec 32 := 256#32
  let v200 : BitVec 32 := Scalar.muli arg12 c256_i32_95
  let v201 : BitVec 32 := v200
  let v202 : BitVec 32 := Scalar.subi v0 v201
  let c0_i32_97 : BitVec 32 := 0#32
  let v204 : BitVec 1 := Scalar.cmpi .sgt v202 c0_i32_97
  let v205 : BitVec 32 := Scalar.extui v204
  let c0_i32_98 : BitVec 32 := 0#32
  let v206 : BitVec 1 := Scalar.cmpi .slt v202 c0_i32_98
  let v207 : BitVec 32 := Scalar.extui v206
  let v208 : BitVec 32 := Scalar.subi v205 v207
  let c128_i32_96 : BitVec 32 := 128#32
  let c0_i32_99 : BitVec 32 := 0#32
  let v209 : BitVec 1 := Scalar.cmpi .sgt c128_i32_96 c0_i32_99
  let v210 : BitVec 32 := Scalar.extui v209
  let c0_i32_100 : BitVec 32 := 0#32
  let v211 : BitVec 1 := Scalar.cmpi .slt c128_i32_96 c0_i32_100
  let v212 : BitVec 32 := Scalar.extui v211
  let v213 : BitVec 32 := Scalar.subi v210 v212
  let v214 : BitVec 1 := Scalar.cmpi .ne v208 v213
  let v215 : BitVec 32 := Scalar.remsi v202 c128_i32_96
  let c0_i32_101 : BitVec 32 := 0#32
  let v216 : BitVec 1 := Scalar.cmpi .ne v215 c0_i32_101
  let v217 : BitVec 1 := Scalar.andi v214 v216
  let v203 : BitVec 32 := Scalar.divsi v202 c128_i32_96
  let c1_i32_102 : BitVec 32 := 1#32
  let v218 : BitVec 32 := Scalar.subi v203 c1_i32_102
  let v219 : BitVec 32 := Scalar.select v217 v218 v203
  let c3_i32 : BitVec 32 := 3#32
  let v220 : BitVec 32 := Scalar.minsi v219 c3_i32
  let v362 : Index := Scalar.indexCast v220
  let c3_194 : Index := 3#32
  let c0_195 : Index := 0#32
  let c0_196 : Index := 0#32
  ![v362.toNat, 3, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x8192x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S4x4x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S1 : Shape := ⟨1, ![1]⟩
abbrev S16384x512 : Shape := ⟨2, ![16384, 512]⟩
abbrev S32x12 : Shape := ⟨2, ![32, 12]⟩
abbrev S128 : Shape := ⟨1, ![128]⟩
abbrev S2x8192x4x2x64 : Shape := ⟨5, ![2, 8192, 4, 2, 64]⟩
abbrev S2x8192x4x128 : Shape := ⟨4, ![2, 8192, 4, 128]⟩
abbrev S_ : Shape := ⟨0, ![]⟩
abbrev S2x4x2x8192x8192 : Shape := ⟨5, ![2, 4, 2, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S32x4 : Shape := ⟨2, ![32, 4]⟩
abbrev S8192x8192x1 : Shape := ⟨3, ![8192, 8192, 1]⟩
abbrev S8192x8192x4 : Shape := ⟨3, ![8192, 8192, 4]⟩
abbrev S4x8192x8192 : Shape := ⟨3, ![4, 8192, 8192]⟩
abbrev S1x4x1x8192x8192 : Shape := ⟨5, ![1, 4, 1, 8192, 8192]⟩
abbrev S1x1x1x8192x8192 : Shape := ⟨5, ![1, 1, 1, 8192, 8192]⟩
abbrev S2x4x2x8192 : Shape := ⟨4, ![2, 4, 2, 8192]⟩
abbrev S2x4x2x8192x1 : Shape := ⟨5, ![2, 4, 2, 8192, 1]⟩
abbrev S2x4x1x8192x8192 : Shape := ⟨5, ![2, 4, 1, 8192, 8192]⟩
abbrev S2x4x8192x8192 : Shape := ⟨4, ![2, 4, 8192, 8192]⟩
abbrev S1x1x1x1 : Shape := ⟨4, ![1, 1, 1, 1]⟩
abbrev S2x4x128x8192 : Shape := ⟨4, ![2, 4, 128, 8192]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S2x8192x512 : Shape := ⟨3, ![2, 8192, 512]⟩

abbrev nBuf : Space → Nat
  | .hbm => 135
  | .vmem => 0
  | .smem => 0
  | _ => 0

abbrev hbmTy0_0 (i : Nat) : BufTy := match i % 128 with
  | 0 => ⟨S1, .f32⟩
  | 1 => ⟨S16384x512, .bf16⟩
  | 2 => ⟨S16384x512, .bf16⟩
  | 3 => ⟨S16384x512, .bf16⟩
  | 4 => ⟨S32x12, .f32⟩
  | 5 => ⟨S128, .f32⟩
  | 6 => ⟨S16384x512, .f32⟩
  | 7 => ⟨S2x8192x4x2x64, .f32⟩
  | 8 => ⟨S16384x512, .f32⟩
  | 9 => ⟨S2x8192x4x2x64, .f32⟩
  | 10 => ⟨S16384x512, .f32⟩
  | 11 => ⟨S2x8192x4x128, .f32⟩
  | 12 => ⟨S_, .f32⟩
  | 13 => ⟨S2x8192x4x2x64, .f32⟩
  | 14 => ⟨S2x8192x4x2x64, .f32⟩
  | 15 => ⟨S2x4x2x8192x8192, .f32⟩
  | 16 => ⟨S8192, .i32⟩
  | 17 => ⟨S8192x1, .i32⟩
  | 18 => ⟨S1x8192, .i32⟩
  | 19 => ⟨S8192x8192, .i32⟩
  | 20 => ⟨S8192x8192, .i32⟩
  | 21 => ⟨S8192x8192, .i32⟩
  | 22 => ⟨S32x4, .f32⟩
  | 23 => ⟨S_, .i32⟩
  | 24 => ⟨S8192x8192, .i32⟩
  | 25 => ⟨S8192x8192, .i32⟩
  | 26 => ⟨S_, .i32⟩
  | 27 => ⟨S8192x8192, .i32⟩
  | 28 => ⟨S8192x8192, .i32⟩
  | 29 => ⟨S8192x8192, .f32⟩
  | 30 => ⟨S_, .f32⟩
  | 31 => ⟨S8192x8192, .f32⟩
  | 32 => ⟨S8192x8192, .f32⟩
  | 33 => ⟨S8192x8192, .f32⟩
  | 34 => ⟨S_, .f32⟩
  | 35 => ⟨S8192x8192, .f32⟩
  | 36 => ⟨S8192x8192, .f32⟩
  | 37 => ⟨S_, .f32⟩
  | 38 => ⟨S8192x8192, .f32⟩
  | 39 => ⟨S8192x8192, .f32⟩
  | 40 => ⟨S8192x8192, .i32⟩
  | 41 => ⟨S_, .i32⟩
  | 42 => ⟨S8192x8192, .i32⟩
  | 43 => ⟨S8192x8192, .i32⟩
  | 44 => ⟨S_, .i32⟩
  | 45 => ⟨S8192x8192, .i32⟩
  | 46 => ⟨S8192x8192, .i1⟩
  | 47 => ⟨S_, .i32⟩
  | 48 => ⟨S8192x8192, .i32⟩
  | 49 => ⟨S8192x8192, .i32⟩
  | 50 => ⟨S8192x8192, .i32⟩
  | 51 => ⟨S_, .i32⟩
  | 52 => ⟨S8192x8192, .i32⟩
  | 53 => ⟨S8192x8192, .i1⟩
  | 54 => ⟨S_, .i32⟩
  | 55 => ⟨S8192x8192, .i32⟩
  | 56 => ⟨S8192x8192, .i32⟩
  | 57 => ⟨S8192x8192, .i32⟩
  | 58 => ⟨S8192x8192x1, .i32⟩
  | 59 => ⟨S8192x8192x4, .f32⟩
  | 60 => ⟨S4x8192x8192, .f32⟩
  | 61 => ⟨S1x4x1x8192x8192, .f32⟩
  | 62 => ⟨S2x4x2x8192x8192, .f32⟩
  | 63 => ⟨S2x4x2x8192x8192, .f32⟩
  | 64 => ⟨S_, .i32⟩
  | 65 => ⟨S8192x8192, .i32⟩
  | 66 => ⟨S8192x8192, .i1⟩
  | 67 => ⟨S1x1x1x8192x8192, .i1⟩
  | 68 => ⟨S_, .f32⟩
  | 69 => ⟨S_, .f32⟩
  | 70 => ⟨S2x4x2x8192x8192, .i1⟩
  | 71 => ⟨S2x4x2x8192x8192, .f32⟩
  | 72 => ⟨S2x4x2x8192x8192, .f32⟩
  | 73 => ⟨S_, .f32⟩
  | 74 => ⟨S2x4x2x8192, .f32⟩
  | 75 => ⟨S2x4x2x8192x1, .f32⟩
  | 76 => ⟨S2x4x2x8192x1, .f32⟩
  | 77 => ⟨S_, .f32⟩
  | 78 => ⟨S2x4x2x8192x1, .f32⟩
  | 79 => ⟨S2x4x2x8192x1, .i1⟩
  | 80 => ⟨S_, .f32⟩
  | 81 => ⟨S_, .f32⟩
  | 82 => ⟨S2x4x2x8192x1, .f32⟩
  | 83 => ⟨S2x4x2x8192x1, .f32⟩
  | 84 => ⟨S2x4x2x8192x8192, .f32⟩
  | 85 => ⟨S2x4x2x8192x8192, .f32⟩
  | 86 => ⟨S2x4x2x8192x8192, .f32⟩
  | 87 => ⟨S_, .f32⟩
  | 88 => ⟨S_, .f32⟩
  | 89 => ⟨S2x4x2x8192x8192, .i1⟩
  | 90 => ⟨S2x4x2x8192x8192, .f32⟩
  | 91 => ⟨S2x4x2x8192x8192, .f32⟩
  | 92 => ⟨S_, .f32⟩
  | 93 => ⟨S2x4x2x8192, .f32⟩
  | 94 => ⟨S2x4x2x8192x1, .f32⟩
  | 95 => ⟨S_, .f32⟩
  | 96 => ⟨S2x4x2x8192x1, .f32⟩
  | 97 => ⟨S2x4x2x8192x1, .i1⟩
  | 98 => ⟨S_, .f32⟩
  | 99 => ⟨S_, .f32⟩
  | 100 => ⟨S2x4x2x8192x1, .f32⟩
  | 101 => ⟨S2x4x2x8192x1, .f32⟩
  | 102 => ⟨S2x4x2x8192x8192, .f32⟩
  | 103 => ⟨S2x4x2x8192x8192, .f32⟩
  | 104 => ⟨S2x4x1x8192x8192, .f32⟩
  | 105 => ⟨S2x4x8192x8192, .f32⟩
  | 106 => ⟨S2x4x1x8192x8192, .f32⟩
  | 107 => ⟨S2x4x8192x8192, .f32⟩
  | 108 => ⟨S1x1x1x1, .f32⟩
  | 109 => ⟨S2x4x8192x8192, .f32⟩
  | 110 => ⟨S2x4x8192x8192, .f32⟩
  | 111 => ⟨S2x4x8192x8192, .f32⟩
  | 112 => ⟨S2x4x128x8192, .f32⟩
  | 113 => ⟨S2x8192x4x128, .f32⟩
  | 114 => ⟨S2x8192x4x128, .f32⟩
  | 115 => ⟨S_, .f32⟩
  | 116 => ⟨S2x8192x4, .f32⟩
  | 117 => ⟨S2x8192x4x1, .f32⟩
  | 118 => ⟨S_, .f32⟩
  | 119 => ⟨S2x8192x4x1, .f32⟩
  | 120 => ⟨S2x8192x4x1, .f32⟩
  | 121 => ⟨S_, .f32⟩
  | 122 => ⟨S2x8192x4x1, .f32⟩
  | 123 => ⟨S2x8192x4x1, .f32⟩
  | 124 => ⟨S2x8192x4x1, .f32⟩
  | 125 => ⟨S2x8192x4x128, .f32⟩
  | 126 => ⟨S2x8192x4x128, .f32⟩
  | 127 => ⟨S1x1x1x128, .f32⟩
  | _ => ⟨S1, .f32⟩

abbrev hbmTy0_1 (i : Nat) : BufTy := match i % 128 with
  | 0 => ⟨S2x8192x4x128, .f32⟩
  | 1 => ⟨S2x8192x4x128, .f32⟩
  | 2 => ⟨S_, .f32⟩
  | 3 => ⟨S2x8192x4x128, .f32⟩
  | 4 => ⟨S2x8192x4x128, .f32⟩
  | 5 => ⟨S2x8192x512, .f32⟩
  | 6 => ⟨S2x8192x512, .bf16⟩
  | _ => ⟨S1, .f32⟩

abbrev hbmTy (i : Nat) : BufTy := match i / 128 with
  | 0 => hbmTy0_0 i
  | 1 => hbmTy0_1 i
  | _ => ⟨S1, .f32⟩

abbrev bufTy : (tb : Table) → Fin (tcTables nBuf tb) → BufTy
  | .hbm, ⟨i, _⟩ => hbmTy i
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_v55 : Ref sig .tc := ⟨.hbm, 79, rfl⟩
abbrev main_cst_13 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_14 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v60 : Ref sig .tc := ⟨.hbm, 91, rfl⟩
abbrev main_cst_15 : Ref sig .tc := ⟨.hbm, 92, rfl⟩
abbrev main_v61 : Ref sig .tc := ⟨.hbm, 93, rfl⟩
abbrev main_v62 : Ref sig .tc := ⟨.hbm, 94, rfl⟩
abbrev main_cst_16 : Ref sig .tc := ⟨.hbm, 95, rfl⟩
abbrev main_v63 : Ref sig .tc := ⟨.hbm, 96, rfl⟩
abbrev main_v64 : Ref sig .tc := ⟨.hbm, 97, rfl⟩
abbrev main_cst_17 : Ref sig .tc := ⟨.hbm, 98, rfl⟩
abbrev main_call4_v0 : Ref sig .tc := ⟨.hbm, 99, rfl⟩
abbrev main_call4_v1 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_18 : Ref sig .tc := ⟨.hbm, 115, rfl⟩
abbrev main_v79 : Ref sig .tc := ⟨.hbm, 116, rfl⟩
abbrev main_v80 : Ref sig .tc := ⟨.hbm, 117, rfl⟩
abbrev main_cst_19 : Ref sig .tc := ⟨.hbm, 118, rfl⟩
abbrev main_v81 : Ref sig .tc := ⟨.hbm, 119, rfl⟩
abbrev main_v82 : Ref sig .tc := ⟨.hbm, 120, rfl⟩
abbrev main_cst_20 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_21 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩

abbrev nD : Nat := 1
abbrev τ : Topo := Topo.v7x

variable {F : FTy → Type} [FloatOps F]
-- ==== Kernel5.lean ====
abbrev S32x1024 : Shape := ⟨2, ![32, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S_ : Shape := ⟨0, ![]⟩
abbrev S1024x108 : Shape := ⟨2, ![1024, 108]⟩
abbrev S1024x128 : Shape := ⟨2, ![1024, 128]⟩
abbrev S1x1024x128 : Shape := ⟨3, ![1, 1024, 128]⟩
abbrev S2x1024x128 : Shape := ⟨3, ![2, 1024, 128]⟩
abbrev S108 : Shape := ⟨1, ![108]⟩
abbrev S128 : Shape := ⟨1, ![128]⟩
abbrev S1x128 : Shape := ⟨2, ![1, 128]⟩
abbrev S1024x16x256 : Shape := ⟨3, ![1024, 16, 256]⟩
abbrev S1024x4096 : Shape := ⟨2, ![1024, 4096]⟩
abbrev S4096x1024 : Shape := ⟨2, ![4096, 1024]⟩
abbrev S1x1024 : Shape := ⟨2, ![1, 1024]⟩
abbrev S32 : Shape := ⟨1, ![32]⟩
abbrev S32x1 : Shape := ⟨2, ![32, 1]⟩
abbrev S32x128 : Shape := ⟨2, ![32, 128]⟩
abbrev S1024x1024 : Shape := ⟨2, ![1024, 1024]⟩
abbrev S32x256 : Shape := ⟨2, ![32, 256]⟩

abbrev nBuf : Space → Nat
  | .hbm => 36
  | .vmem => 10
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x4, .f32⟩
  | .hbm, ⟨3, _⟩ => ⟨S4, .f32⟩
  | .hbm, ⟨4, _⟩ => ⟨S1024x16, .f32⟩
  | .hbm, ⟨5, _⟩ => ⟨S16, .f32⟩
  | .hbm, ⟨6, _⟩ => ⟨S16x1024x256, .f32⟩
  | .hbm, ⟨7, _⟩ => ⟨S16x1024x256, .f32⟩
  | .hbm, ⟨8, _⟩ => ⟨S16x256x1024, .f32⟩
  | .hbm, ⟨9, _⟩ => ⟨S1024, .f32⟩
  | .hbm, ⟨10, _⟩ => ⟨S_, .f32⟩
  | .hbm, ⟨11, _⟩ => ⟨S1024x108, .f32⟩
  | .hbm, ⟨12, _⟩ => ⟨S1024x128, .f32⟩
  | .hbm, ⟨13, _⟩ => ⟨S1024x128, .bf16⟩
  | .hbm, ⟨14, _⟩ => ⟨S1024x128, .f32⟩
  | .hbm, ⟨15, _⟩ => ⟨S1024x128, .f32⟩
  | .hbm, ⟨16, _⟩ => ⟨S1024x128, .bf16⟩
  | .hbm, ⟨17, _⟩ => ⟨S1x1024x128, .bf16⟩
  | .hbm, ⟨18, _⟩ => ⟨S1x1024x128, .bf16⟩
  | .hbm, ⟨19, _⟩ => ⟨S2x1024x128, .bf16⟩
  | .hbm, ⟨20, _⟩ => ⟨S_, .f32⟩
  | .hbm, ⟨21, _⟩ => ⟨S108, .f32⟩
  | .hbm, ⟨22, _⟩ => ⟨S128, .f32⟩
  | .hbm, ⟨23, _⟩ => ⟨S1x128, .f32⟩
  | .hbm, ⟨24, _⟩ => ⟨S1024x16x256, .f32⟩
  | .hbm, ⟨25, _⟩ => ⟨S1024x4096, .f32⟩
  | .hbm, ⟨26, _⟩ => ⟨S1024x4096, .bf16⟩
  | .hbm, ⟨27, _⟩ => ⟨S1024x16x256, .f32⟩
  | .hbm, ⟨28, _⟩ => ⟨S1024x4096, .f32⟩
  | .hbm, ⟨29, _⟩ => ⟨S1024x4096, .bf16⟩
  | .hbm, ⟨30, _⟩ => ⟨S4096x1024, .f32⟩
  | .hbm, ⟨31, _⟩ => ⟨S4096x1024, .bf16⟩
  | .hbm, ⟨32, _⟩ => ⟨S1x1024, .f32⟩
  | .hbm, ⟨33, _⟩ => ⟨S1x1024, .f32⟩
  | .hbm, ⟨34, _⟩ => ⟨S32x1024, .f32⟩
  | .hbm, ⟨35, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S2x1024x128, .bf16⟩
  | .local _ .vmem, ⟨3, _⟩ => ⟨S1x128, .f32⟩
  | .local _ .vmem, ⟨4, _⟩ => ⟨S1024x4096, .bf16⟩
  | .local _ .vmem, ⟨5, _⟩ => ⟨S1024x4096, .bf16⟩
  | .local _ .vmem, ⟨6, _⟩ => ⟨S4096x1024, .bf16⟩
  | .local _ .vmem, ⟨7, _⟩ => ⟨S1x1024, .f32⟩
  | .local _ .vmem, ⟨8, _⟩ => ⟨S32x1024, .f32⟩
  | .local _ .vmem, ⟨9, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference5Ideal.lean ====
abbrev S32x1024 : Shape := ⟨2, ![32, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x4 : Shape := ⟨2, ![32, 4]⟩
abbrev S1x4 : Shape := ⟨2, ![1, 4]⟩
abbrev S32x1x1 : Shape := ⟨3, ![32, 1, 1]⟩
abbrev S1 : Shape := ⟨1, ![1]⟩
abbrev S1x1x1 : Shape := ⟨3, ![1, 1, 1]⟩
abbrev S32x16 : Shape := ⟨2, ![32, 16]⟩
abbrev S1x16 : Shape := ⟨2, ![1, 16]⟩
abbrev S32x4x4 : Shape := ⟨3, ![32, 4, 4]⟩
abbrev S32x1x4 : Shape := ⟨3, ![32, 1, 4]⟩
abbrev S32x2 : Shape := ⟨2, ![32, 2]⟩
abbrev S32x2x1 : Shape := ⟨3, ![32, 2, 1]⟩
abbrev S1x1x16 : Shape := ⟨3, ![1, 1, 16]⟩
abbrev S32x2x16 : Shape := ⟨3, ![32, 2, 16]⟩
abbrev S32x16x256 : Shape := ⟨3, ![32, 16, 256]⟩
abbrev S32x16x1 : Shape := ⟨3, ![32, 16, 1]⟩

abbrev nBuf : Space → Nat
  | .hbm => 164
  | .vmem => 0
  | .smem => 0
  | _ => 0

abbrev hbmTy0_0 (i : Nat) : BufTy := match i % 128 with
  | 0 => ⟨S32x1024, .f32⟩
  | 1 => ⟨S1024, .f32⟩
  | 2 => ⟨S1024x4, .f32⟩
  | 3 => ⟨S4, .f32⟩
  | 4 => ⟨S1024x16, .f32⟩
  | 5 => ⟨S16, .f32⟩
  | 6 => ⟨S16x1024x256, .f32⟩
  | 7 => ⟨S16x1024x256, .f32⟩
  | 8 => ⟨S16x256x1024, .f32⟩
  | 9 => ⟨S1024, .f32⟩
  | 10 => ⟨S32x1024, .f32⟩
  | 11 => ⟨S_, .f32⟩
  | 12 => ⟨S32, .f32⟩
  | 13 => ⟨S32x1, .f32⟩
  | 14 => ⟨S_, .f32⟩
  | 15 => ⟨S32x1, .f32⟩
  | 16 => ⟨S32x1, .f32⟩
  | 17 => ⟨S_, .f32⟩
  | 18 => ⟨S32x1, .f32⟩
  | 19 => ⟨S32x1, .f32⟩
  | 20 => ⟨S32x1, .f32⟩
  | 21 => ⟨S32x1024, .f32⟩
  | 22 => ⟨S32x1024, .f32⟩
  | 23 => ⟨S1x1024, .f32⟩
  | 24 => ⟨S32x1024, .f32⟩
  | 25 => ⟨S32x1024, .f32⟩
  | 26 => ⟨S32x4, .f32⟩
  | 27 => ⟨S1x4, .f32⟩
  | 28 => ⟨S32x4, .f32⟩
  | 29 => ⟨S32x4, .f32⟩
  | 30 => ⟨S_, .f32⟩
  | 31 => ⟨S32, .f32⟩
  | 32 => ⟨S_, .f32⟩
  | 33 => ⟨S32, .f32⟩
  | 34 => ⟨S32, .f32⟩
  | 35 => ⟨S32x1, .f32⟩
  | 36 => ⟨S32x4, .f32⟩
  | 37 => ⟨S32x4, .f32⟩
  | 38 => ⟨S32x4, .f32⟩
  | 39 => ⟨S_, .f32⟩
  | 40 => ⟨S32, .f32⟩
  | 41 => ⟨S32x1, .f32⟩
  | 42 => ⟨S32x4, .f32⟩
  | 43 => ⟨S32x4, .f32⟩
  | 44 => ⟨S32x1, .f32⟩
  | 45 => ⟨S32x1, .i32⟩
  | 46 => ⟨S_, .i32⟩
  | 47 => ⟨S32x1, .i32⟩
  | 48 => ⟨S32x1, .i1⟩
  | 49 => ⟨S_, .i32⟩
  | 50 => ⟨S32x1, .i32⟩
  | 51 => ⟨S32x1, .i32⟩
  | 52 => ⟨S32x1, .i32⟩
  | 53 => ⟨S32x1x1, .i32⟩
  | 54 => ⟨S1, .i32⟩
  | 55 => ⟨S_, .i32⟩
  | 56 => ⟨S32x1x1, .i32⟩
  | 57 => ⟨S32x1x1, .i1⟩
  | 58 => ⟨S1x1x1, .i32⟩
  | 59 => ⟨S32x1x1, .i32⟩
  | 60 => ⟨S32x1x1, .i1⟩
  | 61 => ⟨S32x1x1, .i1⟩
  | 62 => ⟨S_, .i1⟩
  | 63 => ⟨S32x1, .i1⟩
  | 64 => ⟨S32x1, .f32⟩
  | 65 => ⟨S_, .f32⟩
  | 66 => ⟨S32x1, .f32⟩
  | 67 => ⟨S32x1, .f32⟩
  | 68 => ⟨S32x16, .f32⟩
  | 69 => ⟨S1x16, .f32⟩
  | 70 => ⟨S32x16, .f32⟩
  | 71 => ⟨S32x16, .f32⟩
  | 72 => ⟨S32x4x4, .f32⟩
  | 73 => ⟨S32x1x1, .i32⟩
  | 74 => ⟨S_, .i32⟩
  | 75 => ⟨S32x1x1, .i32⟩
  | 76 => ⟨S32x1x1, .i1⟩
  | 77 => ⟨S_, .i32⟩
  | 78 => ⟨S32x1x1, .i32⟩
  | 79 => ⟨S32x1x1, .i32⟩
  | 80 => ⟨S32x1x1, .i32⟩
  | 81 => ⟨S1, .i32⟩
  | 82 => ⟨S_, .i32⟩
  | 83 => ⟨S32x1x1, .i32⟩
  | 84 => ⟨S32x1x1, .i1⟩
  | 85 => ⟨S1x1x1, .i32⟩
  | 86 => ⟨S32x1x1, .i32⟩
  | 87 => ⟨S32x1x1, .i1⟩
  | 88 => ⟨S32x1x1, .i1⟩
  | 89 => ⟨S_, .i1⟩
  | 90 => ⟨S32x1, .i1⟩
  | 91 => ⟨S32x1x4, .f32⟩
  | 92 => ⟨S32x1x4, .i1⟩
  | 93 => ⟨S_, .f32⟩
  | 94 => ⟨S32x1x4, .f32⟩
  | 95 => ⟨S32x1x4, .f32⟩
  | 96 => ⟨S32x4, .f32⟩
  | 97 => ⟨S32x2, .f32⟩
  | 98 => ⟨S32x2, .i32⟩
  | 99 => ⟨S_, .f32⟩
  | 100 => ⟨S32, .f32⟩
  | 101 => ⟨S_, .f32⟩
  | 102 => ⟨S32, .f32⟩
  | 103 => ⟨S32, .f32⟩
  | 104 => ⟨S32x1, .f32⟩
  | 105 => ⟨S32x2, .f32⟩
  | 106 => ⟨S32x2, .f32⟩
  | 107 => ⟨S32x2, .f32⟩
  | 108 => ⟨S_, .f32⟩
  | 109 => ⟨S32, .f32⟩
  | 110 => ⟨S32x1, .f32⟩
  | 111 => ⟨S32x2, .f32⟩
  | 112 => ⟨S32x2, .f32⟩
  | 113 => ⟨S32x2, .f32⟩
  | 114 => ⟨S32x2, .f32⟩
  | 115 => ⟨S_, .i32⟩
  | 116 => ⟨S32x1, .i32⟩
  | 117 => ⟨S32x1, .i32⟩
  | 118 => ⟨S32x2, .i32⟩
  | 119 => ⟨S32x2, .i32⟩
  | 120 => ⟨S32x2x1, .i32⟩
  | 121 => ⟨S1x1x16, .i32⟩
  | 122 => ⟨S32x2x16, .i32⟩
  | 123 => ⟨S32x2x16, .i32⟩
  | 124 => ⟨S32x2x16, .i1⟩
  | 125 => ⟨S32x2x16, .f32⟩
  | 126 => ⟨S32x2x1, .f32⟩
  | 127 => ⟨S32x2x16, .f32⟩
  | _ => ⟨S32x1024, .f32⟩

abbrev hbmTy0_1 (i : Nat) : BufTy := match i % 128 with
  | 0 => ⟨S32x2x16, .f32⟩
  | 1 => ⟨S_, .f32⟩
  | 2 => ⟨S32x16, .f32⟩
  | 3 => ⟨S32x16x256, .f32⟩
  | 4 => ⟨S32x16x256, .f32⟩
  | 5 => ⟨S32x16x256, .f32⟩
  | 6 => ⟨S32x16x256, .f32⟩
  | 7 => ⟨S_, .f32⟩
  | 8 => ⟨S32x16x256, .f32⟩
  | 9 => ⟨S32x16x256, .f32⟩
  | 10 => ⟨S_, .f32⟩
  | 11 => ⟨S32x16x256, .f32⟩
  | 12 => ⟨S32x16x256, .f32⟩
  | 13 => ⟨S32x16x256, .f32⟩
  | 14 => ⟨S32x16x256, .f32⟩
  | 15 => ⟨S32x16x1, .f32⟩
  | 16 => ⟨S32x16x256, .f32⟩
  | 17 => ⟨S32x16x256, .f32⟩
  | 18 => ⟨S32x1024, .f32⟩
  | 19 => ⟨S32x1024, .f32⟩
  | 20 => ⟨S32x1024, .f32⟩
  | 21 => ⟨S_, .f32⟩
  | 22 => ⟨S32, .f32⟩
  | 23 => ⟨S32x1, .f32⟩
  | 24 => ⟨S_, .f32⟩
  | 25 => ⟨S32x1, .f32⟩
  | 26 => ⟨S32x1, .f32⟩
  | 27 => ⟨S_, .f32⟩
  | 28 => ⟨S32x1, .f32⟩
  | 29 => ⟨S32x1, .f32⟩
  | 30 => ⟨S32x1, .f32⟩
  | 31 => ⟨S32x1024, .f32⟩
  | 32 => ⟨S32x1024, .f32⟩
  | 33 => ⟨S1x1024, .f32⟩
  | 34 => ⟨S32x1024, .f32⟩
  | 35 => ⟨S32x1024, .f32⟩
  | _ => ⟨S32x1024, .f32⟩

abbrev hbmTy (i : Nat) : BufTy := match i / 128 with
  | 0 => hbmTy0_0 i
  | 1 => hbmTy0_1 i
  | _ => ⟨S32x1024, .f32⟩

abbrev bufTy : (tb : Table) → Fin (tcTables nBuf tb) → BufTy
  | .hbm, ⟨i, _⟩ => hbmTy i
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_values : Ref sig .tc := ⟨.hbm, 44, rfl⟩
abbrev main_indices : Ref sig .tc := ⟨.hbm, 45, rfl⟩
abbrev main_call0_c : Ref sig .tc := ⟨.hbm, 46, rfl⟩
abbrev main_call0_v0 : Ref sig .tc := ⟨.hbm, 47, rfl⟩
abbrev main_call0_v1 : Ref sig .tc := ⟨.hbm, 48, rfl⟩
abbrev main_call0_c_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_c_1 : Ref sig .tc := ⟨.hbm, 54, rfl⟩
abbrev main_call0_c_2 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_3 : Ref sig .tc := ⟨.hbm, 62, rfl⟩
abbrev main_call0_v12 : Ref sig .tc := ⟨.hbm, 63, rfl⟩
abbrev main_call0_v13 : Ref sig .tc := ⟨.hbm, 64, rfl⟩
abbrev main_call0_cst : Ref sig .tc := ⟨.hbm, 65, rfl⟩
abbrev main_call0_v14 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_call1_c : Ref sig .tc := ⟨.hbm, 74, rfl⟩
abbrev main_call1_v0 : Ref sig .tc := ⟨.hbm, 75, rfl⟩
abbrev main_call1_v1 : Ref sig .tc := ⟨.hbm, 76, rfl⟩
abbrev main_call1_c_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_c_1 : Ref sig .tc := ⟨.hbm, 81, rfl⟩
abbrev main_call1_c_2 : Ref sig .tc := ⟨.hbm, 82, rfl⟩
abbrev main_call1_v5 : Ref sig .tc := ⟨.hbm, 83, rfl⟩
abbrev main_call1_v6 : Ref sig .tc := ⟨.hbm, 84, rfl⟩
abbrev main_call1_v7 : Ref sig .tc := ⟨.hbm, 85, rfl⟩
abbrev main_call1_v8 : Ref sig .tc := ⟨.hbm, 86, rfl⟩
abbrev main_call1_v9 : Ref sig .tc := ⟨.hbm, 87, rfl⟩
abbrev main_call1_v10 : Ref sig .tc := ⟨.hbm, 88, rfl⟩
abbrev main_call1_c_3 : Ref sig .tc := ⟨.hbm, 89, rfl⟩
abbrev main_call1_v11 : Ref sig .tc := ⟨.hbm, 90, rfl⟩
abbrev main_call1_v12 : Ref sig .tc := ⟨.hbm, 91, rfl⟩
abbrev main_call1_v13 : Ref sig .tc := ⟨.hbm, 92, rfl⟩
abbrev main_call1_cst : Ref sig .tc := ⟨.hbm, 93, rfl⟩
abbrev main_call1_v14 : Ref sig .tc := ⟨.hbm, 94, rfl⟩
abbrev main_v35 : Ref sig .tc := ⟨.hbm, 95, rfl⟩
abbrev main_v36 : Ref sig .tc := ⟨.hbm, 96, rfl⟩
abbrev main_values_5 : Ref sig .tc := ⟨.hbm, 97, rfl⟩
abbrev main_indices_6 : Ref sig .tc := ⟨.hbm, 98, rfl⟩
abbrev main_cst_7 : Ref sig .tc := ⟨.hbm, 99, rfl⟩
abbrev main_v37 : Ref sig .tc := ⟨.hbm, 100, rfl⟩
abbrev main_cst_8 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_cst_9 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_c : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_call2_v0 : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_cst_10 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_call3_v0 : Ref sig .tc := ⟨.hbm, 133, rfl⟩
abbrev main_call3_v1 : Ref sig .tc := ⟨.hbm, 134, rfl⟩
abbrev main_call3_cst : Ref sig .tc := ⟨.hbm, 135, rfl⟩
abbrev main_call3_v2 : Ref sig .tc := ⟨.hbm, 136, rfl⟩
abbrev main_call3_v3 : Ref sig .tc := ⟨.hbm, 137, rfl⟩
abbrev main_call3_cst_0 : Ref sig .tc := ⟨.hbm, 138, rfl⟩
abbrev main_call3_v4 : Ref sig .tc := ⟨.hbm, 139, rfl⟩
abbrev main_call3_v5 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_cst_11 : Ref sig .tc := ⟨.hbm, 149, rfl⟩
abbrev main_v69 : Ref sig .tc := ⟨.hbm, 150, rfl⟩
abbrev main_v70 : Ref sig .tc := ⟨.hbm, 151, rfl⟩
abbrev main_cst_12 : Ref sig .tc := ⟨.hbm, 152, rfl⟩
abbrev main_v71 : Ref sig .tc := ⟨.hbm, 153, rfl⟩
abbrev main_v72 : Ref sig .tc := ⟨.hbm, 154, rfl⟩
abbrev main_cst_13 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩

abbrev nD : Nat := 1
abbrev τ : Topo := Topo.v7x

variable {F : FTy → Type} [FloatOps F]
-- ==== Kernel6.lean ====
abbrev S32x1024 : Shape := ⟨2, ![32, 1024]⟩
abbrev S1024 : Shape := ⟨1, ![1024]⟩
abbrev S1024x7960 : Shape := ⟨2, ![1024, 7960]⟩
abbrev S32x512x2x2x64 : Shape := ⟨5, ![32, 512, 2, 2, 64]⟩
abbrev S8064 : Shape := ⟨1, ![8064]⟩
abbrev S_ : Shape := ⟨0, ![]⟩
abbrev S8064x1 : Shape := ⟨2, ![8064, 1]⟩
abbrev S1 : Shape := ⟨1, ![1]⟩
abbrev S1x1 : Shape := ⟨2, ![1, 1]⟩
abbrev S1024x8064 : Shape := ⟨2, ![1024, 8064]⟩
abbrev S1x1024 : Shape := ⟨2, ![1, 1024]⟩
abbrev S32x2048 : Shape := ⟨2, ![32, 2048]⟩
abbrev S32x512 : Shape := ⟨2, ![32, 512]⟩
abbrev S32x256 : Shape := ⟨2, ![32, 256]⟩
abbrev S32x128 : Shape := ⟨2, ![32, 128]⟩
abbrev S32x3072 : Shape := ⟨2, ![32, 3072]⟩
abbrev S32 : Shape := ⟨1, ![32]⟩
abbrev S32x1 : Shape := ⟨2, ![32, 1]⟩
abbrev S1024x2048 : Shape := ⟨2, ![1024, 2048]⟩
abbrev S1024x512 : Shape := ⟨2, ![1024, 512]⟩
abbrev S1024x256 : Shape := ⟨2, ![1024, 256]⟩
abbrev S1024x128 : Shape := ⟨2, ![1024, 128]⟩
abbrev S1024x3072 : Shape := ⟨2, ![1024, 3072]⟩
abbrev S32x511x2x2x64 : Shape := ⟨5, ![32, 511, 2, 2, 64]⟩
abbrev S32x1x2x2x64 : Shape := ⟨5, ![32, 1, 2, 2, 64]⟩

abbrev nBuf : Space → Nat
  | .hbm => 51
  | .vmem => 15
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x7960, .f32⟩
  | .hbm, ⟨3, _⟩ => ⟨S32x512x2x2x64, .f32⟩
  | .hbm, ⟨4, _⟩ => ⟨S8064, .i32⟩
  | .hbm, ⟨5, _⟩ => ⟨S8064, .i1⟩
  | .hbm, ⟨6, _⟩ => ⟨S_, .i32⟩
  | .hbm, ⟨7, _⟩ => ⟨S8064, .i32⟩
  | .hbm, ⟨8, _⟩ => ⟨S8064, .i1⟩
  | .hbm, ⟨9, _⟩ => ⟨S_, .i32⟩
  | .hbm, ⟨10, _⟩ => ⟨S8064, .i32⟩
  | .hbm, ⟨11, _⟩ => ⟨S8064, .i32⟩
  | .hbm, ⟨12, _⟩ => ⟨S8064, .i32⟩
  | .hbm, ⟨13, _⟩ => ⟨S8064x1, .i32⟩
  | .hbm, ⟨14, _⟩ => ⟨S1, .i32⟩
  | .hbm, ⟨15, _⟩ => ⟨S_, .i32⟩
  | .hbm, ⟨16, _⟩ => ⟨S8064x1, .i32⟩
  | .hbm, ⟨17, _⟩ => ⟨S8064x1, .i1⟩
  | .hbm, ⟨18, _⟩ => ⟨S1x1, .i32⟩
  | .hbm, ⟨19, _⟩ => ⟨S8064x1, .i32⟩
  | .hbm, ⟨20, _⟩ => ⟨S8064x1, .i1⟩
  | .hbm, ⟨21, _⟩ => ⟨S8064x1, .i1⟩
  | .hbm, ⟨22, _⟩ => ⟨S_, .i1⟩
  | .hbm, ⟨23, _⟩ => ⟨S8064, .i1⟩
  | .hbm, ⟨24, _⟩ => ⟨S1024x8064, .f32⟩
  | .hbm, ⟨25, _⟩ => ⟨S1024x8064, .i1⟩
  | .hbm, ⟨26, _⟩ => ⟨S_, .f32⟩
  | .hbm, ⟨27, _⟩ => ⟨S1024x8064, .f32⟩
  | .hbm, ⟨28, _⟩ => ⟨S1024x8064, .f32⟩
  | .hbm, ⟨29, _⟩ => ⟨S_, .f32⟩
  | .hbm, ⟨30, _⟩ => ⟨S_, .f32⟩
  | .hbm, ⟨31, _⟩ => ⟨S1024x8064, .i1⟩
  | .hbm, ⟨32, _⟩ => ⟨S1024x8064, .f32⟩
  | .hbm, ⟨33, _⟩ => ⟨S1024x8064, .f32⟩
  | .hbm, ⟨34, _⟩ => ⟨S1024x8064, .bf16⟩
  | .hbm, ⟨35, _⟩ => ⟨S1x1024, .f32⟩
  | .hbm, ⟨36, _⟩ => ⟨S32x2048, .f32⟩
  | .hbm, ⟨37, _⟩ => ⟨S32x512, .bf16⟩
  | .hbm, ⟨38, _⟩ => ⟨S32x512, .f32⟩
  | .hbm, ⟨39, _⟩ => ⟨S32x256, .f32⟩
  | .hbm, ⟨40, _⟩ => ⟨S32x512, .bf16⟩
  | .hbm, ⟨41, _⟩ => ⟨S32x128, .f32⟩
  | .hbm, ⟨42, _⟩ => ⟨S32x512, .bf16⟩
  | .hbm, ⟨43, _⟩ => ⟨S32x512, .f32⟩
  | .hbm, ⟨44, _⟩ => ⟨S32x512, .f32⟩
  | .hbm, ⟨45, _⟩ => ⟨S32x512, .bf16⟩
  | .hbm, ⟨46, _⟩ => ⟨S32x512, .bf16⟩
  | .hbm, ⟨47, _⟩ => ⟨S32x3072, .bf16⟩
  | .hbm, ⟨48, _⟩ => ⟨S32x511x2x2x64, .f32⟩
  | .hbm, ⟨49, _⟩ => ⟨S32x1x2x2x64, .f32⟩
  | .hbm, ⟨50, _⟩ => ⟨S32x512x2x2x64, .f32⟩
  | .local _ .vmem, ⟨0, _⟩ => ⟨S32x1024, .f32⟩
  | .local _ .vmem, ⟨1, _⟩ => ⟨S1x1024, .f32⟩
  | .local _ .vmem, ⟨2, _⟩ => ⟨S1024x8064, .bf16⟩
  | .local _ .vmem, ⟨3, _⟩ => ⟨S32x2048, .f32⟩
  | .local _ .vmem, ⟨4, _⟩ => ⟨S32x512, .bf16⟩
  | .local _ .vmem, ⟨5, _⟩ => ⟨S32x512, .f32⟩
  | .local _ .vmem, ⟨6, _⟩ => ⟨S32x256, .f32⟩
  | .local _ .vmem, ⟨7, _⟩ => ⟨S32x512, .bf16⟩
  | .local _ .vmem, ⟨8, _⟩ => ⟨S32x128, .f32⟩
  | .local _ .vmem, ⟨9, _⟩ => ⟨S32x512, .bf16⟩
  | .local _ .vmem, ⟨10, _⟩ => ⟨S32x512, .f32⟩
  | .local _ .vmem, ⟨11, _⟩ => ⟨S32x512, .f32⟩
  | .local _ .vmem, ⟨12, _⟩ => ⟨S32x512, .bf16⟩
  | .local _ .vmem, ⟨13, _⟩ => ⟨S32x512, .bf16⟩
  | .local _ .vmem, ⟨14, _⟩ => ⟨S32x3072, .bf16⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4_0 : Ref sig .tc := ⟨.hbm, 36, rfl⟩
abbrev main_v4_1 : Ref sig .tc := ⟨.hbm, 37, rfl⟩
abbrev main_v4_2 : Ref sig .tc := ⟨.hbm, 38, rfl⟩
abbrev main_v4_3 : Ref sig .tc := ⟨.hbm, 39, rfl⟩
abbrev main_v4_4 : Ref sig .tc := ⟨.hbm, 40, rfl⟩
abbrev main_v4_5 : Ref sig .tc := ⟨.hbm, 41, rfl⟩
abbrev main_v4_6 : Ref sig .tc := ⟨.hbm, 42, rfl⟩
abbrev main_v4_7 : Ref sig .tc := ⟨.hbm, 43, rfl⟩
abbrev main_v4_8 : Ref sig .tc := ⟨.hbm, 44, rfl⟩
abbrev main_v4_9 : Ref sig .tc := ⟨.hbm, 45, rfl⟩
abbrev main_v4_10 : Ref sig .tc := ⟨.hbm, 46, rfl⟩
abbrev main_v4_11 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8064 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S32x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S32x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S32x3072 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Reference6Ideal.lean ====
abbrev S32x1024 : Shape := ⟨2, ![32, 1024]⟩
abbrev S1024 : Shape := ⟨1, ![1024]⟩
abbrev S1024x7960 : Shape := ⟨2, ![1024, 7960]⟩
abbrev S32x512x2x2x64 : Shape := ⟨5, ![32, 512, 2, 2, 64]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x7960 : Shape := ⟨2, ![32, 7960]⟩
abbrev S32x512 : Shape := ⟨2, ![32, 512]⟩
abbrev S32x128 : Shape := ⟨2, ![32, 128]⟩
abbrev S32x24 : Shape := ⟨2, ![32, 24]⟩
abbrev S32x3072 : Shape := ⟨2, ![32, 3072]⟩
abbrev S32x2x4x64 : Shape := ⟨4, ![32, 2, 4, 64]⟩
abbrev S32x4x2x64 : Shape := ⟨4, ![32, 4, 2, 64]⟩
abbrev S32x8x3 : Shape := ⟨3, ![32, 8, 3]⟩
abbrev S32x3x8 : Shape := ⟨3, ![32, 3, 8]⟩
abbrev S32x2048 : Shape := ⟨2, ![32, 2048]⟩
abbrev S32x256 : Shape := ⟨2, ![32, 256]⟩
abbrev S32x1x2x64 : Shape := ⟨4, ![32, 1, 2, 64]⟩
abbrev S32x1x1x2x64 : Shape := ⟨5, ![32, 1, 1, 2, 64]⟩
abbrev S32x1x2x2x64 : Shape := ⟨5, ![32, 1, 2, 2, 64]⟩
abbrev S32x513x2x2x64 : Shape := ⟨5, ![32, 513, 2, 2, 64]⟩

abbrev nBuf : Space → Nat
  | .hbm => 65
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x7960, .f32⟩
  | .hbm, ⟨3, _⟩ => ⟨S32x512x2x2x64, .f32⟩
  | .hbm, ⟨4, _⟩ => ⟨S32x1024, .f32⟩
  | .hbm, ⟨5, _⟩ => ⟨S_, .f32⟩
  | .hbm, ⟨6, _⟩ => ⟨S32, .f32⟩
  | .hbm, ⟨7, _⟩ => ⟨S32x1, .f32⟩
  | .hbm, ⟨8, _⟩ => ⟨S_, .f32⟩
  | .hbm, ⟨9, _⟩ => ⟨S32x1, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S32x1, .f32⟩
  | .hbm, ⟨15, _⟩ => ⟨S32x1024, .f32⟩
  | .hbm, ⟨16, _⟩ => ⟨S32x1024, .f32⟩
  | .hbm, ⟨17, _⟩ => ⟨S1x1024, .f32⟩
  | .hbm, ⟨18, _⟩ => ⟨S32x1024, .f32⟩
  | .hbm, ⟨19, _⟩ => ⟨S32x1024, .f32⟩
  | .hbm, ⟨20, _⟩ => ⟨S32x7960, .f32⟩
  | .hbm, ⟨21, _⟩ => ⟨S32x512, .f32⟩
  | .hbm, ⟨22, _⟩ => ⟨S32x512, .f32⟩
  | .hbm, ⟨23, _⟩ => ⟨S32x512, .f32⟩
  | .hbm, ⟨24, _⟩ => ⟨S32x512, .f32⟩
  | .hbm, ⟨25, _⟩ => ⟨S32x512, .f32⟩
  | .hbm, ⟨26, _⟩ => ⟨S32x128, .f32⟩
  | .hbm, ⟨27, _⟩ => ⟨S32x128, .f32⟩
  | .hbm, ⟨28, _⟩ => ⟨S32x128, .f32⟩
  | .hbm, ⟨29, _⟩ => ⟨S32x128, .f32⟩
  | .hbm, ⟨30, _⟩ => ⟨S32x128, .f32⟩
  | .hbm, ⟨31, _⟩ => ⟨S32x128, .f32⟩
  | .hbm, ⟨32, _⟩ => ⟨S32x24, .f32⟩
  | .hbm, ⟨33, _⟩ => ⟨S32x512, .f32⟩
  | .hbm, ⟨34, _⟩ => ⟨S32x512, .f32⟩
  | .hbm, ⟨35, _⟩ => ⟨S32x512, .f32⟩
  | .hbm, ⟨36, _⟩ => ⟨S32x3072, .f32⟩
  | .hbm, ⟨37, _⟩ => ⟨S32x2x4x64, .f32⟩
  | .hbm, ⟨38, _⟩ => ⟨S32x4x2x64, .f32⟩
  | .hbm, ⟨39, _⟩ => ⟨S32x512, .f32⟩
  | .hbm, ⟨40, _⟩ => ⟨S32x8x3, .f32⟩
  | .hbm, ⟨41, _⟩ => ⟨S32x3x8, .f32⟩
  | .hbm, ⟨42, _⟩ => ⟨S32x24, .f32⟩
  | .hbm, ⟨43, _⟩ => ⟨S32x2048, .f32⟩
  | .hbm, ⟨44, _⟩ => ⟨S32x512, .bf16⟩
  | .hbm, ⟨45, _⟩ => ⟨S32x512, .f32⟩
  | .hbm, ⟨46, _⟩ => ⟨S32x256, .f32⟩
  | .hbm, ⟨47, _⟩ => ⟨S32x512, .f32⟩
  | .hbm, ⟨48, _⟩ => ⟨S32x512, .bf16⟩
  | .hbm, ⟨49, _⟩ => ⟨S_, .i32⟩
  | .hbm, ⟨50, _⟩ => ⟨S_, .f32⟩
  | .hbm, ⟨51, _⟩ => ⟨S32x128, .f32⟩
  | .hbm, ⟨52, _⟩ => ⟨S32x512, .bf16⟩
  | .hbm, ⟨53, _⟩ => ⟨S32x512, .bf16⟩
  | .hbm, ⟨54, _⟩ => ⟨S32x512, .bf16⟩
  | .hbm, ⟨55, _⟩ => ⟨S32x3072, .bf16⟩
  | .hbm, ⟨56, _⟩ => ⟨S32x128, .f32⟩
  | .hbm, ⟨57, _⟩ => ⟨S32x128, .f32⟩
  | .hbm, ⟨58, _⟩ => ⟨S32x1x2x64, .f32⟩
  | .hbm, ⟨59, _⟩ => ⟨S32x1x2x64, .f32⟩
  | .hbm, ⟨60, _⟩ => ⟨S32x1x1x2x64, .f32⟩
  | .hbm, ⟨61, _⟩ => ⟨S32x1x1x2x64, .f32⟩
  | .hbm, ⟨62, _⟩ => ⟨S32x1x2x2x64, .f32⟩
  | .hbm, ⟨63, _⟩ => ⟨S32x513x2x2x64, .f32⟩
  | .hbm, ⟨64, _⟩ => ⟨S32x512x2x2x64, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_c : Ref sig .tc := ⟨.hbm, 49, rfl⟩
abbrev main_call0_v0 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩

abbrev nD : Nat := 1
abbrev τ : Topo := Topo.v7x

variable {F : FTy → Type} [FloatOps F]
-- ==== Kernel7.lean ====
abbrev S32x2048 : Shape := ⟨2, ![32, 2048]⟩
abbrev S32x4x128x128 : Shape := ⟨4, ![32, 4, 128, 128]⟩
abbrev S512 : Shape := ⟨1, ![512]⟩
abbrev S128 : Shape := ⟨1, ![128]⟩
abbrev S_ : Shape := ⟨0, ![]⟩
abbrev S1x512 : Shape := ⟨2, ![1, 512]⟩
abbrev S3x512 : Shape := ⟨2, ![3, 512]⟩
abbrev S1x128 : Shape := ⟨2, ![1, 128]⟩
abbrev S32x1x2048 : Shape := ⟨3, ![32, 1, 2048]⟩
abbrev S32x1x512 : Shape := ⟨3, ![32, 1, 512]⟩
abbrev S1x1x2048 : Shape := ⟨3, ![1, 1, 2048]⟩
abbrev S1x4x128x128 : Shape := ⟨4, ![1, 4, 128, 128]⟩
abbrev S1x1x512 : Shape := ⟨3, ![1, 1, 512]⟩
abbrev S1x2048 : Shape := ⟨2, ![1, 2048]⟩
abbrev S128x128 : Shape := ⟨2, ![128, 128]⟩
abbrev S128x1 : Shape := ⟨2, ![128, 1]⟩
abbrev S1x1x128x128 : Shape := ⟨4, ![1, 1, 128, 128]⟩
abbrev S1 : Shape := ⟨1, ![1]⟩
abbrev S1x1 : Shape := ⟨2, ![1, 1]⟩

abbrev nBuf : Space → Nat
  | .hbm => 18
  | .vmem => 10
  | .smem => 0
  | _ => 0

abbrev bufTy : (tb : Table) → Fin (tcTables nBuf tb) → BufTy
  | .hbm, ⟨0, _⟩ => ⟨S32x2048, .f32⟩
  | .hbm, ⟨1, _⟩ => ⟨S32x4x128x128, .f32⟩
  | .hbm, ⟨2, _⟩ => ⟨S512, .f32⟩
  | .hbm, ⟨3, _⟩ => ⟨S128, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S3x512, .f32⟩
  | .hbm, ⟨14, _⟩ => ⟨S1x128, .f32⟩
  | .hbm, ⟨15, _⟩ => ⟨S32x1x2048, .f32⟩
  | .hbm, ⟨16, _⟩ => ⟨S32x1x512, .bf16⟩
  | .hbm, ⟨17, _⟩ => ⟨S32x4x128x128, .f32⟩
  | .local _ .vmem, ⟨0, _⟩ => ⟨S1x1x2048, .f32⟩
  | .local _ .vmem, ⟨1, _⟩ => ⟨S1x1x2048, .f32⟩
  | .local _ .vmem, ⟨2, _⟩ => ⟨S1x4x128x128, .f32⟩
  | .local _ .vmem, ⟨3, _⟩ => ⟨S1x4x128x128, .f32⟩
  | .local _ .vmem, ⟨4, _⟩ => ⟨S3x512, .f32⟩
  | .local _ .vmem, ⟨5, _⟩ => ⟨S1x128, .f32⟩
  | .local _ .vmem, ⟨6, _⟩ => ⟨S1x1x512, .bf16⟩
  | .local _ .vmem, ⟨7, _⟩ => ⟨S1x1x512, .bf16⟩
  | .local _ .vmem, ⟨8, _⟩ => ⟨S1x4x128x128, .f32⟩
  | .local _ .vmem, ⟨9, _⟩ => ⟨S1x4x128x128, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S32x2048 : Shape := ⟨2, ![32, 2048]⟩
abbrev S32x4x128x128 : Shape := ⟨4, ![32, 4, 128, 128]⟩
abbrev S512 : Shape := ⟨1, ![512]⟩
abbrev S128 : Shape := ⟨1, ![128]⟩
abbrev S32x512 : Shape := ⟨2, ![32, 512]⟩
abbrev S32x1x512 : Shape := ⟨3, ![32, 1, 512]⟩
abbrev S_ : Shape := ⟨0, ![]⟩
abbrev S32x1x4x128 : Shape := ⟨4, ![32, 1, 4, 128]⟩
abbrev S1x1x512 : Shape := ⟨3, ![1, 1, 512]⟩
abbrev S32x4x128x1 : Shape := ⟨4, ![32, 4, 128, 1]⟩
abbrev S1x1 : Shape := ⟨2, ![1, 1]⟩
abbrev S1x1x1x1x1 : Shape := ⟨5, ![1, 1, 1, 1, 1]⟩
abbrev S32x1x1x4x128 : Shape := ⟨5, ![32, 1, 1, 4, 128]⟩
abbrev S32x1x1x4 : Shape := ⟨4, ![32, 1, 1, 4]⟩
abbrev S32x4x128 : Shape := ⟨3, ![32, 4, 128]⟩
abbrev S32x1x4 : Shape := ⟨3, ![32, 1, 4]⟩
abbrev S32x1x4x1 : Shape := ⟨4, ![32, 1, 4, 1]⟩
abbrev S1x1x1x128 : Shape := ⟨4, ![1, 1, 1, 128]⟩

abbrev nBuf : Space → Nat
  | .hbm => 139
  | .vmem => 0
  | .smem => 0
  | _ => 0

abbrev hbmTy0_0 (i : Nat) : BufTy := match i % 128 with
  | 0 => ⟨S32x2048, .f32⟩
  | 1 => ⟨S32x4x128x128, .f32⟩
  | 2 => ⟨S512, .f32⟩
  | 3 => ⟨S128, .f32⟩
  | 4 => ⟨S32x512, .f32⟩
  | 5 => ⟨S32x512, .f32⟩
  | 6 => ⟨S32x512, .f32⟩
  | 7 => ⟨S32x512, .f32⟩
  | 8 => ⟨S32x1x512, .f32⟩
  | 9 => ⟨S32x1x512, .f32⟩
  | 10 => ⟨S32x1x512, .f32⟩
  | 11 => ⟨S32x1x512, .f32⟩
  | 12 => ⟨S32x1x512, .f32⟩
  | 13 => ⟨S32x1x512, .f32⟩
  | 14 => ⟨S_, .f32⟩
  | 15 => ⟨S32x1x512, .f32⟩
  | 16 => ⟨S32x1x512, .f32⟩
  | 17 => ⟨S_, .f32⟩
  | 18 => ⟨S32x1x512, .f32⟩
  | 19 => ⟨S32x1x512, .f32⟩
  | 20 => ⟨S32x1x512, .f32⟩
  | 21 => ⟨S32x1x4x128, .f32⟩
  | 22 => ⟨S512, .f32⟩
  | 23 => ⟨S512, .f32⟩
  | 24 => ⟨S512, .f32⟩
  | 25 => ⟨S32x1x512, .f32⟩
  | 26 => ⟨S_, .f32⟩
  | 27 => ⟨S32x1x512, .f32⟩
  | 28 => ⟨S32x1x512, .f32⟩
  | 29 => ⟨S32x1x512, .f32⟩
  | 30 => ⟨S32x1x512, .f32⟩
  | 31 => ⟨S32x1x512, .i1⟩
  | 32 => ⟨S32x1x512, .f32⟩
  | 33 => ⟨S32x1x512, .f32⟩
  | 34 => ⟨S32x1x512, .f32⟩
  | 35 => ⟨S32x1x512, .f32⟩
  | 36 => ⟨S32x1x512, .f32⟩
  | 37 => ⟨S32x1x512, .f32⟩
  | 38 => ⟨S32x1x512, .f32⟩
  | 39 => ⟨S32x1x512, .f32⟩
  | 40 => ⟨S32x1x512, .f32⟩
  | 41 => ⟨S1x1x512, .f32⟩
  | 42 => ⟨S32x1x512, .f32⟩
  | 43 => ⟨S32x1x512, .f32⟩
  | 44 => ⟨S1x1x512, .f32⟩
  | 45 => ⟨S32x1x512, .f32⟩
  | 46 => ⟨S32x1x512, .f32⟩
  | 47 => ⟨S32x1x512, .f32⟩
  | 48 => ⟨S32x1x512, .f32⟩
  | 49 => ⟨S32x1x512, .i1⟩
  | 50 => ⟨S32x1x512, .f32⟩
  | 51 => ⟨S32x1x512, .f32⟩
  | 52 => ⟨S32x1x512, .f32⟩
  | 53 => ⟨S32x1x512, .f32⟩
  | 54 => ⟨S32x1x512, .f32⟩
  | 55 => ⟨S32x1x512, .f32⟩
  | 56 => ⟨S32x1x512, .f32⟩
  | 57 => ⟨S32x1x512, .f32⟩
  | 58 => ⟨S32x1x4x128, .f32⟩
  | 59 => ⟨S32x1x4x128, .f32⟩
  | 60 => ⟨S32x1x4x128, .f32⟩
  | 61 => ⟨S32x1x4x128, .f32⟩
  | 62 => ⟨S_, .f32⟩
  | 63 => ⟨S_, .f32⟩
  | 64 => ⟨S32x1x4x128, .f32⟩
  | 65 => ⟨S32x1x4x128, .f32⟩
  | 66 => ⟨S32x1x4x128, .f32⟩
  | 67 => ⟨S32x4x128x1, .f32⟩
  | 68 => ⟨S32x1x4x128, .f32⟩
  | 69 => ⟨S_, .i1⟩
  | 70 => ⟨S1x1, .i1⟩
  | 71 => ⟨S1x1, .i32⟩
  | 72 => ⟨S_, .i32⟩
  | 73 => ⟨S1x1, .i32⟩
  | 74 => ⟨S1x1, .i32⟩
  | 75 => ⟨S1x1, .i32⟩
  | 76 => ⟨S1x1, .i1⟩
  | 77 => ⟨S_, .i1⟩
  | 78 => ⟨S1x1, .i1⟩
  | 79 => ⟨S1x1, .i1⟩
  | 80 => ⟨S1x1x1x1x1, .i1⟩
  | 81 => ⟨S32x1x1x4x128, .f32⟩
  | 82 => ⟨S32x1x1x4x128, .f32⟩
  | 83 => ⟨S32x1x1x4x128, .f32⟩
  | 84 => ⟨S_, .f32⟩
  | 85 => ⟨S_, .f32⟩
  | 86 => ⟨S32x1x1x4x128, .i1⟩
  | 87 => ⟨S32x1x1x4x128, .f32⟩
  | 88 => ⟨S32x1x1x4x128, .f32⟩
  | 89 => ⟨S32x1x1x4x128, .f32⟩
  | 90 => ⟨S32x1x1x4x128, .f32⟩
  | 91 => ⟨S32x1x1x4x128, .f32⟩
  | 92 => ⟨S32x1x1x4x128, .f32⟩
  | 93 => ⟨S32x1x1x4x128, .f32⟩
  | 94 => ⟨S_, .f32⟩
  | 95 => ⟨S32x1x1x4, .f32⟩
  | 96 => ⟨S32x4x128x1, .f32⟩
  | 97 => ⟨S32x1x4x128, .f32⟩
  | 98 => ⟨S32x4x128, .f32⟩
  | 99 => ⟨S32x4x128, .f32⟩
  | 100 => ⟨S32x4x128x1, .f32⟩
  | 101 => ⟨S32x4x128x128, .f32⟩
  | 102 => ⟨S32x4x128x128, .f32⟩
  | 103 => ⟨S32x1x4x128, .f32⟩
  | 104 => ⟨S32x1x4x128, .f32⟩
  | 105 => ⟨S32x1x4x128, .f32⟩
  | 106 => ⟨S32x1x4x128, .f32⟩
  | 107 => ⟨S32x4x128x128, .f32⟩
  | 108 => ⟨S32x4x128x128, .f32⟩
  | 109 => ⟨S32x1x4x128, .f32⟩
  | 110 => ⟨S32x1x4x128, .f32⟩
  | 111 => ⟨S_, .f32⟩
  | 112 => ⟨S32x1x4, .f32⟩
  | 113 => ⟨S32x1x4x1, .f32⟩
  | 114 => ⟨S_, .f32⟩
  | 115 => ⟨S32x1x4x1, .f32⟩
  | 116 => ⟨S32x1x4x1, .f32⟩
  | 117 => ⟨S_, .f32⟩
  | 118 => ⟨S32x1x4x1, .f32⟩
  | 119 => ⟨S32x1x4x1, .f32⟩
  | 120 => ⟨S32x1x4x1, .f32⟩
  | 121 => ⟨S32x1x4x128, .f32⟩
  | 122 => ⟨S32x1x4x128, .f32⟩
  | 123 => ⟨S1x1x1x128, .f32⟩
  | 124 => ⟨S32x1x4x128, .f32⟩
  | 125 => ⟨S32x1x4x128, .f32⟩
  | 126 => ⟨S32x1x512, .f32⟩
  | 127 => ⟨S32x1x512, .f32⟩
  | _ => ⟨S32x2048, .f32⟩

abbrev hbmTy0_1 (i : Nat) : BufTy := match i % 128 with
  | 0 => ⟨S_, .f32⟩
  | 1 => ⟨S32x1x512, .f32⟩
  | 2 => ⟨S32x1x512, .f32⟩
  | 3 => ⟨S_, .f32⟩
  | 4 => ⟨S32x1x512, .f32⟩
  | 5 => ⟨S32x1x512, .f32⟩
  | 6 => ⟨S32x1x512, .f32⟩
  | 7 => ⟨S32x1x4x128, .f32⟩
  | 8 => ⟨S32x1x4x128, .f32⟩
  | 9 => ⟨S32x1x512, .f32⟩
  | 10 => ⟨S32x1x512, .bf16⟩
  | _ => ⟨S32x2048, .f32⟩

abbrev hbmTy (i : Nat) : BufTy := match i / 128 with
  | 0 => hbmTy0_0 i
  | 1 => hbmTy0_1 i
  | _ => ⟨S32x2048, .f32⟩

abbrev bufTy : (tb : Table) → Fin (tcTables nBuf tb) → BufTy
  | .hbm, ⟨i, _⟩ => hbmTy i
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_v0 : Ref sig .tc := ⟨.hbm, 25, rfl⟩
abbrev main_call1_call0_cst : Ref sig .tc := ⟨.hbm, 26, rfl⟩
abbrev main_call1_call0_v0 : Ref sig .tc := ⟨.hbm, 27, rfl⟩
abbrev main_call1_call0_v1 : Ref sig .tc := ⟨.hbm, 28, rfl⟩
abbrev main_call1_call0_v2 : Ref sig .tc := ⟨.hbm, 29, rfl⟩
abbrev main_call1_call0_v3 : Ref sig .tc := ⟨.hbm, 30, rfl⟩
abbrev main_call1_call0_v4 : Ref sig .tc := ⟨.hbm, 31, rfl⟩
abbrev main_call1_call0_v5 : Ref sig .tc := ⟨.hbm, 32, rfl⟩
abbrev main_call1_call0_v6 : Ref sig .tc := ⟨.hbm, 33, rfl⟩
abbrev main_call1_call0_v7 : Ref sig .tc := ⟨.hbm, 34, rfl⟩
abbrev main_call1_call0_v8 : Ref sig .tc := ⟨.hbm, 35, rfl⟩
abbrev main_call1_call0_v9 : Ref sig .tc := ⟨.hbm, 36, rfl⟩
abbrev main_call1_call0_v10 : Ref sig .tc := ⟨.hbm, 37, rfl⟩
abbrev main_call1_call0_v11 : Ref sig .tc := ⟨.hbm, 38, rfl⟩
abbrev main_call1_v1 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_call2_call0_cst : Ref sig .tc := ⟨.hbm, 62, rfl⟩
abbrev main_call2_call0_v0 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c : Ref sig .tc := ⟨.hbm, 69, rfl⟩
abbrev main_v40 : Ref sig .tc := ⟨.hbm, 70, rfl⟩
abbrev main_call3_v0 : Ref sig .tc := ⟨.hbm, 71, rfl⟩
abbrev main_call3_c : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_c_0 : Ref sig .tc := ⟨.hbm, 77, rfl⟩
abbrev main_call3_v5 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_cst_0 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_1 : Ref sig .tc := ⟨.hbm, 111, rfl⟩
abbrev main_v68 : Ref sig .tc := ⟨.hbm, 112, rfl⟩
abbrev main_v69 : Ref sig .tc := ⟨.hbm, 113, rfl⟩
abbrev main_cst_2 : Ref sig .tc := ⟨.hbm, 114, rfl⟩
abbrev main_v70 : Ref sig .tc := ⟨.hbm, 115, rfl⟩
abbrev main_v71 : Ref sig .tc := ⟨.hbm, 116, rfl⟩
abbrev main_cst_3 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_call5_v0 : Ref sig .tc := ⟨.hbm, 126, rfl⟩
abbrev main_call5_v1 : Ref sig .tc := ⟨.hbm, 127, rfl⟩
abbrev main_call5_cst : Ref sig .tc := ⟨.hbm, 128, rfl⟩
abbrev main_call5_v2 : Ref sig .tc := ⟨.hbm, 129, rfl⟩
abbrev main_call5_v3 : Ref sig .tc := ⟨.hbm, 130, rfl⟩
abbrev main_call5_cst_0 : Ref sig .tc := ⟨.hbm, 131, rfl⟩
abbrev main_call5_v4 : Ref sig .tc := ⟨.hbm, 132, rfl⟩
abbrev main_call5_v5 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩

abbrev nD : Nat := 1
abbrev τ : Topo := Topo.v7x

variable {F : FTy → Type} [FloatOps F]
-- ==== Proof.Moe.Order.lean ====
/- Positions of greatest values: what a maximum, the least position that attains it, and a stable descending
   sort have in common. -/
module

public import Idealize.ShloMosaic.Lib.Pointwise
public import Idealize.ShloMosaic.Lib.SortFacts

@[expose] public section
set_option maxRecDepth 16384
noncomputable section
namespace Cert.Moe
open Idealize.ShloMosaic

/-- `i` is the first of the positions in `P` at which `f` takes its greatest value on `P`. -/
structure First {n : Nat} (P : Fin n → Prop) (f : Fin n → EReal) (i : Fin n) : Prop where
  mem : P i
  le : ∀ j, P j → f j ≤ f i
  first : ∀ j, P j → f j = f i → i ≤ j

/-- The first greatest position along an increasing map of positions. -/
theorem First.map {m n : Nat} {P : Fin m → Prop} {g : Fin m → EReal} {i : Fin m} (h : First P g i)
    (φ : Fin m → Fin n) (hφ : ∀ a b, a ≤ b → φ a ≤ φ b) {P' : Fin n → Prop} {f : Fin n → EReal}
    (hP : ∀ l, P' l ↔ ∃ j, P j ∧ φ j = l) (hf : ∀ j, f (φ j) = g j) : First P' f (φ i) := by
  refine ⟨(hP _).mpr ⟨i, h.mem, rfl⟩, fun l hl => ?_, fun l hl he => ?_⟩
  · obtain ⟨j, hj, rfl⟩ := (hP l).mp hl
    rw [hf, hf]; exact h.le j hj
  · obtain ⟨j, hj, rfl⟩ := (hP l).mp hl
    rw [hf, hf] at he; exact hφ _ _ (h.first j hj he)

theorem select_iff {α : Type} {c : BitVec 1} {p : Prop} [Decidable p] (h : c = 1#1 ↔ p) (a b : α) :
    Scalar.select c a b = if p then a else b := by
  by_cases hp : p
  · rw [if_pos hp, h.mpr hp]; rfl
  · rw [if_neg hp]
    have : c ≠ 1#1 := fun hc => hp (h.mp hc)
    unfold Scalar.select
    simp [this]

/-- The maximum of the masked values is the value at the first greatest position. -/
theorem fold_max_first {n : Nat} {P : Fin n → Prop} {f : Fin n → EReal} {i : Fin n} (h : First P f i)
    (M : Fin n → BitVec 1) (hM : ∀ l, M l = 1#1 ↔ P l) :
    Finset.fold max ⊥ (fun l => Scalar.select (M l) (f l) ⊥) Finset.univ = f i := by
  classical
  apply le_antisymm
  · rw [Finset.fold_max_le]
    refine ⟨bot_le, fun l _ => ?_⟩
    rw [select_iff (hM l)]
    split
    · exact h.le l ‹_›
    · exact bot_le
  · rw [Finset.le_fold_max]
    refine Or.inr ⟨i, Finset.mem_univ _, ?_⟩
    rw [select_iff (hM i), if_pos h.mem]

theorem minsi_rel (c x y : BitVec 32) : c.toInt ≤ (IntOp.minsi x y).toInt ↔ c.toInt ≤ x.toInt ∧ c.toInt ≤ y.toInt := by
  unfold IntOp.minsi
  split <;> rename_i hxy
  · rw [BitVec.slt_iff_toInt_lt] at hxy; omega
  · rw [BitVec.slt_iff_toInt_lt] at hxy; omega

theorem ofNat_toInt {k : Nat} (h : k < 2 ^ 31) : (BitVec.ofNat 32 k).toInt = k := by
  rw [BitVec.toInt_eq_toNat_of_lt]
  · rw [BitVec.toNat_ofNat]; omega
  · rw [BitVec.toNat_ofNat]; omega

/-- The least masked lane that holds the greatest value is the first greatest position. -/
theorem fold_min_first {P : Fin 128 → Prop} {f : Fin 128 → EReal} {i : Fin 128} (h : First P f i)
    (M : Fin 128 → BitVec 1) (hM : ∀ l, M l = 1#1 ↔ P l) (I : Fin 128 → BitVec 32) (hI : ∀ l, I l = BitVec.ofNat 32 l.val)
    (v : EReal) (hv : v = f i) :
    Finset.fold IntOp.minsi (2147483647#32)
      (fun l => Scalar.select (IntOp.andi (M l) (BitVec.ofBool (decide (f l = v)))) (I l) 128#32) Finset.univ
      = BitVec.ofNat 32 i.val := by
  classical
  subst hv
  have hs : ∀ l, Scalar.select (IntOp.andi (M l) (BitVec.ofBool (decide (f l = f i)))) (I l) 128#32
      = if P l ∧ f l = f i then BitVec.ofNat 32 l.val else 128#32 := by
    intro l
    rw [hI]
    refine select_iff ?_ _ _
    rw [← hM l]
    by_cases hf : f l = f i
    · simp only [hf, decide_true, and_true]
      generalize M l = b; revert b; decide
    · simp only [hf, decide_false, and_false, iff_false]
      generalize M l = b; revert b; decide
  simp only [hs]
  have key := fun c => Finset.fold_op_rel_iff_and (op := IntOp.minsi) (r := fun a b : BitVec 32 => a.toInt ≤ b.toInt)
    (fun {x y z} => minsi_rel x y z) (c := c) (s := (Finset.univ : Finset (Fin 128))) (b := 2147483647#32)
    (f := fun l => if P l ∧ f l = f i then BitVec.ofNat 32 l.val else 128#32)
  apply BitVec.eq_of_toInt_eq
  apply le_antisymm
  · have := ((key _).mp le_rfl).2 i (Finset.mem_univ _)
    rwa [if_pos ⟨h.mem, rfl⟩] at this
  · refine (key (BitVec.ofNat 32 i.val)).mpr ⟨?_, fun l _ => ?_⟩
    · rw [ofNat_toInt (by omega)]
      have : (2147483647#32 : BitVec 32).toInt = 2147483647 := by decide
      omega
    · split
      · rename_i hl
        have := h.first l hl.1 hl.2
        rw [ofNat_toInt (by omega), ofNat_toInt (by omega)]
        exact_mod_cast this
      · rw [ofNat_toInt (by omega)]
        have : (128#32 : BitVec 32).toInt = 128 := by decide
        omega

/-! ## The stable descending sort -/

/-- `a` stands before `b` in the descending order of `f`, equal values in the order of their positions. -/
def Before {n : Nat} (f : Fin n → EReal) (a b : Fin n) : Prop := f b < f a ∨ (f a = f b ∧ a < b)

theorem Before.le {n : Nat} {f : Fin n → EReal} {a b : Fin n} (h : Before f a b) : f b ≤ f a := by
  rcases h with h | h
  · exact h.le
  · exact h.1.ge

theorem pairwise_insert {n : Nat} (f : Fin n → EReal) (B : Fin n → Fin n → Bool) (hB : ∀ a b, B a b = true ↔ f b < f a)
    (a : Fin n) (m : List (Fin n)) (hm : m.Pairwise (Before f)) (ha : ∀ b ∈ m, a < b) :
    (insertBefore B a m).Pairwise (Before f) := by
  induction m with
  | nil => exact List.pairwise_singleton _ _
  | cons b l ih =>
    rw [List.pairwise_cons] at hm
    unfold insertBefore
    split
    · rename_i hb
      rw [hB] at hb
      rw [List.pairwise_cons]
      refine ⟨fun x hx => ?_, ih hm.2 fun x hx => ha x (List.mem_cons_of_mem _ hx)⟩
      rcases List.mem_cons.mp ((perm_insertBefore B a l).mem_iff.mp hx) with rfl | hx
      · exact Or.inl hb
      · exact hm.1 x hx
    · rename_i hb
      rw [hB, not_lt] at hb
      rw [List.pairwise_cons, List.pairwise_cons]
      refine ⟨fun x hx => ?_, hm⟩
      have hxa : f x ≤ f a := by
        rcases List.mem_cons.mp hx with rfl | hx
        · exact hb
        · exact (hm.1 x hx).le.trans hb
      rcases hxa.lt_or_eq with h | h
      · exact Or.inl h
      · exact Or.inr ⟨h.symm, ha x hx⟩

theorem pairwise_sort {n : Nat} (f : Fin n → EReal) (B : Fin n → Fin n → Bool) (hB : ∀ a b, B a b = true ↔ f b < f a)
    (m : List (Fin n)) (hm : m.Pairwise (· < ·)) : (stableSort B m).Pairwise (Before f) := by
  induction m with
  | nil => exact List.Pairwise.nil
  | cons a l ih =>
    rw [List.pairwise_cons] at hm
    unfold stableSort
    exact pairwise_insert f B hB a _ (ih hm.2) fun b hb => hm.1 b ((perm_stableSort B l).mem_iff.mp hb)

theorem sorted_before {n : Nat} (f : Fin n → EReal) (B : Fin n → Fin n → Bool) (hB : ∀ a b, B a b = true ↔ f b < f a)
    (k k' : Fin n) (h : k < k') : Before f (sortedFrom B k) (sortedFrom B k') := by
  have := pairwise_sort f B hB (List.finRange n) (List.pairwise_lt_finRange n)
  rw [List.pairwise_iff_get] at this
  exact this (k.cast (length_sortPositions n B).symm) (k'.cast (length_sortPositions n B).symm) h

/-- The sort puts the first greatest position in front. -/
theorem sorted_first (f : Fin 4 → EReal) (B : Fin 4 → Fin 4 → Bool) (hB : ∀ a b, B a b = true ↔ f b < f a) :
    First (fun _ => True) f (sortedFrom B 0) := by
  have hj : ∀ j, j = sortedFrom B 0 ∨ Before f (sortedFrom B 0) j := by
    intro j
    obtain ⟨k, rfl⟩ := sortedFrom_surjective B j
    rcases eq_or_ne k 0 with rfl | hk
    · exact Or.inl rfl
    · exact Or.inr (sorted_before f B hB 0 k (Fin.pos_of_ne_zero hk))
  refine ⟨trivial, fun j _ => ?_, fun j _ he => ?_⟩
  · rcases hj j with h | h
    · rw [h]
    · exact h.le
  · rcases hj j with h | h | h
    · rw [h]
    · exact absurd he h.ne
    · exact h.2.le

/-- The sort puts the first greatest of the other positions second. -/
theorem sorted_second (f : Fin 4 → EReal) (B : Fin 4 → Fin 4 → Bool) (hB : ∀ a b, B a b = true ↔ f b < f a) :
    First (fun j => j ≠ sortedFrom B 0) f (sortedFrom B 1) := by
  have hj : ∀ j, j ≠ sortedFrom B 0 → j = sortedFrom B 1 ∨ Before f (sortedFrom B 1) j := by
    intro j
    obtain ⟨k, rfl⟩ := sortedFrom_surjective B j
    intro h
    rcases eq_or_ne k 0 with rfl | hk
    · exact absurd rfl h
    · rcases eq_or_ne k 1 with rfl | hk1
      · exact Or.inl rfl
      · refine Or.inr (sorted_before f B hB 1 k ?_)
        clear h; revert hk hk1; revert k; decide
  refine ⟨fun h => absurd (sortedFrom_injective B h) (by decide), fun j hne => ?_, fun j hne he => ?_⟩
  · rcases hj j hne with h | h
    · rw [h]
    · exact h.le
  · rcases hj j hne with h | h | h
    · rw [h]
    · exact absurd he h.ne
    · exact h.2.le

end Cert.Moe
-- ==== Proof.Moe.RefTop.lean ====
/- The reference's selections read at an index: the places of the greatest entries of a row, and the entries taken at them. -/
module

public import proofs.«01_k».proof.Proof.Gen.ReferenceIdeal.Run
public import proofs.«01_k».proof.Proof.Moe.Order

@[expose] public section
set_option maxRecDepth 16384
noncomputable section
namespace Cert.Moe.Ref
open Idealize.ShloMosaic Cert.ReferenceIdeal Cert.ReferenceIdeal.Gen

/-- `f a` exceeds `f b`. -/
def exceeds (f : Fin 4 → EReal) (a b : Fin 4) : Bool := decide (f b < f a)
/-- The position that stands at place `k` once the four entries are put in descending order. -/
def place (f : Fin 4 → EReal) (k : Fin 4) : Fin 4 := sortedFrom (exceeds f) k

theorem place_first (f : Fin 4 → EReal) : First (fun _ => True) f (place f 0) :=
  sorted_first f _ fun a b => by simp [exceeds]
theorem place_second (f : Fin 4 → EReal) : First (fun j => j ≠ place f 0) f (place f 1) :=
  sorted_second f _ fun a b => by simp [exceeds]

theorem along4 (i : Fin 16384) (a k : Fin 4) : Shape.Idx.along (s := S16384x4) (ix2 i a) (1 : Fin 2) k = ix2 i k := by
  funext b
  match b with
  | ⟨0, _⟩ => rfl
  | ⟨1, _⟩ => rfl

theorem order4 (x : FVec Ideal S16384x4 .f32) (i : Fin 16384) (a : Fin 4) :
    (fun k k' : Fin 4 => FloatOps.cmpfTotal (F := Ideal) (φ := .f32) .gt (x (Shape.Idx.along (s := S16384x4) (ix2 i a) (1 : Fin 2) k))
      (x (Shape.Idx.along (s := S16384x4) (ix2 i a) (1 : Fin 2) k')) == 1#1) = exceeds (fun k => x (ix2 i k)) := by
  funext k k'
  rw [along4, along4]
  show (BitVec.ofBool (decide (x (ix2 i k') < x (ix2 i k))) == 1#1) = decide _
  by_cases h : x (ix2 i k') < x (ix2 i k) <;> simp [h]

variable {n : ℕ} (hn : n ≤ 4) (hs : S16384x4.Slices (fun _ => 0) ⟨2, ![16384, n]⟩) (x : FVec Ideal S16384x4 .f32) (i : Fin 16384) (k : Fin n)

include hn in
theorem slice_apply {α : Type} (y : S16384x4.Idx → α) :
    extractStridedSlice ⟨2, ![16384, n]⟩ (fun _ => 0) y hs (ix2 i k) = y (ix2 i (k.castLE hn)) := by
  refine congrArg y (funext fun a => ?_)
  match a with
  | ⟨0, _⟩ => exact Fin.ext (Nat.zero_add _)
  | ⟨1, _⟩ => exact Fin.ext (Nat.zero_add _)

theorem top_value : (Host.topK ⟨2, ![16384, n]⟩ 1 (FloatOps.cmpfTotal .gt) x hs).1 (ix2 i k)
    = x (ix2 i (place (fun k => x (ix2 i k)) (k.castLE hn))) := by
  unfold Host.topK
  dsimp only
  refine (slice_apply hn hs i k _).trans ?_
  · unfold Host.sort2
    rw [dif_pos (by decide)]
    exact congrArg x ((congrArg (fun B => Shape.Idx.along (s := S16384x4) (ix2 i (k.castLE hn)) (1 : Fin 2) (sortedFrom B (k.castLE hn)))
      (order4 x i (k.castLE hn))).trans (along4 _ _ _))

theorem top_index : (Host.topK ⟨2, ![16384, n]⟩ 1 (FloatOps.cmpfTotal .gt) x hs).2 (ix2 i k)
    = BitVec.ofNat 32 (place (fun k => x (ix2 i k)) (k.castLE hn)).val := by
  unfold Host.topK
  dsimp only
  refine (slice_apply hn hs i k _).trans ?_
  · unfold Host.sort2
    rw [dif_pos (by decide)]
    refine (congrArg (fun j : S16384x4.Idx => BitVec.ofNat 32 (j 1).val) ((congrArg (fun B => Shape.Idx.along (s := S16384x4) (ix2 i (k.castLE hn)) (1 : Fin 2) (sortedFrom B (k.castLE hn)))
      (order4 x i (k.castLE hn))).trans (along4 _ _ _)))

theorem gather_column (p : FVec Ideal S16384x4 .f32) (w : IVec S16384x1x1 32) (i : Fin 16384) (g : Fin 4)
    (hw : w (ix3 i 0 0) = BitVec.ofNat 32 g.val) :
    Host.gather gather_S16384x4_S16384x1x1_S16384x1_n_1_0_0_1_2_11 p w (ix2 i 0) = p (ix2 i g) := by
  set d := gather_S16384x4_S16384x1x1_S16384x1_n_1_0_0_1_2_11 with hd
  unfold Host.gather
  refine congrArg p (funext fun a => Fin.ext ?_)
  match a with
  | ⟨0, _⟩ =>
    show d.start (ix2 i 0) w 0 + d.batchCoord (ix2 i 0) 0 + d.offCoord (ix2 i 0) 0 = _
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show 0 ∈ d.operandBatchingDims from List.mem_singleton.mpr rfl)]
    rfl
  | ⟨1, _⟩ =>
    show d.start (ix2 i 0) w 1 + d.batchCoord (ix2 i 0) 1 + d.offCoord (ix2 i 0) 1 = _
    rw [GatherDims.batchCoord_eq_zero _ _ _ (fun h => by simp [hd, gather_S16384x4_S16384x1x1_S16384x1_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    have hsi : d.siIdx (ix2 i 0) ⟨List.idxOf (1 : Fin 2) d.startIndexMap,
        List.idxOf_lt_length_iff.2 (List.mem_singleton.mpr rfl)⟩ = ix3 i 0 0 := by
      funext b; refine Fin.ext ?_
      match b with
      | ⟨0, _⟩ => rfl
      | ⟨1, _⟩ => rfl
      | ⟨2, _⟩ => rfl
    rw [hsi, hw, ofNat_toInt (by omega)]
    show min ((g.val : Int).toNat) 3 = g.val
    omega

theorem gather_slab (p : FVec Ideal S16384x4x4 .f32) (w : IVec S16384x1x1 32) (i : Fin 16384) (j g : Fin 4)
    (hw : w (ix3 i 0 0) = BitVec.ofNat 32 g.val) :
    Host.gather gather_S16384x4x4_S16384x1x1_S16384x1x4_2_1_0_0_1_2_114 p w (ix3 i 0 j) = p (ix3 i g j) := by
  set d := gather_S16384x4x4_S16384x1x1_S16384x1x4_2_1_0_0_1_2_114 with hd
  unfold Host.gather
  refine congrArg p (funext fun a => Fin.ext ?_)
  match a with
  | ⟨0, _⟩ =>
    show d.start (ix3 i 0 j) w 0 + d.batchCoord (ix3 i 0 j) 0 + d.offCoord (ix3 i 0 j) 0 = _
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show 0 ∈ d.operandBatchingDims from List.mem_singleton.mpr rfl)]
    rfl
  | ⟨1, _⟩ =>
    show d.start (ix3 i 0 j) w 1 + d.batchCoord (ix3 i 0 j) 1 + d.offCoord (ix3 i 0 j) 1 = _
    rw [GatherDims.batchCoord_eq_zero _ _ _ (fun h => by simp [hd, gather_S16384x4x4_S16384x1x1_S16384x1x4_2_1_0_0_1_2_114] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ d.startIndexMap from List.mem_singleton.mpr rfl)]
    have hsi : d.siIdx (ix3 i 0 j) ⟨List.idxOf (1 : Fin 3) d.startIndexMap,
        List.idxOf_lt_length_iff.2 (List.mem_singleton.mpr rfl)⟩ = ix3 i 0 0 := by
      funext b; refine Fin.ext ?_
      match b with
      | ⟨0, _⟩ => rfl
      | ⟨1, _⟩ => rfl
      | ⟨2, _⟩ => rfl
    rw [hsi, hw, ofNat_toInt (by omega)]
    show min ((g.val : Int).toNat) 3 = g.val
    omega
  | ⟨2, _⟩ =>
    show d.start (ix3 i 0 j) w 2 + d.batchCoord (ix3 i 0 j) 2 + d.offCoord (ix3 i 0 j) 2 = _
    rw [GatherDims.batchCoord_eq_zero _ _ _ (fun h => by simp [hd, gather_S16384x4x4_S16384x1x1_S16384x1x4_2_1_0_0_1_2_114] at h)]
    have : d.start (ix3 i 0 j) w 2 = 0 := by
      unfold GatherDims.start
      exact dif_neg (fun h => by simp [hd, gather_S16384x4x4_S16384x1x1_S16384x1x4_2_1_0_0_1_2_114] at h)
    rw [this]
    simp only [Nat.zero_add, Nat.add_zero]
    unfold GatherDims.offCoord
    rfl
end Cert.Moe.Ref
-- ==== Proof.Moe.KRoute.lean ====
/- The kernel's routing of one row: group, experts and gates read at an index. -/
module

public import proofs.«01_k».proof.Proof.Gen.KernelIdeal.Value
public import proofs.«01_k».proof.Proof.Moe.Order

@[expose] public section
set_option maxRecDepth 16384
noncomputable section
namespace Cert.Moe
open Idealize.ShloMosaic Cert.KernelIdeal Cert.KernelIdeal.Gen

/-- The probability of the chosen group: its softmax entry. -/
def groupProb (gl : Fin 4 → EReal) (gi : Fin 4) : EReal := Ideal.div 1 (∑ i, Ideal.exp (gl i - gl gi))

/-- The gate of expert `e` when group `gi` and its experts `j1`, `j2` are chosen. -/
def gateOf (gl ev : Fin 4 → EReal) (gi j1 j2 : Fin 4) (e : Fin 16) : EReal :=
  if e.val = 4 * gi.val + j1.val then Ideal.div (groupProb gl gi) (1 + Ideal.exp (ev j2 - ev j1))
  else if e.val = 4 * gi.val + j2.val then
    Ideal.div (groupProb gl gi * Ideal.exp (ev j2 - ev j1)) (1 + Ideal.exp (ev j2 - ev j1))
  else 0

theorem ofBits_neg_inf : Ideal.ofBits FTy.f32 4286578688#32 = ⊥ := by
  simp [Ideal.ofBits, Ideal.ieee]

def lanes : IVec S256x128 32 := iota .tc S256x128 32 [1] iota_S256x128_d1_w32

theorem lanes_apply (p : Fin 256) (l : Fin 128) : lanes (ix2 p l) = BitVec.ofNat 32 l.val := by
  pointwise [lanes]

/-- Lane of group `i`. -/
def laneG (i : Fin 4) : Fin 128 := ⟨i.val, by omega⟩
/-- Lane of expert `e`. -/
def laneE (e : Fin 16) : Fin 128 := ⟨4 + e.val, by omega⟩
/-- Expert `j` of group `gi`. -/
def expertOf (gi j : Fin 4) : Fin 16 := ⟨4 * gi.val + j.val, by omega⟩

/-- The lanes of group `gi`'s experts. -/
def InGroup (gi : Fin 4) (l : Fin 128) : Prop := ∃ j, True ∧ laneE (expertOf gi j) = l

theorem mask_groups (p : Fin 256) (l : Fin 128) : k0_pay5 (ix2 p l) = 1#1 ↔ ∃ j, True ∧ laneG j = l := by
  have : k0_pay5 (ix2 p l) = IntOp.cmpi .slt (lanes (ix2 p l)) 4#32 := by
    pointwise [k0_pay5, lanes]
  rw [this, lanes_apply]
  clear this
  clear p
  revert l
  decide +kernel

def inGroupWord (x g : BitVec 32) : BitVec 1 :=
  IntOp.andi
      (IntOp.andi (IntOp.cmpi CmpIPredicate.sge x 4#32) (IntOp.cmpi CmpIPredicate.slt x 20#32))
      (IntOp.cmpi CmpIPredicate.eq
        (Scalar.select
          (IntOp.andi
            (IntOp.cmpi CmpIPredicate.ne
              (IntOp.subi (BitVec.setWidth 32 (IntOp.cmpi CmpIPredicate.sgt (IntOp.subi x 4#32) 0#32))
                (BitVec.setWidth 32 (IntOp.cmpi CmpIPredicate.slt (IntOp.subi x 4#32) 0#32)))
              (Scalar.subi (Scalar.extui (Scalar.cmpi CmpIPredicate.sgt 4#32 0#32))
                (Scalar.extui (Scalar.cmpi CmpIPredicate.slt 4#32 0#32))))
            (IntOp.cmpi CmpIPredicate.ne (IntOp.remsi ArithUnit.vector (IntOp.subi x 4#32) 4#32) 0#32))
          (IntOp.subi (IntOp.divsi ArithUnit.vector (IntOp.subi x 4#32) 4#32) 1#32)
          (IntOp.divsi ArithUnit.vector (IntOp.subi x 4#32) 4#32)) g)

theorem inGroupWord_iff : ∀ (gi : Fin 4) (l : Fin 128),
    inGroupWord (BitVec.ofNat 32 l.val) (BitVec.ofNat 32 gi.val) = 1#1 ↔ ∃ j, True ∧ laneE (expertOf gi j) = l := by
  decide +kernel

variable (L : FVec Ideal S256x128 .f32) (p : Fin 256)

def grpWord : IVec S256x1 32 := k0_pay7 L lanes k0_pay5
def probV : FVec Ideal S256x1 .f32 := k0_pay8 L k0_pay5
def maskV : IVec S256x128 1 := k0_pay14 (grpWord L) (k0_pay9 lanes) (k0_pay11 lanes) (k0_pay12 lanes) (k0_pay13 lanes)
def topV : FVec Ideal S256x1 .f32 := k0_pay15 L (grpWord L) (k0_pay9 lanes) (k0_pay11 lanes) (k0_pay12 lanes) (k0_pay13 lanes)
def topW : IVec S256x1 32 := k0_pay16 L lanes (grpWord L) (k0_pay9 lanes) (k0_pay11 lanes) (k0_pay12 lanes) (k0_pay13 lanes)
def restV : IVec S256x128 1 := k0_pay17 L lanes (grpWord L) (k0_pay9 lanes) (k0_pay11 lanes) (k0_pay12 lanes) (k0_pay13 lanes)
def secV : FVec Ideal S256x1 .f32 := k0_pay18 L lanes (grpWord L) (k0_pay9 lanes) (k0_pay11 lanes) (k0_pay12 lanes) (k0_pay13 lanes)
def w1V : FVec Ideal S256x1 .f32 := k0_pay20 L lanes (grpWord L) (probV L) (k0_pay9 lanes) (k0_pay11 lanes) (k0_pay12 lanes) (k0_pay13 lanes)
def w2V : FVec Ideal S256x1 .f32 := k0_pay21 L lanes (grpWord L) (probV L) (k0_pay9 lanes) (k0_pay11 lanes) (k0_pay12 lanes) (k0_pay13 lanes)
def is1V : IVec S256x128 1 := k0_pay22 L lanes (grpWord L) (k0_pay9 lanes) (k0_pay11 lanes) (k0_pay12 lanes) (k0_pay13 lanes)
def is2V : IVec S256x128 1 := k0_pay23 L lanes (grpWord L) (k0_pay9 lanes) (k0_pay11 lanes) (k0_pay12 lanes) (k0_pay13 lanes)
/-- The gate of each lane, as the kernel computes it from the logits `L`. -/
def gateV : FVec Ideal S256x128 .f32 := k0_pay24 (w1V L) (w2V L) (is1V L) (is2V L) (Scalar.ofBits .f32 0x00000000#32)

variable {L p} {gi j1 j2 : Fin 4}

abbrev glOf (L : FVec Ideal S256x128 .f32) (p : Fin 256) : Fin 4 → EReal := fun i => L (ix2 p (laneG i))
abbrev evOf (L : FVec Ideal S256x128 .f32) (p : Fin 256) (gi : Fin 4) : Fin 4 → EReal := fun j => L (ix2 p (laneE (expertOf gi j)))

theorem first_group (h : First (fun _ => True) (glOf L p) gi) :
    First (fun l => ∃ j, True ∧ laneG j = l) (fun l => L (ix2 p l)) (laneG gi) :=
  h.map laneG (fun a b hab => hab) (fun _ => Iff.rfl) fun _ => rfl

theorem first_top (h : First (fun _ => True) (evOf L p gi) j1) :
    First (InGroup gi) (fun l => L (ix2 p l)) (laneE (expertOf gi j1)) :=
  h.map (fun j => laneE (expertOf gi j)) (fun a b hab => by
    simp only [laneE, expertOf, Fin.le_def] at hab ⊢; omega) (fun _ => Iff.rfl) fun _ => rfl

theorem first_sec (h : First (fun j => j ≠ j1) (evOf L p gi) j2) :
    First (fun l => ∃ j, j ≠ j1 ∧ laneE (expertOf gi j) = l) (fun l => L (ix2 p l)) (laneE (expertOf gi j2)) :=
  h.map (fun j => laneE (expertOf gi j)) (fun a b hab => by
    simp only [laneE, expertOf, Fin.le_def] at hab ⊢; omega) (fun _ => Iff.rfl) fun _ => rfl

theorem groupMax_apply (h : First (fun _ => True) (glOf L p) gi) : k0_pay6 L k0_pay5 (ix2 p 0) = glOf L p gi := by
  pointwise [k0_pay6]
  rw [ofBits_neg_inf]
  exact fold_max_first (first_group h) _ (mask_groups p)

theorem grpWord_apply (h : First (fun _ => True) (glOf L p) gi) : grpWord L (ix2 p 0) = BitVec.ofNat 32 gi.val := by
  pointwise [grpWord, k0_pay7]
  exact fold_min_first (first_group h) _ (mask_groups p) _ (lanes_apply p) _ (groupMax_apply h)

/-- A masked sum over the lanes is the sum over the groups. -/
theorem sum_groups (f : Fin 128 → EReal) (M : Fin 128 → BitVec 1) (hM : ∀ l, M l = 1#1 ↔ ∃ j, True ∧ laneG j = l) :
    ∑ l, Scalar.select (M l) (f l) 0 = ∑ i, f (laneG i) := by
  classical
  simp only [fun l => select_iff (hM l) (f l) 0]
  rw [← Finset.sum_filter]
  symm
  refine Finset.sum_bij (fun i _ => laneG i) (fun i _ => ?_) (fun a _ b _ hab => ?_) (fun l hl => ?_) fun _ _ => rfl
  · simp only [Finset.mem_filter, Finset.mem_univ, true_and]; exact ⟨i, rfl⟩
  · simp only [laneG, Fin.mk.injEq] at hab; exact Fin.ext hab
  · simp only [Finset.mem_filter, Finset.mem_univ, true_and] at hl
    obtain ⟨j, hj⟩ := hl; exact ⟨j, Finset.mem_univ _, hj⟩

theorem probV_apply (h : First (fun _ => True) (glOf L p) gi) : probV L (ix2 p 0) = groupProb (glOf L p) gi := by
  pointwise [probV, k0_pay8]
  rw [groupMax_apply h]
  unfold groupProb
  congr 1
  exact sum_groups (fun l => Ideal.exp (L (ix2 p l) - glOf L p gi)) _ (mask_groups p)

theorem maskV_apply (h : First (fun _ => True) (glOf L p) gi) (l : Fin 128) :
    maskV L (ix2 p l) = 1#1 ↔ InGroup gi l := by
  have : maskV L (ix2 p l) = inGroupWord (lanes (ix2 p l)) (grpWord L (ix2 p 0)) := by
    pointwise [maskV, k0_pay14, k0_pay9, k0_pay11, k0_pay12, k0_pay13, k0_pay10]
    rfl
  rw [this, lanes_apply, grpWord_apply h]
  exact inGroupWord_iff gi l

theorem topV_apply (h : First (fun _ => True) (glOf L p) gi) (h1 : First (fun _ => True) (evOf L p gi) j1) :
    topV L (ix2 p 0) = evOf L p gi j1 := by
  pointwise [topV, k0_pay15]
  rw [ofBits_neg_inf]
  exact fold_max_first (first_top h1) _ (maskV_apply h)

theorem topW_apply (h : First (fun _ => True) (glOf L p) gi) (h1 : First (fun _ => True) (evOf L p gi) j1) :
    topW L (ix2 p 0) = BitVec.ofNat 32 (laneE (expertOf gi j1)).val := by
  pointwise [topW, k0_pay16]
  exact fold_min_first (first_top h1) _ (maskV_apply h) _ (lanes_apply p) _ (topV_apply h h1)

theorem laneE_word : ∀ (l : Fin 128) (e : Fin 16),
    IntOp.cmpi .eq (BitVec.ofNat 32 l.val) (BitVec.ofNat 32 (laneE e).val) = 1#1 ↔ l = laneE e := by
  decide +kernel

theorem laneE_inj {e e' : Fin 16} : laneE e = laneE e' ↔ e = e' := by
  simp only [laneE, Fin.mk.injEq, Fin.ext_iff]; omega

theorem expertOf_inj {gi j j' : Fin 4} : expertOf gi j = expertOf gi j' ↔ j = j' := by
  simp only [expertOf, Fin.mk.injEq, Fin.ext_iff]; omega

theorem restV_apply (h : First (fun _ => True) (glOf L p) gi) (h1 : First (fun _ => True) (evOf L p gi) j1) (l : Fin 128) :
    restV L (ix2 p l) = 1#1 ↔ ∃ j, j ≠ j1 ∧ laneE (expertOf gi j) = l := by
  have : restV L (ix2 p l) = IntOp.andi (maskV L (ix2 p l)) (IntOp.cmpi .ne (lanes (ix2 p l)) (topW L (ix2 p 0))) := by
    pointwise [restV, k0_pay17]
    rfl
  rw [this, lanes_apply, topW_apply h h1]
  have hand : ∀ a b : BitVec 1, IntOp.andi a b = 1#1 ↔ a = 1#1 ∧ b = 1#1 := by decide
  have hne : ∀ (l : Fin 128) (e : Fin 16),
      IntOp.cmpi .ne (BitVec.ofNat 32 l.val) (BitVec.ofNat 32 (laneE e).val) = 1#1 ↔ l ≠ laneE e := by decide +kernel
  rw [hand, maskV_apply h, hne]
  constructor
  · rintro ⟨⟨j, -, rfl⟩, hj⟩
    exact ⟨j, fun hjj => hj (by rw [hjj]), rfl⟩
  · rintro ⟨j, hj, rfl⟩
    exact ⟨⟨j, trivial, rfl⟩, fun hjj => hj (expertOf_inj.mp (laneE_inj.mp hjj))⟩

theorem secV_apply (h : First (fun _ => True) (glOf L p) gi) (h1 : First (fun _ => True) (evOf L p gi) j1)
    (h2 : First (fun j => j ≠ j1) (evOf L p gi) j2) : secV L (ix2 p 0) = evOf L p gi j2 := by
  pointwise [secV, k0_pay18]
  rw [ofBits_neg_inf]
  exact fold_max_first (first_sec h2) _ (restV_apply h h1)

theorem is1V_apply (h : First (fun _ => True) (glOf L p) gi) (h1 : First (fun _ => True) (evOf L p gi) j1) (e : Fin 16) :
    is1V L (ix2 p (laneE e)) = 1#1 ↔ e.val = 4 * gi.val + j1.val := by
  have : is1V L (ix2 p (laneE e)) = IntOp.cmpi .eq (lanes (ix2 p (laneE e))) (topW L (ix2 p 0)) := by
    pointwise [is1V, k0_pay22]
    rfl
  rw [this, lanes_apply, topW_apply h h1, laneE_word, laneE_inj, Fin.ext_iff]
  rfl

theorem is2V_apply (h : First (fun _ => True) (glOf L p) gi) (h1 : First (fun _ => True) (evOf L p gi) j1)
    (h2 : First (fun j => j ≠ j1) (evOf L p gi) j2) (e : Fin 16) :
    is2V L (ix2 p (laneE e)) = 1#1 ↔ e.val = 4 * gi.val + j2.val := by
  have : is2V L (ix2 p (laneE e)) = IntOp.cmpi .eq (lanes (ix2 p (laneE e)))
      (BitVec.ofNat 32 (laneE (expertOf gi j2)).val) := by
    pointwise [is2V, k0_pay23]
    exact congrArg (IntOp.cmpi .eq _) (fold_min_first (first_sec h2) _ (restV_apply h h1) _ (lanes_apply p) _ (secV_apply h h1 h2))
  rw [this, lanes_apply, laneE_word, laneE_inj, Fin.ext_iff]
  rfl

theorem pay20_apply (I : IVec S256x128 32) (g : IVec S256x1 32) (P : FVec Ideal S256x1 .f32) (a : IVec S256x128 1)
    (b : IVec S256x128 32) (c : IVec S256x128 1) (d : IVec S256x128 32) :
    k0_pay20 L I g P a b c d (ix2 p 0) = Ideal.div (P (ix2 p 0))
      (1 + Ideal.exp (k0_pay18 L I g a b c d (ix2 p 0) - k0_pay15 L g a b c d (ix2 p 0))) := by
  pointwise [k0_pay20, k0_pay19]

theorem pay21_apply (I : IVec S256x128 32) (g : IVec S256x1 32) (P : FVec Ideal S256x1 .f32) (a : IVec S256x128 1)
    (b : IVec S256x128 32) (c : IVec S256x128 1) (d : IVec S256x128 32) :
    k0_pay21 L I g P a b c d (ix2 p 0) = Ideal.div
      (P (ix2 p 0) * Ideal.exp (k0_pay18 L I g a b c d (ix2 p 0) - k0_pay15 L g a b c d (ix2 p 0)))
      (1 + Ideal.exp (k0_pay18 L I g a b c d (ix2 p 0) - k0_pay15 L g a b c d (ix2 p 0))) := by
  pointwise [k0_pay21, k0_pay19]

theorem w1V_apply : w1V L (ix2 p 0) = Ideal.div (probV L (ix2 p 0)) (1 + Ideal.exp (secV L (ix2 p 0) - topV L (ix2 p 0))) :=
  pay20_apply _ _ _ _ _ _ _

theorem w2V_apply : w2V L (ix2 p 0) = Ideal.div (probV L (ix2 p 0) * Ideal.exp (secV L (ix2 p 0) - topV L (ix2 p 0)))
    (1 + Ideal.exp (secV L (ix2 p 0) - topV L (ix2 p 0))) :=
  pay21_apply _ _ _ _ _ _ _

theorem gateV_apply (h : First (fun _ => True) (glOf L p) gi) (h1 : First (fun _ => True) (evOf L p gi) j1)
    (h2 : First (fun j => j ≠ j1) (evOf L p gi) j2) (e : Fin 16) :
    gateV L (ix2 p (laneE e)) = gateOf (glOf L p) (evOf L p gi) gi j1 j2 e := by
  have e0 : gateV L (ix2 p (laneE e)) = Scalar.select (is1V L (ix2 p (laneE e))) (w1V L (ix2 p 0))
      (Scalar.select (is2V L (ix2 p (laneE e))) (w2V L (ix2 p 0)) 0) := by
    pointwise [gateV, k0_pay24]
  rw [e0, select_iff (is1V_apply h h1 e), select_iff (is2V_apply h h1 h2 e)]
  rw [w1V_apply, w2V_apply, probV_apply h, secV_apply h h1 h2, topV_apply h h1]
  rfl

end Cert.Moe
-- ==== Proof.Moe.Spec.lean ====
/- One row of the layer's normalisation and of its expert sum, as functions of plain indices. -/
module

public import Idealize.ShloMosaic.Lib.Pointwise
public import Idealize.ShloMosaic.Init

@[expose] public section
noncomputable section
namespace Cert.Moe
open Idealize.ShloMosaic

/-- The inverse root mean square of a row of 1024 numbers. -/
def invRms (x : Fin 1024 → EReal) : EReal :=
  Ideal.rsqrt (Ideal.div (∑ k, x k * x k) (Ideal.ofBits .f32 0x44800000#32) + Ideal.ofBits .f32 0x358637BD#32)

/-- A row normalised by its root mean square and scaled by the gain `g`. -/
def normed (x g : Fin 1024 → EReal) (k : Fin 1024) : EReal := x k * invRms x * g k

/-- The gated linear unit of one hidden column: `h` against the columns `a` and `b`. -/
def glu (h a b : Fin 1024 → EReal) : EReal :=
  (∑ k, h k * a k) * Ideal.logistic (∑ k, h k * a k) * ∑ k, h k * b k

/-- The experts' sum: expert `e`'s hidden columns `f`, weighted by its gate. -/
def expertSum (h : Fin 1024 → EReal) (w1 w3 : Fin 16 → Fin 1024 → Fin 256 → EReal)
    (w2 : Fin 16 → Fin 256 → Fin 1024 → EReal) (gate : Fin 16 → EReal) (q : Fin 1024) : EReal :=
  ∑ e, ∑ f, glu h (fun k => w1 e k f) (fun k => w3 e k f) * gate e * w2 e f q

/-- A sum over `m * n` numbers taken `n` at a time. -/
theorem sum_runs {m n : ℕ} (B : Fin (m * n) → EReal) :
    ∑ c, B c = ∑ i : Fin m, ∑ j : Fin n, B ⟨n * i.val + j.val, by
      have hi := i.isLt; have hj := j.isLt
      calc n * i.val + j.val < n * i.val + n := by omega
        _ = n * (i.val + 1) := by ring
        _ ≤ n * m := Nat.mul_le_mul_left n hi
        _ = m * n := Nat.mul_comm n m⟩ := by
  rw [← finProdFinEquiv.sum_comp, Fintype.sum_prod_type]
  refine Finset.sum_congr rfl fun i _ => Finset.sum_congr rfl fun j _ => congrArg B (Fin.ext ?_)
  simp only [finProdFinEquiv_apply_val]; omega

/-- A sum over 4096 numbers, four thousands-and-twenty-four at a time, or 256 at a time. -/
theorem sum_quarters (B : Fin 4096 → EReal) :
    0 + (∑ k : Fin 1024, B ⟨k.val, by omega⟩) + (∑ k : Fin 1024, B ⟨1024 + k.val, by omega⟩)
      + (∑ k : Fin 1024, B ⟨2048 + k.val, by omega⟩) + (∑ k : Fin 1024, B ⟨3072 + k.val, by omega⟩)
      = ∑ e : Fin 16, ∑ f : Fin 256, B ⟨256 * e.val + f.val, by omega⟩ := by
  have h4 := sum_runs (m := 4) (n := 1024) B
  have h16 := sum_runs (m := 16) (n := 256) B
  rw [← h16, h4, Fin.sum_univ_four, zero_add]
  congr 2

end Cert.Moe
-- ==== Proof.Moe.KBlock.lean ====
/- The kernel's block of 256 rows, read at an index. -/
module

public import proofs.«01_k».proof.Proof.Moe.KRoute
public import proofs.«01_k».proof.Proof.Moe.Spec

@[expose] public section
set_option maxRecDepth 16384
noncomputable section
namespace Cert.Moe
open Idealize.ShloMosaic Cert.KernelIdeal Cert.KernelIdeal.Gen

variable (x : Vec Ideal S256x1024 .f32) (g : Vec Ideal S1x1024 .f32) (p : Fin 256)

theorem pay2_apply (q : Fin 1024) : k0_pay2 x g (ix2 p q) = normed (fun k => x (ix2 p k)) (fun k => g (ix2 0 k)) q := by
  pointwise [k0_pay2]
  rfl

theorem pay3_apply (q : Fin 1024) : k0_pay3 x g (ix2 p q) = normed (fun k => x (ix2 p k)) (fun k => g (ix2 0 k)) q := by
  pointwise [k0_pay3]
  exact pay2_apply x g p q

/-- The logits when the normalised row is finite and the second weight slab is zero. -/
theorem logits_apply (w : Vec Ideal S2x1024x128 .bf16) (b : Vec Ideal S1x128 .f32) (q : Fin 128)
    (hx : ∀ k, normed (fun k => x (ix2 p k)) (fun k => g (ix2 0 k)) k - normed (fun k => x (ix2 p k)) (fun k => g (ix2 0 k)) k = 0)
    (hw : ∀ k, w (ix3 1 k q) = 0) :
    k0_pay4 (View.ld x r0_0) (View.ld g r0_1) (View.ld w r0_2) (View.ld w r0_2) (View.ld w r0_3) (View.ld b r0_4) (ix2 p q)
      = (∑ k, normed (fun k => x (ix2 p k)) (fun k => g (ix2 0 k)) k * w (ix3 0 k q)) + b (ix2 0 q) := by
  have hz : ∀ k, k0_pay2 (View.ld x r0_0) (View.ld g r0_1) (ix2 p k) = normed (fun k => x (ix2 p k)) (fun k => g (ix2 0 k)) k := by
    intro k
    rw [pay2_apply]
    pointwise []
  pointwise [k0_pay4, k0_pay3]
  simp only [hz, hx, hw, zero_mul, mul_zero, Finset.sum_const_zero, add_zero]

/-- Hidden column `c`'s contribution to output column `q`. -/
def hidden (h : FVec Ideal S256x1024 .bf16) (G : FVec Ideal S256x128 .f32) (w1 w3 : Vec Ideal S1024x4096 .bf16)
    (w2 : Vec Ideal S4096x1024 .bf16) (p : Fin 256) (q : Fin 1024) (c : Fin 4096) : EReal :=
  glu (fun k => h (ix2 p k)) (fun k => w1 (ix2 k c)) (fun k => w3 (ix2 k c)) * G (ix2 p ⟨4 + c.val / 256, by omega⟩) * w2 (ix2 c q)

variable (h : FVec Ideal S256x1024 .bf16) (G : FVec Ideal S256x128 .f32) (w1 w3 : Vec Ideal S1024x4096 .bf16)
  (w2 : Vec Ideal S4096x1024 .bf16) (q : Fin 1024)

theorem pay30_apply (acc : FVec Ideal S256x1024 .f32) :
    k0_pay30 x h G acc (View.ld w1 r0_11) (View.ld w3 r0_11) (View.ld w2 r0_12) (ix2 p q)
      = x (ix2 p q) + (acc (ix2 p q) + ∑ k : Fin 1024, hidden h G w1 w3 w2 p q ⟨3072 + k.val, by omega⟩) := by
  pointwise [k0_pay30]
  refine congrArg (fun s => x (ix2 p q) + (acc (ix2 p q) + s)) ?_
  refine Finset.sum_congr rfl fun k _ => ?_
  unfold hidden glu
  congr 2
  split_ifs <;> (refine congrArg (fun l => G (ix2 p l)) (Fin.ext ?_); simp only [Fin.val_ofNat, Fin.isValue, Fin.coe_ofNat_eq_mod]; omega)

theorem pay25_apply (a b : FVec Ideal S256x1 .f32) (i1 i2 : IVec S256x128 1) :
    k0_pay25 h a b i1 i2 (Scalar.ofBits .f32 0x00000000#32) (View.ld w1 r0_5) (View.ld w3 r0_5) (View.ld w2 r0_6) (ix2 p q)
      = 0 + ∑ k : Fin 1024, hidden h (k0_pay24 a b i1 i2 (Scalar.ofBits .f32 0x00000000#32)) w1 w3 w2 p q ⟨k.val, by omega⟩ := by
  generalize hG : k0_pay24 (F := Ideal) a b i1 i2 (Scalar.ofBits .f32 0x00000000#32) = G
  unfold k0_pay25
  rw [hG]
  pointwise []
  refine Finset.sum_congr rfl fun k _ => ?_
  unfold hidden glu
  congr 2
  split_ifs <;> (refine congrArg (fun l => G (ix2 p l)) (Fin.ext ?_); simp only [Fin.val_ofNat, Fin.isValue, Fin.coe_ofNat_eq_mod]; omega)

theorem pay29_apply (acc : FVec Ideal S256x1024 .f32) (c : FVec Ideal S256x1 .f32) (hc : c (ix2 p 0) = G (ix2 p 8)) :
    k0_pay29 h G acc (k0_pay26 h (View.ld w1 r0_7)) (k0_pay27 h (View.ld w3 r0_7)) c (View.ld w2 r0_8)
      (View.ld w1 r0_9) (View.ld w3 r0_9) (View.ld w2 r0_10) (ix2 p q)
      = acc (ix2 p q) + (∑ k : Fin 1024, hidden h G w1 w3 w2 p q ⟨1024 + k.val, by omega⟩)
        + ∑ k : Fin 1024, hidden h G w1 w3 w2 p q ⟨2048 + k.val, by omega⟩ := by
  pointwise [k0_pay29, k0_pay26, k0_pay27]
  rw [hc]
  refine congrArg₂ (fun s t => acc (ix2 p q) + s + t) ?_ ?_
  all_goals
    refine Finset.sum_congr rfl fun k _ => ?_
    unfold hidden glu
    congr 2
    split_ifs <;> (refine congrArg (fun l => G (ix2 p l)) (Fin.ext ?_); simp only [Fin.val_ofNat, Fin.isValue, Fin.coe_ofNat_eq_mod]; omega)

theorem pay28_apply (a b : FVec Ideal S256x1 .f32) (i1 i2 : IVec S256x128 1) (z : Ideal .f32) :
    k0_pay28 a b i1 i2 z (ix2 p 0) = k0_pay24 a b i1 i2 z (ix2 p 8) := by
  pointwise [k0_pay28]

/-- The row of the block after the experts: the input plus the gated experts' sum. -/
theorem rows_apply (a b : FVec Ideal S256x1 .f32) (i1 i2 : IVec S256x128 1) (hG : k0_pay24 a b i1 i2 (Scalar.ofBits .f32 0x00000000#32) = G) :
    k0_pay30 x h G (k0_pay29 h G (k0_pay25 h a b i1 i2 (Scalar.ofBits .f32 0x00000000#32) (View.ld w1 r0_5) (View.ld w3 r0_5) (View.ld w2 r0_6))
        (k0_pay26 h (View.ld w1 r0_7)) (k0_pay27 h (View.ld w3 r0_7)) (k0_pay28 a b i1 i2 (Scalar.ofBits .f32 0x00000000#32)) (View.ld w2 r0_8)
        (View.ld w1 r0_9) (View.ld w3 r0_9) (View.ld w2 r0_10)) (View.ld w1 r0_11) (View.ld w3 r0_11) (View.ld w2 r0_12) (ix2 p q)
      = x (ix2 p q) + expertSum (fun k => h (ix2 p k)) (fun e k f => w1 (ix2 k ⟨256 * e.val + f.val, by omega⟩))
          (fun e k f => w3 (ix2 k ⟨256 * e.val + f.val, by omega⟩)) (fun e f q => w2 (ix2 ⟨256 * e.val + f.val, by omega⟩ q))
          (fun e => G (ix2 p (laneE e))) q := by
  rw [pay30_apply, pay29_apply _ _ _ _ _ _ _ _ _ ((pay28_apply p a b i1 i2 _).trans (by rw [hG])), pay25_apply, hG, sum_quarters]
  refine congrArg (x (ix2 p q) + ·) (Finset.sum_congr rfl fun e _ => Finset.sum_congr rfl fun f _ => ?_)
  unfold hidden
  have hl : (⟨4 + (256 * e.val + f.val) / 256, by omega⟩ : Fin 128) = laneE e := by
    apply Fin.ext; simp only [laneE]; omega
  simp only [hl]

theorem pay31_apply (acc : FVec Ideal S256x1024 .f32) (u v w : Vec Ideal S1024x1024 .bf16) (gf : Vec Ideal S1x1024 .f32) :
    k0_pay1 (k0_pay31 x h G acc u v w) (k0_pay32 gf) (ix2 p q)
      = normed (fun k => k0_pay30 x h G acc u v w (ix2 p k)) (fun k => gf (ix2 0 k)) q := by
  pointwise [k0_pay1, k0_pay32, k0_pay31]
  rfl

/-! ## What the body leaves in the two outputs -/

section
variable (x0 : Vec Ideal S256x1024 .f32) (x1 : Vec Ideal S1x1024 .f32) (x2 : Vec Ideal S2x1024x128 .bf16) (x3 : Vec Ideal S1x128 .f32)
  (x4 x5 : Vec Ideal S1024x4096 .bf16) (x6 : Vec Ideal S4096x1024 .bf16) (x7 : Vec Ideal S1x1024 .f32)

/-- The normalised row `p` of the block. -/
def blockH (p : Fin 256) : Fin 1024 → EReal := normed (fun k => x0 (ix2 p k)) (fun k => x1 (ix2 0 k))

/-- The gate of expert `e` in row `p` of the block. -/
def blockGate (p : Fin 256) (e : Fin 16) : EReal := gateV (k0_pay35 x0 x1 x2 x3 x4 x5 x6 x7) (ix2 p (laneE e))

/-- Row `p` of the first output. -/
def blockRow (p : Fin 256) (q : Fin 1024) : EReal :=
  x0 (ix2 p q) + expertSum (blockH x0 x1 p) (fun e k f => x4 (ix2 k ⟨256 * e.val + f.val, by omega⟩))
    (fun e k f => x5 (ix2 k ⟨256 * e.val + f.val, by omega⟩)) (fun e f q => x6 (ix2 ⟨256 * e.val + f.val, by omega⟩ q))
    (blockGate x0 x1 x2 x3 x4 x5 x6 x7 p) q

theorem ld_x0 : View.ld x0 r0_0 = x0 := View.ld_unit_zero (by decide) _ _
theorem ld_x1 : View.ld x1 r0_1 = x1 := View.ld_unit_zero (by decide) _ _

theorem out8_apply : out0_8 x0 x1 x2 x3 x4 x5 x6 x7 (ix2 p q) = blockRow x0 x1 x2 x3 x4 x5 x6 x7 p q := by
  unfold out0_8
  rw [View.canon_unit_zero (by decide)]
  refine (rows_apply (View.ld x0 r0_0) p (k0_pay34 x0 x1 x2 x3 x4 x5 x6 x7) (k0_pay47 x0 x1 x2 x3 x4 x5 x6 x7) x4 x5 x6 q
    (k0_pay43 x0 x1 x2 x3 x4 x5 x6 x7) (k0_pay44 x0 x1 x2 x3 x4 x5 x6 x7) (k0_pay45 x0 x1 x2 x3 x4 x5 x6 x7) (k0_pay46 x0 x1 x2 x3 x4 x5 x6 x7) rfl).trans ?_
  rw [ld_x0]
  unfold blockRow
  refine congrArg (x0 (ix2 p q) + ·) ?_
  have hh : (fun k => k0_pay34 x0 x1 x2 x3 x4 x5 x6 x7 (ix2 p k)) = blockH x0 x1 p := by
    funext k
    unfold k0_pay34
    rw [ld_x0, ld_x1, pay3_apply]
    rfl
  rw [hh]
  rfl

theorem out9_apply : out0_9 x0 x1 x2 x3 x4 x5 x6 x7 (ix2 p q)
    = normed (blockRow x0 x1 x2 x3 x4 x5 x6 x7 p) (fun k => x7 (ix2 0 k)) q := by
  have h8 : ∀ k, out0_8 x0 x1 x2 x3 x4 x5 x6 x7 (ix2 p k) = blockRow x0 x1 x2 x3 x4 x5 x6 x7 p k :=
    fun k => out8_apply p k x0 x1 x2 x3 x4 x5 x6 x7
  unfold out0_8 at h8
  rw [View.canon_unit_zero (by decide)] at h8
  unfold out0_9
  rw [View.canon_unit_zero (by decide), pay31_apply]
  simp only [h8]
  rw [show View.ld x7 r0_1 = x7 from View.ld_unit_zero (by decide) _ _]

/-- The logits of the block when its rows are finite and the second weight slab is zero. -/
theorem blockLogits (l : Fin 128) (hx : ∀ k, blockH x0 x1 p k - blockH x0 x1 p k = 0) (hw : ∀ k, x2 (ix3 1 k l) = 0) :
    k0_pay35 x0 x1 x2 x3 x4 x5 x6 x7 (ix2 p l) = (∑ k, blockH x0 x1 p k * x2 (ix3 0 k l)) + x3 (ix2 0 l) :=
  logits_apply x0 x1 p x2 x3 l hx hw

/-- The gates of a row, from the chosen group and experts. -/
theorem blockGate_eq {gl : Fin 4 → EReal} {ev : Fin 4 → EReal} {gi j1 j2 : Fin 4}
    (hgl : ∀ i, k0_pay35 x0 x1 x2 x3 x4 x5 x6 x7 (ix2 p (laneG i)) = gl i)
    (hev : ∀ j, k0_pay35 x0 x1 x2 x3 x4 x5 x6 x7 (ix2 p (laneE (expertOf gi j))) = ev j)
    (h : First (fun _ => True) gl gi) (h1 : First (fun _ => True) ev j1) (h2 : First (fun j => j ≠ j1) ev j2) (e : Fin 16) :
    blockGate x0 x1 x2 x3 x4 x5 x6 x7 p e = gateOf gl ev gi j1 j2 e := by
  obtain rfl : glOf (k0_pay35 x0 x1 x2 x3 x4 x5 x6 x7) p = gl := funext hgl
  obtain rfl : evOf (k0_pay35 x0 x1 x2 x3 x4 x5 x6 x7) p gi = ev := funext hev
  exact gateV_apply h h1 h2 e
end
end Cert.Moe
-- ==== Proof.Moe.KHost.lean ====
/- The arrays the kernel's windows read: the host's preparation of the weights, read at an index. -/
module

public import proofs.«01_k».proof.Proof.Moe.KRoute

@[expose] public section
set_option maxRecDepth 16384
noncomputable section
namespace Cert.Moe
open Idealize.ShloMosaic Idealize.ShloMosaic.TcCoe Idealize.SL.Sem Cert.KernelIdeal Cert.KernelIdeal.Gen Idealize.ShloMosaic.StableHlo

variable (m : (ℓ : Loc nD τ sig) → Buf (Elt Ideal) ℓ) (c : Dev nD)

/-- Argument contents as launched. -/
abbrev A0 : Vec Ideal S16384x1024 .f32 := m ((c : Thread nD τ).loc main_arg0)
abbrev A1 : Vec Ideal S1024 .f32 := m ((c : Thread nD τ).loc main_arg1)
abbrev A2 : Vec Ideal S1024x4 .f32 := m ((c : Thread nD τ).loc main_arg2)
abbrev A3 : Vec Ideal S4 .f32 := m ((c : Thread nD τ).loc main_arg3)
abbrev A4 : Vec Ideal S1024x16 .f32 := m ((c : Thread nD τ).loc main_arg4)
abbrev A5 : Vec Ideal S16 .f32 := m ((c : Thread nD τ).loc main_arg5)
abbrev A6 : Vec Ideal S16x1024x256 .f32 := m ((c : Thread nD τ).loc main_arg6)
abbrev A7 : Vec Ideal S16x1024x256 .f32 := m ((c : Thread nD τ).loc main_arg7)
abbrev A8 : Vec Ideal S16x256x1024 .f32 := m ((c : Thread nD τ).loc main_arg8)
abbrev A9 : Vec Ideal S1024 .f32 := m ((c : Thread nD τ).loc main_arg9)

theorem V_v20 : V m c main_v20 = broadcastInDim S1x1024 ![1] bcast_S1024_S1x1024_1 (A1 m c) := by
  unfold_abbrev_sides
  after_results
theorem V_v21 : V m c main_v21 = broadcastInDim S1x1024 ![1] bcast_S1024_S1x1024_1 (A9 m c) := by
  unfold_abbrev_sides
  after_results
/-- The first layer's weights as the kernel lays them out: expert by expert along the columns. -/
def colsOf (w : FVec Ideal S16x1024x256 .f32) : FVec Ideal S1024x4096 .bf16 :=
  truncf .bf16 (shapeCast S1024x4096 (transpose S1024x16x256 [1, 0, 2] w transposes_S16x1024x256_S1024x16x256_1_0_2) shapeCasts_S1024x16x256_S1024x4096) bitsLt_bf16_f32
theorem colsOf_apply (w : FVec Ideal S16x1024x256 .f32) (k : Fin 1024) (e : Fin 16) (f : Fin 256) :
    colsOf w (ix2 k ⟨256 * e.val + f.val, by omega⟩) = w (ix3 e k f) := by
  pointwise [colsOf]
/-- The second layer's weights as the kernel lays them out: expert by expert along the rows. -/
def rowsOf (w : FVec Ideal S16x256x1024 .f32) : FVec Ideal S4096x1024 .bf16 :=
  truncf .bf16 (shapeCast S4096x1024 w shapeCasts_S16x256x1024_S4096x1024) bitsLt_bf16_f32
theorem rowsOf_apply (w : FVec Ideal S16x256x1024 .f32) (e : Fin 16) (f : Fin 256) (q : Fin 1024) :
    rowsOf w (ix2 ⟨256 * e.val + f.val, by omega⟩ q) = w (ix3 e f q) := by
  pointwise [rowsOf]
theorem V_v14 : V m c main_v14 = colsOf (A6 m c) := by
  unfold_abbrev_sides
  after_results
  rfl
theorem V_v17 : V m c main_v17 = colsOf (A7 m c) := by
  unfold_abbrev_sides
  after_results
  rfl
theorem V_v19 : V m c main_v19 = rowsOf (A8 m c) := by
  unfold_abbrev_sides
  after_results
  rfl

/-- The router's weights side by side, padded with zero columns. -/
def catW (a : FVec Ideal S1024x4 .f32) (b : FVec Ideal S1024x16 .f32) : FVec Ideal S1024x128 .f32 :=
  concatenate S1024x128 1 [⟨S1024x4, a⟩, ⟨S1024x16, b⟩, ⟨S1024x108, broadcastInDim S1024x108 ![] bcast_S_S1024x108 (constant S_ .f32 0x00000000#32)⟩] concatenates_S1024x4_S1024x16_S1024x108_S1024x128_d1
/-- Both slabs of the router's weights: the rounded ones, and what the rounding lost. -/
def slabs (w : FVec Ideal S1024x128 .f32) : FVec Ideal S2x1024x128 .bf16 :=
  concatenate S2x1024x128 0
    [⟨S1x1024x128, broadcastInDim S1x1024x128 ![1, 2] bcast_S1024x128_S1x1024x128_1_2 (truncf .bf16 w bitsLt_bf16_f32)⟩,
     ⟨S1x1024x128, broadcastInDim S1x1024x128 ![1, 2] bcast_S1024x128_S1x1024x128_1_2
        (truncf .bf16 (subf w (extf .f32 (truncf .bf16 w bitsLt_bf16_f32) bitsLt_bf16_f32)) bitsLt_bf16_f32)⟩]
    concatenates_S1x1024x128_S1x1024x128_S2x1024x128_d0
def catB (a : FVec Ideal S4 .f32) (b : FVec Ideal S16 .f32) : FVec Ideal S1x128 .f32 :=
  broadcastInDim S1x128 ![1] bcast_S128_S1x128_1 (concatenate S128 0 [⟨S4, a⟩, ⟨S16, b⟩, ⟨S108, broadcastInDim S108 ![] bcast_S_S108 (constant S_ .f32 0x00000000#32)⟩] concatenates_S4_S16_S108_S128_d0)
theorem V_v8 : V m c main_v8 = slabs (catW (A2 m c) (A4 m c)) := by
  unfold_abbrev_sides
  after_results
  rfl
theorem V_v11 : V m c main_v11 = catB (A3 m c) (A5 m c) := by
  unfold_abbrev_sides
  after_results
  rfl
theorem slabs_zero (w : FVec Ideal S1024x128 .f32) (k : Fin 1024) (l : Fin 128) : slabs w (ix3 0 k l) = w (ix2 k l) := by
  pointwise [slabs]
theorem slabs_one (w : FVec Ideal S1024x128 .f32) (k : Fin 1024) (l : Fin 128) : slabs w (ix3 1 k l) = w (ix2 k l) - w (ix2 k l) := by
  pointwise [slabs]
variable (a : FVec Ideal S1024x4 .f32) (b : FVec Ideal S1024x16 .f32) (k : Fin 1024)
theorem catW_group (i : Fin 4) : catW a b (ix2 k ⟨i.val, by omega⟩) = a (ix2 k i) := by
  pointwise [catW]

theorem catW_expert (e : Fin 16) : catW a b (ix2 k ⟨4 + e.val, by omega⟩) = b (ix2 k e) := by
  pointwise [catW]

theorem catB_group (a : FVec Ideal S4 .f32) (b : FVec Ideal S16 .f32) (i : Fin 4) : catB a b (ix2 0 ⟨i.val, by omega⟩) = a (ix1 i) := by
  pointwise [catB]

theorem catB_expert (a : FVec Ideal S4 .f32) (b : FVec Ideal S16 .f32) (e : Fin 16) : catB a b (ix2 0 ⟨4 + e.val, by omega⟩) = b (ix1 e) := by
  pointwise [catB]

end Cert.Moe
-- ==== Proof.Moe.KFinal.lean ====
/- The kernel's two output arrays after the run, row by row. -/
module

public import proofs.«01_k».proof.Proof.Moe.KBlock
public import proofs.«01_k».proof.Proof.Moe.KHost
public import Idealize.ShloMosaic.Lib.Pipeline.ValueKit

@[expose] public section
set_option maxRecDepth 16384
noncomputable section
namespace Cert.Moe
open Idealize.ShloMosaic Idealize.ShloMosaic.TcCoe Idealize.SL.Sem Cert.KernelIdeal Cert.KernelIdeal.Gen
open Idealize.ShloMosaic.Pipeline (Dat)

/-- Row `i` normalised. -/
def rowH (x : FVec Ideal S16384x1024 .f32) (g : FVec Ideal S1024 .f32) (i : Fin 16384) : Fin 1024 → EReal :=
  normed (fun k => x (ix2 i k)) (fun k => g (ix1 k))
/-- The group logits of a normalised row. -/
def groupLogit (h : Fin 1024 → EReal) (w : FVec Ideal S1024x4 .f32) (b : FVec Ideal S4 .f32) (j : Fin 4) : EReal :=
  (∑ k, h k * w (ix2 k j)) + b (ix1 j)
/-- The expert logits of a normalised row. -/
def expertLogit (h : Fin 1024 → EReal) (w : FVec Ideal S1024x16 .f32) (b : FVec Ideal S16 .f32) (e : Fin 16) : EReal :=
  (∑ k, h k * w (ix2 k e)) + b (ix1 e)
/-- Row `i` of the first result, given the gates of the row. -/
def rowOut (x : FVec Ideal S16384x1024 .f32) (g : FVec Ideal S1024 .f32) (w1 w3 : FVec Ideal S16x1024x256 .f32)
    (w2 : FVec Ideal S16x256x1024 .f32) (gate : Fin 16384 → Fin 16 → EReal) (i : Fin 16384) (q : Fin 1024) : EReal :=
  x (ix2 i q) + expertSum (rowH x g i) (fun e k f => w1 (ix3 e k f)) (fun e k f => w3 (ix3 e k f)) (fun e f q => w2 (ix3 e f q)) (gate i) q

theorem idx : ∀ t : Fin cfg0.N, win0_0.index t = ![t.val, 0] ∧ win0_8.index t = ![t.val, 0] ∧ win0_9.index t = ![t.val, 0]
    ∧ win0_1.index t = ![0, 0] ∧ win0_2.index t = ![0, 0, 0] ∧ win0_3.index t = ![0, 0] ∧ win0_4.index t = ![0, 0]
    ∧ win0_5.index t = ![0, 0] ∧ win0_6.index t = ![0, 0] ∧ win0_7.index t = ![0, 0] :=
  (by decide +kernel : ∀ t : Fin grid0.N, _)

variable (m : (ℓ : Loc nD τ sig) → Buf (Elt Ideal) ℓ) (c : Dev nD) (t : Fin cfg0.N)

/-- The array's row of row `p` of point `t`'s block. -/
def rowAt (t : Fin cfg0.N) (p : Fin 256) : Fin 16384 := ⟨t.val * 256 + p.val, by
  have h : cfg0.N = 64 := N_0
  have := t.isLt; omega⟩

theorem blk0 (p : Fin 256) (k : Fin 1024) : (iblk m c 0 t : Vec Ideal S256x1024 .f32) (ix2 p k) = A0 m c (ix2 (rowAt t p) k) := by
  unfold rowAt
  blk_ext! [iblk, V, idx t]
theorem blk1 : iblk m c 1 t = V m c main_v20 := by blk_ext! [iblk, idx t]
theorem blk2 : iblk m c 2 t = V m c main_v8 := by blk_ext! [iblk, idx t]
theorem blk3 : iblk m c 3 t = V m c main_v11 := by blk_ext! [iblk, idx t]
theorem blk4 : iblk m c 4 t = V m c main_v14 := by blk_ext! [iblk, idx t]
theorem blk5 : iblk m c 5 t = V m c main_v17 := by blk_ext! [iblk, idx t]
theorem blk6 : iblk m c 6 t = V m c main_v19 := by blk_ext! [iblk, idx t]
theorem blk7 : iblk m c 7 t = V m c main_v21 := by blk_ext! [iblk, idx t]

theorem emb8 (p : Fin 256) (q : Fin 1024) : ((View.whole main_v22_0).slice (win0_8.rect t)).emb (ix2 p q) = ix2 (rowAt t p) q := by
  unfold rowAt
  blk_ext! [idx t]
theorem emb9 (p : Fin 256) (q : Fin 1024) : ((View.whole main_v22_1).slice (win0_9.rect t)).emb (ix2 p q) = ix2 (rowAt t p) q := by
  unfold rowAt
  blk_ext! [idx t]

theorem gain_apply (g : FVec Ideal S1024 .f32) (k : Fin 1024) : broadcastInDim S1x1024 ![1] bcast_S1024_S1x1024_1 g (ix2 0 k) = g (ix1 k) := by
  pointwise []

/-- The numbers the routing of a row rests on are finite, so subtracting them from themselves gives zero. -/
structure RowsFinite (x : FVec Ideal S16384x1024 .f32) (g : FVec Ideal S1024 .f32) (wg : FVec Ideal S1024x4 .f32) (we : FVec Ideal S1024x16 .f32) : Prop where
  row : ∀ i k, rowH x g i k - rowH x g i k = 0
  group : ∀ k j, wg (ix2 k j) - wg (ix2 k j) = 0
  expert : ∀ k e, we (ix2 k e) - we (ix2 k e) = 0

/-- The chosen group and experts of every row. -/
structure Chosen (x : FVec Ideal S16384x1024 .f32) (g : FVec Ideal S1024 .f32) (wg : FVec Ideal S1024x4 .f32) (bg : FVec Ideal S4 .f32)
    (we : FVec Ideal S1024x16 .f32) (be : FVec Ideal S16 .f32) (gi j1 j2 : Fin 16384 → Fin 4) : Prop where
  group : ∀ i, First (fun _ => True) (groupLogit (rowH x g i) wg bg) (gi i)
  first : ∀ i, First (fun _ => True) (fun j => expertLogit (rowH x g i) we be (expertOf (gi i) j)) (j1 i)
  second : ∀ i, First (fun j => j ≠ j1 i) (fun j => expertLogit (rowH x g i) we be (expertOf (gi i) j)) (j2 i)

/-- The gates of row `i`, the group and the experts being chosen. -/
def rowGate (x : FVec Ideal S16384x1024 .f32) (g : FVec Ideal S1024 .f32) (wg : FVec Ideal S1024x4 .f32) (bg : FVec Ideal S4 .f32)
    (we : FVec Ideal S1024x16 .f32) (be : FVec Ideal S16 .f32) (gi j1 j2 : Fin 16384 → Fin 4) (i : Fin 16384) (e : Fin 16) : EReal :=
  gateOf (groupLogit (rowH x g i) wg bg) (fun j => expertLogit (rowH x g i) we be (expertOf (gi i) j)) (gi i) (j1 i) (j2 i) e

/-- The kernel's first result, row by row. -/
def kOut (gi j1 j2 : Fin 16384 → Fin 4) : Fin 16384 → Fin 1024 → EReal :=
  rowOut (A0 m c) (A1 m c) (A6 m c) (A7 m c) (A8 m c) (rowGate (A0 m c) (A1 m c) (A2 m c) (A3 m c) (A4 m c) (A5 m c) gi j1 j2)

theorem blockH_eq (p : Fin 256) : blockH (iblk m c 0 t) (iblk m c 1 t) p = rowH (A0 m c) (A1 m c) (rowAt t p) := by
  unfold blockH rowH
  rw [blk1, V_v20]
  simp only [blk0]
  exact congrArg (normed _) (funext fun k => gain_apply _ k)

variable {m c} {gi j1 j2 : Fin 16384 → Fin 4}
theorem blockRow_eq (hf : RowsFinite (A0 m c) (A1 m c) (A2 m c) (A4 m c))
    (hc : Chosen (A0 m c) (A1 m c) (A2 m c) (A3 m c) (A4 m c) (A5 m c) gi j1 j2) (p : Fin 256) (q : Fin 1024) :
    blockRow (iblk m c 0 t) (iblk m c 1 t) (iblk m c 2 t) (iblk m c 3 t) (iblk m c 4 t) (iblk m c 5 t) (iblk m c 6 t) (iblk m c 7 t) p q
      = kOut m c gi j1 j2 (rowAt t p) q := by
  have hg : blockGate (iblk m c 0 t) (iblk m c 1 t) (iblk m c 2 t) (iblk m c 3 t) (iblk m c 4 t) (iblk m c 5 t) (iblk m c 6 t) (iblk m c 7 t) p
      = rowGate (A0 m c) (A1 m c) (A2 m c) (A3 m c) (A4 m c) (A5 m c) gi j1 j2 (rowAt t p) := by
    funext e
    refine blockGate_eq p _ _ _ _ _ _ _ _ (fun i => ?_) (fun j => ?_) (hc.group _) (hc.first _) (hc.second _) e
    · rw [blockLogits p _ _ _ _ _ _ _ _ (laneG i) (fun k => by rw [blockH_eq]; exact hf.row _ k)
        (fun k => by rw [blk2, V_v8, slabs_one]; exact (by rw [show catW (A2 m c) (A4 m c) (ix2 k (laneG i)) = A2 m c (ix2 k i) from catW_group _ _ _ _]; exact hf.group k i))]
      rw [blockH_eq, blk2, blk3, V_v8, V_v11]
      unfold groupLogit
      exact congrArg₂ (· + ·) (Finset.sum_congr rfl fun k _ => congrArg (rowH (A0 m c) (A1 m c) (rowAt t p) k * ·) ((slabs_zero _ k _).trans (catW_group _ _ k i))) (catB_group _ _ i)
    · rw [blockLogits p _ _ _ _ _ _ _ _ (laneE (expertOf (gi (rowAt t p)) j)) (fun k => by rw [blockH_eq]; exact hf.row _ k)
        (fun k => by rw [blk2, V_v8, slabs_one]; exact (by rw [show catW (A2 m c) (A4 m c) (ix2 k (laneE (expertOf (gi (rowAt t p)) j))) = A4 m c (ix2 k (expertOf (gi (rowAt t p)) j)) from catW_expert _ _ _ _]; exact hf.expert k _))]
      rw [blockH_eq, blk2, blk3, V_v8, V_v11]
      unfold expertLogit
      exact congrArg₂ (· + ·) (Finset.sum_congr rfl fun k _ => congrArg (rowH (A0 m c) (A1 m c) (rowAt t p) k * ·) ((slabs_zero _ k _).trans (catW_expert _ _ k _))) (catB_expert _ _ _)
  unfold blockRow kOut rowOut
  rw [hg, blockH_eq, blk0, blk4, blk5, blk6, V_v14, V_v17, V_v19]
  simp only [colsOf_apply, rowsOf_apply]

theorem final8 (hf : RowsFinite (A0 m c) (A1 m c) (A2 m c) (A4 m c))
    (hc : Chosen (A0 m c) (A1 m c) (A2 m c) (A3 m c) (A4 m c) (A5 m c) gi j1 j2) :
    (dats m 0 c).arrAt 8 (cfgs 0).N = fun y : S16384x1024.Idx => kOut m c gi j1 j2 (y 0) (y 1) := by
  refine (dats m 0 c).arrAt_eq_of_covers 8 _ (by decide +kernel) fun t _ y => ?_
  blk_simp
  rw [after0_8]
  idx_vars y
  rw [emb8]
  exact (out8_apply _ _ _ _ _ _ _ _ _ _).trans (blockRow_eq t hf hc y0 y1)

theorem final9 (hf : RowsFinite (A0 m c) (A1 m c) (A2 m c) (A4 m c))
    (hc : Chosen (A0 m c) (A1 m c) (A2 m c) (A3 m c) (A4 m c) (A5 m c) gi j1 j2) :
    (dats m 0 c).arrAt 9 (cfgs 0).N
      = fun y : S16384x1024.Idx => normed (kOut m c gi j1 j2 (y 0)) (fun k => A9 m c (ix1 k)) (y 1) := by
  refine (dats m 0 c).arrAt_eq_of_covers 9 _ (by decide +kernel) fun t _ y => ?_
  blk_simp
  rw [after0_9]
  idx_vars y
  rw [emb9]
  refine (out9_apply _ _ _ _ _ _ _ _ _ _).trans ?_
  rw [show blockRow _ _ _ _ _ _ _ _ y0 = kOut m c gi j1 j2 (rowAt t y0) from funext (blockRow_eq t hf hc y0), blk7, V_v21]
  exact congrArg (normed _ · y1) (funext fun k => gain_apply _ k)
end Cert.Moe
-- ==== Proof.Moe.RefRead.lean ====
/- The reference's routing of a row and its two results, read at an index. -/
module

public import proofs.«01_k».proof.Proof.Moe.RefTop
public import proofs.«01_k».proof.Proof.Moe.KFinal
public import Idealize.ShloMosaic.Lib.Tactic.CleanTypes

@[expose] public section
set_option maxRecDepth 16384
noncomputable section
namespace Cert.Moe.Ref
open Idealize.ShloMosaic Idealize.ShloMosaic.TcCoe Idealize.SL.Sem Idealize.ShloMosaic.StableHlo Cert.ReferenceIdeal Cert.ReferenceIdeal.Gen Cert.ReferenceIdeal.Value

variable (V0 : Valuation τ sig (Elt Ideal))
abbrev R0 : FVec Ideal S16384x1024 .f32 := V0 (Proc.devRef .tc main_arg0)
abbrev R1 : FVec Ideal S1024 .f32 := V0 (Proc.devRef .tc main_arg1)
abbrev R2 : FVec Ideal S1024x4 .f32 := V0 (Proc.devRef .tc main_arg2)
abbrev R3 : FVec Ideal S4 .f32 := V0 (Proc.devRef .tc main_arg3)
abbrev R4 : FVec Ideal S1024x16 .f32 := V0 (Proc.devRef .tc main_arg4)
abbrev R5 : FVec Ideal S16 .f32 := V0 (Proc.devRef .tc main_arg5)
abbrev R6 : FVec Ideal S16x1024x256 .f32 := V0 (Proc.devRef .tc main_arg6)
abbrev R7 : FVec Ideal S16x1024x256 .f32 := V0 (Proc.devRef .tc main_arg7)
abbrev R8 : FVec Ideal S16x256x1024 .f32 := V0 (Proc.devRef .tc main_arg8)
abbrev R9 : FVec Ideal S1024 .f32 := V0 (Proc.devRef .tc main_arg9)

theorem v12_apply (i : Fin 16384) (k : Fin 1024) : (res_main_v12 V0 : FVec Ideal S16384x1024 .f32) (ix2 i k) = rowH (R0 V0) (R1 V0) i k := by
  unfold res_main_v12
  clean_types
  pointwise [rowH, normed, invRms]
theorem v16_apply (i : Fin 16384) (j : Fin 4) : (res_main_v16 V0 : FVec Ideal S16384x4 .f32) (ix2 i j) = groupLogit (rowH (R0 V0) (R1 V0) i) (R2 V0) (R3 V0) j := by
  unfold res_main_v16
  clean_types
  pointwise [groupLogit]
  simp only [v12_apply]

theorem fold_first {n : ℕ} {f : Fin n → EReal} {i : Fin n} (h : First (fun _ => True) f i) : Finset.fold max ⊥ f Finset.univ = f i := by
  refine Eq.trans ?_ (fold_max_first h (fun _ => 1#1) fun _ => by simp)
  exact Finset.fold_congr fun _ _ => rfl

/-- The group logits of row `i`. -/
abbrev gl (i : Fin 16384) : Fin 4 → EReal := groupLogit (rowH (R0 V0) (R1 V0) i) (R2 V0) (R3 V0)
/-- The group that row `i` is sent to. -/
def gi (i : Fin 16384) : Fin 4 := place (gl V0 i) 0
/-- The logits of the chosen group's experts. -/
def ev (i : Fin 16384) (j : Fin 4) : EReal := expertLogit (rowH (R0 V0) (R1 V0) i) (R4 V0) (R5 V0) (expertOf (gi V0 i) j)
/-- The two experts chosen, by their places in the group. -/
def j1 (i : Fin 16384) : Fin 4 := place (ev V0 i) 0
def j2 (i : Fin 16384) : Fin 4 := place (ev V0 i) 1

theorem v23_apply (i : Fin 16384) (j : Fin 4) : (res_main_v23 V0 : FVec Ideal S16384x4 .f32) (ix2 i j) = Ideal.exp (gl V0 i j - gl V0 i (gi V0 i)) := by
  unfold res_main_v23
  clean_types
  pointwise []
  simp only [v16_apply]
  rw [ofBits_neg_inf, fold_first (place_first (gl V0 i)), max_eq_right bot_le]
  rfl

theorem indices_apply (i : Fin 16384) : (res_main_indices V0 : IVec S16384x1 32) (ix2 i 0) = BitVec.ofNat 32 (gi V0 i).val := by
  unfold res_main_indices
  refine (top_index (n := 1) (by omega) _ _ i 0).trans ?_
  simp only [v16_apply]
  rfl

theorem wrap_small : ∀ g : Fin 4, Scalar.select (IntOp.cmpi .slt (BitVec.ofNat 32 g.val) 0#32) (IntOp.addi (BitVec.ofNat 32 g.val) 4#32) (BitVec.ofNat 32 g.val)
    = BitVec.ofNat 32 g.val := by decide
theorem in_range : ∀ g : Fin 4, IntOp.andi (IntOp.cmpi .sge (BitVec.ofNat 32 g.val) 0#32) (IntOp.cmpi .sle (BitVec.ofNat 32 g.val) 3#32) = 1#1 := by decide

theorem call0_apply (i : Fin 16384) : (res_main_call0_v5 V0 : IVec S16384x1x1 32) (ix3 i 0 0) = BitVec.ofNat 32 (gi V0 i).val := by
  unfold res_main_call0_v5
  clean_types
  pointwise []
  rw [indices_apply]
  exact wrap_small _
theorem call1_apply (i : Fin 16384) : (res_main_call1_v4 V0 : IVec S16384x1x1 32) (ix3 i 0 0) = BitVec.ofNat 32 (gi V0 i).val := by
  unfold res_main_call1_v4 res_main_v34
  clean_types
  pointwise []
  rw [indices_apply]
  exact wrap_small _

theorem in_range_fold (w : IVec S16384x1x1 32) (i : Fin 16384) (g : Fin 4) (hw : w (ix3 i 0 0) = BitVec.ofNat 32 g.val) :
    Finset.fold IntOp.andi (1#1) (fun x : Fin 1 => IntOp.andi (IntOp.cmpi .sge (w (ix3 i 0 x)) 0#32) (IntOp.cmpi .sle (w (ix3 i 0 x)) 3#32)) Finset.univ = 1#1 := by
  rw [Finset.univ_unique, Finset.fold_singleton, show (default : Fin 1) = 0 from rfl, hw, in_range]
  rfl

/-- The entries of `x` at the columns `w`, `z` where a column is out of range. -/
def taken (x : FVec Ideal S16384x4 .f32) (w : IVec S16384x1x1 32) (z : FVec Ideal S16384x1 .f32) : FVec Ideal S16384x1 .f32 :=
  select (Host.reduce IntOp.andi (andi (cmpi .sge w (broadcastInDim S16384x1x1 ![] bcast_S_S16384x1x1 (constantI S_ 32 0#32))) (cmpi .sle w (broadcastInDim S16384x1x1 ![0, 1, 2] bcast_S1x1x1_S16384x1x1_0_1_2 (broadcastInDim S1x1x1 ![2] bcast_S1_S1x1x1_2 (constantI S1 32 3#32))))) (constantI S_ 1 1#1) reducesTo_S16384x1x1_S16384x1_d2 h_S_)
      (Host.gather gather_S16384x4_S16384x1x1_S16384x1_n_1_0_0_1_2_11 x w) z

theorem taken_column (x : FVec Ideal S16384x4 .f32) (w : IVec S16384x1x1 32) (z : FVec Ideal S16384x1 .f32) (i : Fin 16384) (g : Fin 4)
    (hw : w (ix3 i 0 0) = BitVec.ofNat 32 g.val) :
    taken x w z (ix2 i 0) = x (ix2 i g) := by
  pointwise [taken]
  rw [in_range_fold w i g hw]
  exact gather_column x w i g hw
theorem taken_slab (x : FVec Ideal S16384x4x4 .f32) (w : IVec S16384x1x1 32) (z : FVec Ideal S16384x1x4 .f32) (i : Fin 16384) (j g : Fin 4)
    (hw : w (ix3 i 0 0) = BitVec.ofNat 32 g.val) :
    select (broadcastInDim S16384x1x4 ![0, 1] bcast_S16384x1_S16384x1x4_0_1 (Host.reduce IntOp.andi (andi (cmpi .sge w (broadcastInDim S16384x1x1 ![] bcast_S_S16384x1x1 (constantI S_ 32 0#32))) (cmpi .sle w (broadcastInDim S16384x1x1 ![0, 1, 2] bcast_S1x1x1_S16384x1x1_0_1_2 (broadcastInDim S1x1x1 ![2] bcast_S1_S1x1x1_2 (constantI S1 32 3#32))))) (constantI S_ 1 1#1) reducesTo_S16384x1x1_S16384x1_d2 h_S_))
      (Host.gather gather_S16384x4x4_S16384x1x1_S16384x1x4_2_1_0_0_1_2_114 x w) z (ix3 i 0 j) = x (ix3 i g j) := by
  pointwise []
  rw [in_range_fold w i g hw]
  exact gather_slab x w i j g hw

/-- The chosen group's softmax entry, as the reference takes it. -/
def groupShare (i : Fin 16384) : EReal :=
  Ideal.div (Ideal.exp (gl V0 i (gi V0 i) - gl V0 i (gi V0 i))) (∑ j, Ideal.exp (gl V0 i j - gl V0 i (gi V0 i)))

/-- Every entry of a row over the row's sum. -/
def divided (x : FVec Ideal S16384x4 .f32) : FVec Ideal S16384x4 .f32 :=
  Host.divf x (broadcastInDim S16384x4 ![0, 1] bcast_S16384x1_S16384x4_0_1 (broadcastInDim S16384x1 ![0] bcast_S16384_S16384x1_0 (Host.reduceAdd x (constant S_ .f32 0x00000000#32) reducesTo_S16384x4_S16384_d1 h_S_)))

theorem divided_apply (x : FVec Ideal S16384x4 .f32) (i : Fin 16384) (j : Fin 4) :
    divided x (ix2 i j) = Ideal.div (x (ix2 i j)) (∑ k, x (ix2 i k)) := by
  pointwise [divided]

theorem expert_logits_apply (h : FVec Ideal S16384x1024 .f32) (w : FVec Ideal S1024x16 .f32) (b : FVec Ideal S16 .f32) (i : Fin 16384) (g j : Fin 4) :
    shapeCast _ (addf (Host.dotGeneral dot_S16384x1024_S1024x16_S16384x16_1_0_0_1_n_n none h w) (broadcastInDim S16384x16 ![0, 1] bcast_S1x16_S16384x16_0_1 (broadcastInDim S1x16 ![1] bcast_S16_S1x16_1 b))) shapeCasts_S16384x16_S16384x4x4 (ix3 i g j)
      = (∑ k, h (ix2 i k) * w (ix2 k (expertOf g j))) + b (ix1 (expertOf g j)) := by
  pointwise []
  have h4 : (⟨g.val * 4 + j.val, by omega⟩ : Fin 16) = expertOf g j := Fin.ext (congrArg (· + j.val) (Nat.mul_comm g.val 4))
  exact congrArg (fun e : Fin 16 => (∑ k, h (ix2 i k) * w (ix2 k e)) + b (ix1 e)) h4

theorem flat_apply (x : FVec Ideal S16384x1x4 .f32) (i : Fin 16384) (j : Fin 4) :
    shapeCast S16384x4 x shapeCasts_S16384x1x4_S16384x4 (ix2 i j) = x (ix3 i 0 j) := by
  pointwise []

theorem v36_apply (i : Fin 16384) (j : Fin 4) : (res_main_v36 V0 : FVec Ideal S16384x4 .f32) (ix2 i j) = ev V0 i j := by
  unfold res_main_v36
  refine (flat_apply _ i j).trans ((taken_slab _ _ _ i j (gi V0 i) (call1_apply V0 i)).trans ((expert_logits_apply _ _ _ i _ j).trans ?_))
  simp only [v12_apply]
  rfl

theorem values_apply (i : Fin 16384) (s : Fin 2) : (res_main_values_5 V0 : FVec Ideal S16384x2 .f32) (ix2 i s) = ev V0 i (place (ev V0 i) (s.castLE (by omega))) := by
  unfold res_main_values_5
  refine (top_value (n := 2) (by omega) _ _ i s).trans ?_
  simp only [v36_apply]

theorem indices6_apply (i : Fin 16384) (s : Fin 2) :
    ((Host.topK S16384x2 1 (FloatOps.cmpfTotal .gt) (res_main_v36 V0) sliceFits_S16384x4_S16384x2).2 : IVec S16384x2 32) (ix2 i s)
      = BitVec.ofNat 32 (place (ev V0 i) (s.castLE (by omega))).val := by
  refine (top_index (n := 2) (by omega) _ _ i s).trans ?_
  simp only [v36_apply]

theorem pair_max (f : Fin 2 → EReal) (h : f 1 ≤ f 0) : max ⊥ (Finset.fold max ⊥ f Finset.univ) = f 0 := by
  have : First (fun _ => True) f 0 := ⟨trivial, fun j _ => by
    match j with
    | ⟨0, _⟩ => exact le_rfl
    | ⟨1, _⟩ => exact h, fun j _ _ => Fin.zero_le j⟩
  rw [fold_first this, max_eq_right bot_le]

theorem v43_apply (i : Fin 16384) (s : Fin 2) : (res_main_v43 V0 : FVec Ideal S16384x2 .f32) (ix2 i s)
    = Ideal.exp (ev V0 i (place (ev V0 i) (s.castLE (by omega))) - ev V0 i (j1 V0 i)) := by
  unfold res_main_v43
  clean_types
  pointwise []
  simp only [values_apply]
  rw [ofBits_neg_inf, pair_max _ ((place_first (ev V0 i)).le _ trivial)]
  rfl

/-- One if expert `e` is the one at place `j` of group `g`. -/
def hot (g j : Fin 4) (e : Fin 16) : EReal := if e.val = 4 * g.val + j.val then 1 else 0

theorem hot_word : ∀ (g j : Fin 4) (e : Fin 16),
    IntOp.cmpi .eq (IntOp.addi (IntOp.muli (BitVec.ofNat 32 g.val) 4#32) (BitVec.ofNat 32 j.val)) (BitVec.ofNat 32 e.val)
      = if e.val = 4 * g.val + j.val then 1#1 else 0#1 := by decide +kernel

theorem hot_apply (g j : Fin 4) (e : Fin 16) :
    FloatOps.uitofp (F := Ideal) .f32 (IntOp.cmpi .eq (IntOp.addi (IntOp.muli (BitVec.ofNat 32 g.val) 4#32) (BitVec.ofNat 32 j.val)) (BitVec.ofNat 32 e.val)) = hot g j e := by
  rw [hot_word]
  unfold hot
  split
  · show (((1#1 : BitVec 1).toNat : ℝ) : EReal) = 1
    simp
  · show (((0#1 : BitVec 1).toNat : ℝ) : EReal) = 0
    simp

/-- The gate of expert `e`, as the reference sums it: the two places `j`, their weights `x` and the group's share `p`. -/
def gateSum (g : Fin 4) (j : Fin 2 → Fin 4) (x : Fin 2 → EReal) (p : EReal) (e : Fin 16) : EReal :=
  ∑ s, hot g (j s) e * (Ideal.div (x s) (∑ s, x s) * p)

theorem gates_apply (g : IVec S16384x1 32) (j : IVec S16384x2 32) (x : FVec Ideal S16384x2 .f32) (p : FVec Ideal S16384x1 .f32) (i : Fin 16384) (e : Fin 16)
    (g' : Fin 4) (j' : Fin 2 → Fin 4) (hg : g (ix2 i 0) = BitVec.ofNat 32 g'.val) (hj : ∀ s, j (ix2 i s) = BitVec.ofNat 32 (j' s).val) :
    Host.reduceAdd (mulf (uitofp .f32 (cmpi .eq (broadcastInDim S16384x2x16 ![0, 1, 2] bcast_S16384x2x1_S16384x2x16_0_1_2 (broadcastInDim S16384x2x1 ![0, 1] bcast_S16384x2_S16384x2x1_0_1 (addi (broadcastInDim S16384x2 ![0, 1] bcast_S16384x1_S16384x2_0_1 (muli g (broadcastInDim S16384x1 ![] bcast_S_S16384x1 (constantI S_ 32 4#32)))) j))) (broadcastInDim S16384x2x16 ![0, 1, 2] bcast_S1x1x16_S16384x2x16_0_1_2 (iotaInDim S1x1x16 32 2)))) (broadcastInDim S16384x2x16 ![0, 1, 2] bcast_S16384x2x1_S16384x2x16_0_1_2 (broadcastInDim S16384x2x1 ![0, 1] bcast_S16384x2_S16384x2x1_0_1 (mulf (Host.divf x (broadcastInDim S16384x2 ![0, 1] bcast_S16384x1_S16384x2_0_1 (broadcastInDim S16384x1 ![0] bcast_S16384_S16384x1_0 (Host.reduceAdd x (constant S_ .f32 0x00000000#32) reducesTo_S16384x2_S16384_d1 h_S_)))) (broadcastInDim S16384x2 ![0, 1] bcast_S16384x1_S16384x2_0_1 p))))) (constant S_ .f32 0x00000000#32) reducesTo_S16384x2x16_S16384x16_d1 h_S_ (ix2 i e)
      = gateSum g' j' (fun s => x (ix2 i s)) (p (ix2 i 0)) e := by
  pointwise [gateSum]
  simp only [hg, hj, hot_apply]

theorem experts_apply (x : FVec Ideal S16384x1024 .f32) (h : FVec Ideal S16384x1024 .f32) (w1 w3 : FVec Ideal S16x1024x256 .f32) (w2 : FVec Ideal S16x256x1024 .f32)
    (gate : FVec Ideal S16384x16 .f32) (i : Fin 16384) (q : Fin 1024) :
    addf x (Host.dotGeneral dot_S16384x16x256_S16x256x1024_S16384x1024_12_01_0_2_n_n none (mulf (mulf (mulf (Host.dotGeneral dot_S16384x1024_S16x1024x256_S16384x16x256_1_1_0_02_n_n none h w1) (Host.divf (broadcastInDim S16384x16x256 ![] bcast_S_S16384x16x256 (constant S_ .f32 0x3F800000#32)) (addf (broadcastInDim S16384x16x256 ![] bcast_S_S16384x16x256 (constant S_ .f32 0x3F800000#32)) (Host.exp (Host.negf (Host.dotGeneral dot_S16384x1024_S16x1024x256_S16384x16x256_1_1_0_02_n_n none h w1)))))) (Host.dotGeneral dot_S16384x1024_S16x1024x256_S16384x16x256_1_1_0_02_n_n none h w3)) (broadcastInDim S16384x16x256 ![0, 1, 2] bcast_S16384x16x1_S16384x16x256_0_1_2 (broadcastInDim S16384x16x1 ![0, 1] bcast_S16384x16_S16384x16x1_0_1 gate))) w2) (ix2 i q)
      = x (ix2 i q) + expertSum (fun k => h (ix2 i k)) (fun e k f => w1 (ix3 e k f)) (fun e k f => w3 (ix3 e k f)) (fun e f q => w2 (ix3 e f q)) (fun e => gate (ix2 i e)) q := by
  pointwise [expertSum, glu]
  rfl

theorem normed_apply (x : FVec Ideal S16384x1024 .f32) (g : FVec Ideal S1024 .f32) (i : Fin 16384) (q : Fin 1024) :
    mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g)) (ix2 i q)
      = normed (fun k => x (ix2 i k)) (fun k => g (ix1 k)) q := by
  pointwise [normed, invRms]

/-- The gate of expert `e` in row `i`. -/
def refGate (i : Fin 16384) (e : Fin 16) : EReal :=
  gateSum (gi V0 i) ![j1 V0 i, j2 V0 i]
    (fun s => Ideal.exp (ev V0 i (place (ev V0 i) (s.castLE (by omega))) - ev V0 i (j1 V0 i))) (groupShare V0 i) e

theorem v67_apply (i : Fin 16384) (q : Fin 1024) : (res_main_v67 V0 : FVec Ideal S16384x1024 .f32) (ix2 i q)
    = rowOut (R0 V0) (R1 V0) (R6 V0) (R7 V0) (R8 V0) (refGate V0) i q := by
  unfold res_main_v67 res_main_v59
  refine (experts_apply _ _ _ _ _ _ i q).trans ?_
  have hp := (taken_column (divided (res_main_v23 V0)) (res_main_call0_v5 V0)
    (broadcastInDim S16384x1 ![] bcast_S_S16384x1 (constant S_ .f32 0x7FC00000#32)) i (gi V0 i) (call0_apply V0 i)).trans (divided_apply (res_main_v23 V0) i (gi V0 i))
  have hg := fun e => gates_apply (res_main_indices V0) _ (res_main_v43 V0)
    (taken (divided (res_main_v23 V0)) (res_main_call0_v5 V0) (broadcastInDim S16384x1 ![] bcast_S_S16384x1 (constant S_ .f32 0x7FC00000#32)))
    i e (gi V0 i) ![j1 V0 i, j2 V0 i] (indices_apply V0 i) (fun s => (indices6_apply V0 i s).trans (by fin_cases s <;> rfl))
  simp only [v23_apply] at hp
  unfold rowOut
  have he : ∀ e, _ = refGate V0 i e := fun e => (hg e).trans (by
    unfold refGate
    rw [hp]
    simp only [v43_apply]
    rfl)
  simp only [v12_apply]
  exact congrArg (fun gate => R0 V0 (ix2 i q) + expertSum _ _ _ _ gate q) (funext he)

theorem v80_apply (i : Fin 16384) (q : Fin 1024) : mulf (mulf (res_main_v67 V0) (broadcastInDim S16384x1024 ![0, 1] bcast_S16384x1_S16384x1024_0_1 (Host.rsqrt (addf (Host.divf (broadcastInDim S16384x1 ![0] bcast_S16384_S16384x1_0 (Host.reduceAdd (mulf (res_main_v67 V0) (res_main_v67 V0)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (R9 V0))) (ix2 i q)
    = normed (rowOut (R0 V0) (R1 V0) (R6 V0) (R7 V0) (R8 V0) (refGate V0) i) (fun k => R9 V0 (ix1 k)) q := by
  refine (normed_apply _ _ i q).trans ?_
  simp only [v67_apply]
end Cert.Moe.Ref
-- ==== Proof.Moe.Finite.lean ====
/- Finite numbers among the extended reals: what a finite row, finite gains and finite router weights give. -/
module

public import proofs.«01_k».proof.Proof.Moe.RefRead
public import proofs.«01_k».proof.Pre_router_finite
public import Idealize.ShloMosaic.Lib.ReduceAll

@[expose] public section
set_option maxRecDepth 16384
noncomputable section
namespace Cert.Moe
open Idealize.ShloMosaic Cert.KernelIdeal

/-- `x` is a real number. -/
def Fine (x : EReal) : Prop := ∃ r : ℝ, x = r

theorem Fine.add {x y : EReal} : Fine x → Fine y → Fine (x + y) := by
  rintro ⟨r, rfl⟩ ⟨s, rfl⟩; exact ⟨r + s, (EReal.coe_add r s).symm⟩
theorem Fine.mul {x y : EReal} : Fine x → Fine y → Fine (x * y) := by
  rintro ⟨r, rfl⟩ ⟨s, rfl⟩; exact ⟨r * s, (EReal.coe_mul r s).symm⟩
theorem Fine.sub_self {x : EReal} : Fine x → x - x = 0 := by
  rintro ⟨r, rfl⟩; rw [← EReal.coe_sub, _root_.sub_self]; rfl
theorem fine_sum {ι : Type} (s : Finset ι) {f : ι → EReal} (h : ∀ i, Fine (f i)) : Fine (∑ i ∈ s, f i) := by
  classical
  induction s using Finset.induction_on with
  | empty => exact ⟨0, by simp⟩
  | insert a s ha ih => rw [Finset.sum_insert ha]; exact (h a).add ih
theorem fine_of_bounds {x : EReal} (h : Ideal.cmp .olt (max x (-x)) ⊤ = 1#1) : Fine x := by
  induction x with
  | bot => simp [Ideal.cmp] at h
  | top => simp [Ideal.cmp] at h
  | coe r => exact ⟨r, rfl⟩

theorem word_1024 : Ideal.ofBits .f32 0x44800000#32 = ((1024 : ℝ) : EReal) := by
  simp [Ideal.ofBits, Ideal.ieee, -EReal.coe_mul]; norm_num
theorem word_eps : ∃ ε : ℝ, 0 < ε ∧ Ideal.ofBits .f32 0x358637BD#32 = (ε : EReal) := by
  refine ⟨8796093 * (2 : ℝ) ^ (-43 : ℤ), by positivity, ?_⟩
  simp [Ideal.ofBits, Ideal.ieee, -EReal.coe_mul]

theorem coe_sum {ι : Type} (s : Finset ι) (r : ι → ℝ) : ((∑ k ∈ s, r k : ℝ) : EReal) = ∑ k ∈ s, (r k : EReal) := by
  classical
  induction s using Finset.induction_on with
  | empty => simp
  | insert a s ha ih => rw [Finset.sum_insert ha, Finset.sum_insert ha, EReal.coe_add, ih]

theorem fine_invRms {x : Fin 1024 → EReal} (h : ∀ k, Fine (x k)) : Fine (invRms x) := by
  choose r hr using h
  obtain ⟨ε, hε, he⟩ := word_eps
  have hs : ∑ k, x k * x k = ((∑ k, r k * r k : ℝ) : EReal) := by
    rw [coe_sum]
    exact Finset.sum_congr rfl fun k _ => by rw [hr, EReal.coe_mul]
  unfold invRms
  rw [word_1024, he, hs, Ideal.div_coe (by norm_num), ← EReal.coe_mul, ← EReal.coe_add, Ideal.rsqrt_coe]
  have h0 : 0 ≤ (∑ k, r k * r k) * (1 / 1024) := mul_nonneg (Finset.sum_nonneg fun k _ => mul_self_nonneg _) (by norm_num)
  rw [if_neg (by linarith), if_neg (by linarith)]
  exact ⟨_, rfl⟩

theorem fine_normed {x g : Fin 1024 → EReal} (hx : ∀ k, Fine (x k)) (hg : ∀ k, Fine (g k)) (k : Fin 1024) : Fine (normed x g k) :=
  ((hx k).mul (fine_invRms hx)).mul (hg k)

theorem hot_gates (gl ev : Fin 4 → EReal) (gi j1 j2 : Fin 4) (hj : j2 ≠ j1) (hg : Fine (gl gi)) (h1 : Fine (ev j1)) (h2 : Fine (ev j2)) (e : Fin 16) :
    Ref.gateSum gi ![j1, j2] ![Ideal.exp (ev j1 - ev j1), Ideal.exp (ev j2 - ev j1)] (Ideal.div (Ideal.exp (gl gi - gl gi)) (∑ j, Ideal.exp (gl j - gl gi))) e
      = gateOf gl ev gi j1 j2 e := by
  have e0 : Ideal.exp 0 = 1 := by rw [← EReal.coe_zero, Ideal.exp_coe, Real.exp_zero]; rfl
  rw [hg.sub_self, h1.sub_self, e0]
  obtain ⟨a, ha⟩ := h1
  obtain ⟨b, hb⟩ := h2
  have hE : Ideal.exp (ev j2 - ev j1) = ((Real.exp (b - a) : ℝ) : EReal) := by rw [ha, hb, ← EReal.coe_sub, Ideal.exp_coe]
  have hS : (1 : EReal) + ((Real.exp (b - a) : ℝ) : EReal) = ((1 + Real.exp (b - a) : ℝ) : EReal) := by rw [EReal.coe_add]; rfl
  have hne : 1 + Real.exp (b - a) ≠ 0 := by positivity
  unfold Ref.gateSum gateOf Ref.hot
  rw [Fin.sum_univ_two, Fin.sum_univ_two]
  change _ * (Ideal.div 1 (1 + Ideal.exp (ev j2 - ev j1)) * groupProb gl gi) + _ * (Ideal.div (Ideal.exp (ev j2 - ev j1)) (1 + Ideal.exp (ev j2 - ev j1)) * groupProb gl gi) = _
  have hjv : j2.val ≠ j1.val := fun h => hj (Fin.ext h)
  rw [hE, hS, Ideal.div_coe hne, Ideal.div_coe hne, Ideal.div_coe hne, Ideal.div_coe hne]
  show (if e.val = 4 * gi.val + j1.val then (1 : EReal) else 0) * _ + (if e.val = 4 * gi.val + j2.val then (1 : EReal) else 0) * _ = _
  by_cases c1 : e.val = 4 * gi.val + j1.val
  · rw [if_pos c1, if_pos c1, if_neg (by omega), one_mul, zero_mul, add_zero, one_mul, mul_comm]
  · rw [if_neg c1, if_neg c1, zero_mul, zero_add]
    split
    · rw [one_mul, mul_right_comm, mul_comm (groupProb gl gi)]
    · rw [zero_mul]

/-! ## What the precondition says -/

instance preFacts : Cert.Pre_router_finite.Facts :=
  ⟨by decide, by decide, by decide, by decide, by decide, by decide, by decide, by decide, by decide, by decide, by decide, by decide, by decide⟩

instance : Subsingleton Cert.Pre_router_finite.S_.Idx := ⟨fun a b => funext fun k => k.elim0⟩

theorem word_top : Ideal.ofBits .f32 0x7F800000#32 = ⊤ := by
  simp [Ideal.ofBits, Ideal.ieee]

/-- Every entry of an array is finite when the printed test of it is one. -/
theorem fine_all {s : Shape} {axes : List (Fin s.rank)} (x : FVec Ideal s .f32) (hb : Cert.Pre_router_finite.S_.BroadcastsInDim s (![] : Fin 0 → Fin s.rank))
    (hr : s.ReducesTo axes Cert.Pre_router_finite.S_) (h0 : 0 < Cert.Pre_router_finite.S_.numel) (j : Cert.Pre_router_finite.S_.Idx)
    (h : Host.reduce IntOp.andi (cmpf .olt (Host.absf x) (broadcastInDim s ![] hb (constant Cert.Pre_router_finite.S_ .f32 0x7F800000#32))) (constantI Cert.Pre_router_finite.S_ 1 1#1) hr h0 j = 1#1)
    (i : s.Idx) : Fine (x i) := by
  have := Host.reduce_andi_all _ _ _ _ j h i
  apply fine_of_bounds
  rw [← word_top]
  exact this

theorem pre_fine (x0 : FVec Ideal S16384x1024 .f32) (x1 : FVec Ideal S1024 .f32) (x2 : FVec Ideal S1024x4 .f32) (x3 : FVec Ideal S4 .f32) (x4 : FVec Ideal S1024x16 .f32)
    (x5 : FVec Ideal S16 .f32) (x6 x7 : FVec Ideal S16x1024x256 .f32) (x8 : FVec Ideal S16x256x1024 .f32) (x9 : FVec Ideal S1024 .f32)
    (h : Cert.Pre_router_finite.fn (F := Ideal) x0 x1 x2 x3 x4 x5 x6 x7 x8 x9 = fun _ => 1#1) :
    (∀ i, Fine (x0 i)) ∧ (∀ i, Fine (x1 i)) ∧ (∀ i, Fine (x2 i)) ∧ (∀ i, Fine (x3 i)) ∧ (∀ i, Fine (x4 i)) ∧ (∀ i, Fine (x5 i)) := by
  have h := congrFun h (fun k => k.elim0)
  unfold Cert.Pre_router_finite.fn Cert.Pre_router_finite.fn_part1 at h
  dsimp only at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fine_all _ _ _ _ _ h0, fine_all _ _ _ _ _ h1, fine_all _ _ _ _ _ h2, fine_all _ _ _ _ _ h3, fine_all _ _ _ _ _ h4, fine_all _ _ _ _ _ h5⟩
end Cert.Moe
-- ==== Proof.Moe.Tie.lean ====
/- Finite inputs: the reference's gates are the kernel's, and the kernel's results are the reference's. -/
module

public import proofs.«01_k».proof.Proof.Moe.Finite

@[expose] public section
set_option maxRecDepth 16384
noncomputable section
namespace Cert.Moe
open Idealize.ShloMosaic Idealize.ShloMosaic.TcCoe Idealize.SL.Sem Idealize.ShloMosaic.StableHlo Cert.ReferenceIdeal Cert.ReferenceIdeal.Gen Ref

variable (V0 : Valuation τ sig (Elt Ideal))

/-- The arguments that the routing rests on are finite. -/
structure Inputs : Prop where
  x : ∀ i, Fine (R0 V0 i)
  gain : ∀ i, Fine (R1 V0 i)
  wg : ∀ i, Fine (R2 V0 i)
  bg : ∀ i, Fine (R3 V0 i)
  we : ∀ i, Fine (R4 V0 i)
  be : ∀ i, Fine (R5 V0 i)

variable {V0} (h : Inputs V0)
include h

theorem Inputs.row (i : Fin 16384) (k : Fin 1024) : Fine (rowH (R0 V0) (R1 V0) i k) :=
  fine_normed (fun _ => h.x _) (fun _ => h.gain _) k
theorem Inputs.group (i : Fin 16384) (j : Fin 4) : Fine (gl V0 i j) :=
  (fine_sum _ fun _ => (h.row i _).mul (h.wg _)).add (h.bg _)
theorem Inputs.expert (i : Fin 16384) (j : Fin 4) : Fine (ev V0 i j) :=
  (fine_sum _ fun _ => (h.row i _).mul (h.we _)).add (h.be _)

theorem Inputs.rows : RowsFinite (R0 V0) (R1 V0) (R2 V0) (R4 V0) :=
  ⟨fun i k => (h.row i k).sub_self, fun _ _ => (h.wg _).sub_self, fun _ _ => (h.we _).sub_self⟩

omit h in
theorem chosen : Chosen (R0 V0) (R1 V0) (R2 V0) (R3 V0) (R4 V0) (R5 V0) (gi V0) (j1 V0) (j2 V0) :=
  ⟨fun i => place_first (gl V0 i), fun i => place_first (ev V0 i), fun i => place_second (ev V0 i)⟩

theorem Inputs.gate (i : Fin 16384) : refGate V0 i = rowGate (R0 V0) (R1 V0) (R2 V0) (R3 V0) (R4 V0) (R5 V0) (gi V0) (j1 V0) (j2 V0) i := by
  funext e
  refine Eq.trans ?_ (hot_gates (gl V0 i) (ev V0 i) (gi V0 i) (j1 V0 i) (j2 V0 i) (place_second (ev V0 i)).mem (h.group i _) (h.expert i _) (h.expert i _) e)
  unfold refGate
  refine congrArg (fun x => gateSum (gi V0 i) ![j1 V0 i, j2 V0 i] x (groupShare V0 i) e) (funext fun s => ?_)
  fin_cases s <;> rfl

/-- The first result of the reference, row by row, with the kernel's gates. -/
theorem Inputs.out (i : Fin 16384) (q : Fin 1024) : (Cert.ReferenceIdeal.Value.res_main_v67 V0 : FVec Ideal S16384x1024 .f32) (ix2 i q)
    = rowOut (R0 V0) (R1 V0) (R6 V0) (R7 V0) (R8 V0) (rowGate (R0 V0) (R1 V0) (R2 V0) (R3 V0) (R4 V0) (R5 V0) (gi V0) (j1 V0) (j2 V0)) i q := by
  rw [v67_apply, show refGate V0 = _ from funext h.gate]
end Cert.Moe
-- ==== Proof.Moe.Claims.lean ====
/- The claims about the expert layer: its frames and the equation of its results with the reference's. -/
module

public import proofs.«01_k».proof.Defs
public import proofs.«01_k».proof.Proof.Gen.Kernel.Frame
public import proofs.«01_k».proof.Proof.Moe.Tie

@[expose] public section
set_option maxRecDepth 16384
noncomputable section
namespace Cert.Moe.Claims
open Idealize.ShloMosaic Idealize.ShloMosaic.TcCoe Idealize.SL.Sem

/-- The reference runs, keeps its arguments and leaves every semaphore at zero. -/
theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The kernel's two results and the reference's are the same arrays, the precondition holding. -/
theorem equation : Cert.algebraic_KernelIdeal_ReferenceIdeal_pre_router_finite := by
  intro m ρ m' ρ' hpre hagree
  refine ⟨fun c => (Cert.KernelIdeal.Gen.dats m 0 c).arrAt 8 (Cert.KernelIdeal.cfgs 0).N,
    fun c => (Cert.KernelIdeal.Gen.dats m 0 c).arrAt 9 (Cert.KernelIdeal.cfgs 0).N,
    Cert.KernelIdeal.Value.run_blocks m ρ, ?_⟩
  refine (θ_run Cert.ReferenceIdeal.defs _ _).mono (fun r h c => ?_) (Cert.ReferenceIdeal.Value.run (F := Ideal) m' ρ')
  obtain ⟨f0, f1, f2, f3, f4, f5⟩ := pre_fine _ _ _ _ _ _ _ _ _ _ (hpre c)
  obtain ⟨a0, a1, a2, a3, a4, a5, a6, a7, a8, a9⟩ := hagree c
  let V0 := StableHlo.launchContents m' c
  have r0 : Ref.R0 V0 = A0 m c := a0
  have r1 : Ref.R1 V0 = A1 m c := a1
  have r2 : Ref.R2 V0 = A2 m c := a2
  have r3 : Ref.R3 V0 = A3 m c := a3
  have r4 : Ref.R4 V0 = A4 m c := a4
  have r5 : Ref.R5 V0 = A5 m c := a5
  have r6 : Ref.R6 V0 = A6 m c := a6
  have r7 : Ref.R7 V0 = A7 m c := a7
  have r8 : Ref.R8 V0 = A8 m c := a8
  have r9 : Ref.R9 V0 = A9 m c := a9
  have hin : Inputs V0 := ⟨by rw [r0]; exact f0, by rw [r1]; exact f1, by rw [r2]; exact f2, by rw [r3]; exact f3, by rw [r4]; exact f4, by rw [r5]; exact f5⟩
  have hf := hin.rows
  have hc := chosen (V0 := V0)
  have ho := hin.out
  rw [r0, r1, r2, r4] at hf
  rw [r0, r1, r2, r3, r4, r5] at hc
  rw [r0, r1, r2, r3, r4, r5, r6, r7, r8] at ho
  refine ⟨(h c).1.trans ?_, (h c).2.1.trans ?_, (h c).2.2⟩
  · refine Eq.trans ?_ (final8 hf hc).symm
    funext y
    idx_vars y
    exact ho _ _
  · refine Eq.trans ?_ (final9 hf hc).symm
    funext y
    idx_vars y
    refine (Ref.normed_apply (Cert.ReferenceIdeal.Value.res_main_v67 V0) (Ref.R9 V0) y0 y1).trans ?_
    rw [r9]
    exact congrArg (fun x => normed x _ y1) (funext fun k => ho y0 k)
end Cert.Moe.Claims
-- ==== Proof.Merge.KHost.lean ====
/- The merge's weights as the kernel's windows read them: the second branch's rows taken in the order of its input. -/
module

public import proofs.«01_k».proof.Proof.Gen.Kernel3Ideal.Value
public import Idealize.ShloMosaic.Lib.Pointwise
public import Idealize.ShloMosaic.Lib.ReduceAll
public import Idealize.ShloMosaic.Lib.Routing.Ops
public import Idealize.ShloMosaic.Lib.Routing.OpsSet

@[expose] public section
set_option maxRecDepth 16384
noncomputable section
namespace Cert.Merge
open Idealize.ShloMosaic Idealize.ShloMosaic.TcCoe Idealize.SL.Sem Cert.Kernel3Ideal Cert.Kernel3Ideal.Gen Idealize.ShloMosaic.StableHlo

variable (m : (ℓ : Loc nD τ sig) → Buf (Elt Ideal) ℓ) (c : Dev nD)

/-- Argument contents as launched. -/
abbrev A0 : Vec Ideal S16384x1024 .f32 := m ((c : Thread nD τ).loc main_arg0)
abbrev A1 : Vec Ideal S16384x512 .bf16 := m ((c : Thread nD τ).loc main_arg1)
abbrev A2 : Vec Ideal S16384x512 .bf16 := m ((c : Thread nD τ).loc main_arg2)
abbrev A3 : Vec Ideal S16384x512 .bf16 := m ((c : Thread nD τ).loc main_arg3)
abbrev A4 : Vec Ideal S16384x3072 .bf16 := m ((c : Thread nD τ).loc main_arg4)
abbrev A5 : Vec Ideal S3x512x1024 .f32 := m ((c : Thread nD τ).loc main_arg5)
abbrev A6 : Vec Ideal S1024x1024 .f32 := m ((c : Thread nD τ).loc main_arg6)

/-- The row of the second branch's weights that meets column `w` of its input. -/
def headRow (w : Fin 512) : Fin 512 := ⟨(w.val / 64 % 2 * 4 + w.val / 128) * 64 + w.val % 64, by omega⟩

/-- The table of rows, as printed. -/
def table : IVec S512 32 := fun i => lit0 (S512.rowMajor i)
def wrapped : IVec S512 32 :=
  select (cmpi .slt table (broadcastInDim S512 ![] bcast_S_S512 (constantI S_ 32 0#32)))
    (addi table (broadcastInDim S512 ![] bcast_S_S512 (constantI S_ 32 512#32))) table
def starts : IVec S512x1 32 := broadcastInDim S512x1 ![0] bcast_S512_S512x1_0 wrapped
def inRange : IVec S512 1 :=
  Host.reduce IntOp.andi
    (andi (cmpi .sge starts (broadcastInDim S512x1 ![] bcast_S_S512x1 (constantI S_ 32 0#32)))
      (cmpi .sle starts (broadcastInDim S512x1 ![0, 1] bcast_S1x1_S512x1_0_1 (broadcastInDim S1x1 ![1] bcast_S1_S1x1_1 (constantI S1 32 511#32)))))
    (constantI S_ 1 1#1) reducesTo_S512x1_S512_d1 h_S_
/-- The rows of a matrix taken in the table's order. -/
def takenRows (w : FVec Ideal S512x1024 .f32) : FVec Ideal S512x1024 .f32 :=
  select (broadcastInDim S512x1024 ![0] bcast_S512_S512x1024_0 inRange)
    (Host.gather gather_S512x1024_S512x1_S512x1024_1_0_n_n_0_1_11024 w starts)
    (broadcastInDim S512x1024 ![] bcast_S_S512x1024 (constant S_ .f32 0x7FC00000#32))
/-- The second slab's rows. -/
def slabOne (w : FVec Ideal S3x512x1024 .f32) : FVec Ideal S512x1024 .f32 :=
  shapeCast S512x1024 (extractStridedSlice S1x512x1024 ![1, 0, 0] w slices_S3x512x1024_S1x512x1024_1_0_0) shapeCasts_S1x512x1024_S512x1024
/-- The slab that is written. -/
def slabNumber : IVec S1 32 := broadcastInDim S1 ![] bcast_S_S1 (constantI S_ 32 1#32)
/-- A matrix written over the second slab. -/
def written (w : FVec Ideal S3x512x1024 .f32) (u : FVec Ideal S512x1024 .f32) : FVec Ideal S3x512x1024 .f32 :=
  Host.scatter scatter_S3x512x1024_S1_S512x1024_01_0_0_0 (fun _ b => b) w slabNumber u
/-- The weights of the three branches, the second's rows reordered. -/
def branches (w : FVec Ideal S3x512x1024 .f32) : FVec Ideal S3x512x1024 .bf16 :=
  truncf .bf16 (written w (takenRows (slabOne w))) bitsLt_bf16_f32

theorem V_v5 : V m c main_v5 = branches (A5 m c) := by
  unfold_abbrev_sides
  simp only [List.flatten_cons, List.flatten_nil, List.append_nil, List.cons_append, List.nil_append]
  after_results
  simp only [StableHlo.TRef.ofBuf_toBuf]
  rfl
theorem V_v6 : V m c main_v6 = (truncf .bf16 (A6 m c) bitsLt_bf16_f32 : FVec Ideal S1024x1024 .bf16) := by
  unfold_abbrev_sides
  simp only [List.flatten_cons, List.flatten_nil, List.append_nil, List.cons_append, List.nil_append]
  after_results

theorem lit_rows : ∀ w : Fin 512, lit0 w = BitVec.ofNat 32 (headRow w).val := by decide +kernel

theorem table_apply (w : Fin 512) : table (ix1 w) = BitVec.ofNat 32 (headRow w).val := by
  unfold table
  rw [show S512.rowMajor (ix1 w) = w from Fin.ext (Shape.rowMajor_val_one _)]
  exact lit_rows w

theorem wrap_row : ∀ r : Fin 512, Scalar.select (IntOp.cmpi .slt (BitVec.ofNat 32 r.val) 0#32) (BitVec.ofNat 32 r.val + 512#32) (BitVec.ofNat 32 r.val) = BitVec.ofNat 32 r.val := by decide +kernel
theorem row_in_range : ∀ r : Fin 512, IntOp.andi (IntOp.cmpi .sge (BitVec.ofNat 32 r.val) 0#32) (IntOp.cmpi .sle (BitVec.ofNat 32 r.val) 511#32) = 1#1 := by decide +kernel

theorem starts_apply (w : Fin 512) : starts (ix2 w 0) = BitVec.ofNat 32 (headRow w).val := by
  pointwise [starts, wrapped]
  rw [table_apply]
  exact wrap_row _

theorem inRange_apply (w : Fin 512) : inRange (ix1 w) = 1#1 := by
  unfold inRange
  refine Host.reduce_andi_one _ _ _ _ _ rfl fun i => ?_
  idx_vars i
  obtain rfl : i1 = 0 := Subsingleton.elim _ _
  pointwise []
  rw [starts_apply]
  exact row_in_range _

theorem takenRows_apply (w : FVec Ideal S512x1024 .f32) (r : Fin 512) (d : Fin 1024) : takenRows w (ix2 r d) = w (ix2 (headRow r) d) := by
  pointwise [takenRows]
  rw [inRange_apply]
  exact (Routing.gather_row _ rfl rfl rfl rfl rfl w starts r d (headRow r) (starts_apply r) (by decide))

/-- The dimension numbers of the write into one slab. -/
abbrev slabWrite : Idealize.ShloMosaic.ScatterDims S3x512x1024 S1 S512x1024 := scatter_S3x512x1024_S1_S512x1024_01_0_0_0

theorem only_index (i : S1.Idx) : i = ix1 0 := by
  idx_vars i
  obtain rfl : i0 = 0 := Subsingleton.elim _ _
  rfl
theorem write_lands (idx : IVec S1 32) (h1 : idx (ix1 0) = 1#32) (k0 : Fin 512) (k1 : Fin 1024) (n : Fin 3) (r : Fin 512) (d : Fin 1024) :
    slabWrite.resultIdx? (ix2 k0 k1) idx = some (ix3 n r d) ↔ n = 1 ∧ k0 = r ∧ k1 = d := by
  have hs : slabWrite.siIdx (ix2 k0 k1) ⟨0, by decide⟩ = ix1 0 := by
    exact only_index _
  have s0 : slabWrite.start (ix2 k0 k1) idx 0 = 1 := by
    unfold Idealize.ShloMosaic.ScatterDims.start
    rw [dif_pos (show (0 : Fin 3) ∈ slabWrite.scatterDimsToOperandDims from List.mem_singleton.mpr rfl)]
    refine (congrArg (fun i => (idx i).toInt) hs).trans ?_
    rw [h1]; rfl
  have s1 : slabWrite.start (ix2 k0 k1) idx 1 = 0 := by
    unfold Idealize.ShloMosaic.ScatterDims.start
    exact dif_neg (by decide)
  have s2 : slabWrite.start (ix2 k0 k1) idx 2 = 0 := by
    unfold Idealize.ShloMosaic.ScatterDims.start
    exact dif_neg (by decide)
  have w0 : slabWrite.window (ix2 k0 k1) 0 = 0 := rfl
  have w1 : slabWrite.window (ix2 k0 k1) 1 = k0.val := rfl
  have w2 : slabWrite.window (ix2 k0 k1) 2 = k1.val := rfl
  rw [Routing.resultIdx?_eq_some]
  constructor
  · intro h
    have e0 := h 0
    have e1 := h 1
    have e2 := h 2
    rw [s0, w0] at e0
    rw [s1, w1] at e1
    rw [s2, w2] at e2
    have f0 : (1 : Int) + ((0 : ℕ) : Int) = (n.val : Int) := e0
    have f1 : (0 : Int) + (k0.val : Int) = (r.val : Int) := e1
    have f2 : (0 : Int) + (k1.val : Int) = (d.val : Int) := e2
    exact ⟨Fin.ext (by show n.val = 1; omega), Fin.ext (by omega), Fin.ext (by omega)⟩
  · rintro ⟨rfl, rfl, rfl⟩ a
    match a with
    | 0 => rw [s0, w0]; rfl
    | 1 => rw [s1, w1]; exact zero_add _
    | 2 => rw [s2, w2]; exact zero_add _

theorem slabNumber_apply : slabNumber (ix1 0) = 1#32 := rfl
theorem slabOne_apply (w : FVec Ideal S3x512x1024 .f32) (r : Fin 512) (d : Fin 1024) : slabOne w (ix2 r d) = w (ix3 1 r d) := by
  pointwise [slabOne]

variable (w : FVec Ideal S3x512x1024 .f32) (u : FVec Ideal S512x1024 .f32) (r : Fin 512) (d : Fin 1024)
theorem written_one : written w u (ix3 1 r d) = u (ix2 r d) := by
  unfold written
  refine Routing.scatter_set_hit slabWrite w slabNumber u (ix3 1 r d) (u (ix2 r d)) (fun k hk => ?_) (ix2 r d) ((write_lands slabNumber slabNumber_apply r d 1 r d).mpr ⟨rfl, rfl, rfl⟩)
  idx_vars k
  obtain ⟨-, rfl, rfl⟩ := (write_lands slabNumber slabNumber_apply k0 k1 1 r d).mp hk
  rfl
theorem written_other (n : Fin 3) (hn : n ≠ 1) : written w u (ix3 n r d) = w (ix3 n r d) := by
  unfold written
  refine Routing.scatter_set_miss slabWrite w slabNumber u (ix3 n r d) fun k hk => ?_
  idx_vars k
  exact hn ((write_lands slabNumber slabNumber_apply k0 k1 n r d).mp hk).1

theorem branches_eq (i : S3x512x1024.Idx) : branches w i = written w (takenRows (slabOne w)) i := by
  unfold branches
  generalize written w _ = z
  rfl
/-- The branches' weights as the kernel meets them: the second's rows in the order of its input. -/
theorem branches_one : branches w (ix3 1 r d) = w (ix3 1 (headRow r) d) := by
  rw [branches_eq, written_one, takenRows_apply, slabOne_apply]
theorem branches_other (n : Fin 3) (hn : n ≠ 1) : branches w (ix3 n r d) = w (ix3 n r d) := by
  rw [branches_eq, written_other w _ r d n hn]

end Cert.Merge
-- ==== Proof.Merge.KBlock.lean ====
/- The merge's block of 256 rows, and the array its blocks make up. -/
module

public import proofs.«01_k».proof.Proof.Merge.KHost
public import Idealize.ShloMosaic.Lib.Pipeline.ValueKit

@[expose] public section
set_option maxRecDepth 16384
noncomputable section
namespace Cert.Merge
open Idealize.ShloMosaic Idealize.ShloMosaic.TcCoe Idealize.SL.Sem Cert.Kernel3Ideal Cert.Kernel3Ideal.Gen

/-- One output: the input plus the gated branches' sum against a column of the output weights. -/
def merged (x : EReal) (t0 t1 t2 wo : Fin 1024 → EReal) : EReal :=
  x + ∑ d, (t0 d + t1 d + t2 d) * wo d
/-- One gated branch at one column. -/
def gated (g : EReal) (o w : Fin 512 → EReal) : EReal := Ideal.logistic g * ∑ k, o k * w k

section Block
variable (x : Vec Ideal S256x1024 .f32) (o0 o1 o2 : Vec Ideal S256x512 .bf16) (g : Vec Ideal S256x3072 .bf16)
  (w : Vec Ideal S3x512x1024 .bf16) (wo : Vec Ideal S1024x1024 .bf16) (p : Fin 256) (q : Fin 1024)

theorem gates_apply (d : Fin 1024) :
    k0_pay2 (View.ld o0 r0_0) (View.ld w r0_1) (View.ld g r0_2) (View.ld o1 r0_0) (View.ld w r0_3) (View.ld g r0_4) (View.ld o2 r0_0) (View.ld w r0_5) (View.ld g r0_6) (ix2 p d)
      = gated (g (ix2 p ⟨d.val, by omega⟩)) (fun k => o0 (ix2 p k)) (fun k => w (ix3 0 k d))
        + gated (g (ix2 p ⟨1024 + d.val, by omega⟩)) (fun k => o1 (ix2 p k)) (fun k => w (ix3 1 k d))
        + gated (g (ix2 p ⟨2048 + d.val, by omega⟩)) (fun k => o2 (ix2 p k)) (fun k => w (ix3 2 k d)) := by
  unfold gated
  pointwise [k0_pay2]

theorem tail_apply (z : FVec Ideal S256x1024 .bf16) :
    k0_pay1 (View.ld x r0_7) z (k0_pay3 (View.ld wo r0_8)) (constant S256x1024 .f32 0x00000000#32) (ix2 p q)
      = x (ix2 p q) + ∑ d : Fin 1024, z (ix2 p d) * wo (ix2 d q) := by
  pointwise [k0_pay1, k0_pay3]

theorem out_apply : out0_7 x o0 o1 o2 g w wo (ix2 p q)
    = merged (x (ix2 p q))
        (fun d => gated (g (ix2 p ⟨d.val, by omega⟩)) (fun k => o0 (ix2 p k)) (fun k => w (ix3 0 k d)))
        (fun d => gated (g (ix2 p ⟨1024 + d.val, by omega⟩)) (fun k => o1 (ix2 p k)) (fun k => w (ix3 1 k d)))
        (fun d => gated (g (ix2 p ⟨2048 + d.val, by omega⟩)) (fun k => o2 (ix2 p k)) (fun k => w (ix3 2 k d)))
        (fun d => wo (ix2 d q)) := by
  unfold out0_7
  rw [View.canon_unit_zero (by decide)]
  refine (tail_apply x wo p q _).trans ?_
  unfold merged
  refine congrArg (fun s => x (ix2 p q) + s) (Finset.sum_congr rfl fun d _ => ?_)
  rw [gates_apply]
end Block

variable (m : (ℓ : Loc nD τ sig) → Buf (Elt Ideal) ℓ) (c : Dev nD)

theorem N_0 : cfg0.N = 64 := rfl
/-- Row `p` of block `t`. -/
def rowAt (t : Fin cfg0.N) (p : Fin 256) : Fin 16384 := ⟨t.val * 256 + p.val, by have := lt_of_lt_of_eq t.isLt N_0; omega⟩

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0, 0] ∧ win0_6.index t = ![0, 0] ∧ win0_7.index t = ![t.val, 0] :=
  (by decide +kernel : ∀ t : Fin grid0.N, _)

theorem read0 (t : Fin cfg0.N) (f : Vec Ideal S16384x1024 .f32) (p : Fin 256) (q : Fin 1024) :
    (((cfg0.win 0).blk t).view.read (Elt Ideal) f : Vec Ideal S256x1024 .f32) (ix2 p q) = f (ix2 (rowAt t p) q) := by
  unfold rowAt; blk_ext! [idx t]
theorem blk0 (t : Fin cfg0.N) (p : Fin 256) (q : Fin 1024) : (iblk m c 0 t : Vec Ideal S256x1024 .f32) (ix2 p q) = A0 m c (ix2 (rowAt t p) q) :=
  (read0 t (V m c main_arg0) p q).trans (congrFun (V_main_arg0 m c) _)
theorem read1 (t : Fin cfg0.N) (f : Vec Ideal S16384x512 .bf16) (p : Fin 256) (q : Fin 512) :
    (((cfg0.win 1).blk t).view.read (Elt Ideal) f : Vec Ideal S256x512 .bf16) (ix2 p q) = f (ix2 (rowAt t p) q) := by
  unfold rowAt; blk_ext! [idx t]
theorem blk1 (t : Fin cfg0.N) (p : Fin 256) (q : Fin 512) : (iblk m c 1 t : Vec Ideal S256x512 .bf16) (ix2 p q) = A1 m c (ix2 (rowAt t p) q) :=
  (read1 t (V m c main_arg1) p q).trans (congrFun (V_main_arg1 m c) _)
theorem read2 (t : Fin cfg0.N) (f : Vec Ideal S16384x512 .bf16) (p : Fin 256) (q : Fin 512) :
    (((cfg0.win 2).blk t).view.read (Elt Ideal) f : Vec Ideal S256x512 .bf16) (ix2 p q) = f (ix2 (rowAt t p) q) := by
  unfold rowAt; blk_ext! [idx t]
theorem blk2 (t : Fin cfg0.N) (p : Fin 256) (q : Fin 512) : (iblk m c 2 t : Vec Ideal S256x512 .bf16) (ix2 p q) = A2 m c (ix2 (rowAt t p) q) :=
  (read2 t (V m c main_arg2) p q).trans (congrFun (V_main_arg2 m c) _)
theorem read3 (t : Fin cfg0.N) (f : Vec Ideal S16384x512 .bf16) (p : Fin 256) (q : Fin 512) :
    (((cfg0.win 3).blk t).view.read (Elt Ideal) f : Vec Ideal S256x512 .bf16) (ix2 p q) = f (ix2 (rowAt t p) q) := by
  unfold rowAt; blk_ext! [idx t]
theorem blk3 (t : Fin cfg0.N) (p : Fin 256) (q : Fin 512) : (iblk m c 3 t : Vec Ideal S256x512 .bf16) (ix2 p q) = A3 m c (ix2 (rowAt t p) q) :=
  (read3 t (V m c main_arg3) p q).trans (congrFun (V_main_arg3 m c) _)
theorem read4 (t : Fin cfg0.N) (f : Vec Ideal S16384x3072 .bf16) (p : Fin 256) (q : Fin 3072) :
    (((cfg0.win 4).blk t).view.read (Elt Ideal) f : Vec Ideal S256x3072 .bf16) (ix2 p q) = f (ix2 (rowAt t p) q) := by
  unfold rowAt; blk_ext! [idx t]
theorem blk4 (t : Fin cfg0.N) (p : Fin 256) (q : Fin 3072) : (iblk m c 4 t : Vec Ideal S256x3072 .bf16) (ix2 p q) = A4 m c (ix2 (rowAt t p) q) :=
  (read4 t (V m c main_arg4) p q).trans (congrFun (V_main_arg4 m c) _)
theorem read5 (t : Fin cfg0.N) (f : Vec Ideal S3x512x1024 .bf16) : (((cfg0.win 5).blk t).view.read (Elt Ideal) f : Vec Ideal S3x512x1024 .bf16) = f := by
  blk_ext! [idx t]
theorem blk5 (t : Fin cfg0.N) : iblk m c 5 t = V m c main_v5 := read5 t _
theorem read6 (t : Fin cfg0.N) (f : Vec Ideal S1024x1024 .bf16) : (((cfg0.win 6).blk t).view.read (Elt Ideal) f : Vec Ideal S1024x1024 .bf16) = f := by
  blk_ext! [idx t]
theorem blk6 (t : Fin cfg0.N) : iblk m c 6 t = V m c main_v6 := read6 t _
theorem emb7 (t : Fin cfg0.N) (p : Fin 256) (q : Fin 1024) : ((View.whole main_v7).slice (win0_7.rect t)).emb (ix2 p q) = ix2 (rowAt t p) q := by
  unfold rowAt; blk_ext! [idx t]

/-- The merge at row `i` and column `q`. -/
def mergeAt (x : Vec Ideal S16384x1024 .f32) (o0 o1 o2 : Vec Ideal S16384x512 .bf16) (g : Vec Ideal S16384x3072 .bf16)
    (w : Vec Ideal S3x512x1024 .f32) (wo : Vec Ideal S1024x1024 .f32) (i : Fin 16384) (q : Fin 1024) : EReal :=
  merged (x (ix2 i q))
    (fun d => gated (g (ix2 i ⟨d.val, by omega⟩)) (fun k => o0 (ix2 i k)) (fun k => w (ix3 0 k d)))
    (fun d => gated (g (ix2 i ⟨1024 + d.val, by omega⟩)) (fun k => o1 (ix2 i k)) (fun k => w (ix3 1 (headRow k) d)))
    (fun d => gated (g (ix2 i ⟨2048 + d.val, by omega⟩)) (fun k => o2 (ix2 i k)) (fun k => w (ix3 2 k d)))
    (fun d => wo (ix2 d q))

theorem out_at (t : Fin cfg0.N) (p : Fin 256) (q : Fin 1024) :
    out0_7 (iblk m c 0 t) (iblk m c 1 t) (iblk m c 2 t) (iblk m c 3 t) (iblk m c 4 t) (iblk m c 5 t) (iblk m c 6 t) (ix2 p q)
      = mergeAt (A0 m c) (A1 m c) (A2 m c) (A3 m c) (A4 m c) (A5 m c) (A6 m c) (rowAt t p) q := by
  rw [out_apply, blk5, blk6, V_v5, V_v6]
  simp only [blk0, blk1, blk2, blk3, blk4, branches_one]
  unfold mergeAt
  simp only [branches_other (A5 m c) _ _ 0 (by decide), branches_other (A5 m c) _ _ 2 (by decide)]
  rfl

/-- The array the kernel leaves. -/
theorem final7 : (dats m 0 c).arrAt 7 cfg0.N = fun y : S16384x1024.Idx => mergeAt (A0 m c) (A1 m c) (A2 m c) (A3 m c) (A4 m c) (A5 m c) (A6 m c) (y 0) (y 1) := by
  refine (dats m 0 c).arrAt_eq_of_covers 7 _ (by decide +kernel) fun t _ y => ?_
  blk_simp
  rw [after0_7]
  idx_vars y
  rw [emb7]
  exact out_at m c t y0 y1
end Cert.Merge
-- ==== Proof.Merge.Ref.lean ====
/- The merge's reference, read at an index. -/
module

public import proofs.«01_k».proof.Proof.Gen.Reference3Ideal.Run
public import proofs.«01_k».proof.Proof.Merge.KBlock

@[expose] public section
set_option maxRecDepth 16384
noncomputable section
namespace Cert.Merge.Ref
open Idealize.ShloMosaic Idealize.ShloMosaic.TcCoe Idealize.SL.Sem Cert.Reference3Ideal Cert.Reference3Ideal.Gen Idealize.ShloMosaic.StableHlo

variable (x : FVec Ideal S16384x1024 .f32) (o0 o1 o2 : FVec Ideal S16384x512 .bf16) (g : FVec Ideal S16384x3072 .bf16)
  (w : FVec Ideal S3x512x1024 .f32) (wo : FVec Ideal S1024x1024 .f32)

/-- The gates of the three branches. -/
def gates : FVec Ideal S16384x3x1024 .f32 :=
  shapeCast _ (Host.divf (broadcastInDim S16384x3072 ![] bcast_S_S16384x3072 (constant S_ .f32 0x3F800000#32)) (addf (broadcastInDim S16384x3072 ![] bcast_S_S16384x3072 (constant S_ .f32 0x3F800000#32)) (Host.exp (Host.negf (extf .f32 g bitsLt_bf16_f32))))) shapeCasts_S16384x3072_S16384x3x1024
/-- The second branch's input, head by head in the plain order. -/
def plainHeads : FVec Ideal S16384x512 .f32 :=
  shapeCast _ (transpose S16384x2x4x64 [0, 2, 1, 3] (shapeCast _ (extf .f32 o1 bitsLt_bf16_f32) shapeCasts_S16384x512_S16384x4x2x64) transposes_S16384x4x2x64_S16384x2x4x64_0_2_1_3) shapeCasts_S16384x2x4x64_S16384x512
/-- The three branches' inputs, stacked. -/
def stacked (a b c : FVec Ideal S16384x512 .f32) : FVec Ideal S16384x3x512 .f32 :=
  concatenate S16384x3x512 1 [⟨S16384x1x512, broadcastInDim S16384x1x512 ![0, 2] bcast_S16384x512_S16384x1x512_0_2 a⟩,
    ⟨S16384x1x512, broadcastInDim S16384x1x512 ![0, 2] bcast_S16384x512_S16384x1x512_0_2 b⟩,
    ⟨S16384x1x512, broadcastInDim S16384x1x512 ![0, 2] bcast_S16384x512_S16384x1x512_0_2 c⟩] concatenates_S16384x1x512_S16384x1x512_S16384x1x512_S16384x3x512_d1
/-- Each branch's projection. -/
def projected (s : FVec Ideal S16384x3x512 .f32) : FVec Ideal S16384x3x1024 .f32 :=
  transpose S16384x3x1024 [2, 0, 1] (Host.dotGeneral dot_S3x512x1024_S16384x3x512_S3x1024x16384_1_2_2_0_0_1 none w s) transposes_S3x1024x16384_S16384x3x1024_2_0_1
/-- The gated sum over the branches. -/
def gatedSum (a b : FVec Ideal S16384x3x1024 .f32) : FVec Ideal S16384x1024 .f32 :=
  Host.reduceAdd (mulf a b) (constant S_ .f32 0x00000000#32) reducesTo_S16384x3x1024_S16384x1024_d1 h_S_
/-- The reference's result. -/
def result : FVec Ideal S16384x1024 .f32 :=
  addf x (Host.dotGeneral dot_S16384x1024_S1024x1024_S16384x1024_1_0_0_1_n_n none
    (gatedSum (gates g) (projected w (stacked (extf .f32 o0 bitsLt_bf16_f32) (plainHeads o1) (extf .f32 o2 bitsLt_bf16_f32)))) wo)

variable (i : Fin 16384) (q d : Fin 1024) (k : Fin 512)

theorem gates_apply (n : Fin 3) : gates g (ix3 i n d) = Ideal.logistic (g (ix2 i ⟨n.val * 1024 + d.val, by omega⟩)) := by
  pointwise [gates]
  rfl
theorem plainHeads_apply : plainHeads o1 (ix2 i k) = o1 (ix2 i ⟨k.val / 64 % 4 * 128 + k.val / 256 * 64 + k.val % 64, by omega⟩) := by
  pointwise [plainHeads]
variable (a b c : FVec Ideal S16384x512 .f32)
theorem stacked_zero : stacked a b c (ix3 i 0 k) = a (ix2 i k) := by
  pointwise [stacked]
theorem stacked_one : stacked a b c (ix3 i 1 k) = b (ix2 i k) := by
  pointwise [stacked]
theorem stacked_two : stacked a b c (ix3 i 2 k) = c (ix2 i k) := by
  pointwise [stacked]
theorem projected_apply (s : FVec Ideal S16384x3x512 .f32) (n : Fin 3) :
    projected w s (ix3 i n d) = ∑ k : Fin 512, w (ix3 n k d) * s (ix3 i n k) := by
  pointwise [projected]
theorem gatedSum_apply (u v : FVec Ideal S16384x3x1024 .f32) : gatedSum u v (ix2 i d) = ∑ n : Fin 3, u (ix3 i n d) * v (ix3 i n d) := by
  pointwise [gatedSum]
theorem last_apply (s : FVec Ideal S16384x1024 .f32) :
    addf x (Host.dotGeneral dot_S16384x1024_S1024x1024_S16384x1024_1_0_0_1_n_n none s wo) (ix2 i q) = x (ix2 i q) + ∑ d, s (ix2 i d) * wo (ix2 d q) := by
  pointwise []

/-- The column of the second branch's input that holds plain column `k`. -/
def headCol (k : Fin 512) : Fin 512 := ⟨k.val / 64 % 4 * 128 + k.val / 256 * 64 + k.val % 64, by omega⟩
theorem headRow_headCol : ∀ k, headRow (headCol k) = k := by decide +kernel
theorem headCol_headRow : ∀ k, headCol (headRow k) = k := by decide +kernel
/-- The two orders of the heads, one the inverse of the other. -/
def heads : Fin 512 ≃ Fin 512 where
  toFun := headCol
  invFun := headRow
  left_inv := headRow_headCol
  right_inv := headCol_headRow

/-- The reference's result is the merge. -/
theorem result_apply : result x o0 o1 o2 g w wo (ix2 i q) = mergeAt x o0 o1 o2 g w wo i q := by
  unfold result mergeAt merged
  rw [last_apply]
  refine congrArg (fun s => x (ix2 i q) + s) (Finset.sum_congr rfl fun d _ => congrArg (fun s => s * wo (ix2 d q)) ?_)
  rw [gatedSum_apply, Fin.sum_univ_three]
  simp only [gates_apply, projected_apply, stacked_zero, stacked_one, stacked_two, plainHeads_apply]
  unfold gated
  refine congrArg₂ (fun a b => a + b) (congrArg₂ (fun a b => a + b) ?_ ?_) ?_
  · refine congrArg₂ (fun a b => a * b) (congrArg (fun l => Ideal.logistic (g (ix2 i l))) (Fin.ext ?_)) (Finset.sum_congr rfl fun k _ => mul_comm _ _)
    show 0 * 1024 + d.val = d.val
    omega
  · refine congrArg₂ (fun a b => a * b) (congrArg (fun l => Ideal.logistic (g (ix2 i l))) (Fin.ext ?_)) ?_
    · show 1 * 1024 + d.val = 1024 + d.val
      omega
    · refine Fintype.sum_equiv heads _ _ fun k => ?_
      show w (ix3 1 k d) * o1 (ix2 i (headCol k)) = o1 (ix2 i (headCol k)) * w (ix3 1 (headRow (headCol k)) d)
      rw [headRow_headCol, mul_comm]
  · refine congrArg₂ (fun a b => a * b) (congrArg (fun l => Ideal.logistic (g (ix2 i l))) (Fin.ext ?_)) (Finset.sum_congr rfl fun k _ => mul_comm _ _)
    show 2 * 1024 + d.val = 2048 + d.val
    omega
end Cert.Merge.Ref
-- ==== Proof.Merge.Claims.lean ====
/- The claims about the merge: its frames and the equation of its result with the reference's. -/
module

public import proofs.«01_k».proof.Defs
public import proofs.«01_k».proof.Proof.Merge.Ref

@[expose] public section
set_option maxRecDepth 16384
noncomputable section
namespace Cert.Merge.Claims
open Idealize.ShloMosaic Idealize.ShloMosaic.TcCoe Idealize.SL.Sem

/-- The reference runs, keeps its arguments and leaves every semaphore at zero. -/
theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel's result and the reference's are the same array. -/
theorem equation : Cert.algebraic_Kernel3Ideal_Reference3Ideal := by
  intro m ρ m' ρ' hpre hagree
  refine ⟨fun c => (Cert.Kernel3Ideal.Gen.dats m 0 c).arrAt 7 (Cert.Kernel3Ideal.cfgs 0).N,
    Cert.Kernel3Ideal.Value.run_blocks m ρ, ?_⟩
  refine (θ_run Cert.Reference3Ideal.defs _ _).mono (fun r h c => ?_) (Cert.Reference3Ideal.Value.run (F := Ideal) m' ρ')
  obtain ⟨a0, a1, a2, a3, a4, a5, a6⟩ := hagree c
  refine ⟨(h c).1.trans ?_, (h c).2⟩
  rw [a0, a1, a2, a3, a4, a5, a6]
  refine Eq.trans ?_ (final7 m c).symm
  funext y
  idx_vars y
  exact Ref.result_apply (A0 m c) (A1 m c) (A2 m c) (A3 m c) (A4 m c) (A5 m c) (A6 m c) y0 y1
end Cert.Merge.Claims
-- ==== Proof.Proj.KHost.lean ====
/- The input projection's weights as the kernel's window reads them: the columns in the order of its outputs, the padding zero. -/
module

public import proofs.«01_k».proof.Proof.Gen.Kernel2Ideal.Value
public import Idealize.ShloMosaic.Lib.Pointwise
public import Idealize.ShloMosaic.Lib.ReduceAll

@[expose] public section
set_option maxRecDepth 16384
noncomputable section
namespace Cert.Proj
open Idealize.ShloMosaic Idealize.ShloMosaic.TcCoe Idealize.SL.Sem Cert.Kernel2Ideal Cert.Kernel2Ideal.Gen Idealize.ShloMosaic.StableHlo

variable (m : (ℓ : Loc nD τ sig) → Buf (Elt Ideal) ℓ) (c : Dev nD)

/-- Argument contents as launched. -/
abbrev A0 : Vec Ideal S16384x1024 .f32 := m ((c : Thread nD τ).loc main_arg0)
abbrev A1 : Vec Ideal S1024 .f32 := m ((c : Thread nD τ).loc main_arg1)
abbrev A2 : Vec Ideal S1024x7960 .f32 := m ((c : Thread nD τ).loc main_arg2)

/-- The table of columns, as printed. -/
def table : IVec S8064 32 := fun i => lit0 (S8064.rowMajor i)
/-- Which columns hold weights; the others are padding. -/
def kept : IVec S8064 1 := fun i => lit1 (S8064.rowMajor i)
def wrapped : IVec S8064 32 :=
  select (cmpi .slt table (broadcastInDim S8064 ![] bcast_S_S8064 (constantI S_ 32 0#32)))
    (addi table (broadcastInDim S8064 ![] bcast_S_S8064 (constantI S_ 32 7960#32))) table
def starts : IVec S8064x1 32 := broadcastInDim S8064x1 ![0] bcast_S8064_S8064x1_0 wrapped
def inRange : IVec S8064 1 :=
  Host.reduce IntOp.andi
    (andi (cmpi .sge starts (broadcastInDim S8064x1 ![] bcast_S_S8064x1 (constantI S_ 32 0#32)))
      (cmpi .sle starts (broadcastInDim S8064x1 ![0, 1] bcast_S1x1_S8064x1_0_1 (broadcastInDim S1x1 ![1] bcast_S1_S1x1_1 (constantI S1 32 7959#32)))))
    (constantI S_ 1 1#1) reducesTo_S8064x1_S8064_d1 h_S_
/-- The columns of a matrix taken in the table's order. -/
def takenCols (w : FVec Ideal S1024x7960 .f32) : FVec Ideal S1024x8064 .f32 :=
  select (broadcastInDim S1024x8064 ![1] bcast_S8064_S1024x8064_1 inRange)
    (Host.gather gather_S1024x7960_S8064x1_S1024x8064_0_1_n_n_1_1_10241 w starts)
    (broadcastInDim S1024x8064 ![] bcast_S_S1024x8064 (constant S_ .f32 0x7FC00000#32))
/-- The weights, the padding columns zero. -/
def weights (w : FVec Ideal S1024x7960 .f32) : FVec Ideal S1024x8064 .bf16 :=
  truncf .bf16 (select (broadcastInDim S1024x8064 ![1] bcast_S8064_S1024x8064_1 kept) (takenCols w)
    (broadcastInDim S1024x8064 ![] bcast_S_S1024x8064 (id (constant S_ .f32 0x00000000#32)))) bitsLt_bf16_f32
/-- The gain as one row. -/
def gainRow (g : FVec Ideal S1024 .f32) : FVec Ideal S1x1024 .f32 := broadcastInDim S1x1024 ![1] bcast_S1024_S1x1024_1 g

theorem V_v2 : V m c main_v2 = weights (A2 m c) := by
  unfold_abbrev_sides
  simp only [List.flatten_cons, List.flatten_nil, List.append_nil, List.cons_append, List.nil_append]
  after_results
  simp only [StableHlo.TRef.ofBuf_toBuf]
  rfl
theorem V_v3 : V m c main_v3 = gainRow (A1 m c) := by
  unfold_abbrev_sides
  simp only [List.flatten_cons, List.flatten_nil, List.append_nil, List.cons_append, List.nil_append]
  after_results
  rfl

theorem gainRow_apply (g : FVec Ideal S1024 .f32) (k : Fin 1024) : gainRow g (ix2 0 k) = g (ix1 k) := by
  pointwise [gainRow]

theorem lit_small : ∀ a : Fin 63, ∀ b : Fin 128, (lit0 ⟨128 * a.val + b.val, by omega⟩).toNat < 7960 := by decide +kernel
theorem lit_lt (n : Fin 8064) : (lit0 n).toNat < 7960 := by
  have h := lit_small ⟨n.val / 128, by omega⟩ ⟨n.val % 128, by omega⟩
  have e : (⟨128 * (n.val / 128) + n.val % 128, by omega⟩ : Fin 8064) = n := Fin.ext (by show 128 * (n.val / 128) + n.val % 128 = n.val; omega)
  rw [← e]
  exact h

theorem table_apply (n : Fin 8064) : table (ix1 n) = lit0 n := by
  unfold table
  rw [show S8064.rowMajor (ix1 n) = n from Fin.ext (Shape.rowMajor_val_one _)]
theorem kept_apply (n : Fin 8064) : kept (ix1 n) = lit1 n := by
  unfold kept
  rw [show S8064.rowMajor (ix1 n) = n from Fin.ext (Shape.rowMajor_val_one _)]

theorem wrap_small : ∀ a : Fin 40, ∀ b : Fin 199,
    Scalar.select (IntOp.cmpi .slt (BitVec.ofNat 32 (199 * a.val + b.val)) 0#32) (BitVec.ofNat 32 (199 * a.val + b.val) + 7960#32) (BitVec.ofNat 32 (199 * a.val + b.val)) = BitVec.ofNat 32 (199 * a.val + b.val)
    ∧ IntOp.andi (IntOp.cmpi .sge (BitVec.ofNat 32 (199 * a.val + b.val)) 0#32) (IntOp.cmpi .sle (BitVec.ofNat 32 (199 * a.val + b.val)) 7959#32) = 1#1 := by decide +kernel
theorem wrap_col (v : BitVec 32) (h : v.toNat < 7960) :
    Scalar.select (IntOp.cmpi .slt v 0#32) (v + 7960#32) v = v ∧ IntOp.andi (IntOp.cmpi .sge v 0#32) (IntOp.cmpi .sle v 7959#32) = 1#1 := by
  have e : v = BitVec.ofNat 32 (199 * (v.toNat / 199) + v.toNat % 199) := by
    rw [show 199 * (v.toNat / 199) + v.toNat % 199 = v.toNat by omega, BitVec.ofNat_toNat, BitVec.setWidth_eq]
  rw [e]
  exact wrap_small ⟨v.toNat / 199, by omega⟩ ⟨v.toNat % 199, by omega⟩

theorem starts_apply (n : Fin 8064) : starts (ix2 n 0) = lit0 n := by
  pointwise [starts, wrapped]
  rw [table_apply]
  exact (wrap_col _ (lit_lt n)).1

theorem inRange_apply (n : Fin 8064) : inRange (ix1 n) = 1#1 := by
  unfold inRange
  refine Host.reduce_andi_one _ _ _ _ _ rfl fun i => ?_
  idx_vars i
  obtain rfl : i1 = 0 := Subsingleton.elim _ _
  pointwise []
  rw [starts_apply]
  exact (wrap_col _ (lit_lt i0)).2

theorem ofNat_toInt {n : ℕ} (h : n < 2 ^ 31) : (BitVec.ofNat 32 n).toInt = n := by
  rw [BitVec.toInt_eq_toNat_of_lt (by rw [BitVec.toNat_ofNat, Nat.mod_eq_of_lt (by omega)]; omega), BitVec.toNat_ofNat, Nat.mod_eq_of_lt (by omega)]

theorem gather_col (w : FVec Ideal S1024x7960 .f32) (idx : IVec S8064x1 32) (k : Fin 1024) (n : Fin 8064) (s : Fin 7960)
    (hs : idx (ix2 n 0) = BitVec.ofNat 32 s.val) :
    Host.gather gather_S1024x7960_S8064x1_S1024x8064_0_1_n_n_1_1_10241 w idx (ix2 k n) = w (ix2 k s) := by
  set d := gather_S1024x7960_S8064x1_S1024x8064_0_1_n_n_1_1_10241 with hd
  unfold Host.gather
  refine congrArg w (funext fun a => Fin.ext ?_)
  match a with
  | ⟨0, _⟩ =>
    show d.start (ix2 k n) idx 0 + d.batchCoord (ix2 k n) 0 + d.offCoord (ix2 k n) 0 = _
    rw [GatherDims.batchCoord_eq_zero _ _ _ (fun h => by simp [hd, gather_S1024x7960_S8064x1_S1024x8064_0_1_n_n_1_1_10241] at h)]
    have : d.start (ix2 k n) idx 0 = 0 := by
      unfold GatherDims.start
      exact dif_neg (fun h => by simp [hd, gather_S1024x7960_S8064x1_S1024x8064_0_1_n_n_1_1_10241] at h)
    rw [this]
    simp only [Nat.zero_add, Nat.add_zero]
    unfold GatherDims.offCoord
    rfl
  | ⟨1, _⟩ =>
    show d.start (ix2 k n) idx 1 + d.batchCoord (ix2 k n) 1 + d.offCoord (ix2 k n) 1 = _
    rw [GatherDims.batchCoord_eq_zero _ _ _ (fun h => by simp [hd, gather_S1024x7960_S8064x1_S1024x8064_0_1_n_n_1_1_10241] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    have hsi : d.siIdx (ix2 k n) ⟨List.idxOf (1 : Fin 2) d.startIndexMap,
        List.idxOf_lt_length_iff.2 (List.mem_singleton.mpr rfl)⟩ = ix2 n 0 := by
      funext b; refine Fin.ext ?_
      match b with
      | ⟨0, _⟩ => rfl
      | ⟨1, _⟩ => rfl
    rw [hsi, hs, ofNat_toInt (by omega)]
    show min ((s.val : Int).toNat) 7959 = s.val
    omega

variable (w : FVec Ideal S1024x7960 .f32) (k : Fin 1024) (n : Fin 8064)

theorem takenCols_apply (s : Fin 7960) (h : lit0 n = BitVec.ofNat 32 s.val) : takenCols w (ix2 k n) = w (ix2 k s) := by
  pointwise [takenCols]
  rw [inRange_apply]
  exact gather_col w starts k n s ((starts_apply n).trans h)

/-- A column that holds weights. -/
theorem weights_kept (s : Fin 7960) (h : lit1 n = 1#1 ∧ lit0 n = BitVec.ofNat 32 s.val) : weights w (ix2 k n) = w (ix2 k s) := by
  pointwise [weights]
  rw [kept_apply, h.1]
  exact takenCols_apply w k n s h.2
/-- A padding column. -/
theorem weights_pad (h : lit1 n = 0#1) : weights w (ix2 k n) = 0 := by
  pointwise [weights]
  rw [kept_apply, h]
  show constant (F := Ideal) S_ .f32 0x00000000#32 ix0 = 0
  pointwise []
end Cert.Proj
-- ==== Proof.Proj.KBlock.lean ====
/- The input projection's blocks of 256 rows, and the arrays its blocks make up. -/
module

public import proofs.«01_k».proof.Proof.Proj.KHost
public import proofs.«01_k».proof.Proof.Moe.Spec
public import Idealize.ShloMosaic.Lib.Pipeline.ValueKit

@[expose] public section
set_option maxRecDepth 16384
noncomputable section
namespace Cert.Proj
open Idealize.ShloMosaic Idealize.ShloMosaic.TcCoe Idealize.SL.Sem Cert.Kernel2Ideal Cert.Kernel2Ideal.Gen

/-- Row `p` of a block against column `n` of the kernel's weights. -/
def blockAt (x : Vec Ideal S256x1024 .f32) (g : Vec Ideal S1x1024 .f32) (w : Vec Ideal S1024x8064 .bf16) (p : Fin 256) (n : Fin 8064) : EReal :=
  ∑ k, Cert.Moe.normed (fun k => x (ix2 p k)) (fun k => g (ix2 0 k)) k * w (ix2 k n)

section Block
variable (x : Vec Ideal S256x1024 .f32) (g : Vec Ideal S1x1024 .f32) (w : Vec Ideal S1024x8064 .bf16) (p : Fin 256)

theorem pay2_apply (k : Fin 1024) :
    k0_pay2 (View.ld x r0_0) (View.ld g r0_1) (ix2 p k) = Cert.Moe.normed (fun k => x (ix2 p k)) (fun k => g (ix2 0 k)) k := by
  unfold Cert.Moe.normed Cert.Moe.invRms
  pointwise [k0_pay2]
theorem pay16_apply (k : Fin 1024) : k0_pay16 x g w (ix2 p k) = Cert.Moe.normed (fun k => x (ix2 p k)) (fun k => g (ix2 0 k)) k :=
  pay2_apply x g p k
theorem pay15_apply (i : S256x256.Idx) : k0_pay15 (F := Ideal) x g w i = 0 := by
  unfold k0_pay15
  pointwise []
theorem pay17_apply (k : Fin 1024) (q : Fin 256) : k0_pay17 x g w (ix2 k q) = w (ix2 k ⟨3072 + q.val, by omega⟩) := by
  unfold k0_pay17
  pointwise [k0_pay6]
theorem out3_apply (q : Fin 2048) : out0_3 x g w (ix2 p q) = blockAt x g w p ⟨q.val, by omega⟩ := by
  unfold out0_3 blockAt
  rw [View.canon_unit_zero (by decide)]
  simp only [← pay2_apply]
  pointwise [k0_pay3]
theorem out4_apply (q : Fin 512) : out0_4 x g w (ix2 p q) = blockAt x g w p ⟨2048 + q.val, by omega⟩ := by
  unfold out0_4 blockAt
  rw [View.canon_unit_zero (by decide)]
  simp only [← pay2_apply]
  pointwise [k0_pay4]
theorem out5_apply (q : Fin 512) : out0_5 x g w (ix2 p q) = blockAt x g w p ⟨2560 + q.val, by omega⟩ := by
  unfold out0_5 blockAt
  rw [View.canon_unit_zero (by decide)]
  simp only [← pay2_apply]
  pointwise [k0_pay5]
theorem out6_apply (q : Fin 256) : out0_6 x g w (ix2 p q) = blockAt x g w p ⟨3072 + q.val, by omega⟩ := by
  unfold out0_6 blockAt
  rw [View.canon_unit_zero (by decide)]
  simp only [← pay2_apply]
  pointwise [k0_pay7]
  rw [pay15_apply, zero_add]
  exact Finset.sum_congr rfl fun k _ => congrArg₂ (fun a b => a * b) ((pay16_apply x g w p k).trans (pay2_apply x g p k).symm) (pay17_apply x g w k q)
theorem out7_apply (q : Fin 512) : out0_7 x g w (ix2 p q) = blockAt x g w p ⟨2816 + q.val, by omega⟩ := by
  unfold out0_7 blockAt
  rw [View.canon_unit_zero (by decide)]
  simp only [← pay2_apply]
  pointwise [k0_pay8, k0_pay7, k0_pay5]
  split_ifs with h h1
  · refine Finset.sum_congr rfl fun k _ => congrArg (fun l => k0_pay2 (View.ld x r0_0) (View.ld g r0_1) (ix2 p k) * w (ix2 k l)) (Fin.ext ?_)
    show 2560 + (256 + q.val) = 2816 + q.val
    omega
  · rw [pay15_apply, zero_add]
    refine Finset.sum_congr rfl fun k _ => congrArg₂ (fun a b => a * b) ((pay16_apply x g w p k).trans (pay2_apply x g p k).symm) ((pay17_apply x g w k _).trans ?_)
    refine congrArg (fun l => w (ix2 k l)) (Fin.ext ?_)
    show 3072 + (q.val - 256) = 2816 + q.val
    omega
  · exact absurd rfl h1
theorem out8_apply (q : Fin 128) : out0_8 x g w (ix2 p q) = blockAt x g w p ⟨3328 + q.val, by omega⟩ := by
  unfold out0_8 blockAt
  rw [View.canon_unit_zero (by decide)]
  simp only [← pay2_apply]
  unfold k0_pay16
  pointwise [k0_pay9]
theorem out9_apply (q : Fin 512) : out0_9 x g w (ix2 p q) = blockAt x g w p ⟨3456 + q.val, by omega⟩ := by
  unfold out0_9 blockAt
  rw [View.canon_unit_zero (by decide)]
  simp only [← pay2_apply]
  unfold k0_pay16
  pointwise [k0_pay10]
theorem out10_apply (q : Fin 512) : out0_10 x g w (ix2 p q) = blockAt x g w p ⟨3968 + q.val, by omega⟩ := by
  unfold out0_10 blockAt
  rw [View.canon_unit_zero (by decide)]
  simp only [← pay2_apply]
  unfold k0_pay16
  pointwise [k0_pay11]
theorem out11_apply (q : Fin 512) : out0_11 x g w (ix2 p q) = blockAt x g w p ⟨4480 + q.val, by omega⟩ := by
  unfold out0_11 blockAt
  rw [View.canon_unit_zero (by decide)]
  simp only [← pay2_apply]
  unfold k0_pay16
  pointwise [k0_pay13]
theorem out12_apply (q : Fin 512) : out0_12 x g w (ix2 p q) = blockAt x g w p ⟨3968 + q.val, by omega⟩ := by
  unfold out0_12 blockAt
  rw [View.canon_unit_zero (by decide)]
  simp only [← pay2_apply]
  unfold k0_pay16
  pointwise [k0_pay12, k0_pay11]
theorem out13_apply (q : Fin 512) : out0_13 x g w (ix2 p q) = blockAt x g w p ⟨4480 + q.val, by omega⟩ := by
  unfold out0_13 blockAt
  rw [View.canon_unit_zero (by decide)]
  simp only [← pay2_apply]
  unfold k0_pay16
  pointwise [k0_pay14, k0_pay13]
theorem out14_apply (q : Fin 3072) : out0_14 x g w (ix2 p q) = blockAt x g w p ⟨4992 + q.val, by omega⟩ := by
  unfold out0_14 blockAt
  rw [View.canon_unit_zero (by decide)]
  simp only [← pay2_apply]
  unfold k0_pay16
  pointwise [k0_pay1]
end Block
end Cert.Proj
-- ==== Proof.Proj.Table.lean ====
/- Which column of the projection stands behind each column of the kernel's weights. -/
module

public import proofs.«01_k».proof.Proof.Proj.KHost

@[expose] public section
set_option maxRecDepth 16384
noncomputable section
namespace Cert.Proj
open Idealize.ShloMosaic Cert.Kernel2Ideal Cert.Kernel2Ideal.Gen

/-- The projection's column behind column `q` of the first mixer's inputs. -/
def colA (q : Fin 2048) : Fin 7960 := ⟨q.val, by omega⟩
theorem colA_small : ∀ a : Fin 16, ∀ b : Fin 128, lit1 ⟨128 * a.val + b.val, by omega⟩ = 1#1 ∧ lit0 ⟨128 * a.val + b.val, by omega⟩ = BitVec.ofNat 32 (colA ⟨128 * a.val + b.val, by omega⟩).val := by decide +kernel
theorem colA_table (q : Fin 2048) : lit1 ⟨q.val, by omega⟩ = 1#1 ∧ lit0 ⟨q.val, by omega⟩ = BitVec.ofNat 32 (colA q).val := by
  have h := colA_small ⟨q.val / 128, by omega⟩ ⟨q.val % 128, by omega⟩
  have e : 128 * (q.val / 128) + q.val % 128 = q.val := by omega
  simp only [e] at h
  exact h
/-- The projection's column behind column `q` of the second mixer's queries. -/
def colQ (q : Fin 512) : Fin 7960 := ⟨2048 + ((q.val / 64 % 2 * 4 + q.val / 128) * 64 + q.val % 64), by omega⟩
theorem colQ_small : ∀ a : Fin 4, ∀ b : Fin 128, lit1 ⟨2048 + (128 * a.val + b.val), by omega⟩ = 1#1 ∧ lit0 ⟨2048 + (128 * a.val + b.val), by omega⟩ = BitVec.ofNat 32 (colQ ⟨128 * a.val + b.val, by omega⟩).val := by decide +kernel
theorem colQ_table (q : Fin 512) : lit1 ⟨2048 + q.val, by omega⟩ = 1#1 ∧ lit0 ⟨2048 + q.val, by omega⟩ = BitVec.ofNat 32 (colQ q).val := by
  have h := colQ_small ⟨q.val / 128, by omega⟩ ⟨q.val % 128, by omega⟩
  have e : 128 * (q.val / 128) + q.val % 128 = q.val := by omega
  simp only [e] at h
  exact h
/-- The projection's column behind column `q` of the second mixer's compressed and selected keys and values. -/
def colRows (q : Fin 512) : Fin 7960 := ⟨2560 + q.val, by omega⟩
theorem colRows_small : ∀ a : Fin 4, ∀ b : Fin 128, lit1 ⟨2560 + (128 * a.val + b.val), by omega⟩ = 1#1 ∧ lit0 ⟨2560 + (128 * a.val + b.val), by omega⟩ = BitVec.ofNat 32 (colRows ⟨128 * a.val + b.val, by omega⟩).val := by decide +kernel
theorem colRows_table (q : Fin 512) : lit1 ⟨2560 + q.val, by omega⟩ = 1#1 ∧ lit0 ⟨2560 + q.val, by omega⟩ = BitVec.ofNat 32 (colRows q).val := by
  have h := colRows_small ⟨q.val / 128, by omega⟩ ⟨q.val % 128, by omega⟩
  have e : 128 * (q.val / 128) + q.val % 128 = q.val := by omega
  simp only [e] at h
  exact h
/-- The projection's column behind column `q` of the second mixer's window keys and values. -/
def colWin (q : Fin 256) : Fin 7960 := ⟨3072 + q.val, by omega⟩
theorem colWin_small : ∀ a : Fin 2, ∀ b : Fin 128, lit1 ⟨3072 + (128 * a.val + b.val), by omega⟩ = 1#1 ∧ lit0 ⟨3072 + (128 * a.val + b.val), by omega⟩ = BitVec.ofNat 32 (colWin ⟨128 * a.val + b.val, by omega⟩).val := by decide +kernel
theorem colWin_table (q : Fin 256) : lit1 ⟨3072 + q.val, by omega⟩ = 1#1 ∧ lit0 ⟨3072 + q.val, by omega⟩ = BitVec.ofNat 32 (colWin q).val := by
  have h := colWin_small ⟨q.val / 128, by omega⟩ ⟨q.val % 128, by omega⟩
  have e : 128 * (q.val / 128) + q.val % 128 = q.val := by omega
  simp only [e] at h
  exact h
/-- The projection's column behind column `q` of the second mixer's selected and window keys and values. -/
def colKv (q : Fin 512) : Fin 7960 := ⟨2816 + q.val, by omega⟩
theorem colKv_small : ∀ a : Fin 4, ∀ b : Fin 128, lit1 ⟨2816 + (128 * a.val + b.val), by omega⟩ = 1#1 ∧ lit0 ⟨2816 + (128 * a.val + b.val), by omega⟩ = BitVec.ofNat 32 (colKv ⟨128 * a.val + b.val, by omega⟩).val := by decide +kernel
theorem colKv_table (q : Fin 512) : lit1 ⟨2816 + q.val, by omega⟩ = 1#1 ∧ lit0 ⟨2816 + q.val, by omega⟩ = BitVec.ofNat 32 (colKv q).val := by
  have h := colKv_small ⟨q.val / 128, by omega⟩ ⟨q.val % 128, by omega⟩
  have e : 128 * (q.val / 128) + q.val % 128 = q.val := by omega
  simp only [e] at h
  exact h
/-- The projection's column behind column `q` of the third mixer's queries. -/
def colCq (q : Fin 512) : Fin 7960 := ⟨3352 + q.val, by omega⟩
theorem colCq_small : ∀ a : Fin 4, ∀ b : Fin 128, lit1 ⟨3456 + (128 * a.val + b.val), by omega⟩ = 1#1 ∧ lit0 ⟨3456 + (128 * a.val + b.val), by omega⟩ = BitVec.ofNat 32 (colCq ⟨128 * a.val + b.val, by omega⟩).val := by decide +kernel
theorem colCq_table (q : Fin 512) : lit1 ⟨3456 + q.val, by omega⟩ = 1#1 ∧ lit0 ⟨3456 + q.val, by omega⟩ = BitVec.ofNat 32 (colCq q).val := by
  have h := colCq_small ⟨q.val / 128, by omega⟩ ⟨q.val % 128, by omega⟩
  have e : 128 * (q.val / 128) + q.val % 128 = q.val := by omega
  simp only [e] at h
  exact h
/-- The projection's column behind column `q` of the third mixer's keys. -/
def colCk (q : Fin 512) : Fin 7960 := ⟨3864 + q.val, by omega⟩
theorem colCk_small : ∀ a : Fin 4, ∀ b : Fin 128, lit1 ⟨3968 + (128 * a.val + b.val), by omega⟩ = 1#1 ∧ lit0 ⟨3968 + (128 * a.val + b.val), by omega⟩ = BitVec.ofNat 32 (colCk ⟨128 * a.val + b.val, by omega⟩).val := by decide +kernel
theorem colCk_table (q : Fin 512) : lit1 ⟨3968 + q.val, by omega⟩ = 1#1 ∧ lit0 ⟨3968 + q.val, by omega⟩ = BitVec.ofNat 32 (colCk q).val := by
  have h := colCk_small ⟨q.val / 128, by omega⟩ ⟨q.val % 128, by omega⟩
  have e : 128 * (q.val / 128) + q.val % 128 = q.val := by omega
  simp only [e] at h
  exact h
/-- The projection's column behind column `q` of the third mixer's values. -/
def colCv (q : Fin 512) : Fin 7960 := ⟨4376 + q.val, by omega⟩
theorem colCv_small : ∀ a : Fin 4, ∀ b : Fin 128, lit1 ⟨4480 + (128 * a.val + b.val), by omega⟩ = 1#1 ∧ lit0 ⟨4480 + (128 * a.val + b.val), by omega⟩ = BitVec.ofNat 32 (colCv ⟨128 * a.val + b.val, by omega⟩).val := by decide +kernel
theorem colCv_table (q : Fin 512) : lit1 ⟨4480 + q.val, by omega⟩ = 1#1 ∧ lit0 ⟨4480 + q.val, by omega⟩ = BitVec.ofNat 32 (colCv q).val := by
  have h := colCv_small ⟨q.val / 128, by omega⟩ ⟨q.val % 128, by omega⟩
  have e : 128 * (q.val / 128) + q.val % 128 = q.val := by omega
  simp only [e] at h
  exact h
/-- The projection's column behind column `q` of the merge's gates. -/
def colMg (q : Fin 3072) : Fin 7960 := ⟨4888 + q.val, by omega⟩
theorem colMg_small : ∀ a : Fin 24, ∀ b : Fin 128, lit1 ⟨4992 + (128 * a.val + b.val), by omega⟩ = 1#1 ∧ lit0 ⟨4992 + (128 * a.val + b.val), by omega⟩ = BitVec.ofNat 32 (colMg ⟨128 * a.val + b.val, by omega⟩).val := by decide +kernel
theorem colMg_table (q : Fin 3072) : lit1 ⟨4992 + q.val, by omega⟩ = 1#1 ∧ lit0 ⟨4992 + q.val, by omega⟩ = BitVec.ofNat 32 (colMg q).val := by
  have h := colMg_small ⟨q.val / 128, by omega⟩ ⟨q.val % 128, by omega⟩
  have e : 128 * (q.val / 128) + q.val % 128 = q.val := by omega
  simp only [e] at h
  exact h
/-- The projection's column behind column `q` of the second mixer's gates, branch by branch. -/
def colGate (q : Fin 24) : Fin 7960 := ⟨3328 + (q.val % 8 * 3 + q.val / 8), by omega⟩
theorem colGate_table : ∀ q : Fin 24, lit1 ⟨3328 + q.val, by omega⟩ = 1#1 ∧ lit0 ⟨3328 + q.val, by omega⟩ = BitVec.ofNat 32 (colGate q).val := by decide +kernel
theorem gate_pad : ∀ q : Fin 104, lit1 ⟨3328 + (24 + q.val), by omega⟩ = 0#1 := by decide +kernel

end Cert.Proj
-- ==== Proof.Proj.KFinal.lean ====
/- The arrays that the input projection leaves. -/
module

public import proofs.«01_k».proof.Proof.Proj.KBlock
public import proofs.«01_k».proof.Proof.Proj.Table

@[expose] public section
set_option maxRecDepth 16384
noncomputable section
namespace Cert.Proj
open Idealize.ShloMosaic Idealize.ShloMosaic.TcCoe Idealize.SL.Sem Cert.Kernel2Ideal Cert.Kernel2Ideal.Gen

/-- Row `i`, normalised, against column `s` of the projection. -/
def projAt (x : Vec Ideal S16384x1024 .f32) (g : Vec Ideal S1024 .f32) (w : Vec Ideal S1024x7960 .f32) (i : Fin 16384) (s : Fin 7960) : EReal :=
  ∑ k, Cert.Moe.normed (fun k => x (ix2 i k)) (fun k => g (ix1 k)) k * w (ix2 k s)
/-- The second mixer's gates, padded with zeros. -/
def gateAt (x : Vec Ideal S16384x1024 .f32) (g : Vec Ideal S1024 .f32) (w : Vec Ideal S1024x7960 .f32) (i : Fin 16384) (q : Fin 128) : EReal :=
  if h : q.val < 24 then projAt x g w i (colGate ⟨q.val, h⟩) else 0

variable (m : (ℓ : Loc nD τ sig) → Buf (Elt Ideal) ℓ) (c : Dev nD)

theorem N_0 : cfg0.N = 64 := rfl
/-- Row `p` of block `t`. -/
def rowAt (t : Fin cfg0.N) (p : Fin 256) : Fin 16384 := ⟨t.val * 256 + p.val, by have := lt_of_lt_of_eq t.isLt N_0; omega⟩

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] :=
  (by decide +kernel : ∀ t : Fin grid0.N, _)

theorem read0 (t : Fin cfg0.N) (f : Vec Ideal S16384x1024 .f32) (p : Fin 256) (q : Fin 1024) :
    (((cfg0.win 0).blk t).view.read (Elt Ideal) f : Vec Ideal S256x1024 .f32) (ix2 p q) = f (ix2 (rowAt t p) q) := by
  unfold rowAt; blk_ext! [idx t]
theorem blk0 (t : Fin cfg0.N) (p : Fin 256) (q : Fin 1024) : (iblk m c 0 t : Vec Ideal S256x1024 .f32) (ix2 p q) = A0 m c (ix2 (rowAt t p) q) :=
  (read0 t (V m c main_arg0) p q).trans (congrFun (V_main_arg0 m c) _)
theorem read1 (t : Fin cfg0.N) (f : Vec Ideal S1x1024 .f32) : (((cfg0.win 1).blk t).view.read (Elt Ideal) f : Vec Ideal S1x1024 .f32) = f := by
  blk_ext! [idx t]
theorem blk1 (t : Fin cfg0.N) : iblk m c 1 t = V m c main_v3 := read1 t _
theorem read2 (t : Fin cfg0.N) (f : Vec Ideal S1024x8064 .bf16) : (((cfg0.win 2).blk t).view.read (Elt Ideal) f : Vec Ideal S1024x8064 .bf16) = f := by
  blk_ext! [idx t]
theorem blk2 (t : Fin cfg0.N) : iblk m c 2 t = V m c main_v2 := read2 t _

theorem block_eq (t : Fin cfg0.N) (p : Fin 256) (n : Fin 8064) :
    blockAt (iblk m c 0 t) (iblk m c 1 t) (iblk m c 2 t) p n
      = ∑ k, Cert.Moe.normed (fun k => A0 m c (ix2 (rowAt t p) k)) (fun k => A1 m c (ix1 k)) k * weights (A2 m c) (ix2 k n) := by
  unfold blockAt
  rw [blk1, blk2, V_v2, V_v3]
  simp only [blk0, gainRow_apply]
theorem block_kept (t : Fin cfg0.N) (p : Fin 256) (n : Fin 8064) (s : Fin 7960) (h : lit1 n = 1#1 ∧ lit0 n = BitVec.ofNat 32 s.val) :
    blockAt (iblk m c 0 t) (iblk m c 1 t) (iblk m c 2 t) p n = projAt (A0 m c) (A1 m c) (A2 m c) (rowAt t p) s := by
  rw [block_eq]
  exact Finset.sum_congr rfl fun k _ => congrArg _ (weights_kept (A2 m c) k n s h)
theorem block_pad (t : Fin cfg0.N) (p : Fin 256) (n : Fin 8064) (h : lit1 n = 0#1) :
    blockAt (iblk m c 0 t) (iblk m c 1 t) (iblk m c 2 t) p n = 0 := by
  rw [block_eq]
  refine Finset.sum_eq_zero fun k _ => ?_
  rw [weights_pad (A2 m c) k n h, mul_zero]

theorem emb3 (t : Fin cfg0.N) (p : Fin 256) (q : Fin 2048) : ((View.whole main_v4_0).slice (win0_3.rect t)).emb (ix2 p q) = ix2 (rowAt t p) q := by
  unfold rowAt; blk_ext! [idx t]
theorem final3 : (dats m 0 c).arrAt 3 cfg0.N = fun y : S16384x2048.Idx => projAt (A0 m c) (A1 m c) (A2 m c) (y 0) (colA (y 1)) := by
  refine (dats m 0 c).arrAt_eq_of_covers 3 _ (by decide +kernel) fun t _ y => ?_
  blk_simp
  rw [after0_3]
  idx_vars y
  rw [emb3]
  refine (out3_apply _ _ _ y0 y1).trans ?_
  exact block_kept m c t y0 _ _ (colA_table y1)
theorem emb4 (t : Fin cfg0.N) (p : Fin 256) (q : Fin 512) : ((View.whole main_v4_1).slice (win0_4.rect t)).emb (ix2 p q) = ix2 (rowAt t p) q := by
  unfold rowAt; blk_ext! [idx t]
theorem final4 : (dats m 0 c).arrAt 4 cfg0.N = fun y : S16384x512.Idx => projAt (A0 m c) (A1 m c) (A2 m c) (y 0) (colQ (y 1)) := by
  refine (dats m 0 c).arrAt_eq_of_covers 4 _ (by decide +kernel) fun t _ y => ?_
  blk_simp
  rw [after0_4]
  idx_vars y
  rw [emb4]
  refine (out4_apply _ _ _ y0 y1).trans ?_
  exact block_kept m c t y0 _ _ (colQ_table y1)
theorem emb5 (t : Fin cfg0.N) (p : Fin 256) (q : Fin 512) : ((View.whole main_v4_2).slice (win0_5.rect t)).emb (ix2 p q) = ix2 (rowAt t p) q := by
  unfold rowAt; blk_ext! [idx t]
theorem final5 : (dats m 0 c).arrAt 5 cfg0.N = fun y : S16384x512.Idx => projAt (A0 m c) (A1 m c) (A2 m c) (y 0) (colRows (y 1)) := by
  refine (dats m 0 c).arrAt_eq_of_covers 5 _ (by decide +kernel) fun t _ y => ?_
  blk_simp
  rw [after0_5]
  idx_vars y
  rw [emb5]
  refine (out5_apply _ _ _ y0 y1).trans ?_
  exact block_kept m c t y0 _ _ (colRows_table y1)
theorem emb6 (t : Fin cfg0.N) (p : Fin 256) (q : Fin 256) : ((View.whole main_v4_3).slice (win0_6.rect t)).emb (ix2 p q) = ix2 (rowAt t p) q := by
  unfold rowAt; blk_ext! [idx t]
theorem final6 : (dats m 0 c).arrAt 6 cfg0.N = fun y : S16384x256.Idx => projAt (A0 m c) (A1 m c) (A2 m c) (y 0) (colWin (y 1)) := by
  refine (dats m 0 c).arrAt_eq_of_covers 6 _ (by decide +kernel) fun t _ y => ?_
  blk_simp
  rw [after0_6]
  idx_vars y
  rw [emb6]
  refine (out6_apply _ _ _ y0 y1).trans ?_
  exact block_kept m c t y0 _ _ (colWin_table y1)
theorem emb7 (t : Fin cfg0.N) (p : Fin 256) (q : Fin 512) : ((View.whole main_v4_4).slice (win0_7.rect t)).emb (ix2 p q) = ix2 (rowAt t p) q := by
  unfold rowAt; blk_ext! [idx t]
theorem final7 : (dats m 0 c).arrAt 7 cfg0.N = fun y : S16384x512.Idx => projAt (A0 m c) (A1 m c) (A2 m c) (y 0) (colKv (y 1)) := by
  refine (dats m 0 c).arrAt_eq_of_covers 7 _ (by decide +kernel) fun t _ y => ?_
  blk_simp
  rw [after0_7]
  idx_vars y
  rw [emb7]
  refine (out7_apply _ _ _ y0 y1).trans ?_
  exact block_kept m c t y0 _ _ (colKv_table y1)
theorem emb8 (t : Fin cfg0.N) (p : Fin 256) (q : Fin 128) : ((View.whole main_v4_5).slice (win0_8.rect t)).emb (ix2 p q) = ix2 (rowAt t p) q := by
  unfold rowAt; blk_ext! [idx t]
theorem final8 : (dats m 0 c).arrAt 8 cfg0.N = fun y : S16384x128.Idx => gateAt (A0 m c) (A1 m c) (A2 m c) (y 0) (y 1) := by
  refine (dats m 0 c).arrAt_eq_of_covers 8 _ (by decide +kernel) fun t _ y => ?_
  blk_simp
  rw [after0_8]
  idx_vars y
  rw [emb8]
  refine (out8_apply _ _ _ y0 y1).trans ?_
  show _ = gateAt (A0 m c) (A1 m c) (A2 m c) (rowAt t y0) y1
  unfold gateAt
  split_ifs with h
  · exact block_kept m c t y0 _ _ (colGate_table ⟨y1.val, h⟩)
  · refine block_pad m c t y0 _ ?_
    have e := gate_pad ⟨y1.val - 24, by omega⟩
    have e' : 24 + (y1.val - 24) = y1.val := by omega
    simp only [e'] at e
    exact e
theorem emb9 (t : Fin cfg0.N) (p : Fin 256) (q : Fin 512) : ((View.whole main_v4_6).slice (win0_9.rect t)).emb (ix2 p q) = ix2 (rowAt t p) q := by
  unfold rowAt; blk_ext! [idx t]
theorem final9 : (dats m 0 c).arrAt 9 cfg0.N = fun y : S16384x512.Idx => projAt (A0 m c) (A1 m c) (A2 m c) (y 0) (colCq (y 1)) := by
  refine (dats m 0 c).arrAt_eq_of_covers 9 _ (by decide +kernel) fun t _ y => ?_
  blk_simp
  rw [after0_9]
  idx_vars y
  rw [emb9]
  refine (out9_apply _ _ _ y0 y1).trans ?_
  exact block_kept m c t y0 _ _ (colCq_table y1)
theorem emb10 (t : Fin cfg0.N) (p : Fin 256) (q : Fin 512) : ((View.whole main_v4_7).slice (win0_10.rect t)).emb (ix2 p q) = ix2 (rowAt t p) q := by
  unfold rowAt; blk_ext! [idx t]
theorem final10 : (dats m 0 c).arrAt 10 cfg0.N = fun y : S16384x512.Idx => projAt (A0 m c) (A1 m c) (A2 m c) (y 0) (colCk (y 1)) := by
  refine (dats m 0 c).arrAt_eq_of_covers 10 _ (by decide +kernel) fun t _ y => ?_
  blk_simp
  rw [after0_10]
  idx_vars y
  rw [emb10]
  refine (out10_apply _ _ _ y0 y1).trans ?_
  exact block_kept m c t y0 _ _ (colCk_table y1)
theorem emb11 (t : Fin cfg0.N) (p : Fin 256) (q : Fin 512) : ((View.whole main_v4_8).slice (win0_11.rect t)).emb (ix2 p q) = ix2 (rowAt t p) q := by
  unfold rowAt; blk_ext! [idx t]
theorem final11 : (dats m 0 c).arrAt 11 cfg0.N = fun y : S16384x512.Idx => projAt (A0 m c) (A1 m c) (A2 m c) (y 0) (colCv (y 1)) := by
  refine (dats m 0 c).arrAt_eq_of_covers 11 _ (by decide +kernel) fun t _ y => ?_
  blk_simp
  rw [after0_11]
  idx_vars y
  rw [emb11]
  refine (out11_apply _ _ _ y0 y1).trans ?_
  exact block_kept m c t y0 _ _ (colCv_table y1)
theorem emb12 (t : Fin cfg0.N) (p : Fin 256) (q : Fin 512) : ((View.whole main_v4_9).slice (win0_12.rect t)).emb (ix2 p q) = ix2 (rowAt t p) q := by
  unfold rowAt; blk_ext! [idx t]
theorem final12 : (dats m 0 c).arrAt 12 cfg0.N = fun y : S16384x512.Idx => projAt (A0 m c) (A1 m c) (A2 m c) (y 0) (colCk (y 1)) := by
  refine (dats m 0 c).arrAt_eq_of_covers 12 _ (by decide +kernel) fun t _ y => ?_
  blk_simp
  rw [after0_12]
  idx_vars y
  rw [emb12]
  refine (out12_apply _ _ _ y0 y1).trans ?_
  exact block_kept m c t y0 _ _ (colCk_table y1)
theorem emb13 (t : Fin cfg0.N) (p : Fin 256) (q : Fin 512) : ((View.whole main_v4_10).slice (win0_13.rect t)).emb (ix2 p q) = ix2 (rowAt t p) q := by
  unfold rowAt; blk_ext! [idx t]
theorem final13 : (dats m 0 c).arrAt 13 cfg0.N = fun y : S16384x512.Idx => projAt (A0 m c) (A1 m c) (A2 m c) (y 0) (colCv (y 1)) := by
  refine (dats m 0 c).arrAt_eq_of_covers 13 _ (by decide +kernel) fun t _ y => ?_
  blk_simp
  rw [after0_13]
  idx_vars y
  rw [emb13]
  refine (out13_apply _ _ _ y0 y1).trans ?_
  exact block_kept m c t y0 _ _ (colCv_table y1)
theorem emb14 (t : Fin cfg0.N) (p : Fin 256) (q : Fin 3072) : ((View.whole main_v4_11).slice (win0_14.rect t)).emb (ix2 p q) = ix2 (rowAt t p) q := by
  unfold rowAt; blk_ext! [idx t]
theorem final14 : (dats m 0 c).arrAt 14 cfg0.N = fun y : S16384x3072.Idx => projAt (A0 m c) (A1 m c) (A2 m c) (y 0) (colMg (y 1)) := by
  refine (dats m 0 c).arrAt_eq_of_covers 14 _ (by decide +kernel) fun t _ y => ?_
  blk_simp
  rw [after0_14]
  idx_vars y
  rw [emb14]
  refine (out14_apply _ _ _ y0 y1).trans ?_
  exact block_kept m c t y0 _ _ (colMg_table y1)
end Cert.Proj
-- ==== Proof.Proj.Ref.lean ====
/- The input projection's reference, read at an index. -/
module

public import proofs.«01_k».proof.Proof.Gen.Reference2Ideal.Run
public import proofs.«01_k».proof.Proof.Proj.KFinal

@[expose] public section
set_option maxRecDepth 16384
noncomputable section
namespace Cert.Proj.Ref
open Idealize.ShloMosaic Idealize.ShloMosaic.TcCoe Idealize.SL.Sem Cert.Reference2Ideal Cert.Reference2Ideal.Gen Idealize.ShloMosaic.StableHlo

/-- The reference's normalised rows. -/
def normedRows (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))
/-- The reference's projection, all columns. -/
def zOf (x : FVec Ideal S16384x1024 .f32) (g : FVec Ideal S1024 .f32) (w : FVec Ideal S1024x7960 .f32) : FVec Ideal S16384x7960 .f32 :=
  Host.dotGeneral dot_S16384x1024_S1024x7960_S16384x7960_1_0_0_1_n_n none (normedRows x g) w

theorem normedRows_apply (x : FVec Ideal S16384x1024 .f32) (g : FVec Ideal S1024 .f32) (i : Fin 16384) (k : Fin 1024) :
    normedRows x g (ix2 i k) = Cert.Moe.normed (fun k => x (ix2 i k)) (fun k => g (ix1 k)) k := by
  unfold Cert.Moe.normed Cert.Moe.invRms
  pointwise [normedRows]
theorem zOf_apply (x : FVec Ideal S16384x1024 .f32) (g : FVec Ideal S1024 .f32) (w : FVec Ideal S1024x7960 .f32) (i : Fin 16384) (s : Fin 7960) :
    zOf x g w (ix2 i s) = projAt x g w i s := by
  unfold projAt
  simp only [← normedRows_apply]
  pointwise [zOf]

variable (z : FVec Ideal S16384x7960 .f32) (i : Fin 16384)
/-- The first mixer's inputs. -/
def r3 (z : FVec Ideal S16384x7960 .f32) : FVec Ideal S16384x2048 .f32 :=
  concatenate S16384x2048 1 [⟨S16384x512, extractStridedSlice S16384x512 ![0, 0] z slices_S16384x7960_S16384x512_0_0⟩,
    ⟨S16384x512, extractStridedSlice S16384x512 ![0, 512] z slices_S16384x7960_S16384x512_0_512⟩,
    ⟨S16384x512, extractStridedSlice S16384x512 ![0, 1024] z slices_S16384x7960_S16384x512_0_1024⟩,
    ⟨S16384x512, extractStridedSlice S16384x512 ![0, 1536] z slices_S16384x7960_S16384x512_0_1536⟩] concatenates_S16384x512_S16384x512_S16384x512_S16384x512_S16384x2048_d1
theorem r3_apply (q : Fin 2048) : r3 z (ix2 i q) = z (ix2 i (colA q)) := by
  pointwise [r3]
  split_ifs
  all_goals first
    | exact congrArg (fun l => z (ix2 i l)) (Fin.ext (by simp only [colA]; omega))
    | rfl
    | (exfalso; omega)
/-- The second mixer's queries, place by place within the groups. -/
def r4 (z : FVec Ideal S16384x7960 .f32) : FVec Ideal S16384x512 .bf16 :=
  truncf .bf16 (shapeCast _ (transpose S16384x4x2x64 [0, 2, 1, 3] (shapeCast _ (extractStridedSlice S16384x512 ![0, 2048] z slices_S16384x7960_S16384x512_0_2048) shapeCasts_S16384x512_S16384x2x4x64) transposes_S16384x2x4x64_S16384x4x2x64_0_2_1_3) shapeCasts_S16384x4x2x64_S16384x512) bitsLt_bf16_f32
theorem r4_apply (q : Fin 512) : r4 z (ix2 i q) = z (ix2 i (colQ q)) := by
  pointwise [r4]
  exact congrArg (fun l => z (ix2 i l)) (Fin.ext (by simp only [colQ]; omega))
/-- The second mixer's compressed and selected keys and values. -/
def r5 (z : FVec Ideal S16384x7960 .f32) : FVec Ideal S16384x512 .f32 :=
  concatenate S16384x512 1 [⟨S16384x128, extractStridedSlice S16384x128 ![0, 2560] z slices_S16384x7960_S16384x128_0_2560⟩,
    ⟨S16384x128, extractStridedSlice S16384x128 ![0, 2688] z slices_S16384x7960_S16384x128_0_2688⟩,
    ⟨S16384x128, extractStridedSlice S16384x128 ![0, 2816] z slices_S16384x7960_S16384x128_0_2816⟩,
    ⟨S16384x128, extractStridedSlice S16384x128 ![0, 2944] z slices_S16384x7960_S16384x128_0_2944⟩] concatenates_S16384x128_S16384x128_S16384x128_S16384x128_S16384x512_d1
theorem r5_apply (q : Fin 512) : r5 z (ix2 i q) = z (ix2 i (colRows q)) := by
  pointwise [r5]
  split_ifs
  all_goals first
    | exact congrArg (fun l => z (ix2 i l)) (Fin.ext (by simp only [colRows]; omega))
    | rfl
    | (exfalso; omega)
/-- The second mixer's window keys and values. -/
def r6 (z : FVec Ideal S16384x7960 .f32) : FVec Ideal S16384x256 .f32 :=
  concatenate S16384x256 1 [⟨S16384x128, extractStridedSlice S16384x128 ![0, 3072] z slices_S16384x7960_S16384x128_0_3072⟩,
    ⟨S16384x128, extractStridedSlice S16384x128 ![0, 3200] z slices_S16384x7960_S16384x128_0_3200⟩] concatenates_S16384x128_S16384x128_S16384x256_d1
theorem r6_apply (q : Fin 256) : r6 z (ix2 i q) = z (ix2 i (colWin q)) := by
  pointwise [r6]
  split_ifs
  all_goals first
    | exact congrArg (fun l => z (ix2 i l)) (Fin.ext (by simp only [colWin]; omega))
    | rfl
    | (exfalso; omega)
/-- The second mixer's selected and window keys and values. -/
def r7 (z : FVec Ideal S16384x7960 .f32) : FVec Ideal S16384x512 .bf16 :=
  truncf .bf16 (concatenate S16384x512 1 [⟨S16384x128, extractStridedSlice S16384x128 ![0, 2816] z slices_S16384x7960_S16384x128_0_2816⟩,
    ⟨S16384x128, extractStridedSlice S16384x128 ![0, 2944] z slices_S16384x7960_S16384x128_0_2944⟩,
    ⟨S16384x128, extractStridedSlice S16384x128 ![0, 3072] z slices_S16384x7960_S16384x128_0_3072⟩,
    ⟨S16384x128, extractStridedSlice S16384x128 ![0, 3200] z slices_S16384x7960_S16384x128_0_3200⟩] concatenates_S16384x128_S16384x128_S16384x128_S16384x128_S16384x512_d1 : FVec Ideal S16384x512 .f32) bitsLt_bf16_f32
theorem r7_apply (q : Fin 512) : r7 z (ix2 i q) = z (ix2 i (colKv q)) := by
  pointwise [r7]
  split_ifs
  all_goals first
    | exact congrArg (fun l => z (ix2 i l)) (Fin.ext (by simp only [colKv]; omega))
    | rfl
    | (exfalso; omega)
/-- The padding value is zero. -/
theorem zeroPad : (FloatOps.sitofp (F := Ideal) .f32 (0#32 : BitVec 32) : EReal) = 0 := by
  show ((((0#32 : BitVec 32).toInt : ℤ) : ℝ) : EReal) = 0
  simp
/-- The second mixer's gates, branch by branch, padded with zeros. -/
def r8 (z : FVec Ideal S16384x7960 .f32) : FVec Ideal S16384x128 .f32 :=
  pad S16384x128 ![0, 0] ![0, 104] ![0, 0] (shapeCast _ (transpose S16384x3x8 [0, 2, 1] (shapeCast _ (extractStridedSlice S16384x24 ![0, 3328] z slices_S16384x7960_S16384x24_0_3328) shapeCasts_S16384x24_S16384x8x3) transposes_S16384x8x3_S16384x3x8_0_2_1) shapeCasts_S16384x3x8_S16384x24) (sitofp .f32 (constantI S_ 32 0#32)) pads_S16384x24_S16384x128_000_01040 h_S_
theorem r8_apply (q : Fin 128) : r8 z (ix2 i q) = if h : q.val < 24 then z (ix2 i (colGate ⟨q.val, h⟩)) else 0 := by
  pointwise [r8]
  split_ifs with h
  · rfl
  · exact zeroPad
/-- The third mixer's queries. -/
def r9 (z : FVec Ideal S16384x7960 .f32) : FVec Ideal S16384x512 .bf16 :=
  truncf .bf16 (extractStridedSlice S16384x512 ![0, 3352] z slices_S16384x7960_S16384x512_0_3352) bitsLt_bf16_f32
theorem r9_apply (q : Fin 512) : r9 z (ix2 i q) = z (ix2 i (colCq q)) := by
  pointwise [r9, colCq]
/-- The third mixer's keys. -/
def r10 (z : FVec Ideal S16384x7960 .f32) : FVec Ideal S16384x512 .f32 :=
  extractStridedSlice S16384x512 ![0, 3864] z slices_S16384x7960_S16384x512_0_3864
theorem r10_apply (q : Fin 512) : r10 z (ix2 i q) = z (ix2 i (colCk q)) := by
  pointwise [r10, colCk]
/-- The third mixer's values. -/
def r11 (z : FVec Ideal S16384x7960 .f32) : FVec Ideal S16384x512 .f32 :=
  extractStridedSlice S16384x512 ![0, 4376] z slices_S16384x7960_S16384x512_0_4376
theorem r11_apply (q : Fin 512) : r11 z (ix2 i q) = z (ix2 i (colCv q)) := by
  pointwise [r11, colCv]
/-- The third mixer's keys, rounded. -/
def r12 (z : FVec Ideal S16384x7960 .f32) : FVec Ideal S16384x512 .bf16 :=
  truncf .bf16 (extractStridedSlice S16384x512 ![0, 3864] z slices_S16384x7960_S16384x512_0_3864) bitsLt_bf16_f32
theorem r12_apply (q : Fin 512) : r12 z (ix2 i q) = z (ix2 i (colCk q)) := by
  pointwise [r12, colCk]
/-- The third mixer's values, rounded. -/
def r13 (z : FVec Ideal S16384x7960 .f32) : FVec Ideal S16384x512 .bf16 :=
  truncf .bf16 (extractStridedSlice S16384x512 ![0, 4376] z slices_S16384x7960_S16384x512_0_4376) bitsLt_bf16_f32
theorem r13_apply (q : Fin 512) : r13 z (ix2 i q) = z (ix2 i (colCv q)) := by
  pointwise [r13, colCv]
/-- The merge's gates. -/
def r14 (z : FVec Ideal S16384x7960 .f32) : FVec Ideal S16384x3072 .bf16 :=
  truncf .bf16 (extractStridedSlice S16384x3072 ![0, 4888] z slices_S16384x7960_S16384x3072_0_4888) bitsLt_bf16_f32
theorem r14_apply (q : Fin 3072) : r14 z (ix2 i q) = z (ix2 i (colMg q)) := by
  pointwise [r14, colMg]

variable (x : FVec Ideal S16384x1024 .f32) (g : FVec Ideal S1024 .f32) (w : FVec Ideal S1024x7960 .f32)
theorem r3_eq : r3 (zOf x g w) = fun y : S16384x2048.Idx => projAt x g w (y 0) (colA (y 1)) := by
  funext y
  idx_vars y
  exact (r3_apply (zOf x g w) y0 y1).trans (zOf_apply x g w y0 (colA y1))
theorem r4_eq : r4 (zOf x g w) = fun y : S16384x512.Idx => projAt x g w (y 0) (colQ (y 1)) := by
  funext y
  idx_vars y
  exact (r4_apply (zOf x g w) y0 y1).trans (zOf_apply x g w y0 (colQ y1))
theorem r5_eq : r5 (zOf x g w) = fun y : S16384x512.Idx => projAt x g w (y 0) (colRows (y 1)) := by
  funext y
  idx_vars y
  exact (r5_apply (zOf x g w) y0 y1).trans (zOf_apply x g w y0 (colRows y1))
theorem r6_eq : r6 (zOf x g w) = fun y : S16384x256.Idx => projAt x g w (y 0) (colWin (y 1)) := by
  funext y
  idx_vars y
  exact (r6_apply (zOf x g w) y0 y1).trans (zOf_apply x g w y0 (colWin y1))
theorem r7_eq : r7 (zOf x g w) = fun y : S16384x512.Idx => projAt x g w (y 0) (colKv (y 1)) := by
  funext y
  idx_vars y
  exact (r7_apply (zOf x g w) y0 y1).trans (zOf_apply x g w y0 (colKv y1))
theorem r9_eq : r9 (zOf x g w) = fun y : S16384x512.Idx => projAt x g w (y 0) (colCq (y 1)) := by
  funext y
  idx_vars y
  exact (r9_apply (zOf x g w) y0 y1).trans (zOf_apply x g w y0 (colCq y1))
theorem r10_eq : r10 (zOf x g w) = fun y : S16384x512.Idx => projAt x g w (y 0) (colCk (y 1)) := by
  funext y
  idx_vars y
  exact (r10_apply (zOf x g w) y0 y1).trans (zOf_apply x g w y0 (colCk y1))
theorem r11_eq : r11 (zOf x g w) = fun y : S16384x512.Idx => projAt x g w (y 0) (colCv (y 1)) := by
  funext y
  idx_vars y
  exact (r11_apply (zOf x g w) y0 y1).trans (zOf_apply x g w y0 (colCv y1))
theorem r12_eq : r12 (zOf x g w) = fun y : S16384x512.Idx => projAt x g w (y 0) (colCk (y 1)) := by
  funext y
  idx_vars y
  exact (r12_apply (zOf x g w) y0 y1).trans (zOf_apply x g w y0 (colCk y1))
theorem r13_eq : r13 (zOf x g w) = fun y : S16384x512.Idx => projAt x g w (y 0) (colCv (y 1)) := by
  funext y
  idx_vars y
  exact (r13_apply (zOf x g w) y0 y1).trans (zOf_apply x g w y0 (colCv y1))
theorem r14_eq : r14 (zOf x g w) = fun y : S16384x3072.Idx => projAt x g w (y 0) (colMg (y 1)) := by
  funext y
  idx_vars y
  exact (r14_apply (zOf x g w) y0 y1).trans (zOf_apply x g w y0 (colMg y1))
theorem r8_eq : r8 (zOf x g w) = fun y : S16384x128.Idx => gateAt x g w (y 0) (y 1) := by
  funext y
  idx_vars y
  refine (r8_apply (zOf x g w) y0 y1).trans ?_
  show _ = gateAt x g w y0 y1
  unfold gateAt
  split_ifs with h
  · exact zOf_apply x g w y0 (colGate ⟨y1.val, h⟩)
  · rfl
end Cert.Proj.Ref
-- ==== Proof.Proj.Claims.lean ====
/- The claims about the input projection: its frames and the equation of its twelve arrays with the reference's. -/
module

public import proofs.«01_k».proof.Defs
public import proofs.«01_k».proof.Proof.Proj.Ref

@[expose] public section
set_option maxRecDepth 16384
noncomputable section
namespace Cert.Proj.Claims
open Idealize.ShloMosaic Idealize.ShloMosaic.TcCoe Idealize.SL.Sem

/-- The reference runs, keeps its arguments and leaves every semaphore at zero. -/
theorem frame_ref : Cert.quiescent_Reference2Ideal := fun m ρ _ =>
  (θ_run Cert.Reference2Ideal.defs _ _).mono (fun r h => ⟨fun c => (h c).2.2.2.2.2.2.2.2.2.2.2.2, sem_eq_zero_of_no_sems (by decide) r.2⟩)
    (Cert.Reference2Ideal.Value.run (F := Ideal) m ρ)

section
open Cert.Reference2Ideal Cert.Reference2Ideal.Gen
variable (m : (ℓ : Loc nD τ sig) → Buf (Elt Ideal) ℓ) (c : Dev nD)
/-- The reference's projection of its own arguments. -/
abbrev zRef : FVec Ideal S16384x7960 .f32 := Ref.zOf (m ((c.tc : Thread nD τ).loc main_arg0)) (m ((c.tc : Thread nD τ).loc main_arg1)) (m ((c.tc : Thread nD τ).loc main_arg2))
theorem res3 : Cert.Reference2Ideal.Value.res_main_v36 m c = Ref.r3 (zRef m c) := by
  unfold Cert.Reference2Ideal.Value.res_main_v36; rfl
theorem res5 : Cert.Reference2Ideal.Value.res_main_v38 m c = Ref.r5 (zRef m c) := by
  unfold Cert.Reference2Ideal.Value.res_main_v38; rfl
theorem res7 : Cert.Reference2Ideal.Value.res_main_v41 m c = Ref.r7 (zRef m c) := by
  unfold Cert.Reference2Ideal.Value.res_main_v41; rfl
end

set_option maxHeartbeats 4000000 in
/-- The kernel's twelve arrays and the reference's are the same. -/
theorem equation : Cert.algebraic_Kernel2Ideal_Reference2Ideal := by
  intro m ρ m' ρ' hpre hagree
  refine ⟨fun c => (Cert.Kernel2Ideal.Gen.dats m 0 c).arrAt 3 (Cert.Kernel2Ideal.cfgs 0).N,
    fun c => (Cert.Kernel2Ideal.Gen.dats m 0 c).arrAt 4 (Cert.Kernel2Ideal.cfgs 0).N,
    fun c => (Cert.Kernel2Ideal.Gen.dats m 0 c).arrAt 5 (Cert.Kernel2Ideal.cfgs 0).N,
    fun c => (Cert.Kernel2Ideal.Gen.dats m 0 c).arrAt 6 (Cert.Kernel2Ideal.cfgs 0).N,
    fun c => (Cert.Kernel2Ideal.Gen.dats m 0 c).arrAt 7 (Cert.Kernel2Ideal.cfgs 0).N,
    fun c => (Cert.Kernel2Ideal.Gen.dats m 0 c).arrAt 8 (Cert.Kernel2Ideal.cfgs 0).N,
    fun c => (Cert.Kernel2Ideal.Gen.dats m 0 c).arrAt 9 (Cert.Kernel2Ideal.cfgs 0).N,
    fun c => (Cert.Kernel2Ideal.Gen.dats m 0 c).arrAt 10 (Cert.Kernel2Ideal.cfgs 0).N,
    fun c => (Cert.Kernel2Ideal.Gen.dats m 0 c).arrAt 11 (Cert.Kernel2Ideal.cfgs 0).N,
    fun c => (Cert.Kernel2Ideal.Gen.dats m 0 c).arrAt 12 (Cert.Kernel2Ideal.cfgs 0).N,
    fun c => (Cert.Kernel2Ideal.Gen.dats m 0 c).arrAt 13 (Cert.Kernel2Ideal.cfgs 0).N,
    fun c => (Cert.Kernel2Ideal.Gen.dats m 0 c).arrAt 14 (Cert.Kernel2Ideal.cfgs 0).N,
    Cert.Kernel2Ideal.Value.run_blocks m ρ, ?_⟩
  refine (θ_run Cert.Reference2Ideal.defs _ _).mono (fun r h c => ?_) (Cert.Reference2Ideal.Value.run (F := Ideal) m' ρ')
  obtain ⟨a0, a1, a2⟩ := hagree c
  obtain ⟨h3, h4, h5, h6, h7, h8, h9, h10, h11, h12, h13, h14, hargs⟩ := h c
  have hz : zRef m' c = Ref.zOf (A0 m c) (A1 m c) (A2 m c) := by
    unfold zRef
    rw [a0, a1, a2]
  refine ⟨?_, ?_, ?_, ?_, ?_, ?_, ?_, ?_, ?_, ?_, ?_, ?_, hargs⟩
  · exact (h3.trans (res3 m' c)).trans ((congrArg Ref.r3 hz).trans ((Ref.r3_eq (A0 m c) (A1 m c) (A2 m c)).trans (final3 m c).symm))
  · have e : _ = Ref.r4 (zRef m' c) := h4
    exact e.trans ((congrArg Ref.r4 hz).trans ((Ref.r4_eq (A0 m c) (A1 m c) (A2 m c)).trans (final4 m c).symm))
  · exact (h5.trans (res5 m' c)).trans ((congrArg Ref.r5 hz).trans ((Ref.r5_eq (A0 m c) (A1 m c) (A2 m c)).trans (final5 m c).symm))
  · have e : _ = Ref.r6 (zRef m' c) := h6
    exact e.trans ((congrArg Ref.r6 hz).trans ((Ref.r6_eq (A0 m c) (A1 m c) (A2 m c)).trans (final6 m c).symm))
  · exact (h7.trans (res7 m' c)).trans ((congrArg Ref.r7 hz).trans ((Ref.r7_eq (A0 m c) (A1 m c) (A2 m c)).trans (final7 m c).symm))
  · have e : _ = Ref.r8 (zRef m' c) := h8
    exact e.trans ((congrArg Ref.r8 hz).trans ((Ref.r8_eq (A0 m c) (A1 m c) (A2 m c)).trans (final8 m c).symm))
  · have e : _ = Ref.r9 (zRef m' c) := h9
    exact e.trans ((congrArg Ref.r9 hz).trans ((Ref.r9_eq (A0 m c) (A1 m c) (A2 m c)).trans (final9 m c).symm))
  · have e : _ = Ref.r10 (zRef m' c) := h10
    exact e.trans ((congrArg Ref.r10 hz).trans ((Ref.r10_eq (A0 m c) (A1 m c) (A2 m c)).trans (final10 m c).symm))
  · have e : _ = Ref.r11 (zRef m' c) := h11
    exact e.trans ((congrArg Ref.r11 hz).trans ((Ref.r11_eq (A0 m c) (A1 m c) (A2 m c)).trans (final11 m c).symm))
  · have e : _ = Ref.r12 (zRef m' c) := h12
    exact e.trans ((congrArg Ref.r12 hz).trans ((Ref.r12_eq (A0 m c) (A1 m c) (A2 m c)).trans (final12 m c).symm))
  · have e : _ = Ref.r13 (zRef m' c) := h13
    exact e.trans ((congrArg Ref.r13 hz).trans ((Ref.r13_eq (A0 m c) (A1 m c) (A2 m c)).trans (final13 m c).symm))
  · have e : _ = Ref.r14 (zRef m' c) := h14
    exact e.trans ((congrArg Ref.r14 hz).trans ((Ref.r14_eq (A0 m c) (A1 m c) (A2 m c)).trans (final14 m c).symm))
end Cert.Proj.Claims
-- ==== Proof.Diff.Bucket.lean ====
/- The bucket of a distance, and its constancy far out. -/
module

public import Idealize.ShloMosaic.Lib.Pointwise
public import Idealize.ShloMosaic.PureOps
public import Mathlib.Analysis.SpecialFunctions.Log.Basic

@[expose] public section
noncomputable section
namespace Cert.Diff
open Idealize.ShloMosaic

/-- The part of a bucket past the sixteen exact ones: the logarithm's share, rounded toward zero. -/
def logPart (n : BitVec 32) : BitVec 32 :=
  Ideal.fptosi 32 (Ideal.div (Ideal.log (Ideal.div ((((IntOp.maxsi n 1#32).toInt : ℝ) : EReal)) (Ideal.ofBits .f32 0x41800000#32))) (Ideal.ofBits .f32 0x40051592#32) * Ideal.ofBits .f32 0x41800000#32)
/-- The bucket of a distance. -/
def bkt (d : BitVec 32) : BitVec 32 :=
  Scalar.select (IntOp.cmpi .slt (IntOp.maxsi d 0#32) 16#32) (IntOp.maxsi d 0#32)
    (IntOp.minsi (16#32 + logPart (IntOp.maxsi d 0#32)) 31#32)
/-- A row number, counted from the end if below zero. -/
def wrap (b : BitVec 32) : BitVec 32 := Scalar.select (IntOp.cmpi .slt b 0#32) (b + 32#32) b
/-- The row of the table of biases that a number names. -/
def rowOf (b : BitVec 32) : Fin 32 := ⟨min b.toInt.toNat 31, by omega⟩

theorem word_16 : Ideal.ofBits .f32 0x41800000#32 = ((16 : ℝ) : EReal) := by
  simp [Ideal.ofBits, Ideal.ieee, -EReal.coe_mul]; norm_num
theorem word_log8 : Ideal.ofBits .f32 0x40051592#32 = ((8721810 / 4194304 : ℝ) : EReal) := by
  simp [Ideal.ofBits, Ideal.ieee, -EReal.coe_mul]; norm_num

theorem log_lower (x : ℝ) (hx : 129 / 16 ≤ x) : (39 / 20 : ℝ) ≤ Real.log x := by
  have ha : (0 : ℝ) < 601 / 640 := by norm_num
  have h1 : Real.log (((601 / 640 : ℝ)⁻¹) ^ 32) ≤ Real.log x := Real.log_le_log (by positivity) (le_trans (by norm_num) hx)
  have h2 : Real.log (601 / 640) ≤ 601 / 640 - 1 := Real.log_le_sub_one_of_pos ha
  rw [Real.log_pow, Real.log_inv] at h1
  push_cast at h1
  linarith

theorem logPart_far (n : ℕ) (h1 : 129 ≤ n) (h2 : n ≤ 8191) : ∃ k : ℕ, 15 ≤ k ∧ k ≤ 5000 ∧ logPart (BitVec.ofNat 32 n) = BitVec.ofNat 32 k := by
  have hmax : IntOp.maxsi (BitVec.ofNat 32 n) 1#32 = BitVec.ofNat 32 n := by
    have : (BitVec.ofNat 32 n).toInt = n := by rw [BitVec.toInt_ofNat']; simp only [Int.bmod_def]; omega
    simp only [IntOp.maxsi, BitVec.sle, BitVec.slt, this]
    split
    · rfl
    · rename_i h; simp at h; omega
  have hint : (BitVec.ofNat 32 n).toInt = n := by rw [BitVec.toInt_ofNat']; simp only [Int.bmod_def]; omega
  have hn1 : (129 : ℝ) ≤ n := by exact_mod_cast h1
  have hn2 : (n : ℝ) ≤ 8191 := by exact_mod_cast h2
  set z : ℝ := Real.log (n * (1 / 16)) * (1 / (8721810 / 4194304)) * 16 with hz
  have hl := log_lower (n * (1 / 16)) (by linarith)
  have hu : Real.log (n * (1 / 16)) ≤ n * (1 / 16) - 1 := Real.log_le_sub_one_of_pos (by linarith)
  have z1 : 15 ≤ z := by rw [hz]; linarith
  have z2 : z ≤ 5000 := by rw [hz]; linarith
  have f1 : 15 ≤ ⌊z⌋ := Int.le_floor.2 (by exact_mod_cast z1)
  have f2 : ⌊z⌋ ≤ 5000 := by have := Int.floor_le z; exact_mod_cast this.trans z2
  refine ⟨⌊z⌋.toNat, by omega, by omega, ?_⟩
  unfold logPart
  rw [hmax, hint, word_16, word_log8, Int.cast_natCast, Ideal.div_coe (y := 16) (by norm_num) (((n : ℝ) : EReal)), ← EReal.coe_mul, Ideal.log_coe,
    if_neg (by linarith), Ideal.div_coe (by norm_num), ← EReal.coe_mul, ← EReal.coe_mul, Ideal.fptosi, Ideal.toIntClamped_coe, ← hz,
    if_pos (by linarith)]
  rw [show max (-((2 ^ (32 - 1) : Nat) : ℤ)) (min (((2 ^ (32 - 1) : Nat) : ℤ) - 1) ⌊z⌋) = ((⌊z⌋.toNat : ℕ) : ℤ) by omega]
  exact BitVec.ofInt_natCast _ _

/-- Far out every distance has the last bucket. -/
theorem bkt_far (n : ℕ) (h1 : 129 ≤ n) (h2 : n ≤ 8191) : bkt (BitVec.ofNat 32 n) = 31#32 := by
  obtain ⟨k, k1, k2, hk⟩ := logPart_far n h1 h2
  have hint : (BitVec.ofNat 32 n).toInt = n := by rw [BitVec.toInt_ofNat']; simp only [Int.bmod_def]; omega
  have hmax : IntOp.maxsi (BitVec.ofNat 32 n) 0#32 = BitVec.ofNat 32 n := by
    simp only [IntOp.maxsi, BitVec.sle, BitVec.slt, hint]
    split
    · rfl
    · rename_i h; simp at h; omega
  unfold bkt
  rw [hmax, hk]
  have hs : (16#32 + BitVec.ofNat 32 k) = BitVec.ofNat 32 (16 + k) := by rw [BitVec.ofNat_add]
  have hki : (BitVec.ofNat 32 (16 + k)).toInt = (16 + k : ℕ) := by rw [BitVec.toInt_ofNat']; simp only [Int.bmod_def]; omega
  have hmin : IntOp.minsi (BitVec.ofNat 32 (16 + k)) 31#32 = 31#32 := by
    simp only [IntOp.minsi, BitVec.sle, BitVec.slt, hki]
    split
    · rename_i h
      simp at h
      have : k = 15 := by omega
      subst this; rfl
    · rfl
  rw [hs, hmin]
  have hc : IntOp.cmpi .slt (BitVec.ofNat 32 n) 16#32 = 0#1 := by
    simp only [IntOp.cmpi, BitVec.slt, hint]
    rw [decide_eq_false (by rw [show (16#32 : BitVec 32).toInt = 16 from rfl]; omega)]; rfl
  rw [hc]
  rfl

/-- A bias at a signed distance: masked below zero, else the bucket's. -/
def bias (t : FVec Ideal (⟨2, ![32, 12]⟩ : Shape) .f32) (h : Fin 4) (z : ℤ) : EReal :=
  if z < 0 then ⊥ else t (ix2 (rowOf (wrap (bkt (BitVec.ofInt 32 z)))) (⟨8 + h.val, by omega⟩ : Fin 12))

theorem bias_far (t : FVec Ideal (⟨2, ![32, 12]⟩ : Shape) .f32) (h : Fin 4) (z z' : ℤ) (a1 : 129 ≤ z) (a2 : z ≤ 8191) (b1 : 129 ≤ z') (b2 : z' ≤ 8191) :
    bias t h z = bias t h z' := by
  obtain ⟨n, rfl⟩ := Int.eq_ofNat_of_zero_le (show 0 ≤ z by omega)
  obtain ⟨n', rfl⟩ := Int.eq_ofNat_of_zero_le (show 0 ≤ z' by omega)
  unfold bias
  rw [if_neg (by omega), if_neg (by omega), BitVec.ofInt_natCast, BitVec.ofInt_natCast, bkt_far n (by omega) (by omega), bkt_far n' (by omega) (by omega)]

theorem toInt_small (z : ℤ) (h1 : -100000 ≤ z) (h2 : z ≤ 100000) : (BitVec.ofInt 32 z).toInt = z := by
  rw [BitVec.toInt_ofInt]; simp only [Int.bmod_def]; omega
theorem ofNat_small (n : ℕ) (h : n ≤ 50000) : (BitVec.ofNat 32 n).toInt = n := by
  rw [BitVec.toInt_ofNat']; simp only [Int.bmod_def]; omega
theorem sub_int (n j : ℕ) (hn : n ≤ 50000) (hj : j ≤ 50000) : BitVec.ofNat 32 n - BitVec.ofNat 32 j = BitVec.ofInt 32 ((n : ℤ) - j) := by
  apply BitVec.eq_of_toInt_eq
  rw [toInt_small _ (by omega) (by omega), BitVec.toInt_sub, ofNat_small n hn, ofNat_small j hj]
  simp only [Int.bmod_def]; omega
theorem sge_small (z : ℤ) (h1 : -100000 ≤ z) (h2 : z ≤ 100000) : IntOp.cmpi .sge (BitVec.ofInt 32 z) 0#32 = if z < 0 then 0#1 else 1#1 := by
  simp only [IntOp.cmpi, BitVec.sle, toInt_small z h1 h2]
  by_cases h : z < 0
  · rw [if_pos h, decide_eq_false (by rw [show (0#32 : BitVec 32).toInt = 0 from rfl]; omega)]; rfl
  · rw [if_neg h, decide_eq_true (by rw [show (0#32 : BitVec 32).toInt = 0 from rfl]; omega)]; rfl
end Cert.Diff
-- ==== Proof.Diff.KHost.lean ====
/- The table of biases as the kernel's host part builds it, and the arrays its windows read. -/
module

public import proofs.«01_k».proof.Proof.Gen.Kernel4Ideal.Value
public import proofs.«01_k».proof.Proof.Diff.Bucket
public import Idealize.ShloMosaic.Lib.Pointwise

@[expose] public section
set_option maxRecDepth 16384
noncomputable section
namespace Cert.Diff
open Idealize.ShloMosaic Idealize.ShloMosaic.TcCoe Idealize.SL.Sem Cert.Kernel4Ideal Cert.Kernel4Ideal.Gen Idealize.ShloMosaic.StableHlo

variable (m : (ℓ : Loc nD τ sig) → Buf (Elt Ideal) ℓ) (c : Dev nD)

/-- Argument contents as launched. -/
abbrev A0 : Vec Ideal S1 .f32 := m ((c : Thread nD τ).loc main_arg0)
abbrev A1 : Vec Ideal S16384x512 .bf16 := m ((c : Thread nD τ).loc main_arg1)
abbrev A2 : Vec Ideal S16384x512 .bf16 := m ((c : Thread nD τ).loc main_arg2)
abbrev A3 : Vec Ideal S16384x512 .bf16 := m ((c : Thread nD τ).loc main_arg3)
abbrev A4 : Vec Ideal S32x12 .f32 := m ((c : Thread nD τ).loc main_arg4)
abbrev A5 : Vec Ideal S128 .f32 := m ((c : Thread nD τ).loc main_arg5)

theorem neg_inf : Ideal.ofBits FTy.f32 4286578688#32 = ⊥ := by
  simp [Ideal.ofBits, Ideal.ieee]
/-- The distances of the four tables. -/
def dists : IVec S4x128x256 32 :=
  subi (broadcastInDim S4x128x256 ![0, 1, 2] bcast_S4x128x1_S4x128x256_0_1_2
      (addi (broadcastInDim S4x128x1 ![0, 1, 2] bcast_S4x1x1_S4x128x1_0_1_2
          (muli (broadcastInDim S4x1x1 ![0] bcast_S4_S4x1x1_0 (iotaInDim S4 32 0)) (broadcastInDim S4x1x1 ![] bcast_S_S4x1x1 (constantI S_ 32 128#32))))
        (broadcastInDim S4x128x1 ![0, 1, 2] bcast_S1x128x1_S4x128x1_0_1_2 (broadcastInDim S1x128x1 ![1] bcast_S128_S1x128x1_1 (iotaInDim S128 32 0)))))
    (broadcastInDim S4x128x256 ![0, 1, 2] bcast_S1x1x256_S4x128x256_0_1_2 (broadcastInDim S1x1x256 ![2] bcast_S256_S1x1x256_2 (iotaInDim S256 32 0)))
/-- The distances, none below zero. -/
def dists0 : IVec S4x128x256 32 := maxsi dists (broadcastInDim S4x128x256 ![] bcast_S_S4x128x256 (constantI S_ 32 0#32))
/-- The buckets of the distances. -/
def buckets : IVec S4x128x256 32 :=
  select (cmpi .slt dists0 (broadcastInDim S4x128x256 ![] bcast_S_S4x128x256 (constantI S_ 32 16#32))) dists0
    (minsi (addi (broadcastInDim S4x128x256 ![] bcast_S_S4x128x256 (constantI S_ 32 16#32))
      (fptosi 32 (mulf (Host.divf (Host.log (Host.divf (sitofp .f32 (maxsi dists0 (broadcastInDim S4x128x256 ![] bcast_S_S4x128x256 (constantI S_ 32 1#32))))
        (broadcastInDim S4x128x256 ![] bcast_S_S4x128x256 (constant S_ .f32 0x41800000#32)))) (broadcastInDim S4x128x256 ![] bcast_S_S4x128x256 (constant S_ .f32 0x40051592#32)))
        (broadcastInDim S4x128x256 ![] bcast_S_S4x128x256 (constant S_ .f32 0x41800000#32)) : FVec Ideal S4x128x256 .f32)))
      (broadcastInDim S4x128x256 ![] bcast_S_S4x128x256 (constantI S_ 32 31#32)))
def wrapped : IVec S4x128x256 32 :=
  select (cmpi .slt buckets (broadcastInDim S4x128x256 ![] bcast_S_S4x128x256 (constantI S_ 32 0#32)))
    (addi buckets (broadcastInDim S4x128x256 ![] bcast_S_S4x128x256 (constantI S_ 32 32#32))) buckets
/-- The biases of the buckets. -/
def taken (b : FVec Ideal S32x12 .f32) : FVec Ideal S4x128x256x12 .f32 :=
  Host.gather gather_S32x12_S4x128x256x1_S4x128x256x12_3_0_n_n_0_3_112 b (broadcastInDim S4x128x256x1 ![0, 1, 2] bcast_S4x128x256_S4x128x256x1_0_1_2 wrapped)
/-- The biases, those of negative distances masked. -/
def masked (b : FVec Ideal S32x12 .f32) : FVec Ideal S4x128x256x12 .f32 :=
  select (broadcastInDim S4x128x256x12 ![0, 1, 2, 3] bcast_S4x128x256x1_S4x128x256x12_0_1_2_3
      (broadcastInDim S4x128x256x1 ![0, 1, 2] bcast_S4x128x256_S4x128x256x1_0_1_2 (cmpi .sge dists (broadcastInDim S4x128x256 ![] bcast_S_S4x128x256 (constantI S_ 32 0#32)))))
    (taken b) (broadcastInDim S4x128x256x12 ![] bcast_S_S4x128x256x12 (constant S_ .f32 0xFF800000#32))
/-- The table of the kernel's four heads. -/
def tableOf (b : FVec Ideal S32x12 .f32) : FVec Ideal S4x4x128x256 .f32 :=
  extractStridedSlice S4x4x128x256 ![0, 8, 0, 0] (transpose S4x12x128x256 [0, 3, 1, 2] (masked b) transposes_S4x128x256x12_S4x12x128x256_0_3_1_2) slices_S4x12x128x256_S4x4x128x256_0_8_0_0

set_option maxHeartbeats 4000000 in
theorem V_v46 : V m c main_v46 = tableOf (A4 m c) := by
  unfold_abbrev_sides
  simp only [List.flatten_cons, List.flatten_nil, List.append_nil, List.cons_append, List.nil_append]
  after_results
  simp only [StableHlo.TRef.ofBuf_toBuf]
  rfl
theorem V_v47 : V m c main_v47 = (broadcastInDim S1x128 ![1] bcast_S128_S1x128_1 (A5 m c) : FVec Ideal S1x128 .f32) := by
  unfold_abbrev_sides
  simp only [List.flatten_cons, List.flatten_nil, List.append_nil, List.cons_append, List.nil_append]
  after_results
theorem V_v48 : V m c main_v48 = (shapeCast S2x8192x512 (A1 m c) shapeCasts_S16384x512_S2x8192x512 : FVec Ideal S2x8192x512 .bf16) := by
  unfold_abbrev_sides
  simp only [List.flatten_cons, List.flatten_nil, List.append_nil, List.cons_append, List.nil_append]
  after_results
  rfl
theorem V_v49 : V m c main_v49 = (shapeCast S2x8192x512 (A2 m c) shapeCasts_S16384x512_S2x8192x512 : FVec Ideal S2x8192x512 .bf16) := by
  unfold_abbrev_sides
  simp only [List.flatten_cons, List.flatten_nil, List.append_nil, List.cons_append, List.nil_append]
  after_results
  rfl
theorem V_v50 : V m c main_v50 = (shapeCast S2x8192x512 (A3 m c) shapeCasts_S16384x512_S2x8192x512 : FVec Ideal S2x8192x512 .bf16) := by
  unfold_abbrev_sides
  simp only [List.flatten_cons, List.flatten_nil, List.append_nil, List.cons_append, List.nil_append]
  after_results
  rfl

theorem dists_at (a : Fin 4) (r : Fin 128) (j : Fin 256) :
    dists (ix3 a r j) = BitVec.ofNat 32 a.val * 128#32 + BitVec.ofNat 32 r.val - BitVec.ofNat 32 j.val := by
  pointwise [dists]
  rfl
theorem dists_int (a : Fin 4) (r : Fin 128) (j : Fin 256) :
    dists (ix3 a r j) = BitVec.ofInt 32 (128 * (a.val : ℤ) + r.val - j.val) := by
  rw [dists_at, show (128#32 : BitVec 32) = BitVec.ofNat 32 128 from rfl, ← BitVec.ofNat_mul, ← BitVec.ofNat_add, sub_int _ _ (by omega) (by omega)]
  congr 1; push_cast; ring
theorem wrapped_at (a : Fin 4) (r : Fin 128) (j : Fin 256) : wrapped (ix3 a r j) = wrap (bkt (dists (ix3 a r j))) := by
  pointwise [wrapped, buckets, dists0]
  rfl
theorem cast_rows (x : FVec Ideal S16384x512 .bf16) (b : Fin 2) (i : Fin 8192) (q : Fin 512) :
    shapeCast S2x8192x512 x shapeCasts_S16384x512_S2x8192x512 (ix3 b i q) = x (ix2 (⟨b.val * 8192 + i.val, by omega⟩ : Fin 16384) q) := by
  pointwise []
theorem taken_at (t : FVec Ideal S32x12 .f32) (a : Fin 4) (r : Fin 128) (j : Fin 256) (h : Fin 12) :
    taken t (ix4 a r j h) = t (ix2 (rowOf (wrap (bkt (dists (ix3 a r j))))) h) := by
  rw [← wrapped_at]
  unfold taken
  set d := gather_S32x12_S4x128x256x1_S4x128x256x12_3_0_n_n_0_3_112 with hd
  set w : IVec S4x128x256x1 32 := broadcastInDim S4x128x256x1 ![0, 1, 2] bcast_S4x128x256_S4x128x256x1_0_1_2 wrapped with hw
  unfold Host.gather
  refine congrArg t (funext fun x => Fin.ext ?_)
  match x with
  | ⟨0, _⟩ =>
    show d.start (ix4 a r j h) w 0 + d.batchCoord (ix4 a r j h) 0 + d.offCoord (ix4 a r j h) 0 = _
    rw [GatherDims.batchCoord_eq_zero _ _ _ (fun h => by simp [hd, gather_S32x12_S4x128x256x1_S4x128x256x12_3_0_n_n_0_3_112] at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    have hsi : d.siIdx (ix4 a r j h) ⟨List.idxOf (0 : Fin 2) d.startIndexMap,
        List.idxOf_lt_length_iff.2 (List.mem_singleton.mpr rfl)⟩ = ix4 a r j 0 := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show d.start (ix4 a r j h) w 1 + d.batchCoord (ix4 a r j h) 1 + d.offCoord (ix4 a r j h) 1 = _
    rw [GatherDims.batchCoord_eq_zero _ _ _ (fun h => by simp [hd, gather_S32x12_S4x128x256x1_S4x128x256x12_3_0_n_n_0_3_112] at h)]
    have : d.start (ix4 a r j h) w 1 = 0 := by
      unfold GatherDims.start
      exact dif_neg (fun h => by simp [hd, gather_S32x12_S4x128x256x1_S4x128x256x12_3_0_n_n_0_3_112] at h)
    rw [this]
    simp only [Nat.zero_add, Nat.add_zero]
    rfl
theorem table_at (t : FVec Ideal S32x12 .f32) (a h : Fin 4) (r : Fin 128) (j : Fin 256) :
    tableOf t (ix4 a h r j) = bias t h (128 * (a.val : ℤ) + r.val - j.val) := by
  pointwise [tableOf, masked]
  rw [taken_at, dists_int, sge_small _ (by omega) (by omega), neg_inf]
  unfold bias
  split
  · rfl
  · rfl
end Cert.Diff
-- ==== Proof.Diff.Trip.lean ====
/- One trip of the loop over the key tiles, for the four heads. -/
module
public import proofs.«01_k».proof.Proof.Gen.Kernel4Ideal.Loops
public import Idealize.ShloMosaic.Lib.Tactic
public import Idealize.ShloMosaic.Lib.WritesUnit
@[expose] public section
noncomputable section
namespace Cert.Diff
open Cert.Kernel4Ideal Cert.Kernel4Ideal.Gen
open Idealize.ShloMosaic Idealize.ShloMosaic.TcCoe Idealize.ShloMosaic.Tactic
variable {F : FTy → Type} [FloatOps F]

/-- A block of 256 rows of one head, read out of the keys or the values. -/
def ld4 (a : Memref sig .tc .vmem S1x8192x512 .bf16) (X : BufTy.Contents (Elt F) a.view.ty) (off : Fin 3 → Nat)
    (h : ∀ x, off x + S1x256x128.size x ≤ S1x8192x512.size x) : Vec F S1x256x128 .bf16 :=
  a.view.readAt (Elt F) (Rect.unit (s := S1x8192x512) off S1x256x128.size h).toLoadRect X

/-- One tile of the bias table of one head. -/
def ld6 (a : Memref sig .tc .vmem S4x4x128x256 .f32) (X : BufTy.Contents (Elt F) a.view.ty) (off : Fin 4 → Nat)
    (h : ∀ x, off x + S1x1x128x256.size x ≤ S4x4x128x256.size x) : Vec F S1x1x128x256 .f32 :=
  a.view.readAt (Elt F) (Rect.unit (s := S4x4x128x256) off S1x1x128x256.size h).toLoadRect X

/-- One head's slab lies inside an accumulator. -/
theorem slab_inb (h : Fin 4) : ∀ x, (![h.val, 0, 0] : Fin 3 → Nat) x + S1x256x128.size x ≤ S4x256x128.size x := by
  fin_cases h <;> decide

/-- One head's slab of an accumulator. -/
def sl9 (a : Memref sig .tc .vmem S4x256x128 .f32) (X : BufTy.Contents (Elt F) a.view.ty) (h : Fin 4) : Vec F S1x256x128 .f32 :=
  a.view.readAt (Elt F) (Rect.unit (s := S4x256x128) ![h.val, 0, 0] S1x256x128.size (slab_inb h)).toLoadRect X

/-- The running maximum after one tile of keys. -/
def newM (w : FVec F S256x128 .bf16) (kb : Vec F S1x256x128 .bf16) (tb : Vec F S1x1x128x256 .f32)
    (mo : Vec F S1x256x128 .f32) : FVec F S1x256x128 .f32 :=
  k0_pay11 (k0_pay4 mo) (k0_pay5 w kb tb)

/-- The running denominator after one tile of keys. -/
def newL (w : FVec F S256x128 .bf16) (kb : Vec F S1x256x128 .bf16) (tb : Vec F S1x1x128x256 .f32)
    (mo lo : Vec F S1x256x128 .f32) : FVec F S1x256x128 .f32 :=
  k0_pay9 (k0_pay3 w kb tb) (k0_pay4 mo) (k0_pay5 w kb tb) lo

/-- The running weighted sum of the values after one tile of keys. -/
def newA (w : FVec F S256x128 .bf16) (kb vb : Vec F S1x256x128 .bf16) (tb : Vec F S1x1x128x256 .f32)
    (mo ao : Vec F S1x256x128 .f32) : FVec F S1x256x128 .f32 :=
  k0_pay10 (k0_pay2 vb) (k0_pay3 w kb tb) (k0_pay4 mo) (k0_pay5 w kb tb) ao

/-- What one trip stores, head by head: the three accumulators' new slabs, each from the slabs the trip found. -/
theorem trip_eq (𝒱 : Variants) (c : Dev nD) (bd : Option 𝒱.V) (i : grid0.Coords) (arg2 : Memref sig .tc .smem S1 .f32) (harg2 : arg2.IsWhole) (arg3 : Memref sig .tc .vmem S1x128x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S4x4x128x256 .f32) (harg6 : arg6.IsWhole) (arg7 : Memref sig .tc .vmem S1x128 .f32) (harg7 : arg7.IsWhole) (arg8 : Memref sig .tc .vmem S1x128x512 .bf16) (harg8 : arg8.IsWhole) (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole) (v0 : BitVec 32) (v13 : FVec F S256x128 .bf16) (v26 : FVec F S256x128 .bf16) (v39 : FVec F S256x128 .bf16) (v52 : FVec F S256x128 .bf16) (v67 : BitVec 32) (c256_i32_35 : BitVec 32) (v68 : BitVec 32) (c0_i32 : BitVec 32) (X_arg4 : BufTy.Contents (Elt F) arg4.view.ty) (X_arg5 : BufTy.Contents (Elt F) arg5.view.ty) (X_arg6 : BufTy.Contents (Elt F) arg6.view.ty) (k : Fin (k0_t1_loop i).trips) (f9 : BufTy.Contents (Elt F) arg9.view.ty) (f10 : BufTy.Contents (Elt F) arg10.view.ty) (f11 : BufTy.Contents (Elt F) arg11.view.ty) :
  tripL_k0_t1 (F := F) 𝒱 c bd i arg2 harg2 arg3 harg3 arg4 harg4 arg5 harg5 arg6 harg6 arg7 harg7 arg8 harg8 arg9 harg9 arg10 harg10 arg11 harg11 v0 v13 v26 v39 v52 v67 c256_i32_35 v68 c0_i32 X_arg4 X_arg5 X_arg6 k f9 f10 f11 =
   ([⟨Rect.unit ![3, 0, 0] ![1, 256, 128] inb_S4x256x128_S1x256x128_3_0_0, newM v52 (ld4 arg4 X_arg4 (k0_off7 i k) (k0_off7_inb i k)) (ld6 arg6 X_arg6 (k0_off8 i k) (k0_off8_inb i k)) (sl9 arg9 f9 3)⟩,
    ⟨Rect.unit ![2, 0, 0] ![1, 256, 128] inb_S4x256x128_S1x256x128_2_0_0, newM v39 (ld4 arg4 X_arg4 (k0_off5 i k) (k0_off5_inb i k)) (ld6 arg6 X_arg6 (k0_off6 i k) (k0_off6_inb i k)) (sl9 arg9 f9 2)⟩,
    ⟨Rect.unit ![1, 0, 0] ![1, 256, 128] inb_S4x256x128_S1x256x128_1_0_0, newM v26 (ld4 arg4 X_arg4 (k0_off3 i k) (k0_off3_inb i k)) (ld6 arg6 X_arg6 (k0_off4 i k) (k0_off4_inb i k)) (sl9 arg9 f9 1)⟩,
    ⟨Rect.unit ![0, 0, 0] ![1, 256, 128] inb_S4x256x128_S1x256x128_0_0_0, newM v13 (ld4 arg4 X_arg4 (k0_off1 i k) (k0_off1_inb i k)) (ld6 arg6 X_arg6 (k0_off2 i k) (k0_off2_inb i k)) (sl9 arg9 f9 0)⟩],
    [⟨Rect.unit ![3, 0, 0] ![1, 256, 128] inb_S4x256x128_S1x256x128_3_0_0, newL v52 (ld4 arg4 X_arg4 (k0_off7 i k) (k0_off7_inb i k)) (ld6 arg6 X_arg6 (k0_off8 i k) (k0_off8_inb i k)) (sl9 arg9 f9 3) (sl9 arg10 f10 3)⟩,
    ⟨Rect.unit ![2, 0, 0] ![1, 256, 128] inb_S4x256x128_S1x256x128_2_0_0, newL v39 (ld4 arg4 X_arg4 (k0_off5 i k) (k0_off5_inb i k)) (ld6 arg6 X_arg6 (k0_off6 i k) (k0_off6_inb i k)) (sl9 arg9 f9 2) (sl9 arg10 f10 2)⟩,
    ⟨Rect.unit ![1, 0, 0] ![1, 256, 128] inb_S4x256x128_S1x256x128_1_0_0, newL v26 (ld4 arg4 X_arg4 (k0_off3 i k) (k0_off3_inb i k)) (ld6 arg6 X_arg6 (k0_off4 i k) (k0_off4_inb i k)) (sl9 arg9 f9 1) (sl9 arg10 f10 1)⟩,
    ⟨Rect.unit ![0, 0, 0] ![1, 256, 128] inb_S4x256x128_S1x256x128_0_0_0, newL v13 (ld4 arg4 X_arg4 (k0_off1 i k) (k0_off1_inb i k)) (ld6 arg6 X_arg6 (k0_off2 i k) (k0_off2_inb i k)) (sl9 arg9 f9 0) (sl9 arg10 f10 0)⟩],
    [⟨Rect.unit ![3, 0, 0] ![1, 256, 128] inb_S4x256x128_S1x256x128_3_0_0, newA v52 (ld4 arg4 X_arg4 (k0_off7 i k) (k0_off7_inb i k)) (ld4 arg5 X_arg5 (k0_off7 i k) (k0_off7_inb i k)) (ld6 arg6 X_arg6 (k0_off8 i k) (k0_off8_inb i k)) (sl9 arg9 f9 3) (sl9 arg11 f11 3)⟩,
    ⟨Rect.unit ![2, 0, 0] ![1, 256, 128] inb_S4x256x128_S1x256x128_2_0_0, newA v39 (ld4 arg4 X_arg4 (k0_off5 i k) (k0_off5_inb i k)) (ld4 arg5 X_arg5 (k0_off5 i k) (k0_off5_inb i k)) (ld6 arg6 X_arg6 (k0_off6 i k) (k0_off6_inb i k)) (sl9 arg9 f9 2) (sl9 arg11 f11 2)⟩,
    ⟨Rect.unit ![1, 0, 0] ![1, 256, 128] inb_S4x256x128_S1x256x128_1_0_0, newA v26 (ld4 arg4 X_arg4 (k0_off3 i k) (k0_off3_inb i k)) (ld4 arg5 X_arg5 (k0_off3 i k) (k0_off3_inb i k)) (ld6 arg6 X_arg6 (k0_off4 i k) (k0_off4_inb i k)) (sl9 arg9 f9 1) (sl9 arg11 f11 1)⟩,
    ⟨Rect.unit ![0, 0, 0] ![1, 256, 128] inb_S4x256x128_S1x256x128_0_0_0, newA v13 (ld4 arg4 X_arg4 (k0_off1 i k) (k0_off1_inb i k)) (ld4 arg5 X_arg5 (k0_off1 i k) (k0_off1_inb i k)) (ld6 arg6 X_arg6 (k0_off2 i k) (k0_off2_inb i k)) (sl9 arg9 f9 0) (sl9 arg11 f11 0)⟩]) := by
  unfold tripL_k0_t1 trip_k0_t1
  rfl

/-- A slab read after the four heads' slabs were stored is what was stored there. -/
theorem sl9_writes (a : Memref sig .tc .vmem S4x256x128 .f32) (f : BufTy.Contents (Elt F) a.view.ty)
    (s : Fin 4 → Vec F S1x256x128 .f32) (h : Fin 4) :
    sl9 a (a.view.writes (Elt F) f [⟨Rect.unit (s := S4x256x128) ![3, 0, 0] ![1, 256, 128] inb_S4x256x128_S1x256x128_3_0_0, s 3⟩, ⟨Rect.unit (s := S4x256x128) ![2, 0, 0] ![1, 256, 128] inb_S4x256x128_S1x256x128_2_0_0, s 2⟩, ⟨Rect.unit (s := S4x256x128) ![1, 0, 0] ![1, 256, 128] inb_S4x256x128_S1x256x128_1_0_0, s 1⟩, ⟨Rect.unit (s := S4x256x128) ![0, 0, 0] ![1, 256, 128] inb_S4x256x128_S1x256x128_0_0_0, s 0⟩]) h = s h := by
  have hit : ∀ (o : ℕ) (ho : ∀ x, (![o, 0, 0] : Fin 3 → Nat) x + S1x256x128.size x ≤ S4x256x128.size x) (w : Vec F S1x256x128 .f32)
      (L : List (View.Piece (Elt F) S4x256x128 .f32)) (x : S1x256x128.Idx),
      a.view.read (Elt F) (a.view.writes (Elt F) f (⟨Rect.unit (s := S4x256x128) ![o, 0, 0] S1x256x128.size ho, w⟩ :: L))
        ((Rect.unit (s := S4x256x128) ![o, 0, 0] S1x256x128.size ho).toLoadRect.idx x) = w x :=
    fun o ho w L x => View.read_writes_cons_emb a.view f (Rect.unit (s := S4x256x128) ![o, 0, 0] S1x256x128.size ho) w L x
  have miss : ∀ (o o' : ℕ) (ho : ∀ x, (![o, 0, 0] : Fin 3 → Nat) x + S1x256x128.size x ≤ S4x256x128.size x)
      (ho' : ∀ x, (![o', 0, 0] : Fin 3 → Nat) x + S1x256x128.size x ≤ S4x256x128.size x) (w : Vec F S1x256x128 .f32)
      (L : List (View.Piece (Elt F) S4x256x128 .f32)) (x : S1x256x128.Idx) (hlt : o < o'),
      a.view.read (Elt F) (a.view.writes (Elt F) f (⟨Rect.unit (s := S4x256x128) ![o', 0, 0] S1x256x128.size ho', w⟩ :: L))
        ((Rect.unit (s := S4x256x128) ![o, 0, 0] S1x256x128.size ho).toLoadRect.idx x)
      = a.view.read (Elt F) (a.view.writes (Elt F) f L)
        ((Rect.unit (s := S4x256x128) ![o, 0, 0] S1x256x128.size ho).toLoadRect.idx x) := by
    intro o o' ho ho' w L x hlt
    refine View.read_writes_cons_unit_of_not_mem a.view f ho' w L _ rfl (0 : Fin 3) (Or.inl ?_)
    show o + 1 * (x 0).val < o'
    have : (x 0).val < 1 := (x 0).isLt
    omega
  funext x
  fin_cases h
  · exact (miss 0 3 _ _ _ _ x (by omega)).trans ((miss 0 2 _ _ _ _ x (by omega)).trans
      ((miss 0 1 _ _ _ _ x (by omega)).trans (hit 0 _ _ _ x)))
  · exact (miss 1 3 _ _ _ _ x (by omega)).trans ((miss 1 2 _ _ _ _ x (by omega)).trans (hit 1 _ _ _ x))
  · exact (miss 2 3 _ _ _ _ x (by omega)).trans (hit 2 _ _ _ x)
  · exact hit 3 _ _ _ x

/-- One head's accumulators after so many tiles of keys. -/
def st (w : FVec F S256x128 .bf16) (kb vb : ℕ → Vec F S1x256x128 .bf16) (tb : ℕ → Vec F S1x1x128x256 .f32) :
    ℕ → Vec F S1x256x128 .f32 × Vec F S1x256x128 .f32 × Vec F S1x256x128 .f32
  | 0 => (fun _ => Scalar.ofBits .f32 0xF149F2CA#32, fun _ => Scalar.ofBits .f32 0x00000000#32, fun _ => Scalar.ofBits .f32 0x00000000#32)
  | k + 1 => (newM w (kb k) (tb k) (st w kb vb tb k).1, newL w (kb k) (tb k) (st w kb vb tb k).1 (st w kb vb tb k).2.1,
      newA w (kb k) (vb k) (tb k) (st w kb vb tb k).1 (st w kb vb tb k).2.2)

/-- The three accumulators of the four heads after so many trips. -/
theorem loop_eq (𝒱 : Variants) (c : Dev nD) (bd : Option 𝒱.V) (i : grid0.Coords) (arg2 : Memref sig .tc .smem S1 .f32) (harg2 : arg2.IsWhole) (arg3 : Memref sig .tc .vmem S1x128x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S4x4x128x256 .f32) (harg6 : arg6.IsWhole) (arg7 : Memref sig .tc .vmem S1x128 .f32) (harg7 : arg7.IsWhole) (arg8 : Memref sig .tc .vmem S1x128x512 .bf16) (harg8 : arg8.IsWhole) (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole) (v0 : BitVec 32) (v67 : BitVec 32) (c256_i32_35 : BitVec 32) (v68 : BitVec 32) (c0_i32 : BitVec 32) (X_arg4 : BufTy.Contents (Elt F) arg4.view.ty) (X_arg5 : BufTy.Contents (Elt F) arg5.view.ty) (X_arg6 : BufTy.Contents (Elt F) arg6.view.ty) (W : Fin 4 → FVec F S256x128 .bf16)
    (G9 : BufTy.Contents (Elt F) arg9.view.ty) (G10 : BufTy.Contents (Elt F) arg10.view.ty) (G11 : BufTy.Contents (Elt F) arg11.view.ty)
    (kb vb : Fin 4 → ℕ → Vec F S1x256x128 .bf16) (tb : Fin 4 → ℕ → Vec F S1x1x128x256 .f32)
    (hk0 : ∀ k, ld4 arg4 X_arg4 (k0_off1 i k) (k0_off1_inb i k) = kb 0 k)
    (hv0 : ∀ k, ld4 arg5 X_arg5 (k0_off1 i k) (k0_off1_inb i k) = vb 0 k)
    (ht0 : ∀ k, ld6 arg6 X_arg6 (k0_off2 i k) (k0_off2_inb i k) = tb 0 k)
    (hk1 : ∀ k, ld4 arg4 X_arg4 (k0_off3 i k) (k0_off3_inb i k) = kb 1 k)
    (hv1 : ∀ k, ld4 arg5 X_arg5 (k0_off3 i k) (k0_off3_inb i k) = vb 1 k)
    (ht1 : ∀ k, ld6 arg6 X_arg6 (k0_off4 i k) (k0_off4_inb i k) = tb 1 k)
    (hk2 : ∀ k, ld4 arg4 X_arg4 (k0_off5 i k) (k0_off5_inb i k) = kb 2 k)
    (hv2 : ∀ k, ld4 arg5 X_arg5 (k0_off5 i k) (k0_off5_inb i k) = vb 2 k)
    (ht2 : ∀ k, ld6 arg6 X_arg6 (k0_off6 i k) (k0_off6_inb i k) = tb 2 k)
    (hk3 : ∀ k, ld4 arg4 X_arg4 (k0_off7 i k) (k0_off7_inb i k) = kb 3 k)
    (hv3 : ∀ k, ld4 arg5 X_arg5 (k0_off7 i k) (k0_off7_inb i k) = vb 3 k)
    (ht3 : ∀ k, ld6 arg6 X_arg6 (k0_off8 i k) (k0_off8_inb i k) = tb 3 k)
    (h9 : ∀ h, sl9 arg9 G9 h = fun _ => Scalar.ofBits .f32 0xF149F2CA#32)
    (h10 : ∀ h, sl9 arg10 G10 h = fun _ => Scalar.ofBits .f32 0x00000000#32)
    (h11 : ∀ h, sl9 arg11 G11 h = fun _ => Scalar.ofBits .f32 0x00000000#32) :
    ∀ k, k ≤ (k0_t1_loop i).trips → ∀ h : Fin 4,
      sl9 arg9 (arg9.view.writes (Elt F) G9 (pb_k0_t1 (F := F) 𝒱 c bd i arg2 harg2 arg3 harg3 arg4 harg4 arg5 harg5 arg6 harg6 arg7 harg7 arg8 harg8 arg9 harg9 arg10 harg10 arg11 harg11 v0 (W 0) (W 1) (W 2) (W 3) v67 c256_i32_35 v68 c0_i32 X_arg4 X_arg5 X_arg6 G9 G10 G11 k).1) h = (st (W h) (kb h) (vb h) (tb h) k).1
      ∧ sl9 arg10 (arg10.view.writes (Elt F) G10 (pb_k0_t1 (F := F) 𝒱 c bd i arg2 harg2 arg3 harg3 arg4 harg4 arg5 harg5 arg6 harg6 arg7 harg7 arg8 harg8 arg9 harg9 arg10 harg10 arg11 harg11 v0 (W 0) (W 1) (W 2) (W 3) v67 c256_i32_35 v68 c0_i32 X_arg4 X_arg5 X_arg6 G9 G10 G11 k).2.1) h = (st (W h) (kb h) (vb h) (tb h) k).2.1
      ∧ sl9 arg11 (arg11.view.writes (Elt F) G11 (pb_k0_t1 (F := F) 𝒱 c bd i arg2 harg2 arg3 harg3 arg4 harg4 arg5 harg5 arg6 harg6 arg7 harg7 arg8 harg8 arg9 harg9 arg10 harg10 arg11 harg11 v0 (W 0) (W 1) (W 2) (W 3) v67 c256_i32_35 v68 c0_i32 X_arg4 X_arg5 X_arg6 G9 G10 G11 k).2.2) h = (st (W h) (kb h) (vb h) (tb h) k).2.2 := by
  intro k
  induction k with
  | zero => intro _ h; exact ⟨h9 h, h10 h, h11 h⟩
  | succ k ih =>
    intro hk h
    have ih := ih (by omega)
    rw [show pb_k0_t1 (F := F) 𝒱 c bd i arg2 harg2 arg3 harg3 arg4 harg4 arg5 harg5 arg6 harg6 arg7 harg7 arg8 harg8 arg9 harg9 arg10 harg10 arg11 harg11 v0 (W 0) (W 1) (W 2) (W 3) v67 c256_i32_35 v68 c0_i32 X_arg4 X_arg5 X_arg6 G9 G10 G11 (k + 1) = _ from pb_k0_t1_succ (F := F) 𝒱 c bd i arg2 harg2 arg3 harg3 arg4 harg4 arg5 harg5 arg6 harg6 arg7 harg7 arg8 harg8 arg9 harg9 arg10 harg10 arg11 harg11 v0 (W 0) (W 1) (W 2) (W 3) v67 c256_i32_35 v68 c0_i32 X_arg4 X_arg5 X_arg6 G9 G10 G11 ⟨k, hk⟩, trip_eq]
    simp only [View.writes_append, hk0, hv0, ht0, hk1, hv1, ht1, hk2, hv2, ht2, hk3, hv3, ht3]
    generalize hP : pb_k0_t1 (F := F) 𝒱 c bd i arg2 harg2 arg3 harg3 arg4 harg4 arg5 harg5 arg6 harg6 arg7 harg7 arg8 harg8 arg9 harg9 arg10 harg10 arg11 harg11 v0 (W 0) (W 1) (W 2) (W 3) v67 c256_i32_35 v68 c0_i32 X_arg4 X_arg5 X_arg6 G9 G10 G11 k = P at ih ⊢
    refine ⟨?_, ?_, ?_⟩
    · refine (sl9_writes _ _ (fun h => newM (W h) (kb h k) (tb h k) (sl9 arg9 (arg9.view.writes (Elt F) G9 P.1) h)) h).trans ?_
      show newM _ _ _ _ = newM _ _ _ _
      rw [(ih h).1]
    · refine (sl9_writes _ _ (fun h => newL (W h) (kb h k) (tb h k) (sl9 arg9 (arg9.view.writes (Elt F) G9 P.1) h) (sl9 arg10 (arg10.view.writes (Elt F) G10 P.2.1) h)) h).trans ?_
      show newL _ _ _ _ _ = newL _ _ _ _ _
      rw [(ih h).1, (ih h).2.1]
    · refine (sl9_writes _ _ (fun h => newA (W h) (kb h k) (vb h k) (tb h k) (sl9 arg9 (arg9.view.writes (Elt F) G9 P.1) h) (sl9 arg11 (arg11.view.writes (Elt F) G11 P.2.2) h)) h).trans ?_
      show newA _ _ _ _ _ _ = newA _ _ _ _ _ _
      rw [(ih h).1, (ih h).2.2]
end Cert.Diff
-- ==== Proof.Diff.Offs.lean ====
/- The tiles and the table that a row block reads. -/
module
public import proofs.«01_k».proof.Proof.Gen.Kernel4Ideal
@[expose] public section
noncomputable section
namespace Cert.Diff
open Cert.Kernel4Ideal Cert.Kernel4Ideal.Gen
open Idealize.ShloMosaic Idealize.ShloMosaic.TcCoe Idealize.ShloMosaic.Tactic

/-- The grid point of the first batch at a row block. -/
def mk (n : Fin 64) : grid0.Coords := fun a => match a with
  | 0 => (⟨0, by decide⟩ : Fin 2)
  | 1 => n

/-- The row block of a grid point. -/
def rb (i : grid0.Coords) : Fin 64 := i 1

/-- Which bias table a row block uses at a tile of keys. -/
def ti (n k : ℕ) : ℕ := min (n - 2 * k) 3

set_option maxRecDepth 100000 in
theorem trips_mk : ∀ n : Fin 64, (k0_t1_loop (mk n)).trips = n.val / 2 + 1 := by decide +kernel

set_option maxRecDepth 100000 in
theorem trips2_mk : ∀ n : Fin 64, (k0_t2_loop (mk n)).trips = 0 := by decide +kernel

theorem trips_eq (i : grid0.Coords) : (k0_t1_loop i).trips = (rb i).val / 2 + 1 := trips_mk (rb i)
theorem trips2_eq (i : grid0.Coords) : (k0_t2_loop i).trips = 0 := trips2_mk (rb i)

theorem trip_lt (i : grid0.Coords) (k : Fin (k0_t1_loop i).trips) : k.val < 32 := by
  have := k.isLt; have h := trips_eq i; have := (rb i).isLt; omega

set_option maxRecDepth 100000 in
theorem off1_mk : ∀ (k : Fin 32), ((Scalar.indexCast (Scalar.muli (Scf.iv 0#32 1#32 k.val) 256#32) : Index)).toNat = 256 * k.val := by decide +kernel

theorem off1_eq (i : grid0.Coords) (k : Fin (k0_t1_loop i).trips) : k0_off1 i k = ![0, 256 * k.val, 0] :=
  congrArg (fun z => ![0, z, 0]) (off1_mk ⟨k.val, trip_lt i k⟩)
theorem off3_eq (i : grid0.Coords) (k : Fin (k0_t1_loop i).trips) : k0_off3 i k = ![0, 256 * k.val, 128] :=
  congrArg (fun z => ![0, z, 128]) (off1_mk ⟨k.val, trip_lt i k⟩)
theorem off5_eq (i : grid0.Coords) (k : Fin (k0_t1_loop i).trips) : k0_off5 i k = ![0, 256 * k.val, 256] :=
  congrArg (fun z => ![0, z, 256]) (off1_mk ⟨k.val, trip_lt i k⟩)
theorem off7_eq (i : grid0.Coords) (k : Fin (k0_t1_loop i).trips) : k0_off7 i k = ![0, 256 * k.val, 384] :=
  congrArg (fun z => ![0, z, 384]) (off1_mk ⟨k.val, trip_lt i k⟩)

set_option maxRecDepth 100000 in
theorem off2_mk : ∀ (n : Fin 64) (k : Fin (k0_t1_loop (mk n)).trips), k0_off2 (mk n) k 0 = min (n.val - 2 * k.val) 3 := by decide +kernel

theorem off2_eq (i : grid0.Coords) (k : Fin (k0_t1_loop i).trips) : k0_off2 i k = ![ti (rb i).val k.val, 0, 0, 0] :=
  congrArg (fun z => ![z, 0, 0, 0]) (off2_mk (rb i) k)
theorem off4_eq (i : grid0.Coords) (k : Fin (k0_t1_loop i).trips) : k0_off4 i k = ![ti (rb i).val k.val, 1, 0, 0] :=
  congrArg (fun z => ![z, 1, 0, 0]) (off2_mk (rb i) k)
theorem off6_eq (i : grid0.Coords) (k : Fin (k0_t1_loop i).trips) : k0_off6 i k = ![ti (rb i).val k.val, 2, 0, 0] :=
  congrArg (fun z => ![z, 2, 0, 0]) (off2_mk (rb i) k)
theorem off8_eq (i : grid0.Coords) (k : Fin (k0_t1_loop i).trips) : k0_off8 i k = ![ti (rb i).val k.val, 3, 0, 0] :=
  congrArg (fun z => ![z, 3, 0, 0]) (off2_mk (rb i) k)
end Cert.Diff
-- ==== Proof.Diff.Out.lean ====
/- What the loop over the key tiles and the lines after it leave in a grid point's block. -/
module
public import proofs.«01_k».proof.Proof.Gen.Kernel4Ideal.Frame
public import proofs.«01_k».proof.Proof.Diff.Trip
public import proofs.«01_k».proof.Proof.Diff.Offs
public import Idealize.ShloMosaic.Lib.Tactic
public import Idealize.ShloMosaic.Lib.VecWindow
public import Idealize.ShloMosaic.Lib.WholeRead
public import Idealize.ShloMosaic.Lib.Pointwise
@[expose] public section
noncomputable section
namespace Cert.Diff
open Cert.Kernel4Ideal Cert.Kernel4Ideal.Gen
open Idealize.ShloMosaic Idealize.ShloMosaic.TcCoe Idealize.ShloMosaic.Tactic
variable {F : FTy → Type} [FloatOps F]

/-- One head's columns of the block of queries. -/
def qOf (x1 : Vec F S1x128x512 .bf16) (h : Fin 4) : Vec F S1x128x128 .bf16 :=
  fun y => x1 (ix3 (⟨0, by decide⟩ : Fin 1) (⟨(y 1).val, (y 1).isLt⟩ : Fin 128) (⟨128 * h.val + (y 2).val, by have : (y 2).val < 128 := (y 2).isLt; omega⟩ : Fin 512))

/-- One head's columns of one tile of keys, or of values. -/
def kOf (x2 : Vec F S1x8192x512 .bf16) (h : Fin 4) (k : ℕ) : Vec F S1x256x128 .bf16 :=
  fun y => x2 (ix3 (⟨0, by decide⟩ : Fin 1) (⟨(256 * k + (y 1).val) % 8192, Nat.mod_lt _ (by decide)⟩ : Fin 8192) (⟨128 * h.val + (y 2).val, by have : (y 2).val < 128 := (y 2).isLt; omega⟩ : Fin 512))

/-- One head's table at a tile. -/
def tOf (x4 : Vec F S4x4x128x256 .f32) (n : ℕ) (h : Fin 4) (k : ℕ) : Vec F S1x1x128x256 .f32 :=
  fun y => x4 (ix4 (⟨ti n k, by unfold ti; omega⟩ : Fin 4) h (⟨(y 2).val, (y 2).isLt⟩ : Fin 128) (⟨(y 3).val, (y 3).isLt⟩ : Fin 256))

/-- One head's two maps of scaled queries, one under the other. -/
def wOf (x1 : Vec F S1x128x512 .bf16) (h : Fin 4) : FVec F S256x128 .bf16 := k0_pay72 (qOf x1 h)

/-- One head's difference of its two maps, normed and scaled. -/
def fin1 (lam : Elt F .f32) (dn : Vec F S1x128 .f32) (a l : Vec F S1x256x128 .f32) : FVec F S128x128 .f32 := k0_pay92 lam a l dn

/-- What a grid point stores. -/
def outV (lam : Elt F .f32) (dn : Vec F S1x128 .f32) (a l : Fin 4 → Vec F S1x256x128 .f32) : FVec F S1x128x512 .bf16 :=
  shapeCast S1x128x512 (truncf .bf16 (concatenate S128x512 1 [⟨S128x128, fin1 lam dn (a 0) (l 0)⟩, ⟨S128x128, fin1 lam dn (a 1) (l 1)⟩,
    ⟨S128x128, fin1 lam dn (a 2) (l 2)⟩, ⟨S128x128, fin1 lam dn (a 3) (l 3)⟩] concatenates_S128x128_S128x128_S128x128_S128x128_S128x512_d1) bitsLt_bf16_f32)
    shapeCasts_S128x512_S1x128x512

/-- The accumulators of one head at the end of a grid point. -/
def endSt (i : grid0.Coords) (x1 : Vec F S1x128x512 .bf16) (x2 x3 : Vec F S1x8192x512 .bf16) (x4 : Vec F S4x4x128x256 .f32) (h : Fin 4) :
    Vec F S1x256x128 .f32 × Vec F S1x256x128 .f32 × Vec F S1x256x128 .f32 :=
  st (wOf x1 h) (kOf x2 h) (kOf x3 h) (tOf x4 (rb i).val h) (k0_t1_loop i).trips

theorem ld4_eq (a : Memref sig .tc .vmem S1x8192x512 .bf16) (ha : a.IsWhole) (x : Vec F S1x8192x512 .bf16) (off : Fin 3 → Nat)
    (hb : ∀ x, off x + S1x256x128.size x ≤ S1x8192x512.size x) (h : Fin 4) (k : ℕ) (hk : k < 32) (ho : off = ![0, 256 * k, 128 * h.val]) :
    ld4 a (ha.unread x) off hb = kOf x h k := by
  subst ho
  funext y
  refine congrFun (ha.read_unread x) _ |>.trans (congrArg x (funext fun d => Fin.ext ?_))
  have h0 : (y 0).val < 1 := (y 0).isLt
  have h1 : (y 1).val < 256 := (y 1).isLt
  fin_cases d
  · show 0 + 1 * (y 0).val = 0; omega
  · show 256 * k + 1 * (y 1).val = (256 * k + (y 1).val) % 8192; omega
  · show 128 * h.val + 1 * (y 2).val = 128 * h.val + (y 2).val; omega

theorem ld6_eq (a : Memref sig .tc .vmem S4x4x128x256 .f32) (ha : a.IsWhole) (x : Vec F S4x4x128x256 .f32) (off : Fin 4 → Nat)
    (hb : ∀ x, off x + S1x1x128x256.size x ≤ S4x4x128x256.size x) (n : ℕ) (h : Fin 4) (k : ℕ) (ho : off = ![ti n k, h.val, 0, 0]) :
    ld6 a (ha.unread x) off hb = tOf x n h k := by
  subst ho
  funext y
  refine congrFun (ha.read_unread x) _ |>.trans (congrArg x (funext fun d => Fin.ext ?_))
  have h0 : (y 0).val < 1 := (y 0).isLt
  have h1 : (y 1).val < 1 := (y 1).isLt
  fin_cases d
  · show ti n k + 1 * (y 0).val = ti n k; omega
  · show h.val + 1 * (y 1).val = h.val; omega
  · show 0 + 1 * (y 2).val = (y 2).val; omega
  · show 0 + 1 * (y 3).val = (y 3).val; omega

theorem q_eq (a : Memref sig .tc .vmem S1x128x512 .bf16) (ha : a.IsWhole) (x : Vec F S1x128x512 .bf16) (h : Fin 4) (off : Fin 3 → Nat)
    (hb : ∀ x, off x + S1x128x128.size x ≤ S1x128x512.size x) (ho : off = ![0, 0, 128 * h.val]) :
    (a.view.readAt (Elt F) (Rect.unit (s := S1x128x512) off S1x128x128.size hb).toLoadRect (ha.unread x) : Vec F S1x128x128 .bf16) = qOf x h := by
  subst ho
  funext y
  refine congrFun (ha.read_unread x) _ |>.trans (congrArg x (funext fun d => Fin.ext ?_))
  have h0 : (y 0).val < 1 := (y 0).isLt
  fin_cases d
  · show 0 + 1 * (y 0).val = 0; omega
  · show 0 + 1 * (y 1).val = (y 1).val; omega
  · show 128 * h.val + 1 * (y 2).val = 128 * h.val + (y 2).val; omega

/-- A slab of an accumulator wholly filled with one vector. -/
theorem sl9_fill (a : Memref sig .tc .vmem S4x256x128 .f32) (f : BufTy.Contents (Elt F) a.view.ty) (v : Elt F .f32)
    (hb : ∀ x, (![0, 0, 0] : Fin 3 → Nat) x + S4x256x128.size x ≤ S4x256x128.size x) (w : Vec F S4x256x128 .f32) (hw : ∀ y, w y = v) (h : Fin 4) :
    sl9 a (a.view.writes (Elt F) f [⟨Rect.unit (s := S4x256x128) ![0, 0, 0] S4x256x128.size hb, w⟩]) h = fun _ => v := by
  funext x
  unfold sl9
  rw [View.readAt_apply, View.read_writes_full]
  exact hw _

theorem w0_eq (c : Dev nD) (arg3 : Memref sig .tc .vmem S1x128x512 .bf16) (harg3 : arg3.IsWhole) (x1 : Vec F S1x128x512 .bf16) :
    kernelRun0_A.sl.r (F := F) c arg3 harg3 x1 = wOf x1 0 :=
  congrArg k0_pay72 (q_eq arg3 harg3 x1 0 ![0, 0, 0] _ rfl)
theorem w1_eq (c : Dev nD) (arg3 : Memref sig .tc .vmem S1x128x512 .bf16) (harg3 : arg3.IsWhole) (x1 : Vec F S1x128x512 .bf16) :
    kernelRun0_A.sl.r_1 (F := F) c arg3 harg3 x1 = wOf x1 1 :=
  congrArg k0_pay72 (q_eq arg3 harg3 x1 1 ![0, 0, 128] _ rfl)
theorem w2_eq (c : Dev nD) (arg3 : Memref sig .tc .vmem S1x128x512 .bf16) (harg3 : arg3.IsWhole) (x1 : Vec F S1x128x512 .bf16) :
    kernelRun0_A.sl.r_4 (F := F) c arg3 harg3 x1 = wOf x1 2 :=
  congrArg k0_pay72 (q_eq arg3 harg3 x1 2 ![0, 0, 256] _ rfl)
theorem w3_eq (c : Dev nD) (arg3 : Memref sig .tc .vmem S1x128x512 .bf16) (harg3 : arg3.IsWhole) (x1 : Vec F S1x128x512 .bf16) :
    kernelRun0_A.sl.r_5 (F := F) c arg3 harg3 x1 = wOf x1 3 :=
  congrArg k0_pay72 (q_eq arg3 harg3 x1 3 ![0, 0, 384] _ rfl)
set_option maxHeartbeats 1000000 in
theorem v91_eq (c : Dev nD) (i : grid0.Coords) (arg2 : Memref sig .tc .smem S1 .f32) (harg2 : arg2.IsWhole) (arg3 : Memref sig .tc .vmem S1x128x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S4x4x128x256 .f32) (harg6 : arg6.IsWhole) (arg7 : Memref sig .tc .vmem S1x128 .f32) (harg7 : arg7.IsWhole) (arg8 : Memref sig .tc .vmem S1x128x512 .bf16) (harg8 : arg8.IsWhole) (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole)
    (x0 : Vec F S1 .f32) (x1 : Vec F S1x128x512 .bf16) (x2 : Vec F S1x8192x512 .bf16) (x3 : Vec F S1x8192x512 .bf16) (x4 : Vec F S4x4x128x256 .f32) (x5 : Vec F S1x128 .f32) :
    kernelRun0_A.sl.v91 (F := F) c i arg2 harg2 arg3 harg3 arg4 harg4 arg5 harg5 arg6 harg6 arg7 harg7 arg8 harg8 arg9 harg9 arg10 harg10 arg11 harg11 x1 x2 x3 x4 = (endSt i x1 x2 x3 x4 0).2.2 := by
  unfold kernelRun0_A.sl.v91
  rw [show Scf.trips (k0_t2_loop i).lb (k0_t2_loop i).ub (k0_t2_loop i).st = 0 from trips2_eq i]
  rw [w0_eq, w1_eq, w2_eq, w3_eq]
  have L := (loop_eq Variants.none c none i arg2 harg2 arg3 harg3 arg4 harg4 arg5 harg5 arg6 harg6 arg7 harg7 arg8 harg8 arg9 harg9 arg10 harg10 arg11 harg11
    (kernelRun0_A.sl.v0 i) (kernelRun0_A.sl.v67 i) (256#32) (kernelRun0_A.sl.v68 i) (0#32) (harg4.unread x2) (harg5.unread x3) (harg6.unread x4) (wOf x1)
    (arg9.view.writes (Elt F) arg9.view.junk kernelRun0_A.sl.HS0_1)
    (arg10.view.writes (Elt F) arg10.view.junk kernelRun0_A.sl.HS1_1)
    (arg11.view.writes (Elt F) arg11.view.junk kernelRun0_A.sl.HS2_1)
    (kOf x2) (kOf x3) (tOf x4 (rb i).val)
    (fun k => ld4_eq arg4 harg4 x2 _ _ 0 k.val (trip_lt i k) (off1_eq i k)) (fun k => ld4_eq arg5 harg5 x3 _ _ 0 k.val (trip_lt i k) (off1_eq i k)) (fun k => ld6_eq arg6 harg6 x4 _ _ _ 0 k.val (off2_eq i k))
    (fun k => ld4_eq arg4 harg4 x2 _ _ 1 k.val (trip_lt i k) (off3_eq i k)) (fun k => ld4_eq arg5 harg5 x3 _ _ 1 k.val (trip_lt i k) (off3_eq i k)) (fun k => ld6_eq arg6 harg6 x4 _ _ _ 1 k.val (off4_eq i k))
    (fun k => ld4_eq arg4 harg4 x2 _ _ 2 k.val (trip_lt i k) (off5_eq i k)) (fun k => ld4_eq arg5 harg5 x3 _ _ 2 k.val (trip_lt i k) (off5_eq i k)) (fun k => ld6_eq arg6 harg6 x4 _ _ _ 2 k.val (off6_eq i k))
    (fun k => ld4_eq arg4 harg4 x2 _ _ 3 k.val (trip_lt i k) (off7_eq i k)) (fun k => ld4_eq arg5 harg5 x3 _ _ 3 k.val (trip_lt i k) (off7_eq i k)) (fun k => ld6_eq arg6 harg6 x4 _ _ _ 3 k.val (off8_eq i k))
    (fun h => sl9_fill _ _ _ _ _ (fun _ => rfl) h) (fun h => sl9_fill _ _ _ _ _ (fun _ => rfl) h) (fun h => sl9_fill _ _ _ _ _ (fun _ => rfl) h)
    (k0_t1_loop i).trips le_rfl) 0
  rw [← View.writes_append, ← View.writes_append, ← View.writes_append] at L
  exact L.2.2

set_option maxHeartbeats 1000000 in
theorem v93_eq (c : Dev nD) (i : grid0.Coords) (arg2 : Memref sig .tc .smem S1 .f32) (harg2 : arg2.IsWhole) (arg3 : Memref sig .tc .vmem S1x128x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S4x4x128x256 .f32) (harg6 : arg6.IsWhole) (arg7 : Memref sig .tc .vmem S1x128 .f32) (harg7 : arg7.IsWhole) (arg8 : Memref sig .tc .vmem S1x128x512 .bf16) (harg8 : arg8.IsWhole) (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole)
    (x0 : Vec F S1 .f32) (x1 : Vec F S1x128x512 .bf16) (x2 : Vec F S1x8192x512 .bf16) (x3 : Vec F S1x8192x512 .bf16) (x4 : Vec F S4x4x128x256 .f32) (x5 : Vec F S1x128 .f32) :
    kernelRun0_A.sl.v93 (F := F) c i arg2 harg2 arg3 harg3 arg4 harg4 arg5 harg5 arg6 harg6 arg7 harg7 arg8 harg8 arg9 harg9 arg10 harg10 arg11 harg11 x1 x2 x3 x4 = (endSt i x1 x2 x3 x4 0).2.1 := by
  unfold kernelRun0_A.sl.v93
  rw [show Scf.trips (k0_t2_loop i).lb (k0_t2_loop i).ub (k0_t2_loop i).st = 0 from trips2_eq i]
  rw [w0_eq, w1_eq, w2_eq, w3_eq]
  have L := (loop_eq Variants.none c none i arg2 harg2 arg3 harg3 arg4 harg4 arg5 harg5 arg6 harg6 arg7 harg7 arg8 harg8 arg9 harg9 arg10 harg10 arg11 harg11
    (kernelRun0_A.sl.v0 i) (kernelRun0_A.sl.v67 i) (256#32) (kernelRun0_A.sl.v68 i) (0#32) (harg4.unread x2) (harg5.unread x3) (harg6.unread x4) (wOf x1)
    (arg9.view.writes (Elt F) arg9.view.junk kernelRun0_A.sl.HS0_1)
    (arg10.view.writes (Elt F) arg10.view.junk kernelRun0_A.sl.HS1_1)
    (arg11.view.writes (Elt F) arg11.view.junk kernelRun0_A.sl.HS2_1)
    (kOf x2) (kOf x3) (tOf x4 (rb i).val)
    (fun k => ld4_eq arg4 harg4 x2 _ _ 0 k.val (trip_lt i k) (off1_eq i k)) (fun k => ld4_eq arg5 harg5 x3 _ _ 0 k.val (trip_lt i k) (off1_eq i k)) (fun k => ld6_eq arg6 harg6 x4 _ _ _ 0 k.val (off2_eq i k))
    (fun k => ld4_eq arg4 harg4 x2 _ _ 1 k.val (trip_lt i k) (off3_eq i k)) (fun k => ld4_eq arg5 harg5 x3 _ _ 1 k.val (trip_lt i k) (off3_eq i k)) (fun k => ld6_eq arg6 harg6 x4 _ _ _ 1 k.val (off4_eq i k))
    (fun k => ld4_eq arg4 harg4 x2 _ _ 2 k.val (trip_lt i k) (off5_eq i k)) (fun k => ld4_eq arg5 harg5 x3 _ _ 2 k.val (trip_lt i k) (off5_eq i k)) (fun k => ld6_eq arg6 harg6 x4 _ _ _ 2 k.val (off6_eq i k))
    (fun k => ld4_eq arg4 harg4 x2 _ _ 3 k.val (trip_lt i k) (off7_eq i k)) (fun k => ld4_eq arg5 harg5 x3 _ _ 3 k.val (trip_lt i k) (off7_eq i k)) (fun k => ld6_eq arg6 harg6 x4 _ _ _ 3 k.val (off8_eq i k))
    (fun h => sl9_fill _ _ _ _ _ (fun _ => rfl) h) (fun h => sl9_fill _ _ _ _ _ (fun _ => rfl) h) (fun h => sl9_fill _ _ _ _ _ (fun _ => rfl) h)
    (k0_t1_loop i).trips le_rfl) 0
  rw [← View.writes_append, ← View.writes_append, ← View.writes_append] at L
  exact L.2.1

set_option maxHeartbeats 1000000 in
theorem v117_eq (c : Dev nD) (i : grid0.Coords) (arg2 : Memref sig .tc .smem S1 .f32) (harg2 : arg2.IsWhole) (arg3 : Memref sig .tc .vmem S1x128x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S4x4x128x256 .f32) (harg6 : arg6.IsWhole) (arg7 : Memref sig .tc .vmem S1x128 .f32) (harg7 : arg7.IsWhole) (arg8 : Memref sig .tc .vmem S1x128x512 .bf16) (harg8 : arg8.IsWhole) (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole)
    (x0 : Vec F S1 .f32) (x1 : Vec F S1x128x512 .bf16) (x2 : Vec F S1x8192x512 .bf16) (x3 : Vec F S1x8192x512 .bf16) (x4 : Vec F S4x4x128x256 .f32) (x5 : Vec F S1x128 .f32) :
    kernelRun0_A.sl.v117 (F := F) c i arg2 harg2 arg3 harg3 arg4 harg4 arg5 harg5 arg6 harg6 arg7 harg7 arg8 harg8 arg9 harg9 arg10 harg10 arg11 harg11 x1 x2 x3 x4 = (endSt i x1 x2 x3 x4 1).2.2 := by
  unfold kernelRun0_A.sl.v117
  rw [show Scf.trips (k0_t2_loop i).lb (k0_t2_loop i).ub (k0_t2_loop i).st = 0 from trips2_eq i]
  rw [w0_eq, w1_eq, w2_eq, w3_eq]
  have L := (loop_eq Variants.none c none i arg2 harg2 arg3 harg3 arg4 harg4 arg5 harg5 arg6 harg6 arg7 harg7 arg8 harg8 arg9 harg9 arg10 harg10 arg11 harg11
    (kernelRun0_A.sl.v0 i) (kernelRun0_A.sl.v67 i) (256#32) (kernelRun0_A.sl.v68 i) (0#32) (harg4.unread x2) (harg5.unread x3) (harg6.unread x4) (wOf x1)
    (arg9.view.writes (Elt F) arg9.view.junk kernelRun0_A.sl.HS0_1)
    (arg10.view.writes (Elt F) arg10.view.junk kernelRun0_A.sl.HS1_1)
    (arg11.view.writes (Elt F) arg11.view.junk kernelRun0_A.sl.HS2_1)
    (kOf x2) (kOf x3) (tOf x4 (rb i).val)
    (fun k => ld4_eq arg4 harg4 x2 _ _ 0 k.val (trip_lt i k) (off1_eq i k)) (fun k => ld4_eq arg5 harg5 x3 _ _ 0 k.val (trip_lt i k) (off1_eq i k)) (fun k => ld6_eq arg6 harg6 x4 _ _ _ 0 k.val (off2_eq i k))
    (fun k => ld4_eq arg4 harg4 x2 _ _ 1 k.val (trip_lt i k) (off3_eq i k)) (fun k => ld4_eq arg5 harg5 x3 _ _ 1 k.val (trip_lt i k) (off3_eq i k)) (fun k => ld6_eq arg6 harg6 x4 _ _ _ 1 k.val (off4_eq i k))
    (fun k => ld4_eq arg4 harg4 x2 _ _ 2 k.val (trip_lt i k) (off5_eq i k)) (fun k => ld4_eq arg5 harg5 x3 _ _ 2 k.val (trip_lt i k) (off5_eq i k)) (fun k => ld6_eq arg6 harg6 x4 _ _ _ 2 k.val (off6_eq i k))
    (fun k => ld4_eq arg4 harg4 x2 _ _ 3 k.val (trip_lt i k) (off7_eq i k)) (fun k => ld4_eq arg5 harg5 x3 _ _ 3 k.val (trip_lt i k) (off7_eq i k)) (fun k => ld6_eq arg6 harg6 x4 _ _ _ 3 k.val (off8_eq i k))
    (fun h => sl9_fill _ _ _ _ _ (fun _ => rfl) h) (fun h => sl9_fill _ _ _ _ _ (fun _ => rfl) h) (fun h => sl9_fill _ _ _ _ _ (fun _ => rfl) h)
    (k0_t1_loop i).trips le_rfl) 1
  rw [← View.writes_append, ← View.writes_append, ← View.writes_append] at L
  exact L.2.2

set_option maxHeartbeats 1000000 in
theorem v119_eq (c : Dev nD) (i : grid0.Coords) (arg2 : Memref sig .tc .smem S1 .f32) (harg2 : arg2.IsWhole) (arg3 : Memref sig .tc .vmem S1x128x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S4x4x128x256 .f32) (harg6 : arg6.IsWhole) (arg7 : Memref sig .tc .vmem S1x128 .f32) (harg7 : arg7.IsWhole) (arg8 : Memref sig .tc .vmem S1x128x512 .bf16) (harg8 : arg8.IsWhole) (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole)
    (x0 : Vec F S1 .f32) (x1 : Vec F S1x128x512 .bf16) (x2 : Vec F S1x8192x512 .bf16) (x3 : Vec F S1x8192x512 .bf16) (x4 : Vec F S4x4x128x256 .f32) (x5 : Vec F S1x128 .f32) :
    kernelRun0_A.sl.v119 (F := F) c i arg2 harg2 arg3 harg3 arg4 harg4 arg5 harg5 arg6 harg6 arg7 harg7 arg8 harg8 arg9 harg9 arg10 harg10 arg11 harg11 x1 x2 x3 x4 = (endSt i x1 x2 x3 x4 1).2.1 := by
  unfold kernelRun0_A.sl.v119
  rw [show Scf.trips (k0_t2_loop i).lb (k0_t2_loop i).ub (k0_t2_loop i).st = 0 from trips2_eq i]
  rw [w0_eq, w1_eq, w2_eq, w3_eq]
  have L := (loop_eq Variants.none c none i arg2 harg2 arg3 harg3 arg4 harg4 arg5 harg5 arg6 harg6 arg7 harg7 arg8 harg8 arg9 harg9 arg10 harg10 arg11 harg11
    (kernelRun0_A.sl.v0 i) (kernelRun0_A.sl.v67 i) (256#32) (kernelRun0_A.sl.v68 i) (0#32) (harg4.unread x2) (harg5.unread x3) (harg6.unread x4) (wOf x1)
    (arg9.view.writes (Elt F) arg9.view.junk kernelRun0_A.sl.HS0_1)
    (arg10.view.writes (Elt F) arg10.view.junk kernelRun0_A.sl.HS1_1)
    (arg11.view.writes (Elt F) arg11.view.junk kernelRun0_A.sl.HS2_1)
    (kOf x2) (kOf x3) (tOf x4 (rb i).val)
    (fun k => ld4_eq arg4 harg4 x2 _ _ 0 k.val (trip_lt i k) (off1_eq i k)) (fun k => ld4_eq arg5 harg5 x3 _ _ 0 k.val (trip_lt i k) (off1_eq i k)) (fun k => ld6_eq arg6 harg6 x4 _ _ _ 0 k.val (off2_eq i k))
    (fun k => ld4_eq arg4 harg4 x2 _ _ 1 k.val (trip_lt i k) (off3_eq i k)) (fun k => ld4_eq arg5 harg5 x3 _ _ 1 k.val (trip_lt i k) (off3_eq i k)) (fun k => ld6_eq arg6 harg6 x4 _ _ _ 1 k.val (off4_eq i k))
    (fun k => ld4_eq arg4 harg4 x2 _ _ 2 k.val (trip_lt i k) (off5_eq i k)) (fun k => ld4_eq arg5 harg5 x3 _ _ 2 k.val (trip_lt i k) (off5_eq i k)) (fun k => ld6_eq arg6 harg6 x4 _ _ _ 2 k.val (off6_eq i k))
    (fun k => ld4_eq arg4 harg4 x2 _ _ 3 k.val (trip_lt i k) (off7_eq i k)) (fun k => ld4_eq arg5 harg5 x3 _ _ 3 k.val (trip_lt i k) (off7_eq i k)) (fun k => ld6_eq arg6 harg6 x4 _ _ _ 3 k.val (off8_eq i k))
    (fun h => sl9_fill _ _ _ _ _ (fun _ => rfl) h) (fun h => sl9_fill _ _ _ _ _ (fun _ => rfl) h) (fun h => sl9_fill _ _ _ _ _ (fun _ => rfl) h)
    (k0_t1_loop i).trips le_rfl) 1
  rw [← View.writes_append, ← View.writes_append, ← View.writes_append] at L
  exact L.2.1

set_option maxHeartbeats 1000000 in
theorem v143_eq (c : Dev nD) (i : grid0.Coords) (arg2 : Memref sig .tc .smem S1 .f32) (harg2 : arg2.IsWhole) (arg3 : Memref sig .tc .vmem S1x128x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S4x4x128x256 .f32) (harg6 : arg6.IsWhole) (arg7 : Memref sig .tc .vmem S1x128 .f32) (harg7 : arg7.IsWhole) (arg8 : Memref sig .tc .vmem S1x128x512 .bf16) (harg8 : arg8.IsWhole) (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole)
    (x0 : Vec F S1 .f32) (x1 : Vec F S1x128x512 .bf16) (x2 : Vec F S1x8192x512 .bf16) (x3 : Vec F S1x8192x512 .bf16) (x4 : Vec F S4x4x128x256 .f32) (x5 : Vec F S1x128 .f32) :
    kernelRun0_A.sl.v143 (F := F) c i arg2 harg2 arg3 harg3 arg4 harg4 arg5 harg5 arg6 harg6 arg7 harg7 arg8 harg8 arg9 harg9 arg10 harg10 arg11 harg11 x1 x2 x3 x4 = (endSt i x1 x2 x3 x4 2).2.2 := by
  unfold kernelRun0_A.sl.v143
  rw [show Scf.trips (k0_t2_loop i).lb (k0_t2_loop i).ub (k0_t2_loop i).st = 0 from trips2_eq i]
  rw [w0_eq, w1_eq, w2_eq, w3_eq]
  have L := (loop_eq Variants.none c none i arg2 harg2 arg3 harg3 arg4 harg4 arg5 harg5 arg6 harg6 arg7 harg7 arg8 harg8 arg9 harg9 arg10 harg10 arg11 harg11
    (kernelRun0_A.sl.v0 i) (kernelRun0_A.sl.v67 i) (256#32) (kernelRun0_A.sl.v68 i) (0#32) (harg4.unread x2) (harg5.unread x3) (harg6.unread x4) (wOf x1)
    (arg9.view.writes (Elt F) arg9.view.junk kernelRun0_A.sl.HS0_1)
    (arg10.view.writes (Elt F) arg10.view.junk kernelRun0_A.sl.HS1_1)
    (arg11.view.writes (Elt F) arg11.view.junk kernelRun0_A.sl.HS2_1)
    (kOf x2) (kOf x3) (tOf x4 (rb i).val)
    (fun k => ld4_eq arg4 harg4 x2 _ _ 0 k.val (trip_lt i k) (off1_eq i k)) (fun k => ld4_eq arg5 harg5 x3 _ _ 0 k.val (trip_lt i k) (off1_eq i k)) (fun k => ld6_eq arg6 harg6 x4 _ _ _ 0 k.val (off2_eq i k))
    (fun k => ld4_eq arg4 harg4 x2 _ _ 1 k.val (trip_lt i k) (off3_eq i k)) (fun k => ld4_eq arg5 harg5 x3 _ _ 1 k.val (trip_lt i k) (off3_eq i k)) (fun k => ld6_eq arg6 harg6 x4 _ _ _ 1 k.val (off4_eq i k))
    (fun k => ld4_eq arg4 harg4 x2 _ _ 2 k.val (trip_lt i k) (off5_eq i k)) (fun k => ld4_eq arg5 harg5 x3 _ _ 2 k.val (trip_lt i k) (off5_eq i k)) (fun k => ld6_eq arg6 harg6 x4 _ _ _ 2 k.val (off6_eq i k))
    (fun k => ld4_eq arg4 harg4 x2 _ _ 3 k.val (trip_lt i k) (off7_eq i k)) (fun k => ld4_eq arg5 harg5 x3 _ _ 3 k.val (trip_lt i k) (off7_eq i k)) (fun k => ld6_eq arg6 harg6 x4 _ _ _ 3 k.val (off8_eq i k))
    (fun h => sl9_fill _ _ _ _ _ (fun _ => rfl) h) (fun h => sl9_fill _ _ _ _ _ (fun _ => rfl) h) (fun h => sl9_fill _ _ _ _ _ (fun _ => rfl) h)
    (k0_t1_loop i).trips le_rfl) 2
  rw [← View.writes_append, ← View.writes_append, ← View.writes_append] at L
  exact L.2.2

set_option maxHeartbeats 1000000 in
theorem v145_eq (c : Dev nD) (i : grid0.Coords) (arg2 : Memref sig .tc .smem S1 .f32) (harg2 : arg2.IsWhole) (arg3 : Memref sig .tc .vmem S1x128x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S4x4x128x256 .f32) (harg6 : arg6.IsWhole) (arg7 : Memref sig .tc .vmem S1x128 .f32) (harg7 : arg7.IsWhole) (arg8 : Memref sig .tc .vmem S1x128x512 .bf16) (harg8 : arg8.IsWhole) (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole)
    (x0 : Vec F S1 .f32) (x1 : Vec F S1x128x512 .bf16) (x2 : Vec F S1x8192x512 .bf16) (x3 : Vec F S1x8192x512 .bf16) (x4 : Vec F S4x4x128x256 .f32) (x5 : Vec F S1x128 .f32) :
    kernelRun0_A.sl.v145 (F := F) c i arg2 harg2 arg3 harg3 arg4 harg4 arg5 harg5 arg6 harg6 arg7 harg7 arg8 harg8 arg9 harg9 arg10 harg10 arg11 harg11 x1 x2 x3 x4 = (endSt i x1 x2 x3 x4 2).2.1 := by
  unfold kernelRun0_A.sl.v145
  rw [show Scf.trips (k0_t2_loop i).lb (k0_t2_loop i).ub (k0_t2_loop i).st = 0 from trips2_eq i]
  rw [w0_eq, w1_eq, w2_eq, w3_eq]
  have L := (loop_eq Variants.none c none i arg2 harg2 arg3 harg3 arg4 harg4 arg5 harg5 arg6 harg6 arg7 harg7 arg8 harg8 arg9 harg9 arg10 harg10 arg11 harg11
    (kernelRun0_A.sl.v0 i) (kernelRun0_A.sl.v67 i) (256#32) (kernelRun0_A.sl.v68 i) (0#32) (harg4.unread x2) (harg5.unread x3) (harg6.unread x4) (wOf x1)
    (arg9.view.writes (Elt F) arg9.view.junk kernelRun0_A.sl.HS0_1)
    (arg10.view.writes (Elt F) arg10.view.junk kernelRun0_A.sl.HS1_1)
    (arg11.view.writes (Elt F) arg11.view.junk kernelRun0_A.sl.HS2_1)
    (kOf x2) (kOf x3) (tOf x4 (rb i).val)
    (fun k => ld4_eq arg4 harg4 x2 _ _ 0 k.val (trip_lt i k) (off1_eq i k)) (fun k => ld4_eq arg5 harg5 x3 _ _ 0 k.val (trip_lt i k) (off1_eq i k)) (fun k => ld6_eq arg6 harg6 x4 _ _ _ 0 k.val (off2_eq i k))
    (fun k => ld4_eq arg4 harg4 x2 _ _ 1 k.val (trip_lt i k) (off3_eq i k)) (fun k => ld4_eq arg5 harg5 x3 _ _ 1 k.val (trip_lt i k) (off3_eq i k)) (fun k => ld6_eq arg6 harg6 x4 _ _ _ 1 k.val (off4_eq i k))
    (fun k => ld4_eq arg4 harg4 x2 _ _ 2 k.val (trip_lt i k) (off5_eq i k)) (fun k => ld4_eq arg5 harg5 x3 _ _ 2 k.val (trip_lt i k) (off5_eq i k)) (fun k => ld6_eq arg6 harg6 x4 _ _ _ 2 k.val (off6_eq i k))
    (fun k => ld4_eq arg4 harg4 x2 _ _ 3 k.val (trip_lt i k) (off7_eq i k)) (fun k => ld4_eq arg5 harg5 x3 _ _ 3 k.val (trip_lt i k) (off7_eq i k)) (fun k => ld6_eq arg6 harg6 x4 _ _ _ 3 k.val (off8_eq i k))
    (fun h => sl9_fill _ _ _ _ _ (fun _ => rfl) h) (fun h => sl9_fill _ _ _ _ _ (fun _ => rfl) h) (fun h => sl9_fill _ _ _ _ _ (fun _ => rfl) h)
    (k0_t1_loop i).trips le_rfl) 2
  rw [← View.writes_append, ← View.writes_append, ← View.writes_append] at L
  exact L.2.1

set_option maxHeartbeats 1000000 in
theorem v169_eq (c : Dev nD) (i : grid0.Coords) (arg2 : Memref sig .tc .smem S1 .f32) (harg2 : arg2.IsWhole) (arg3 : Memref sig .tc .vmem S1x128x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S4x4x128x256 .f32) (harg6 : arg6.IsWhole) (arg7 : Memref sig .tc .vmem S1x128 .f32) (harg7 : arg7.IsWhole) (arg8 : Memref sig .tc .vmem S1x128x512 .bf16) (harg8 : arg8.IsWhole) (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole)
    (x0 : Vec F S1 .f32) (x1 : Vec F S1x128x512 .bf16) (x2 : Vec F S1x8192x512 .bf16) (x3 : Vec F S1x8192x512 .bf16) (x4 : Vec F S4x4x128x256 .f32) (x5 : Vec F S1x128 .f32) :
    kernelRun0_A.sl.v169 (F := F) c i arg2 harg2 arg3 harg3 arg4 harg4 arg5 harg5 arg6 harg6 arg7 harg7 arg8 harg8 arg9 harg9 arg10 harg10 arg11 harg11 x1 x2 x3 x4 = (endSt i x1 x2 x3 x4 3).2.2 := by
  unfold kernelRun0_A.sl.v169
  rw [show Scf.trips (k0_t2_loop i).lb (k0_t2_loop i).ub (k0_t2_loop i).st = 0 from trips2_eq i]
  rw [w0_eq, w1_eq, w2_eq, w3_eq]
  have L := (loop_eq Variants.none c none i arg2 harg2 arg3 harg3 arg4 harg4 arg5 harg5 arg6 harg6 arg7 harg7 arg8 harg8 arg9 harg9 arg10 harg10 arg11 harg11
    (kernelRun0_A.sl.v0 i) (kernelRun0_A.sl.v67 i) (256#32) (kernelRun0_A.sl.v68 i) (0#32) (harg4.unread x2) (harg5.unread x3) (harg6.unread x4) (wOf x1)
    (arg9.view.writes (Elt F) arg9.view.junk kernelRun0_A.sl.HS0_1)
    (arg10.view.writes (Elt F) arg10.view.junk kernelRun0_A.sl.HS1_1)
    (arg11.view.writes (Elt F) arg11.view.junk kernelRun0_A.sl.HS2_1)
    (kOf x2) (kOf x3) (tOf x4 (rb i).val)
    (fun k => ld4_eq arg4 harg4 x2 _ _ 0 k.val (trip_lt i k) (off1_eq i k)) (fun k => ld4_eq arg5 harg5 x3 _ _ 0 k.val (trip_lt i k) (off1_eq i k)) (fun k => ld6_eq arg6 harg6 x4 _ _ _ 0 k.val (off2_eq i k))
    (fun k => ld4_eq arg4 harg4 x2 _ _ 1 k.val (trip_lt i k) (off3_eq i k)) (fun k => ld4_eq arg5 harg5 x3 _ _ 1 k.val (trip_lt i k) (off3_eq i k)) (fun k => ld6_eq arg6 harg6 x4 _ _ _ 1 k.val (off4_eq i k))
    (fun k => ld4_eq arg4 harg4 x2 _ _ 2 k.val (trip_lt i k) (off5_eq i k)) (fun k => ld4_eq arg5 harg5 x3 _ _ 2 k.val (trip_lt i k) (off5_eq i k)) (fun k => ld6_eq arg6 harg6 x4 _ _ _ 2 k.val (off6_eq i k))
    (fun k => ld4_eq arg4 harg4 x2 _ _ 3 k.val (trip_lt i k) (off7_eq i k)) (fun k => ld4_eq arg5 harg5 x3 _ _ 3 k.val (trip_lt i k) (off7_eq i k)) (fun k => ld6_eq arg6 harg6 x4 _ _ _ 3 k.val (off8_eq i k))
    (fun h => sl9_fill _ _ _ _ _ (fun _ => rfl) h) (fun h => sl9_fill _ _ _ _ _ (fun _ => rfl) h) (fun h => sl9_fill _ _ _ _ _ (fun _ => rfl) h)
    (k0_t1_loop i).trips le_rfl) 3
  rw [← View.writes_append, ← View.writes_append, ← View.writes_append] at L
  exact L.2.2

set_option maxHeartbeats 1000000 in
theorem v171_eq (c : Dev nD) (i : grid0.Coords) (arg2 : Memref sig .tc .smem S1 .f32) (harg2 : arg2.IsWhole) (arg3 : Memref sig .tc .vmem S1x128x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S4x4x128x256 .f32) (harg6 : arg6.IsWhole) (arg7 : Memref sig .tc .vmem S1x128 .f32) (harg7 : arg7.IsWhole) (arg8 : Memref sig .tc .vmem S1x128x512 .bf16) (harg8 : arg8.IsWhole) (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole)
    (x0 : Vec F S1 .f32) (x1 : Vec F S1x128x512 .bf16) (x2 : Vec F S1x8192x512 .bf16) (x3 : Vec F S1x8192x512 .bf16) (x4 : Vec F S4x4x128x256 .f32) (x5 : Vec F S1x128 .f32) :
    kernelRun0_A.sl.v171 (F := F) c i arg2 harg2 arg3 harg3 arg4 harg4 arg5 harg5 arg6 harg6 arg7 harg7 arg8 harg8 arg9 harg9 arg10 harg10 arg11 harg11 x1 x2 x3 x4 = (endSt i x1 x2 x3 x4 3).2.1 := by
  unfold kernelRun0_A.sl.v171
  rw [show Scf.trips (k0_t2_loop i).lb (k0_t2_loop i).ub (k0_t2_loop i).st = 0 from trips2_eq i]
  rw [w0_eq, w1_eq, w2_eq, w3_eq]
  have L := (loop_eq Variants.none c none i arg2 harg2 arg3 harg3 arg4 harg4 arg5 harg5 arg6 harg6 arg7 harg7 arg8 harg8 arg9 harg9 arg10 harg10 arg11 harg11
    (kernelRun0_A.sl.v0 i) (kernelRun0_A.sl.v67 i) (256#32) (kernelRun0_A.sl.v68 i) (0#32) (harg4.unread x2) (harg5.unread x3) (harg6.unread x4) (wOf x1)
    (arg9.view.writes (Elt F) arg9.view.junk kernelRun0_A.sl.HS0_1)
    (arg10.view.writes (Elt F) arg10.view.junk kernelRun0_A.sl.HS1_1)
    (arg11.view.writes (Elt F) arg11.view.junk kernelRun0_A.sl.HS2_1)
    (kOf x2) (kOf x3) (tOf x4 (rb i).val)
    (fun k => ld4_eq arg4 harg4 x2 _ _ 0 k.val (trip_lt i k) (off1_eq i k)) (fun k => ld4_eq arg5 harg5 x3 _ _ 0 k.val (trip_lt i k) (off1_eq i k)) (fun k => ld6_eq arg6 harg6 x4 _ _ _ 0 k.val (off2_eq i k))
    (fun k => ld4_eq arg4 harg4 x2 _ _ 1 k.val (trip_lt i k) (off3_eq i k)) (fun k => ld4_eq arg5 harg5 x3 _ _ 1 k.val (trip_lt i k) (off3_eq i k)) (fun k => ld6_eq arg6 harg6 x4 _ _ _ 1 k.val (off4_eq i k))
    (fun k => ld4_eq arg4 harg4 x2 _ _ 2 k.val (trip_lt i k) (off5_eq i k)) (fun k => ld4_eq arg5 harg5 x3 _ _ 2 k.val (trip_lt i k) (off5_eq i k)) (fun k => ld6_eq arg6 harg6 x4 _ _ _ 2 k.val (off6_eq i k))
    (fun k => ld4_eq arg4 harg4 x2 _ _ 3 k.val (trip_lt i k) (off7_eq i k)) (fun k => ld4_eq arg5 harg5 x3 _ _ 3 k.val (trip_lt i k) (off7_eq i k)) (fun k => ld6_eq arg6 harg6 x4 _ _ _ 3 k.val (off8_eq i k))
    (fun h => sl9_fill _ _ _ _ _ (fun _ => rfl) h) (fun h => sl9_fill _ _ _ _ _ (fun _ => rfl) h) (fun h => sl9_fill _ _ _ _ _ (fun _ => rfl) h)
    (k0_t1_loop i).trips le_rfl) 3
  rw [← View.writes_append, ← View.writes_append, ← View.writes_append] at L
  exact L.2.1

theorem run_eq (c : Dev nD) (i : grid0.Coords) (arg2 : Memref sig .tc .smem S1 .f32) (harg2 : arg2.IsWhole) (arg3 : Memref sig .tc .vmem S1x128x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S4x4x128x256 .f32) (harg6 : arg6.IsWhole) (arg7 : Memref sig .tc .vmem S1x128 .f32) (harg7 : arg7.IsWhole) (arg8 : Memref sig .tc .vmem S1x128x512 .bf16) (harg8 : arg8.IsWhole) (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole)
    (x0 : Vec F S1 .f32) (x1 : Vec F S1x128x512 .bf16) (x2 : Vec F S1x8192x512 .bf16) (x3 : Vec F S1x8192x512 .bf16) (x4 : Vec F S4x4x128x256 .f32) (x5 : Vec F S1x128 .f32) :
    (kernelRun0_A (F := F) c i arg2 harg2 arg3 harg3 arg4 harg4 arg5 harg5 arg6 harg6 arg7 harg7 arg8 harg8 arg9 harg9 arg10 harg10 arg11 harg11 x0 x1 x2 x3 x4 x5).1 = [⟨Rect.unit ![0, 0, 0] ![1, 128, 512] inb_S1x128x512_S1x128x512_0_0_0,
      outV (x0 (ix1 ⟨0, by decide⟩)) x5 (fun h => (endSt i x1 x2 x3 x4 h).2.2) (fun h => (endSt i x1 x2 x3 x4 h).2.1)⟩] := by
  have e : (kernelRun0_A (F := F) c i arg2 harg2 arg3 harg3 arg4 harg4 arg5 harg5 arg6 harg6 arg7 harg7 arg8 harg8 arg9 harg9 arg10 harg10 arg11 harg11 x0 x1 x2 x3 x4 x5).1 = [⟨Rect.unit ![0, 0, 0] ![1, 128, 512] inb_S1x128x512_S1x128x512_0_0_0,
      shapeCast S1x128x512 (truncf .bf16 (concatenate S128x512 1 [⟨S128x128, fin1 (kernelRun0_A.sl.r_6 (F := F) c arg2 harg2 x0) (arg7.view.readAt (Elt F) (Rect.unit (s := S1x128) ![0, 0] S1x128.size inb_S1x128_S1x128_0_0).toLoadRect (harg7.unread x5)) (kernelRun0_A.sl.v91 (F := F) c i arg2 harg2 arg3 harg3 arg4 harg4 arg5 harg5 arg6 harg6 arg7 harg7 arg8 harg8 arg9 harg9 arg10 harg10 arg11 harg11 x1 x2 x3 x4) (kernelRun0_A.sl.v93 (F := F) c i arg2 harg2 arg3 harg3 arg4 harg4 arg5 harg5 arg6 harg6 arg7 harg7 arg8 harg8 arg9 harg9 arg10 harg10 arg11 harg11 x1 x2 x3 x4)⟩, ⟨S128x128, fin1 (kernelRun0_A.sl.r_6 (F := F) c arg2 harg2 x0) (arg7.view.readAt (Elt F) (Rect.unit (s := S1x128) ![0, 0] S1x128.size inb_S1x128_S1x128_0_0).toLoadRect (harg7.unread x5)) (kernelRun0_A.sl.v117 (F := F) c i arg2 harg2 arg3 harg3 arg4 harg4 arg5 harg5 arg6 harg6 arg7 harg7 arg8 harg8 arg9 harg9 arg10 harg10 arg11 harg11 x1 x2 x3 x4) (kernelRun0_A.sl.v119 (F := F) c i arg2 harg2 arg3 harg3 arg4 harg4 arg5 harg5 arg6 harg6 arg7 harg7 arg8 harg8 arg9 harg9 arg10 harg10 arg11 harg11 x1 x2 x3 x4)⟩, ⟨S128x128, fin1 (kernelRun0_A.sl.r_6 (F := F) c arg2 harg2 x0) (arg7.view.readAt (Elt F) (Rect.unit (s := S1x128) ![0, 0] S1x128.size inb_S1x128_S1x128_0_0).toLoadRect (harg7.unread x5)) (kernelRun0_A.sl.v143 (F := F) c i arg2 harg2 arg3 harg3 arg4 harg4 arg5 harg5 arg6 harg6 arg7 harg7 arg8 harg8 arg9 harg9 arg10 harg10 arg11 harg11 x1 x2 x3 x4) (kernelRun0_A.sl.v145 (F := F) c i arg2 harg2 arg3 harg3 arg4 harg4 arg5 harg5 arg6 harg6 arg7 harg7 arg8 harg8 arg9 harg9 arg10 harg10 arg11 harg11 x1 x2 x3 x4)⟩, ⟨S128x128, fin1 (kernelRun0_A.sl.r_6 (F := F) c arg2 harg2 x0) (arg7.view.readAt (Elt F) (Rect.unit (s := S1x128) ![0, 0] S1x128.size inb_S1x128_S1x128_0_0).toLoadRect (harg7.unread x5)) (kernelRun0_A.sl.v169 (F := F) c i arg2 harg2 arg3 harg3 arg4 harg4 arg5 harg5 arg6 harg6 arg7 harg7 arg8 harg8 arg9 harg9 arg10 harg10 arg11 harg11 x1 x2 x3 x4) (kernelRun0_A.sl.v171 (F := F) c i arg2 harg2 arg3 harg3 arg4 harg4 arg5 harg5 arg6 harg6 arg7 harg7 arg8 harg8 arg9 harg9 arg10 harg10 arg11 harg11 x1 x2 x3 x4)⟩]
        concatenates_S128x128_S128x128_S128x128_S128x128_S128x512_d1) bitsLt_bf16_f32) shapeCasts_S128x512_S1x128x512⟩] := by
    unfold kernelRun0_A
    rfl
  have hd : (arg7.view.readAt (Elt F) (Rect.unit (s := S1x128) ![0, 0] S1x128.size inb_S1x128_S1x128_0_0).toLoadRect (harg7.unread x5) : Vec F S1x128 .f32) = x5 := by
    rw [View.readAt_full]; exact harg7.read_unread x5
  have hl : kernelRun0_A.sl.r_6 (F := F) c arg2 harg2 x0 = x0 (ix1 ⟨0, by decide⟩) := by
    refine congrFun (harg2.read_unread x0) _ |>.trans (congrArg x0 (funext fun d => Fin.ext ?_))
    fin_cases d
    rfl
  rw [e, hd, hl, v91_eq c i arg2 harg2 arg3 harg3 arg4 harg4 arg5 harg5 arg6 harg6 arg7 harg7 arg8 harg8 arg9 harg9 arg10 harg10 arg11 harg11 x0 x1 x2 x3 x4 x5, v93_eq c i arg2 harg2 arg3 harg3 arg4 harg4 arg5 harg5 arg6 harg6 arg7 harg7 arg8 harg8 arg9 harg9 arg10 harg10 arg11 harg11 x0 x1 x2 x3 x4 x5, v117_eq c i arg2 harg2 arg3 harg3 arg4 harg4 arg5 harg5 arg6 harg6 arg7 harg7 arg8 harg8 arg9 harg9 arg10 harg10 arg11 harg11 x0 x1 x2 x3 x4 x5, v119_eq c i arg2 harg2 arg3 harg3 arg4 harg4 arg5 harg5 arg6 harg6 arg7 harg7 arg8 harg8 arg9 harg9 arg10 harg10 arg11 harg11 x0 x1 x2 x3 x4 x5, v143_eq c i arg2 harg2 arg3 harg3 arg4 harg4 arg5 harg5 arg6 harg6 arg7 harg7 arg8 harg8 arg9 harg9 arg10 harg10 arg11 harg11 x0 x1 x2 x3 x4 x5, v145_eq c i arg2 harg2 arg3 harg3 arg4 harg4 arg5 harg5 arg6 harg6 arg7 harg7 arg8 harg8 arg9 harg9 arg10 harg10 arg11 harg11 x0 x1 x2 x3 x4 x5, v169_eq c i arg2 harg2 arg3 harg3 arg4 harg4 arg5 harg5 arg6 harg6 arg7 harg7 arg8 harg8 arg9 harg9 arg10 harg10 arg11 harg11 x0 x1 x2 x3 x4 x5, v171_eq c i arg2 harg2 arg3 harg3 arg4 harg4 arg5 harg5 arg6 harg6 arg7 harg7 arg8 harg8 arg9 harg9 arg10 harg10 arg11 harg11 x0 x1 x2 x3 x4 x5]
  rfl

theorem out_eq (c : Dev nD) (i : grid0.Coords) (arg2 : Memref sig .tc .smem S1 .f32) (harg2 : arg2.IsWhole) (arg3 : Memref sig .tc .vmem S1x128x512 .bf16) (harg3 : arg3.IsWhole) (arg4 : Memref sig .tc .vmem S1x8192x512 .bf16) (harg4 : arg4.IsWhole) (arg5 : Memref sig .tc .vmem S1x8192x512 .bf16) (harg5 : arg5.IsWhole) (arg6 : Memref sig .tc .vmem S4x4x128x256 .f32) (harg6 : arg6.IsWhole) (arg7 : Memref sig .tc .vmem S1x128 .f32) (harg7 : arg7.IsWhole) (arg8 : Memref sig .tc .vmem S1x128x512 .bf16) (harg8 : arg8.IsWhole) (arg9 : Memref sig .tc .vmem S4x256x128 .f32) (harg9 : arg9.IsWhole) (arg10 : Memref sig .tc .vmem S4x256x128 .f32) (harg10 : arg10.IsWhole) (arg11 : Memref sig .tc .vmem S4x256x128 .f32) (harg11 : arg11.IsWhole)
    (x0 : Vec F S1 .f32) (x1 : Vec F S1x128x512 .bf16) (x2 : Vec F S1x8192x512 .bf16) (x3 : Vec F S1x8192x512 .bf16) (x4 : Vec F S4x4x128x256 .f32) (x5 : Vec F S1x128 .f32) :
    out0_A_6 (F := F) c i arg2 harg2 arg3 harg3 arg4 harg4 arg5 harg5 arg6 harg6 arg7 harg7 arg8 harg8 arg9 harg9 arg10 harg10 arg11 harg11 x0 x1 x2 x3 x4 x5 = outV (x0 (ix1 ⟨0, by decide⟩)) x5 (fun h => (endSt i x1 x2 x3 x4 h).2.2) (fun h => (endSt i x1 x2 x3 x4 h).2.1) := by
  unfold out0_A_6
  rw [run_eq]
  exact View.read_writes_full _ _ _ _ _
end Cert.Diff
-- ==== Proof.Diff.Soft.lean ====
/- The softmax average of a row, and the running form of it over tiles of keys. -/
module

public import Idealize.ShloMosaic.Lib.Pointwise
public import Idealize.ShloMosaic.PureOps

@[expose] public section
noncomputable section
namespace Cert.Diff
open Idealize.ShloMosaic

/-- The exponential of a logit; zero for one masked out. -/
def ex (x : EReal) : ℝ := if x = ⊥ then 0 else Real.exp x.toReal

theorem ex_nonneg (x : EReal) : 0 ≤ ex x := by unfold ex; split; exact le_rfl; exact (Real.exp_pos _).le
theorem ex_pos {x : EReal} (h : x ≠ ⊥) : 0 < ex x := by unfold ex; rw [if_neg h]; exact Real.exp_pos _
@[simp] theorem ex_bot : ex ⊥ = 0 := if_pos rfl

theorem exp_sub_coe (x : EReal) (h : x ≠ ⊤) (M : ℝ) : Ideal.exp (x - (M : EReal)) = ((Real.exp (-M) * ex x : ℝ) : EReal) := by
  induction x with
  | bot => simp [sub_eq_add_neg]
  | top => exact absurd rfl h
  | coe r =>
    rw [← EReal.coe_sub, Ideal.exp_coe, ex, if_neg (EReal.coe_ne_bot r), EReal.toReal_coe, ← Real.exp_add]
    congr 2; ring

theorem coe_fsum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fold_max_ne_top {ι : Type} (s : Finset ι) (f : ι → EReal) (h : ∀ i ∈ s, f i ≠ ⊤) : s.fold max ⊥ f ≠ ⊤ := by
  classical
  induction s using Finset.induction_on with
  | empty => simp
  | insert a s ha ih =>
    rw [Finset.fold_insert ha]
    have h1 := h a (Finset.mem_insert_self a s)
    have h2 := ih fun i hi => h i (Finset.mem_insert_of_mem hi)
    rcases max_choice (f a) (s.fold max ⊥ f) with e | e <;> rw [e] <;> assumption

theorem le_fold_max {ι : Type} (s : Finset ι) (f : ι → EReal) (i : ι) (hi : i ∈ s) : f i ≤ s.fold max ⊥ f :=
  (Finset.le_fold_max _).2 (Or.inr ⟨i, hi, le_rfl⟩)

theorem exists_real {x : EReal} (h1 : x ≠ ⊤) (h2 : x ≠ ⊥) : ∃ r : ℝ, x = (r : EReal) := ⟨x.toReal, (EReal.coe_toReal h1 h2).symm⟩

/-- The running state after the first `n` keys of a row: a real reference point, and the sums scaled by it. -/
def Inv (s : ℕ → EReal) (v : ℕ → ℝ) (n : ℕ) (m l a : EReal) : Prop :=
  ∃ M : ℝ, m = (M : EReal) ∧ l = ((Real.exp (-M) * ∑ j ∈ Finset.range n, ex (s j) : ℝ) : EReal)
    ∧ a = ((Real.exp (-M) * ∑ j ∈ Finset.range n, ex (s j) * v j : ℝ) : EReal)

theorem tile_sums (f : ℕ → ℝ) (n : ℕ) :
    ∑ j ∈ Finset.range (n + 256), f j = ∑ j ∈ Finset.range n, f j + ((∑ x : Fin 128, f (n + x.val)) + ∑ x : Fin 128, f (n + (128 + x.val))) := by
  rw [Finset.sum_range_add f n 256]
  congr 1
  rw [show (256 : ℕ) = 128 + 128 from rfl, Finset.sum_range_add (fun x => f (n + x)) 128 128,
    ← Fin.sum_univ_eq_sum_range (fun x => f (n + x)) 128, ← Fin.sum_univ_eq_sum_range (fun x => f (n + (128 + x))) 128]

/-- One tile's step of the running state. -/
theorem inv_step (s : ℕ → EReal) (v : ℕ → ℝ) (n : ℕ) (m l a m' : EReal) (hs : ∀ j, s j ≠ ⊤)
    (h0 : Inv s v n m l a) (M' : ℝ) (hm' : m' = (M' : EReal)) :
    Inv s v (n + 256) m'
      (Ideal.exp (m - m') * l + ((∑ x : Fin 128, Ideal.exp (s (n + x.val) - m')) + ∑ x : Fin 128, Ideal.exp (s (n + (128 + x.val)) - m')))
      (Ideal.exp (m - m') * a + ((∑ x : Fin 128, Ideal.exp (s (n + x.val) - m') * (v (n + x.val) : EReal))
        + ∑ x : Fin 128, Ideal.exp (s (n + (128 + x.val)) - m') * (v (n + (128 + x.val)) : EReal))) := by
  subst hm'
  refine ⟨M', rfl, ?_, ?_⟩
  · rw [tile_sums]
    simp only [exp_sub_coe _ (hs _)]
    rw [← coe_fsum, ← coe_fsum, ← EReal.coe_add, ← Finset.mul_sum, ← Finset.mul_sum]
    have key : Ideal.exp (m - (M' : EReal)) * l = ((Real.exp (-M') * ∑ j ∈ Finset.range n, ex (s j) : ℝ) : EReal) := by
      obtain ⟨M, rfl, rfl, -⟩ := h0
      rw [← EReal.coe_sub, Ideal.exp_coe, ← EReal.coe_mul, ← mul_assoc, ← Real.exp_add]
      congr 3; ring
    rw [key, ← EReal.coe_add]
    congr 1; ring
  · rw [tile_sums]
    simp only [exp_sub_coe _ (hs _), ← EReal.coe_mul, mul_assoc]
    rw [← coe_fsum, ← coe_fsum, ← EReal.coe_add, ← Finset.mul_sum, ← Finset.mul_sum]
    have key : Ideal.exp (m - (M' : EReal)) * a = ((Real.exp (-M') * ∑ j ∈ Finset.range n, ex (s j) * v j : ℝ) : EReal) := by
      obtain ⟨M, rfl, -, rfl⟩ := h0
      rw [← EReal.coe_sub, Ideal.exp_coe, ← EReal.coe_mul, ← mul_assoc, ← Real.exp_add]
      congr 3; ring
    rw [key, ← EReal.coe_add]
    congr 1; ring

/-- The softmax average over the first `n` keys. -/
def soft (s : ℕ → EReal) (v : ℕ → ℝ) (n : ℕ) : ℝ :=
  (∑ j ∈ Finset.range n, ex (s j) * v j) / ∑ j ∈ Finset.range n, ex (s j)

theorem sum_ex_pos (s : ℕ → EReal) (n : ℕ) (hn : 0 < n) (h0 : s 0 ≠ ⊥) : 0 < ∑ j ∈ Finset.range n, ex (s j) :=
  lt_of_lt_of_le (ex_pos h0) (Finset.single_le_sum (f := fun j => ex (s j)) (fun j _ => ex_nonneg _) (Finset.mem_range.2 hn))

/-- The state's quotient is the average. -/
theorem inv_quot (s : ℕ → EReal) (v : ℕ → ℝ) (n : ℕ) (m l a : EReal) (hn : 0 < n) (h0 : s 0 ≠ ⊥) (h : Inv s v n m l a) :
    Ideal.div a l = ((soft s v n : ℝ) : EReal) := by
  obtain ⟨M, -, rfl, rfl⟩ := h
  have hp := sum_ex_pos s n hn h0
  have hne : Real.exp (-M) * ∑ j ∈ Finset.range n, ex (s j) ≠ 0 := (mul_pos (Real.exp_pos _) hp).ne'
  rw [Ideal.div_coe hne, ← EReal.coe_mul, mul_one_div, soft, mul_div_mul_left _ _ (Real.exp_pos _).ne']

theorem range_le_sum (f : ℕ → ℝ) (n N : ℕ) (h : n ≤ N) (hz : ∀ j, n ≤ j → j < N → f j = 0) :
    ∑ j ∈ Finset.range N, f j = ∑ j ∈ Finset.range n, f j := by
  symm
  refine Finset.sum_subset (fun x hx => Finset.mem_range.2 (lt_of_lt_of_le (Finset.mem_range.1 hx) h)) fun x hx hnx => hz x ?_ (Finset.mem_range.1 hx)
  exact not_lt.1 fun hlt => hnx (Finset.mem_range.2 hlt)

/-- Keys masked out past `n` do not count. -/
theorem soft_le (s : ℕ → EReal) (v : ℕ → ℝ) (n N : ℕ) (h : n ≤ N) (hz : ∀ j, n ≤ j → j < N → s j = ⊥) : soft s v N = soft s v n := by
  unfold soft
  rw [range_le_sum _ n N h fun j h1 h2 => by rw [hz j h1 h2, ex_bot, zero_mul], range_le_sum _ n N h fun j h1 h2 => by rw [hz j h1 h2, ex_bot]]

end Cert.Diff
-- ==== Proof.Diff.Step.lean ====
/- One tile's step of a head's accumulators, entry by entry, and what the loop leaves in them. -/
module
public import proofs.«01_k».proof.Proof.Diff.Out
public import proofs.«01_k».proof.Proof.Diff.Soft
public import Idealize.ShloMosaic.Lib.Pointwise
@[expose] public section
noncomputable section
namespace Cert.Diff
open Cert.Kernel4Ideal Cert.Kernel4Ideal.Gen
open Idealize.ShloMosaic Idealize.ShloMosaic.TcCoe

/-- One logit: the scaled query row against the key, with its bias. -/
theorem lg_at (w : FVec Ideal S256x128 .bf16) (kb : Vec Ideal S1x256x128 .bf16) (tb : Vec Ideal S1x1x128x256 .f32) (r j : Fin 256) :
    k0_pay3 (F := Ideal) w kb tb (ix2 r j) = (∑ x : Fin 128, w (ix2 r x) * kb (ix3 (0 : Fin 1) j x))
      + tb (ix4 (0 : Fin 1) (0 : Fin 1) (⟨r.val % 128, Nat.mod_lt _ (by decide)⟩ : Fin 128) j) := by
  pointwise [k0_pay3]
  congr 1
  split
  · congr 2; ext; show r.val = r.val % 128; omega
  · congr 2; ext; show r.val - 128 = r.val % 128; omega

theorem neg_inf_lit : Ideal.ofBits FTy.f32 4286578688#32 = ⊥ := by
  simp [Ideal.ofBits, Ideal.ieee]

/-- The running maximum starts at a real number. -/
theorem start_real : ∃ M : ℝ, Ideal.ofBits FTy.f32 0xF149F2CA#32 = (M : EReal) :=
  ⟨_, by simp [Ideal.ofBits, Ideal.ieee, ← EReal.coe_mul, ← EReal.coe_neg]; rfl⟩

theorem mx_at (w : FVec Ideal S256x128 .bf16) (kb : Vec Ideal S1x256x128 .bf16) (tb : Vec Ideal S1x1x128x256 .f32) (r : Fin 256) (c : Fin 128) :
    k0_pay5 (F := Ideal) w kb tb (ix2 r c) = Finset.fold max ⊥ (fun x : Fin 256 => k0_pay3 (F := Ideal) w kb tb (ix2 r x)) Finset.univ := by
  pointwise [k0_pay5]
  rw [neg_inf_lit]
theorem nm_at (w : FVec Ideal S256x128 .bf16) (kb : Vec Ideal S1x256x128 .bf16) (tb : Vec Ideal S1x1x128x256 .f32) (mo : Vec Ideal S1x256x128 .f32) (r : Fin 256) (c : Fin 128) :
    newM (F := Ideal) w kb tb mo (ix3 (0 : Fin 1) r c) = max (mo (ix3 (0 : Fin 1) r c)) (k0_pay5 (F := Ideal) w kb tb (ix2 r c)) := by
  pointwise [newM, k0_pay11, k0_pay6, k0_pay4]
theorem old_at (mo : Vec Ideal S1x256x128 .f32) (r : Fin 256) (c : Fin 128) : k0_pay4 (F := Ideal) mo (ix2 r c) = mo (ix3 (0 : Fin 1) r c) := by
  pointwise [k0_pay4]
theorem nl_at (s : FVec Ideal S256x256 .f32) (a b : FVec Ideal S256x128 .f32) (lo : Vec Ideal S1x256x128 .f32) (r : Fin 256) (c : Fin 128) :
    k0_pay9 (F := Ideal) s a b lo (ix3 (0 : Fin 1) r c)
      = Ideal.exp (a (ix2 r c) - max (a (ix2 r c)) (b (ix2 r c))) * lo (ix3 (0 : Fin 1) r c)
        + ((∑ x : Fin 128, Ideal.exp (s (ix2 r (⟨x.val, by omega⟩ : Fin 256)) - max (a (ix2 r x)) (b (ix2 r x))))
          + ∑ x : Fin 128, Ideal.exp (s (ix2 r (⟨128 + x.val, by omega⟩ : Fin 256)) - max (a (ix2 r x)) (b (ix2 r x)))) := by
  pointwise [k0_pay9, k0_pay7, k0_pay6, k0_pay8]
theorem na_at (v : Vec Ideal S1x256x128 .bf16) (s : FVec Ideal S256x256 .f32) (a b : FVec Ideal S256x128 .f32) (lo : Vec Ideal S1x256x128 .f32) (r : Fin 256) (c : Fin 128) :
    k0_pay10 (F := Ideal) (k0_pay2 v) s a b lo (ix3 (0 : Fin 1) r c)
      = Ideal.exp (a (ix2 r c) - max (a (ix2 r c)) (b (ix2 r c))) * lo (ix3 (0 : Fin 1) r c)
        + ((∑ x : Fin 128, Ideal.exp (s (ix2 r (⟨x.val, by omega⟩ : Fin 256)) - max (a (ix2 r x)) (b (ix2 r x))) * v (ix3 (0 : Fin 1) (⟨x.val, by omega⟩ : Fin 256) c))
          + ∑ x : Fin 128, Ideal.exp (s (ix2 r (⟨128 + x.val, by omega⟩ : Fin 256)) - max (a (ix2 r x)) (b (ix2 r x))) * v (ix3 (0 : Fin 1) (⟨128 + x.val, by omega⟩ : Fin 256) c)) := by
  pointwise [k0_pay10, k0_pay7, k0_pay6, k0_pay8, k0_pay2]

section Loop
variable (w : FVec Ideal S256x128 .bf16) (kb vb : ℕ → Vec Ideal S1x256x128 .bf16) (tb : ℕ → Vec Ideal S1x1x128x256 .f32)
  (r : Fin 256) (s : ℕ → EReal) (v : Fin 128 → ℕ → ℝ)

/-- What a row's accumulators hold after some tiles. -/
def RowInv (n : ℕ) (t : Vec Ideal S1x256x128 .f32 × Vec Ideal S1x256x128 .f32 × Vec Ideal S1x256x128 .f32) : Prop :=
  ∃ m : EReal, (∀ c : Fin 128, t.1 (ix3 (0 : Fin 1) r c) = m)
    ∧ ∀ c : Fin 128, Inv s (v c) (256 * n) m (t.2.1 (ix3 (0 : Fin 1) r c)) (t.2.2 (ix3 (0 : Fin 1) r c))

theorem rowInv_st (N : ℕ) (hs : ∀ j, s j ≠ ⊤) (h0 : s 0 ≠ ⊥)
    (hlg : ∀ k < N, ∀ j : Fin 256, k0_pay3 (F := Ideal) w (kb k) (tb k) (ix2 r j) = s (256 * k + j.val))
    (hv : ∀ k < N, ∀ (j : Fin 256) (c : Fin 128), vb k (ix3 (0 : Fin 1) j c) = ((v c (256 * k + j.val) : ℝ) : EReal)) :
    ∀ n ≤ N, RowInv r s v n (st (F := Ideal) w kb vb tb n) := by
  intro n
  induction n with
  | zero =>
    intro _
    obtain ⟨M, hM⟩ := start_real
    refine ⟨(M : EReal), fun c => ?_, fun c => ⟨M, rfl, ?_, ?_⟩⟩
    · show Ideal.ofBits .f32 0xF149F2CA#32 = _
      exact hM
    · show Ideal.ofBits .f32 0#32 = _
      rw [Ideal.ofBits_zero]; simp
    · show Ideal.ofBits .f32 0#32 = _
      rw [Ideal.ofBits_zero]; simp
  | succ n ih =>
    intro hn
    obtain ⟨m, hM, hI⟩ := ih (by omega)
    have hn' : n < N := by omega
    set o := st (F := Ideal) w kb vb tb n with ho
    have hst : st (F := Ideal) w kb vb tb (n + 1) = (newM w (kb n) (tb n) o.1, newL w (kb n) (tb n) o.1 o.2.1, newA w (kb n) (vb n) (tb n) o.1 o.2.2) := rfl
    rw [hst]
    have hmx : ∀ c : Fin 128, k0_pay5 (F := Ideal) w (kb n) (tb n) (ix2 r c) = Finset.fold max ⊥ (fun x : Fin 256 => s (256 * n + x.val)) Finset.univ := by
      intro c
      rw [mx_at]
      simp only [hlg n hn']
    set T := Finset.fold max ⊥ (fun x : Fin 256 => s (256 * n + x.val)) Finset.univ with hT
    have hT1 : T ≠ ⊤ := fold_max_ne_top _ _ fun i _ => hs _
    have hm1 : m ≠ ⊤ ∧ m ≠ ⊥ := by
      obtain ⟨M, h1, -, -⟩ := hI 0
      exact ⟨h1 ▸ EReal.coe_ne_top M, h1 ▸ EReal.coe_ne_bot M⟩
    have hb : max m T ≠ ⊥ := fun h => hm1.2 (le_bot_iff.1 (h ▸ le_max_left m T))
    have ht : max m T ≠ ⊤ := by rcases max_choice m T with e | e <;> rw [e]; exact hm1.1; exact hT1
    obtain ⟨M', hM'⟩ := exists_real ht hb
    refine ⟨max m T, fun c => ?_, fun c => ?_⟩
    · show newM (F := Ideal) w (kb n) (tb n) o.1 (ix3 (0 : Fin 1) r c) = _
      rw [nm_at, hM, hmx]
    · have hstep := inv_step s (v c) (256 * n) m (o.2.1 (ix3 (0 : Fin 1) r c)) (o.2.2 (ix3 (0 : Fin 1) r c)) (max m T) hs (hI c) M' hM'
      have e1 : newL (F := Ideal) w (kb n) (tb n) o.1 o.2.1 (ix3 (0 : Fin 1) r c)
          = Ideal.exp (m - max m T) * o.2.1 (ix3 (0 : Fin 1) r c) + ((∑ x : Fin 128, Ideal.exp (s (256 * n + x.val) - max m T)) + ∑ x : Fin 128, Ideal.exp (s (256 * n + (128 + x.val)) - max m T)) := by
        unfold newL
        rw [nl_at]
        simp only [old_at, hM, hmx, hlg n hn']
      have e2 : newA (F := Ideal) w (kb n) (vb n) (tb n) o.1 o.2.2 (ix3 (0 : Fin 1) r c)
          = Ideal.exp (m - max m T) * o.2.2 (ix3 (0 : Fin 1) r c) + ((∑ x : Fin 128, Ideal.exp (s (256 * n + x.val) - max m T) * (v c (256 * n + x.val) : EReal))
            + ∑ x : Fin 128, Ideal.exp (s (256 * n + (128 + x.val)) - max m T) * (v c (256 * n + (128 + x.val)) : EReal)) := by
        unfold newA
        rw [na_at]
        simp only [old_at, hM, hmx, hlg n hn', hv n hn']
      show Inv s (v c) (256 * (n + 1)) (max m T) (newL (F := Ideal) w (kb n) (tb n) o.1 o.2.1 (ix3 (0 : Fin 1) r c)) (newA (F := Ideal) w (kb n) (vb n) (tb n) o.1 o.2.2 (ix3 (0 : Fin 1) r c))
      rw [e1, e2]
      exact hstep

/-- The quotient of the accumulators at the end of the loop is the softmax average. -/
theorem quot_st (N : ℕ) (hN : 0 < N) (hs : ∀ j, s j ≠ ⊤) (h0 : s 0 ≠ ⊥)
    (hlg : ∀ k < N, ∀ j : Fin 256, k0_pay3 (F := Ideal) w (kb k) (tb k) (ix2 r j) = s (256 * k + j.val))
    (hv : ∀ k < N, ∀ (j : Fin 256) (c : Fin 128), vb k (ix3 (0 : Fin 1) j c) = ((v c (256 * k + j.val) : ℝ) : EReal)) (c : Fin 128) :
    Ideal.div ((st (F := Ideal) w kb vb tb N).2.2 (ix3 (0 : Fin 1) r c)) ((st (F := Ideal) w kb vb tb N).2.1 (ix3 (0 : Fin 1) r c))
      = ((soft s (v c) (256 * N) : ℝ) : EReal) := by
  obtain ⟨m, hM, hI⟩ := rowInv_st w kb vb tb r s v N hs h0 hlg hv N le_rfl
  exact inv_quot s (v c) (256 * N) _ _ _ (by omega) h0 (hI c)
end Loop
end Cert.Diff
-- ==== Proof.Diff.Spec.lean ====
/- The differential attention, entry by entry. -/
module

public import proofs.«01_k».proof.Proof.Diff.Soft
public import proofs.«01_k».proof.Proof.Diff.Bucket
public import proofs.«01_k».proof.Proof.Moe.Finite

@[expose] public section
noncomputable section
namespace Cert.Diff
open Idealize.ShloMosaic
open Cert.Moe (Fine fine_sum)

theorem Fine.ne_top {x : EReal} (h : Fine x) : x ≠ ⊤ := by obtain ⟨r, rfl⟩ := h; exact EReal.coe_ne_top r
theorem Fine.ne_bot {x : EReal} (h : Fine x) : x ≠ ⊥ := by obtain ⟨r, rfl⟩ := h; exact EReal.coe_ne_bot r
theorem Fine.coe_toReal {x : EReal} (h : Fine x) : (x.toReal : EReal) = x := EReal.coe_toReal (Fine.ne_top h) (Fine.ne_bot h)

theorem scale_bf16 : Ideal.ofBits .bf16 15872#16 = ((1 / 8 : ℝ) : EReal) := by
  simp [Ideal.ofBits, Ideal.ieee, -EReal.coe_mul]; norm_num
theorem scale_f32 : Ideal.ofBits .f32 1040187392#32 = ((1 / 8 : ℝ) : EReal) := by
  simp [Ideal.ofBits, Ideal.ieee, -EReal.coe_mul]; norm_num

/-- A row of a batch; a column of a head, and of one of its two maps; a key's number as a position. -/
def rowAt (b : Fin 2) (i : Fin 8192) : Fin 16384 := ⟨b.val * 8192 + i.val, by omega⟩
def colAt (h : Fin 4) (e : Fin 128) : Fin 512 := ⟨h.val * 128 + e.val, by omega⟩
/-- The head and the lane of a column, and the bias's column of a head. -/
def headOf (q : Fin 512) : Fin 4 := ⟨q.val / 128, by omega⟩
def laneOf (q : Fin 512) : Fin 128 := ⟨q.val % 128, Nat.mod_lt _ (by decide)⟩
theorem col_eq (q : Fin 512) : q = colAt (headOf q) (laneOf q) := Fin.ext (by show q.val = q.val / 128 * 128 + q.val % 128; omega)
def biasCol (h : Fin 4) : Fin 12 := ⟨8 + h.val, by omega⟩
def half (p : Fin 2) (d : Fin 64) : Fin 128 := ⟨p.val * 64 + d.val, by omega⟩
def keyAt (j : ℕ) : Fin 8192 := ⟨j % 8192, Nat.mod_lt _ (by decide)⟩

section
variable (l : EReal) (q k v : FVec Ideal (⟨2, ![16384, 512]⟩ : Shape) .bf16) (t : FVec Ideal (⟨2, ![32, 12]⟩ : Shape) .f32)
  (g : Fin 128 → EReal) (b : Fin 2) (h : Fin 4) (p : Fin 2) (i : Fin 8192)

/-- The scaled product of a query and a key in one map. -/
def dotAt (j : ℕ) : EReal :=
  ∑ d : Fin 64, q (ix2 (rowAt b i) (colAt h (half p d))) * ((1 / 8 : ℝ) : EReal) * k (ix2 (rowAt b (keyAt j)) (colAt h (half p d)))
/-- The logit, with the bias of the distance, and the mask. -/
def logit (j : ℕ) : EReal := dotAt q k b h p i j + bias t h ((i.val : ℤ) - j)
/-- A value entry. -/
def val (e : Fin 128) (j : ℕ) : ℝ := (v (ix2 (rowAt b (keyAt j)) (colAt h e))).toReal
/-- One map's attention. -/
def attn (e : Fin 128) : ℝ := soft (logit q k t b h p i) (val v b h e) 8192
/-- The difference of the two maps. -/
def diffAt (e : Fin 128) : EReal := (attn q k v t b h 0 i e : EReal) - l * (attn q k v t b h 1 i e : EReal)
/-- The result: the difference normed over the head and scaled. -/
def outAt (e : Fin 128) : EReal :=
  diffAt l q k v t b h i e
    * Ideal.rsqrt (Ideal.div (∑ x : Fin 128, diffAt l q k v t b h i x * diffAt l q k v t b h i x) (Ideal.ofBits .f32 1124073472#32) + Ideal.ofBits .f32 897988541#32)
    * g e * Ideal.ofBits .f32 1061997773#32

variable (hq : ∀ y, Fine (q y)) (hk : ∀ y, Fine (k y)) (ht : ∀ (a : Fin 32) (h : Fin 4), Fine (t (ix2 a (biasCol h))))
include hq hk in
theorem fine_dot (j : ℕ) : Fine (dotAt q k b h p i j) := fine_sum _ fun _ => ((hq _).mul ⟨_, rfl⟩).mul (hk _)
include ht in
theorem fine_bias (z : ℤ) (hz : 0 ≤ z) : Fine (bias t h z) := by
  unfold bias; rw [if_neg (by omega)]; exact ht _ _
theorem bias_neg (z : ℤ) (hz : z < 0) : bias t h z = ⊥ := by
  unfold bias; rw [if_pos hz]
theorem logit_far (j : ℕ) (hj : i.val < j) : logit q k t b h p i j = ⊥ := by
  unfold logit; rw [bias_neg _ _ _ (by omega), EReal.add_bot]
include hq hk ht in
theorem fine_logit (j : ℕ) (hj : j ≤ i.val) : Fine (logit q k t b h p i j) :=
  (fine_dot q k b h p i hq hk j).add (fine_bias t h ht _ (by omega))
include hq hk ht in
theorem logit_ne_top (j : ℕ) : logit q k t b h p i j ≠ ⊤ := by
  by_cases hj : j ≤ i.val
  · exact Fine.ne_top (fine_logit q k t b h p i hq hk ht j hj)
  · rw [logit_far _ _ _ _ _ _ _ _ (by omega)]; exact bot_ne_top
include hq hk ht in
theorem logit_zero : logit q k t b h p i 0 ≠ ⊥ := Fine.ne_bot (fine_logit q k t b h p i hq hk ht 0 (Nat.zero_le _))
end
end Cert.Diff
-- ==== Proof.Diff.KBlock.lean ====
/- What a grid point of the kernel stores, and the array the kernel leaves. -/
module

public import proofs.«01_k».proof.Proof.Diff.KHost
public import proofs.«01_k».proof.Proof.Diff.Step
public import proofs.«01_k».proof.Proof.Diff.Spec
public import Idealize.ShloMosaic.Lib.Pipeline.ValueKit

@[expose] public section
set_option maxRecDepth 16384
noncomputable section
namespace Cert.Diff
open Idealize.ShloMosaic Idealize.ShloMosaic.TcCoe Idealize.SL.Sem Cert.Kernel4Ideal Cert.Kernel4Ideal.Gen
open Cert.Moe (Fine fine_sum)

/-- The lanes of the two maps. -/
theorem lane_lt : ∀ x : Fin 128, IntOp.cmpi .slt (BitVec.ofNat 32 x.val) 64#32 = if x.val < 64 then 1#1 else 0#1 := by decide +kernel
theorem lane_ge : ∀ x : Fin 128, IntOp.cmpi .sge (BitVec.ofNat 32 x.val) 64#32 = if x.val < 64 then 0#1 else 1#1 := by decide +kernel

/-- A stacked query row: the scaled query on its own map's lanes, zero on the other's. -/
theorem w_at (x1 : Vec Ideal S1x128x512 .bf16) (h : Fin 4) (r : Fin 256) (x : Fin 128) :
    wOf (F := Ideal) x1 h (ix2 r x)
      = if r.val / 128 = x.val / 64 then qOf (F := Ideal) x1 h (ix3 (0 : Fin 1) (⟨r.val % 128, Nat.mod_lt _ (by decide)⟩ : Fin 128) x) * ((1 / 8 : ℝ) : EReal) else 0 := by
  pointwise [wOf, k0_pay72]
  rw [lane_lt, lane_ge, scale_bf16]
  have h0 : Ideal.ofBits FTy.bf16 0#16 = 0 := Ideal.ofBits_zero .bf16
  split
  · rename_i hr
    have hr' : r.val < 128 := hr
    have e : (⟨r.val, hr'⟩ : Fin 128) = ⟨r.val % 128, Nat.mod_lt _ (by decide)⟩ := Fin.ext (by show r.val = r.val % 128; omega)
    by_cases hx : x.val < 64
    · rw [if_pos hx, if_pos (by omega), ← e]; rfl
    · rw [if_neg hx, if_neg (by omega)]; rfl
  · rename_i hr
    have hr' : ¬ r.val < 128 := hr
    have e : (⟨r.val - 128, by omega⟩ : Fin 128) = ⟨r.val % 128, Nat.mod_lt _ (by decide)⟩ := Fin.ext (by show r.val - 128 = r.val % 128; omega)
    have key : ∀ z : EReal, Scalar.select (if x.val < 64 then 0#1 else 1#1) z 0 = if r.val / 128 = x.val / 64 then z else 0 := by
      intro z
      by_cases hx : x.val < 64
      · rw [if_pos hx, if_neg (by omega)]; rfl
      · rw [if_neg hx, if_pos (by omega)]; rfl
    rw [← e]
    exact key _

theorem half_sum (f : Fin 128 → EReal) (p : Fin 2) (hf : ∀ x : Fin 128, p.val ≠ x.val / 64 → f x = 0) : ∑ x, f x = ∑ d : Fin 64, f (half p d) := by
  rw [show (∑ x, f x) = (∑ x : Fin 64, f (Fin.castAdd 64 x)) + ∑ x : Fin 64, f (Fin.natAdd 64 x) from Fin.sum_univ_add (a := 64) (b := 64) f]
  have e0 : ∀ x : Fin 64, Fin.castAdd 64 x = half 0 x := fun x => Fin.ext (by show x.val = 0 * 64 + x.val; omega)
  have e1 : ∀ x : Fin 64, Fin.natAdd 64 x = half 1 x := fun x => Fin.ext (by show 64 + x.val = 1 * 64 + x.val; omega)
  simp only [e0, e1]
  match p, hf with
  | 0, hf =>
    rw [Finset.sum_eq_zero (s := Finset.univ) (f := fun x : Fin 64 => f (half 1 x)) fun x _ => hf _ (by show 0 ≠ (1 * 64 + x.val) / 64; omega), add_zero]
  | 1, hf =>
    rw [Finset.sum_eq_zero (s := Finset.univ) (f := fun x : Fin 64 => f (half 0 x)) fun x _ => hf _ (by show 1 ≠ (0 * 64 + x.val) / 64; omega), zero_add]

/-- The last step of one head. -/
theorem fin_at (lam : EReal) (dn : Vec Ideal S1x128 .f32) (a l : Vec Ideal S1x256x128 .f32) (r : Fin 128) (D : Fin 128 → EReal)
    (hD : ∀ x : Fin 128, D x = Ideal.div (a (ix3 (0 : Fin 1) (⟨r.val, by omega⟩ : Fin 256) x)) (l (ix3 (0 : Fin 1) (⟨r.val, by omega⟩ : Fin 256) x))
      - lam * Ideal.div (a (ix3 (0 : Fin 1) (⟨128 + r.val, by omega⟩ : Fin 256) x)) (l (ix3 (0 : Fin 1) (⟨128 + r.val, by omega⟩ : Fin 256) x))) (e : Fin 128) :
    fin1 (F := Ideal) lam dn a l (ix2 r e) = D e * Ideal.rsqrt (Ideal.div (∑ x : Fin 128, D x * D x) (Ideal.ofBits .f32 1124073472#32) + Ideal.ofBits .f32 897988541#32)
      * dn (ix2 (0 : Fin 1) e) * Ideal.ofBits .f32 1061997773#32 := by
  pointwise [fin1, k0_pay92]
  simp only [hD]
/-- The stored block puts the heads side by side. -/
theorem outV_at (lam : EReal) (dn : Vec Ideal S1x128 .f32) (a l : Fin 4 → Vec Ideal S1x256x128 .f32) (r : Fin 128) (h : Fin 4) (e : Fin 128) :
    outV (F := Ideal) lam dn a l (ix3 (0 : Fin 1) r (colAt h e)) = fin1 (F := Ideal) lam dn (a h) (l h) (ix2 r e) := by
  pointwise [outV]
  match h with
  | 0 =>
    rw [dif_pos (show (colAt 0 e).val < 128 by show 0 * 128 + e.val < 128; omega)]
    congr 2; exact Fin.ext (by show 0 * 128 + e.val = e.val; omega)
  | 1 =>
    rw [dif_neg (show ¬ (colAt 1 e).val < 128 by show ¬ 1 * 128 + e.val < 128; omega), dif_pos (show (colAt 1 e).val - 128 < 128 by show 1 * 128 + e.val - 128 < 128; omega)]
    congr 2; exact Fin.ext (by show 1 * 128 + e.val - 128 = e.val; omega)
  | 2 =>
    rw [dif_neg (show ¬ (colAt 2 e).val < 128 by show ¬ 2 * 128 + e.val < 128; omega), dif_neg (show ¬ (colAt 2 e).val - 128 < 128 by show ¬ 2 * 128 + e.val - 128 < 128; omega),
      dif_pos (show (colAt 2 e).val - 128 - 128 < 128 by show 2 * 128 + e.val - 128 - 128 < 128; omega)]
    congr 2; exact Fin.ext (by show 2 * 128 + e.val - 128 - 128 = e.val; omega)
  | 3 =>
    rw [dif_neg (show ¬ (colAt 3 e).val < 128 by show ¬ 3 * 128 + e.val < 128; omega), dif_neg (show ¬ (colAt 3 e).val - 128 < 128 by show ¬ 3 * 128 + e.val - 128 < 128; omega),
      dif_neg (show ¬ (colAt 3 e).val - 128 - 128 < 128 by show ¬ 3 * 128 + e.val - 128 - 128 < 128; omega)]
    congr 2; exact Fin.ext (by show 3 * 128 + e.val - 128 - 128 - 128 = e.val; omega)

variable (m : (ℓ : Loc nD τ sig) → Buf (Elt Ideal) ℓ) (c : Dev nD)

theorem N_0 : cfg0.N = 128 := rfl
theorem idx : ∀ t : Fin cfg0.N, win0_1.index t = ![t.val / 64, t.val % 64, 0] ∧ win0_2.index t = ![t.val / 64, 0, 0] ∧ win0_3.index t = ![t.val / 64, 0, 0]
    ∧ win0_4.index t = ![0, 0, 0, 0] ∧ win0_5.index t = ![0, 0] ∧ win0_6.index t = ![t.val / 64, t.val % 64, 0] ∧ win0_0.index t = ![0] :=
  (by decide +kernel : ∀ t : Fin grid0.N, _)
theorem rb_eq : ∀ t : Fin cfg0.N, (rb (grid0.coords t)).val = t.val % 64 := (by decide +kernel : ∀ t : Fin grid0.N, _)

/-- The batch row of block `t`, and the position of its row `p`. -/
def batchAt (t : Fin cfg0.N) : Fin 2 := ⟨t.val / 64, by have := lt_of_lt_of_eq t.isLt N_0; omega⟩
def posAt (t : Fin cfg0.N) (p : Fin 128) : Fin 8192 := ⟨t.val % 64 * 128 + p.val, by omega⟩

theorem read1 (t : Fin cfg0.N) (f : Vec Ideal S2x8192x512 .bf16) (p : Fin 128) (q : Fin 512) :
    (((cfg0.win 1).blk t).view.read (Elt Ideal) f : Vec Ideal S1x128x512 .bf16) (ix3 (0 : Fin 1) p q) = f (ix3 (batchAt t) (posAt t p) q) := by
  unfold batchAt posAt; blk_ext! [idx t]
theorem read2 (t : Fin cfg0.N) (f : Vec Ideal S2x8192x512 .bf16) (p : Fin 8192) (q : Fin 512) :
    (((cfg0.win 2).blk t).view.read (Elt Ideal) f : Vec Ideal S1x8192x512 .bf16) (ix3 (0 : Fin 1) p q) = f (ix3 (batchAt t) p q) := by
  unfold batchAt; blk_ext! [idx t]
theorem read3 (t : Fin cfg0.N) (f : Vec Ideal S2x8192x512 .bf16) (p : Fin 8192) (q : Fin 512) :
    (((cfg0.win 3).blk t).view.read (Elt Ideal) f : Vec Ideal S1x8192x512 .bf16) (ix3 (0 : Fin 1) p q) = f (ix3 (batchAt t) p q) := by
  unfold batchAt; blk_ext! [idx t]
theorem read4 (t : Fin cfg0.N) (f : Vec Ideal S4x4x128x256 .f32) : (((cfg0.win 4).blk t).view.read (Elt Ideal) f : Vec Ideal S4x4x128x256 .f32) = f := by
  blk_ext! [idx t]
theorem read5 (t : Fin cfg0.N) (f : Vec Ideal S1x128 .f32) : (((cfg0.win 5).blk t).view.read (Elt Ideal) f : Vec Ideal S1x128 .f32) = f := by
  blk_ext! [idx t]
theorem read0 (t : Fin cfg0.N) (f : Vec Ideal S1 .f32) : (((cfg0.win 0).blk t).view.read (Elt Ideal) f : Vec Ideal S1 .f32) = f := by
  blk_ext! [idx t]
theorem emb6 (t : Fin cfg0.N) (p : Fin 128) (q : Fin 512) : ((View.whole main_v51).slice (win0_6.rect t)).emb (ix3 (0 : Fin 1) p q) = ix3 (batchAt t) (posAt t p) q := by
  unfold batchAt posAt; blk_ext! [idx t]

theorem blk0 (t : Fin cfg0.N) : (iblk m c 0 t : Vec Ideal S1 .f32) = A0 m c := (read0 t _).trans (V_main_arg0 m c)
theorem blk1 (t : Fin cfg0.N) (p : Fin 128) (q : Fin 512) : (iblk m c 1 t : Vec Ideal S1x128x512 .bf16) (ix3 (0 : Fin 1) p q) = A1 m c (ix2 (rowAt (batchAt t) (posAt t p)) q) :=
  (read1 t (V m c main_v48) p q).trans ((congrFun (V_v48 m c) _).trans (cast_rows _ _ _ _))
theorem blk2 (t : Fin cfg0.N) (p : Fin 8192) (q : Fin 512) : (iblk m c 2 t : Vec Ideal S1x8192x512 .bf16) (ix3 (0 : Fin 1) p q) = A2 m c (ix2 (rowAt (batchAt t) p) q) :=
  (read2 t (V m c main_v49) p q).trans ((congrFun (V_v49 m c) _).trans (cast_rows _ _ _ _))
theorem blk3 (t : Fin cfg0.N) (p : Fin 8192) (q : Fin 512) : (iblk m c 3 t : Vec Ideal S1x8192x512 .bf16) (ix3 (0 : Fin 1) p q) = A3 m c (ix2 (rowAt (batchAt t) p) q) :=
  (read3 t (V m c main_v50) p q).trans ((congrFun (V_v50 m c) _).trans (cast_rows _ _ _ _))
theorem blk4 (t : Fin cfg0.N) : (iblk m c 4 t : Vec Ideal S4x4x128x256 .f32) = tableOf (A4 m c) := (read4 t _).trans (V_v46 m c)
theorem blk5 (t : Fin cfg0.N) (e : Fin 128) : (iblk m c 5 t : Vec Ideal S1x128 .f32) (ix2 (0 : Fin 1) e) = A5 m c (ix1 e) := by
  rw [show (iblk m c 5 t : Vec Ideal S1x128 .f32) = _ from (read5 t _).trans (V_v47 m c)]
  pointwise []

theorem q_at (t : Fin cfg0.N) (h : Fin 4) (p x : Fin 128) :
    qOf (F := Ideal) (iblk m c 1 t) h (ix3 (0 : Fin 1) p x) = A1 m c (ix2 (rowAt (batchAt t) (posAt t p)) (colAt h x)) :=
  (blk1 m c t p (⟨128 * h.val + x.val, by omega⟩ : Fin 512)).trans (congrArg (fun z => A1 m c (ix2 _ z)) (Fin.ext (by show 128 * h.val + x.val = h.val * 128 + x.val; omega)))
theorem k_at (t : Fin cfg0.N) (h : Fin 4) (k : ℕ) (j : Fin 256) (x : Fin 128) :
    kOf (F := Ideal) (iblk m c 2 t) h k (ix3 (0 : Fin 1) j x) = A2 m c (ix2 (rowAt (batchAt t) (keyAt (256 * k + j.val))) (colAt h x)) :=
  (blk2 m c t (keyAt (256 * k + j.val)) (⟨128 * h.val + x.val, by omega⟩ : Fin 512)).trans (congrArg (fun z => A2 m c (ix2 _ z)) (Fin.ext (by show 128 * h.val + x.val = h.val * 128 + x.val; omega)))
theorem v_at (t : Fin cfg0.N) (h : Fin 4) (k : ℕ) (j : Fin 256) (x : Fin 128) :
    kOf (F := Ideal) (iblk m c 3 t) h k (ix3 (0 : Fin 1) j x) = A3 m c (ix2 (rowAt (batchAt t) (keyAt (256 * k + j.val))) (colAt h x)) :=
  (blk3 m c t (keyAt (256 * k + j.val)) (⟨128 * h.val + x.val, by omega⟩ : Fin 512)).trans (congrArg (fun z => A3 m c (ix2 _ z)) (Fin.ext (by show 128 * h.val + x.val = h.val * 128 + x.val; omega)))

/-- The table's entry is the bias of the distance, at every tile the loop visits. -/
theorem t_at (x : FVec Ideal S32x12 .f32) (n : Fin 64) (h : Fin 4) (k : ℕ) (hk : 2 * k ≤ n.val) (p : Fin 128) (j : Fin 256) :
    tOf (F := Ideal) (tableOf x) n.val h k (ix4 (0 : Fin 1) (0 : Fin 1) p j) = bias x h ((n.val * 128 + p.val : ℕ) - (256 * k + j.val : ℕ)) := by
  refine (table_at x (⟨ti n.val k, by unfold ti; omega⟩ : Fin 4) h p j).trans ?_
  show bias x h (128 * ((ti n.val k : ℕ) : ℤ) + p.val - j.val) = _
  unfold ti
  have hn := n.isLt
  have hp := p.isLt
  have hj := j.isLt
  by_cases h3 : n.val - 2 * k ≤ 3
  · rw [min_eq_left h3]; congr 1; push_cast [hk]; ring
  · rw [min_eq_right (by omega)]
    refine bias_far x h _ _ ?_ ?_ ?_ ?_ <;> push_cast <;> omega

/-- The kernel's logit is the attention's. -/
theorem lg_eq (t : Fin cfg0.N) (h : Fin 4) (p : Fin 2) (y : Fin 128) (k : ℕ) (hk : 2 * k ≤ t.val % 64) (r j : Fin 256) (hr : r.val = p.val * 128 + y.val) :
    k0_pay3 (F := Ideal) (wOf (iblk m c 1 t) h) (kOf (iblk m c 2 t) h k) (tOf (iblk m c 4 t) (t.val % 64) h k) (ix2 r j)
      = logit (A1 m c) (A2 m c) (A4 m c) (batchAt t) h p (posAt t y) (256 * k + j.val) := by
  have hp := p.isLt
  have hy := y.isLt
  rw [lg_at, blk4]
  have ey : (⟨r.val % 128, Nat.mod_lt _ (by decide)⟩ : Fin 128) = y := Fin.ext (by show r.val % 128 = y.val; omega)
  have ep : r.val / 128 = p.val := by omega
  unfold logit dotAt
  congr 1
  · rw [half_sum _ p fun x hx => by rw [w_at, if_neg (by rw [ep]; exact hx), zero_mul]]
    refine Finset.sum_congr rfl fun d _ => ?_
    rw [w_at, if_pos (by rw [ep]; show p.val = (p.val * 64 + d.val) / 64; omega), ey, q_at, k_at]
  · rw [ey]
    exact t_at (A4 m c) (⟨t.val % 64, by omega⟩ : Fin 64) h k hk y j

section Fine
variable (hq : ∀ y, Fine (A1 m c y)) (hk : ∀ y, Fine (A2 m c y)) (hv : ∀ y, Fine (A3 m c y))
  (ht : ∀ (a : Fin 32) (h : Fin 4), Fine (A4 m c (ix2 a (biasCol h))))
include hq hk hv ht in
/-- The quotient of a head's accumulators is the attention. -/
theorem quot_at (t : Fin cfg0.N) (h : Fin 4) (p : Fin 2) (y e : Fin 128) (r : Fin 256) (hr : r.val = p.val * 128 + y.val) :
    Ideal.div ((endSt (F := Ideal) (grid0.coords t) (iblk m c 1 t) (iblk m c 2 t) (iblk m c 3 t) (iblk m c 4 t) h).2.2 (ix3 (0 : Fin 1) r e))
        ((endSt (F := Ideal) (grid0.coords t) (iblk m c 1 t) (iblk m c 2 t) (iblk m c 3 t) (iblk m c 4 t) h).2.1 (ix3 (0 : Fin 1) r e))
      = ((attn (A1 m c) (A2 m c) (A3 m c) (A4 m c) (batchAt t) h p (posAt t y) e : ℝ) : EReal) := by
  unfold endSt
  rw [trips_eq, rb_eq]
  have hy := y.isLt
  rw [quot_st _ _ _ _ r (logit (A1 m c) (A2 m c) (A4 m c) (batchAt t) h p (posAt t y)) (fun e => val (A3 m c) (batchAt t) h e) (t.val % 64 / 2 + 1) (by omega)
    (logit_ne_top _ _ _ _ _ _ _ hq hk ht) (logit_zero _ _ _ _ _ _ _ hq hk ht)
    (fun k hk j => lg_eq m c t h p y k (by omega) r j hr)
    (fun k hk j x => by rw [v_at]; exact (Fine.coe_toReal (hv _)).symm) e]
  unfold attn
  congr 1
  exact (soft_le _ _ _ _ (by omega) fun j h1 h2 => logit_far _ _ _ _ _ _ _ _ (by show t.val % 64 * 128 + y.val < j; omega)).symm

include hq hk hv ht in
theorem out_at (t : Fin cfg0.N) (p : Fin 128) (h : Fin 4) (e : Fin 128) :
    outV (F := Ideal) ((iblk m c 0 t : Vec Ideal S1 .f32) (ix1 ⟨0, by decide⟩)) (iblk m c 5 t)
        (fun h => (endSt (grid0.coords t) (iblk m c 1 t) (iblk m c 2 t) (iblk m c 3 t) (iblk m c 4 t) h).2.2)
        (fun h => (endSt (grid0.coords t) (iblk m c 1 t) (iblk m c 2 t) (iblk m c 3 t) (iblk m c 4 t) h).2.1) (ix3 (0 : Fin 1) p (colAt h e))
      = outAt (A0 m c (ix1 (0 : Fin 1))) (A1 m c) (A2 m c) (A3 m c) (A4 m c) (fun e => A5 m c (ix1 e)) (batchAt t) h (posAt t p) e := by
  rw [outV_at, blk0, fin_at _ _ _ _ _ (diffAt (A0 m c (ix1 (0 : Fin 1))) (A1 m c) (A2 m c) (A3 m c) (A4 m c) (batchAt t) h (posAt t p)), blk5]
  · rfl
  · intro x
    rw [quot_at m c hq hk hv ht t h 0 p x _ (by show p.val = 0 * 128 + p.val; omega), quot_at m c hq hk hv ht t h 1 p x _ (by show 128 + p.val = 1 * 128 + p.val; omega)]
    rfl

include hq hk hv ht in
/-- The array the kernel leaves. -/
theorem final6 : (dats m 0 c).arrAt 6 cfg0.N = fun y : S2x8192x512.Idx =>
    outAt (A0 m c (ix1 (0 : Fin 1))) (A1 m c) (A2 m c) (A3 m c) (A4 m c) (fun e => A5 m c (ix1 e)) (y 0) (headOf (y 2)) (y 1) (laneOf (y 2)) := by
  refine (dats m 0 c).arrAt_eq_of_covers 6 _ (by decide +kernel) fun t _ y => ?_
  blk_simp
  rw [after0_6]
  unfold outsAt0
  rw [out_eq]
  idx_vars y
  have e0 : y0 = 0 := Subsingleton.elim _ _
  subst e0
  rw [emb6]
  conv_lhs => rw [col_eq y2]
  exact out_at m c hq hk hv ht t y1 _ _
end Fine
end Cert.Diff
-- ==== Proof.Diff.Ref.lean ====
/- The reference, read at an index. -/
module

public import proofs.«01_k».proof.Proof.Gen.Reference4Ideal.Run
public import proofs.«01_k».proof.Proof.Diff.Spec
public import Idealize.ShloMosaic.Lib.Pointwise

@[expose] public section
set_option maxRecDepth 16384
noncomputable section
namespace Cert.Diff.Ref
open Idealize.ShloMosaic Idealize.ShloMosaic.TcCoe Idealize.SL.Sem Cert.Reference4Ideal Cert.Reference4Ideal.Gen Idealize.ShloMosaic.StableHlo
open Cert.Moe (Fine fine_sum word_top)

/-- The positions, and the distances. -/
def pos : IVec S8192 32 := iotaInDim S8192 32 0
def dist : IVec S8192x8192 32 :=
  subi (broadcastInDim S8192x8192 ![0, 1] bcast_S8192x1_S8192x8192_0_1 (broadcastInDim S8192x1 ![0] bcast_S8192_S8192x1_0 pos)) (broadcastInDim S8192x8192 ![0, 1] bcast_S1x8192_S8192x8192_0_1 (broadcastInDim S1x8192 ![1] bcast_S8192_S1x8192_1 pos))
def dist0 : IVec S8192x8192 32 := maxsi dist (broadcastInDim S8192x8192 ![] bcast_S_S8192x8192 (constantI S_ 32 0#32))
def buckets : IVec S8192x8192 32 :=
  select (cmpi .slt dist0 (broadcastInDim S8192x8192 ![] bcast_S_S8192x8192 (constantI S_ 32 16#32))) dist0 (minsi (addi (broadcastInDim S8192x8192 ![] bcast_S_S8192x8192 (constantI S_ 32 16#32)) (fptosi 32 (mulf (Host.divf (Host.log (Host.divf (sitofp .f32 (maxsi dist0 (broadcastInDim S8192x8192 ![] bcast_S_S8192x8192 (constantI S_ 32 1#32)))) (broadcastInDim S8192x8192 ![] bcast_S_S8192x8192 (constant S_ .f32 0x41800000#32)))) (broadcastInDim S8192x8192 ![] bcast_S_S8192x8192 (constant S_ .f32 0x40051592#32))) (broadcastInDim S8192x8192 ![] bcast_S_S8192x8192 (constant S_ .f32 0x41800000#32)) : FVec Ideal S8192x8192 .f32))) (broadcastInDim S8192x8192 ![] bcast_S_S8192x8192 (constantI S_ 32 31#32)))
def wrapped : IVec S8192x8192 32 :=
  select (cmpi .slt buckets (broadcastInDim S8192x8192 ![] bcast_S_S8192x8192 (constantI S_ 32 0#32))) (addi buckets (broadcastInDim S8192x8192 ![] bcast_S_S8192x8192 (constantI S_ 32 32#32))) buckets
/-- The biases of all pairs. -/
def taken (t : FVec Ideal S32x12 .f32) : FVec Ideal S8192x8192x4 .f32 :=
  Host.gather gather_S32x4_S8192x8192x1_S8192x8192x4_2_0_n_n_0_2_14 (extractStridedSlice S32x4 ![0, 8] t slices_S32x12_S32x4_0_8) (broadcastInDim S8192x8192x1 ![0, 1] bcast_S8192x8192_S8192x8192x1_0_1 wrapped)
def seen : IVec S1x1x1x8192x8192 1 :=
  broadcastInDim S1x1x1x8192x8192 ![3, 4] bcast_S8192x8192_S1x1x1x8192x8192_3_4 (cmpi .sge dist (broadcastInDim S8192x8192 ![] bcast_S_S8192x8192 (constantI S_ 32 0#32)))
/-- The products of queries and keys. -/
def dots (q k : FVec Ideal S16384x512 .bf16) : FVec Ideal S2x4x2x8192x8192 .f32 :=
  Host.dotGeneral dot_S2x8192x4x2x64_S2x8192x4x2x64_S2x4x2x8192x8192_4_4_1_1_023_023 none
    (mulf (shapeCast S2x8192x4x2x64 (extf .f32 q bitsLt_bf16_f32) shapeCasts_S16384x512_S2x8192x4x2x64)
      (broadcastInDim S2x8192x4x2x64 ![] bcast_S_S2x8192x4x2x64 (constant S_ .f32 0x3E000000#32)))
    (shapeCast S2x8192x4x2x64 (extf .f32 k bitsLt_bf16_f32) shapeCasts_S16384x512_S2x8192x4x2x64)
/-- The masked logits. -/
def logits (q k : FVec Ideal S16384x512 .bf16) (t : FVec Ideal S32x12 .f32) : FVec Ideal S2x4x2x8192x8192 .f32 :=
  select (broadcastInDim S2x4x2x8192x8192 ![0, 1, 2, 3, 4] bcast_S1x1x1x8192x8192_S2x4x2x8192x8192_0_1_2_3_4 seen)
    (addf (dots q k) (broadcastInDim S2x4x2x8192x8192 ![0, 1, 2, 3, 4] bcast_S1x4x1x8192x8192_S2x4x2x8192x8192_0_1_2_3_4 (broadcastInDim S1x4x1x8192x8192 ![1, 3, 4] bcast_S4x8192x8192_S1x4x1x8192x8192_1_3_4 (transpose S4x8192x8192 [2, 0, 1] (taken t) transposes_S8192x8192x4_S4x8192x8192_2_0_1))))
    (broadcastInDim S2x4x2x8192x8192 ![] bcast_S_S2x4x2x8192x8192 (id (constant S_ .f32 0xFF800000#32)))
/-- The largest logit of each row. -/
def top (x : FVec Ideal S2x4x2x8192x8192 .f32) : FVec Ideal S2x4x2x8192x1 .f32 :=
  broadcastInDim S2x4x2x8192x1 ![0, 1, 2, 3] bcast_S2x4x2x8192_S2x4x2x8192x1_0_1_2_3 (Host.reduce FloatOps.maximumf x (constant S_ .f32 0xFF800000#32) reducesTo_S2x4x2x8192x8192_S2x4x2x8192_d4 h_S_)
/-- The exponentials. -/
def expsOf (x : FVec Ideal S2x4x2x8192x8192 .f32) (mx : FVec Ideal S2x4x2x8192x1 .f32) : FVec Ideal S2x4x2x8192x8192 .f32 :=
  select (broadcastInDim S2x4x2x8192x8192 ![0, 1, 2, 3, 4] bcast_S1x1x1x8192x8192_S2x4x2x8192x8192_0_1_2_3_4 seen) (Host.exp (subf x (broadcastInDim S2x4x2x8192x8192 ![0, 1, 2, 3, 4] bcast_S2x4x2x8192x1_S2x4x2x8192x8192_0_1_2_3_4 (select (cmpf .olt (Host.absf mx) (broadcastInDim S2x4x2x8192x1 ![] bcast_S_S2x4x2x8192x1 (constant S_ .f32 0x7F800000#32))) mx (broadcastInDim S2x4x2x8192x1 ![] bcast_S_S2x4x2x8192x1 (id (constant S_ .f32 0x00000000#32))))))) (broadcastInDim S2x4x2x8192x8192 ![] bcast_S_S2x4x2x8192x8192 (id (constant S_ .f32 0x00000000#32)))
def exps (x : FVec Ideal S2x4x2x8192x8192 .f32) : FVec Ideal S2x4x2x8192x8192 .f32 := expsOf x (top x)
def total (x : FVec Ideal S2x4x2x8192x8192 .f32) : FVec Ideal S2x4x2x8192x1 .f32 :=
  broadcastInDim S2x4x2x8192x1 ![0, 1, 2, 3] bcast_S2x4x2x8192_S2x4x2x8192x1_0_1_2_3 (Host.reduceAdd x (constant S_ .f32 0x00000000#32) reducesTo_S2x4x2x8192x8192_S2x4x2x8192_d4 h_S_)
/-- The attention's two maps. -/
def maps (x : FVec Ideal S2x4x2x8192x8192 .f32) : FVec Ideal S2x4x2x8192x8192 .f32 :=
  Host.divf x (broadcastInDim S2x4x2x8192x8192 ![0, 1, 2, 3, 4] bcast_S2x4x2x8192x1_S2x4x2x8192x8192_0_1_2_3_4 (select (cmpf .ogt (total x) (broadcastInDim S2x4x2x8192x1 ![] bcast_S_S2x4x2x8192x1 (constant S_ .f32 0x00000000#32))) (total x) (broadcastInDim S2x4x2x8192x1 ![] bcast_S_S2x4x2x8192x1 (id (constant S_ .f32 0x3F800000#32)))))
/-- Their difference. -/
def weights (l : FVec Ideal S1 .f32) (x : FVec Ideal S2x4x2x8192x8192 .f32) : FVec Ideal S2x4x8192x8192 .f32 :=
  subf (shapeCast S2x4x8192x8192 (extractStridedSlice S2x4x1x8192x8192 ![0, 0, 0, 0, 0] x slices_S2x4x2x8192x8192_S2x4x1x8192x8192_0_0_0_0_0) shapeCasts_S2x4x1x8192x8192_S2x4x8192x8192) (mulf (broadcastInDim S2x4x8192x8192 ![0, 1, 2, 3] bcast_S1x1x1x1_S2x4x8192x8192_0_1_2_3 (broadcastInDim S1x1x1x1 ![3] bcast_S1_S1x1x1x1_3 l)) (shapeCast _ (extractStridedSlice S2x4x1x8192x8192 ![0, 0, 1, 0, 0] x slices_S2x4x2x8192x8192_S2x4x1x8192x8192_0_0_1_0_0) shapeCasts_S2x4x1x8192x8192_S2x4x8192x8192))
/-- The difference times the values. -/
def mixed (v : FVec Ideal S16384x512 .bf16) (w : FVec Ideal S2x4x8192x8192 .f32) : FVec Ideal S2x8192x4x128 .f32 :=
  transpose S2x8192x4x128 [0, 3, 1, 2] (Host.dotGeneral dot_S2x8192x4x128_S2x4x8192x8192_S2x4x128x8192_1_3_3_2_02_01 none (shapeCast S2x8192x4x128 (extf .f32 v bitsLt_bf16_f32) shapeCasts_S16384x512_S2x8192x4x128 : FVec Ideal S2x8192x4x128 .f32) w) transposes_S2x4x128x8192_S2x8192x4x128_0_3_1_2
/-- The norm over each head. -/
def normed (d : FVec Ideal S2x8192x4x128 .f32) (g : FVec Ideal S128 .f32) : FVec Ideal S2x8192x512 .bf16 :=
  truncf .bf16 (shapeCast S2x8192x512 (mulf (mulf (mulf d (broadcastInDim S2x8192x4x128 ![0, 1, 2, 3] bcast_S2x8192x4x1_S2x8192x4x128_0_1_2_3 (Host.rsqrt (addf (Host.divf (broadcastInDim S2x8192x4x1 ![0, 1, 2] bcast_S2x8192x4_S2x8192x4x1_0_1_2 (Host.reduceAdd (mulf d d) (constant S_ .f32 0x00000000#32) reducesTo_S2x8192x4x128_S2x8192x4_d3 h_S_)) (broadcastInDim S2x8192x4x1 ![] bcast_S_S2x8192x4x1 (constant S_ .f32 0x43000000#32))) (broadcastInDim S2x8192x4x1 ![] bcast_S_S2x8192x4x1 (constant S_ .f32 0x358637BD#32)))))) (broadcastInDim S2x8192x4x128 ![0, 1, 2, 3] bcast_S1x1x1x128_S2x8192x4x128_0_1_2_3 (broadcastInDim S1x1x1x128 ![3] bcast_S128_S1x1x1x128_3 g))) (broadcastInDim S2x8192x4x128 ![] bcast_S_S2x8192x4x128 (constant S_ .f32 0x3F4CCCCD#32))) shapeCasts_S2x8192x4x128_S2x8192x512) bitsLt_bf16_f32
/-- The reference's result. -/
def result (l : FVec Ideal S1 .f32) (q k v : FVec Ideal S16384x512 .bf16) (t : FVec Ideal S32x12 .f32) (g : FVec Ideal S128 .f32) : FVec Ideal S2x8192x512 .bf16 :=
  normed (mixed v (weights l (maps (exps (logits q k t))))) g

theorem neg_inf_lit : Ideal.ofBits FTy.f32 4286578688#32 = ⊥ := by
  simp [Ideal.ofBits, Ideal.ieee]

variable (b : Fin 2) (h : Fin 4) (p : Fin 2) (i j : Fin 8192)
theorem dist_at : dist (ix2 i j) = BitVec.ofInt 32 ((i.val : ℤ) - j.val) := by
  pointwise [dist, pos]
  exact sub_int _ _ (by omega) (by omega)
theorem wrapped_at : wrapped (ix2 i j) = wrap (bkt (dist (ix2 i j))) := by
  pointwise [wrapped, buckets, dist0]
  rfl
theorem taken_at (t : FVec Ideal S32x12 .f32) :
    taken t (ix3 i j h) = t (ix2 (rowOf (wrap (bkt (dist (ix2 i j))))) (⟨8 + h.val, by omega⟩ : Fin 12)) := by
  rw [← wrapped_at]
  have key : taken t (ix3 i j h) = extractStridedSlice S32x4 ![0, 8] t slices_S32x12_S32x4_0_8 (ix2 (rowOf (wrapped (ix2 i j))) h) := by
    unfold taken
    set x := extractStridedSlice S32x4 ![0, 8] t slices_S32x12_S32x4_0_8
    set d := gather_S32x4_S8192x8192x1_S8192x8192x4_2_0_n_n_0_2_14 with hd
    set w : IVec S8192x8192x1 32 := broadcastInDim S8192x8192x1 ![0, 1] bcast_S8192x8192_S8192x8192x1_0_1 wrapped with hw
    unfold Host.gather
    refine congrArg x (funext fun y => Fin.ext ?_)
    match y with
    | ⟨0, _⟩ =>
      show d.start (ix3 i j h) w 0 + d.batchCoord (ix3 i j h) 0 + d.offCoord (ix3 i j h) 0 = _
      rw [GatherDims.batchCoord_eq_zero _ _ _ (fun h => by simp [hd, gather_S32x4_S8192x8192x1_S8192x8192x4_2_0_n_n_0_2_14] at h),
        GatherDims.offCoord_eq_zero _ _ _ (fun h => ((GatherDims.mem_sKept _ _).mp h).1 (List.mem_singleton.mpr rfl))]
      simp only [Nat.add_zero]
      unfold GatherDims.start
      rw [dif_pos (show (0 : Fin 2) ∈ d.startIndexMap from List.mem_singleton.mpr rfl)]
      have hsi : d.siIdx (ix3 i j h) ⟨List.idxOf (0 : Fin 2) d.startIndexMap,
          List.idxOf_lt_length_iff.2 (List.mem_singleton.mpr rfl)⟩ = ix3 i j 0 := by
        funext b; refine Fin.ext ?_
        match b with
        | ⟨0, _⟩ => rfl
        | ⟨1, _⟩ => rfl
        | ⟨2, _⟩ => rfl
      rw [hsi]
      rfl
    | ⟨1, _⟩ =>
      show d.start (ix3 i j h) w 1 + d.batchCoord (ix3 i j h) 1 + d.offCoord (ix3 i j h) 1 = _
      rw [GatherDims.batchCoord_eq_zero _ _ _ (fun h => by simp [hd, gather_S32x4_S8192x8192x1_S8192x8192x4_2_0_n_n_0_2_14] at h)]
      have : d.start (ix3 i j h) w 1 = 0 := by
        unfold GatherDims.start
        exact dif_neg (fun h => by simp [hd, gather_S32x4_S8192x8192x1_S8192x8192x4_2_0_n_n_0_2_14] at h)
      rw [this]
      simp only [Nat.zero_add, Nat.add_zero]
      rfl
  rw [key]
  generalize rowOf (wrapped (ix2 i j)) = a
  pointwise []

theorem key_self : keyAt j.val = j := Fin.ext (Nat.mod_eq_of_lt j.isLt)
theorem dots_at (q k : FVec Ideal S16384x512 .bf16) : dots q k (ix5 b h p i j) = dotAt q k b h p i j.val := by
  pointwise [dots]
  unfold dotAt
  rw [key_self, scale_f32]
  refine Finset.sum_congr rfl fun d _ => ?_
  have e : colAt h (half p d) = (⟨h.val * 128 + p.val * 64 + d.val, by omega⟩ : Fin 512) := Fin.ext (by show h.val * 128 + (p.val * 64 + d.val) = h.val * 128 + p.val * 64 + d.val; omega)
  rw [e]
  rfl
theorem logits_at (q k : FVec Ideal S16384x512 .bf16) (t : FVec Ideal S32x12 .f32) :
    logits q k t (ix5 b h p i j) = logit q k t b h p i j.val := by
  pointwise [logits, seen]
  rw [taken_at, dist_at, sge_small _ (by omega) (by omega), dots_at]
  unfold logit bias
  by_cases hz : (i.val : ℤ) - j.val < 0
  · rw [if_pos hz, if_pos hz, EReal.add_bot]
    exact neg_inf_lit
  · rw [if_neg hz, if_neg hz]
    rfl
theorem top_at (x : FVec Ideal S2x4x2x8192x8192 .f32) : top x (ix5 b h p i (0 : Fin 1)) = Finset.fold max ⊥ (fun j : Fin 8192 => x (ix5 b h p i j)) Finset.univ := by
  pointwise [top]
  rw [neg_inf_lit]
theorem abs_lt (M : ℝ) : (FloatOps.absf (F := Ideal) (φ := .f32) (M : EReal) : EReal) < Ideal.ofBits .f32 2139095040#32 := by
  rw [show Ideal.ofBits .f32 2139095040#32 = ⊤ from word_top]
  show max (M : EReal) (-(M : EReal)) < ⊤
  rw [← EReal.coe_neg]
  exact max_lt (EReal.coe_lt_top _) (EReal.coe_lt_top _)
theorem expsOf_at (x : FVec Ideal S2x4x2x8192x8192 .f32) (mx : FVec Ideal S2x4x2x8192x1 .f32) :
    expsOf x mx (ix5 b h p i j) = Scalar.select (IntOp.cmpi .sge (dist (ix2 i j)) 0#32)
      (Ideal.exp (x (ix5 b h p i j) - if (FloatOps.absf (F := Ideal) (φ := .f32) (mx (ix5 b h p i (0 : Fin 1))) : EReal) < Ideal.ofBits .f32 2139095040#32 then mx (ix5 b h p i (0 : Fin 1)) else Ideal.ofBits .f32 0#32))
      (Ideal.ofBits .f32 0#32) := by
  pointwise [expsOf, seen]
  rw [show ((id (constant (F := Ideal) S_ .f32 0#32) : FVec Ideal S_ .f32) ix0 : EReal) = 0 from Ideal.ofBits_zero .f32]
theorem exps_at (x : FVec Ideal S2x4x2x8192x8192 .f32) (mx : FVec Ideal S2x4x2x8192x1 .f32) (M : ℝ) (hM : mx (ix5 b h p i (0 : Fin 1)) = (M : EReal)) :
    expsOf x mx (ix5 b h p i j) = if (i.val : ℤ) - j.val < 0 then 0 else Ideal.exp (x (ix5 b h p i j) - (M : EReal)) := by
  rw [expsOf_at, dist_at, sge_small _ (by omega) (by omega), hM, if_pos (abs_lt M)]
  by_cases hz : (i.val : ℤ) - j.val < 0
  · rw [if_pos hz, if_pos hz]
    exact Ideal.ofBits_zero .f32
  · rw [if_neg hz, if_neg hz]
    rfl
theorem total_at (x : FVec Ideal S2x4x2x8192x8192 .f32) : total x (ix5 b h p i (0 : Fin 1)) = ∑ j : Fin 8192, x (ix5 b h p i j) := by
  pointwise [total]
theorem maps_at (x : FVec Ideal S2x4x2x8192x8192 .f32) (hx : 0 < total x (ix5 b h p i (0 : Fin 1))) :
    maps x (ix5 b h p i j) = Ideal.div (x (ix5 b h p i j)) (total x (ix5 b h p i (0 : Fin 1))) := by
  pointwise [maps]
  rw [if_pos hx]
theorem weights_at (l : FVec Ideal S1 .f32) (x : FVec Ideal S2x4x2x8192x8192 .f32) :
    weights l x (ix4 b h i j) = x (ix5 b h (0 : Fin 2) i j) - l (ix1 (0 : Fin 1)) * x (ix5 b h (1 : Fin 2) i j) := by
  pointwise [weights]
theorem mixed_at (v : FVec Ideal S16384x512 .bf16) (w : FVec Ideal S2x4x8192x8192 .f32) (e : Fin 128) :
    mixed v w (ix4 b i h e) = ∑ j : Fin 8192, v (ix2 (rowAt b j) (colAt h e)) * w (ix4 b h i j) := by
  pointwise [mixed]
  rfl
theorem normed_at (d : FVec Ideal S2x8192x4x128 .f32) (g : FVec Ideal S128 .f32) (q : Fin 512) :
    normed d g (ix3 b i q) = d (ix4 b i (headOf q) (laneOf q))
      * Ideal.rsqrt (Ideal.div (∑ x : Fin 128, d (ix4 b i (headOf q) x) * d (ix4 b i (headOf q) x)) (Ideal.ofBits .f32 1124073472#32) + Ideal.ofBits .f32 897988541#32)
      * g (ix1 (laneOf q)) * Ideal.ofBits .f32 1061997773#32 := by
  pointwise [normed]
  rfl

section Fine
variable (l : FVec Ideal S1 .f32) (q k v : FVec Ideal S16384x512 .bf16) (t : FVec Ideal S32x12 .f32) (g : FVec Ideal S128 .f32)
  (hl : Fine (l (ix1 (0 : Fin 1)))) (hq : ∀ y, Fine (q y)) (hk : ∀ y, Fine (k y)) (hv : ∀ y, Fine (v y))
  (ht : ∀ (a : Fin 32) (h : Fin 4), Fine (t (ix2 a (biasCol h))))
include hq hk ht in
/-- The row's maximum is a real number. -/
theorem top_real : ∃ M : ℝ, top (logits q k t) (ix5 b h p i (0 : Fin 1)) = (M : EReal) := by
  rw [top_at]
  refine exists_real (fold_max_ne_top _ _ fun j _ => ?_) fun hb => ?_
  · rw [logits_at]; exact logit_ne_top q k t b h p i hq hk ht _
  · refine logit_zero q k t b h p i hq hk ht (le_bot_iff.1 ?_)
    rw [← hb]
    have := le_fold_max Finset.univ (fun j : Fin 8192 => logits q k t (ix5 b h p i j)) 0 (Finset.mem_univ _)
    rwa [logits_at] at this
include hq hk ht in
/-- A map's entry is the softmax weight. -/
theorem maps_real : maps (exps (logits q k t)) (ix5 b h p i j)
    = ((ex (logit q k t b h p i j.val) / ∑ x ∈ Finset.range 8192, ex (logit q k t b h p i x) : ℝ) : EReal) := by
  obtain ⟨M, hM⟩ := top_real b h p i q k t hq hk ht
  have hE : ∀ j : Fin 8192, exps (logits q k t) (ix5 b h p i j) = ((Real.exp (-M) * ex (logit q k t b h p i j.val) : ℝ) : EReal) := by
    intro j
    unfold exps
    rw [exps_at b h p i j _ _ M hM, logits_at]
    split
    · rename_i hz
      rw [logit_far q k t b h p i j.val (by omega), ex_bot, mul_zero]; rfl
    · exact exp_sub_coe _ (logit_ne_top q k t b h p i hq hk ht _) M
  have hT : total (exps (logits q k t)) (ix5 b h p i (0 : Fin 1)) = ((Real.exp (-M) * ∑ x ∈ Finset.range 8192, ex (logit q k t b h p i x) : ℝ) : EReal) := by
    rw [total_at]
    simp only [hE]
    rw [← coe_fsum, ← Finset.mul_sum, Fin.sum_univ_eq_sum_range (fun x => ex (logit q k t b h p i x)) 8192]
  have hp := sum_ex_pos (logit q k t b h p i) 8192 (by decide) (logit_zero q k t b h p i hq hk ht)
  have hp' := mul_pos (Real.exp_pos (-M)) hp
  rw [maps_at b h p i j _ (by rw [hT]; exact EReal.coe_pos.2 hp'), hT, hE, Ideal.div_coe hp'.ne', ← EReal.coe_mul, mul_one_div, mul_div_mul_left _ _ (Real.exp_pos _).ne']
include hl hq hk hv ht in
/-- The difference of the two maps times the values. -/
theorem mixed_real (e : Fin 128) : mixed v (weights l (maps (exps (logits q k t)))) (ix4 b i h e) = diffAt (l (ix1 (0 : Fin 1))) q k v t b h i e := by
  rw [mixed_at]
  obtain ⟨r, hr⟩ := hl
  simp only [weights_at, maps_real b h _ i _ q k t hq hk ht, hr]
  unfold diffAt attn soft
  have hv' : ∀ j : Fin 8192, v (ix2 (rowAt b j) (colAt h e)) = ((val v b h e j.val : ℝ) : EReal) := by
    intro j
    unfold val
    rw [key_self, Fine.coe_toReal (hv _)]
  simp only [hv', ← EReal.coe_mul, ← EReal.coe_sub]
  rw [← coe_fsum, Fin.sum_univ_eq_sum_range (fun j => val v b h e j * (ex (logit q k t b h 0 i j) / ∑ x ∈ Finset.range 8192, ex (logit q k t b h 0 i x)
    - r * (ex (logit q k t b h 1 i j) / ∑ x ∈ Finset.range 8192, ex (logit q k t b h 1 i x)))) 8192, Finset.sum_div, Finset.sum_div, Finset.mul_sum, ← Finset.sum_sub_distrib]
  congr 1
  exact Finset.sum_congr rfl fun j _ => by ring
include hl hq hk hv ht in
/-- The reference's result at an index. -/
theorem result_at (c : Fin 512) : result l q k v t g (ix3 b i c) = outAt (l (ix1 (0 : Fin 1))) q k v t (fun e => g (ix1 e)) b (headOf c) i (laneOf c) := by
  unfold result
  rw [normed_at]
  simp only [mixed_real b _ i l q k v t hl hq hk hv ht]
  rfl
end Fine
end Cert.Diff.Ref
-- ==== Proof.Diff.Finite.lean ====
/- What the precondition of the differential attention says. -/
module

public import proofs.«01_k».proof.Proof.Diff.Spec
public import proofs.«01_k».proof.Pre_diff_finite
public import Idealize.ShloMosaic.Lib.ReduceAll

@[expose] public section
set_option maxRecDepth 16384
noncomputable section
namespace Cert.Diff
open Idealize.ShloMosaic Cert.Pre_diff_finite
open Cert.Moe (Fine fine_of_bounds word_top)

instance preFacts : Cert.Pre_diff_finite.Facts :=
  ⟨by decide, by decide, by decide, by decide, by decide, by decide, by decide, by decide⟩

instance : Subsingleton Cert.Pre_diff_finite.S_.Idx := ⟨fun a b => funext fun k => k.elim0⟩

theorem word_top16 : Ideal.ofBits .bf16 0x7F80#16 = ⊤ := by
  simp [Ideal.ofBits, Ideal.ieee]

/-- Every entry of an array is finite when the printed test of it is one. -/
theorem fine_all {s : Shape} {axes : List (Fin s.rank)} {φ : FTy} (w : BitVec φ.bits) (hw : Ideal.ofBits φ w = ⊤) (x : FVec Ideal s φ)
    (hb : Cert.Pre_diff_finite.S_.BroadcastsInDim s (![] : Fin 0 → Fin s.rank))
    (hr : s.ReducesTo axes Cert.Pre_diff_finite.S_) (h0 : 0 < Cert.Pre_diff_finite.S_.numel) (j : Cert.Pre_diff_finite.S_.Idx)
    (h : Host.reduce IntOp.andi (cmpf .olt (Host.absf x) (broadcastInDim s ![] hb (constant Cert.Pre_diff_finite.S_ φ w))) (constantI Cert.Pre_diff_finite.S_ 1 1#1) hr h0 j = 1#1)
    (i : s.Idx) : Fine (x i) := by
  have := Host.reduce_andi_all _ _ _ _ j h i
  apply fine_of_bounds
  rw [← hw]
  exact this

theorem slice_at (t : FVec Ideal S32x12 .f32) (a : Fin 32) (h : Fin 4) :
    extractStridedSlice S32x4 ![0, 8] t Facts.slices_S32x12_S32x4_0_8 (ix2 a h) = t (ix2 a (biasCol h)) := by
  pointwise []
  rfl

theorem pre_fine (x0 : FVec Ideal S1 .f32) (x1 x2 x3 : FVec Ideal S16384x512 .bf16) (x4 : FVec Ideal S32x12 .f32) (x5 : FVec Ideal S128 .f32)
    (h : Cert.Pre_diff_finite.fn (F := Ideal) x0 x1 x2 x3 x4 x5 = fun _ => 1#1) :
    (∀ i, Fine (x0 i)) ∧ (∀ i, Fine (x1 i)) ∧ (∀ i, Fine (x2 i)) ∧ (∀ i, Fine (x3 i)) ∧ (∀ (a : Fin 32) (h : Fin 4), Fine (x4 (ix2 a (biasCol h)))) := by
  have h := congrFun h (fun k => k.elim0)
  unfold Cert.Pre_diff_finite.fn Cert.Pre_diff_finite.fn_part1 at h
  dsimp only at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  refine ⟨fine_all _ word_top _ _ _ _ _ h0, fine_all _ word_top16 _ _ _ _ _ h1, fine_all _ word_top16 _ _ _ _ _ h2, fine_all _ word_top16 _ _ _ _ _ h3, fun a b => ?_⟩
  rw [← slice_at x4 a b]
  exact fine_all _ word_top _ _ _ _ _ h4 _
end Cert.Diff
-- ==== Proof.Diff.Claims.lean ====
/- The claims about the differential attention: its frames and the equation of its result with the reference's. -/
module

public import proofs.«01_k».proof.Defs
public import proofs.«01_k».proof.Proof.Diff.KBlock
public import proofs.«01_k».proof.Proof.Diff.Ref
public import proofs.«01_k».proof.Proof.Diff.Finite

@[expose] public section
set_option maxRecDepth 16384
noncomputable section
namespace Cert.Diff.Claims
open Idealize.ShloMosaic Idealize.ShloMosaic.TcCoe Idealize.SL.Sem

/-- The reference runs, keeps its arguments and leaves every semaphore at zero. -/
theorem frame_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

open Cert.Reference4Ideal in
/-- The reference's result at its arguments. -/
theorem ref_eq (V0 : Idealize.ShloMosaic.Valuation τ sig (Elt Ideal)) :
    Ref.normed (Cert.Reference4Ideal.Value.res_main_v77 V0) (V0 (Proc.devRef .tc main_arg5))
      = Ref.result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := rfl

/-- The kernel's result and the reference's are the same array, the precondition holding. -/
theorem equation : Cert.algebraic_Kernel4Ideal_Reference4Ideal_pre_diff_finite := by
  intro m ρ m' ρ' hpre hagree
  refine ⟨fun c => (Cert.Kernel4Ideal.Gen.dats m 0 c).arrAt 6 (Cert.Kernel4Ideal.cfgs 0).N,
    Cert.Kernel4Ideal.Value.run_blocks m ρ, ?_⟩
  refine (θ_run Cert.Reference4Ideal.defs _ _).mono (fun r h c => ?_) (Cert.Reference4Ideal.Value.run (F := Ideal) m' ρ')
  obtain ⟨f0, f1, f2, f3, f4⟩ := pre_fine _ _ _ _ _ _ (hpre c)
  obtain ⟨a0, a1, a2, a3, a4, a5⟩ := hagree c
  refine ⟨(h c).1.trans ?_, (h c).2⟩
  refine (ref_eq (StableHlo.launchContents m' c)).trans ?_
  have r : Ref.result (StableHlo.launchContents m' c (Proc.devRef .tc Cert.Reference4Ideal.main_arg0)) (StableHlo.launchContents m' c (Proc.devRef .tc Cert.Reference4Ideal.main_arg1))
      (StableHlo.launchContents m' c (Proc.devRef .tc Cert.Reference4Ideal.main_arg2)) (StableHlo.launchContents m' c (Proc.devRef .tc Cert.Reference4Ideal.main_arg3))
      (StableHlo.launchContents m' c (Proc.devRef .tc Cert.Reference4Ideal.main_arg4)) (StableHlo.launchContents m' c (Proc.devRef .tc Cert.Reference4Ideal.main_arg5))
      = Ref.result (A0 m c) (A1 m c) (A2 m c) (A3 m c) (A4 m c) (A5 m c) := by
    rw [show StableHlo.launchContents m' c (Proc.devRef .tc Cert.Reference4Ideal.main_arg0) = A0 m c from a0,
      show StableHlo.launchContents m' c (Proc.devRef .tc Cert.Reference4Ideal.main_arg1) = A1 m c from a1,
      show StableHlo.launchContents m' c (Proc.devRef .tc Cert.Reference4Ideal.main_arg2) = A2 m c from a2,
      show StableHlo.launchContents m' c (Proc.devRef .tc Cert.Reference4Ideal.main_arg3) = A3 m c from a3,
      show StableHlo.launchContents m' c (Proc.devRef .tc Cert.Reference4Ideal.main_arg4) = A4 m c from a4,
      show StableHlo.launchContents m' c (Proc.devRef .tc Cert.Reference4Ideal.main_arg5) = A5 m c from a5]
  refine r.trans (Eq.trans ?_ (final6 m c f1 f2 f3 f4).symm)
  funext y
  idx_vars y
  exact Ref.result_at y0 y1 _ _ _ _ _ _ (f0 _) f1 f2 f3 f4 y2
end Cert.Diff.Claims
-- ==== Proof.MoeS.RefTop.lean ====
/- The reference's selections read at an index: the places of the greatest entries of a row, and the entries taken at them. -/
module

public import proofs.«01_k».proof.Proof.Gen.Reference5Ideal.Run
public import proofs.«01_k».proof.Proof.Moe.Order

@[expose] public section
set_option maxRecDepth 16384
noncomputable section
namespace Cert.MoeS.Ref
open Cert.Moe
open Idealize.ShloMosaic Cert.Reference5Ideal Cert.Reference5Ideal.Gen

/-- `f a` exceeds `f b`. -/
def exceeds (f : Fin 4 → EReal) (a b : Fin 4) : Bool := decide (f b < f a)
/-- The position that stands at place `k` once the four entries are put in descending order. -/
def place (f : Fin 4 → EReal) (k : Fin 4) : Fin 4 := sortedFrom (exceeds f) k

theorem place_first (f : Fin 4 → EReal) : First (fun _ => True) f (place f 0) :=
  sorted_first f _ fun a b => by simp [exceeds]
theorem place_second (f : Fin 4 → EReal) : First (fun j => j ≠ place f 0) f (place f 1) :=
  sorted_second f _ fun a b => by simp [exceeds]

theorem along4 (i : Fin 32) (a k : Fin 4) : Shape.Idx.along (s := S32x4) (ix2 i a) (1 : Fin 2) k = ix2 i k := by
  funext b
  match b with
  | ⟨0, _⟩ => rfl
  | ⟨1, _⟩ => rfl

theorem order4 (x : FVec Ideal S32x4 .f32) (i : Fin 32) (a : Fin 4) :
    (fun k k' : Fin 4 => FloatOps.cmpfTotal (F := Ideal) (φ := .f32) .gt (x (Shape.Idx.along (s := S32x4) (ix2 i a) (1 : Fin 2) k))
      (x (Shape.Idx.along (s := S32x4) (ix2 i a) (1 : Fin 2) k')) == 1#1) = exceeds (fun k => x (ix2 i k)) := by
  funext k k'
  rw [along4, along4]
  show (BitVec.ofBool (decide (x (ix2 i k') < x (ix2 i k))) == 1#1) = decide _
  by_cases h : x (ix2 i k') < x (ix2 i k) <;> simp [h]

variable {n : ℕ} (hn : n ≤ 4) (hs : S32x4.Slices (fun _ => 0) ⟨2, ![32, n]⟩) (x : FVec Ideal S32x4 .f32) (i : Fin 32) (k : Fin n)

include hn in
theorem slice_apply {α : Type} (y : S32x4.Idx → α) :
    extractStridedSlice ⟨2, ![32, n]⟩ (fun _ => 0) y hs (ix2 i k) = y (ix2 i (k.castLE hn)) := by
  refine congrArg y (funext fun a => ?_)
  match a with
  | ⟨0, _⟩ => exact Fin.ext (Nat.zero_add _)
  | ⟨1, _⟩ => exact Fin.ext (Nat.zero_add _)

theorem top_value : (Host.topK ⟨2, ![32, n]⟩ 1 (FloatOps.cmpfTotal .gt) x hs).1 (ix2 i k)
    = x (ix2 i (place (fun k => x (ix2 i k)) (k.castLE hn))) := by
  unfold Host.topK
  dsimp only
  refine (slice_apply hn hs i k _).trans ?_
  · unfold Host.sort2
    rw [dif_pos (by decide)]
    exact congrArg x ((congrArg (fun B => Shape.Idx.along (s := S32x4) (ix2 i (k.castLE hn)) (1 : Fin 2) (sortedFrom B (k.castLE hn)))
      (order4 x i (k.castLE hn))).trans (along4 _ _ _))

theorem top_index : (Host.topK ⟨2, ![32, n]⟩ 1 (FloatOps.cmpfTotal .gt) x hs).2 (ix2 i k)
    = BitVec.ofNat 32 (place (fun k => x (ix2 i k)) (k.castLE hn)).val := by
  unfold Host.topK
  dsimp only
  refine (slice_apply hn hs i k _).trans ?_
  · unfold Host.sort2
    rw [dif_pos (by decide)]
    refine (congrArg (fun j : S32x4.Idx => BitVec.ofNat 32 (j 1).val) ((congrArg (fun B => Shape.Idx.along (s := S32x4) (ix2 i (k.castLE hn)) (1 : Fin 2) (sortedFrom B (k.castLE hn)))
      (order4 x i (k.castLE hn))).trans (along4 _ _ _)))

theorem gather_column (p : FVec Ideal S32x4 .f32) (w : IVec S32x1x1 32) (i : Fin 32) (g : Fin 4)
    (hw : w (ix3 i 0 0) = BitVec.ofNat 32 g.val) :
    Host.gather gather_S32x4_S32x1x1_S32x1_n_1_0_0_1_2_11 p w (ix2 i 0) = p (ix2 i g) := by
  set d := gather_S32x4_S32x1x1_S32x1_n_1_0_0_1_2_11 with hd
  unfold Host.gather
  refine congrArg p (funext fun a => Fin.ext ?_)
  match a with
  | ⟨0, _⟩ =>
    show d.start (ix2 i 0) w 0 + d.batchCoord (ix2 i 0) 0 + d.offCoord (ix2 i 0) 0 = _
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show 0 ∈ d.operandBatchingDims from List.mem_singleton.mpr rfl)]
    rfl
  | ⟨1, _⟩ =>
    show d.start (ix2 i 0) w 1 + d.batchCoord (ix2 i 0) 1 + d.offCoord (ix2 i 0) 1 = _
    rw [GatherDims.batchCoord_eq_zero _ _ _ (fun h => by simp [hd, gather_S32x4_S32x1x1_S32x1_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    have hsi : d.siIdx (ix2 i 0) ⟨List.idxOf (1 : Fin 2) d.startIndexMap,
        List.idxOf_lt_length_iff.2 (List.mem_singleton.mpr rfl)⟩ = ix3 i 0 0 := by
      funext b; refine Fin.ext ?_
      match b with
      | ⟨0, _⟩ => rfl
      | ⟨1, _⟩ => rfl
      | ⟨2, _⟩ => rfl
    rw [hsi, hw, ofNat_toInt (by omega)]
    show min ((g.val : Int).toNat) 3 = g.val
    omega

theorem gather_slab (p : FVec Ideal S32x4x4 .f32) (w : IVec S32x1x1 32) (i : Fin 32) (j g : Fin 4)
    (hw : w (ix3 i 0 0) = BitVec.ofNat 32 g.val) :
    Host.gather gather_S32x4x4_S32x1x1_S32x1x4_2_1_0_0_1_2_114 p w (ix3 i 0 j) = p (ix3 i g j) := by
  set d := gather_S32x4x4_S32x1x1_S32x1x4_2_1_0_0_1_2_114 with hd
  unfold Host.gather
  refine congrArg p (funext fun a => Fin.ext ?_)
  match a with
  | ⟨0, _⟩ =>
    show d.start (ix3 i 0 j) w 0 + d.batchCoord (ix3 i 0 j) 0 + d.offCoord (ix3 i 0 j) 0 = _
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show 0 ∈ d.operandBatchingDims from List.mem_singleton.mpr rfl)]
    rfl
  | ⟨1, _⟩ =>
    show d.start (ix3 i 0 j) w 1 + d.batchCoord (ix3 i 0 j) 1 + d.offCoord (ix3 i 0 j) 1 = _
    rw [GatherDims.batchCoord_eq_zero _ _ _ (fun h => by simp [hd, gather_S32x4x4_S32x1x1_S32x1x4_2_1_0_0_1_2_114] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ d.startIndexMap from List.mem_singleton.mpr rfl)]
    have hsi : d.siIdx (ix3 i 0 j) ⟨List.idxOf (1 : Fin 3) d.startIndexMap,
        List.idxOf_lt_length_iff.2 (List.mem_singleton.mpr rfl)⟩ = ix3 i 0 0 := by
      funext b; refine Fin.ext ?_
      match b with
      | ⟨0, _⟩ => rfl
      | ⟨1, _⟩ => rfl
      | ⟨2, _⟩ => rfl
    rw [hsi, hw, ofNat_toInt (by omega)]
    show min ((g.val : Int).toNat) 3 = g.val
    omega
  | ⟨2, _⟩ =>
    show d.start (ix3 i 0 j) w 2 + d.batchCoord (ix3 i 0 j) 2 + d.offCoord (ix3 i 0 j) 2 = _
    rw [GatherDims.batchCoord_eq_zero _ _ _ (fun h => by simp [hd, gather_S32x4x4_S32x1x1_S32x1x4_2_1_0_0_1_2_114] at h)]
    have : d.start (ix3 i 0 j) w 2 = 0 := by
      unfold GatherDims.start
      exact dif_neg (fun h => by simp [hd, gather_S32x4x4_S32x1x1_S32x1x4_2_1_0_0_1_2_114] at h)
    rw [this]
    simp only [Nat.zero_add, Nat.add_zero]
    unfold GatherDims.offCoord
    rfl
end Cert.MoeS.Ref
-- ==== Proof.MoeS.KRoute.lean ====
/- The kernel's routing of one row: group, experts and gates read at an index. -/
module

public import proofs.«01_k».proof.Proof.Gen.Kernel5Ideal.Value
public import proofs.«01_k».proof.Proof.Moe.Order

@[expose] public section
set_option maxRecDepth 16384
noncomputable section
namespace Cert.MoeS
open Cert.Moe
open Idealize.ShloMosaic Cert.Kernel5Ideal Cert.Kernel5Ideal.Gen

/-- The probability of the chosen group: its softmax entry. -/
def groupProb (gl : Fin 4 → EReal) (gi : Fin 4) : EReal := Ideal.div 1 (∑ i, Ideal.exp (gl i - gl gi))

/-- The gate of expert `e` when group `gi` and its experts `j1`, `j2` are chosen. -/
def gateOf (gl ev : Fin 4 → EReal) (gi j1 j2 : Fin 4) (e : Fin 16) : EReal :=
  if e.val = 4 * gi.val + j1.val then Ideal.div (groupProb gl gi) (1 + Ideal.exp (ev j2 - ev j1))
  else if e.val = 4 * gi.val + j2.val then
    Ideal.div (groupProb gl gi * Ideal.exp (ev j2 - ev j1)) (1 + Ideal.exp (ev j2 - ev j1))
  else 0

theorem ofBits_neg_inf : Ideal.ofBits FTy.f32 4286578688#32 = ⊥ := by
  simp [Ideal.ofBits, Ideal.ieee]

def lanes : IVec S32x128 32 := iota .tc S32x128 32 [1] iota_S32x128_d1_w32

theorem lanes_apply (p : Fin 32) (l : Fin 128) : lanes (ix2 p l) = BitVec.ofNat 32 l.val := by
  pointwise [lanes]

/-- Lane of group `i`. -/
def laneG (i : Fin 4) : Fin 128 := ⟨i.val, by omega⟩
/-- Lane of expert `e`. -/
def laneE (e : Fin 16) : Fin 128 := ⟨4 + e.val, by omega⟩
/-- Expert `j` of group `gi`. -/
def expertOf (gi j : Fin 4) : Fin 16 := ⟨4 * gi.val + j.val, by omega⟩

/-- The lanes of group `gi`'s experts. -/
def InGroup (gi : Fin 4) (l : Fin 128) : Prop := ∃ j, True ∧ laneE (expertOf gi j) = l

theorem mask_groups (p : Fin 32) (l : Fin 128) : k0_pay5 (ix2 p l) = 1#1 ↔ ∃ j, True ∧ laneG j = l := by
  have : k0_pay5 (ix2 p l) = IntOp.cmpi .slt (lanes (ix2 p l)) 4#32 := by
    pointwise [k0_pay5, lanes]
  rw [this, lanes_apply]
  clear this
  clear p
  revert l
  decide +kernel

def inGroupWord (x g : BitVec 32) : BitVec 1 :=
  IntOp.andi
      (IntOp.andi (IntOp.cmpi CmpIPredicate.sge x 4#32) (IntOp.cmpi CmpIPredicate.slt x 20#32))
      (IntOp.cmpi CmpIPredicate.eq
        (Scalar.select
          (IntOp.andi
            (IntOp.cmpi CmpIPredicate.ne
              (IntOp.subi (BitVec.setWidth 32 (IntOp.cmpi CmpIPredicate.sgt (IntOp.subi x 4#32) 0#32))
                (BitVec.setWidth 32 (IntOp.cmpi CmpIPredicate.slt (IntOp.subi x 4#32) 0#32)))
              (Scalar.subi (Scalar.extui (Scalar.cmpi CmpIPredicate.sgt 4#32 0#32))
                (Scalar.extui (Scalar.cmpi CmpIPredicate.slt 4#32 0#32))))
            (IntOp.cmpi CmpIPredicate.ne (IntOp.remsi ArithUnit.vector (IntOp.subi x 4#32) 4#32) 0#32))
          (IntOp.subi (IntOp.divsi ArithUnit.vector (IntOp.subi x 4#32) 4#32) 1#32)
          (IntOp.divsi ArithUnit.vector (IntOp.subi x 4#32) 4#32)) g)

theorem inGroupWord_iff : ∀ (gi : Fin 4) (l : Fin 128),
    inGroupWord (BitVec.ofNat 32 l.val) (BitVec.ofNat 32 gi.val) = 1#1 ↔ ∃ j, True ∧ laneE (expertOf gi j) = l := by
  decide +kernel

variable (L : FVec Ideal S32x128 .f32) (p : Fin 32)

def grpWord : IVec S32x1 32 := k0_pay7 L lanes k0_pay5
def probV : FVec Ideal S32x1 .f32 := k0_pay8 L k0_pay5
def maskV : IVec S32x128 1 := k0_pay14 (grpWord L) (k0_pay9 lanes) (k0_pay11 lanes) (k0_pay12 lanes) (k0_pay13 lanes)
def topV : FVec Ideal S32x1 .f32 := k0_pay15 L (grpWord L) (k0_pay9 lanes) (k0_pay11 lanes) (k0_pay12 lanes) (k0_pay13 lanes)
def topW : IVec S32x1 32 := k0_pay16 L lanes (grpWord L) (k0_pay9 lanes) (k0_pay11 lanes) (k0_pay12 lanes) (k0_pay13 lanes)
def restV : IVec S32x128 1 := k0_pay17 L lanes (grpWord L) (k0_pay9 lanes) (k0_pay11 lanes) (k0_pay12 lanes) (k0_pay13 lanes)
def secV : FVec Ideal S32x1 .f32 := k0_pay18 L lanes (grpWord L) (k0_pay9 lanes) (k0_pay11 lanes) (k0_pay12 lanes) (k0_pay13 lanes)
def w1V : FVec Ideal S32x1 .f32 := k0_pay20 L lanes (grpWord L) (probV L) (k0_pay9 lanes) (k0_pay11 lanes) (k0_pay12 lanes) (k0_pay13 lanes)
def w2V : FVec Ideal S32x1 .f32 := k0_pay21 L lanes (grpWord L) (probV L) (k0_pay9 lanes) (k0_pay11 lanes) (k0_pay12 lanes) (k0_pay13 lanes)
def is1V : IVec S32x128 1 := k0_pay22 L lanes (grpWord L) (k0_pay9 lanes) (k0_pay11 lanes) (k0_pay12 lanes) (k0_pay13 lanes)
def is2V : IVec S32x128 1 := k0_pay23 L lanes (grpWord L) (k0_pay9 lanes) (k0_pay11 lanes) (k0_pay12 lanes) (k0_pay13 lanes)
/-- The gate of each lane, as the kernel computes it from the logits `L`. -/
def gateV : FVec Ideal S32x128 .f32 := k0_pay24 (w1V L) (w2V L) (is1V L) (is2V L) (Scalar.ofBits .f32 0x00000000#32)

variable {L p} {gi j1 j2 : Fin 4}

abbrev glOf (L : FVec Ideal S32x128 .f32) (p : Fin 32) : Fin 4 → EReal := fun i => L (ix2 p (laneG i))
abbrev evOf (L : FVec Ideal S32x128 .f32) (p : Fin 32) (gi : Fin 4) : Fin 4 → EReal := fun j => L (ix2 p (laneE (expertOf gi j)))

theorem first_group (h : First (fun _ => True) (glOf L p) gi) :
    First (fun l => ∃ j, True ∧ laneG j = l) (fun l => L (ix2 p l)) (laneG gi) :=
  h.map laneG (fun a b hab => hab) (fun _ => Iff.rfl) fun _ => rfl

theorem first_top (h : First (fun _ => True) (evOf L p gi) j1) :
    First (InGroup gi) (fun l => L (ix2 p l)) (laneE (expertOf gi j1)) :=
  h.map (fun j => laneE (expertOf gi j)) (fun a b hab => by
    simp only [laneE, expertOf, Fin.le_def] at hab ⊢; omega) (fun _ => Iff.rfl) fun _ => rfl

theorem first_sec (h : First (fun j => j ≠ j1) (evOf L p gi) j2) :
    First (fun l => ∃ j, j ≠ j1 ∧ laneE (expertOf gi j) = l) (fun l => L (ix2 p l)) (laneE (expertOf gi j2)) :=
  h.map (fun j => laneE (expertOf gi j)) (fun a b hab => by
    simp only [laneE, expertOf, Fin.le_def] at hab ⊢; omega) (fun _ => Iff.rfl) fun _ => rfl

theorem groupMax_apply (h : First (fun _ => True) (glOf L p) gi) : k0_pay6 L k0_pay5 (ix2 p 0) = glOf L p gi := by
  pointwise [k0_pay6]
  rw [ofBits_neg_inf]
  exact fold_max_first (first_group h) _ (mask_groups p)

theorem grpWord_apply (h : First (fun _ => True) (glOf L p) gi) : grpWord L (ix2 p 0) = BitVec.ofNat 32 gi.val := by
  pointwise [grpWord, k0_pay7]
  exact fold_min_first (first_group h) _ (mask_groups p) _ (lanes_apply p) _ (groupMax_apply h)

/-- A masked sum over the lanes is the sum over the groups. -/
theorem sum_groups (f : Fin 128 → EReal) (M : Fin 128 → BitVec 1) (hM : ∀ l, M l = 1#1 ↔ ∃ j, True ∧ laneG j = l) :
    ∑ l, Scalar.select (M l) (f l) 0 = ∑ i, f (laneG i) := by
  classical
  simp only [fun l => select_iff (hM l) (f l) 0]
  rw [← Finset.sum_filter]
  symm
  refine Finset.sum_bij (fun i _ => laneG i) (fun i _ => ?_) (fun a _ b _ hab => ?_) (fun l hl => ?_) fun _ _ => rfl
  · simp only [Finset.mem_filter, Finset.mem_univ, true_and]; exact ⟨i, rfl⟩
  · simp only [laneG, Fin.mk.injEq] at hab; exact Fin.ext hab
  · simp only [Finset.mem_filter, Finset.mem_univ, true_and] at hl
    obtain ⟨j, hj⟩ := hl; exact ⟨j, Finset.mem_univ _, hj⟩

theorem probV_apply (h : First (fun _ => True) (glOf L p) gi) : probV L (ix2 p 0) = groupProb (glOf L p) gi := by
  pointwise [probV, k0_pay8]
  rw [groupMax_apply h]
  unfold groupProb
  congr 1
  exact sum_groups (fun l => Ideal.exp (L (ix2 p l) - glOf L p gi)) _ (mask_groups p)

theorem maskV_apply (h : First (fun _ => True) (glOf L p) gi) (l : Fin 128) :
    maskV L (ix2 p l) = 1#1 ↔ InGroup gi l := by
  have : maskV L (ix2 p l) = inGroupWord (lanes (ix2 p l)) (grpWord L (ix2 p 0)) := by
    pointwise [maskV, k0_pay14, k0_pay9, k0_pay11, k0_pay12, k0_pay13, k0_pay10]
    rfl
  rw [this, lanes_apply, grpWord_apply h]
  exact inGroupWord_iff gi l

theorem topV_apply (h : First (fun _ => True) (glOf L p) gi) (h1 : First (fun _ => True) (evOf L p gi) j1) :
    topV L (ix2 p 0) = evOf L p gi j1 := by
  pointwise [topV, k0_pay15]
  rw [ofBits_neg_inf]
  exact fold_max_first (first_top h1) _ (maskV_apply h)

theorem topW_apply (h : First (fun _ => True) (glOf L p) gi) (h1 : First (fun _ => True) (evOf L p gi) j1) :
    topW L (ix2 p 0) = BitVec.ofNat 32 (laneE (expertOf gi j1)).val := by
  pointwise [topW, k0_pay16]
  exact fold_min_first (first_top h1) _ (maskV_apply h) _ (lanes_apply p) _ (topV_apply h h1)

theorem laneE_word : ∀ (l : Fin 128) (e : Fin 16),
    IntOp.cmpi .eq (BitVec.ofNat 32 l.val) (BitVec.ofNat 32 (laneE e).val) = 1#1 ↔ l = laneE e := by
  decide +kernel

theorem laneE_inj {e e' : Fin 16} : laneE e = laneE e' ↔ e = e' := by
  simp only [laneE, Fin.mk.injEq, Fin.ext_iff]; omega

theorem expertOf_inj {gi j j' : Fin 4} : expertOf gi j = expertOf gi j' ↔ j = j' := by
  simp only [expertOf, Fin.mk.injEq, Fin.ext_iff]; omega

theorem restV_apply (h : First (fun _ => True) (glOf L p) gi) (h1 : First (fun _ => True) (evOf L p gi) j1) (l : Fin 128) :
    restV L (ix2 p l) = 1#1 ↔ ∃ j, j ≠ j1 ∧ laneE (expertOf gi j) = l := by
  have : restV L (ix2 p l) = IntOp.andi (maskV L (ix2 p l)) (IntOp.cmpi .ne (lanes (ix2 p l)) (topW L (ix2 p 0))) := by
    pointwise [restV, k0_pay17]
    rfl
  rw [this, lanes_apply, topW_apply h h1]
  have hand : ∀ a b : BitVec 1, IntOp.andi a b = 1#1 ↔ a = 1#1 ∧ b = 1#1 := by decide
  have hne : ∀ (l : Fin 128) (e : Fin 16),
      IntOp.cmpi .ne (BitVec.ofNat 32 l.val) (BitVec.ofNat 32 (laneE e).val) = 1#1 ↔ l ≠ laneE e := by decide +kernel
  rw [hand, maskV_apply h, hne]
  constructor
  · rintro ⟨⟨j, -, rfl⟩, hj⟩
    exact ⟨j, fun hjj => hj (by rw [hjj]), rfl⟩
  · rintro ⟨j, hj, rfl⟩
    exact ⟨⟨j, trivial, rfl⟩, fun hjj => hj (expertOf_inj.mp (laneE_inj.mp hjj))⟩

theorem secV_apply (h : First (fun _ => True) (glOf L p) gi) (h1 : First (fun _ => True) (evOf L p gi) j1)
    (h2 : First (fun j => j ≠ j1) (evOf L p gi) j2) : secV L (ix2 p 0) = evOf L p gi j2 := by
  pointwise [secV, k0_pay18]
  rw [ofBits_neg_inf]
  exact fold_max_first (first_sec h2) _ (restV_apply h h1)

theorem is1V_apply (h : First (fun _ => True) (glOf L p) gi) (h1 : First (fun _ => True) (evOf L p gi) j1) (e : Fin 16) :
    is1V L (ix2 p (laneE e)) = 1#1 ↔ e.val = 4 * gi.val + j1.val := by
  have : is1V L (ix2 p (laneE e)) = IntOp.cmpi .eq (lanes (ix2 p (laneE e))) (topW L (ix2 p 0)) := by
    pointwise [is1V, k0_pay22]
    rfl
  rw [this, lanes_apply, topW_apply h h1, laneE_word, laneE_inj, Fin.ext_iff]
  rfl

theorem is2V_apply (h : First (fun _ => True) (glOf L p) gi) (h1 : First (fun _ => True) (evOf L p gi) j1)
    (h2 : First (fun j => j ≠ j1) (evOf L p gi) j2) (e : Fin 16) :
    is2V L (ix2 p (laneE e)) = 1#1 ↔ e.val = 4 * gi.val + j2.val := by
  have : is2V L (ix2 p (laneE e)) = IntOp.cmpi .eq (lanes (ix2 p (laneE e)))
      (BitVec.ofNat 32 (laneE (expertOf gi j2)).val) := by
    pointwise [is2V, k0_pay23]
    exact congrArg (IntOp.cmpi .eq _) (fold_min_first (first_sec h2) _ (restV_apply h h1) _ (lanes_apply p) _ (secV_apply h h1 h2))
  rw [this, lanes_apply, laneE_word, laneE_inj, Fin.ext_iff]
  rfl

theorem pay20_apply (I : IVec S32x128 32) (g : IVec S32x1 32) (P : FVec Ideal S32x1 .f32) (a : IVec S32x128 1)
    (b : IVec S32x128 32) (c : IVec S32x128 1) (d : IVec S32x128 32) :
    k0_pay20 L I g P a b c d (ix2 p 0) = Ideal.div (P (ix2 p 0))
      (1 + Ideal.exp (k0_pay18 L I g a b c d (ix2 p 0) - k0_pay15 L g a b c d (ix2 p 0))) := by
  pointwise [k0_pay20, k0_pay19]

theorem pay21_apply (I : IVec S32x128 32) (g : IVec S32x1 32) (P : FVec Ideal S32x1 .f32) (a : IVec S32x128 1)
    (b : IVec S32x128 32) (c : IVec S32x128 1) (d : IVec S32x128 32) :
    k0_pay21 L I g P a b c d (ix2 p 0) = Ideal.div
      (P (ix2 p 0) * Ideal.exp (k0_pay18 L I g a b c d (ix2 p 0) - k0_pay15 L g a b c d (ix2 p 0)))
      (1 + Ideal.exp (k0_pay18 L I g a b c d (ix2 p 0) - k0_pay15 L g a b c d (ix2 p 0))) := by
  pointwise [k0_pay21, k0_pay19]

theorem w1V_apply : w1V L (ix2 p 0) = Ideal.div (probV L (ix2 p 0)) (1 + Ideal.exp (secV L (ix2 p 0) - topV L (ix2 p 0))) :=
  pay20_apply _ _ _ _ _ _ _

theorem w2V_apply : w2V L (ix2 p 0) = Ideal.div (probV L (ix2 p 0) * Ideal.exp (secV L (ix2 p 0) - topV L (ix2 p 0)))
    (1 + Ideal.exp (secV L (ix2 p 0) - topV L (ix2 p 0))) :=
  pay21_apply _ _ _ _ _ _ _

theorem gateV_apply (h : First (fun _ => True) (glOf L p) gi) (h1 : First (fun _ => True) (evOf L p gi) j1)
    (h2 : First (fun j => j ≠ j1) (evOf L p gi) j2) (e : Fin 16) :
    gateV L (ix2 p (laneE e)) = gateOf (glOf L p) (evOf L p gi) gi j1 j2 e := by
  have e0 : gateV L (ix2 p (laneE e)) = Scalar.select (is1V L (ix2 p (laneE e))) (w1V L (ix2 p 0))
      (Scalar.select (is2V L (ix2 p (laneE e))) (w2V L (ix2 p 0)) 0) := by
    pointwise [gateV, k0_pay24]
  rw [e0, select_iff (is1V_apply h h1 e), select_iff (is2V_apply h h1 h2 e)]
  rw [w1V_apply, w2V_apply, probV_apply h, secV_apply h h1 h2, topV_apply h h1]
  rfl

end Cert.MoeS
-- ==== Proof.MoeS.KBlock.lean ====
/- The kernel's block of 32 rows, read at an index. -/
module

public import proofs.«01_k».proof.Proof.MoeS.KRoute
public import proofs.«01_k».proof.Proof.Moe.Spec

@[expose] public section
set_option maxRecDepth 16384
noncomputable section
namespace Cert.MoeS
open Cert.Moe
open Idealize.ShloMosaic Cert.Kernel5Ideal Cert.Kernel5Ideal.Gen

variable (x : Vec Ideal S32x1024 .f32) (g : Vec Ideal S1x1024 .f32) (p : Fin 32)

theorem pay2_apply (q : Fin 1024) : k0_pay2 x g (ix2 p q) = normed (fun k => x (ix2 p k)) (fun k => g (ix2 0 k)) q := by
  pointwise [k0_pay2]
  rfl

theorem pay3_apply (q : Fin 1024) : k0_pay3 x g (ix2 p q) = normed (fun k => x (ix2 p k)) (fun k => g (ix2 0 k)) q := by
  pointwise [k0_pay3]
  exact pay2_apply x g p q

/-- The logits when the normalised row is finite and the second weight slab is zero. -/
theorem logits_apply (w : Vec Ideal S2x1024x128 .bf16) (b : Vec Ideal S1x128 .f32) (q : Fin 128)
    (hx : ∀ k, normed (fun k => x (ix2 p k)) (fun k => g (ix2 0 k)) k - normed (fun k => x (ix2 p k)) (fun k => g (ix2 0 k)) k = 0)
    (hw : ∀ k, w (ix3 1 k q) = 0) :
    k0_pay4 (View.ld x r0_0) (View.ld g r0_1) (View.ld w r0_2) (View.ld w r0_2) (View.ld w r0_3) (View.ld b r0_4) (ix2 p q)
      = (∑ k, normed (fun k => x (ix2 p k)) (fun k => g (ix2 0 k)) k * w (ix3 0 k q)) + b (ix2 0 q) := by
  have hz : ∀ k, k0_pay2 (View.ld x r0_0) (View.ld g r0_1) (ix2 p k) = normed (fun k => x (ix2 p k)) (fun k => g (ix2 0 k)) k := by
    intro k
    rw [pay2_apply]
    pointwise []
  pointwise [k0_pay4, k0_pay3]
  simp only [hz, hx, hw, zero_mul, mul_zero, Finset.sum_const_zero, add_zero]

/-- Hidden column `c`'s contribution to output column `q`. -/
def hidden (h : FVec Ideal S32x1024 .bf16) (G : FVec Ideal S32x128 .f32) (w1 w3 : Vec Ideal S1024x4096 .bf16)
    (w2 : Vec Ideal S4096x1024 .bf16) (p : Fin 32) (q : Fin 1024) (c : Fin 4096) : EReal :=
  glu (fun k => h (ix2 p k)) (fun k => w1 (ix2 k c)) (fun k => w3 (ix2 k c)) * G (ix2 p ⟨4 + c.val / 256, by omega⟩) * w2 (ix2 c q)

variable (h : FVec Ideal S32x1024 .bf16) (G : FVec Ideal S32x128 .f32) (w1 w3 : Vec Ideal S1024x4096 .bf16)
  (w2 : Vec Ideal S4096x1024 .bf16) (q : Fin 1024)

theorem pay30_apply (acc : FVec Ideal S32x1024 .f32) :
    k0_pay30 x h G acc (View.ld w1 r0_11) (View.ld w3 r0_11) (View.ld w2 r0_12) (ix2 p q)
      = x (ix2 p q) + (acc (ix2 p q) + ∑ k : Fin 1024, hidden h G w1 w3 w2 p q ⟨3072 + k.val, by omega⟩) := by
  pointwise [k0_pay30]
  refine congrArg (fun s => x (ix2 p q) + (acc (ix2 p q) + s)) ?_
  refine Finset.sum_congr rfl fun k _ => ?_
  unfold hidden glu
  congr 2
  split_ifs <;> (refine congrArg (fun l => G (ix2 p l)) (Fin.ext ?_); simp only [Fin.val_ofNat, Fin.isValue, Fin.coe_ofNat_eq_mod]; omega)

theorem pay25_apply (a b : FVec Ideal S32x1 .f32) (i1 i2 : IVec S32x128 1) :
    k0_pay25 h a b i1 i2 (Scalar.ofBits .f32 0x00000000#32) (View.ld w1 r0_5) (View.ld w3 r0_5) (View.ld w2 r0_6) (ix2 p q)
      = 0 + ∑ k : Fin 1024, hidden h (k0_pay24 a b i1 i2 (Scalar.ofBits .f32 0x00000000#32)) w1 w3 w2 p q ⟨k.val, by omega⟩ := by
  generalize hG : k0_pay24 (F := Ideal) a b i1 i2 (Scalar.ofBits .f32 0x00000000#32) = G
  unfold k0_pay25
  rw [hG]
  pointwise []
  refine Finset.sum_congr rfl fun k _ => ?_
  unfold hidden glu
  congr 2
  split_ifs <;> (refine congrArg (fun l => G (ix2 p l)) (Fin.ext ?_); simp only [Fin.val_ofNat, Fin.isValue, Fin.coe_ofNat_eq_mod]; omega)

theorem pay29_apply (acc : FVec Ideal S32x1024 .f32) (c : FVec Ideal S32x1 .f32) (hc : c (ix2 p 0) = G (ix2 p 8)) :
    k0_pay29 h G acc (k0_pay26 h (View.ld w1 r0_7)) (k0_pay27 h (View.ld w3 r0_7)) c (View.ld w2 r0_8)
      (View.ld w1 r0_9) (View.ld w3 r0_9) (View.ld w2 r0_10) (ix2 p q)
      = acc (ix2 p q) + (∑ k : Fin 1024, hidden h G w1 w3 w2 p q ⟨1024 + k.val, by omega⟩)
        + ∑ k : Fin 1024, hidden h G w1 w3 w2 p q ⟨2048 + k.val, by omega⟩ := by
  pointwise [k0_pay29, k0_pay26, k0_pay27]
  rw [hc]
  refine congrArg₂ (fun s t => acc (ix2 p q) + s + t) ?_ ?_
  all_goals
    refine Finset.sum_congr rfl fun k _ => ?_
    unfold hidden glu
    congr 2
    split_ifs <;> (refine congrArg (fun l => G (ix2 p l)) (Fin.ext ?_); simp only [Fin.val_ofNat, Fin.isValue, Fin.coe_ofNat_eq_mod]; omega)

theorem pay28_apply (a b : FVec Ideal S32x1 .f32) (i1 i2 : IVec S32x128 1) (z : Ideal .f32) :
    k0_pay28 a b i1 i2 z (ix2 p 0) = k0_pay24 a b i1 i2 z (ix2 p 8) := by
  pointwise [k0_pay28]

/-- The row of the block after the experts: the input plus the gated experts' sum. -/
theorem rows_apply (a b : FVec Ideal S32x1 .f32) (i1 i2 : IVec S32x128 1) (hG : k0_pay24 a b i1 i2 (Scalar.ofBits .f32 0x00000000#32) = G) :
    k0_pay30 x h G (k0_pay29 h G (k0_pay25 h a b i1 i2 (Scalar.ofBits .f32 0x00000000#32) (View.ld w1 r0_5) (View.ld w3 r0_5) (View.ld w2 r0_6))
        (k0_pay26 h (View.ld w1 r0_7)) (k0_pay27 h (View.ld w3 r0_7)) (k0_pay28 a b i1 i2 (Scalar.ofBits .f32 0x00000000#32)) (View.ld w2 r0_8)
        (View.ld w1 r0_9) (View.ld w3 r0_9) (View.ld w2 r0_10)) (View.ld w1 r0_11) (View.ld w3 r0_11) (View.ld w2 r0_12) (ix2 p q)
      = x (ix2 p q) + expertSum (fun k => h (ix2 p k)) (fun e k f => w1 (ix2 k ⟨256 * e.val + f.val, by omega⟩))
          (fun e k f => w3 (ix2 k ⟨256 * e.val + f.val, by omega⟩)) (fun e f q => w2 (ix2 ⟨256 * e.val + f.val, by omega⟩ q))
          (fun e => G (ix2 p (laneE e))) q := by
  rw [pay30_apply, pay29_apply _ _ _ _ _ _ _ _ _ ((pay28_apply p a b i1 i2 _).trans (by rw [hG])), pay25_apply, hG, sum_quarters]
  refine congrArg (x (ix2 p q) + ·) (Finset.sum_congr rfl fun e _ => Finset.sum_congr rfl fun f _ => ?_)
  unfold hidden
  have hl : (⟨4 + (256 * e.val + f.val) / 256, by omega⟩ : Fin 128) = laneE e := by
    apply Fin.ext; simp only [laneE]; omega
  simp only [hl]

theorem pay31_apply (acc : FVec Ideal S32x1024 .f32) (u v w : Vec Ideal S1024x1024 .bf16) (gf : Vec Ideal S1x1024 .f32) :
    k0_pay1 (k0_pay31 x h G acc u v w) (k0_pay32 gf) (ix2 p q)
      = normed (fun k => k0_pay30 x h G acc u v w (ix2 p k)) (fun k => gf (ix2 0 k)) q := by
  pointwise [k0_pay1, k0_pay32, k0_pay31]
  rfl

/-! ## What the body leaves in the two outputs -/

section
variable (x0 : Vec Ideal S32x1024 .f32) (x1 : Vec Ideal S1x1024 .f32) (x2 : Vec Ideal S2x1024x128 .bf16) (x3 : Vec Ideal S1x128 .f32)
  (x4 x5 : Vec Ideal S1024x4096 .bf16) (x6 : Vec Ideal S4096x1024 .bf16) (x7 : Vec Ideal S1x1024 .f32)

/-- The normalised row `p` of the block. -/
def blockH (p : Fin 32) : Fin 1024 → EReal := normed (fun k => x0 (ix2 p k)) (fun k => x1 (ix2 0 k))

/-- The gate of expert `e` in row `p` of the block. -/
def blockGate (p : Fin 32) (e : Fin 16) : EReal := gateV (k0_pay35 x0 x1 x2 x3 x4 x5 x6 x7) (ix2 p (laneE e))

/-- Row `p` of the first output. -/
def blockRow (p : Fin 32) (q : Fin 1024) : EReal :=
  x0 (ix2 p q) + expertSum (blockH x0 x1 p) (fun e k f => x4 (ix2 k ⟨256 * e.val + f.val, by omega⟩))
    (fun e k f => x5 (ix2 k ⟨256 * e.val + f.val, by omega⟩)) (fun e f q => x6 (ix2 ⟨256 * e.val + f.val, by omega⟩ q))
    (blockGate x0 x1 x2 x3 x4 x5 x6 x7 p) q

theorem ld_x0 : View.ld x0 r0_0 = x0 := View.ld_unit_zero (by decide) _ _
theorem ld_x1 : View.ld x1 r0_1 = x1 := View.ld_unit_zero (by decide) _ _

theorem out8_apply : out0_8 x0 x1 x2 x3 x4 x5 x6 x7 (ix2 p q) = blockRow x0 x1 x2 x3 x4 x5 x6 x7 p q := by
  unfold out0_8
  rw [View.canon_unit_zero (by decide)]
  refine (rows_apply (View.ld x0 r0_0) p (k0_pay34 x0 x1 x2 x3 x4 x5 x6 x7) (k0_pay47 x0 x1 x2 x3 x4 x5 x6 x7) x4 x5 x6 q
    (k0_pay43 x0 x1 x2 x3 x4 x5 x6 x7) (k0_pay44 x0 x1 x2 x3 x4 x5 x6 x7) (k0_pay45 x0 x1 x2 x3 x4 x5 x6 x7) (k0_pay46 x0 x1 x2 x3 x4 x5 x6 x7) rfl).trans ?_
  rw [ld_x0]
  unfold blockRow
  refine congrArg (x0 (ix2 p q) + ·) ?_
  have hh : (fun k => k0_pay34 x0 x1 x2 x3 x4 x5 x6 x7 (ix2 p k)) = blockH x0 x1 p := by
    funext k
    unfold k0_pay34
    rw [ld_x0, ld_x1, pay3_apply]
    rfl
  rw [hh]
  rfl

theorem out9_apply : out0_9 x0 x1 x2 x3 x4 x5 x6 x7 (ix2 p q)
    = normed (blockRow x0 x1 x2 x3 x4 x5 x6 x7 p) (fun k => x7 (ix2 0 k)) q := by
  have h8 : ∀ k, out0_8 x0 x1 x2 x3 x4 x5 x6 x7 (ix2 p k) = blockRow x0 x1 x2 x3 x4 x5 x6 x7 p k :=
    fun k => out8_apply p k x0 x1 x2 x3 x4 x5 x6 x7
  unfold out0_8 at h8
  rw [View.canon_unit_zero (by decide)] at h8
  unfold out0_9
  rw [View.canon_unit_zero (by decide), pay31_apply]
  simp only [h8]
  rw [show View.ld x7 r0_1 = x7 from View.ld_unit_zero (by decide) _ _]

/-- The logits of the block when its rows are finite and the second weight slab is zero. -/
theorem blockLogits (l : Fin 128) (hx : ∀ k, blockH x0 x1 p k - blockH x0 x1 p k = 0) (hw : ∀ k, x2 (ix3 1 k l) = 0) :
    k0_pay35 x0 x1 x2 x3 x4 x5 x6 x7 (ix2 p l) = (∑ k, blockH x0 x1 p k * x2 (ix3 0 k l)) + x3 (ix2 0 l) :=
  logits_apply x0 x1 p x2 x3 l hx hw

/-- The gates of a row, from the chosen group and experts. -/
theorem blockGate_eq {gl : Fin 4 → EReal} {ev : Fin 4 → EReal} {gi j1 j2 : Fin 4}
    (hgl : ∀ i, k0_pay35 x0 x1 x2 x3 x4 x5 x6 x7 (ix2 p (laneG i)) = gl i)
    (hev : ∀ j, k0_pay35 x0 x1 x2 x3 x4 x5 x6 x7 (ix2 p (laneE (expertOf gi j))) = ev j)
    (h : First (fun _ => True) gl gi) (h1 : First (fun _ => True) ev j1) (h2 : First (fun j => j ≠ j1) ev j2) (e : Fin 16) :
    blockGate x0 x1 x2 x3 x4 x5 x6 x7 p e = gateOf gl ev gi j1 j2 e := by
  obtain rfl : glOf (k0_pay35 x0 x1 x2 x3 x4 x5 x6 x7) p = gl := funext hgl
  obtain rfl : evOf (k0_pay35 x0 x1 x2 x3 x4 x5 x6 x7) p gi = ev := funext hev
  exact gateV_apply h h1 h2 e
end
end Cert.MoeS
-- ==== Proof.MoeS.KHost.lean ====
/- The arrays the kernel's windows read: the host's preparation of the weights, read at an index. -/
module

public import proofs.«01_k».proof.Proof.MoeS.KRoute

@[expose] public section
set_option maxRecDepth 16384
noncomputable section
namespace Cert.MoeS
open Cert.Moe
open Idealize.ShloMosaic Idealize.ShloMosaic.TcCoe Idealize.SL.Sem Cert.Kernel5Ideal Cert.Kernel5Ideal.Gen Idealize.ShloMosaic.StableHlo

variable (m : (ℓ : Loc nD τ sig) → Buf (Elt Ideal) ℓ) (c : Dev nD)

/-- Argument contents as launched. -/
abbrev A0 : Vec Ideal S32x1024 .f32 := m ((c : Thread nD τ).loc main_arg0)
abbrev A1 : Vec Ideal S1024 .f32 := m ((c : Thread nD τ).loc main_arg1)
abbrev A2 : Vec Ideal S1024x4 .f32 := m ((c : Thread nD τ).loc main_arg2)
abbrev A3 : Vec Ideal S4 .f32 := m ((c : Thread nD τ).loc main_arg3)
abbrev A4 : Vec Ideal S1024x16 .f32 := m ((c : Thread nD τ).loc main_arg4)
abbrev A5 : Vec Ideal S16 .f32 := m ((c : Thread nD τ).loc main_arg5)
abbrev A6 : Vec Ideal S16x1024x256 .f32 := m ((c : Thread nD τ).loc main_arg6)
abbrev A7 : Vec Ideal S16x1024x256 .f32 := m ((c : Thread nD τ).loc main_arg7)
abbrev A8 : Vec Ideal S16x256x1024 .f32 := m ((c : Thread nD τ).loc main_arg8)
abbrev A9 : Vec Ideal S1024 .f32 := m ((c : Thread nD τ).loc main_arg9)

theorem V_v20 : V m c main_v20 = broadcastInDim S1x1024 ![1] bcast_S1024_S1x1024_1 (A1 m c) := by
  unfold_abbrev_sides
  after_results
theorem V_v21 : V m c main_v21 = broadcastInDim S1x1024 ![1] bcast_S1024_S1x1024_1 (A9 m c) := by
  unfold_abbrev_sides
  after_results
/-- The first layer's weights as the kernel lays them out: expert by expert along the columns. -/
def colsOf (w : FVec Ideal S16x1024x256 .f32) : FVec Ideal S1024x4096 .bf16 :=
  truncf .bf16 (shapeCast S1024x4096 (transpose S1024x16x256 [1, 0, 2] w transposes_S16x1024x256_S1024x16x256_1_0_2) shapeCasts_S1024x16x256_S1024x4096) bitsLt_bf16_f32
theorem colsOf_apply (w : FVec Ideal S16x1024x256 .f32) (k : Fin 1024) (e : Fin 16) (f : Fin 256) :
    colsOf w (ix2 k ⟨256 * e.val + f.val, by omega⟩) = w (ix3 e k f) := by
  pointwise [colsOf]
/-- The second layer's weights as the kernel lays them out: expert by expert along the rows. -/
def rowsOf (w : FVec Ideal S16x256x1024 .f32) : FVec Ideal S4096x1024 .bf16 :=
  truncf .bf16 (shapeCast S4096x1024 w shapeCasts_S16x256x1024_S4096x1024) bitsLt_bf16_f32
theorem rowsOf_apply (w : FVec Ideal S16x256x1024 .f32) (e : Fin 16) (f : Fin 256) (q : Fin 1024) :
    rowsOf w (ix2 ⟨256 * e.val + f.val, by omega⟩ q) = w (ix3 e f q) := by
  pointwise [rowsOf]
theorem V_v14 : V m c main_v14 = colsOf (A6 m c) := by
  unfold_abbrev_sides
  after_results
  rfl
theorem V_v17 : V m c main_v17 = colsOf (A7 m c) := by
  unfold_abbrev_sides
  after_results
  rfl
theorem V_v19 : V m c main_v19 = rowsOf (A8 m c) := by
  unfold_abbrev_sides
  after_results
  rfl

/-- The router's weights side by side, padded with zero columns. -/
def catW (a : FVec Ideal S1024x4 .f32) (b : FVec Ideal S1024x16 .f32) : FVec Ideal S1024x128 .f32 :=
  concatenate S1024x128 1 [⟨S1024x4, a⟩, ⟨S1024x16, b⟩, ⟨S1024x108, broadcastInDim S1024x108 ![] bcast_S_S1024x108 (constant S_ .f32 0x00000000#32)⟩] concatenates_S1024x4_S1024x16_S1024x108_S1024x128_d1
/-- Both slabs of the router's weights: the rounded ones, and what the rounding lost. -/
def slabs (w : FVec Ideal S1024x128 .f32) : FVec Ideal S2x1024x128 .bf16 :=
  concatenate S2x1024x128 0
    [⟨S1x1024x128, broadcastInDim S1x1024x128 ![1, 2] bcast_S1024x128_S1x1024x128_1_2 (truncf .bf16 w bitsLt_bf16_f32)⟩,
     ⟨S1x1024x128, broadcastInDim S1x1024x128 ![1, 2] bcast_S1024x128_S1x1024x128_1_2
        (truncf .bf16 (subf w (extf .f32 (truncf .bf16 w bitsLt_bf16_f32) bitsLt_bf16_f32)) bitsLt_bf16_f32)⟩]
    concatenates_S1x1024x128_S1x1024x128_S2x1024x128_d0
def catB (a : FVec Ideal S4 .f32) (b : FVec Ideal S16 .f32) : FVec Ideal S1x128 .f32 :=
  broadcastInDim S1x128 ![1] bcast_S128_S1x128_1 (concatenate S128 0 [⟨S4, a⟩, ⟨S16, b⟩, ⟨S108, broadcastInDim S108 ![] bcast_S_S108 (constant S_ .f32 0x00000000#32)⟩] concatenates_S4_S16_S108_S128_d0)
theorem V_v8 : V m c main_v8 = slabs (catW (A2 m c) (A4 m c)) := by
  unfold_abbrev_sides
  after_results
  rfl
theorem V_v11 : V m c main_v11 = catB (A3 m c) (A5 m c) := by
  unfold_abbrev_sides
  after_results
  rfl
theorem slabs_zero (w : FVec Ideal S1024x128 .f32) (k : Fin 1024) (l : Fin 128) : slabs w (ix3 0 k l) = w (ix2 k l) := by
  pointwise [slabs]
theorem slabs_one (w : FVec Ideal S1024x128 .f32) (k : Fin 1024) (l : Fin 128) : slabs w (ix3 1 k l) = w (ix2 k l) - w (ix2 k l) := by
  pointwise [slabs]
variable (a : FVec Ideal S1024x4 .f32) (b : FVec Ideal S1024x16 .f32) (k : Fin 1024)
theorem catW_group (i : Fin 4) : catW a b (ix2 k ⟨i.val, by omega⟩) = a (ix2 k i) := by
  pointwise [catW]

theorem catW_expert (e : Fin 16) : catW a b (ix2 k ⟨4 + e.val, by omega⟩) = b (ix2 k e) := by
  pointwise [catW]

theorem catB_group (a : FVec Ideal S4 .f32) (b : FVec Ideal S16 .f32) (i : Fin 4) : catB a b (ix2 0 ⟨i.val, by omega⟩) = a (ix1 i) := by
  pointwise [catB]

theorem catB_expert (a : FVec Ideal S4 .f32) (b : FVec Ideal S16 .f32) (e : Fin 16) : catB a b (ix2 0 ⟨4 + e.val, by omega⟩) = b (ix1 e) := by
  pointwise [catB]

end Cert.MoeS
-- ==== Proof.MoeS.KFinal.lean ====
/- The kernel's two output arrays after the run, row by row. -/
module

public import proofs.«01_k».proof.Proof.MoeS.KBlock
public import proofs.«01_k».proof.Proof.MoeS.KHost
public import Idealize.ShloMosaic.Lib.Pipeline.ValueKit

@[expose] public section
set_option maxRecDepth 16384
noncomputable section
namespace Cert.MoeS
open Cert.Moe
open Idealize.ShloMosaic Idealize.ShloMosaic.TcCoe Idealize.SL.Sem Cert.Kernel5Ideal Cert.Kernel5Ideal.Gen
open Idealize.ShloMosaic.Pipeline (Dat)

/-- Row `i` normalised. -/
def rowH (x : FVec Ideal S32x1024 .f32) (g : FVec Ideal S1024 .f32) (i : Fin 32) : Fin 1024 → EReal :=
  normed (fun k => x (ix2 i k)) (fun k => g (ix1 k))
/-- The group logits of a normalised row. -/
def groupLogit (h : Fin 1024 → EReal) (w : FVec Ideal S1024x4 .f32) (b : FVec Ideal S4 .f32) (j : Fin 4) : EReal :=
  (∑ k, h k * w (ix2 k j)) + b (ix1 j)
/-- The expert logits of a normalised row. -/
def expertLogit (h : Fin 1024 → EReal) (w : FVec Ideal S1024x16 .f32) (b : FVec Ideal S16 .f32) (e : Fin 16) : EReal :=
  (∑ k, h k * w (ix2 k e)) + b (ix1 e)
/-- Row `i` of the first result, given the gates of the row. -/
def rowOut (x : FVec Ideal S32x1024 .f32) (g : FVec Ideal S1024 .f32) (w1 w3 : FVec Ideal S16x1024x256 .f32)
    (w2 : FVec Ideal S16x256x1024 .f32) (gate : Fin 32 → Fin 16 → EReal) (i : Fin 32) (q : Fin 1024) : EReal :=
  x (ix2 i q) + expertSum (rowH x g i) (fun e k f => w1 (ix3 e k f)) (fun e k f => w3 (ix3 e k f)) (fun e f q => w2 (ix3 e f q)) (gate i) q

theorem idx : ∀ t : Fin cfg0.N, win0_0.index t = ![t.val, 0] ∧ win0_8.index t = ![t.val, 0] ∧ win0_9.index t = ![t.val, 0]
    ∧ win0_1.index t = ![0, 0] ∧ win0_2.index t = ![0, 0, 0] ∧ win0_3.index t = ![0, 0] ∧ win0_4.index t = ![0, 0]
    ∧ win0_5.index t = ![0, 0] ∧ win0_6.index t = ![0, 0] ∧ win0_7.index t = ![0, 0] :=
  (by decide +kernel : ∀ t : Fin grid0.N, _)

variable (m : (ℓ : Loc nD τ sig) → Buf (Elt Ideal) ℓ) (c : Dev nD) (t : Fin cfg0.N)

/-- The array's row of row `p` of point `t`'s block. -/
def rowAt (t : Fin cfg0.N) (p : Fin 32) : Fin 32 := ⟨t.val * 32 + p.val, by
  have h : cfg0.N = 1 := N_0
  have := t.isLt; omega⟩

theorem blk0 (p : Fin 32) (k : Fin 1024) : (iblk m c 0 t : Vec Ideal S32x1024 .f32) (ix2 p k) = A0 m c (ix2 (rowAt t p) k) := by
  unfold rowAt
  blk_ext! [iblk, V, idx t]
theorem blk1 : iblk m c 1 t = V m c main_v20 := by blk_ext! [iblk, idx t]
theorem blk2 : iblk m c 2 t = V m c main_v8 := by blk_ext! [iblk, idx t]
theorem blk3 : iblk m c 3 t = V m c main_v11 := by blk_ext! [iblk, idx t]
theorem blk4 : iblk m c 4 t = V m c main_v14 := by blk_ext! [iblk, idx t]
theorem blk5 : iblk m c 5 t = V m c main_v17 := by blk_ext! [iblk, idx t]
theorem blk6 : iblk m c 6 t = V m c main_v19 := by blk_ext! [iblk, idx t]
theorem blk7 : iblk m c 7 t = V m c main_v21 := by blk_ext! [iblk, idx t]

theorem emb8 (p : Fin 32) (q : Fin 1024) : ((View.whole main_v22_0).slice (win0_8.rect t)).emb (ix2 p q) = ix2 (rowAt t p) q := by
  unfold rowAt
  blk_ext! [idx t]
theorem emb9 (p : Fin 32) (q : Fin 1024) : ((View.whole main_v22_1).slice (win0_9.rect t)).emb (ix2 p q) = ix2 (rowAt t p) q := by
  unfold rowAt
  blk_ext! [idx t]

theorem gain_apply (g : FVec Ideal S1024 .f32) (k : Fin 1024) : broadcastInDim S1x1024 ![1] bcast_S1024_S1x1024_1 g (ix2 0 k) = g (ix1 k) := by
  pointwise []

/-- The numbers the routing of a row rests on are finite, so subtracting them from themselves gives zero. -/
structure RowsFinite (x : FVec Ideal S32x1024 .f32) (g : FVec Ideal S1024 .f32) (wg : FVec Ideal S1024x4 .f32) (we : FVec Ideal S1024x16 .f32) : Prop where
  row : ∀ i k, rowH x g i k - rowH x g i k = 0
  group : ∀ k j, wg (ix2 k j) - wg (ix2 k j) = 0
  expert : ∀ k e, we (ix2 k e) - we (ix2 k e) = 0

/-- The chosen group and experts of every row. -/
structure Chosen (x : FVec Ideal S32x1024 .f32) (g : FVec Ideal S1024 .f32) (wg : FVec Ideal S1024x4 .f32) (bg : FVec Ideal S4 .f32)
    (we : FVec Ideal S1024x16 .f32) (be : FVec Ideal S16 .f32) (gi j1 j2 : Fin 32 → Fin 4) : Prop where
  group : ∀ i, First (fun _ => True) (groupLogit (rowH x g i) wg bg) (gi i)
  first : ∀ i, First (fun _ => True) (fun j => expertLogit (rowH x g i) we be (expertOf (gi i) j)) (j1 i)
  second : ∀ i, First (fun j => j ≠ j1 i) (fun j => expertLogit (rowH x g i) we be (expertOf (gi i) j)) (j2 i)

/-- The gates of row `i`, the group and the experts being chosen. -/
def rowGate (x : FVec Ideal S32x1024 .f32) (g : FVec Ideal S1024 .f32) (wg : FVec Ideal S1024x4 .f32) (bg : FVec Ideal S4 .f32)
    (we : FVec Ideal S1024x16 .f32) (be : FVec Ideal S16 .f32) (gi j1 j2 : Fin 32 → Fin 4) (i : Fin 32) (e : Fin 16) : EReal :=
  gateOf (groupLogit (rowH x g i) wg bg) (fun j => expertLogit (rowH x g i) we be (expertOf (gi i) j)) (gi i) (j1 i) (j2 i) e

/-- The kernel's first result, row by row. -/
def kOut (gi j1 j2 : Fin 32 → Fin 4) : Fin 32 → Fin 1024 → EReal :=
  rowOut (A0 m c) (A1 m c) (A6 m c) (A7 m c) (A8 m c) (rowGate (A0 m c) (A1 m c) (A2 m c) (A3 m c) (A4 m c) (A5 m c) gi j1 j2)

theorem blockH_eq (p : Fin 32) : blockH (iblk m c 0 t) (iblk m c 1 t) p = rowH (A0 m c) (A1 m c) (rowAt t p) := by
  unfold blockH rowH
  rw [blk1, V_v20]
  simp only [blk0]
  exact congrArg (normed _) (funext fun k => gain_apply _ k)

variable {m c} {gi j1 j2 : Fin 32 → Fin 4}
theorem blockRow_eq (hf : RowsFinite (A0 m c) (A1 m c) (A2 m c) (A4 m c))
    (hc : Chosen (A0 m c) (A1 m c) (A2 m c) (A3 m c) (A4 m c) (A5 m c) gi j1 j2) (p : Fin 32) (q : Fin 1024) :
    blockRow (iblk m c 0 t) (iblk m c 1 t) (iblk m c 2 t) (iblk m c 3 t) (iblk m c 4 t) (iblk m c 5 t) (iblk m c 6 t) (iblk m c 7 t) p q
      = kOut m c gi j1 j2 (rowAt t p) q := by
  have hg : blockGate (iblk m c 0 t) (iblk m c 1 t) (iblk m c 2 t) (iblk m c 3 t) (iblk m c 4 t) (iblk m c 5 t) (iblk m c 6 t) (iblk m c 7 t) p
      = rowGate (A0 m c) (A1 m c) (A2 m c) (A3 m c) (A4 m c) (A5 m c) gi j1 j2 (rowAt t p) := by
    funext e
    refine blockGate_eq p _ _ _ _ _ _ _ _ (fun i => ?_) (fun j => ?_) (hc.group _) (hc.first _) (hc.second _) e
    · rw [blockLogits p _ _ _ _ _ _ _ _ (laneG i) (fun k => by rw [blockH_eq]; exact hf.row _ k)
        (fun k => by rw [blk2, V_v8, slabs_one]; exact (by rw [show catW (A2 m c) (A4 m c) (ix2 k (laneG i)) = A2 m c (ix2 k i) from catW_group _ _ _ _]; exact hf.group k i))]
      rw [blockH_eq, blk2, blk3, V_v8, V_v11]
      unfold groupLogit
      exact congrArg₂ (· + ·) (Finset.sum_congr rfl fun k _ => congrArg (rowH (A0 m c) (A1 m c) (rowAt t p) k * ·) ((slabs_zero _ k _).trans (catW_group _ _ k i))) (catB_group _ _ i)
    · rw [blockLogits p _ _ _ _ _ _ _ _ (laneE (expertOf (gi (rowAt t p)) j)) (fun k => by rw [blockH_eq]; exact hf.row _ k)
        (fun k => by rw [blk2, V_v8, slabs_one]; exact (by rw [show catW (A2 m c) (A4 m c) (ix2 k (laneE (expertOf (gi (rowAt t p)) j))) = A4 m c (ix2 k (expertOf (gi (rowAt t p)) j)) from catW_expert _ _ _ _]; exact hf.expert k _))]
      rw [blockH_eq, blk2, blk3, V_v8, V_v11]
      unfold expertLogit
      exact congrArg₂ (· + ·) (Finset.sum_congr rfl fun k _ => congrArg (rowH (A0 m c) (A1 m c) (rowAt t p) k * ·) ((slabs_zero _ k _).trans (catW_expert _ _ k _))) (catB_expert _ _ _)
  unfold blockRow kOut rowOut
  rw [hg, blockH_eq, blk0, blk4, blk5, blk6, V_v14, V_v17, V_v19]
  simp only [colsOf_apply, rowsOf_apply]

theorem final8 (hf : RowsFinite (A0 m c) (A1 m c) (A2 m c) (A4 m c))
    (hc : Chosen (A0 m c) (A1 m c) (A2 m c) (A3 m c) (A4 m c) (A5 m c) gi j1 j2) :
    (dats m 0 c).arrAt 8 (cfgs 0).N = fun y : S32x1024.Idx => kOut m c gi j1 j2 (y 0) (y 1) := by
  refine (dats m 0 c).arrAt_eq_of_covers 8 _ (by decide +kernel) fun t _ y => ?_
  blk_simp
  rw [after0_8]
  idx_vars y
  rw [emb8]
  exact (out8_apply _ _ _ _ _ _ _ _ _ _).trans (blockRow_eq t hf hc y0 y1)

theorem final9 (hf : RowsFinite (A0 m c) (A1 m c) (A2 m c) (A4 m c))
    (hc : Chosen (A0 m c) (A1 m c) (A2 m c) (A3 m c) (A4 m c) (A5 m c) gi j1 j2) :
    (dats m 0 c).arrAt 9 (cfgs 0).N
      = fun y : S32x1024.Idx => normed (kOut m c gi j1 j2 (y 0)) (fun k => A9 m c (ix1 k)) (y 1) := by
  refine (dats m 0 c).arrAt_eq_of_covers 9 _ (by decide +kernel) fun t _ y => ?_
  blk_simp
  rw [after0_9]
  idx_vars y
  rw [emb9]
  refine (out9_apply _ _ _ _ _ _ _ _ _ _).trans ?_
  rw [show blockRow _ _ _ _ _ _ _ _ y0 = kOut m c gi j1 j2 (rowAt t y0) from funext (blockRow_eq t hf hc y0), blk7, V_v21]
  exact congrArg (normed _ · y1) (funext fun k => gain_apply _ k)
end Cert.MoeS
-- ==== Proof.MoeS.RefRead.lean ====
/- The reference's routing of a row and its two results, read at an index. -/
module

public import proofs.«01_k».proof.Proof.MoeS.RefTop
public import proofs.«01_k».proof.Proof.MoeS.KFinal
public import Idealize.ShloMosaic.Lib.Tactic.CleanTypes

@[expose] public section
set_option maxRecDepth 16384
noncomputable section
namespace Cert.MoeS.Ref
open Cert.Moe
open Idealize.ShloMosaic Idealize.ShloMosaic.TcCoe Idealize.SL.Sem Idealize.ShloMosaic.StableHlo Cert.Reference5Ideal Cert.Reference5Ideal.Gen Cert.Reference5Ideal.Value

variable (V0 : Valuation τ sig (Elt Ideal))
abbrev R0 : FVec Ideal S32x1024 .f32 := V0 (Proc.devRef .tc main_arg0)
abbrev R1 : FVec Ideal S1024 .f32 := V0 (Proc.devRef .tc main_arg1)
abbrev R2 : FVec Ideal S1024x4 .f32 := V0 (Proc.devRef .tc main_arg2)
abbrev R3 : FVec Ideal S4 .f32 := V0 (Proc.devRef .tc main_arg3)
abbrev R4 : FVec Ideal S1024x16 .f32 := V0 (Proc.devRef .tc main_arg4)
abbrev R5 : FVec Ideal S16 .f32 := V0 (Proc.devRef .tc main_arg5)
abbrev R6 : FVec Ideal S16x1024x256 .f32 := V0 (Proc.devRef .tc main_arg6)
abbrev R7 : FVec Ideal S16x1024x256 .f32 := V0 (Proc.devRef .tc main_arg7)
abbrev R8 : FVec Ideal S16x256x1024 .f32 := V0 (Proc.devRef .tc main_arg8)
abbrev R9 : FVec Ideal S1024 .f32 := V0 (Proc.devRef .tc main_arg9)

theorem v12_apply (i : Fin 32) (k : Fin 1024) : (res_main_v12 V0 : FVec Ideal S32x1024 .f32) (ix2 i k) = rowH (R0 V0) (R1 V0) i k := by
  unfold res_main_v12
  clean_types
  pointwise [rowH, normed, invRms]
theorem v16_apply (i : Fin 32) (j : Fin 4) : (res_main_v16 V0 : FVec Ideal S32x4 .f32) (ix2 i j) = groupLogit (rowH (R0 V0) (R1 V0) i) (R2 V0) (R3 V0) j := by
  unfold res_main_v16
  clean_types
  pointwise [groupLogit]
  simp only [v12_apply]

theorem fold_first {n : ℕ} {f : Fin n → EReal} {i : Fin n} (h : First (fun _ => True) f i) : Finset.fold max ⊥ f Finset.univ = f i := by
  refine Eq.trans ?_ (fold_max_first h (fun _ => 1#1) fun _ => by simp)
  exact Finset.fold_congr fun _ _ => rfl

/-- The group logits of row `i`. -/
abbrev gl (i : Fin 32) : Fin 4 → EReal := groupLogit (rowH (R0 V0) (R1 V0) i) (R2 V0) (R3 V0)
/-- The group that row `i` is sent to. -/
def gi (i : Fin 32) : Fin 4 := place (gl V0 i) 0
/-- The logits of the chosen group's experts. -/
def ev (i : Fin 32) (j : Fin 4) : EReal := expertLogit (rowH (R0 V0) (R1 V0) i) (R4 V0) (R5 V0) (expertOf (gi V0 i) j)
/-- The two experts chosen, by their places in the group. -/
def j1 (i : Fin 32) : Fin 4 := place (ev V0 i) 0
def j2 (i : Fin 32) : Fin 4 := place (ev V0 i) 1

theorem v23_apply (i : Fin 32) (j : Fin 4) : (res_main_v23 V0 : FVec Ideal S32x4 .f32) (ix2 i j) = Ideal.exp (gl V0 i j - gl V0 i (gi V0 i)) := by
  unfold res_main_v23
  clean_types
  pointwise []
  simp only [v16_apply]
  rw [ofBits_neg_inf, fold_first (place_first (gl V0 i)), max_eq_right bot_le]
  rfl

theorem indices_apply (i : Fin 32) : (res_main_indices V0 : IVec S32x1 32) (ix2 i 0) = BitVec.ofNat 32 (gi V0 i).val := by
  unfold res_main_indices
  refine (top_index (n := 1) (by omega) _ _ i 0).trans ?_
  simp only [v16_apply]
  rfl

theorem wrap_small : ∀ g : Fin 4, Scalar.select (IntOp.cmpi .slt (BitVec.ofNat 32 g.val) 0#32) (IntOp.addi (BitVec.ofNat 32 g.val) 4#32) (BitVec.ofNat 32 g.val)
    = BitVec.ofNat 32 g.val := by decide
theorem in_range : ∀ g : Fin 4, IntOp.andi (IntOp.cmpi .sge (BitVec.ofNat 32 g.val) 0#32) (IntOp.cmpi .sle (BitVec.ofNat 32 g.val) 3#32) = 1#1 := by decide

theorem call0_apply (i : Fin 32) : (res_main_call0_v5 V0 : IVec S32x1x1 32) (ix3 i 0 0) = BitVec.ofNat 32 (gi V0 i).val := by
  unfold res_main_call0_v5
  clean_types
  pointwise []
  rw [indices_apply]
  exact wrap_small _
theorem call1_apply (i : Fin 32) : (res_main_call1_v4 V0 : IVec S32x1x1 32) (ix3 i 0 0) = BitVec.ofNat 32 (gi V0 i).val := by
  unfold res_main_call1_v4 res_main_v34
  clean_types
  pointwise []
  rw [indices_apply]
  exact wrap_small _

theorem in_range_fold (w : IVec S32x1x1 32) (i : Fin 32) (g : Fin 4) (hw : w (ix3 i 0 0) = BitVec.ofNat 32 g.val) :
    Finset.fold IntOp.andi (1#1) (fun x : Fin 1 => IntOp.andi (IntOp.cmpi .sge (w (ix3 i 0 x)) 0#32) (IntOp.cmpi .sle (w (ix3 i 0 x)) 3#32)) Finset.univ = 1#1 := by
  rw [Finset.univ_unique, Finset.fold_singleton, show (default : Fin 1) = 0 from rfl, hw, in_range]
  rfl

/-- The entries of `x` at the columns `w`, `z` where a column is out of range. -/
def taken (x : FVec Ideal S32x4 .f32) (w : IVec S32x1x1 32) (z : FVec Ideal S32x1 .f32) : FVec Ideal S32x1 .f32 :=
  select (Host.reduce IntOp.andi (andi (cmpi .sge w (broadcastInDim S32x1x1 ![] bcast_S_S32x1x1 (constantI S_ 32 0#32))) (cmpi .sle w (broadcastInDim S32x1x1 ![0, 1, 2] bcast_S1x1x1_S32x1x1_0_1_2 (broadcastInDim S1x1x1 ![2] bcast_S1_S1x1x1_2 (constantI S1 32 3#32))))) (constantI S_ 1 1#1) reducesTo_S32x1x1_S32x1_d2 h_S_)
      (Host.gather gather_S32x4_S32x1x1_S32x1_n_1_0_0_1_2_11 x w) z

theorem taken_column (x : FVec Ideal S32x4 .f32) (w : IVec S32x1x1 32) (z : FVec Ideal S32x1 .f32) (i : Fin 32) (g : Fin 4)
    (hw : w (ix3 i 0 0) = BitVec.ofNat 32 g.val) :
    taken x w z (ix2 i 0) = x (ix2 i g) := by
  pointwise [taken]
  rw [in_range_fold w i g hw]
  exact gather_column x w i g hw
theorem taken_slab (x : FVec Ideal S32x4x4 .f32) (w : IVec S32x1x1 32) (z : FVec Ideal S32x1x4 .f32) (i : Fin 32) (j g : Fin 4)
    (hw : w (ix3 i 0 0) = BitVec.ofNat 32 g.val) :
    select (broadcastInDim S32x1x4 ![0, 1] bcast_S32x1_S32x1x4_0_1 (Host.reduce IntOp.andi (andi (cmpi .sge w (broadcastInDim S32x1x1 ![] bcast_S_S32x1x1 (constantI S_ 32 0#32))) (cmpi .sle w (broadcastInDim S32x1x1 ![0, 1, 2] bcast_S1x1x1_S32x1x1_0_1_2 (broadcastInDim S1x1x1 ![2] bcast_S1_S1x1x1_2 (constantI S1 32 3#32))))) (constantI S_ 1 1#1) reducesTo_S32x1x1_S32x1_d2 h_S_))
      (Host.gather gather_S32x4x4_S32x1x1_S32x1x4_2_1_0_0_1_2_114 x w) z (ix3 i 0 j) = x (ix3 i g j) := by
  pointwise []
  rw [in_range_fold w i g hw]
  exact gather_slab x w i j g hw

/-- The chosen group's softmax entry, as the reference takes it. -/
def groupShare (i : Fin 32) : EReal :=
  Ideal.div (Ideal.exp (gl V0 i (gi V0 i) - gl V0 i (gi V0 i))) (∑ j, Ideal.exp (gl V0 i j - gl V0 i (gi V0 i)))

/-- Every entry of a row over the row's sum. -/
def divided (x : FVec Ideal S32x4 .f32) : FVec Ideal S32x4 .f32 :=
  Host.divf x (broadcastInDim S32x4 ![0, 1] bcast_S32x1_S32x4_0_1 (broadcastInDim S32x1 ![0] bcast_S32_S32x1_0 (Host.reduceAdd x (constant S_ .f32 0x00000000#32) reducesTo_S32x4_S32_d1 h_S_)))

theorem divided_apply (x : FVec Ideal S32x4 .f32) (i : Fin 32) (j : Fin 4) :
    divided x (ix2 i j) = Ideal.div (x (ix2 i j)) (∑ k, x (ix2 i k)) := by
  pointwise [divided]

theorem expert_logits_apply (h : FVec Ideal S32x1024 .f32) (w : FVec Ideal S1024x16 .f32) (b : FVec Ideal S16 .f32) (i : Fin 32) (g j : Fin 4) :
    shapeCast _ (addf (Host.dotGeneral dot_S32x1024_S1024x16_S32x16_1_0_0_1_n_n none h w) (broadcastInDim S32x16 ![0, 1] bcast_S1x16_S32x16_0_1 (broadcastInDim S1x16 ![1] bcast_S16_S1x16_1 b))) shapeCasts_S32x16_S32x4x4 (ix3 i g j)
      = (∑ k, h (ix2 i k) * w (ix2 k (expertOf g j))) + b (ix1 (expertOf g j)) := by
  pointwise []
  have h4 : (⟨g.val * 4 + j.val, by omega⟩ : Fin 16) = expertOf g j := Fin.ext (congrArg (· + j.val) (Nat.mul_comm g.val 4))
  exact congrArg (fun e : Fin 16 => (∑ k, h (ix2 i k) * w (ix2 k e)) + b (ix1 e)) h4

theorem flat_apply (x : FVec Ideal S32x1x4 .f32) (i : Fin 32) (j : Fin 4) :
    shapeCast S32x4 x shapeCasts_S32x1x4_S32x4 (ix2 i j) = x (ix3 i 0 j) := by
  pointwise []

theorem v36_apply (i : Fin 32) (j : Fin 4) : (res_main_v36 V0 : FVec Ideal S32x4 .f32) (ix2 i j) = ev V0 i j := by
  unfold res_main_v36
  refine (flat_apply _ i j).trans ((taken_slab _ _ _ i j (gi V0 i) (call1_apply V0 i)).trans ((expert_logits_apply _ _ _ i _ j).trans ?_))
  simp only [v12_apply]
  rfl

theorem values_apply (i : Fin 32) (s : Fin 2) : (res_main_values_5 V0 : FVec Ideal S32x2 .f32) (ix2 i s) = ev V0 i (place (ev V0 i) (s.castLE (by omega))) := by
  unfold res_main_values_5
  refine (top_value (n := 2) (by omega) _ _ i s).trans ?_
  simp only [v36_apply]

theorem indices6_apply (i : Fin 32) (s : Fin 2) :
    ((Host.topK S32x2 1 (FloatOps.cmpfTotal .gt) (res_main_v36 V0) sliceFits_S32x4_S32x2).2 : IVec S32x2 32) (ix2 i s)
      = BitVec.ofNat 32 (place (ev V0 i) (s.castLE (by omega))).val := by
  refine (top_index (n := 2) (by omega) _ _ i s).trans ?_
  simp only [v36_apply]

theorem pair_max (f : Fin 2 → EReal) (h : f 1 ≤ f 0) : max ⊥ (Finset.fold max ⊥ f Finset.univ) = f 0 := by
  have : First (fun _ => True) f 0 := ⟨trivial, fun j _ => by
    match j with
    | ⟨0, _⟩ => exact le_rfl
    | ⟨1, _⟩ => exact h, fun j _ _ => Fin.zero_le j⟩
  rw [fold_first this, max_eq_right bot_le]

theorem v43_apply (i : Fin 32) (s : Fin 2) : (res_main_v43 V0 : FVec Ideal S32x2 .f32) (ix2 i s)
    = Ideal.exp (ev V0 i (place (ev V0 i) (s.castLE (by omega))) - ev V0 i (j1 V0 i)) := by
  unfold res_main_v43
  clean_types
  pointwise []
  simp only [values_apply]
  rw [ofBits_neg_inf, pair_max _ ((place_first (ev V0 i)).le _ trivial)]
  rfl

/-- One if expert `e` is the one at place `j` of group `g`. -/
def hot (g j : Fin 4) (e : Fin 16) : EReal := if e.val = 4 * g.val + j.val then 1 else 0

theorem hot_word : ∀ (g j : Fin 4) (e : Fin 16),
    IntOp.cmpi .eq (IntOp.addi (IntOp.muli (BitVec.ofNat 32 g.val) 4#32) (BitVec.ofNat 32 j.val)) (BitVec.ofNat 32 e.val)
      = if e.val = 4 * g.val + j.val then 1#1 else 0#1 := by decide +kernel

theorem hot_apply (g j : Fin 4) (e : Fin 16) :
    FloatOps.uitofp (F := Ideal) .f32 (IntOp.cmpi .eq (IntOp.addi (IntOp.muli (BitVec.ofNat 32 g.val) 4#32) (BitVec.ofNat 32 j.val)) (BitVec.ofNat 32 e.val)) = hot g j e := by
  rw [hot_word]
  unfold hot
  split
  · show (((1#1 : BitVec 1).toNat : ℝ) : EReal) = 1
    simp
  · show (((0#1 : BitVec 1).toNat : ℝ) : EReal) = 0
    simp

/-- The gate of expert `e`, as the reference sums it: the two places `j`, their weights `x` and the group's share `p`. -/
def gateSum (g : Fin 4) (j : Fin 2 → Fin 4) (x : Fin 2 → EReal) (p : EReal) (e : Fin 16) : EReal :=
  ∑ s, hot g (j s) e * (Ideal.div (x s) (∑ s, x s) * p)

theorem gates_apply (g : IVec S32x1 32) (j : IVec S32x2 32) (x : FVec Ideal S32x2 .f32) (p : FVec Ideal S32x1 .f32) (i : Fin 32) (e : Fin 16)
    (g' : Fin 4) (j' : Fin 2 → Fin 4) (hg : g (ix2 i 0) = BitVec.ofNat 32 g'.val) (hj : ∀ s, j (ix2 i s) = BitVec.ofNat 32 (j' s).val) :
    Host.reduceAdd (mulf (uitofp .f32 (cmpi .eq (broadcastInDim S32x2x16 ![0, 1, 2] bcast_S32x2x1_S32x2x16_0_1_2 (broadcastInDim S32x2x1 ![0, 1] bcast_S32x2_S32x2x1_0_1 (addi (broadcastInDim S32x2 ![0, 1] bcast_S32x1_S32x2_0_1 (muli g (broadcastInDim S32x1 ![] bcast_S_S32x1 (constantI S_ 32 4#32)))) j))) (broadcastInDim S32x2x16 ![0, 1, 2] bcast_S1x1x16_S32x2x16_0_1_2 (iotaInDim S1x1x16 32 2)))) (broadcastInDim S32x2x16 ![0, 1, 2] bcast_S32x2x1_S32x2x16_0_1_2 (broadcastInDim S32x2x1 ![0, 1] bcast_S32x2_S32x2x1_0_1 (mulf (Host.divf x (broadcastInDim S32x2 ![0, 1] bcast_S32x1_S32x2_0_1 (broadcastInDim S32x1 ![0] bcast_S32_S32x1_0 (Host.reduceAdd x (constant S_ .f32 0x00000000#32) reducesTo_S32x2_S32_d1 h_S_)))) (broadcastInDim S32x2 ![0, 1] bcast_S32x1_S32x2_0_1 p))))) (constant S_ .f32 0x00000000#32) reducesTo_S32x2x16_S32x16_d1 h_S_ (ix2 i e)
      = gateSum g' j' (fun s => x (ix2 i s)) (p (ix2 i 0)) e := by
  pointwise [gateSum]
  simp only [hg, hj, hot_apply]

theorem experts_apply (x : FVec Ideal S32x1024 .f32) (h : FVec Ideal S32x1024 .f32) (w1 w3 : FVec Ideal S16x1024x256 .f32) (w2 : FVec Ideal S16x256x1024 .f32)
    (gate : FVec Ideal S32x16 .f32) (i : Fin 32) (q : Fin 1024) :
    addf x (Host.dotGeneral dot_S32x16x256_S16x256x1024_S32x1024_12_01_0_2_n_n none (mulf (mulf (mulf (Host.dotGeneral dot_S32x1024_S16x1024x256_S32x16x256_1_1_0_02_n_n none h w1) (Host.divf (broadcastInDim S32x16x256 ![] bcast_S_S32x16x256 (constant S_ .f32 0x3F800000#32)) (addf (broadcastInDim S32x16x256 ![] bcast_S_S32x16x256 (constant S_ .f32 0x3F800000#32)) (Host.exp (Host.negf (Host.dotGeneral dot_S32x1024_S16x1024x256_S32x16x256_1_1_0_02_n_n none h w1)))))) (Host.dotGeneral dot_S32x1024_S16x1024x256_S32x16x256_1_1_0_02_n_n none h w3)) (broadcastInDim S32x16x256 ![0, 1, 2] bcast_S32x16x1_S32x16x256_0_1_2 (broadcastInDim S32x16x1 ![0, 1] bcast_S32x16_S32x16x1_0_1 gate))) w2) (ix2 i q)
      = x (ix2 i q) + expertSum (fun k => h (ix2 i k)) (fun e k f => w1 (ix3 e k f)) (fun e k f => w3 (ix3 e k f)) (fun e f q => w2 (ix3 e f q)) (fun e => gate (ix2 i e)) q := by
  pointwise [expertSum, glu]
  rfl

theorem normed_apply (x : FVec Ideal S32x1024 .f32) (g : FVec Ideal S1024 .f32) (i : Fin 32) (q : Fin 1024) :
    mulf (mulf x (broadcastInDim S32x1024 ![0, 1] bcast_S32x1_S32x1024_0_1 (Host.rsqrt (addf (Host.divf (broadcastInDim S32x1 ![0] bcast_S32_S32x1_0 (Host.reduceAdd (mulf x x) (constant S_ .f32 0x00000000#32) reducesTo_S32x1024_S32_d1 h_S_)) (broadcastInDim S32x1 ![] bcast_S_S32x1 (constant S_ .f32 0x44800000#32))) (broadcastInDim S32x1 ![] bcast_S_S32x1 (constant S_ .f32 0x358637BD#32)))))) (broadcastInDim S32x1024 ![0, 1] bcast_S1x1024_S32x1024_0_1 (broadcastInDim S1x1024 ![1] bcast_S1024_S1x1024_1 g)) (ix2 i q)
      = normed (fun k => x (ix2 i k)) (fun k => g (ix1 k)) q := by
  pointwise [normed, invRms]

/-- The gate of expert `e` in row `i`. -/
def refGate (i : Fin 32) (e : Fin 16) : EReal :=
  gateSum (gi V0 i) ![j1 V0 i, j2 V0 i]
    (fun s => Ideal.exp (ev V0 i (place (ev V0 i) (s.castLE (by omega))) - ev V0 i (j1 V0 i))) (groupShare V0 i) e

theorem v67_apply (i : Fin 32) (q : Fin 1024) : (res_main_v67 V0 : FVec Ideal S32x1024 .f32) (ix2 i q)
    = rowOut (R0 V0) (R1 V0) (R6 V0) (R7 V0) (R8 V0) (refGate V0) i q := by
  unfold res_main_v67 res_main_v59
  refine (experts_apply _ _ _ _ _ _ i q).trans ?_
  have hp := (taken_column (divided (res_main_v23 V0)) (res_main_call0_v5 V0)
    (broadcastInDim S32x1 ![] bcast_S_S32x1 (constant S_ .f32 0x7FC00000#32)) i (gi V0 i) (call0_apply V0 i)).trans (divided_apply (res_main_v23 V0) i (gi V0 i))
  have hg := fun e => gates_apply (res_main_indices V0) _ (res_main_v43 V0)
    (taken (divided (res_main_v23 V0)) (res_main_call0_v5 V0) (broadcastInDim S32x1 ![] bcast_S_S32x1 (constant S_ .f32 0x7FC00000#32)))
    i e (gi V0 i) ![j1 V0 i, j2 V0 i] (indices_apply V0 i) (fun s => (indices6_apply V0 i s).trans (by fin_cases s <;> rfl))
  simp only [v23_apply] at hp
  unfold rowOut
  have he : ∀ e, _ = refGate V0 i e := fun e => (hg e).trans (by
    unfold refGate
    rw [hp]
    simp only [v43_apply]
    rfl)
  simp only [v12_apply]
  exact congrArg (fun gate => R0 V0 (ix2 i q) + expertSum _ _ _ _ gate q) (funext he)

theorem v80_apply (i : Fin 32) (q : Fin 1024) : mulf (mulf (res_main_v67 V0) (broadcastInDim S32x1024 ![0, 1] bcast_S32x1_S32x1024_0_1 (Host.rsqrt (addf (Host.divf (broadcastInDim S32x1 ![0] bcast_S32_S32x1_0 (Host.reduceAdd (mulf (res_main_v67 V0) (res_main_v67 V0)) (constant S_ .f32 0x00000000#32) reducesTo_S32x1024_S32_d1 h_S_)) (broadcastInDim S32x1 ![] bcast_S_S32x1 (constant S_ .f32 0x44800000#32))) (broadcastInDim S32x1 ![] bcast_S_S32x1 (constant S_ .f32 0x358637BD#32)))))) (broadcastInDim S32x1024 ![0, 1] bcast_S1x1024_S32x1024_0_1 (broadcastInDim S1x1024 ![1] bcast_S1024_S1x1024_1 (R9 V0))) (ix2 i q)
    = normed (rowOut (R0 V0) (R1 V0) (R6 V0) (R7 V0) (R8 V0) (refGate V0) i) (fun k => R9 V0 (ix1 k)) q := by
  refine (normed_apply _ _ i q).trans ?_
  simp only [v67_apply]
end Cert.MoeS.Ref
-- ==== Proof.MoeS.Finite.lean ====
/- Finite numbers among the extended reals: what a finite row, finite gains and finite router weights give. -/
module

public import proofs.«01_k».proof.Proof.MoeS.RefRead
public import proofs.«01_k».proof.Pre_sample_finite
public import Idealize.ShloMosaic.Lib.ReduceAll

@[expose] public section
set_option maxRecDepth 16384
noncomputable section
namespace Cert.MoeS
open Cert.Moe
open Idealize.ShloMosaic Cert.Kernel5Ideal

/-- `x` is a real number. -/
def Fine (x : EReal) : Prop := ∃ r : ℝ, x = r

theorem Fine.add {x y : EReal} : Fine x → Fine y → Fine (x + y) := by
  rintro ⟨r, rfl⟩ ⟨s, rfl⟩; exact ⟨r + s, (EReal.coe_add r s).symm⟩
theorem Fine.mul {x y : EReal} : Fine x → Fine y → Fine (x * y) := by
  rintro ⟨r, rfl⟩ ⟨s, rfl⟩; exact ⟨r * s, (EReal.coe_mul r s).symm⟩
theorem Fine.sub_self {x : EReal} : Fine x → x - x = 0 := by
  rintro ⟨r, rfl⟩; rw [← EReal.coe_sub, _root_.sub_self]; rfl
theorem fine_sum {ι : Type} (s : Finset ι) {f : ι → EReal} (h : ∀ i, Fine (f i)) : Fine (∑ i ∈ s, f i) := by
  classical
  induction s using Finset.induction_on with
  | empty => exact ⟨0, by simp⟩
  | insert a s ha ih => rw [Finset.sum_insert ha]; exact (h a).add ih
theorem fine_of_bounds {x : EReal} (h : Ideal.cmp .olt (max x (-x)) ⊤ = 1#1) : Fine x := by
  induction x with
  | bot => simp [Ideal.cmp] at h
  | top => simp [Ideal.cmp] at h
  | coe r => exact ⟨r, rfl⟩

theorem word_1024 : Ideal.ofBits .f32 0x44800000#32 = ((1024 : ℝ) : EReal) := by
  simp [Ideal.ofBits, Ideal.ieee, -EReal.coe_mul]; norm_num
theorem word_eps : ∃ ε : ℝ, 0 < ε ∧ Ideal.ofBits .f32 0x358637BD#32 = (ε : EReal) := by
  refine ⟨8796093 * (2 : ℝ) ^ (-43 : ℤ), by positivity, ?_⟩
  simp [Ideal.ofBits, Ideal.ieee, -EReal.coe_mul]

theorem coe_sum {ι : Type} (s : Finset ι) (r : ι → ℝ) : ((∑ k ∈ s, r k : ℝ) : EReal) = ∑ k ∈ s, (r k : EReal) := by
  classical
  induction s using Finset.induction_on with
  | empty => simp
  | insert a s ha ih => rw [Finset.sum_insert ha, Finset.sum_insert ha, EReal.coe_add, ih]

theorem fine_invRms {x : Fin 1024 → EReal} (h : ∀ k, Fine (x k)) : Fine (invRms x) := by
  choose r hr using h
  obtain ⟨ε, hε, he⟩ := word_eps
  have hs : ∑ k, x k * x k = ((∑ k, r k * r k : ℝ) : EReal) := by
    rw [coe_sum]
    exact Finset.sum_congr rfl fun k _ => by rw [hr, EReal.coe_mul]
  unfold invRms
  rw [word_1024, he, hs, Ideal.div_coe (by norm_num), ← EReal.coe_mul, ← EReal.coe_add, Ideal.rsqrt_coe]
  have h0 : 0 ≤ (∑ k, r k * r k) * (1 / 1024) := mul_nonneg (Finset.sum_nonneg fun k _ => mul_self_nonneg _) (by norm_num)
  rw [if_neg (by linarith), if_neg (by linarith)]
  exact ⟨_, rfl⟩

theorem fine_normed {x g : Fin 1024 → EReal} (hx : ∀ k, Fine (x k)) (hg : ∀ k, Fine (g k)) (k : Fin 1024) : Fine (normed x g k) :=
  ((hx k).mul (fine_invRms hx)).mul (hg k)

theorem hot_gates (gl ev : Fin 4 → EReal) (gi j1 j2 : Fin 4) (hj : j2 ≠ j1) (hg : Fine (gl gi)) (h1 : Fine (ev j1)) (h2 : Fine (ev j2)) (e : Fin 16) :
    Ref.gateSum gi ![j1, j2] ![Ideal.exp (ev j1 - ev j1), Ideal.exp (ev j2 - ev j1)] (Ideal.div (Ideal.exp (gl gi - gl gi)) (∑ j, Ideal.exp (gl j - gl gi))) e
      = gateOf gl ev gi j1 j2 e := by
  have e0 : Ideal.exp 0 = 1 := by rw [← EReal.coe_zero, Ideal.exp_coe, Real.exp_zero]; rfl
  rw [hg.sub_self, h1.sub_self, e0]
  obtain ⟨a, ha⟩ := h1
  obtain ⟨b, hb⟩ := h2
  have hE : Ideal.exp (ev j2 - ev j1) = ((Real.exp (b - a) : ℝ) : EReal) := by rw [ha, hb, ← EReal.coe_sub, Ideal.exp_coe]
  have hS : (1 : EReal) + ((Real.exp (b - a) : ℝ) : EReal) = ((1 + Real.exp (b - a) : ℝ) : EReal) := by rw [EReal.coe_add]; rfl
  have hne : 1 + Real.exp (b - a) ≠ 0 := by positivity
  unfold Ref.gateSum gateOf Ref.hot
  rw [Fin.sum_univ_two, Fin.sum_univ_two]
  change _ * (Ideal.div 1 (1 + Ideal.exp (ev j2 - ev j1)) * groupProb gl gi) + _ * (Ideal.div (Ideal.exp (ev j2 - ev j1)) (1 + Ideal.exp (ev j2 - ev j1)) * groupProb gl gi) = _
  have hjv : j2.val ≠ j1.val := fun h => hj (Fin.ext h)
  rw [hE, hS, Ideal.div_coe hne, Ideal.div_coe hne, Ideal.div_coe hne, Ideal.div_coe hne]
  show (if e.val = 4 * gi.val + j1.val then (1 : EReal) else 0) * _ + (if e.val = 4 * gi.val + j2.val then (1 : EReal) else 0) * _ = _
  by_cases c1 : e.val = 4 * gi.val + j1.val
  · rw [if_pos c1, if_pos c1, if_neg (by omega), one_mul, zero_mul, add_zero, one_mul, mul_comm]
  · rw [if_neg c1, if_neg c1, zero_mul, zero_add]
    split
    · rw [one_mul, mul_right_comm, mul_comm (groupProb gl gi)]
    · rw [zero_mul]

/-! ## What the precondition says -/

instance preFacts : Cert.Pre_sample_finite.Facts :=
  ⟨by decide, by decide, by decide, by decide, by decide, by decide, by decide, by decide, by decide, by decide, by decide, by decide, by decide⟩

instance : Subsingleton Cert.Pre_sample_finite.S_.Idx := ⟨fun a b => funext fun k => k.elim0⟩

theorem word_top : Ideal.ofBits .f32 0x7F800000#32 = ⊤ := by
  simp [Ideal.ofBits, Ideal.ieee]

/-- Every entry of an array is finite when the printed test of it is one. -/
theorem fine_all {s : Shape} {axes : List (Fin s.rank)} (x : FVec Ideal s .f32) (hb : Cert.Pre_sample_finite.S_.BroadcastsInDim s (![] : Fin 0 → Fin s.rank))
    (hr : s.ReducesTo axes Cert.Pre_sample_finite.S_) (h0 : 0 < Cert.Pre_sample_finite.S_.numel) (j : Cert.Pre_sample_finite.S_.Idx)
    (h : Host.reduce IntOp.andi (cmpf .olt (Host.absf x) (broadcastInDim s ![] hb (constant Cert.Pre_sample_finite.S_ .f32 0x7F800000#32))) (constantI Cert.Pre_sample_finite.S_ 1 1#1) hr h0 j = 1#1)
    (i : s.Idx) : Fine (x i) := by
  have := Host.reduce_andi_all _ _ _ _ j h i
  apply fine_of_bounds
  rw [← word_top]
  exact this

theorem pre_fine (x0 : FVec Ideal S32x1024 .f32) (x1 : FVec Ideal S1024 .f32) (x2 : FVec Ideal S1024x4 .f32) (x3 : FVec Ideal S4 .f32) (x4 : FVec Ideal S1024x16 .f32)
    (x5 : FVec Ideal S16 .f32) (x6 x7 : FVec Ideal S16x1024x256 .f32) (x8 : FVec Ideal S16x256x1024 .f32) (x9 : FVec Ideal S1024 .f32)
    (h : Cert.Pre_sample_finite.fn (F := Ideal) x0 x1 x2 x3 x4 x5 x6 x7 x8 x9 = fun _ => 1#1) :
    (∀ i, Fine (x0 i)) ∧ (∀ i, Fine (x1 i)) ∧ (∀ i, Fine (x2 i)) ∧ (∀ i, Fine (x3 i)) ∧ (∀ i, Fine (x4 i)) ∧ (∀ i, Fine (x5 i)) := by
  have h := congrFun h (fun k => k.elim0)
  unfold Cert.Pre_sample_finite.fn Cert.Pre_sample_finite.fn_part1 at h
  dsimp only at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fine_all _ _ _ _ _ h0, fine_all _ _ _ _ _ h1, fine_all _ _ _ _ _ h2, fine_all _ _ _ _ _ h3, fine_all _ _ _ _ _ h4, fine_all _ _ _ _ _ h5⟩
end Cert.MoeS
-- ==== Proof.MoeS.Tie.lean ====
/- Finite inputs: the reference's gates are the kernel's, and the kernel's results are the reference's. -/
module

public import proofs.«01_k».proof.Proof.MoeS.Finite

@[expose] public section
set_option maxRecDepth 16384
noncomputable section
namespace Cert.MoeS
open Cert.Moe
open Idealize.ShloMosaic Idealize.ShloMosaic.TcCoe Idealize.SL.Sem Idealize.ShloMosaic.StableHlo Cert.Reference5Ideal Cert.Reference5Ideal.Gen Ref

variable (V0 : Valuation τ sig (Elt Ideal))

/-- The arguments that the routing rests on are finite. -/
structure Inputs : Prop where
  x : ∀ i, Fine (R0 V0 i)
  gain : ∀ i, Fine (R1 V0 i)
  wg : ∀ i, Fine (R2 V0 i)
  bg : ∀ i, Fine (R3 V0 i)
  we : ∀ i, Fine (R4 V0 i)
  be : ∀ i, Fine (R5 V0 i)

variable {V0} (h : Inputs V0)
include h

theorem Inputs.row (i : Fin 32) (k : Fin 1024) : Fine (rowH (R0 V0) (R1 V0) i k) :=
  fine_normed (fun _ => h.x _) (fun _ => h.gain _) k
theorem Inputs.group (i : Fin 32) (j : Fin 4) : Fine (gl V0 i j) :=
  (fine_sum _ fun _ => (h.row i _).mul (h.wg _)).add (h.bg _)
theorem Inputs.expert (i : Fin 32) (j : Fin 4) : Fine (ev V0 i j) :=
  (fine_sum _ fun _ => (h.row i _).mul (h.we _)).add (h.be _)

theorem Inputs.rows : RowsFinite (R0 V0) (R1 V0) (R2 V0) (R4 V0) :=
  ⟨fun i k => (h.row i k).sub_self, fun _ _ => (h.wg _).sub_self, fun _ _ => (h.we _).sub_self⟩

omit h in
theorem chosen : Chosen (R0 V0) (R1 V0) (R2 V0) (R3 V0) (R4 V0) (R5 V0) (gi V0) (j1 V0) (j2 V0) :=
  ⟨fun i => place_first (gl V0 i), fun i => place_first (ev V0 i), fun i => place_second (ev V0 i)⟩

theorem Inputs.gate (i : Fin 32) : refGate V0 i = rowGate (R0 V0) (R1 V0) (R2 V0) (R3 V0) (R4 V0) (R5 V0) (gi V0) (j1 V0) (j2 V0) i := by
  funext e
  refine Eq.trans ?_ (hot_gates (gl V0 i) (ev V0 i) (gi V0 i) (j1 V0 i) (j2 V0 i) (place_second (ev V0 i)).mem (h.group i _) (h.expert i _) (h.expert i _) e)
  unfold refGate
  refine congrArg (fun x => gateSum (gi V0 i) ![j1 V0 i, j2 V0 i] x (groupShare V0 i) e) (funext fun s => ?_)
  fin_cases s <;> rfl

/-- The first result of the reference, row by row, with the kernel's gates. -/
theorem Inputs.out (i : Fin 32) (q : Fin 1024) : (Cert.Reference5Ideal.Value.res_main_v67 V0 : FVec Ideal S32x1024 .f32) (ix2 i q)
    = rowOut (R0 V0) (R1 V0) (R6 V0) (R7 V0) (R8 V0) (rowGate (R0 V0) (R1 V0) (R2 V0) (R3 V0) (R4 V0) (R5 V0) (gi V0) (j1 V0) (j2 V0)) i q := by
  rw [v67_apply, show refGate V0 = _ from funext h.gate]
end Cert.MoeS
-- ==== Proof.MoeS.Claims.lean ====
/- The claims about the expert layer: its frames and the equation of its results with the reference's. -/
module

public import proofs.«01_k».proof.Defs
public import proofs.«01_k».proof.Proof.Gen.Kernel5.Frame
public import proofs.«01_k».proof.Proof.MoeS.Tie

@[expose] public section
set_option maxRecDepth 16384
noncomputable section
namespace Cert.MoeS.Claims
open Cert.Moe
open Idealize.ShloMosaic Idealize.ShloMosaic.TcCoe Idealize.SL.Sem

/-- The reference runs, keeps its arguments and leaves every semaphore at zero. -/
theorem frame_ref : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The kernel's two results and the reference's are the same arrays, the precondition holding. -/
theorem equation : Cert.algebraic_Kernel5Ideal_Reference5Ideal_pre_sample_finite := by
  intro m ρ m' ρ' hpre hagree
  refine ⟨fun c => (Cert.Kernel5Ideal.Gen.dats m 0 c).arrAt 8 (Cert.Kernel5Ideal.cfgs 0).N,
    fun c => (Cert.Kernel5Ideal.Gen.dats m 0 c).arrAt 9 (Cert.Kernel5Ideal.cfgs 0).N,
    Cert.Kernel5Ideal.Value.run_blocks m ρ, ?_⟩
  refine (θ_run Cert.Reference5Ideal.defs _ _).mono (fun r h c => ?_) (Cert.Reference5Ideal.Value.run (F := Ideal) m' ρ')
  obtain ⟨f0, f1, f2, f3, f4, f5⟩ := pre_fine _ _ _ _ _ _ _ _ _ _ (hpre c)
  obtain ⟨a0, a1, a2, a3, a4, a5, a6, a7, a8, a9⟩ := hagree c
  let V0 := StableHlo.launchContents m' c
  have r0 : Ref.R0 V0 = A0 m c := a0
  have r1 : Ref.R1 V0 = A1 m c := a1
  have r2 : Ref.R2 V0 = A2 m c := a2
  have r3 : Ref.R3 V0 = A3 m c := a3
  have r4 : Ref.R4 V0 = A4 m c := a4
  have r5 : Ref.R5 V0 = A5 m c := a5
  have r6 : Ref.R6 V0 = A6 m c := a6
  have r7 : Ref.R7 V0 = A7 m c := a7
  have r8 : Ref.R8 V0 = A8 m c := a8
  have r9 : Ref.R9 V0 = A9 m c := a9
  have hin : Inputs V0 := ⟨by rw [r0]; exact f0, by rw [r1]; exact f1, by rw [r2]; exact f2, by rw [r3]; exact f3, by rw [r4]; exact f4, by rw [r5]; exact f5⟩
  have hf := hin.rows
  have hc := chosen (V0 := V0)
  have ho := hin.out
  rw [r0, r1, r2, r4] at hf
  rw [r0, r1, r2, r3, r4, r5] at hc
  rw [r0, r1, r2, r3, r4, r5, r6, r7, r8] at ho
  refine ⟨(h c).1.trans ?_, (h c).2.1.trans ?_, (h c).2.2⟩
  · refine Eq.trans ?_ (final8 hf hc).symm
    funext y
    idx_vars y
    exact ho _ _
  · refine Eq.trans ?_ (final9 hf hc).symm
    funext y
    idx_vars y
    refine (Ref.normed_apply (Cert.Reference5Ideal.Value.res_main_v67 V0) (Ref.R9 V0) y0 y1).trans ?_
    rw [r9]
    exact congrArg (fun x => normed x _ y1) (funext fun k => ho y0 k)
end Cert.MoeS.Claims
-- ==== Proof.ProjS.KHost.lean ====
/- The input projection's weights as the kernel's window reads them: the columns in the order of its outputs, the padding zero. -/
module

public import proofs.«01_k».proof.Proof.Gen.Kernel6Ideal.Frame
public import Idealize.ShloMosaic.Lib.Pipeline.Value
public import Idealize.ShloMosaic.Lib.Pointwise
public import Idealize.ShloMosaic.Lib.ReduceAll

@[expose] public section
set_option maxRecDepth 16384
noncomputable section
namespace Cert.ProjS
open Idealize.ShloMosaic Idealize.ShloMosaic.TcCoe Idealize.SL.Sem Cert.Kernel6Ideal Cert.Kernel6Ideal.Gen Idealize.ShloMosaic.StableHlo

variable (m : (ℓ : Loc nD τ sig) → Buf (Elt Ideal) ℓ) (c : Dev nD)

/-- Argument contents as launched. -/
abbrev A0 : Vec Ideal S32x1024 .f32 := m ((c : Thread nD τ).loc main_arg0)
abbrev A1 : Vec Ideal S1024 .f32 := m ((c : Thread nD τ).loc main_arg1)
abbrev A2 : Vec Ideal S1024x7960 .f32 := m ((c : Thread nD τ).loc main_arg2)

/-- The table of columns, as printed. -/
def table : IVec S8064 32 := fun i => lit0 (S8064.rowMajor i)
/-- Which columns hold weights; the others are padding. -/
def kept : IVec S8064 1 := fun i => lit1 (S8064.rowMajor i)
def wrapped : IVec S8064 32 :=
  select (cmpi .slt table (broadcastInDim S8064 ![] bcast_S_S8064 (constantI S_ 32 0#32)))
    (addi table (broadcastInDim S8064 ![] bcast_S_S8064 (constantI S_ 32 7960#32))) table
def starts : IVec S8064x1 32 := broadcastInDim S8064x1 ![0] bcast_S8064_S8064x1_0 wrapped
def inRange : IVec S8064 1 :=
  Host.reduce IntOp.andi
    (andi (cmpi .sge starts (broadcastInDim S8064x1 ![] bcast_S_S8064x1 (constantI S_ 32 0#32)))
      (cmpi .sle starts (broadcastInDim S8064x1 ![0, 1] bcast_S1x1_S8064x1_0_1 (broadcastInDim S1x1 ![1] bcast_S1_S1x1_1 (constantI S1 32 7959#32)))))
    (constantI S_ 1 1#1) reducesTo_S8064x1_S8064_d1 h_S_
/-- The columns of a matrix taken in the table's order. -/
def takenCols (w : FVec Ideal S1024x7960 .f32) : FVec Ideal S1024x8064 .f32 :=
  select (broadcastInDim S1024x8064 ![1] bcast_S8064_S1024x8064_1 inRange)
    (Host.gather gather_S1024x7960_S8064x1_S1024x8064_0_1_n_n_1_1_10241 w starts)
    (broadcastInDim S1024x8064 ![] bcast_S_S1024x8064 (constant S_ .f32 0x7FC00000#32))
/-- The weights, the padding columns zero. -/
def weights (w : FVec Ideal S1024x7960 .f32) : FVec Ideal S1024x8064 .bf16 :=
  truncf .bf16 (select (broadcastInDim S1024x8064 ![1] bcast_S8064_S1024x8064_1 kept) (takenCols w)
    (broadcastInDim S1024x8064 ![] bcast_S_S1024x8064 (id (constant S_ .f32 0x00000000#32)))) bitsLt_bf16_f32
/-- The gain as one row. -/
def gainRow (g : FVec Ideal S1024 .f32) : FVec Ideal S1x1024 .f32 := broadcastInDim S1x1024 ![1] bcast_S1024_S1x1024_1 g

theorem V_v2 : V m c main_v2 = weights (A2 m c) := by
  unfold_abbrev_sides
  simp only [List.flatten_cons, List.flatten_nil, List.append_nil, List.cons_append, List.nil_append]
  after_results
  simp only [StableHlo.TRef.ofBuf_toBuf]
  rfl
theorem V_v3 : V m c main_v3 = gainRow (A1 m c) := by
  unfold_abbrev_sides
  simp only [List.flatten_cons, List.flatten_nil, List.append_nil, List.cons_append, List.nil_append]
  after_results
  rfl

theorem gainRow_apply (g : FVec Ideal S1024 .f32) (k : Fin 1024) : gainRow g (ix2 0 k) = g (ix1 k) := by
  pointwise [gainRow]

theorem lit_small : ∀ a : Fin 63, ∀ b : Fin 128, (lit0 ⟨128 * a.val + b.val, by omega⟩).toNat < 7960 := by decide +kernel
theorem lit_lt (n : Fin 8064) : (lit0 n).toNat < 7960 := by
  have h := lit_small ⟨n.val / 128, by omega⟩ ⟨n.val % 128, by omega⟩
  have e : (⟨128 * (n.val / 128) + n.val % 128, by omega⟩ : Fin 8064) = n := Fin.ext (by show 128 * (n.val / 128) + n.val % 128 = n.val; omega)
  rw [← e]
  exact h

theorem table_apply (n : Fin 8064) : table (ix1 n) = lit0 n := by
  unfold table
  rw [show S8064.rowMajor (ix1 n) = n from Fin.ext (Shape.rowMajor_val_one _)]
theorem kept_apply (n : Fin 8064) : kept (ix1 n) = lit1 n := by
  unfold kept
  rw [show S8064.rowMajor (ix1 n) = n from Fin.ext (Shape.rowMajor_val_one _)]

theorem wrap_small : ∀ a : Fin 40, ∀ b : Fin 199,
    Scalar.select (IntOp.cmpi .slt (BitVec.ofNat 32 (199 * a.val + b.val)) 0#32) (BitVec.ofNat 32 (199 * a.val + b.val) + 7960#32) (BitVec.ofNat 32 (199 * a.val + b.val)) = BitVec.ofNat 32 (199 * a.val + b.val)
    ∧ IntOp.andi (IntOp.cmpi .sge (BitVec.ofNat 32 (199 * a.val + b.val)) 0#32) (IntOp.cmpi .sle (BitVec.ofNat 32 (199 * a.val + b.val)) 7959#32) = 1#1 := by decide +kernel
theorem wrap_col (v : BitVec 32) (h : v.toNat < 7960) :
    Scalar.select (IntOp.cmpi .slt v 0#32) (v + 7960#32) v = v ∧ IntOp.andi (IntOp.cmpi .sge v 0#32) (IntOp.cmpi .sle v 7959#32) = 1#1 := by
  have e : v = BitVec.ofNat 32 (199 * (v.toNat / 199) + v.toNat % 199) := by
    rw [show 199 * (v.toNat / 199) + v.toNat % 199 = v.toNat by omega, BitVec.ofNat_toNat, BitVec.setWidth_eq]
  rw [e]
  exact wrap_small ⟨v.toNat / 199, by omega⟩ ⟨v.toNat % 199, by omega⟩

theorem starts_apply (n : Fin 8064) : starts (ix2 n 0) = lit0 n := by
  pointwise [starts, wrapped]
  rw [table_apply]
  exact (wrap_col _ (lit_lt n)).1

theorem inRange_apply (n : Fin 8064) : inRange (ix1 n) = 1#1 := by
  unfold inRange
  refine Host.reduce_andi_one _ _ _ _ _ rfl fun i => ?_
  idx_vars i
  obtain rfl : i1 = 0 := Subsingleton.elim _ _
  pointwise []
  rw [starts_apply]
  exact (wrap_col _ (lit_lt i0)).2

theorem ofNat_toInt {n : ℕ} (h : n < 2 ^ 31) : (BitVec.ofNat 32 n).toInt = n := by
  rw [BitVec.toInt_eq_toNat_of_lt (by rw [BitVec.toNat_ofNat, Nat.mod_eq_of_lt (by omega)]; omega), BitVec.toNat_ofNat, Nat.mod_eq_of_lt (by omega)]

theorem gather_col (w : FVec Ideal S1024x7960 .f32) (idx : IVec S8064x1 32) (k : Fin 1024) (n : Fin 8064) (s : Fin 7960)
    (hs : idx (ix2 n 0) = BitVec.ofNat 32 s.val) :
    Host.gather gather_S1024x7960_S8064x1_S1024x8064_0_1_n_n_1_1_10241 w idx (ix2 k n) = w (ix2 k s) := by
  set d := gather_S1024x7960_S8064x1_S1024x8064_0_1_n_n_1_1_10241 with hd
  unfold Host.gather
  refine congrArg w (funext fun a => Fin.ext ?_)
  match a with
  | ⟨0, _⟩ =>
    show d.start (ix2 k n) idx 0 + d.batchCoord (ix2 k n) 0 + d.offCoord (ix2 k n) 0 = _
    rw [GatherDims.batchCoord_eq_zero _ _ _ (fun h => by simp [hd, gather_S1024x7960_S8064x1_S1024x8064_0_1_n_n_1_1_10241] at h)]
    have : d.start (ix2 k n) idx 0 = 0 := by
      unfold GatherDims.start
      exact dif_neg (fun h => by simp [hd, gather_S1024x7960_S8064x1_S1024x8064_0_1_n_n_1_1_10241] at h)
    rw [this]
    simp only [Nat.zero_add, Nat.add_zero]
    unfold GatherDims.offCoord
    rfl
  | ⟨1, _⟩ =>
    show d.start (ix2 k n) idx 1 + d.batchCoord (ix2 k n) 1 + d.offCoord (ix2 k n) 1 = _
    rw [GatherDims.batchCoord_eq_zero _ _ _ (fun h => by simp [hd, gather_S1024x7960_S8064x1_S1024x8064_0_1_n_n_1_1_10241] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    have hsi : d.siIdx (ix2 k n) ⟨List.idxOf (1 : Fin 2) d.startIndexMap,
        List.idxOf_lt_length_iff.2 (List.mem_singleton.mpr rfl)⟩ = ix2 n 0 := by
      funext b; refine Fin.ext ?_
      match b with
      | ⟨0, _⟩ => rfl
      | ⟨1, _⟩ => rfl
    rw [hsi, hs, ofNat_toInt (by omega)]
    show min ((s.val : Int).toNat) 7959 = s.val
    omega

variable (w : FVec Ideal S1024x7960 .f32) (k : Fin 1024) (n : Fin 8064)

theorem takenCols_apply (s : Fin 7960) (h : lit0 n = BitVec.ofNat 32 s.val) : takenCols w (ix2 k n) = w (ix2 k s) := by
  pointwise [takenCols]
  rw [inRange_apply]
  exact gather_col w starts k n s ((starts_apply n).trans h)

/-- A column that holds weights. -/
theorem weights_kept (s : Fin 7960) (h : lit1 n = 1#1 ∧ lit0 n = BitVec.ofNat 32 s.val) : weights w (ix2 k n) = w (ix2 k s) := by
  pointwise [weights]
  rw [kept_apply, h.1]
  exact takenCols_apply w k n s h.2
/-- A padding column. -/
theorem weights_pad (h : lit1 n = 0#1) : weights w (ix2 k n) = 0 := by
  pointwise [weights]
  rw [kept_apply, h]
  show constant (F := Ideal) S_ .f32 0x00000000#32 ix0 = 0
  pointwise []
end Cert.ProjS
-- ==== Proof.ProjS.KBlock.lean ====
/- The input projection's block of 32 rows, and the arrays its blocks make up. -/
module

public import proofs.«01_k».proof.Proof.ProjS.KHost
public import proofs.«01_k».proof.Proof.Moe.Spec
public import Idealize.ShloMosaic.Lib.Pipeline.ValueKit

@[expose] public section
set_option maxRecDepth 16384
noncomputable section
namespace Cert.ProjS
open Idealize.ShloMosaic Idealize.ShloMosaic.TcCoe Idealize.SL.Sem Cert.Kernel6Ideal Cert.Kernel6Ideal.Gen

/-- Row `p` of a block against column `n` of the kernel's weights. -/
def blockAt (x : Vec Ideal S32x1024 .f32) (g : Vec Ideal S1x1024 .f32) (w : Vec Ideal S1024x8064 .bf16) (p : Fin 32) (n : Fin 8064) : EReal :=
  ∑ k, Cert.Moe.normed (fun k => x (ix2 p k)) (fun k => g (ix2 0 k)) k * w (ix2 k n)

section Block
variable (x : Vec Ideal S32x1024 .f32) (g : Vec Ideal S1x1024 .f32) (w : Vec Ideal S1024x8064 .bf16) (p : Fin 32)

theorem pay2_apply (k : Fin 1024) :
    k0_pay2 (View.ld x r0_0) (View.ld g r0_1) (ix2 p k) = Cert.Moe.normed (fun k => x (ix2 p k)) (fun k => g (ix2 0 k)) k := by
  unfold Cert.Moe.normed Cert.Moe.invRms
  pointwise [k0_pay2]
theorem pay16_apply (k : Fin 1024) : k0_pay16 x g w (ix2 p k) = Cert.Moe.normed (fun k => x (ix2 p k)) (fun k => g (ix2 0 k)) k :=
  pay2_apply x g p k
theorem pay15_apply (i : S32x256.Idx) : k0_pay15 (F := Ideal) x g w i = 0 := by
  unfold k0_pay15
  pointwise []
theorem pay17_apply (k : Fin 1024) (q : Fin 256) : k0_pay17 x g w (ix2 k q) = w (ix2 k ⟨3072 + q.val, by omega⟩) := by
  unfold k0_pay17
  pointwise [k0_pay6]
theorem out3_apply (q : Fin 2048) : out0_3 x g w (ix2 p q) = blockAt x g w p ⟨q.val, by omega⟩ := by
  unfold out0_3 blockAt
  rw [View.canon_unit_zero (by decide)]
  simp only [← pay2_apply]
  pointwise [k0_pay3]
theorem out4_apply (q : Fin 512) : out0_4 x g w (ix2 p q) = blockAt x g w p ⟨2048 + q.val, by omega⟩ := by
  unfold out0_4 blockAt
  rw [View.canon_unit_zero (by decide)]
  simp only [← pay2_apply]
  pointwise [k0_pay4]
theorem out5_apply (q : Fin 512) : out0_5 x g w (ix2 p q) = blockAt x g w p ⟨2560 + q.val, by omega⟩ := by
  unfold out0_5 blockAt
  rw [View.canon_unit_zero (by decide)]
  simp only [← pay2_apply]
  pointwise [k0_pay5]
theorem out6_apply (q : Fin 256) : out0_6 x g w (ix2 p q) = blockAt x g w p ⟨3072 + q.val, by omega⟩ := by
  unfold out0_6 blockAt
  rw [View.canon_unit_zero (by decide)]
  simp only [← pay2_apply]
  pointwise [k0_pay7]
  rw [pay15_apply, zero_add]
  exact Finset.sum_congr rfl fun k _ => congrArg₂ (fun a b => a * b) ((pay16_apply x g w p k).trans (pay2_apply x g p k).symm) (pay17_apply x g w k q)
theorem out7_apply (q : Fin 512) : out0_7 x g w (ix2 p q) = blockAt x g w p ⟨2816 + q.val, by omega⟩ := by
  unfold out0_7 blockAt
  rw [View.canon_unit_zero (by decide)]
  simp only [← pay2_apply]
  pointwise [k0_pay8, k0_pay7, k0_pay5]
  split_ifs with h h1
  · refine Finset.sum_congr rfl fun k _ => congrArg (fun l => k0_pay2 (View.ld x r0_0) (View.ld g r0_1) (ix2 p k) * w (ix2 k l)) (Fin.ext ?_)
    show 2560 + (256 + q.val) = 2816 + q.val
    omega
  · rw [pay15_apply, zero_add]
    refine Finset.sum_congr rfl fun k _ => congrArg₂ (fun a b => a * b) ((pay16_apply x g w p k).trans (pay2_apply x g p k).symm) ((pay17_apply x g w k _).trans ?_)
    refine congrArg (fun l => w (ix2 k l)) (Fin.ext ?_)
    show 3072 + (q.val - 256) = 2816 + q.val
    omega
  · exact absurd rfl h1
theorem out8_apply (q : Fin 128) : out0_8 x g w (ix2 p q) = blockAt x g w p ⟨3328 + q.val, by omega⟩ := by
  unfold out0_8 blockAt
  rw [View.canon_unit_zero (by decide)]
  simp only [← pay2_apply]
  unfold k0_pay16
  pointwise [k0_pay9]
theorem out9_apply (q : Fin 512) : out0_9 x g w (ix2 p q) = blockAt x g w p ⟨3456 + q.val, by omega⟩ := by
  unfold out0_9 blockAt
  rw [View.canon_unit_zero (by decide)]
  simp only [← pay2_apply]
  unfold k0_pay16
  pointwise [k0_pay10]
theorem out10_apply (q : Fin 512) : out0_10 x g w (ix2 p q) = blockAt x g w p ⟨3968 + q.val, by omega⟩ := by
  unfold out0_10 blockAt
  rw [View.canon_unit_zero (by decide)]
  simp only [← pay2_apply]
  unfold k0_pay16
  pointwise [k0_pay11]
theorem out11_apply (q : Fin 512) : out0_11 x g w (ix2 p q) = blockAt x g w p ⟨4480 + q.val, by omega⟩ := by
  unfold out0_11 blockAt
  rw [View.canon_unit_zero (by decide)]
  simp only [← pay2_apply]
  unfold k0_pay16
  pointwise [k0_pay13]
theorem out12_apply (q : Fin 512) : out0_12 x g w (ix2 p q) = blockAt x g w p ⟨3968 + q.val, by omega⟩ := by
  unfold out0_12 blockAt
  rw [View.canon_unit_zero (by decide)]
  simp only [← pay2_apply]
  unfold k0_pay16
  pointwise [k0_pay12, k0_pay11]
theorem out13_apply (q : Fin 512) : out0_13 x g w (ix2 p q) = blockAt x g w p ⟨4480 + q.val, by omega⟩ := by
  unfold out0_13 blockAt
  rw [View.canon_unit_zero (by decide)]
  simp only [← pay2_apply]
  unfold k0_pay16
  pointwise [k0_pay14, k0_pay13]
theorem out14_apply (q : Fin 3072) : out0_14 x g w (ix2 p q) = blockAt x g w p ⟨4992 + q.val, by omega⟩ := by
  unfold out0_14 blockAt
  rw [View.canon_unit_zero (by decide)]
  simp only [← pay2_apply]
  unfold k0_pay16
  pointwise [k0_pay1]
end Block
end Cert.ProjS
-- ==== Proof.ProjS.Table.lean ====
/- Which column of the projection stands behind each column of the kernel's weights. -/
module

public import proofs.«01_k».proof.Proof.ProjS.KHost

@[expose] public section
set_option maxRecDepth 16384
noncomputable section
namespace Cert.ProjS
open Idealize.ShloMosaic Cert.Kernel6Ideal Cert.Kernel6Ideal.Gen

/-- The projection's column behind column `q` of the first mixer's inputs. -/
def colA (q : Fin 2048) : Fin 7960 := ⟨q.val, by omega⟩
theorem colA_small : ∀ a : Fin 16, ∀ b : Fin 128, lit1 ⟨128 * a.val + b.val, by omega⟩ = 1#1 ∧ lit0 ⟨128 * a.val + b.val, by omega⟩ = BitVec.ofNat 32 (colA ⟨128 * a.val + b.val, by omega⟩).val := by decide +kernel
theorem colA_table (q : Fin 2048) : lit1 ⟨q.val, by omega⟩ = 1#1 ∧ lit0 ⟨q.val, by omega⟩ = BitVec.ofNat 32 (colA q).val := by
  have h := colA_small ⟨q.val / 128, by omega⟩ ⟨q.val % 128, by omega⟩
  have e : 128 * (q.val / 128) + q.val % 128 = q.val := by omega
  simp only [e] at h
  exact h
/-- The projection's column behind column `q` of the second mixer's queries. -/
def colQ (q : Fin 512) : Fin 7960 := ⟨2048 + ((q.val / 64 % 2 * 4 + q.val / 128) * 64 + q.val % 64), by omega⟩
theorem colQ_small : ∀ a : Fin 4, ∀ b : Fin 128, lit1 ⟨2048 + (128 * a.val + b.val), by omega⟩ = 1#1 ∧ lit0 ⟨2048 + (128 * a.val + b.val), by omega⟩ = BitVec.ofNat 32 (colQ ⟨128 * a.val + b.val, by omega⟩).val := by decide +kernel
theorem colQ_table (q : Fin 512) : lit1 ⟨2048 + q.val, by omega⟩ = 1#1 ∧ lit0 ⟨2048 + q.val, by omega⟩ = BitVec.ofNat 32 (colQ q).val := by
  have h := colQ_small ⟨q.val / 128, by omega⟩ ⟨q.val % 128, by omega⟩
  have e : 128 * (q.val / 128) + q.val % 128 = q.val := by omega
  simp only [e] at h
  exact h
/-- The projection's column behind column `q` of the second mixer's compressed and selected keys and values. -/
def colRows (q : Fin 512) : Fin 7960 := ⟨2560 + q.val, by omega⟩
theorem colRows_small : ∀ a : Fin 4, ∀ b : Fin 128, lit1 ⟨2560 + (128 * a.val + b.val), by omega⟩ = 1#1 ∧ lit0 ⟨2560 + (128 * a.val + b.val), by omega⟩ = BitVec.ofNat 32 (colRows ⟨128 * a.val + b.val, by omega⟩).val := by decide +kernel
theorem colRows_table (q : Fin 512) : lit1 ⟨2560 + q.val, by omega⟩ = 1#1 ∧ lit0 ⟨2560 + q.val, by omega⟩ = BitVec.ofNat 32 (colRows q).val := by
  have h := colRows_small ⟨q.val / 128, by omega⟩ ⟨q.val % 128, by omega⟩
  have e : 128 * (q.val / 128) + q.val % 128 = q.val := by omega
  simp only [e] at h
  exact h
/-- The projection's column behind column `q` of the second mixer's window keys and values. -/
def colWin (q : Fin 256) : Fin 7960 := ⟨3072 + q.val, by omega⟩
theorem colWin_small : ∀ a : Fin 2, ∀ b : Fin 128, lit1 ⟨3072 + (128 * a.val + b.val), by omega⟩ = 1#1 ∧ lit0 ⟨3072 + (128 * a.val + b.val), by omega⟩ = BitVec.ofNat 32 (colWin ⟨128 * a.val + b.val, by omega⟩).val := by decide +kernel
theorem colWin_table (q : Fin 256) : lit1 ⟨3072 + q.val, by omega⟩ = 1#1 ∧ lit0 ⟨3072 + q.val, by omega⟩ = BitVec.ofNat 32 (colWin q).val := by
  have h := colWin_small ⟨q.val / 128, by omega⟩ ⟨q.val % 128, by omega⟩
  have e : 128 * (q.val / 128) + q.val % 128 = q.val := by omega
  simp only [e] at h
  exact h
/-- The projection's column behind column `q` of the second mixer's selected and window keys and values. -/
def colKv (q : Fin 512) : Fin 7960 := ⟨2816 + q.val, by omega⟩
theorem colKv_small : ∀ a : Fin 4, ∀ b : Fin 128, lit1 ⟨2816 + (128 * a.val + b.val), by omega⟩ = 1#1 ∧ lit0 ⟨2816 + (128 * a.val + b.val), by omega⟩ = BitVec.ofNat 32 (colKv ⟨128 * a.val + b.val, by omega⟩).val := by decide +kernel
theorem colKv_table (q : Fin 512) : lit1 ⟨2816 + q.val, by omega⟩ = 1#1 ∧ lit0 ⟨2816 + q.val, by omega⟩ = BitVec.ofNat 32 (colKv q).val := by
  have h := colKv_small ⟨q.val / 128, by omega⟩ ⟨q.val % 128, by omega⟩
  have e : 128 * (q.val / 128) + q.val % 128 = q.val := by omega
  simp only [e] at h
  exact h
/-- The projection's column behind column `q` of the third mixer's queries. -/
def colCq (q : Fin 512) : Fin 7960 := ⟨3352 + q.val, by omega⟩
theorem colCq_small : ∀ a : Fin 4, ∀ b : Fin 128, lit1 ⟨3456 + (128 * a.val + b.val), by omega⟩ = 1#1 ∧ lit0 ⟨3456 + (128 * a.val + b.val), by omega⟩ = BitVec.ofNat 32 (colCq ⟨128 * a.val + b.val, by omega⟩).val := by decide +kernel
theorem colCq_table (q : Fin 512) : lit1 ⟨3456 + q.val, by omega⟩ = 1#1 ∧ lit0 ⟨3456 + q.val, by omega⟩ = BitVec.ofNat 32 (colCq q).val := by
  have h := colCq_small ⟨q.val / 128, by omega⟩ ⟨q.val % 128, by omega⟩
  have e : 128 * (q.val / 128) + q.val % 128 = q.val := by omega
  simp only [e] at h
  exact h
/-- The projection's column behind column `q` of the third mixer's keys. -/
def colCk (q : Fin 512) : Fin 7960 := ⟨3864 + q.val, by omega⟩
theorem colCk_small : ∀ a : Fin 4, ∀ b : Fin 128, lit1 ⟨3968 + (128 * a.val + b.val), by omega⟩ = 1#1 ∧ lit0 ⟨3968 + (128 * a.val + b.val), by omega⟩ = BitVec.ofNat 32 (colCk ⟨128 * a.val + b.val, by omega⟩).val := by decide +kernel
theorem colCk_table (q : Fin 512) : lit1 ⟨3968 + q.val, by omega⟩ = 1#1 ∧ lit0 ⟨3968 + q.val, by omega⟩ = BitVec.ofNat 32 (colCk q).val := by
  have h := colCk_small ⟨q.val / 128, by omega⟩ ⟨q.val % 128, by omega⟩
  have e : 128 * (q.val / 128) + q.val % 128 = q.val := by omega
  simp only [e] at h
  exact h
/-- The projection's column behind column `q` of the third mixer's values. -/
def colCv (q : Fin 512) : Fin 7960 := ⟨4376 + q.val, by omega⟩
theorem colCv_small : ∀ a : Fin 4, ∀ b : Fin 128, lit1 ⟨4480 + (128 * a.val + b.val), by omega⟩ = 1#1 ∧ lit0 ⟨4480 + (128 * a.val + b.val), by omega⟩ = BitVec.ofNat 32 (colCv ⟨128 * a.val + b.val, by omega⟩).val := by decide +kernel
theorem colCv_table (q : Fin 512) : lit1 ⟨4480 + q.val, by omega⟩ = 1#1 ∧ lit0 ⟨4480 + q.val, by omega⟩ = BitVec.ofNat 32 (colCv q).val := by
  have h := colCv_small ⟨q.val / 128, by omega⟩ ⟨q.val % 128, by omega⟩
  have e : 128 * (q.val / 128) + q.val % 128 = q.val := by omega
  simp only [e] at h
  exact h
/-- The projection's column behind column `q` of the merge's gates. -/
def colMg (q : Fin 3072) : Fin 7960 := ⟨4888 + q.val, by omega⟩
theorem colMg_small : ∀ a : Fin 24, ∀ b : Fin 128, lit1 ⟨4992 + (128 * a.val + b.val), by omega⟩ = 1#1 ∧ lit0 ⟨4992 + (128 * a.val + b.val), by omega⟩ = BitVec.ofNat 32 (colMg ⟨128 * a.val + b.val, by omega⟩).val := by decide +kernel
theorem colMg_table (q : Fin 3072) : lit1 ⟨4992 + q.val, by omega⟩ = 1#1 ∧ lit0 ⟨4992 + q.val, by omega⟩ = BitVec.ofNat 32 (colMg q).val := by
  have h := colMg_small ⟨q.val / 128, by omega⟩ ⟨q.val % 128, by omega⟩
  have e : 128 * (q.val / 128) + q.val % 128 = q.val := by omega
  simp only [e] at h
  exact h
/-- The projection's column behind column `q` of the second mixer's gates, branch by branch. -/
def colGate (q : Fin 24) : Fin 7960 := ⟨3328 + (q.val % 8 * 3 + q.val / 8), by omega⟩
theorem colGate_table : ∀ q : Fin 24, lit1 ⟨3328 + q.val, by omega⟩ = 1#1 ∧ lit0 ⟨3328 + q.val, by omega⟩ = BitVec.ofNat 32 (colGate q).val := by decide +kernel
theorem gate_pad : ∀ q : Fin 104, lit1 ⟨3328 + (24 + q.val), by omega⟩ = 0#1 := by decide +kernel

end Cert.ProjS
-- ==== Proof.ProjS.KFinal.lean ====
/- The arrays that the input projection leaves. -/
module

public import proofs.«01_k».proof.Proof.ProjS.KBlock
public import proofs.«01_k».proof.Proof.ProjS.Table

@[expose] public section
set_option maxRecDepth 16384
noncomputable section
namespace Cert.ProjS
open Idealize.ShloMosaic Idealize.ShloMosaic.TcCoe Idealize.SL.Sem Cert.Kernel6Ideal Cert.Kernel6Ideal.Gen

/-- Row `i`, normalised, against column `s` of the projection. -/
def projAt (x : Vec Ideal S32x1024 .f32) (g : Vec Ideal S1024 .f32) (w : Vec Ideal S1024x7960 .f32) (i : Fin 32) (s : Fin 7960) : EReal :=
  ∑ k, Cert.Moe.normed (fun k => x (ix2 i k)) (fun k => g (ix1 k)) k * w (ix2 k s)
/-- The second mixer's gates, padded with zeros. -/
def gateAt (x : Vec Ideal S32x1024 .f32) (g : Vec Ideal S1024 .f32) (w : Vec Ideal S1024x7960 .f32) (i : Fin 32) (q : Fin 128) : EReal :=
  if h : q.val < 24 then projAt x g w i (colGate ⟨q.val, h⟩) else 0

variable (m : (ℓ : Loc nD τ sig) → Buf (Elt Ideal) ℓ) (c : Dev nD)

theorem N_0 : cfg0.N = 1 := rfl
/-- Row `p` of block `t`. -/
def rowAt (t : Fin cfg0.N) (p : Fin 32) : Fin 32 := ⟨t.val * 32 + p.val, by have := lt_of_lt_of_eq t.isLt N_0; omega⟩

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] :=
  (by decide +kernel : ∀ t : Fin grid0.N, _)

theorem read0 (t : Fin cfg0.N) (f : Vec Ideal S32x1024 .f32) (p : Fin 32) (q : Fin 1024) :
    (((cfg0.win 0).blk t).view.read (Elt Ideal) f : Vec Ideal S32x1024 .f32) (ix2 p q) = f (ix2 (rowAt t p) q) := by
  unfold rowAt; blk_ext! [idx t]
theorem blk0 (t : Fin cfg0.N) (p : Fin 32) (q : Fin 1024) : (iblk m c 0 t : Vec Ideal S32x1024 .f32) (ix2 p q) = A0 m c (ix2 (rowAt t p) q) :=
  (read0 t (V m c main_arg0) p q).trans (congrFun (V_main_arg0 m c) _)
theorem read1 (t : Fin cfg0.N) (f : Vec Ideal S1x1024 .f32) : (((cfg0.win 1).blk t).view.read (Elt Ideal) f : Vec Ideal S1x1024 .f32) = f := by
  blk_ext! [idx t]
theorem blk1 (t : Fin cfg0.N) : iblk m c 1 t = V m c main_v3 := read1 t _
theorem read2 (t : Fin cfg0.N) (f : Vec Ideal S1024x8064 .bf16) : (((cfg0.win 2).blk t).view.read (Elt Ideal) f : Vec Ideal S1024x8064 .bf16) = f := by
  blk_ext! [idx t]
theorem blk2 (t : Fin cfg0.N) : iblk m c 2 t = V m c main_v2 := read2 t _

theorem block_eq (t : Fin cfg0.N) (p : Fin 32) (n : Fin 8064) :
    blockAt (iblk m c 0 t) (iblk m c 1 t) (iblk m c 2 t) p n
      = ∑ k, Cert.Moe.normed (fun k => A0 m c (ix2 (rowAt t p) k)) (fun k => A1 m c (ix1 k)) k * weights (A2 m c) (ix2 k n) := by
  unfold blockAt
  rw [blk1, blk2, V_v2, V_v3]
  simp only [blk0, gainRow_apply]
theorem block_kept (t : Fin cfg0.N) (p : Fin 32) (n : Fin 8064) (s : Fin 7960) (h : lit1 n = 1#1 ∧ lit0 n = BitVec.ofNat 32 s.val) :
    blockAt (iblk m c 0 t) (iblk m c 1 t) (iblk m c 2 t) p n = projAt (A0 m c) (A1 m c) (A2 m c) (rowAt t p) s := by
  rw [block_eq]
  exact Finset.sum_congr rfl fun k _ => congrArg _ (weights_kept (A2 m c) k n s h)
theorem block_pad (t : Fin cfg0.N) (p : Fin 32) (n : Fin 8064) (h : lit1 n = 0#1) :
    blockAt (iblk m c 0 t) (iblk m c 1 t) (iblk m c 2 t) p n = 0 := by
  rw [block_eq]
  refine Finset.sum_eq_zero fun k _ => ?_
  rw [weights_pad (A2 m c) k n h, mul_zero]

theorem emb3 (t : Fin cfg0.N) (p : Fin 32) (q : Fin 2048) : ((View.whole main_v4_0).slice (win0_3.rect t)).emb (ix2 p q) = ix2 (rowAt t p) q := by
  unfold rowAt; blk_ext! [idx t]
theorem final3 : (dats m 0 c).arrAt 3 cfg0.N = fun y : S32x2048.Idx => projAt (A0 m c) (A1 m c) (A2 m c) (y 0) (colA (y 1)) := by
  refine (dats m 0 c).arrAt_eq_of_covers 3 _ (by decide +kernel) fun t _ y => ?_
  blk_simp
  rw [after0_3]
  idx_vars y
  rw [emb3]
  refine (out3_apply _ _ _ y0 y1).trans ?_
  exact block_kept m c t y0 _ _ (colA_table y1)
theorem emb4 (t : Fin cfg0.N) (p : Fin 32) (q : Fin 512) : ((View.whole main_v4_1).slice (win0_4.rect t)).emb (ix2 p q) = ix2 (rowAt t p) q := by
  unfold rowAt; blk_ext! [idx t]
theorem final4 : (dats m 0 c).arrAt 4 cfg0.N = fun y : S32x512.Idx => projAt (A0 m c) (A1 m c) (A2 m c) (y 0) (colQ (y 1)) := by
  refine (dats m 0 c).arrAt_eq_of_covers 4 _ (by decide +kernel) fun t _ y => ?_
  blk_simp
  rw [after0_4]
  idx_vars y
  rw [emb4]
  refine (out4_apply _ _ _ y0 y1).trans ?_
  exact block_kept m c t y0 _ _ (colQ_table y1)
theorem emb5 (t : Fin cfg0.N) (p : Fin 32) (q : Fin 512) : ((View.whole main_v4_2).slice (win0_5.rect t)).emb (ix2 p q) = ix2 (rowAt t p) q := by
  unfold rowAt; blk_ext! [idx t]
theorem final5 : (dats m 0 c).arrAt 5 cfg0.N = fun y : S32x512.Idx => projAt (A0 m c) (A1 m c) (A2 m c) (y 0) (colRows (y 1)) := by
  refine (dats m 0 c).arrAt_eq_of_covers 5 _ (by decide +kernel) fun t _ y => ?_
  blk_simp
  rw [after0_5]
  idx_vars y
  rw [emb5]
  refine (out5_apply _ _ _ y0 y1).trans ?_
  exact block_kept m c t y0 _ _ (colRows_table y1)
theorem emb6 (t : Fin cfg0.N) (p : Fin 32) (q : Fin 256) : ((View.whole main_v4_3).slice (win0_6.rect t)).emb (ix2 p q) = ix2 (rowAt t p) q := by
  unfold rowAt; blk_ext! [idx t]
theorem final6 : (dats m 0 c).arrAt 6 cfg0.N = fun y : S32x256.Idx => projAt (A0 m c) (A1 m c) (A2 m c) (y 0) (colWin (y 1)) := by
  refine (dats m 0 c).arrAt_eq_of_covers 6 _ (by decide +kernel) fun t _ y => ?_
  blk_simp
  rw [after0_6]
  idx_vars y
  rw [emb6]
  refine (out6_apply _ _ _ y0 y1).trans ?_
  exact block_kept m c t y0 _ _ (colWin_table y1)
theorem emb7 (t : Fin cfg0.N) (p : Fin 32) (q : Fin 512) : ((View.whole main_v4_4).slice (win0_7.rect t)).emb (ix2 p q) = ix2 (rowAt t p) q := by
  unfold rowAt; blk_ext! [idx t]
theorem final7 : (dats m 0 c).arrAt 7 cfg0.N = fun y : S32x512.Idx => projAt (A0 m c) (A1 m c) (A2 m c) (y 0) (colKv (y 1)) := by
  refine (dats m 0 c).arrAt_eq_of_covers 7 _ (by decide +kernel) fun t _ y => ?_
  blk_simp
  rw [after0_7]
  idx_vars y
  rw [emb7]
  refine (out7_apply _ _ _ y0 y1).trans ?_
  exact block_kept m c t y0 _ _ (colKv_table y1)
theorem emb8 (t : Fin cfg0.N) (p : Fin 32) (q : Fin 128) : ((View.whole main_v4_5).slice (win0_8.rect t)).emb (ix2 p q) = ix2 (rowAt t p) q := by
  unfold rowAt; blk_ext! [idx t]
theorem final8 : (dats m 0 c).arrAt 8 cfg0.N = fun y : S32x128.Idx => gateAt (A0 m c) (A1 m c) (A2 m c) (y 0) (y 1) := by
  refine (dats m 0 c).arrAt_eq_of_covers 8 _ (by decide +kernel) fun t _ y => ?_
  blk_simp
  rw [after0_8]
  idx_vars y
  rw [emb8]
  refine (out8_apply _ _ _ y0 y1).trans ?_
  show _ = gateAt (A0 m c) (A1 m c) (A2 m c) (rowAt t y0) y1
  unfold gateAt
  split_ifs with h
  · exact block_kept m c t y0 _ _ (colGate_table ⟨y1.val, h⟩)
  · refine block_pad m c t y0 _ ?_
    have e := gate_pad ⟨y1.val - 24, by omega⟩
    have e' : 24 + (y1.val - 24) = y1.val := by omega
    simp only [e'] at e
    exact e
theorem emb9 (t : Fin cfg0.N) (p : Fin 32) (q : Fin 512) : ((View.whole main_v4_6).slice (win0_9.rect t)).emb (ix2 p q) = ix2 (rowAt t p) q := by
  unfold rowAt; blk_ext! [idx t]
theorem final9 : (dats m 0 c).arrAt 9 cfg0.N = fun y : S32x512.Idx => projAt (A0 m c) (A1 m c) (A2 m c) (y 0) (colCq (y 1)) := by
  refine (dats m 0 c).arrAt_eq_of_covers 9 _ (by decide +kernel) fun t _ y => ?_
  blk_simp
  rw [after0_9]
  idx_vars y
  rw [emb9]
  refine (out9_apply _ _ _ y0 y1).trans ?_
  exact block_kept m c t y0 _ _ (colCq_table y1)
theorem emb10 (t : Fin cfg0.N) (p : Fin 32) (q : Fin 512) : ((View.whole main_v4_7).slice (win0_10.rect t)).emb (ix2 p q) = ix2 (rowAt t p) q := by
  unfold rowAt; blk_ext! [idx t]
theorem final10 : (dats m 0 c).arrAt 10 cfg0.N = fun y : S32x512.Idx => projAt (A0 m c) (A1 m c) (A2 m c) (y 0) (colCk (y 1)) := by
  refine (dats m 0 c).arrAt_eq_of_covers 10 _ (by decide +kernel) fun t _ y => ?_
  blk_simp
  rw [after0_10]
  idx_vars y
  rw [emb10]
  refine (out10_apply _ _ _ y0 y1).trans ?_
  exact block_kept m c t y0 _ _ (colCk_table y1)
theorem emb11 (t : Fin cfg0.N) (p : Fin 32) (q : Fin 512) : ((View.whole main_v4_8).slice (win0_11.rect t)).emb (ix2 p q) = ix2 (rowAt t p) q := by
  unfold rowAt; blk_ext! [idx t]
theorem final11 : (dats m 0 c).arrAt 11 cfg0.N = fun y : S32x512.Idx => projAt (A0 m c) (A1 m c) (A2 m c) (y 0) (colCv (y 1)) := by
  refine (dats m 0 c).arrAt_eq_of_covers 11 _ (by decide +kernel) fun t _ y => ?_
  blk_simp
  rw [after0_11]
  idx_vars y
  rw [emb11]
  refine (out11_apply _ _ _ y0 y1).trans ?_
  exact block_kept m c t y0 _ _ (colCv_table y1)
theorem emb12 (t : Fin cfg0.N) (p : Fin 32) (q : Fin 512) : ((View.whole main_v4_9).slice (win0_12.rect t)).emb (ix2 p q) = ix2 (rowAt t p) q := by
  unfold rowAt; blk_ext! [idx t]
theorem final12 : (dats m 0 c).arrAt 12 cfg0.N = fun y : S32x512.Idx => projAt (A0 m c) (A1 m c) (A2 m c) (y 0) (colCk (y 1)) := by
  refine (dats m 0 c).arrAt_eq_of_covers 12 _ (by decide +kernel) fun t _ y => ?_
  blk_simp
  rw [after0_12]
  idx_vars y
  rw [emb12]
  refine (out12_apply _ _ _ y0 y1).trans ?_
  exact block_kept m c t y0 _ _ (colCk_table y1)
theorem emb13 (t : Fin cfg0.N) (p : Fin 32) (q : Fin 512) : ((View.whole main_v4_10).slice (win0_13.rect t)).emb (ix2 p q) = ix2 (rowAt t p) q := by
  unfold rowAt; blk_ext! [idx t]
theorem final13 : (dats m 0 c).arrAt 13 cfg0.N = fun y : S32x512.Idx => projAt (A0 m c) (A1 m c) (A2 m c) (y 0) (colCv (y 1)) := by
  refine (dats m 0 c).arrAt_eq_of_covers 13 _ (by decide +kernel) fun t _ y => ?_
  blk_simp
  rw [after0_13]
  idx_vars y
  rw [emb13]
  refine (out13_apply _ _ _ y0 y1).trans ?_
  exact block_kept m c t y0 _ _ (colCv_table y1)
theorem emb14 (t : Fin cfg0.N) (p : Fin 32) (q : Fin 3072) : ((View.whole main_v4_11).slice (win0_14.rect t)).emb (ix2 p q) = ix2 (rowAt t p) q := by
  unfold rowAt; blk_ext! [idx t]
theorem final14 : (dats m 0 c).arrAt 14 cfg0.N = fun y : S32x3072.Idx => projAt (A0 m c) (A1 m c) (A2 m c) (y 0) (colMg (y 1)) := by
  refine (dats m 0 c).arrAt_eq_of_covers 14 _ (by decide +kernel) fun t _ y => ?_
  blk_simp
  rw [after0_14]
  idx_vars y
  rw [emb14]
  refine (out14_apply _ _ _ y0 y1).trans ?_
  exact block_kept m c t y0 _ _ (colMg_table y1)
end Cert.ProjS
-- ==== Proof.ProjS.Ref.lean ====
/- The input projection's reference, read at an index. -/
module

public import proofs.«01_k».proof.Proof.Gen.Reference6Ideal.Run
public import proofs.«01_k».proof.Proof.ProjS.KFinal

@[expose] public section
set_option maxRecDepth 16384
noncomputable section
namespace Cert.ProjS.Ref
open Idealize.ShloMosaic Idealize.ShloMosaic.TcCoe Idealize.SL.Sem Cert.Reference6Ideal Cert.Reference6Ideal.Gen Idealize.ShloMosaic.StableHlo

/-- The reference's normalised rows. -/
def normedRows (x : FVec Ideal S32x1024 .f32) (g : FVec Ideal S1024 .f32) : FVec Ideal S32x1024 .f32 :=
  mulf (mulf x (broadcastInDim S32x1024 ![0, 1] bcast_S32x1_S32x1024_0_1 (Host.rsqrt (addf (Host.divf (broadcastInDim S32x1 ![0] bcast_S32_S32x1_0 (Host.reduceAdd (mulf x x) (constant S_ .f32 0x00000000#32) reducesTo_S32x1024_S32_d1 h_S_)) (broadcastInDim S32x1 ![] bcast_S_S32x1 (constant S_ .f32 0x44800000#32))) (broadcastInDim S32x1 ![] bcast_S_S32x1 (constant S_ .f32 0x358637BD#32)))))) (broadcastInDim S32x1024 ![0, 1] bcast_S1x1024_S32x1024_0_1 (broadcastInDim S1x1024 ![1] bcast_S1024_S1x1024_1 g))
/-- The reference's projection, all columns. -/
def zOf (x : FVec Ideal S32x1024 .f32) (g : FVec Ideal S1024 .f32) (w : FVec Ideal S1024x7960 .f32) : FVec Ideal S32x7960 .f32 :=
  Host.dotGeneral dot_S32x1024_S1024x7960_S32x7960_1_0_0_1_n_n none (normedRows x g) w

theorem normedRows_apply (x : FVec Ideal S32x1024 .f32) (g : FVec Ideal S1024 .f32) (i : Fin 32) (k : Fin 1024) :
    normedRows x g (ix2 i k) = Cert.Moe.normed (fun k => x (ix2 i k)) (fun k => g (ix1 k)) k := by
  unfold Cert.Moe.normed Cert.Moe.invRms
  pointwise [normedRows]
theorem zOf_apply (x : FVec Ideal S32x1024 .f32) (g : FVec Ideal S1024 .f32) (w : FVec Ideal S1024x7960 .f32) (i : Fin 32) (s : Fin 7960) :
    zOf x g w (ix2 i s) = projAt x g w i s := by
  unfold projAt
  simp only [← normedRows_apply]
  pointwise [zOf]

variable (z : FVec Ideal S32x7960 .f32) (i : Fin 32)
/-- The first mixer's inputs. -/
def r3 (z : FVec Ideal S32x7960 .f32) : FVec Ideal S32x2048 .f32 :=
  concatenate S32x2048 1 [⟨S32x512, extractStridedSlice S32x512 ![0, 0] z slices_S32x7960_S32x512_0_0⟩,
    ⟨S32x512, extractStridedSlice S32x512 ![0, 512] z slices_S32x7960_S32x512_0_512⟩,
    ⟨S32x512, extractStridedSlice S32x512 ![0, 1024] z slices_S32x7960_S32x512_0_1024⟩,
    ⟨S32x512, extractStridedSlice S32x512 ![0, 1536] z slices_S32x7960_S32x512_0_1536⟩] concatenates_S32x512_S32x512_S32x512_S32x512_S32x2048_d1
theorem r3_apply (q : Fin 2048) : r3 z (ix2 i q) = z (ix2 i (colA q)) := by
  pointwise [r3]
  split_ifs
  all_goals first
    | exact congrArg (fun l => z (ix2 i l)) (Fin.ext (by simp only [colA]; omega))
    | rfl
    | (exfalso; omega)
/-- The second mixer's queries, place by place within the groups. -/
def r4 (z : FVec Ideal S32x7960 .f32) : FVec Ideal S32x512 .bf16 :=
  truncf .bf16 (shapeCast _ (transpose S32x4x2x64 [0, 2, 1, 3] (shapeCast _ (extractStridedSlice S32x512 ![0, 2048] z slices_S32x7960_S32x512_0_2048) shapeCasts_S32x512_S32x2x4x64) transposes_S32x2x4x64_S32x4x2x64_0_2_1_3) shapeCasts_S32x4x2x64_S32x512) bitsLt_bf16_f32
theorem r4_apply (q : Fin 512) : r4 z (ix2 i q) = z (ix2 i (colQ q)) := by
  pointwise [r4]
  exact congrArg (fun l => z (ix2 i l)) (Fin.ext (by simp only [colQ]; omega))
/-- The second mixer's compressed and selected keys and values. -/
def r5 (z : FVec Ideal S32x7960 .f32) : FVec Ideal S32x512 .f32 :=
  concatenate S32x512 1 [⟨S32x128, extractStridedSlice S32x128 ![0, 2560] z slices_S32x7960_S32x128_0_2560⟩,
    ⟨S32x128, extractStridedSlice S32x128 ![0, 2688] z slices_S32x7960_S32x128_0_2688⟩,
    ⟨S32x128, extractStridedSlice S32x128 ![0, 2816] z slices_S32x7960_S32x128_0_2816⟩,
    ⟨S32x128, extractStridedSlice S32x128 ![0, 2944] z slices_S32x7960_S32x128_0_2944⟩] concatenates_S32x128_S32x128_S32x128_S32x128_S32x512_d1
theorem r5_apply (q : Fin 512) : r5 z (ix2 i q) = z (ix2 i (colRows q)) := by
  pointwise [r5]
  split_ifs
  all_goals first
    | exact congrArg (fun l => z (ix2 i l)) (Fin.ext (by simp only [colRows]; omega))
    | rfl
    | (exfalso; omega)
/-- The second mixer's window keys and values. -/
def r6 (z : FVec Ideal S32x7960 .f32) : FVec Ideal S32x256 .f32 :=
  concatenate S32x256 1 [⟨S32x128, extractStridedSlice S32x128 ![0, 3072] z slices_S32x7960_S32x128_0_3072⟩,
    ⟨S32x128, extractStridedSlice S32x128 ![0, 3200] z slices_S32x7960_S32x128_0_3200⟩] concatenates_S32x128_S32x128_S32x256_d1
theorem r6_apply (q : Fin 256) : r6 z (ix2 i q) = z (ix2 i (colWin q)) := by
  pointwise [r6]
  split_ifs
  all_goals first
    | exact congrArg (fun l => z (ix2 i l)) (Fin.ext (by simp only [colWin]; omega))
    | rfl
    | (exfalso; omega)
/-- The second mixer's selected and window keys and values. -/
def r7 (z : FVec Ideal S32x7960 .f32) : FVec Ideal S32x512 .bf16 :=
  truncf .bf16 (concatenate S32x512 1 [⟨S32x128, extractStridedSlice S32x128 ![0, 2816] z slices_S32x7960_S32x128_0_2816⟩,
    ⟨S32x128, extractStridedSlice S32x128 ![0, 2944] z slices_S32x7960_S32x128_0_2944⟩,
    ⟨S32x128, extractStridedSlice S32x128 ![0, 3072] z slices_S32x7960_S32x128_0_3072⟩,
    ⟨S32x128, extractStridedSlice S32x128 ![0, 3200] z slices_S32x7960_S32x128_0_3200⟩] concatenates_S32x128_S32x128_S32x128_S32x128_S32x512_d1 : FVec Ideal S32x512 .f32) bitsLt_bf16_f32
theorem r7_apply (q : Fin 512) : r7 z (ix2 i q) = z (ix2 i (colKv q)) := by
  pointwise [r7]
  split_ifs
  all_goals first
    | exact congrArg (fun l => z (ix2 i l)) (Fin.ext (by simp only [colKv]; omega))
    | rfl
    | (exfalso; omega)
/-- The padding value is zero. -/
theorem zeroPad : (FloatOps.sitofp (F := Ideal) .f32 (0#32 : BitVec 32) : EReal) = 0 := by
  show ((((0#32 : BitVec 32).toInt : ℤ) : ℝ) : EReal) = 0
  simp
/-- The second mixer's gates, branch by branch, padded with zeros. -/
def r8 (z : FVec Ideal S32x7960 .f32) : FVec Ideal S32x128 .f32 :=
  pad S32x128 ![0, 0] ![0, 104] ![0, 0] (shapeCast _ (transpose S32x3x8 [0, 2, 1] (shapeCast _ (extractStridedSlice S32x24 ![0, 3328] z slices_S32x7960_S32x24_0_3328) shapeCasts_S32x24_S32x8x3) transposes_S32x8x3_S32x3x8_0_2_1) shapeCasts_S32x3x8_S32x24) (sitofp .f32 (constantI S_ 32 0#32)) pads_S32x24_S32x128_000_01040 h_S_
theorem r8_apply (q : Fin 128) : r8 z (ix2 i q) = if h : q.val < 24 then z (ix2 i (colGate ⟨q.val, h⟩)) else 0 := by
  pointwise [r8]
  split_ifs with h
  · rfl
  · exact zeroPad
/-- The third mixer's queries. -/
def r9 (z : FVec Ideal S32x7960 .f32) : FVec Ideal S32x512 .bf16 :=
  truncf .bf16 (extractStridedSlice S32x512 ![0, 3352] z slices_S32x7960_S32x512_0_3352) bitsLt_bf16_f32
theorem r9_apply (q : Fin 512) : r9 z (ix2 i q) = z (ix2 i (colCq q)) := by
  pointwise [r9, colCq]
/-- The third mixer's keys. -/
def r10 (z : FVec Ideal S32x7960 .f32) : FVec Ideal S32x512 .f32 :=
  extractStridedSlice S32x512 ![0, 3864] z slices_S32x7960_S32x512_0_3864
theorem r10_apply (q : Fin 512) : r10 z (ix2 i q) = z (ix2 i (colCk q)) := by
  pointwise [r10, colCk]
/-- The third mixer's values. -/
def r11 (z : FVec Ideal S32x7960 .f32) : FVec Ideal S32x512 .f32 :=
  extractStridedSlice S32x512 ![0, 4376] z slices_S32x7960_S32x512_0_4376
theorem r11_apply (q : Fin 512) : r11 z (ix2 i q) = z (ix2 i (colCv q)) := by
  pointwise [r11, colCv]
/-- The third mixer's keys, rounded. -/
def r12 (z : FVec Ideal S32x7960 .f32) : FVec Ideal S32x512 .bf16 :=
  truncf .bf16 (extractStridedSlice S32x512 ![0, 3864] z slices_S32x7960_S32x512_0_3864) bitsLt_bf16_f32
theorem r12_apply (q : Fin 512) : r12 z (ix2 i q) = z (ix2 i (colCk q)) := by
  pointwise [r12, colCk]
/-- The third mixer's values, rounded. -/
def r13 (z : FVec Ideal S32x7960 .f32) : FVec Ideal S32x512 .bf16 :=
  truncf .bf16 (extractStridedSlice S32x512 ![0, 4376] z slices_S32x7960_S32x512_0_4376) bitsLt_bf16_f32
theorem r13_apply (q : Fin 512) : r13 z (ix2 i q) = z (ix2 i (colCv q)) := by
  pointwise [r13, colCv]
/-- The merge's gates. -/
def r14 (z : FVec Ideal S32x7960 .f32) : FVec Ideal S32x3072 .bf16 :=
  truncf .bf16 (extractStridedSlice S32x3072 ![0, 4888] z slices_S32x7960_S32x3072_0_4888) bitsLt_bf16_f32
theorem r14_apply (q : Fin 3072) : r14 z (ix2 i q) = z (ix2 i (colMg q)) := by
  pointwise [r14, colMg]

variable (x : FVec Ideal S32x1024 .f32) (g : FVec Ideal S1024 .f32) (w : FVec Ideal S1024x7960 .f32)
theorem r3_eq : r3 (zOf x g w) = fun y : S32x2048.Idx => projAt x g w (y 0) (colA (y 1)) := by
  funext y
  idx_vars y
  exact (r3_apply (zOf x g w) y0 y1).trans (zOf_apply x g w y0 (colA y1))
theorem r4_eq : r4 (zOf x g w) = fun y : S32x512.Idx => projAt x g w (y 0) (colQ (y 1)) := by
  funext y
  idx_vars y
  exact (r4_apply (zOf x g w) y0 y1).trans (zOf_apply x g w y0 (colQ y1))
theorem r5_eq : r5 (zOf x g w) = fun y : S32x512.Idx => projAt x g w (y 0) (colRows (y 1)) := by
  funext y
  idx_vars y
  exact (r5_apply (zOf x g w) y0 y1).trans (zOf_apply x g w y0 (colRows y1))
theorem r6_eq : r6 (zOf x g w) = fun y : S32x256.Idx => projAt x g w (y 0) (colWin (y 1)) := by
  funext y
  idx_vars y
  exact (r6_apply (zOf x g w) y0 y1).trans (zOf_apply x g w y0 (colWin y1))
theorem r7_eq : r7 (zOf x g w) = fun y : S32x512.Idx => projAt x g w (y 0) (colKv (y 1)) := by
  funext y
  idx_vars y
  exact (r7_apply (zOf x g w) y0 y1).trans (zOf_apply x g w y0 (colKv y1))
theorem r9_eq : r9 (zOf x g w) = fun y : S32x512.Idx => projAt x g w (y 0) (colCq (y 1)) := by
  funext y
  idx_vars y
  exact (r9_apply (zOf x g w) y0 y1).trans (zOf_apply x g w y0 (colCq y1))
theorem r10_eq : r10 (zOf x g w) = fun y : S32x512.Idx => projAt x g w (y 0) (colCk (y 1)) := by
  funext y
  idx_vars y
  exact (r10_apply (zOf x g w) y0 y1).trans (zOf_apply x g w y0 (colCk y1))
theorem r11_eq : r11 (zOf x g w) = fun y : S32x512.Idx => projAt x g w (y 0) (colCv (y 1)) := by
  funext y
  idx_vars y
  exact (r11_apply (zOf x g w) y0 y1).trans (zOf_apply x g w y0 (colCv y1))
theorem r12_eq : r12 (zOf x g w) = fun y : S32x512.Idx => projAt x g w (y 0) (colCk (y 1)) := by
  funext y
  idx_vars y
  exact (r12_apply (zOf x g w) y0 y1).trans (zOf_apply x g w y0 (colCk y1))
theorem r13_eq : r13 (zOf x g w) = fun y : S32x512.Idx => projAt x g w (y 0) (colCv (y 1)) := by
  funext y
  idx_vars y
  exact (r13_apply (zOf x g w) y0 y1).trans (zOf_apply x g w y0 (colCv y1))
theorem r14_eq : r14 (zOf x g w) = fun y : S32x3072.Idx => projAt x g w (y 0) (colMg (y 1)) := by
  funext y
  idx_vars y
  exact (r14_apply (zOf x g w) y0 y1).trans (zOf_apply x g w y0 (colMg y1))
theorem r8_eq : r8 (zOf x g w) = fun y : S32x128.Idx => gateAt x g w (y 0) (y 1) := by
  funext y
  idx_vars y
  refine (r8_apply (zOf x g w) y0 y1).trans ?_
  show _ = gateAt x g w y0 y1
  unfold gateAt
  split_ifs with h
  · exact zOf_apply x g w y0 (colGate ⟨y1.val, h⟩)
  · rfl
end Cert.ProjS.Ref
-- ==== Proof.ProjS.Window.lean ====
/- The window carried from step to step: moved by one row, the newest row after it. -/
module

public import proofs.«01_k».proof.Proof.ProjS.Ref

@[expose] public section
set_option maxRecDepth 16384
noncomputable section
namespace Cert.ProjS
open Idealize.ShloMosaic Idealize.ShloMosaic.TcCoe Idealize.SL.Sem Idealize.ShloMosaic.StableHlo

/-- The lane of the newest row that is key or value `a`, group `g`, coordinate `d`. -/
def lane (a g : Fin 2) (d : Fin 64) : Fin 256 := ⟨a.val * 128 + g.val * 64 + d.val, by omega⟩
section
open Cert.Kernel6Ideal Cert.Kernel6Ideal.Gen
/-- The window moved by one row, as the kernel's last lines make it. -/
def moved (w : FVec Ideal S32x512x2x2x64 .f32) (n : FVec Ideal S32x256 .f32) : FVec Ideal S32x512x2x2x64 .f32 :=
  concatenate S32x512x2x2x64 1 [⟨S32x511x2x2x64, extractStridedSlice S32x511x2x2x64 ![0, 1, 0, 0, 0] w slices_S32x512x2x2x64_S32x511x2x2x64_0_1_0_0_0⟩,
    ⟨S32x1x2x2x64, (shapeCast S32x1x2x2x64 n shapeCasts_S32x256_S32x1x2x2x64 : FVec Ideal S32x1x2x2x64 .f32)⟩] concatenates_S32x511x2x2x64_S32x1x2x2x64_S32x512x2x2x64_d1
theorem moved_apply (w : FVec Ideal S32x512x2x2x64 .f32) (n : FVec Ideal S32x256 .f32) (b : Fin 32) (r : Fin 512) (a g : Fin 2) (d : Fin 64) :
    moved w n (ix5 b r a g d) = if h : r.val < 511 then w (ix5 b ⟨r.val + 1, by omega⟩ a g d) else n (ix2 b (lane a g d)) := by
  pointwise [moved]
  split_ifs
  · exact congrArg w (congrArg (fun r => ix5 b r a g d) (Fin.ext (Nat.add_comm _ _)))
  · rfl

end

namespace Ref
open Cert.Reference6Ideal Cert.Reference6Ideal.Gen
/-- The window moved by one row, as the reference makes it. -/
def moved (w : FVec Ideal S32x512x2x2x64 .f32) (n : FVec Ideal S32x256 .f32) : FVec Ideal S32x512x2x2x64 .f32 :=
  extractStridedSlice S32x512x2x2x64 ![0, 1, 0, 0, 0] (concatenate S32x513x2x2x64 1 [⟨S32x512x2x2x64, w⟩, ⟨S32x1x2x2x64,
    (concatenate S32x1x2x2x64 2 [⟨S32x1x1x2x64, broadcastInDim S32x1x1x2x64 ![0, 1, 3, 4] bcast_S32x1x2x64_S32x1x1x2x64_0_1_3_4 (shapeCast S32x1x2x64 (extractStridedSlice S32x128 ![0, 0] n slices_S32x256_S32x128_0_0) shapeCasts_S32x128_S32x1x2x64 : FVec Ideal S32x1x2x64 .f32)⟩,
      ⟨S32x1x1x2x64, broadcastInDim S32x1x1x2x64 ![0, 1, 3, 4] bcast_S32x1x2x64_S32x1x1x2x64_0_1_3_4 (shapeCast S32x1x2x64 (extractStridedSlice S32x128 ![0, 128] n slices_S32x256_S32x128_0_128) shapeCasts_S32x128_S32x1x2x64 : FVec Ideal S32x1x2x64 .f32)⟩] concatenates_S32x1x1x2x64_S32x1x1x2x64_S32x1x2x2x64_d2 : FVec Ideal S32x1x2x2x64 .f32)⟩] concatenates_S32x512x2x2x64_S32x1x2x2x64_S32x513x2x2x64_d1 : FVec Ideal S32x513x2x2x64 .f32) slices_S32x513x2x2x64_S32x512x2x2x64_0_1_0_0_0
theorem moved_apply (w : FVec Ideal S32x512x2x2x64 .f32) (n : FVec Ideal S32x256 .f32) (b : Fin 32) (r : Fin 512) (a g : Fin 2) (d : Fin 64) :
    moved w n (ix5 b r a g d) = if h : r.val < 511 then w (ix5 b ⟨r.val + 1, by omega⟩ a g d) else n (ix2 b (lane a g d)) := by
  pointwise [moved]
  split_ifs
  all_goals first
    | exact congrArg w (congrArg (fun r => ix5 b r a g d) (Fin.ext (Nat.add_comm _ _)))
    | exact congrArg (fun l => n (ix2 b l)) (Fin.ext (by simp only [lane]; omega))
    | (exfalso; omega)
end Ref

section
open Cert.Kernel6Ideal Cert.Kernel6Ideal.Gen
/-- Both move the window the same way. -/
theorem moved_eq (w : FVec Ideal S32x512x2x2x64 .f32) (n : FVec Ideal S32x256 .f32) : Ref.moved w n = moved w n := by
  funext y
  idx_vars y
  exact (Ref.moved_apply w n y0 y1 y2 y3 y4).trans (moved_apply w n y0 y1 y2 y3 y4).symm

variable (m : (ℓ : Loc nD τ sig) → Buf (Elt Ideal) ℓ) (ρ : Dev nD → PrngReg) (c : Dev nD)
/-- The window carried in. -/
abbrev A3 : Vec Ideal S32x512x2x2x64 .f32 := m ((c : Thread nD τ).loc main_arg3)
/-- The last lines' result, over the array the call leaves. -/
theorem tail : Pipeline.afterTail₀ cfgs (dats m) 0 (V0 m) [hostOps1] c main_v7 = moved (A3 m c) ((dats m 0 c).arrAt 6 cfg0.N) := by
  have h3 := Pipeline.withArrays_of_ne spec0 c (V0 m c) (fun w => (dats m 0 c).arrAt w cfg0.N) main_arg3 (by exact (by decide : ∀ w, Pipeline.arrRef spec0 w ≠ main_arg3))
  have h6 := Pipeline.withArrays_arr spec0 launch0.win.arr_inj c (V0 m c) (fun w => (dats m 0 c).arrAt w cfg0.N) 6
  unfold Pipeline.afterTail₀
  simp only [List.flatten_cons, List.flatten_nil, List.append_nil]
  after_results
  exact congrArg₂ moved (h3.trans (V_main_arg3 m c)) h6

/-- The run: the call's twelve arrays, the moved window, the arguments as launched. -/
theorem run_tail : θ_run defs (onTc (τ := τ) (main (F := Ideal))) ⟨m, fun _ => 0, ρ⟩ fun r => ∀ c : Dev nD,
      r.2.mem ((c : Thread nD τ).loc main_v4_0) = (dats m 0 c).arrAt 3 cfg0.N
      ∧ r.2.mem ((c : Thread nD τ).loc main_v4_1) = (dats m 0 c).arrAt 4 cfg0.N
      ∧ r.2.mem ((c : Thread nD τ).loc main_v4_2) = (dats m 0 c).arrAt 5 cfg0.N
      ∧ r.2.mem ((c : Thread nD τ).loc main_v4_3) = (dats m 0 c).arrAt 6 cfg0.N
      ∧ r.2.mem ((c : Thread nD τ).loc main_v4_4) = (dats m 0 c).arrAt 7 cfg0.N
      ∧ r.2.mem ((c : Thread nD τ).loc main_v4_5) = (dats m 0 c).arrAt 8 cfg0.N
      ∧ r.2.mem ((c : Thread nD τ).loc main_v4_6) = (dats m 0 c).arrAt 9 cfg0.N
      ∧ r.2.mem ((c : Thread nD τ).loc main_v4_7) = (dats m 0 c).arrAt 10 cfg0.N
      ∧ r.2.mem ((c : Thread nD τ).loc main_v4_8) = (dats m 0 c).arrAt 11 cfg0.N
      ∧ r.2.mem ((c : Thread nD τ).loc main_v4_9) = (dats m 0 c).arrAt 12 cfg0.N
      ∧ r.2.mem ((c : Thread nD τ).loc main_v4_10) = (dats m 0 c).arrAt 13 cfg0.N
      ∧ r.2.mem ((c : Thread nD τ).loc main_v4_11) = (dats m 0 c).arrAt 14 cfg0.N
      ∧ r.2.mem ((c : Thread nD τ).loc main_v7) = moved (A3 m c) ((dats m 0 c).arrAt 6 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 3, (h c).1 4, (h c).1 5, (h c).1 6, (h c).1 7, (h c).1 8, (h c).1 9, (h c).1 10, (h c).1 11, (h c).1 12, (h c).1 13, (h c).1 14,
      ((h c).2 main_v7 (Pipeline.mem_restRefs_of main_v7 (by decide) (by decide))).trans (tail m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)
end
end Cert.ProjS
-- ==== Proof.ProjS.Claims.lean ====
/- The claims about the input projection: its frames and the equation of its twelve arrays and of the moved window with the reference's. -/
module

public import proofs.«01_k».proof.Defs
public import proofs.«01_k».proof.Proof.ProjS.Window

@[expose] public section
set_option maxRecDepth 16384
noncomputable section
namespace Cert.ProjS.Claims
open Idealize.ShloMosaic Idealize.ShloMosaic.TcCoe Idealize.SL.Sem

/-- The reference runs, keeps its arguments and leaves every semaphore at zero. -/
theorem frame_ref : Cert.quiescent_Reference6Ideal := fun m ρ _ =>
  (θ_run Cert.Reference6Ideal.defs _ _).mono (fun r h => ⟨fun c => (h c).2.2.2.2.2.2.2.2.2.2.2.2.2, sem_eq_zero_of_no_sems (by decide) r.2⟩)
    (Cert.Reference6Ideal.Value.run (F := Ideal) m ρ)

section
open Cert.Reference6Ideal Cert.Reference6Ideal.Gen
variable (m : (ℓ : Loc nD τ sig) → Buf (Elt Ideal) ℓ) (c : Dev nD)
/-- The reference's projection of its own arguments. -/
abbrev zRef : FVec Ideal S32x7960 .f32 := Ref.zOf (m ((c.tc : Thread nD τ).loc main_arg0)) (m ((c.tc : Thread nD τ).loc main_arg1)) (m ((c.tc : Thread nD τ).loc main_arg2))
end

set_option maxHeartbeats 4000000 in
/-- The kernel's twelve arrays and its moved window are the reference's. -/
theorem equation : Cert.algebraic_Kernel6Ideal_Reference6Ideal := by
  intro m ρ m' ρ' hpre hagree
  refine ⟨fun c => (Cert.Kernel6Ideal.Gen.dats m 0 c).arrAt 3 (Cert.Kernel6Ideal.cfgs 0).N,
    fun c => (Cert.Kernel6Ideal.Gen.dats m 0 c).arrAt 4 (Cert.Kernel6Ideal.cfgs 0).N,
    fun c => (Cert.Kernel6Ideal.Gen.dats m 0 c).arrAt 5 (Cert.Kernel6Ideal.cfgs 0).N,
    fun c => (Cert.Kernel6Ideal.Gen.dats m 0 c).arrAt 6 (Cert.Kernel6Ideal.cfgs 0).N,
    fun c => (Cert.Kernel6Ideal.Gen.dats m 0 c).arrAt 7 (Cert.Kernel6Ideal.cfgs 0).N,
    fun c => (Cert.Kernel6Ideal.Gen.dats m 0 c).arrAt 8 (Cert.Kernel6Ideal.cfgs 0).N,
    fun c => (Cert.Kernel6Ideal.Gen.dats m 0 c).arrAt 9 (Cert.Kernel6Ideal.cfgs 0).N,
    fun c => (Cert.Kernel6Ideal.Gen.dats m 0 c).arrAt 10 (Cert.Kernel6Ideal.cfgs 0).N,
    fun c => (Cert.Kernel6Ideal.Gen.dats m 0 c).arrAt 11 (Cert.Kernel6Ideal.cfgs 0).N,
    fun c => (Cert.Kernel6Ideal.Gen.dats m 0 c).arrAt 12 (Cert.Kernel6Ideal.cfgs 0).N,
    fun c => (Cert.Kernel6Ideal.Gen.dats m 0 c).arrAt 13 (Cert.Kernel6Ideal.cfgs 0).N,
    fun c => (Cert.Kernel6Ideal.Gen.dats m 0 c).arrAt 14 (Cert.Kernel6Ideal.cfgs 0).N,
    fun c => moved (A3 m c) ((Cert.Kernel6Ideal.Gen.dats m 0 c).arrAt 6 (Cert.Kernel6Ideal.cfgs 0).N),
    run_tail m ρ, ?_⟩
  refine (θ_run Cert.Reference6Ideal.defs _ _).mono (fun r h c => ?_) (Cert.Reference6Ideal.Value.run (F := Ideal) m' ρ')
  obtain ⟨a0, a1, a2, a3⟩ := hagree c
  obtain ⟨h3, h4, h5, h6, h7, h8, h9, h10, h11, h12, h13, h14, h15, hargs⟩ := h c
  have hz : zRef m' c = Ref.zOf (A0 m c) (A1 m c) (A2 m c) := by
    unfold zRef
    rw [a0, a1, a2]
  refine ⟨?_, ?_, ?_, ?_, ?_, ?_, ?_, ?_, ?_, ?_, ?_, ?_, ?_, hargs⟩
  · have e : _ = Ref.r3 (zRef m' c) := h3
    exact e.trans ((congrArg Ref.r3 hz).trans ((Ref.r3_eq (A0 m c) (A1 m c) (A2 m c)).trans (final3 m c).symm))
  · have e : _ = Ref.r4 (zRef m' c) := h4
    exact e.trans ((congrArg Ref.r4 hz).trans ((Ref.r4_eq (A0 m c) (A1 m c) (A2 m c)).trans (final4 m c).symm))
  · have e : _ = Ref.r5 (zRef m' c) := h5
    exact e.trans ((congrArg Ref.r5 hz).trans ((Ref.r5_eq (A0 m c) (A1 m c) (A2 m c)).trans (final5 m c).symm))
  · have e : _ = Ref.r6 (zRef m' c) := h6
    exact e.trans ((congrArg Ref.r6 hz).trans ((Ref.r6_eq (A0 m c) (A1 m c) (A2 m c)).trans (final6 m c).symm))
  · have e : _ = Ref.r7 (zRef m' c) := h7
    exact e.trans ((congrArg Ref.r7 hz).trans ((Ref.r7_eq (A0 m c) (A1 m c) (A2 m c)).trans (final7 m c).symm))
  · have e : _ = Ref.r8 (zRef m' c) := h8
    exact e.trans ((congrArg Ref.r8 hz).trans ((Ref.r8_eq (A0 m c) (A1 m c) (A2 m c)).trans (final8 m c).symm))
  · have e : _ = Ref.r9 (zRef m' c) := h9
    exact e.trans ((congrArg Ref.r9 hz).trans ((Ref.r9_eq (A0 m c) (A1 m c) (A2 m c)).trans (final9 m c).symm))
  · have e : _ = Ref.r10 (zRef m' c) := h10
    exact e.trans ((congrArg Ref.r10 hz).trans ((Ref.r10_eq (A0 m c) (A1 m c) (A2 m c)).trans (final10 m c).symm))
  · have e : _ = Ref.r11 (zRef m' c) := h11
    exact e.trans ((congrArg Ref.r11 hz).trans ((Ref.r11_eq (A0 m c) (A1 m c) (A2 m c)).trans (final11 m c).symm))
  · have e : _ = Ref.r12 (zRef m' c) := h12
    exact e.trans ((congrArg Ref.r12 hz).trans ((Ref.r12_eq (A0 m c) (A1 m c) (A2 m c)).trans (final12 m c).symm))
  · have e : _ = Ref.r13 (zRef m' c) := h13
    exact e.trans ((congrArg Ref.r13 hz).trans ((Ref.r13_eq (A0 m c) (A1 m c) (A2 m c)).trans (final13 m c).symm))
  · have e : _ = Ref.r14 (zRef m' c) := h14
    exact e.trans ((congrArg Ref.r14 hz).trans ((Ref.r14_eq (A0 m c) (A1 m c) (A2 m c)).trans (final14 m c).symm))
  · have e : _ = Ref.moved (m' ((c.tc : Thread Cert.Reference6Ideal.nD Cert.Reference6Ideal.τ).loc Cert.Reference6Ideal.main_arg3)) (Ref.r6 (zRef m' c)) := h15
    rw [a3] at e
    refine e.trans ((moved_eq (A3 m c) _).trans (congrArg (moved (A3 m c)) ?_))
    exact (congrArg Ref.r6 hz).trans ((Ref.r6_eq (A0 m c) (A1 m c) (A2 m c)).trans (final6 m c).symm)
end Cert.ProjS.Claims
-- ==== Proof.Hgrn.KBlock.lean ====
/- One row of the recurrence's step: the state each head leaves. -/
module

public import proofs.«01_k».proof.Proof.Gen.Kernel7Ideal.Value
public import Idealize.ShloMosaic.Lib.Pointwise
public import Idealize.ShloMosaic.Lib.ReduceAll
public import Idealize.ShloMosaic.Lib.Pipeline.ValueKit

@[expose] public section
set_option maxRecDepth 16384
noncomputable section
namespace Cert.Hgrn
open Idealize.ShloMosaic Idealize.ShloMosaic.TcCoe Idealize.SL.Sem Cert.Kernel7Ideal Cert.Kernel7Ideal.Gen

/-- The kernel's logarithm of the forget gate's complement of the lower bound. -/
def kLog (l0 l1 a : EReal) : EReal :=
  max l0 (l1 + (min a 0 - Ideal.log1p (Ideal.exp (0 - max a (-a)))))
    + Ideal.log1p (Ideal.exp (0 - max (l0 - (l1 + (min a 0 - Ideal.log1p (Ideal.exp (0 - max a (-a)))))) (-(l0 - (l1 + (min a 0 - Ideal.log1p (Ideal.exp (0 - max a (-a)))))))))

theorem same_place : ∀ i j : Fin 128, IntOp.cmpi .eq (BitVec.ofNat 32 i.val) (BitVec.ofNat 32 j.val) = if i = j then 1#1 else 0#1 := by decide +kernel

theorem diagonal (g : Fin 128 → EReal) (i : Fin 128) :
    ∑ x : Fin 128, Scalar.select (IntOp.cmpi .eq (BitVec.ofNat 32 i.val) (BitVec.ofNat 32 x.val)) (g x) 0 = g i := by
  have h : ∀ x : Fin 128, Scalar.select (IntOp.cmpi .eq (BitVec.ofNat 32 i.val) (BitVec.ofNat 32 x.val)) (g x) 0 = if i = x then g x else 0 := by
    intro x
    rw [same_place]
    by_cases e : i = x
    · rw [if_pos e, if_pos e]; rfl
    · rw [if_neg e, if_neg e]; rfl
  rw [Finset.sum_congr rfl fun x _ => h x, Finset.sum_ite_eq]
  exact if_pos (Finset.mem_univ i)

section Block
variable (x0 : Vec Ideal S1x1x2048 .f32) (x1 : Vec Ideal S1x4x128x128 .f32) (x2 : Vec Ideal S3x512 .f32) (x3 : Vec Ideal S1x128 .f32)

theorem forget_apply (q : Fin 512) : k0_pay36 x0 x1 x2 x3 (ix2 0 q) = Ideal.exp (kLog (x2 (ix2 0 q)) (x2 (ix2 1 q)) (x0 (ix3 0 0 ⟨512 + q.val, by omega⟩))) := by
  pointwise [k0_pay36, k0_pay8, k0_pay3, k0_pay2, kLog]
  rfl
theorem keep_apply (q : Fin 512) : k0_pay35 x0 x1 x2 x3 (ix2 0 q) = x2 (ix2 2 q) * Ideal.logistic (0 - x0 (ix3 0 0 ⟨512 + q.val, by omega⟩)) := by
  pointwise [k0_pay35, k0_pay7, k0_pay3, k0_pay2]
theorem value_apply (q : Fin 512) : k0_pay32 x0 x1 x2 x3 (ix2 0 q) = x0 (ix3 0 0 ⟨1024 + q.val, by omega⟩) := by
  pointwise [k0_pay32, k0_pay4, k0_pay2]

/-- One entry of the state a head leaves: the forget gate on the state it met, plus the key times the value. -/
theorem head0_apply (v k : FVec Ideal S1x512 .f32) (s : Vec Ideal S1x1x128x128 .f32) (i j : Fin 128) :
    k0_pay11 v k (k0_pay37 x0 x1 x2 x3) s (ix4 0 0 i j) = k0_pay36 x0 x1 x2 x3 (ix2 0 ⟨0 + i.val, by omega⟩) * s (ix4 0 0 i j) + k (ix2 0 ⟨0 + i.val, by omega⟩) * v (ix2 0 ⟨0 + j.val, by omega⟩) := by
  unfold k0_pay37 k0_pay36
  pointwise [k0_pay11, k0_pay10, k0_pay9]
  simp only [diagonal]
theorem head1_apply (v k f : FVec Ideal S1x512 .f32) (s : Vec Ideal S1x1x128x128 .f32) (i j : Fin 128) :
    k0_pay18 v k f s (ix4 0 0 i j) = f (ix2 0 ⟨128 + i.val, by omega⟩) * s (ix4 0 0 i j) + k (ix2 0 ⟨128 + i.val, by omega⟩) * v (ix2 0 ⟨128 + j.val, by omega⟩) := by
  pointwise [k0_pay18, k0_pay17]
  simp only [diagonal]
theorem head2_apply (v k f : FVec Ideal S1x512 .f32) (s : Vec Ideal S1x1x128x128 .f32) (i j : Fin 128) :
    k0_pay24 v (k0_pay21 f s) (k0_pay22 k) (k0_pay38 x0 x1 x2 x3) (ix4 0 0 i j) = f (ix2 0 ⟨256 + i.val, by omega⟩) * s (ix4 0 0 i j) + k (ix2 0 ⟨256 + i.val, by omega⟩) * v (ix2 0 ⟨256 + j.val, by omega⟩) := by
  pointwise [k0_pay24, k0_pay23, k0_pay21, k0_pay22, k0_pay38]
  simp only [diagonal]
theorem head3_apply (v k f : FVec Ideal S1x512 .f32) (s : Vec Ideal S1x1x128x128 .f32) (i j : Fin 128) :
    k0_pay30 v k f s (ix4 0 0 i j) = f (ix2 0 ⟨384 + i.val, by omega⟩) * s (ix4 0 0 i j) + k (ix2 0 ⟨384 + i.val, by omega⟩) * v (ix2 0 ⟨384 + j.val, by omega⟩) := by
  pointwise [k0_pay30, k0_pay29]
  simp only [diagonal]

/-- Head `h`'s part of a row of 512, at place `i`. -/
def part (h : Fin 4) (i : Fin 128) : Fin 512 := ⟨h.val * 128 + i.val, by omega⟩
def stepOf (f k v : FVec Ideal S1x512 .f32) (s : Vec Ideal S1x4x128x128 .f32) (y : S1x4x128x128.Idx) : EReal :=
  f (ix2 0 (part (y 1) (y 2))) * s y + k (ix2 0 (part (y 1) (y 2))) * v (ix2 0 (part (y 1) (y 3)))

theorem out_apply (y : S1x4x128x128.Idx) :
    out0_5 x0 x1 x2 x3 y = stepOf (k0_pay36 x0 x1 x2 x3) (k0_pay35 x0 x1 x2 x3) (k0_pay32 x0 x1 x2 x3) x1 y := by
  unfold out0_5
  refine View.canon_apply_of_pieces (Val := Elt Ideal) (e := .f32) (stepOf (k0_pay36 x0 x1 x2 x3) (k0_pay35 x0 x1 x2 x3) (k0_pay32 x0 x1 x2 x3) x1) _ ?_ y (cover0_5 _ _ _ _ y)
  intro p hp
  simp only [List.mem_cons, List.not_mem_nil, or_false] at hp
  rcases hp with rfl | rfl | rfl | rfl
  · intro z
    idx_vars z
    obtain rfl : z0 = 0 := Subsingleton.elim _ _
    obtain rfl : z1 = 0 := Subsingleton.elim _ _
    have e : r0_8.emb (ix4 0 0 z2 z3) = ix4 0 3 z2 z3 := by blk_ext! []
    refine (head3_apply _ _ _ _ z2 z3).trans ?_
    show _ = stepOf _ _ _ _ (r0_8.emb (ix4 0 0 z2 z3))
    rw [show View.ld x1 r0_8 (ix4 0 0 z2 z3) = x1 (r0_8.emb (ix4 0 0 z2 z3)) from rfl, e]
    rfl
  · intro z
    idx_vars z
    obtain rfl : z0 = 0 := Subsingleton.elim _ _
    obtain rfl : z1 = 0 := Subsingleton.elim _ _
    have e : r0_7.emb (ix4 0 0 z2 z3) = ix4 0 2 z2 z3 := by blk_ext! []
    refine (head2_apply x0 x1 x2 x3 _ _ _ _ z2 z3).trans ?_
    show _ = stepOf _ _ _ _ (r0_7.emb (ix4 0 0 z2 z3))
    rw [show View.ld x1 r0_7 (ix4 0 0 z2 z3) = x1 (r0_7.emb (ix4 0 0 z2 z3)) from rfl, e]
    rfl
  · intro z
    idx_vars z
    obtain rfl : z0 = 0 := Subsingleton.elim _ _
    obtain rfl : z1 = 0 := Subsingleton.elim _ _
    have e : r0_6.emb (ix4 0 0 z2 z3) = ix4 0 1 z2 z3 := by blk_ext! []
    refine (head1_apply _ _ _ _ z2 z3).trans ?_
    show _ = stepOf _ _ _ _ (r0_6.emb (ix4 0 0 z2 z3))
    rw [show View.ld x1 r0_6 (ix4 0 0 z2 z3) = x1 (r0_6.emb (ix4 0 0 z2 z3)) from rfl, e]
    rfl
  · intro z
    idx_vars z
    obtain rfl : z0 = 0 := Subsingleton.elim _ _
    obtain rfl : z1 = 0 := Subsingleton.elim _ _
    have e : r0_4.emb (ix4 0 0 z2 z3) = ix4 0 0 z2 z3 := by blk_ext! []
    refine (head0_apply x0 x1 x2 x3 _ _ _ z2 z3).trans ?_
    show _ = stepOf _ _ _ _ (r0_4.emb (ix4 0 0 z2 z3))
    rw [show View.ld x1 r0_4 (ix4 0 0 z2 z3) = x1 (r0_4.emb (ix4 0 0 z2 z3)) from rfl, e]
    rfl
end Block
end Cert.Hgrn
-- ==== Proof.Hgrn.KOut.lean ====
/- One row of the recurrence's step: the normed and gated outputs. -/
module

public import proofs.«01_k».proof.Proof.Hgrn.KBlock

@[expose] public section
set_option maxRecDepth 16384
noncomputable section
namespace Cert.Hgrn
open Idealize.ShloMosaic Idealize.ShloMosaic.TcCoe Idealize.SL.Sem Cert.Kernel7Ideal Cert.Kernel7Ideal.Gen

/-- A head's output normed over its 128 places, times the gain and the gate. -/
def normGate (o g : Fin 128 → EReal) (a : EReal) (j : Fin 128) : EReal :=
  o j * Ideal.rsqrt (Ideal.div (∑ k, o k * o k) (Ideal.ofBits .f32 0x43000000#32) + Ideal.ofBits .f32 0x358637BD#32) * g j * (a * Ideal.logistic a)

section Block
variable (x0 : Vec Ideal S1x1x2048 .f32) (x1 : Vec Ideal S1x4x128x128 .f32) (x2 : Vec Ideal S3x512 .f32) (x3 : Vec Ideal S1x128 .f32)

theorem query_apply (q : Fin 512) : k0_pay34 x0 x1 x2 x3 (ix2 0 q) = x0 (ix3 0 0 ⟨q.val, by omega⟩) * Ideal.logistic (x0 (ix3 0 0 ⟨q.val, by omega⟩)) := by
  pointwise [k0_pay34, k0_pay6, k0_pay2]
theorem outGate_apply (q : Fin 512) : k0_pay33 x0 x1 x2 x3 (ix2 0 q) = x0 (ix3 0 0 ⟨1536 + q.val, by omega⟩) := by
  pointwise [k0_pay33, k0_pay5, k0_pay2]

theorem joined_apply (ag : FVec Ideal S1x512 .f32) (o0 o1 o2 : FVec Ideal S1x128 .f32) (st qm : FVec Ideal S128x128 .f32) (g : Vec Ideal S1x128 .f32) (j : Fin 128) :
    k0_pay1 ag o0 o1 o2 st qm g (ix3 0 0 ⟨384 + j.val, by omega⟩)
      = normGate (fun j => ∑ i : Fin 128, qm (ix2 i j) * st (ix2 i j)) (fun j => g (ix2 0 j)) (ag (ix2 0 ⟨384 + j.val, by omega⟩)) j := by
  unfold normGate
  pointwise [k0_pay1]
  rw [dif_neg (by omega), dif_neg (by omega), dif_neg (by omega)]
  have e : 384 + j.val - 128 - 128 - 128 = j.val := by omega
  simp only [e]
theorem joined0_apply (ag : FVec Ideal S1x512 .f32) (o0 o1 o2 : FVec Ideal S1x128 .f32) (st qm : FVec Ideal S128x128 .f32) (g : Vec Ideal S1x128 .f32) (j : Fin 128) :
    k0_pay1 ag o0 o1 o2 st qm g (ix3 0 0 ⟨0 + j.val, by omega⟩) = o0 (ix2 0 j) := by
  pointwise [k0_pay1]
theorem joined1_apply (ag : FVec Ideal S1x512 .f32) (o0 o1 o2 : FVec Ideal S1x128 .f32) (st qm : FVec Ideal S128x128 .f32) (g : Vec Ideal S1x128 .f32) (j : Fin 128) :
    k0_pay1 ag o0 o1 o2 st qm g (ix3 0 0 ⟨128 + j.val, by omega⟩) = o1 (ix2 0 j) := by
  pointwise [k0_pay1]
theorem joined2_apply (ag : FVec Ideal S1x512 .f32) (o0 o1 o2 : FVec Ideal S1x128 .f32) (st qm : FVec Ideal S128x128 .f32) (g : Vec Ideal S1x128 .f32) (j : Fin 128) :
    k0_pay1 ag o0 o1 o2 st qm g (ix3 0 0 ⟨256 + j.val, by omega⟩) = o2 (ix2 0 j) := by
  pointwise [k0_pay1]
  rw [dif_neg (by omega), dif_neg (by omega), dif_pos (by omega)]
  have e : 256 + j.val - 128 - 128 = j.val := by omega
  simp only [e]

theorem norm0_apply (v q k : FVec Ideal S1x512 .f32) (ag : FVec Ideal S1x512 .f32) (s : Vec Ideal S1x1x128x128 .f32) (g : Vec Ideal S1x128 .f32) (j : Fin 128) :
    k0_pay16 (k0_pay12 v q k (k0_pay37 x0 x1 x2 x3) s) (k0_pay13 g) (k0_pay14 ag) (k0_pay15 v q k (k0_pay37 x0 x1 x2 x3) s) (ix2 0 j)
      = normGate (fun j => ∑ i : Fin 128, q (ix2 0 ⟨0 + i.val, by omega⟩) * k0_pay11 v k (k0_pay37 x0 x1 x2 x3) s (ix4 0 0 i j)) (fun j => g (ix2 0 j)) (ag (ix2 0 ⟨0 + j.val, by omega⟩)) j := by
  unfold normGate
  pointwise [k0_pay16, k0_pay12, k0_pay13, k0_pay14, k0_pay15, k0_pay11]
  simp only [diagonal]
theorem norm1_apply (v q k f : FVec Ideal S1x512 .f32) (ag : FVec Ideal S1x512 .f32) (s : Vec Ideal S1x1x128x128 .f32) (g : Vec Ideal S1x128 .f32) (j : Fin 128) :
    k0_pay20 ag (k0_pay17 v k f s) (k0_pay19 q) g (ix2 0 j)
      = normGate (fun j => ∑ i : Fin 128, q (ix2 0 ⟨128 + i.val, by omega⟩) * k0_pay18 v k f s (ix4 0 0 i j)) (fun j => g (ix2 0 j)) (ag (ix2 0 ⟨128 + j.val, by omega⟩)) j := by
  unfold normGate
  pointwise [k0_pay20, k0_pay19, k0_pay18]
  simp only [diagonal]
theorem norm2_apply (v q k f : FVec Ideal S1x512 .f32) (ag : FVec Ideal S1x512 .f32) (s : Vec Ideal S1x1x128x128 .f32) (g : Vec Ideal S1x128 .f32) (j : Fin 128) :
    k0_pay28 (k0_pay25 ag) (k0_pay26 v q (k0_pay21 f s) (k0_pay22 k) (k0_pay38 x0 x1 x2 x3) g) (k0_pay27 ag) (ix2 0 j)
      = normGate (fun j => ∑ i : Fin 128, q (ix2 0 ⟨256 + i.val, by omega⟩) * k0_pay24 v (k0_pay21 f s) (k0_pay22 k) (k0_pay38 x0 x1 x2 x3) (ix4 0 0 i j)) (fun j => g (ix2 0 j)) (ag (ix2 0 ⟨256 + j.val, by omega⟩)) j := by
  unfold normGate
  pointwise [k0_pay28, k0_pay27, k0_pay26, k0_pay25, k0_pay24]
  simp only [diagonal]
theorem query3_apply (q : FVec Ideal S1x512 .f32) (i j : Fin 128) : k0_pay31 q (ix2 i j) = q (ix2 0 ⟨384 + i.val, by omega⟩) := by
  pointwise [k0_pay31]
  simp only [diagonal]
theorem state3_apply (v k f : FVec Ideal S1x512 .f32) (s : Vec Ideal S1x1x128x128 .f32) (i j : Fin 128) :
    k0_pay29 v k f s (ix2 i j) = k0_pay30 v k f s (ix4 0 0 i j) := by
  pointwise [k0_pay30]

/-- A head's output before the norm: the query against the state just left. -/
def readOut (q f k v : FVec Ideal S1x512 .f32) (s : Vec Ideal S1x4x128x128 .f32) (h : Fin 4) (j : Fin 128) : EReal :=
  ∑ i : Fin 128, q (ix2 0 (part h i)) * stepOf f k v s (ix4 0 h i j)

theorem out4_apply (h : Fin 4) (j : Fin 128) :
    out0_4 x0 x1 x2 x3 (ix3 0 0 (part h j))
      = normGate (readOut (k0_pay34 x0 x1 x2 x3) (k0_pay36 x0 x1 x2 x3) (k0_pay35 x0 x1 x2 x3) (k0_pay32 x0 x1 x2 x3) x1 h) (fun j => x3 (ix2 0 j)) (k0_pay33 x0 x1 x2 x3 (ix2 0 (part h j))) j := by
  unfold out0_4
  rw [View.canon_unit_zero (by decide), View.ld_unit_zero (by decide)]
  fin_cases h
  · refine (joined0_apply _ _ _ _ _ _ _ j).trans ((norm0_apply x0 x1 x2 x3 _ _ _ _ _ _ j).trans ?_)
    simp only [head0_apply]
    have e : ∀ i j : Fin 128, r0_4.emb (ix4 0 0 i j) = ix4 0 0 i j := fun i j => by blk_ext! []
    have e' : ∀ i j : Fin 128, View.ld x1 r0_4 (ix4 0 0 i j) = x1 (ix4 0 0 i j) := fun i j => congrArg x1 (e i j)
    simp only [e']
    rfl
  · refine (joined1_apply _ _ _ _ _ _ _ j).trans ((norm1_apply _ _ _ _ _ _ _ j).trans ?_)
    simp only [head1_apply]
    have e : ∀ i j : Fin 128, r0_6.emb (ix4 0 0 i j) = ix4 0 1 i j := fun i j => by blk_ext! []
    have e' : ∀ i j : Fin 128, View.ld x1 r0_6 (ix4 0 0 i j) = x1 (ix4 0 1 i j) := fun i j => congrArg x1 (e i j)
    simp only [e']
    rfl
  · refine (joined2_apply _ _ _ _ _ _ _ j).trans ((norm2_apply x0 x1 x2 x3 _ _ _ _ _ _ _ j).trans ?_)
    simp only [head2_apply]
    have e : ∀ i j : Fin 128, r0_7.emb (ix4 0 0 i j) = ix4 0 2 i j := fun i j => by blk_ext! []
    have e' : ∀ i j : Fin 128, View.ld x1 r0_7 (ix4 0 0 i j) = x1 (ix4 0 2 i j) := fun i j => congrArg x1 (e i j)
    simp only [e']
    rfl
  · refine (joined_apply _ _ _ _ _ _ _ j).trans ?_
    simp only [query3_apply, state3_apply, head3_apply]
    have e : ∀ i j : Fin 128, r0_8.emb (ix4 0 0 i j) = ix4 0 3 i j := fun i j => by blk_ext! []
    have e' : ∀ i j : Fin 128, View.ld x1 r0_8 (ix4 0 0 i j) = x1 (ix4 0 3 i j) := fun i j => congrArg x1 (e i j)
    simp only [e']
    rfl
end Block
end Cert.Hgrn
-- ==== Proof.Hgrn.KFinal.lean ====
/- The array of states the recurrence's step leaves, row by row of the batch. -/
module

public import proofs.«01_k».proof.Proof.Hgrn.KOut

@[expose] public section
set_option maxRecDepth 16384
noncomputable section
namespace Cert.Hgrn
open Idealize.ShloMosaic Idealize.ShloMosaic.TcCoe Idealize.SL.Sem Cert.Kernel7Ideal Cert.Kernel7Ideal.Gen Idealize.ShloMosaic.StableHlo

variable (m : (ℓ : Loc nD τ sig) → Buf (Elt Ideal) ℓ) (c : Dev nD)

/-- Argument contents as launched. -/
abbrev A0 : Vec Ideal S32x2048 .f32 := m ((c : Thread nD τ).loc main_arg0)
abbrev A1 : Vec Ideal S32x4x128x128 .f32 := m ((c : Thread nD τ).loc main_arg1)
abbrev A3 : Vec Ideal S128 .f32 := m ((c : Thread nD τ).loc main_arg3)
abbrev A2 : Vec Ideal S512 .f32 := m ((c : Thread nD τ).loc main_arg2)

/-- The three rows made of the lower bounds. -/
def bounds (l : FVec Ideal S512 .f32) : FVec Ideal S3x512 .f32 :=
  concatenate S3x512 0 [⟨S1x512, broadcastInDim S1x512 ![1] bcast_S512_S1x512_1 (Host.log l)⟩,
    ⟨S1x512, broadcastInDim S1x512 ![1] bcast_S512_S1x512_1 (Host.log1p (Host.negf l))⟩,
    ⟨S1x512, broadcastInDim S1x512 ![1] bcast_S512_S1x512_1 (subf (broadcastInDim S512 ![] bcast_S_S512 (constant S_ .f32 0x3F800000#32)) l)⟩]
    concatenates_S1x512_S1x512_S1x512_S3x512_d0

theorem V_v8 : V m c main_v8 = bounds (A2 m c) := by
  unfold_abbrev_sides
  after_results
  rfl
theorem V_v10 : V m c main_v10 = (shapeCast S32x1x2048 (A0 m c) shapeCasts_S32x2048_S32x1x2048 : FVec Ideal S32x1x2048 .f32) := by
  unfold_abbrev_sides
  after_results
  rfl

theorem V_v9 : V m c main_v9 = (broadcastInDim S1x128 ![1] bcast_S128_S1x128_1 (A3 m c) : FVec Ideal S1x128 .f32) := by
  unfold_abbrev_sides
  after_results

theorem idx : ∀ t : Fin cfg0.N, win0_0.index t = ![t.val, 0, 0] ∧ win0_1.index t = ![t.val, 0, 0, 0] ∧ win0_2.index t = ![0, 0]
    ∧ win0_3.index t = ![0, 0] ∧ win0_4.index t = ![t.val, 0, 0] ∧ win0_5.index t = ![t.val, 0, 0, 0] :=
  (by decide +kernel : ∀ t : Fin grid0.N, _)
/-- The batch's row that block `t` is. -/
def rowAt (t : Fin cfg0.N) : Fin 32 := ⟨t.val, t.isLt⟩

theorem read0 (t : Fin cfg0.N) (f : Vec Ideal S32x1x2048 .f32) (q : Fin 2048) :
    (((cfg0.win 0).blk t).view.read (Elt Ideal) f : Vec Ideal S1x1x2048 .f32) (ix3 0 0 q) = f (ix3 (rowAt t) 0 q) := by
  unfold rowAt; blk_ext! [idx t]
theorem blk0 (t : Fin cfg0.N) (q : Fin 2048) : (iblk m c 0 t : Vec Ideal S1x1x2048 .f32) (ix3 0 0 q) = A0 m c (ix2 (rowAt t) q) := by
  refine (read0 t (V m c main_v10) q).trans ?_
  rw [V_v10]
  pointwise []
theorem read1 (t : Fin cfg0.N) (f : Vec Ideal S32x4x128x128 .f32) (h : Fin 4) (i j : Fin 128) :
    (((cfg0.win 1).blk t).view.read (Elt Ideal) f : Vec Ideal S1x4x128x128 .f32) (ix4 0 h i j) = f (ix4 (rowAt t) h i j) := by
  unfold rowAt; blk_ext! [idx t]
theorem blk1 (t : Fin cfg0.N) (h : Fin 4) (i j : Fin 128) : (iblk m c 1 t : Vec Ideal S1x4x128x128 .f32) (ix4 0 h i j) = A1 m c (ix4 (rowAt t) h i j) :=
  (read1 t (V m c main_arg1) h i j).trans (congrFun (V_main_arg1 m c) _)
theorem read2 (t : Fin cfg0.N) (f : Vec Ideal S3x512 .f32) : (((cfg0.win 2).blk t).view.read (Elt Ideal) f : Vec Ideal S3x512 .f32) = f := by
  blk_ext! [idx t]
theorem blk2 (t : Fin cfg0.N) : iblk m c 2 t = V m c main_v8 := read2 t _
theorem read3 (t : Fin cfg0.N) (f : Vec Ideal S1x128 .f32) : (((cfg0.win 3).blk t).view.read (Elt Ideal) f : Vec Ideal S1x128 .f32) = f := by
  blk_ext! [idx t]
theorem blk3 (t : Fin cfg0.N) (j : Fin 128) : (iblk m c 3 t : Vec Ideal S1x128 .f32) (ix2 0 j) = A3 m c (ix1 j) := by
  refine (congrFun (read3 t (V m c main_v9)) _).trans ?_
  rw [V_v9]
  pointwise []
theorem emb4 (t : Fin cfg0.N) (q : Fin 512) : ((View.whole main_v11_0).slice (win0_4.rect t)).emb (ix3 0 0 q) = ix3 (rowAt t) 0 q := by
  unfold rowAt; blk_ext! [idx t]
theorem emb5 (t : Fin cfg0.N) (h : Fin 4) (i j : Fin 128) : ((View.whole main_v11_1).slice (win0_5.rect t)).emb (ix4 0 h i j) = ix4 (rowAt t) h i j := by
  unfold rowAt; blk_ext! [idx t]

theorem bounds0 (l : FVec Ideal S512 .f32) (q : Fin 512) : bounds l (ix2 0 q) = Ideal.log (l (ix1 q)) := by
  pointwise [bounds]
theorem bounds1 (l : FVec Ideal S512 .f32) (q : Fin 512) : bounds l (ix2 1 q) = Ideal.log1p (-(l (ix1 q))) := by
  pointwise [bounds]
theorem bounds2 (l : FVec Ideal S512 .f32) (q : Fin 512) : bounds l (ix2 2 q) = 1 - l (ix1 q) := by
  pointwise [bounds]

/-- One entry of the states the kernel leaves. -/
def stateAt (z : Vec Ideal S32x2048 .f32) (s : Vec Ideal S32x4x128x128 .f32) (l : Vec Ideal S512 .f32) (b : Fin 32) (h : Fin 4) (i j : Fin 128) : EReal :=
  Ideal.exp (kLog (Ideal.log (l (ix1 (part h i)))) (Ideal.log1p (-(l (ix1 (part h i))))) (z (ix2 b ⟨512 + (part h i).val, by omega⟩))) * s (ix4 b h i j)
    + ((1 - l (ix1 (part h i))) * Ideal.logistic (0 - z (ix2 b ⟨512 + (part h i).val, by omega⟩))) * z (ix2 b ⟨1024 + (part h j).val, by omega⟩)

theorem out_at (t : Fin cfg0.N) (h : Fin 4) (i j : Fin 128) :
    out0_5 (iblk m c 0 t) (iblk m c 1 t) (iblk m c 2 t) (iblk m c 3 t) (ix4 0 h i j) = stateAt (A0 m c) (A1 m c) (A2 m c) (rowAt t) h i j := by
  rw [out_apply]
  show k0_pay36 _ _ _ _ (ix2 0 (part h i)) * _ + k0_pay35 _ _ _ _ (ix2 0 (part h i)) * k0_pay32 _ _ _ _ (ix2 0 (part h j)) = _
  rw [forget_apply, keep_apply, value_apply, blk2, V_v8]
  simp only [blk0, blk1, bounds0, bounds1, bounds2]
  rfl

/-- The array the kernel leaves. -/
theorem final5 : (dats m 0 c).arrAt 5 cfg0.N = fun y : S32x4x128x128.Idx => stateAt (A0 m c) (A1 m c) (A2 m c) (y 0) (y 1) (y 2) (y 3) := by
  refine (dats m 0 c).arrAt_eq_of_covers 5 _ (by decide +kernel) fun t _ y => ?_
  blk_simp
  rw [after0_5]
  idx_vars y
  obtain rfl : y0 = 0 := Subsingleton.elim _ _
  rw [emb5]
  exact out_at m c t y1 y2 y3

/-- One output before the norm. -/
def readAt (z : Vec Ideal S32x2048 .f32) (s : Vec Ideal S32x4x128x128 .f32) (l : Vec Ideal S512 .f32) (b : Fin 32) (h : Fin 4) (j : Fin 128) : EReal :=
  ∑ i : Fin 128, (z (ix2 b ⟨(part h i).val, by omega⟩) * Ideal.logistic (z (ix2 b ⟨(part h i).val, by omega⟩))) * stateAt z s l b h i j
/-- One output the kernel leaves. -/
def outAt (z : Vec Ideal S32x2048 .f32) (s : Vec Ideal S32x4x128x128 .f32) (l : Vec Ideal S512 .f32) (g : Vec Ideal S128 .f32) (b : Fin 32) (h : Fin 4) (j : Fin 128) : EReal :=
  normGate (readAt z s l b h) (fun j => g (ix1 j)) (z (ix2 b ⟨1536 + (part h j).val, by omega⟩)) j

theorem out4_at (t : Fin cfg0.N) (h : Fin 4) (j : Fin 128) :
    out0_4 (iblk m c 0 t) (iblk m c 1 t) (iblk m c 2 t) (iblk m c 3 t) (ix3 0 0 (part h j)) = outAt (A0 m c) (A1 m c) (A2 m c) (A3 m c) (rowAt t) h j := by
  rw [out4_apply, outGate_apply, blk0]
  unfold outAt
  have e : readOut (k0_pay34 (iblk m c 0 t) (iblk m c 1 t) (iblk m c 2 t) (iblk m c 3 t)) (k0_pay36 (iblk m c 0 t) (iblk m c 1 t) (iblk m c 2 t) (iblk m c 3 t)) (k0_pay35 (iblk m c 0 t) (iblk m c 1 t) (iblk m c 2 t) (iblk m c 3 t)) (k0_pay32 (iblk m c 0 t) (iblk m c 1 t) (iblk m c 2 t) (iblk m c 3 t)) (iblk m c 1 t) h
      = readAt (A0 m c) (A1 m c) (A2 m c) (rowAt t) h := by
    funext j
    unfold readOut readAt
    refine Finset.sum_congr rfl fun i _ => ?_
    rw [query_apply, blk0, ← out_at m c t h i j, out_apply]
  rw [e]
  simp only [blk3]

theorem part_surj (q : Fin 512) : ∃ (h : Fin 4) (j : Fin 128), q = part h j :=
  ⟨⟨q.val / 128, by omega⟩, ⟨q.val % 128, by omega⟩, Fin.ext (by show q.val = q.val / 128 * 128 + q.val % 128; omega)⟩

/-- The same output, by its place in the row. -/
def outRow (z : Vec Ideal S32x2048 .f32) (s : Vec Ideal S32x4x128x128 .f32) (l : Vec Ideal S512 .f32) (g : Vec Ideal S128 .f32) (b : Fin 32) (q : Fin 512) : EReal :=
  outAt z s l g b ⟨q.val / 128, by omega⟩ ⟨q.val % 128, by omega⟩
theorem outRow_part (z : Vec Ideal S32x2048 .f32) (s : Vec Ideal S32x4x128x128 .f32) (l : Vec Ideal S512 .f32) (g : Vec Ideal S128 .f32) (b : Fin 32) (h : Fin 4) (j : Fin 128) :
    outRow z s l g b (part h j) = outAt z s l g b h j := by
  unfold outRow
  congr 1
  · exact Fin.ext (by show (h.val * 128 + j.val) / 128 = h.val; omega)
  · exact Fin.ext (by show (h.val * 128 + j.val) % 128 = j.val; omega)

/-- The array of outputs the kernel leaves. -/
theorem final4 : (dats m 0 c).arrAt 4 cfg0.N = fun y : S32x1x512.Idx => outRow (A0 m c) (A1 m c) (A2 m c) (A3 m c) (y 0) (y 2) := by
  refine (dats m 0 c).arrAt_eq_of_covers 4 _ (by decide +kernel) fun t _ y => ?_
  blk_simp
  rw [after0_4]
  idx_vars y
  obtain rfl : y0 = 0 := Subsingleton.elim _ _
  obtain rfl : y1 = 0 := Subsingleton.elim _ _
  obtain ⟨h, j, rfl⟩ := part_surj y2
  refine (out4_at m c t h j).trans ?_
  refine (outRow_part _ _ _ _ _ h j).symm.trans ?_
  exact (congrArg (fun y : S32x1x512.Idx => outRow (A0 m c) (A1 m c) (A2 m c) (A3 m c) (y 0) (y 2)) (emb4 t (part h j))).symm
end Cert.Hgrn
-- ==== Proof.Hgrn.Ref.lean ====
/- The reference's state, entry by entry. -/
module

public import proofs.«01_k».proof.Proof.Gen.Reference7Ideal.Run
public import Idealize.ShloMosaic.Lib.Pointwise
public import Idealize.ShloMosaic.Lib.ReduceAll

@[expose] public section
set_option maxRecDepth 16384
noncomputable section
namespace Cert.Hgrn.Ref
open Idealize.ShloMosaic Idealize.ShloMosaic.TcCoe Idealize.SL.Sem Cert.Reference7Ideal Cert.Reference7Ideal.Gen

variable (z : FVec Ideal S32x2048 .f32) (s : FVec Ideal S32x4x128x128 .f32) (l : FVec Ideal S512 .f32)

def zero : FVec Ideal S32x1x512 .f32 := broadcastInDim S32x1x512 ![] bcast_S_S32x1x512 (constant S_ .f32 0x00000000#32)
/-- The logarithm of the sum of two exponentials, as printed. -/
def logSum (a b : FVec Ideal S32x1x512 .f32) : FVec Ideal S32x1x512 .f32 :=
  select (cmpf .une (subf a b) (subf a b)) (addf a b) (addf (maximumf a b) (Host.log1p (Host.exp (Host.negf (Host.absf (subf a b))))))
def negF : FVec Ideal S32x1x512 .f32 :=
  Host.negf (shapeCast S32x1x512 (extractStridedSlice S32x512 ![0, 512] z slices_S32x2048_S32x512_0_512) shapeCasts_S32x512_S32x1x512)
def lf : FVec Ideal S32x1x4x128 .f32 :=
  shapeCast S32x1x4x128 (logSum (broadcastInDim S32x1x512 ![0, 1, 2] bcast_S1x1x512_S32x1x512_0_1_2 (broadcastInDim S1x1x512 ![2] bcast_S512_S1x1x512_2 (Host.log l)))
    (addf (broadcastInDim S32x1x512 ![0, 1, 2] bcast_S1x1x512_S32x1x512_0_1_2 (broadcastInDim S1x1x512 ![2] bcast_S512_S1x1x512_2 (Host.log1p (Host.negf l))))
      (Host.negf (logSum (negF z) zero)))) shapeCasts_S32x1x512_S32x1x4x128
def v : FVec Ideal S32x1x4x128 .f32 :=
  shapeCast S32x1x4x128 (shapeCast S32x1x512 (extractStridedSlice S32x512 ![0, 1024] z slices_S32x2048_S32x512_0_1024) shapeCasts_S32x512_S32x1x512 : FVec Ideal S32x1x512 .f32) shapeCasts_S32x1x512_S32x1x4x128
def running (x : FVec Ideal S32x1x4x128 .f32) : FVec Ideal S32x1x4x128 .f32 :=
  Host.reduceWindowAdd ![1, 1, 1, 1] ![1, 1, 1, 1] ![0, 0, 0, 0] ![0, 0, 0, 0] x (broadcastInDim S_ ![] bcast_S_S_ (constant S_ .f32 0x00000000#32)) reduceWindows_S32x1x4x128_S32x1x4x128_w1s1p0_0_w1s1p0_0_w1s1p0_0_w1s1p0_0 h_S_
def last (b : FVec Ideal S32x1x4x128 .f32) : FVec Ideal S32x4x128 .f32 := shapeCast S32x4x128 b shapeCasts_S32x1x4x128_S32x4x128
def next (x b w : FVec Ideal S32x1x4x128 .f32) : FVec Ideal S32x4x128x128 .f32 :=
  addf (mulf (broadcastInDim S32x4x128x128 ![0, 1, 2, 3] bcast_S32x4x128x1_S32x4x128x128_0_1_2_3 (broadcastInDim S32x4x128x1 ![0, 1, 2] bcast_S32x4x128_S32x4x128x1_0_1_2 (Host.exp (last b)))) s)
    (Host.dotGeneral dot_S32x1x4x128_S32x1x4x128_S32x4x128x128_1_1_3_3_02_02 none
      (mulf (Host.negf (Host.expm1 x)) (Host.exp (subf (broadcastInDim S32x1x4x128 ![0, 2, 3] bcast_S32x4x128_S32x1x4x128_0_2_3 (last b)) b))) w)

variable (b : Fin 32) (h : Fin 4) (i j : Fin 128)
theorem next_apply (x y w : FVec Ideal S32x1x4x128 .f32) :
    next s x y w (ix4 b h i j) = Ideal.exp (y (ix4 b 0 h i)) * s (ix4 b h i j)
      + -(Ideal.exp (x (ix4 b 0 h i)) - 1) * Ideal.exp (y (ix4 b 0 h i) - y (ix4 b 0 h i)) * w (ix4 b 0 h j) := by
  pointwise [next, last]
  rw [Fin.sum_univ_one]
theorem v_apply : v z (ix4 b 0 h j) = z (ix2 b ⟨1024 + (h.val * 128 + j.val), by omega⟩) := by
  pointwise [v]
def sumAt (a b : EReal) : EReal := max a b + Ideal.log1p (Ideal.exp (-(max (a - b) (-(a - b)))))
theorem logSum_apply (x y : FVec Ideal S32x1x512 .f32) (k : Fin 512) : logSum x y (ix3 b 0 k) = sumAt (x (ix3 b 0 k)) (y (ix3 b 0 k)) := by
  pointwise [logSum]
  rw [if_neg (fun e => e rfl)]
  rfl
theorem negF_apply (k : Fin 512) : negF z (ix3 b 0 k) = -(z (ix2 b ⟨512 + k.val, by omega⟩)) := by
  pointwise [negF]
theorem zero_apply (k : Fin 512) : zero (ix3 b 0 k) = 0 := by
  pointwise [zero]
theorem upper_apply (y : FVec Ideal S32x1x512 .f32) (k : Fin 512) :
    addf (broadcastInDim S32x1x512 ![0, 1, 2] bcast_S1x1x512_S32x1x512_0_1_2 (broadcastInDim S1x1x512 ![2] bcast_S512_S1x1x512_2 (Host.log1p (Host.negf l)))) (Host.negf y) (ix3 b 0 k)
      = Ideal.log1p (-(l (ix1 k))) + -(y (ix3 b 0 k)) := by
  pointwise []
theorem lf_apply : lf z l (ix4 b 0 h i) = sumAt (Ideal.log (l (ix1 ⟨h.val * 128 + i.val, by omega⟩)))
    (Ideal.log1p (-(l (ix1 ⟨h.val * 128 + i.val, by omega⟩))) + -(sumAt (-(z (ix2 b ⟨512 + (h.val * 128 + i.val), by omega⟩))) 0)) := by
  pointwise [lf]
  rw [logSum_apply, upper_apply, logSum_apply, negF_apply, zero_apply]
  congr 1
  pointwise []
theorem running_apply (x : FVec Ideal S32x1x4x128 .f32) : running x (ix4 b 0 h i) = x (ix4 b 0 h i) := by
  unfold running Host.reduceWindowAdd
  rw [Ideal.hostReduceWindowAdd_def]
  unfold Ideal.hostReduceWindowAdd Host.reduceWindow
  have one : List.finRange (Shape.numel ⟨4, ![1, 1, 1, 1]⟩) = [⟨0, by decide⟩] := by decide
  change List.foldl _ _ (List.finRange (Shape.numel ⟨4, ![1, 1, 1, 1]⟩)) = _
  rw [one]
  simp only [List.foldl_cons, List.foldl_nil]
  have low : ∀ a : Fin 4, ((Shape.rowMajor ⟨4, ![1, 1, 1, 1]⟩).symm ⟨0, by decide⟩ a).val = 0 := fun a => by
    have := ((Shape.rowMajor ⟨4, ![1, 1, 1, 1]⟩).symm ⟨0, by decide⟩ a).isLt
    have e : (![1, 1, 1, 1] : Fin 4 → ℕ) a = 1 := by fin_cases a <;> rfl
    exact Nat.lt_one_iff.mp (lt_of_lt_of_eq this e)
  have place : ∀ a : Fin 4, (ix4 b (0 : Fin 1) h i a).val * (![1, 1, 1, 1] : Fin 4 → ℕ) a + ((Shape.rowMajor ⟨4, ![1, 1, 1, 1]⟩).symm ⟨0, by decide⟩ a).val - (![0, 0, 0, 0] : Fin 4 → ℕ) a
      = (ix4 b (0 : Fin 1) h i a).val := fun a => by
    rw [low a]
    have e : (![1, 1, 1, 1] : Fin 4 → ℕ) a = 1 := by fin_cases a <;> rfl
    rw [e, Nat.mul_one, Nat.add_zero]
    have e : (![0, 0, 0, 0] : Fin 4 → ℕ) a = 0 := by fin_cases a <;> rfl
    rw [e]; rfl
  have start : (broadcastInDim S_ ![] bcast_S_S_ (constant S_ .f32 0#32) : FVec Ideal S_ .f32) (Shape.Idx.first h_S_) = 0 := by
    pointwise []
  rw [start]
  refine (zero_add _).trans ((dif_pos ?_).trans ?_)
  · intro a
    refine ⟨?_, lt_of_eq_of_lt (place a) (ix4 b (0 : Fin 1) h i a).isLt⟩
    have e : (![0, 0, 0, 0] : Fin 4 → ℕ) a = 0 := by fin_cases a <;> rfl
    rw [e]; exact Nat.zero_le _
  · exact congrArg x (funext fun a => Fin.ext (place a))
end Cert.Hgrn.Ref
-- ==== Proof.Hgrn.RefOut.lean ====
/- The reference's outputs, entry by entry. -/
module

public import proofs.«01_k».proof.Proof.Hgrn.Ref

@[expose] public section
set_option maxRecDepth 16384
noncomputable section
namespace Cert.Hgrn.Ref
open Idealize.ShloMosaic Idealize.ShloMosaic.TcCoe Idealize.SL.Sem Cert.Reference7Ideal Cert.Reference7Ideal.Gen

variable (z : FVec Ideal S32x2048 .f32) (s : FVec Ideal S32x4x128x128 .f32) (l : FVec Ideal S512 .f32) (g : FVec Ideal S128 .f32)

def ones : FVec Ideal S32x1x512 .f32 := broadcastInDim S32x1x512 ![] bcast_S_S32x1x512 (constant S_ .f32 0x3F800000#32)
def silu (a : FVec Ideal S32x1x512 .f32) : FVec Ideal S32x1x512 .f32 := mulf a (Host.divf ones (addf ones (Host.exp (Host.negf a))))
def q : FVec Ideal S32x1x4x128 .f32 :=
  shapeCast S32x1x4x128 (silu (shapeCast S32x1x512 (extractStridedSlice S32x512 ![0, 0] z slices_S32x2048_S32x512_0_0) shapeCasts_S32x512_S32x1x512)) shapeCasts_S32x1x512_S32x1x4x128
def outGate : FVec Ideal S32x1x4x128 .f32 :=
  shapeCast S32x1x4x128 (silu (shapeCast S32x1x512 (extractStridedSlice S32x512 ![0, 1536] z slices_S32x2048_S32x512_0_1536) shapeCasts_S32x512_S32x1x512)) shapeCasts_S32x1x512_S32x1x4x128
def causal : IVec S1x1 1 :=
  select (cmpi .sge (addi (iotaInDim S1x1 32 0) (broadcastInDim S1x1 ![] bcast_S_S1x1 (constantI S_ 32 0#32))) (iotaInDim S1x1 32 1)) (broadcastInDim S1x1 ![] bcast_S_S1x1 (constantI S_ 1 1#1)) (broadcastInDim S1x1 ![] bcast_S_S1x1 (constantI S_ 1 0#1))
def decay (b : FVec Ideal S32x1x4x128 .f32) : FVec Ideal S32x1x1x4x128 .f32 :=
  Host.exp (select (broadcastInDim S32x1x1x4x128 ![0, 1, 2, 3, 4] bcast_S1x1x1x1x1_S32x1x1x4x128_0_1_2_3_4 (broadcastInDim S1x1x1x1x1 ![1, 2] bcast_S1x1_S1x1x1x1x1_1_2 causal))
    (subf (broadcastInDim S32x1x1x4x128 ![0, 1, 3, 4] bcast_S32x1x4x128_S32x1x1x4x128_0_1_3_4 b) (broadcastInDim S32x1x1x4x128 ![0, 2, 3, 4] bcast_S32x1x4x128_S32x1x1x4x128_0_2_3_4 b))
    (broadcastInDim S32x1x1x4x128 ![] bcast_S_S32x1x1x4x128 (id (constant S_ .f32 0xFF800000#32))))
def weights (y k : FVec Ideal S32x1x4x128 .f32) (d : FVec Ideal S32x1x1x4x128 .f32) : FVec Ideal S32x1x1x4 .f32 :=
  Host.reduceAdd (mulf (mulf (broadcastInDim S32x1x1x4x128 ![0, 1, 3, 4] bcast_S32x1x4x128_S32x1x1x4x128_0_1_3_4 y) (broadcastInDim S32x1x1x4x128 ![0, 2, 3, 4] bcast_S32x1x4x128_S32x1x1x4x128_0_2_3_4 k)) d) (constant S_ .f32 0x00000000#32) reducesTo_S32x1x1x4x128_S32x1x1x4_d4 h_S_
def raw (y x b w : FVec Ideal S32x1x4x128 .f32) : FVec Ideal S32x1x4x128 .f32 :=
  addf (transpose S32x1x4x128 [0, 3, 1, 2] (Host.dotGeneral dot_S32x4x128x128_S32x1x4x128_S32x4x128x1_2_3_3_1_01_02 none s (mulf y (Host.exp b))) transposes_S32x4x128x1_S32x1x4x128_0_3_1_2)
    (transpose S32x1x4x128 [0, 3, 1, 2] (Host.dotGeneral dot_S32x1x4x128_S32x1x1x4_S32x4x128x1_1_2_3_1_02_03 none w (weights y (Host.negf (Host.expm1 x)) (decay b))) transposes_S32x4x128x1_S32x1x4x128_0_3_1_2)
def normed (o : FVec Ideal S32x1x4x128 .f32) : FVec Ideal S32x1x4x128 .f32 :=
  mulf (mulf o (broadcastInDim S32x1x4x128 ![0, 1, 2, 3] bcast_S32x1x4x1_S32x1x4x128_0_1_2_3 (Host.rsqrt (addf (Host.divf (broadcastInDim S32x1x4x1 ![0, 1, 2] bcast_S32x1x4_S32x1x4x1_0_1_2 (Host.reduceAdd (mulf o o) (constant S_ .f32 0x00000000#32) reducesTo_S32x1x4x128_S32x1x4_d3 h_S_)) (broadcastInDim S32x1x4x1 ![] bcast_S_S32x1x4x1 (constant S_ .f32 0x43000000#32))) (broadcastInDim S32x1x4x1 ![] bcast_S_S32x1x4x1 (constant S_ .f32 0x358637BD#32))))))
    (broadcastInDim S32x1x4x128 ![0, 1, 2, 3] bcast_S1x1x1x128_S32x1x4x128_0_1_2_3 (broadcastInDim S1x1x1x128 ![3] bcast_S128_S1x1x1x128_3 g))
def output (y x b w e : FVec Ideal S32x1x4x128 .f32) : FVec Ideal S32x1x512 .bf16 :=
  truncf .bf16 (shapeCast S32x1x512 (mulf (normed g (raw s y x b w)) e) shapeCasts_S32x1x4x128_S32x1x512) bitsLt_bf16_f32

variable (b : Fin 32) (h : Fin 4) (i j : Fin 128)
theorem q_apply : q z (ix4 b 0 h j) = z (ix2 b ⟨h.val * 128 + j.val, by omega⟩) * Ideal.logistic (z (ix2 b ⟨h.val * 128 + j.val, by omega⟩)) := by
  pointwise [q, silu, ones]
  rfl
theorem outGate_apply : outGate z (ix4 b 0 h j) = z (ix2 b ⟨1536 + (h.val * 128 + j.val), by omega⟩) * Ideal.logistic (z (ix2 b ⟨1536 + (h.val * 128 + j.val), by omega⟩)) := by
  pointwise [outGate, silu, ones]
  rfl
theorem causal_apply : causal (ix2 0 0) = 1#1 := by
  pointwise [causal]
  decide
theorem decay_apply (y : FVec Ideal S32x1x4x128 .f32) : decay y (ix5 b 0 0 h i) = Ideal.exp (y (ix4 b 0 h i) - y (ix4 b 0 h i)) := by
  pointwise [decay]
  rw [causal_apply]
  rfl
theorem weights_apply (y k : FVec Ideal S32x1x4x128 .f32) (d : FVec Ideal S32x1x1x4x128 .f32) :
    weights y k d (ix4 b 0 0 h) = ∑ i : Fin 128, y (ix4 b 0 h i) * k (ix4 b 0 h i) * d (ix5 b 0 0 h i) := by
  pointwise [weights]
theorem raw_apply (y x r w : FVec Ideal S32x1x4x128 .f32) :
    raw s y x r w (ix4 b 0 h j) = ∑ i : Fin 128, s (ix4 b h i j) * (y (ix4 b 0 h i) * Ideal.exp (r (ix4 b 0 h i)))
      + w (ix4 b 0 h j) * ∑ i : Fin 128, y (ix4 b 0 h i) * -(Ideal.exp (x (ix4 b 0 h i)) - 1) * Ideal.exp (r (ix4 b 0 h i) - r (ix4 b 0 h i)) := by
  pointwise [raw]
  rw [Fin.sum_univ_one, weights_apply]
  simp only [decay_apply]
  rfl
theorem normed_apply (o : FVec Ideal S32x1x4x128 .f32) : normed g o (ix4 b 0 h j)
    = o (ix4 b 0 h j) * Ideal.rsqrt (Ideal.div (∑ k, o (ix4 b 0 h k) * o (ix4 b 0 h k)) (Ideal.ofBits .f32 0x43000000#32) + Ideal.ofBits .f32 0x358637BD#32) * g (ix1 j) := by
  pointwise [normed]
theorem output_apply (y x r w e : FVec Ideal S32x1x4x128 .f32) :
    output s g y x r w e (ix3 b 0 ⟨h.val * 128 + j.val, by omega⟩) = normed g (raw s y x r w) (ix4 b 0 h j) * e (ix4 b 0 h j) := by
  pointwise [output]
end Cert.Hgrn.Ref
-- ==== Proof.Hgrn.Reals.lean ====
/- The gates of the recurrence as real numbers: the two ways of writing them agree. -/
module

public import proofs.«01_k».proof.Proof.Hgrn.KFinal
public import proofs.«01_k».proof.Proof.Hgrn.RefOut
public import proofs.«01_k».proof.Proof.Moe.Finite
public import proofs.«01_k».proof.Pre_hgrn_finite

@[expose] public section
set_option maxRecDepth 16384
noncomputable section
namespace Cert.Hgrn
open Idealize.ShloMosaic

theorem log1p_coe {e : ℝ} (h : 0 < 1 + e) : Ideal.log1p (e : EReal) = ((Real.log (1 + e) : ℝ) : EReal) := by
  unfold Ideal.log1p
  rw [← EReal.coe_one, ← EReal.coe_add, Ideal.log_coe, if_neg (by linarith)]
theorem coe_max (p q : ℝ) : max (p : EReal) (q : EReal) = ((max p q : ℝ) : EReal) := (EReal.coe_strictMono.monotone.map_max).symm
theorem coe_min (p q : ℝ) : min (p : EReal) (q : EReal) = ((min p q : ℝ) : EReal) := (EReal.coe_strictMono.monotone.map_min).symm

theorem log_sum (p q : ℝ) : max p q + Real.log (1 + Real.exp (-(max (p - q) (-(p - q))))) = Real.log (Real.exp p + Real.exp q) := by
  rcases le_total p q with h | h
  · rw [max_eq_right h, max_eq_right (by linarith : p - q ≤ -(p - q)), neg_neg]
    have e : Real.exp p + Real.exp q = Real.exp q * (1 + Real.exp (p - q)) := by
      rw [mul_add, mul_one, ← Real.exp_add]; ring_nf
    rw [e, Real.log_mul (Real.exp_ne_zero _) (by positivity), Real.log_exp]
  · rw [max_eq_left h, max_eq_left (by linarith : -(p - q) ≤ p - q)]
    have e : Real.exp p + Real.exp q = Real.exp p * (1 + Real.exp (-(p - q))) := by
      rw [mul_add, mul_one, ← Real.exp_add]; ring_nf
    rw [e, Real.log_mul (Real.exp_ne_zero _) (by positivity), Real.log_exp]

theorem sumAt_coe (p q : ℝ) : Ref.sumAt (p : EReal) (q : EReal) = ((Real.log (Real.exp p + Real.exp q) : ℝ) : EReal) := by
  unfold Ref.sumAt
  rw [← EReal.coe_sub, ← EReal.coe_neg, coe_max, coe_max, ← EReal.coe_neg, Ideal.exp_coe, log1p_coe (by positivity), ← EReal.coe_add, log_sum]
theorem sumAt_bot (q : ℝ) : Ref.sumAt ⊥ (q : EReal) = q := by
  unfold Ref.sumAt
  rw [EReal.bot_sub, EReal.neg_bot, max_eq_right bot_le, max_eq_right bot_le, EReal.neg_top, Ideal.exp_bot, ← EReal.coe_zero, log1p_coe (by norm_num)]
  rw [add_zero, Real.log_one, EReal.coe_zero, add_zero]

/-- The logarithm of the logistic function, as the kernel writes it. -/
theorem kernel_log_logistic (a : ℝ) : min (a : EReal) 0 - Ideal.log1p (Ideal.exp (0 - max (a : EReal) (-(a : EReal)))) = ((-Real.log (Real.exp (-a) + 1) : ℝ) : EReal) := by
  rw [← EReal.coe_neg, coe_max, ← EReal.coe_zero, coe_min, ← EReal.coe_sub, Ideal.exp_coe, log1p_coe (by positivity), ← EReal.coe_sub, zero_sub]
  have h := log_sum (-a) 0
  rw [Real.exp_zero, sub_zero, neg_neg, max_comm (-a) a] at h
  rw [← h, neg_add]
  have hm : min a 0 = -max (-a) 0 := by
    rcases le_total a 0 with g | g
    · rw [min_eq_left g, max_eq_left (by linarith), neg_neg]
    · rw [min_eq_right g, max_eq_right (by linarith), neg_zero]
  rw [hm, sub_eq_add_neg]
theorem reference_log_logistic (a : ℝ) : -(Ref.sumAt (-(a : EReal)) 0) = ((-Real.log (Real.exp (-a) + 1) : ℝ) : EReal) := by
  rw [← EReal.coe_neg, ← EReal.coe_zero, sumAt_coe, Real.exp_zero, EReal.coe_neg]

theorem kLog_eq (l0 l1 : EReal) (a : ℝ) : kLog l0 l1 a = Ref.sumAt l0 (l1 + -(Ref.sumAt (-(a : EReal)) 0)) := by
  unfold kLog
  rw [kernel_log_logistic, reference_log_logistic, zero_sub]
  rfl

/-- The forget gate's logarithm is a real number whose exponential is the gate itself. -/
theorem gate (l a : ℝ) (h0 : 0 ≤ l) (h1 : l < 1) :
    ∃ r : ℝ, Ref.sumAt (Ideal.log (l : EReal)) (Ideal.log1p (-(l : EReal)) + -(Ref.sumAt (-(a : EReal)) 0)) = r
      ∧ Real.exp r = l + (1 - l) * (1 + Real.exp (-a))⁻¹ := by
  have pos : 0 < 1 - l := by linarith
  have pos' : 0 < Real.exp (-a) + 1 := by positivity
  have eq2 : Real.exp (Real.log (1 - l) + -Real.log (Real.exp (-a) + 1)) = (1 - l) * (1 + Real.exp (-a))⁻¹ := by
    rw [Real.exp_add, Real.exp_log pos, Real.exp_neg, Real.exp_log pos', add_comm (Real.exp (-a))]
  rw [reference_log_logistic, ← EReal.coe_neg, log1p_coe (by linarith), ← sub_eq_add_neg, ← EReal.coe_add, Ideal.log_coe]
  by_cases hl : l ≤ 0
  · obtain rfl : l = 0 := le_antisymm hl h0
    rw [if_pos hl, sumAt_bot]
    exact ⟨_, rfl, by rw [eq2, zero_add]⟩
  · rw [if_neg hl, sumAt_coe]
    have hp : 0 < l := lt_of_not_ge hl
    refine ⟨_, rfl, ?_⟩
    rw [Real.exp_log (by positivity), Real.exp_log hp, eq2]

/-- The key: what the gate leaves over. -/
theorem key (l a r : ℝ) (hr : Real.exp r = l + (1 - l) * (1 + Real.exp (-a))⁻¹) :
    (1 - (l : EReal)) * Ideal.logistic (0 - (a : EReal)) = -(Ideal.exp (r : EReal) - 1) := by
  rw [zero_sub, ← EReal.coe_neg, Ideal.logistic_coe, Ideal.exp_coe, hr, neg_neg, ← EReal.coe_one, ← EReal.coe_sub, ← EReal.coe_sub, ← EReal.coe_neg, ← EReal.coe_mul]
  refine congrArg _ ?_
  have e : Real.exp (-a) * Real.exp a = 1 := by rw [← Real.exp_add, neg_add_cancel, Real.exp_zero]
  have p1 : 1 + Real.exp a ≠ 0 := by positivity
  have p2 : 1 + Real.exp (-a) ≠ 0 := by positivity
  field_simp
  linear_combination (l - 1) * e

theorem exp_zero_coe (r : ℝ) : Ideal.exp ((r : EReal) - (r : EReal)) = 1 := by
  rw [← EReal.coe_sub, _root_.sub_self, Ideal.exp_coe, Real.exp_zero, EReal.coe_one]

/-- One entry: the kernel's and the reference's agree where the columns and the lower bound are real numbers. -/
theorem state_eq (z : FVec Ideal Cert.Reference7Ideal.S32x2048 .f32) (s : FVec Ideal Cert.Reference7Ideal.S32x4x128x128 .f32) (l : FVec Ideal Cert.Reference7Ideal.S512 .f32)
    (hz : ∀ i, Cert.Moe.Fine (z i)) (hl : ∀ i, ∃ r : ℝ, l i = r ∧ 0 ≤ r ∧ r < 1) (b : Fin 32) (h : Fin 4) (i j : Fin 128) :
    Ref.next s (Ref.lf z l) (Ref.running (Ref.lf z l)) (Ref.v z) (ix4 b h i j) = stateAt z s l b h i j := by
  rw [Ref.next_apply, Ref.running_apply, Ref.lf_apply, Ref.v_apply]
  unfold stateAt part
  obtain ⟨r, e, h0, h1⟩ := hl (ix1 ⟨h.val * 128 + i.val, by omega⟩)
  obtain ⟨a, ea⟩ := hz (ix2 b ⟨512 + (h.val * 128 + i.val), by omega⟩)
  obtain ⟨g, eg, hg⟩ := gate r a h0 h1
  simp only [e, ea, kLog_eq, eg]
  rw [exp_zero_coe, mul_one, key r a g hg]

/-- Reading the new state is reading the old one plus reading the written value, over real numbers. -/
theorem read_real (q f k S : Fin 128 → EReal) (w : EReal) (hq : ∀ i, Cert.Moe.Fine (q i)) (hf : ∀ i, Cert.Moe.Fine (f i)) (hk : ∀ i, Cert.Moe.Fine (k i)) (hS : ∀ i, Cert.Moe.Fine (S i)) (hw : Cert.Moe.Fine w) :
    (∑ i, S i * (q i * f i)) + w * ∑ i, q i * k i = ∑ i, q i * (f i * S i + k i * w) := by
  choose q' eq using hq
  choose f' ef using hf
  choose k' ek using hk
  choose S' eS using hS
  obtain ⟨w', rfl⟩ := hw
  simp only [eq, ef, ek, eS, ← EReal.coe_mul, ← EReal.coe_add, ← Cert.Moe.coe_sum]
  refine congrArg _ ?_
  rw [Finset.mul_sum, ← Finset.sum_add_distrib]
  exact Finset.sum_congr rfl fun i _ => by ring

theorem fine_logistic {x : EReal} (h : Cert.Moe.Fine x) : Cert.Moe.Fine (Ideal.logistic x) := by
  obtain ⟨r, rfl⟩ := h
  exact ⟨_, Ideal.logistic_coe r⟩
theorem fine_exp (r : ℝ) : Cert.Moe.Fine (Ideal.exp (r : EReal)) := ⟨_, Ideal.exp_coe r⟩

/-- One output before the norm: the two ways of writing it agree where the columns, the state and the lower bound are real numbers. -/
theorem raw_eq (z : FVec Ideal Cert.Reference7Ideal.S32x2048 .f32) (s : FVec Ideal Cert.Reference7Ideal.S32x4x128x128 .f32) (l : FVec Ideal Cert.Reference7Ideal.S512 .f32)
    (hz : ∀ i, Cert.Moe.Fine (z i)) (hs : ∀ i, Cert.Moe.Fine (s i)) (hl : ∀ i, ∃ r : ℝ, l i = r ∧ 0 ≤ r ∧ r < 1) (b : Fin 32) (h : Fin 4) (j : Fin 128) :
    Ref.raw s (Ref.q z) (Ref.lf z l) (Ref.running (Ref.lf z l)) (Ref.v z) (ix4 b 0 h j) = readAt z s l b h j := by
  rw [Ref.raw_apply]
  have hr : ∀ i : Fin 128, ∃ r : ℝ, Ref.lf z l (ix4 b 0 h i) = r := fun i => by
    obtain ⟨r, e, h0, h1⟩ := hl (ix1 ⟨h.val * 128 + i.val, by omega⟩)
    obtain ⟨a, ea⟩ := hz (ix2 b ⟨512 + (h.val * 128 + i.val), by omega⟩)
    obtain ⟨g, eg, hg⟩ := gate r a h0 h1
    exact ⟨g, by rw [Ref.lf_apply, e, ea, eg]⟩
  have hR : ∀ i : Fin 128, Ref.running (Ref.lf z l) (ix4 b 0 h i) = Ref.lf z l (ix4 b 0 h i) := fun i => Ref.running_apply _ _ _ _
  have hq : ∀ i : Fin 128, Cert.Moe.Fine (Ref.q z (ix4 b 0 h i)) := fun i => by
    rw [Ref.q_apply]; exact (hz _).mul (fine_logistic (hz _))
  have hv : Cert.Moe.Fine (Ref.v z (ix4 b 0 h j)) := by rw [Ref.v_apply]; exact hz _
  have one : ∀ i : Fin 128, Ideal.exp (Ref.lf z l (ix4 b 0 h i) - Ref.lf z l (ix4 b 0 h i)) = 1 := fun i => by
    obtain ⟨r, e⟩ := hr i; rw [e]; exact exp_zero_coe r
  have hf : ∀ i : Fin 128, Cert.Moe.Fine (Ideal.exp (Ref.lf z l (ix4 b 0 h i))) := fun i => by
    obtain ⟨r, e⟩ := hr i; rw [e]; exact fine_exp r
  have hk : ∀ i : Fin 128, Cert.Moe.Fine (-(Ideal.exp (Ref.lf z l (ix4 b 0 h i)) - 1)) := fun i => by
    obtain ⟨r, e⟩ := hf i
    exact ⟨-(r - 1), by rw [e, ← EReal.coe_one, ← EReal.coe_sub, ← EReal.coe_neg]⟩
  simp only [hR, one, mul_one]
  rw [read_real _ _ _ _ _ hq hf hk (fun i => hs _) hv]
  unfold readAt
  refine Finset.sum_congr rfl fun i _ => ?_
  rw [← state_eq z s l hz hl b h i j, Ref.next_apply, hR, one, mul_one, Ref.q_apply]
  rfl

/-- One output: the kernel's and the reference's agree. -/
theorem output_eq (z : FVec Ideal Cert.Reference7Ideal.S32x2048 .f32) (s : FVec Ideal Cert.Reference7Ideal.S32x4x128x128 .f32) (l : FVec Ideal Cert.Reference7Ideal.S512 .f32) (g : FVec Ideal Cert.Reference7Ideal.S128 .f32)
    (hz : ∀ i, Cert.Moe.Fine (z i)) (hs : ∀ i, Cert.Moe.Fine (s i)) (hl : ∀ i, ∃ r : ℝ, l i = r ∧ 0 ≤ r ∧ r < 1) (b : Fin 32) (n : Fin 512) :
    Ref.output s g (Ref.q z) (Ref.lf z l) (Ref.running (Ref.lf z l)) (Ref.v z) (Ref.outGate z) (ix3 b 0 n) = outRow z s l g b n := by
  obtain ⟨h, j, rfl⟩ := part_surj n
  rw [outRow_part]
  refine (Ref.output_apply s g b h j _ _ _ _ _).trans ?_
  rw [Ref.normed_apply, Ref.outGate_apply]
  simp only [raw_eq z s l hz hs hl]
  rfl

/-! ## What the precondition says -/

instance preFacts : Cert.Pre_hgrn_finite.Facts := ⟨by decide, by decide, by decide, by decide, by decide, by decide, by decide⟩

theorem of_oge {x y : EReal} (h : Ideal.cmp .oge x y = 1#1) : y ≤ x := by
  by_contra g
  simp [Ideal.cmp, g] at h
theorem of_olt {x y : EReal} (h : Ideal.cmp .olt x y = 1#1) : x < y := by
  by_contra g
  simp [Ideal.cmp, g] at h
theorem word_one : Ideal.ofBits .f32 0x3F800000#32 = 1 := by
  have h : Ideal.ofBits .f32 0x3F800000#32 = ((1 : ℝ) : EReal) := by
    simp [Ideal.ofBits, Ideal.ieee, -EReal.coe_mul]
    norm_num
  exact h
theorem word_zero : Ideal.ofBits .f32 0x00000000#32 = 0 := by
  simp [Ideal.ofBits, Ideal.ieee]

theorem between (y : EReal) (lo : 0 ≤ y) (hi : y < 1) : ∃ r : ℝ, y = r ∧ 0 ≤ r ∧ r < 1 := by
  induction y with
  | bot => exact absurd lo (by simp)
  | top => exact absurd hi (by simp)
  | coe r => exact ⟨r, rfl, by exact_mod_cast lo, by exact_mod_cast hi⟩

theorem pre_fine (z : FVec Ideal Cert.Pre_hgrn_finite.S32x2048 .f32) (s : FVec Ideal Cert.Pre_hgrn_finite.S32x4x128x128 .f32) (l : FVec Ideal Cert.Pre_hgrn_finite.S512 .f32) (g : FVec Ideal Cert.Pre_hgrn_finite.S128 .f32)
    (h : Cert.Pre_hgrn_finite.fn (F := Ideal) z s l g = fun _ => 1#1) :
    (∀ i, Cert.Moe.Fine (z i)) ∧ (∀ i, Cert.Moe.Fine (s i)) ∧ (∀ i, ∃ r : ℝ, l i = r ∧ 0 ≤ r ∧ r < 1) := by
  have h := congrFun h (fun k => k.elim0)
  unfold Cert.Pre_hgrn_finite.fn Cert.Pre_hgrn_finite.fn_part1 at h
  dsimp only at h
  obtain ⟨h, h3⟩ := IntOp.andi_eq_one.1 h
  obtain ⟨h, h2⟩ := IntOp.andi_eq_one.1 h
  obtain ⟨h0, h1⟩ := IntOp.andi_eq_one.1 h
  refine ⟨Cert.Moe.fine_all _ _ _ _ _ h0, Cert.Moe.fine_all _ _ _ _ _ h1, fun i => ?_⟩
  have lo : Ideal.ofBits .f32 0x00000000#32 ≤ l i := of_oge (Host.reduce_andi_all _ _ _ _ _ h2 i)
  have hi : l i < Ideal.ofBits .f32 0x3F800000#32 := of_olt (Host.reduce_andi_all _ _ _ _ _ h3 i)
  rw [word_zero] at lo
  rw [word_one] at hi
  exact between (l i) lo hi
end Cert.Hgrn
-- ==== Proof.Hgrn.Claims.lean ====
/- The claims about the recurrence's step: its frames and the equation of its outputs and states with the reference's. -/
module

public import proofs.«01_k».proof.Defs
public import proofs.«01_k».proof.Proof.Hgrn.Reals

@[expose] public section
set_option maxRecDepth 16384
noncomputable section
namespace Cert.Hgrn.Claims
open Idealize.ShloMosaic Idealize.ShloMosaic.TcCoe Idealize.SL.Sem

/-- The reference runs, keeps its arguments and leaves every semaphore at zero. -/
theorem frame_ref : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

section
open Cert.Reference7Ideal
variable (m : (ℓ : Loc nD τ sig) → Buf (Elt Ideal) ℓ) (c : Dev nD)
abbrev R0 : FVec Ideal S32x2048 .f32 := m ((c.tc : Thread nD τ).loc main_arg0)
abbrev R1 : FVec Ideal S32x4x128x128 .f32 := m ((c.tc : Thread nD τ).loc main_arg1)
abbrev R2 : FVec Ideal S512 .f32 := m ((c.tc : Thread nD τ).loc main_arg2)
abbrev R3 : FVec Ideal S128 .f32 := m ((c.tc : Thread nD τ).loc main_arg3)
end

/-- The kernel's outputs and states and the reference's are the same arrays. -/
theorem equation : Cert.algebraic_Kernel7Ideal_Reference7Ideal_pre_hgrn_finite := by
  intro m ρ m' ρ' hpre hagree
  refine ⟨fun c => (Cert.Kernel7Ideal.Gen.dats m 0 c).arrAt 4 (Cert.Kernel7Ideal.cfgs 0).N,
    fun c => (Cert.Kernel7Ideal.Gen.dats m 0 c).arrAt 5 (Cert.Kernel7Ideal.cfgs 0).N, Cert.Kernel7Ideal.Value.run_blocks m ρ, ?_⟩
  refine (θ_run Cert.Reference7Ideal.defs _ _).mono (fun r h c => ?_) (Cert.Reference7Ideal.Value.run (F := Ideal) m' ρ')
  obtain ⟨a0, a1, a2, a3⟩ := hagree c
  obtain ⟨ho, hn, hargs⟩ := h c
  obtain ⟨hz, hs, hl⟩ := pre_fine _ _ _ _ (hpre c)
  refine ⟨?_, ?_, hargs⟩
  · have e : _ = Ref.output (R1 m' c) (R3 m' c) (Ref.q (R0 m' c)) (Ref.lf (R0 m' c) (R2 m' c)) (Ref.running (Ref.lf (R0 m' c) (R2 m' c))) (Ref.v (R0 m' c)) (Ref.outGate (R0 m' c)) := ho
    refine e.trans ?_
    unfold R0 R1 R2 R3
    rw [a0, a1, a2, a3]
    refine Eq.trans ?_ (final4 m c).symm
    funext y
    idx_vars y
    obtain rfl : y1 = 0 := Subsingleton.elim _ _
    exact output_eq (A0 m c) (A1 m c) (A2 m c) (A3 m c) hz hs hl y0 y2
  · have e : _ = Ref.next (R1 m' c) (Ref.lf (R0 m' c) (R2 m' c)) (Ref.running (Ref.lf (R0 m' c) (R2 m' c))) (Ref.v (R0 m' c)) := hn
    refine e.trans ?_
    unfold R0 R1 R2
    rw [a0, a1, a2]
    refine Eq.trans ?_ (final5 m c).symm
    funext y
    idx_vars y
    exact state_eq (A0 m c) (A1 m c) (A2 m c) hz hl y0 y1 y2 y3
end Cert.Hgrn.Claims
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Moe.Claims
public import proofs.«01_k».proof.Proof.Merge.Claims
public import proofs.«01_k».proof.Proof.Proj.Claims
public import proofs.«01_k».proof.Proof.Diff.Claims
public import proofs.«01_k».proof.Proof.MoeS.Claims
public import proofs.«01_k».proof.Proof.ProjS.Claims
public import proofs.«01_k».proof.Proof.Hgrn.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Moe.preFacts, Cert.Diff.preFacts, Cert.MoeS.preFacts, Cert.Hgrn.preFacts,
  fun m ρ _ => Cert.Kernel.Gen.frame m ρ, fun m ρ _ => Cert.KernelIdeal.Gen.frame m ρ, fun m ρ _ => Cert.KernelIdeal.Gen.frame m ρ,
  Cert.Moe.Claims.frame_ref, fun m ρ _ => Cert.Moe.Claims.frame_ref m ρ trivial,
  fun m ρ _ => Cert.Kernel2.Gen.frame m ρ, fun m ρ _ => Cert.Kernel2Ideal.Gen.frame m ρ, Cert.Proj.Claims.frame_ref,
  fun m ρ _ => Cert.Kernel3.Gen.frame m ρ, fun m ρ _ => Cert.Kernel3Ideal.Gen.frame m ρ, Cert.Merge.Claims.frame_ref,
  fun m ρ _ => Cert.Kernel4.Gen.frame m ρ, fun m ρ _ => Cert.Kernel4Ideal.Gen.frame m ρ, fun m ρ _ => Cert.Kernel4Ideal.Gen.frame m ρ,
  Cert.Diff.Claims.frame_ref, fun m ρ _ => Cert.Diff.Claims.frame_ref m ρ trivial,
  fun m ρ _ => Cert.Kernel5.Gen.frame m ρ, fun m ρ _ => Cert.Kernel5Ideal.Gen.frame m ρ, fun m ρ _ => Cert.Kernel5Ideal.Gen.frame m ρ,
  Cert.MoeS.Claims.frame_ref, fun m ρ _ => Cert.MoeS.Claims.frame_ref m ρ trivial,
  fun m ρ _ => Cert.Kernel6.Gen.frame m ρ, fun m ρ _ => Cert.Kernel6Ideal.Gen.frame m ρ, Cert.ProjS.Claims.frame_ref,
  fun m ρ _ => Cert.Kernel7.Gen.frame m ρ, fun m ρ _ => Cert.Kernel7Ideal.Gen.frame m ρ, fun m ρ _ => Cert.Kernel7Ideal.Gen.frame m ρ,
  Cert.Hgrn.Claims.frame_ref, fun m ρ _ => Cert.Hgrn.Claims.frame_ref m ρ trivial,
  trivial, Cert.Moe.Claims.equation, trivial, Cert.Proj.Claims.equation, trivial, Cert.Merge.Claims.equation,
  trivial, Cert.Diff.Claims.equation, trivial, Cert.MoeS.Claims.equation, trivial, Cert.ProjS.Claims.equation, trivial, Cert.Hgrn.Claims.equation⟩

end Cert.Proof

end
